-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Prepare (m : (ℓ : Loc Cert.Prepare.nD Cert.Prepare.τ Cert.Prepare.sig) → Buf (Elt Bits) ℓ) : Prop :=
  True

def Pre_PrepareIdeal (m : (ℓ : Loc Cert.PrepareIdeal.nD Cert.PrepareIdeal.τ Cert.PrepareIdeal.sig) → Buf (Elt Ideal) ℓ) : Prop :=
  True

def Pre_EntangleIdeal (m : (ℓ : Loc Cert.EntangleIdeal.nD Cert.EntangleIdeal.τ Cert.EntangleIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Prepare [hPrepare : Cert.Prepare.Facts] : Prop :=
  ∀ (m : (ℓ : Loc Cert.Prepare.nD Cert.Prepare.τ Cert.Prepare.sig) → Buf (Elt Bits) ℓ) (g : Dev Cert.Prepare.nD → PrngReg), Pre_Prepare m →
    θ_run (Cert.Prepare.defs (F := Bits)) (onTc (τ := Cert.Prepare.τ) (Cert.Prepare.main (F := Bits))) ⟨m, fun _ => 0, g⟩ (fun r => (∀ c : Dev Cert.Prepare.nD,
      r.2.mem ((c.tc : Thread Cert.Prepare.nD Cert.Prepare.τ).loc Cert.Prepare.main_arg0) = m ((c.tc : Thread Cert.Prepare.nD Cert.Prepare.τ).loc Cert.Prepare.main_arg0)
      ∧ r.2.mem ((c.tc : Thread Cert.Prepare.nD Cert.Prepare.τ).loc Cert.Prepare.main_arg1) = m ((c.tc : Thread Cert.Prepare.nD Cert.Prepare.τ).loc Cert.Prepare.main_arg1)
      ∧ r.2.mem ((c.tc : Thread Cert.Prepare.nD Cert.Prepare.τ).loc Cert.Prepare.main_arg2) = m ((c.tc : Thread Cert.Prepare.nD Cert.Prepare.τ).loc Cert.Prepare.main_arg2)
      ∧ r.2.mem ((c.tc : Thread Cert.Prepare.nD Cert.Prepare.τ).loc Cert.Prepare.main_arg3) = m ((c.tc : Thread Cert.Prepare.nD Cert.Prepare.τ).loc Cert.Prepare.main_arg3)
      ∧ r.2.mem ((c.tc : Thread Cert.Prepare.nD Cert.Prepare.τ).loc Cert.Prepare.main_arg4) = m ((c.tc : Thread Cert.Prepare.nD Cert.Prepare.τ).loc Cert.Prepare.main_arg4)
      ∧ r.2.mem ((c.tc : Thread Cert.Prepare.nD Cert.Prepare.τ).loc Cert.Prepare.main_arg5) = m ((c.tc : Thread Cert.Prepare.nD Cert.Prepare.τ).loc Cert.Prepare.main_arg5)
      ∧ r.2.mem ((c.tc : Thread Cert.Prepare.nD Cert.Prepare.τ).loc Cert.Prepare.main_arg6) = m ((c.tc : Thread Cert.Prepare.nD Cert.Prepare.τ).loc Cert.Prepare.main_arg6)
      ∧ r.2.mem ((c.tc : Thread Cert.Prepare.nD Cert.Prepare.τ).loc Cert.Prepare.main_arg7) = m ((c.tc : Thread Cert.Prepare.nD Cert.Prepare.τ).loc Cert.Prepare.main_arg7))
      ∧ r.2.sem = fun _ => 0)

def quiescent_PrepareIdeal [hPrepareIdeal : Cert.PrepareIdeal.Facts] : Prop :=
  ∀ (m : (ℓ : Loc Cert.PrepareIdeal.nD Cert.PrepareIdeal.τ Cert.PrepareIdeal.sig) → Buf (Elt Ideal) ℓ) (g : Dev Cert.PrepareIdeal.nD → PrngReg), Pre_PrepareIdeal m →
    θ_run (Cert.PrepareIdeal.defs (F := Ideal)) (onTc (τ := Cert.PrepareIdeal.τ) (Cert.PrepareIdeal.main (F := Ideal))) ⟨m, fun _ => 0, g⟩ (fun r => (∀ c : Dev Cert.PrepareIdeal.nD,
      r.2.mem ((c.tc : Thread Cert.PrepareIdeal.nD Cert.PrepareIdeal.τ).loc Cert.PrepareIdeal.main_arg0) = m ((c.tc : Thread Cert.PrepareIdeal.nD Cert.PrepareIdeal.τ).loc Cert.PrepareIdeal.main_arg0)
      ∧ r.2.mem ((c.tc : Thread Cert.PrepareIdeal.nD Cert.PrepareIdeal.τ).loc Cert.PrepareIdeal.main_arg1) = m ((c.tc : Thread Cert.PrepareIdeal.nD Cert.PrepareIdeal.τ).loc Cert.PrepareIdeal.main_arg1)
      ∧ r.2.mem ((c.tc : Thread Cert.PrepareIdeal.nD Cert.PrepareIdeal.τ).loc Cert.PrepareIdeal.main_arg2) = m ((c.tc : Thread Cert.PrepareIdeal.nD Cert.PrepareIdeal.τ).loc Cert.PrepareIdeal.main_arg2)
      ∧ r.2.mem ((c.tc : Thread Cert.PrepareIdeal.nD Cert.PrepareIdeal.τ).loc Cert.PrepareIdeal.main_arg3) = m ((c.tc : Thread Cert.PrepareIdeal.nD Cert.PrepareIdeal.τ).loc Cert.PrepareIdeal.main_arg3)
      ∧ r.2.mem ((c.tc : Thread Cert.PrepareIdeal.nD Cert.PrepareIdeal.τ).loc Cert.PrepareIdeal.main_arg4) = m ((c.tc : Thread Cert.PrepareIdeal.nD Cert.PrepareIdeal.τ).loc Cert.PrepareIdeal.main_arg4)
      ∧ r.2.mem ((c.tc : Thread Cert.PrepareIdeal.nD Cert.PrepareIdeal.τ).loc Cert.PrepareIdeal.main_arg5) = m ((c.tc : Thread Cert.PrepareIdeal.nD Cert.PrepareIdeal.τ).loc Cert.PrepareIdeal.main_arg5)
      ∧ r.2.mem ((c.tc : Thread Cert.PrepareIdeal.nD Cert.PrepareIdeal.τ).loc Cert.PrepareIdeal.main_arg6) = m ((c.tc : Thread Cert.PrepareIdeal.nD Cert.PrepareIdeal.τ).loc Cert.PrepareIdeal.main_arg6)
      ∧ r.2.mem ((c.tc : Thread Cert.PrepareIdeal.nD Cert.PrepareIdeal.τ).loc Cert.PrepareIdeal.main_arg7) = m ((c.tc : Thread Cert.PrepareIdeal.nD Cert.PrepareIdeal.τ).loc Cert.PrepareIdeal.main_arg7))
      ∧ r.2.sem = fun _ => 0)

def quiescent_EntangleIdeal [hEntangleIdeal : Cert.EntangleIdeal.Facts] : Prop :=
  ∀ (m : (ℓ : Loc Cert.EntangleIdeal.nD Cert.EntangleIdeal.τ Cert.EntangleIdeal.sig) → Buf (Elt Ideal) ℓ) (g : Dev Cert.EntangleIdeal.nD → PrngReg), Pre_EntangleIdeal m →
    θ_run (Cert.EntangleIdeal.defs (F := Ideal)) (onTc (τ := Cert.EntangleIdeal.τ) (Cert.EntangleIdeal.main (F := Ideal))) ⟨m, fun _ => 0, g⟩ (fun r => (∀ c : Dev Cert.EntangleIdeal.nD,
      r.2.mem ((c.tc : Thread Cert.EntangleIdeal.nD Cert.EntangleIdeal.τ).loc Cert.EntangleIdeal.main_arg0) = m ((c.tc : Thread Cert.EntangleIdeal.nD Cert.EntangleIdeal.τ).loc Cert.EntangleIdeal.main_arg0)
      ∧ r.2.mem ((c.tc : Thread Cert.EntangleIdeal.nD Cert.EntangleIdeal.τ).loc Cert.EntangleIdeal.main_arg1) = m ((c.tc : Thread Cert.EntangleIdeal.nD Cert.EntangleIdeal.τ).loc Cert.EntangleIdeal.main_arg1)
      ∧ r.2.mem ((c.tc : Thread Cert.EntangleIdeal.nD Cert.EntangleIdeal.τ).loc Cert.EntangleIdeal.main_arg2) = m ((c.tc : Thread Cert.EntangleIdeal.nD Cert.EntangleIdeal.τ).loc Cert.EntangleIdeal.main_arg2)
      ∧ r.2.mem ((c.tc : Thread Cert.EntangleIdeal.nD Cert.EntangleIdeal.τ).loc Cert.EntangleIdeal.main_arg3) = m ((c.tc : Thread Cert.EntangleIdeal.nD Cert.EntangleIdeal.τ).loc Cert.EntangleIdeal.main_arg3)
      ∧ r.2.mem ((c.tc : Thread Cert.EntangleIdeal.nD Cert.EntangleIdeal.τ).loc Cert.EntangleIdeal.main_arg4) = m ((c.tc : Thread Cert.EntangleIdeal.nD Cert.EntangleIdeal.τ).loc Cert.EntangleIdeal.main_arg4)
      ∧ r.2.mem ((c.tc : Thread Cert.EntangleIdeal.nD Cert.EntangleIdeal.τ).loc Cert.EntangleIdeal.main_arg5) = m ((c.tc : Thread Cert.EntangleIdeal.nD Cert.EntangleIdeal.τ).loc Cert.EntangleIdeal.main_arg5)
      ∧ r.2.mem ((c.tc : Thread Cert.EntangleIdeal.nD Cert.EntangleIdeal.τ).loc Cert.EntangleIdeal.main_arg6) = m ((c.tc : Thread Cert.EntangleIdeal.nD Cert.EntangleIdeal.τ).loc Cert.EntangleIdeal.main_arg6)
      ∧ r.2.mem ((c.tc : Thread Cert.EntangleIdeal.nD Cert.EntangleIdeal.τ).loc Cert.EntangleIdeal.main_arg7) = m ((c.tc : Thread Cert.EntangleIdeal.nD Cert.EntangleIdeal.τ).loc Cert.EntangleIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v255) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Prepare_PrepareIdeal : Prop :=
  True

def algebraic_PrepareIdeal_EntangleIdeal [hPrepareIdeal : Cert.PrepareIdeal.Facts] [hEntangleIdeal : Cert.EntangleIdeal.Facts] : Prop :=
  ∀ (m : (ℓ : Loc Cert.PrepareIdeal.nD Cert.PrepareIdeal.τ Cert.PrepareIdeal.sig) → Buf (Elt Ideal) ℓ) (g : Dev Cert.PrepareIdeal.nD → PrngReg)
    (m' : (ℓ : Loc Cert.EntangleIdeal.nD Cert.EntangleIdeal.τ Cert.EntangleIdeal.sig) → Buf (Elt Ideal) ℓ) (g' : Dev Cert.EntangleIdeal.nD → PrngReg), Pre_PrepareIdeal m →
    (∀ c : Dev Cert.PrepareIdeal.nD,
      m' ((c.tc : Thread Cert.EntangleIdeal.nD Cert.EntangleIdeal.τ).loc Cert.EntangleIdeal.main_arg0) = m ((c.tc : Thread Cert.PrepareIdeal.nD Cert.PrepareIdeal.τ).loc Cert.PrepareIdeal.main_arg0)
      ∧ m' ((c.tc : Thread Cert.EntangleIdeal.nD Cert.EntangleIdeal.τ).loc Cert.EntangleIdeal.main_arg1) = m ((c.tc : Thread Cert.PrepareIdeal.nD Cert.PrepareIdeal.τ).loc Cert.PrepareIdeal.main_arg1)
      ∧ m' ((c.tc : Thread Cert.EntangleIdeal.nD Cert.EntangleIdeal.τ).loc Cert.EntangleIdeal.main_arg2) = m ((c.tc : Thread Cert.PrepareIdeal.nD Cert.PrepareIdeal.τ).loc Cert.PrepareIdeal.main_arg2)
      ∧ m' ((c.tc : Thread Cert.EntangleIdeal.nD Cert.EntangleIdeal.τ).loc Cert.EntangleIdeal.main_arg3) = m ((c.tc : Thread Cert.PrepareIdeal.nD Cert.PrepareIdeal.τ).loc Cert.PrepareIdeal.main_arg3)
      ∧ m' ((c.tc : Thread Cert.EntangleIdeal.nD Cert.EntangleIdeal.τ).loc Cert.EntangleIdeal.main_arg4) = m ((c.tc : Thread Cert.PrepareIdeal.nD Cert.PrepareIdeal.τ).loc Cert.PrepareIdeal.main_arg4)
      ∧ m' ((c.tc : Thread Cert.EntangleIdeal.nD Cert.EntangleIdeal.τ).loc Cert.EntangleIdeal.main_arg5) = m ((c.tc : Thread Cert.PrepareIdeal.nD Cert.PrepareIdeal.τ).loc Cert.PrepareIdeal.main_arg5)
      ∧ m' ((c.tc : Thread Cert.EntangleIdeal.nD Cert.EntangleIdeal.τ).loc Cert.EntangleIdeal.main_arg6) = m ((c.tc : Thread Cert.PrepareIdeal.nD Cert.PrepareIdeal.τ).loc Cert.PrepareIdeal.main_arg6)
      ∧ m' ((c.tc : Thread Cert.EntangleIdeal.nD Cert.EntangleIdeal.τ).loc Cert.EntangleIdeal.main_arg7) = m ((c.tc : Thread Cert.PrepareIdeal.nD Cert.PrepareIdeal.τ).loc Cert.PrepareIdeal.main_arg7)) →
    ∃ (v0 : (c : Dev Cert.PrepareIdeal.nD) → Buf (Elt Ideal) ((c.tc : Thread Cert.PrepareIdeal.nD Cert.PrepareIdeal.τ).loc Cert.PrepareIdeal.main_v66_1)),
      θ_run (Cert.PrepareIdeal.defs (F := Ideal)) (onTc (τ := Cert.PrepareIdeal.τ) (Cert.PrepareIdeal.main (F := Ideal))) ⟨m, fun _ => 0, g⟩ (fun r => ∀ c : Dev Cert.PrepareIdeal.nD,
          r.2.mem ((c.tc : Thread Cert.PrepareIdeal.nD Cert.PrepareIdeal.τ).loc Cert.PrepareIdeal.main_v66_1) = v0 c
          ∧ r.2.mem ((c.tc : Thread Cert.PrepareIdeal.nD Cert.PrepareIdeal.τ).loc Cert.PrepareIdeal.main_arg0) = m ((c.tc : Thread Cert.PrepareIdeal.nD Cert.PrepareIdeal.τ).loc Cert.PrepareIdeal.main_arg0)
          ∧ r.2.mem ((c.tc : Thread Cert.PrepareIdeal.nD Cert.PrepareIdeal.τ).loc Cert.PrepareIdeal.main_arg1) = m ((c.tc : Thread Cert.PrepareIdeal.nD Cert.PrepareIdeal.τ).loc Cert.PrepareIdeal.main_arg1)
          ∧ r.2.mem ((c.tc : Thread Cert.PrepareIdeal.nD Cert.PrepareIdeal.τ).loc Cert.PrepareIdeal.main_arg2) = m ((c.tc : Thread Cert.PrepareIdeal.nD Cert.PrepareIdeal.τ).loc Cert.PrepareIdeal.main_arg2)
          ∧ r.2.mem ((c.tc : Thread Cert.PrepareIdeal.nD Cert.PrepareIdeal.τ).loc Cert.PrepareIdeal.main_arg3) = m ((c.tc : Thread Cert.PrepareIdeal.nD Cert.PrepareIdeal.τ).loc Cert.PrepareIdeal.main_arg3)
          ∧ r.2.mem ((c.tc : Thread Cert.PrepareIdeal.nD Cert.PrepareIdeal.τ).loc Cert.PrepareIdeal.main_arg4) = m ((c.tc : Thread Cert.PrepareIdeal.nD Cert.PrepareIdeal.τ).loc Cert.PrepareIdeal.main_arg4)
          ∧ r.2.mem ((c.tc : Thread Cert.PrepareIdeal.nD Cert.PrepareIdeal.τ).loc Cert.PrepareIdeal.main_arg5) = m ((c.tc : Thread Cert.PrepareIdeal.nD Cert.PrepareIdeal.τ).loc Cert.PrepareIdeal.main_arg5)
          ∧ r.2.mem ((c.tc : Thread Cert.PrepareIdeal.nD Cert.PrepareIdeal.τ).loc Cert.PrepareIdeal.main_arg6) = m ((c.tc : Thread Cert.PrepareIdeal.nD Cert.PrepareIdeal.τ).loc Cert.PrepareIdeal.main_arg6)
          ∧ r.2.mem ((c.tc : Thread Cert.PrepareIdeal.nD Cert.PrepareIdeal.τ).loc Cert.PrepareIdeal.main_arg7) = m ((c.tc : Thread Cert.PrepareIdeal.nD Cert.PrepareIdeal.τ).loc Cert.PrepareIdeal.main_arg7))
      ∧ θ_run (Cert.EntangleIdeal.defs (F := Ideal)) (onTc (τ := Cert.EntangleIdeal.τ) (Cert.EntangleIdeal.main (F := Ideal))) ⟨m', fun _ => 0, g'⟩ (fun r => ∀ c : Dev Cert.EntangleIdeal.nD,
          r.2.mem ((c.tc : Thread Cert.EntangleIdeal.nD Cert.EntangleIdeal.τ).loc Cert.EntangleIdeal.main_v606) = v0 c
          ∧ r.2.mem ((c.tc : Thread Cert.EntangleIdeal.nD Cert.EntangleIdeal.τ).loc Cert.EntangleIdeal.main_arg0) = m' ((c.tc : Thread Cert.EntangleIdeal.nD Cert.EntangleIdeal.τ).loc Cert.EntangleIdeal.main_arg0)
          ∧ r.2.mem ((c.tc : Thread Cert.EntangleIdeal.nD Cert.EntangleIdeal.τ).loc Cert.EntangleIdeal.main_arg1) = m' ((c.tc : Thread Cert.EntangleIdeal.nD Cert.EntangleIdeal.τ).loc Cert.EntangleIdeal.main_arg1)
          ∧ r.2.mem ((c.tc : Thread Cert.EntangleIdeal.nD Cert.EntangleIdeal.τ).loc Cert.EntangleIdeal.main_arg2) = m' ((c.tc : Thread Cert.EntangleIdeal.nD Cert.EntangleIdeal.τ).loc Cert.EntangleIdeal.main_arg2)
          ∧ r.2.mem ((c.tc : Thread Cert.EntangleIdeal.nD Cert.EntangleIdeal.τ).loc Cert.EntangleIdeal.main_arg3) = m' ((c.tc : Thread Cert.EntangleIdeal.nD Cert.EntangleIdeal.τ).loc Cert.EntangleIdeal.main_arg3)
          ∧ r.2.mem ((c.tc : Thread Cert.EntangleIdeal.nD Cert.EntangleIdeal.τ).loc Cert.EntangleIdeal.main_arg4) = m' ((c.tc : Thread Cert.EntangleIdeal.nD Cert.EntangleIdeal.τ).loc Cert.EntangleIdeal.main_arg4)
          ∧ r.2.mem ((c.tc : Thread Cert.EntangleIdeal.nD Cert.EntangleIdeal.τ).loc Cert.EntangleIdeal.main_arg5) = m' ((c.tc : Thread Cert.EntangleIdeal.nD Cert.EntangleIdeal.τ).loc Cert.EntangleIdeal.main_arg5)
          ∧ r.2.mem ((c.tc : Thread Cert.EntangleIdeal.nD Cert.EntangleIdeal.τ).loc Cert.EntangleIdeal.main_arg6) = m' ((c.tc : Thread Cert.EntangleIdeal.nD Cert.EntangleIdeal.τ).loc Cert.EntangleIdeal.main_arg6)
          ∧ r.2.mem ((c.tc : Thread Cert.EntangleIdeal.nD Cert.EntangleIdeal.τ).loc Cert.EntangleIdeal.main_arg7) = m' ((c.tc : Thread Cert.EntangleIdeal.nD Cert.EntangleIdeal.τ).loc Cert.EntangleIdeal.main_arg7))

def Claim : Prop :=
  ∃ (hKernel : Cert.Kernel.Facts) (hKernelIdeal : Cert.KernelIdeal.Facts) (hReferenceIdeal : Cert.ReferenceIdeal.Facts) (hPrepare : Cert.Prepare.Facts) (hPrepareIdeal : Cert.PrepareIdeal.Facts) (hEntangleIdeal : Cert.EntangleIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Prepare (hPrepare := hPrepare)
    ∧ quiescent_PrepareIdeal (hPrepareIdeal := hPrepareIdeal)
    ∧ quiescent_EntangleIdeal (hEntangleIdeal := hEntangleIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Prepare_PrepareIdeal
    ∧ algebraic_PrepareIdeal_EntangleIdeal (hPrepareIdeal := hPrepareIdeal) (hEntangleIdeal := hEntangleIdeal)
-- ==== Pre_finite.lean ====
abbrev S32x10240 : Shape := ⟨2, ![32, 10240]⟩
abbrev S2x8x8 : Shape := ⟨3, ![2, 8, 8]⟩
abbrev S3x5 : Shape := ⟨2, ![3, 5]⟩
abbrev S3 : Shape := ⟨1, ![3]⟩
abbrev S3x3 : Shape := ⟨2, ![3, 3]⟩
abbrev S2x3 : Shape := ⟨2, ![2, 3]⟩
abbrev S2 : Shape := ⟨1, ![2]⟩
abbrev S2x2 : Shape := ⟨2, ![2, 2]⟩
abbrev S28x10000 : Shape := ⟨2, ![28, 10000]⟩
abbrev S_ : Shape := ⟨0, ![]⟩

class Facts : Prop where
  slices_S32x10240_S28x10000_0_0 : S32x10240.Slices ![0, 0] S28x10000
  bcast_S_S28x10000 : S_.BroadcastsInDim S28x10000 (![] : Fin 0 → Fin S28x10000.rank)
  reducesTo_S28x10000_S_d0_1 : S28x10000.ReducesTo [0, 1] S_
  h_S_ : 0 < S_.numel
  bcast_S_S2x8x8 : S_.BroadcastsInDim S2x8x8 (![] : Fin 0 → Fin S2x8x8.rank)
  reducesTo_S2x8x8_S_d0_1_2 : S2x8x8.ReducesTo [0, 1, 2] S_

variable [Facts]

def fn {F : FTy → Type} [FloatOps F] (main_arg0 : FVec F S32x10240 .f32) (main_arg1 : FVec F S2x8x8 .f32) (main_arg2 : FVec F S3x5 .f32) (main_arg3 : FVec F S3 .f32) (main_arg4 : FVec F S3x3 .f32) (main_arg5 : FVec F S3 .f32) (main_arg6 : FVec F S2x3 .f32) (main_arg7 : FVec F S2 .f32) (main_arg8 : FVec F S2x2 .f32) (main_arg9 : FVec F S2 .f32) : IVec S_ 1 :=
  let main_v0 : FVec F S28x10000 .f32 := (extractStridedSlice S28x10000 ![0, 0] · slices_S32x10240_S28x10000_0_0) main_arg0
  let main_v1 : FVec F S28x10000 .f32 := subf main_v0 main_v0
  let main_cst : FVec F S_ .f32 := constant S_ .f32 0x00000000#32
  let main_v2 : FVec F S28x10000 .f32 := broadcastInDim S28x10000 ![] bcast_S_S28x10000 main_cst
  let main_v3 : IVec S28x10000 1 := cmpf .oeq main_v1 main_v2
  let main_c : IVec S_ 1 := constantI S_ 1 1#1
  let main_v4 : IVec S_ 1 := (fun x v => Host.reduce IntOp.andi x v reducesTo_S28x10000_S_d0_1 h_S_) main_v3 main_c
  let main_v5 : FVec F S2x8x8 .f32 := subf main_arg1 main_arg1
  let main_cst_0 : FVec F S_ .f32 := constant S_ .f32 0x00000000#32
  let main_v6 : FVec F S2x8x8 .f32 := broadcastInDim S2x8x8 ![] bcast_S_S2x8x8 main_cst_0
  let main_v7 : IVec S2x8x8 1 := cmpf .oeq main_v5 main_v6
  let main_c_1 : IVec S_ 1 := constantI S_ 1 1#1
  let main_v8 : IVec S_ 1 := (fun x v => Host.reduce IntOp.andi x v reducesTo_S2x8x8_S_d0_1_2 h_S_) main_v7 main_c_1
  let main_v9 : IVec S_ 1 := andi main_v4 main_v8
  main_v9
-- ==== Kernel.lean ====
abbrev S32x10240 : Shape := ⟨2, ![32, 10240]⟩
abbrev S2x8x8 : Shape := ⟨3, ![2, 8, 8]⟩
abbrev S3x5 : Shape := ⟨2, ![3, 5]⟩
abbrev S3 : Shape := ⟨1, ![3]⟩
abbrev S3x3 : Shape := ⟨2, ![3, 3]⟩
abbrev S2x3 : Shape := ⟨2, ![2, 3]⟩
abbrev S2 : Shape := ⟨1, ![2]⟩
abbrev S2x2 : Shape := ⟨2, ![2, 2]⟩
abbrev S32x8x1280 : Shape := ⟨3, ![32, 8, 1280]⟩
abbrev S4x9999 : Shape := ⟨2, ![4, 9999]⟩
abbrev S4x241 : Shape := ⟨2, ![4, 241]⟩
abbrev S4x10240 : Shape := ⟨2, ![4, 10240]⟩
abbrev S4x8x1280 : Shape := ⟨3, ![4, 8, 1280]⟩
abbrev S4x9998 : Shape := ⟨2, ![4, 9998]⟩
abbrev S4x242 : Shape := ⟨2, ![4, 242]⟩
abbrev S4x9997 : Shape := ⟨2, ![4, 9997]⟩
abbrev S4x243 : Shape := ⟨2, ![4, 243]⟩
abbrev S15 : Shape := ⟨1, ![15]⟩
abbrev S9 : Shape := ⟨1, ![9]⟩
abbrev S6 : Shape := ⟨1, ![6]⟩
abbrev S4 : Shape := ⟨1, ![4]⟩
abbrev S44 : Shape := ⟨1, ![44]⟩
abbrev S4x8x128 : Shape := ⟨3, ![4, 8, 128]⟩
abbrev S8x128 : Shape := ⟨2, ![8, 128]⟩
abbrev S32x8x128 : Shape := ⟨3, ![32, 8, 128]⟩
abbrev S1x8x128 : Shape := ⟨3, ![1, 8, 128]⟩
abbrev S1x1x1 : Shape := ⟨3, ![1, 1, 1]⟩
abbrev S1 : Shape := ⟨1, ![1]⟩
abbrev S1x2 : Shape := ⟨2, ![1, 2]⟩

abbrev nBuf : Space → Nat
  | .hbm => 31
  | .vmem => 10
  | .smem => 2
  | _ => 0

abbrev bufTy : (tb : Table) → Fin (tcTables nBuf tb) → BufTy
  | .hbm, ⟨0, _⟩ => ⟨S32x10240, .f32⟩
  | .hbm, ⟨1, _⟩ => ⟨S2x8x8, .f32⟩
  | .hbm, ⟨2, _⟩ => ⟨S3x5, .f32⟩
  | .hbm, ⟨3, _⟩ => ⟨S3, .f32⟩
  | .hbm, ⟨4, _⟩ => ⟨S3x3, .f32⟩
  | .hbm, ⟨5, _⟩ => ⟨S3, .f32⟩
  | .hbm, ⟨6, _⟩ => ⟨S2x3, .f32⟩
  | .hbm, ⟨7, _⟩ => ⟨S2, .f32⟩
  | .hbm, ⟨8, _⟩ => ⟨S2x2, .f32⟩
  | .hbm, ⟨9, _⟩ => ⟨S2, .f32⟩
  | .hbm, ⟨10, _⟩ => ⟨S32x8x1280, .f32⟩
  | .hbm, ⟨11, _⟩ => ⟨S4x9999, .f32⟩
  | .hbm, ⟨12, _⟩ => ⟨S4x241, .f32⟩
  | .hbm, ⟨13, _⟩ => ⟨S4x10240, .f32⟩
  | .hbm, ⟨14, _⟩ => ⟨S4x8x1280, .f32⟩
  | .hbm, ⟨15, _⟩ => ⟨S4x9998, .f32⟩
  | .hbm, ⟨16, _⟩ => ⟨S4x242, .f32⟩
  | .hbm, ⟨17, _⟩ => ⟨S4x10240, .f32⟩
  | .hbm, ⟨18, _⟩ => ⟨S4x8x1280, .f32⟩
  | .hbm, ⟨19, _⟩ => ⟨S4x9997, .f32⟩
  | .hbm, ⟨20, _⟩ => ⟨S4x243, .f32⟩
  | .hbm, ⟨21, _⟩ => ⟨S4x10240, .f32⟩
  | .hbm, ⟨22, _⟩ => ⟨S4x8x1280, .f32⟩
  | .hbm, ⟨23, _⟩ => ⟨S15, .f32⟩
  | .hbm, ⟨24, _⟩ => ⟨S9, .f32⟩
  | .hbm, ⟨25, _⟩ => ⟨S6, .f32⟩
  | .hbm, ⟨26, _⟩ => ⟨S4, .f32⟩
  | .hbm, ⟨27, _⟩ => ⟨S44, .f32⟩
  | .hbm, ⟨28, _⟩ => ⟨S4x8x128, .f32⟩
  | .hbm, ⟨29, _⟩ => ⟨S8x128, .f32⟩
  | .hbm, ⟨30, _⟩ => ⟨S1x2, .f32⟩
  | .local _ .vmem, ⟨0, _⟩ => ⟨S32x8x128, .f32⟩
  | .local _ .vmem, ⟨1, _⟩ => ⟨S32x8x128, .f32⟩
  | .local _ .vmem, ⟨2, _⟩ => ⟨S4x8x128, .f32⟩
  | .local _ .vmem, ⟨3, _⟩ => ⟨S4x8x128, .f32⟩
  | .local _ .vmem, ⟨4, _⟩ => ⟨S4x8x128, .f32⟩
  | .local _ .vmem, ⟨5, _⟩ => ⟨S4x8x128, .f32⟩
  | .local _ .vmem, ⟨6, _⟩ => ⟨S4x8x128, .f32⟩
  | .local _ .vmem, ⟨7, _⟩ => ⟨S4x8x128, .f32⟩
  | .local _ .vmem, ⟨8, _⟩ => ⟨S4x8x128, .f32⟩
  | .local _ .vmem, ⟨9, _⟩ => ⟨S8x128, .f32⟩
  | .local _ .smem, ⟨0, _⟩ => ⟨S2x8x8, .f32⟩
  | .local _ .smem, ⟨1, _⟩ => ⟨S44, .f32⟩
  | _, _ => ⟨S32x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg4_0 : Ref sig .tc := ⟨.smem, 0, rfl⟩
abbrev cc0_stg5_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v4282 : BitVec 1 := Scalar.cmpi .eq arg0 c9_i32
  let v4283 : BitVec 32 := Scalar.extui v4282
  let c0_i32_1342 : BitVec 32 := 0#32
  let v4284 : BitVec 1 := Scalar.cmpi .ne v4283 c0_i32_1342
  v4284

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S2x8x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S44 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S32x10240 : Shape := ⟨2, ![32, 10240]⟩
abbrev S2x8x8 : Shape := ⟨3, ![2, 8, 8]⟩
abbrev S3x5 : Shape := ⟨2, ![3, 5]⟩
abbrev S3 : Shape := ⟨1, ![3]⟩
abbrev S3x3 : Shape := ⟨2, ![3, 3]⟩
abbrev S2x3 : Shape := ⟨2, ![2, 3]⟩
abbrev S2 : Shape := ⟨1, ![2]⟩
abbrev S2x2 : Shape := ⟨2, ![2, 2]⟩
abbrev S32x10000 : Shape := ⟨2, ![32, 10000]⟩
abbrev S10000x32 : Shape := ⟨2, ![10000, 32]⟩
abbrev S1x8x8 : Shape := ⟨3, ![1, 8, 8]⟩
abbrev S8x8 : Shape := ⟨2, ![8, 8]⟩
abbrev S10000x4 : Shape := ⟨2, ![10000, 4]⟩
abbrev S10000x2x2 : Shape := ⟨3, ![10000, 2, 2]⟩
abbrev S10000x2x1 : Shape := ⟨3, ![10000, 2, 1]⟩
abbrev S10000x2 : Shape := ⟨2, ![10000, 2]⟩
abbrev S10000x1x2 : Shape := ⟨3, ![10000, 1, 2]⟩
abbrev S9999x4 : Shape := ⟨2, ![9999, 4]⟩
abbrev S1x4 : Shape := ⟨2, ![1, 4]⟩
abbrev S10000x1x2x1 : Shape := ⟨4, ![10000, 1, 2, 1]⟩
abbrev S10000x1x1x2 : Shape := ⟨4, ![10000, 1, 1, 2]⟩
abbrev S10000x1x2x2 : Shape := ⟨4, ![10000, 1, 2, 2]⟩
abbrev S10000x1x4 : Shape := ⟨3, ![10000, 1, 4]⟩
abbrev S10000x1x4x1 : Shape := ⟨4, ![10000, 1, 4, 1]⟩
abbrev S10000x1x4x2 : Shape := ⟨4, ![10000, 1, 4, 2]⟩
abbrev S10000x1x8 : Shape := ⟨3, ![10000, 1, 8]⟩
abbrev S10000x1x2x2x2 : Shape := ⟨5, ![10000, 1, 2, 2, 2]⟩
abbrev S10000x4x2 : Shape := ⟨3, ![10000, 4, 2]⟩
abbrev S9998x4 : Shape := ⟨2, ![9998, 4]⟩
abbrev S2x4 : Shape := ⟨2, ![2, 4]⟩
abbrev S10000x4x1x2 : Shape := ⟨4, ![10000, 4, 1, 2]⟩
abbrev S10000x4x2x2 : Shape := ⟨4, ![10000, 4, 2, 2]⟩
abbrev S10000x4x4 : Shape := ⟨3, ![10000, 4, 4]⟩
abbrev S10000x4x4x1 : Shape := ⟨4, ![10000, 4, 4, 1]⟩
abbrev S10000x4x4x2 : Shape := ⟨4, ![10000, 4, 4, 2]⟩
abbrev S10000x4x8 : Shape := ⟨3, ![10000, 4, 8]⟩
abbrev S10000x4x2x2x2 : Shape := ⟨5, ![10000, 4, 2, 2, 2]⟩
abbrev S10000x16x2 : Shape := ⟨3, ![10000, 16, 2]⟩
abbrev S9997x4 : Shape := ⟨2, ![9997, 4]⟩
abbrev S3x4 : Shape := ⟨2, ![3, 4]⟩
abbrev S10000x16x1x2 : Shape := ⟨4, ![10000, 16, 1, 2]⟩
abbrev S10000x16x2x2 : Shape := ⟨4, ![10000, 16, 2, 2]⟩
abbrev S10000x16x4 : Shape := ⟨3, ![10000, 16, 4]⟩
abbrev S10000x16x4x1 : Shape := ⟨4, ![10000, 16, 4, 1]⟩
abbrev S10000x16x4x2 : Shape := ⟨4, ![10000, 16, 4, 2]⟩
abbrev S10000x16x8 : Shape := ⟨3, ![10000, 16, 8]⟩
abbrev S10000x16x2x2x2 : Shape := ⟨5, ![10000, 16, 2, 2, 2]⟩
abbrev S10000x64x2 : Shape := ⟨3, ![10000, 64, 2]⟩
abbrev S_ : Shape := ⟨0, ![]⟩
abbrev S10000x3 : Shape := ⟨2, ![10000, 3]⟩
abbrev S10000x5 : Shape := ⟨2, ![10000, 5]⟩
abbrev S5x3 : Shape := ⟨2, ![5, 3]⟩
abbrev S1x3 : Shape := ⟨2, ![1, 3]⟩
abbrev S3x2 : Shape := ⟨2, ![3, 2]⟩
abbrev S1x2 : Shape := ⟨2, ![1, 2]⟩

abbrev nBuf : Space → Nat
  | .hbm => 280
  | .vmem => 0
  | .smem => 0
  | _ => 0

abbrev hbmTy0_0 (i : Nat) : BufTy := match i % 128 with
  | 0 => ⟨S32x10240, .f32⟩
  | 1 => ⟨S2x8x8, .f32⟩
  | 2 => ⟨S3x5, .f32⟩
  | 3 => ⟨S3, .f32⟩
  | 4 => ⟨S3x3, .f32⟩
  | 5 => ⟨S3, .f32⟩
  | 6 => ⟨S2x3, .f32⟩
  | 7 => ⟨S2, .f32⟩
  | 8 => ⟨S2x2, .f32⟩
  | 9 => ⟨S2, .f32⟩
  | 10 => ⟨S32x10000, .f32⟩
  | 11 => ⟨S10000x32, .f32⟩
  | 12 => ⟨S1x8x8, .f32⟩
  | 13 => ⟨S8x8, .f32⟩
  | 14 => ⟨S1x8x8, .f32⟩
  | 15 => ⟨S8x8, .f32⟩
  | 16 => ⟨S10000x4, .f32⟩
  | 17 => ⟨S10000x2x2, .f32⟩
  | 18 => ⟨S10000x2x1, .f32⟩
  | 19 => ⟨S10000x2, .f32⟩
  | 20 => ⟨S10000x2x1, .f32⟩
  | 21 => ⟨S10000x2, .f32⟩
  | 22 => ⟨S10000x1x2, .f32⟩
  | 23 => ⟨S10000x1x2, .f32⟩
  | 24 => ⟨S10000x4, .f32⟩
  | 25 => ⟨S10000x2x2, .f32⟩
  | 26 => ⟨S10000x2x1, .f32⟩
  | 27 => ⟨S10000x2, .f32⟩
  | 28 => ⟨S10000x2x1, .f32⟩
  | 29 => ⟨S10000x2, .f32⟩
  | 30 => ⟨S10000x4, .f32⟩
  | 31 => ⟨S9999x4, .f32⟩
  | 32 => ⟨S1x4, .f32⟩
  | 33 => ⟨S10000x4, .f32⟩
  | 34 => ⟨S10000x2x2, .f32⟩
  | 35 => ⟨S10000x2x1, .f32⟩
  | 36 => ⟨S10000x2, .f32⟩
  | 37 => ⟨S10000x2x1, .f32⟩
  | 38 => ⟨S10000x2, .f32⟩
  | 39 => ⟨S10000x1x2x1, .f32⟩
  | 40 => ⟨S10000x1x2x1, .f32⟩
  | 41 => ⟨S10000x1x1x2, .f32⟩
  | 42 => ⟨S10000x1x1x2, .f32⟩
  | 43 => ⟨S10000x1x2x2, .f32⟩
  | 44 => ⟨S10000x1x2x2, .f32⟩
  | 45 => ⟨S10000x1x2x2, .f32⟩
  | 46 => ⟨S10000x1x2x2, .f32⟩
  | 47 => ⟨S10000x1x2x2, .f32⟩
  | 48 => ⟨S10000x1x2x2, .f32⟩
  | 49 => ⟨S10000x1x2x2, .f32⟩
  | 50 => ⟨S10000x1x2x2, .f32⟩
  | 51 => ⟨S10000x1x2x2, .f32⟩
  | 52 => ⟨S10000x1x2x2, .f32⟩
  | 53 => ⟨S10000x1x2x2, .f32⟩
  | 54 => ⟨S10000x1x2x2, .f32⟩
  | 55 => ⟨S10000x1x2x2, .f32⟩
  | 56 => ⟨S10000x1x2x2, .f32⟩
  | 57 => ⟨S10000x1x4, .f32⟩
  | 58 => ⟨S10000x1x4, .f32⟩
  | 59 => ⟨S10000x1x4x1, .f32⟩
  | 60 => ⟨S10000x1x4x1, .f32⟩
  | 61 => ⟨S10000x1x1x2, .f32⟩
  | 62 => ⟨S10000x1x1x2, .f32⟩
  | 63 => ⟨S10000x1x4x2, .f32⟩
  | 64 => ⟨S10000x1x4x2, .f32⟩
  | 65 => ⟨S10000x1x4x2, .f32⟩
  | 66 => ⟨S10000x1x4x2, .f32⟩
  | 67 => ⟨S10000x1x4x2, .f32⟩
  | 68 => ⟨S10000x1x4x2, .f32⟩
  | 69 => ⟨S10000x1x4x2, .f32⟩
  | 70 => ⟨S10000x1x4x2, .f32⟩
  | 71 => ⟨S10000x1x4x2, .f32⟩
  | 72 => ⟨S10000x1x4x2, .f32⟩
  | 73 => ⟨S10000x1x4x2, .f32⟩
  | 74 => ⟨S10000x1x4x2, .f32⟩
  | 75 => ⟨S10000x1x4x2, .f32⟩
  | 76 => ⟨S10000x1x4x2, .f32⟩
  | 77 => ⟨S10000x1x8, .f32⟩
  | 78 => ⟨S10000x1x8, .f32⟩
  | 79 => ⟨S10000x1x8, .f32⟩
  | 80 => ⟨S10000x1x2x2x2, .f32⟩
  | 81 => ⟨S10000x1x8, .f32⟩
  | 82 => ⟨S10000x1x2x2x2, .f32⟩
  | 83 => ⟨S10000x1x2x2x2, .f32⟩
  | 84 => ⟨S10000x1x8, .f32⟩
  | 85 => ⟨S10000x1x2x2x2, .f32⟩
  | 86 => ⟨S10000x1x8, .f32⟩
  | 87 => ⟨S10000x1x2x2x2, .f32⟩
  | 88 => ⟨S10000x1x2x2x2, .f32⟩
  | 89 => ⟨S10000x1x2x2x2, .f32⟩
  | 90 => ⟨S10000x4x2, .f32⟩
  | 91 => ⟨S10000x1x2x2x2, .f32⟩
  | 92 => ⟨S10000x4x2, .f32⟩
  | 93 => ⟨S10000x4, .f32⟩
  | 94 => ⟨S10000x2x2, .f32⟩
  | 95 => ⟨S10000x2x1, .f32⟩
  | 96 => ⟨S10000x2, .f32⟩
  | 97 => ⟨S10000x2x1, .f32⟩
  | 98 => ⟨S10000x2, .f32⟩
  | 99 => ⟨S10000x4, .f32⟩
  | 100 => ⟨S9998x4, .f32⟩
  | 101 => ⟨S2x4, .f32⟩
  | 102 => ⟨S10000x4, .f32⟩
  | 103 => ⟨S10000x2x2, .f32⟩
  | 104 => ⟨S10000x2x1, .f32⟩
  | 105 => ⟨S10000x2, .f32⟩
  | 106 => ⟨S10000x2x1, .f32⟩
  | 107 => ⟨S10000x2, .f32⟩
  | 108 => ⟨S10000x1x2x1, .f32⟩
  | 109 => ⟨S10000x1x2x1, .f32⟩
  | 110 => ⟨S10000x4x1x2, .f32⟩
  | 111 => ⟨S10000x4x1x2, .f32⟩
  | 112 => ⟨S10000x4x2x2, .f32⟩
  | 113 => ⟨S10000x4x2x2, .f32⟩
  | 114 => ⟨S10000x4x2x2, .f32⟩
  | 115 => ⟨S10000x4x2x2, .f32⟩
  | 116 => ⟨S10000x4x2x2, .f32⟩
  | 117 => ⟨S10000x4x2x2, .f32⟩
  | 118 => ⟨S10000x4x2x2, .f32⟩
  | 119 => ⟨S10000x4x2x2, .f32⟩
  | 120 => ⟨S10000x4x2x2, .f32⟩
  | 121 => ⟨S10000x4x2x2, .f32⟩
  | 122 => ⟨S10000x4x2x2, .f32⟩
  | 123 => ⟨S10000x4x2x2, .f32⟩
  | 124 => ⟨S10000x4x2x2, .f32⟩
  | 125 => ⟨S10000x4x2x2, .f32⟩
  | 126 => ⟨S10000x4x4, .f32⟩
  | 127 => ⟨S10000x4x4, .f32⟩
  | _ => ⟨S32x10240, .f32⟩

abbrev hbmTy0_1 (i : Nat) : BufTy := match i % 128 with
  | 0 => ⟨S10000x4x4x1, .f32⟩
  | 1 => ⟨S10000x4x4x1, .f32⟩
  | 2 => ⟨S10000x1x1x2, .f32⟩
  | 3 => ⟨S10000x1x1x2, .f32⟩
  | 4 => ⟨S10000x4x4x2, .f32⟩
  | 5 => ⟨S10000x4x4x2, .f32⟩
  | 6 => ⟨S10000x4x4x2, .f32⟩
  | 7 => ⟨S10000x4x4x2, .f32⟩
  | 8 => ⟨S10000x4x4x2, .f32⟩
  | 9 => ⟨S10000x4x4x2, .f32⟩
  | 10 => ⟨S10000x4x4x2, .f32⟩
  | 11 => ⟨S10000x4x4x2, .f32⟩
  | 12 => ⟨S10000x4x4x2, .f32⟩
  | 13 => ⟨S10000x4x4x2, .f32⟩
  | 14 => ⟨S10000x4x4x2, .f32⟩
  | 15 => ⟨S10000x4x4x2, .f32⟩
  | 16 => ⟨S10000x4x4x2, .f32⟩
  | 17 => ⟨S10000x4x4x2, .f32⟩
  | 18 => ⟨S10000x4x8, .f32⟩
  | 19 => ⟨S10000x4x8, .f32⟩
  | 20 => ⟨S10000x4x8, .f32⟩
  | 21 => ⟨S10000x4x2x2x2, .f32⟩
  | 22 => ⟨S10000x4x8, .f32⟩
  | 23 => ⟨S10000x4x2x2x2, .f32⟩
  | 24 => ⟨S10000x4x2x2x2, .f32⟩
  | 25 => ⟨S10000x4x8, .f32⟩
  | 26 => ⟨S10000x4x2x2x2, .f32⟩
  | 27 => ⟨S10000x4x8, .f32⟩
  | 28 => ⟨S10000x4x2x2x2, .f32⟩
  | 29 => ⟨S10000x4x2x2x2, .f32⟩
  | 30 => ⟨S10000x4x2x2x2, .f32⟩
  | 31 => ⟨S10000x16x2, .f32⟩
  | 32 => ⟨S10000x4x2x2x2, .f32⟩
  | 33 => ⟨S10000x16x2, .f32⟩
  | 34 => ⟨S10000x4, .f32⟩
  | 35 => ⟨S10000x2x2, .f32⟩
  | 36 => ⟨S10000x2x1, .f32⟩
  | 37 => ⟨S10000x2, .f32⟩
  | 38 => ⟨S10000x2x1, .f32⟩
  | 39 => ⟨S10000x2, .f32⟩
  | 40 => ⟨S10000x4, .f32⟩
  | 41 => ⟨S9997x4, .f32⟩
  | 42 => ⟨S3x4, .f32⟩
  | 43 => ⟨S10000x4, .f32⟩
  | 44 => ⟨S10000x2x2, .f32⟩
  | 45 => ⟨S10000x2x1, .f32⟩
  | 46 => ⟨S10000x2, .f32⟩
  | 47 => ⟨S10000x2x1, .f32⟩
  | 48 => ⟨S10000x2, .f32⟩
  | 49 => ⟨S10000x1x2x1, .f32⟩
  | 50 => ⟨S10000x1x2x1, .f32⟩
  | 51 => ⟨S10000x16x1x2, .f32⟩
  | 52 => ⟨S10000x16x1x2, .f32⟩
  | 53 => ⟨S10000x16x2x2, .f32⟩
  | 54 => ⟨S10000x16x2x2, .f32⟩
  | 55 => ⟨S10000x16x2x2, .f32⟩
  | 56 => ⟨S10000x16x2x2, .f32⟩
  | 57 => ⟨S10000x16x2x2, .f32⟩
  | 58 => ⟨S10000x16x2x2, .f32⟩
  | 59 => ⟨S10000x16x2x2, .f32⟩
  | 60 => ⟨S10000x16x2x2, .f32⟩
  | 61 => ⟨S10000x16x2x2, .f32⟩
  | 62 => ⟨S10000x16x2x2, .f32⟩
  | 63 => ⟨S10000x16x2x2, .f32⟩
  | 64 => ⟨S10000x16x2x2, .f32⟩
  | 65 => ⟨S10000x16x2x2, .f32⟩
  | 66 => ⟨S10000x16x2x2, .f32⟩
  | 67 => ⟨S10000x16x4, .f32⟩
  | 68 => ⟨S10000x16x4, .f32⟩
  | 69 => ⟨S10000x16x4x1, .f32⟩
  | 70 => ⟨S10000x16x4x1, .f32⟩
  | 71 => ⟨S10000x1x1x2, .f32⟩
  | 72 => ⟨S10000x1x1x2, .f32⟩
  | 73 => ⟨S10000x16x4x2, .f32⟩
  | 74 => ⟨S10000x16x4x2, .f32⟩
  | 75 => ⟨S10000x16x4x2, .f32⟩
  | 76 => ⟨S10000x16x4x2, .f32⟩
  | 77 => ⟨S10000x16x4x2, .f32⟩
  | 78 => ⟨S10000x16x4x2, .f32⟩
  | 79 => ⟨S10000x16x4x2, .f32⟩
  | 80 => ⟨S10000x16x4x2, .f32⟩
  | 81 => ⟨S10000x16x4x2, .f32⟩
  | 82 => ⟨S10000x16x4x2, .f32⟩
  | 83 => ⟨S10000x16x4x2, .f32⟩
  | 84 => ⟨S10000x16x4x2, .f32⟩
  | 85 => ⟨S10000x16x4x2, .f32⟩
  | 86 => ⟨S10000x16x4x2, .f32⟩
  | 87 => ⟨S10000x16x8, .f32⟩
  | 88 => ⟨S10000x16x8, .f32⟩
  | 89 => ⟨S10000x16x8, .f32⟩
  | 90 => ⟨S10000x16x2x2x2, .f32⟩
  | 91 => ⟨S10000x16x8, .f32⟩
  | 92 => ⟨S10000x16x2x2x2, .f32⟩
  | 93 => ⟨S10000x16x2x2x2, .f32⟩
  | 94 => ⟨S10000x16x8, .f32⟩
  | 95 => ⟨S10000x16x2x2x2, .f32⟩
  | 96 => ⟨S10000x16x8, .f32⟩
  | 97 => ⟨S10000x16x2x2x2, .f32⟩
  | 98 => ⟨S10000x16x2x2x2, .f32⟩
  | 99 => ⟨S10000x16x2x2x2, .f32⟩
  | 100 => ⟨S10000x64x2, .f32⟩
  | 101 => ⟨S10000x16x2x2x2, .f32⟩
  | 102 => ⟨S10000x64x2, .f32⟩
  | 103 => ⟨S10000x16x2x2x2, .f32⟩
  | 104 => ⟨S10000x16x2x2x2, .f32⟩
  | 105 => ⟨S10000x16x2x2x2, .f32⟩
  | 106 => ⟨S10000x64x2, .f32⟩
  | 107 => ⟨S_, .f32⟩
  | 108 => ⟨S10000x2, .f32⟩
  | 109 => ⟨S10000x3, .f32⟩
  | 110 => ⟨S10000x5, .f32⟩
  | 111 => ⟨S5x3, .f32⟩
  | 112 => ⟨S10000x3, .f32⟩
  | 113 => ⟨S1x3, .f32⟩
  | 114 => ⟨S10000x3, .f32⟩
  | 115 => ⟨S10000x3, .f32⟩
  | 116 => ⟨S_, .f32⟩
  | 117 => ⟨S10000x3, .f32⟩
  | 118 => ⟨S10000x3, .i1⟩
  | 119 => ⟨S_, .f32⟩
  | 120 => ⟨S10000x3, .f32⟩
  | 121 => ⟨S10000x3, .f32⟩
  | 122 => ⟨S10000x3, .f32⟩
  | 123 => ⟨S3x3, .f32⟩
  | 124 => ⟨S10000x3, .f32⟩
  | 125 => ⟨S1x3, .f32⟩
  | 126 => ⟨S10000x3, .f32⟩
  | 127 => ⟨S10000x3, .f32⟩
  | _ => ⟨S32x10240, .f32⟩

abbrev hbmTy0_2 (i : Nat) : BufTy := match i % 128 with
  | 0 => ⟨S_, .f32⟩
  | 1 => ⟨S10000x3, .f32⟩
  | 2 => ⟨S10000x3, .f32⟩
  | 3 => ⟨S_, .f32⟩
  | 4 => ⟨S3, .f32⟩
  | 5 => ⟨S_, .f32⟩
  | 6 => ⟨S3, .f32⟩
  | 7 => ⟨S3, .f32⟩
  | 8 => ⟨S1x3, .f32⟩
  | 9 => ⟨S3x2, .f32⟩
  | 10 => ⟨S1x2, .f32⟩
  | 11 => ⟨S1x2, .f32⟩
  | 12 => ⟨S1x2, .f32⟩
  | 13 => ⟨S_, .f32⟩
  | 14 => ⟨S1x2, .f32⟩
  | 15 => ⟨S1x2, .i1⟩
  | 16 => ⟨S_, .f32⟩
  | 17 => ⟨S1x2, .f32⟩
  | 18 => ⟨S1x2, .f32⟩
  | 19 => ⟨S1x2, .f32⟩
  | 20 => ⟨S2x2, .f32⟩
  | 21 => ⟨S1x2, .f32⟩
  | 22 => ⟨S1x2, .f32⟩
  | 23 => ⟨S1x2, .f32⟩
  | _ => ⟨S32x10240, .f32⟩

abbrev hbmTy (i : Nat) : BufTy := match i / 128 with
  | 0 => hbmTy0_0 i
  | 1 => hbmTy0_1 i
  | 2 => hbmTy0_2 i
  | _ => ⟨S32x10240, .f32⟩

abbrev bufTy : (tb : Table) → Fin (tcTables nBuf tb) → BufTy
  | .hbm, ⟨i, _⟩ => hbmTy i
  | _, _ => ⟨S32x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_call1_v0 : Ref sig .tc := ⟨.hbm, 100, rfl⟩
abbrev main_call1_v1 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_call2_v0 : Ref sig .tc := ⟨.hbm, 169, rfl⟩
abbrev main_call2_v1 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩
abbrev main_v212 : Ref sig .tc := ⟨.hbm, 228, rfl⟩
abbrev main_v213 : Ref sig .tc := ⟨.hbm, 229, rfl⟩
abbrev main_v214 : Ref sig .tc := ⟨.hbm, 230, rfl⟩
abbrev main_v215 : Ref sig .tc := ⟨.hbm, 231, rfl⟩
abbrev main_v216 : Ref sig .tc := ⟨.hbm, 232, rfl⟩
abbrev main_v217 : Ref sig .tc := ⟨.hbm, 233, rfl⟩
abbrev main_v218 : Ref sig .tc := ⟨.hbm, 234, rfl⟩
abbrev main_cst : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_cst_0 : Ref sig .tc := ⟨.hbm, 244, rfl⟩
abbrev main_v227 : Ref sig .tc := ⟨.hbm, 245, rfl⟩
abbrev main_v228 : Ref sig .tc := ⟨.hbm, 246, rfl⟩
abbrev main_cst_1 : Ref sig .tc := ⟨.hbm, 247, rfl⟩
abbrev main_v229 : Ref sig .tc := ⟨.hbm, 248, rfl⟩
abbrev main_v230 : Ref sig .tc := ⟨.hbm, 249, rfl⟩
abbrev main_v231 : Ref sig .tc := ⟨.hbm, 250, rfl⟩
abbrev main_v232 : Ref sig .tc := ⟨.hbm, 251, rfl⟩
abbrev main_v233 : Ref sig .tc := ⟨.hbm, 252, rfl⟩
abbrev main_v234 : Ref sig .tc := ⟨.hbm, 253, rfl⟩
abbrev main_v235 : Ref sig .tc := ⟨.hbm, 254, rfl⟩
abbrev main_v236 : Ref sig .tc := ⟨.hbm, 255, rfl⟩
abbrev main_cst_2 : Ref sig .tc := ⟨.hbm, 256, rfl⟩
abbrev main_v237 : Ref sig .tc := ⟨.hbm, 257, rfl⟩
abbrev main_v238 : Ref sig .tc := ⟨.hbm, 258, rfl⟩
abbrev main_cst_3 : Ref sig .tc := ⟨.hbm, 259, rfl⟩
abbrev main_v239 : Ref sig .tc := ⟨.hbm, 260, rfl⟩
abbrev main_cst_4 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_v243 : Ref sig .tc := ⟨.hbm, 265, rfl⟩
abbrev main_v244 : Ref sig .tc := ⟨.hbm, 266, rfl⟩
abbrev main_v245 : Ref sig .tc := ⟨.hbm, 267, rfl⟩
abbrev main_v246 : Ref sig .tc := ⟨.hbm, 268, rfl⟩
abbrev main_cst_5 : Ref sig .tc := ⟨.hbm, 269, rfl⟩
abbrev main_v247 : Ref sig .tc := ⟨.hbm, 270, rfl⟩
abbrev main_v248 : Ref sig .tc := ⟨.hbm, 271, rfl⟩
abbrev main_cst_6 : Ref sig .tc := ⟨.hbm, 272, rfl⟩
abbrev main_v249 : Ref sig .tc := ⟨.hbm, 273, rfl⟩
abbrev main_v250 : Ref sig .tc := ⟨.hbm, 274, rfl⟩
abbrev main_v251 : Ref sig .tc := ⟨.hbm, 275, rfl⟩
abbrev main_v252 : Ref sig .tc := ⟨.hbm, 276, rfl⟩
abbrev main_v253 : Ref sig .tc := ⟨.hbm, 277, rfl⟩
abbrev main_v254 : Ref sig .tc := ⟨.hbm, 278, rfl⟩
abbrev main_v255 : Ref sig .tc := ⟨.hbm, 279, rfl⟩

abbrev nD : Nat := 1
abbrev τ : Topo := Topo.v7x

variable {F : FTy → Type} [FloatOps F]
-- ==== Prepare.lean ====
abbrev S10000x128 : Shape := ⟨2, ![10000, 128]⟩
abbrev S30000x16 : Shape := ⟨2, ![30000, 16]⟩
abbrev S3x128 : Shape := ⟨2, ![3, 128]⟩
abbrev S3 : Shape := ⟨1, ![3]⟩
abbrev S3x16 : Shape := ⟨2, ![3, 16]⟩
abbrev S2x7 : Shape := ⟨2, ![2, 7]⟩
abbrev S1x2x3x3 : Shape := ⟨4, ![1, 2, 3, 3]⟩
abbrev S10000x3x16 : Shape := ⟨3, ![10000, 3, 16]⟩
abbrev S_ : Shape := ⟨0, ![]⟩
abbrev S8x128 : Shape := ⟨2, ![8, 128]⟩
abbrev S8x16 : Shape := ⟨2, ![8, 16]⟩
abbrev S1x4 : Shape := ⟨2, ![1, 4]⟩
abbrev S4 : Shape := ⟨1, ![4]⟩
abbrev S1x3 : Shape := ⟨2, ![1, 3]⟩
abbrev S7 : Shape := ⟨1, ![7]⟩
abbrev S7x1 : Shape := ⟨2, ![7, 1]⟩
abbrev S7x8 : Shape := ⟨2, ![7, 8]⟩
abbrev S2x3x3 : Shape := ⟨3, ![2, 3, 3]⟩
abbrev S2x3x1 : Shape := ⟨3, ![2, 3, 1]⟩
abbrev S2x3 : Shape := ⟨2, ![2, 3]⟩
abbrev S2x3x6 : Shape := ⟨3, ![2, 3, 6]⟩
abbrev S36 : Shape := ⟨1, ![36]⟩
abbrev S56 : Shape := ⟨1, ![56]⟩
abbrev S98 : Shape := ⟨1, ![98]⟩
abbrev S32x10240 : Shape := ⟨2, ![32, 10240]⟩
abbrev S2x8x8 : Shape := ⟨3, ![2, 8, 8]⟩
abbrev S1024x128 : Shape := ⟨2, ![1024, 128]⟩
abbrev S1024x3x16 : Shape := ⟨3, ![1024, 3, 16]⟩
abbrev S32x1024 : Shape := ⟨2, ![32, 1024]⟩
abbrev S8x1024 : Shape := ⟨2, ![8, 1024]⟩
abbrev S1024x1x16 : Shape := ⟨3, ![1024, 1, 16]⟩
abbrev S1024x16 : Shape := ⟨2, ![1024, 16]⟩
abbrev S3x1024 : Shape := ⟨2, ![3, 1024]⟩
abbrev S12x1024 : Shape := ⟨2, ![12, 1024]⟩
abbrev S1 : Shape := ⟨1, ![1]⟩
abbrev S12 : Shape := ⟨1, ![12]⟩
abbrev S12x1 : Shape := ⟨2, ![12, 1]⟩
abbrev S1x1024 : Shape := ⟨2, ![1, 1024]⟩
abbrev S8x8 : Shape := ⟨2, ![8, 8]⟩
abbrev S4x8 : Shape := ⟨2, ![4, 8]⟩
abbrev S6x8 : Shape := ⟨2, ![6, 8]⟩
abbrev S2x8 : Shape := ⟨2, ![2, 8]⟩
abbrev S1x8 : Shape := ⟨2, ![1, 8]⟩
abbrev S1x8x8 : Shape := ⟨3, ![1, 8, 8]⟩

abbrev nBuf : Space → Nat
  | .hbm => 86
  | .vmem => 9
  | .smem => 1
  | _ => 0

abbrev bufTy : (tb : Table) → Fin (tcTables nBuf tb) → BufTy
  | .hbm, ⟨0, _⟩ => ⟨S10000x128, .f32⟩
  | .hbm, ⟨1, _⟩ => ⟨S30000x16, .f32⟩
  | .hbm, ⟨2, _⟩ => ⟨S3x128, .f32⟩
  | .hbm, ⟨3, _⟩ => ⟨S3, .f32⟩
  | .hbm, ⟨4, _⟩ => ⟨S3x16, .f32⟩
  | .hbm, ⟨5, _⟩ => ⟨S3, .f32⟩
  | .hbm, ⟨6, _⟩ => ⟨S2x7, .f32⟩
  | .hbm, ⟨7, _⟩ => ⟨S1x2x3x3, .f32⟩
  | .hbm, ⟨8, _⟩ => ⟨S10000x3x16, .f32⟩
  | .hbm, ⟨9, _⟩ => ⟨S_, .i32⟩
  | .hbm, ⟨10, _⟩ => ⟨S_, .f32⟩
  | .hbm, ⟨11, _⟩ => ⟨S8x128, .f32⟩
  | .hbm, ⟨12, _⟩ => ⟨S_, .i32⟩
  | .hbm, ⟨13, _⟩ => ⟨S_, .f32⟩
  | .hbm, ⟨14, _⟩ => ⟨S8x16, .f32⟩
  | .hbm, ⟨15, _⟩ => ⟨S1x4, .f32⟩
  | .hbm, ⟨16, _⟩ => ⟨S4, .f32⟩
  | .hbm, ⟨17, _⟩ => ⟨S1x3, .f32⟩
  | .hbm, ⟨18, _⟩ => ⟨S3, .f32⟩
  | .hbm, ⟨19, _⟩ => ⟨S7, .f32⟩
  | .hbm, ⟨20, _⟩ => ⟨S_, .f32⟩
  | .hbm, ⟨21, _⟩ => ⟨S7, .f32⟩
  | .hbm, ⟨22, _⟩ => ⟨S7, .f32⟩
  | .hbm, ⟨23, _⟩ => ⟨S7, .f32⟩
  | .hbm, ⟨24, _⟩ => ⟨S_, .f32⟩
  | .hbm, ⟨25, _⟩ => ⟨S7, .f32⟩
  | .hbm, ⟨26, _⟩ => ⟨S7, .f32⟩
  | .hbm, ⟨27, _⟩ => ⟨S7, .f32⟩
  | .hbm, ⟨28, _⟩ => ⟨S7, .f32⟩
  | .hbm, ⟨29, _⟩ => ⟨S7, .f32⟩
  | .hbm, ⟨30, _⟩ => ⟨S7, .f32⟩
  | .hbm, ⟨31, _⟩ => ⟨S7, .f32⟩
  | .hbm, ⟨32, _⟩ => ⟨S7, .f32⟩
  | .hbm, ⟨33, _⟩ => ⟨S7, .f32⟩
  | .hbm, ⟨34, _⟩ => ⟨S7, .f32⟩
  | .hbm, ⟨35, _⟩ => ⟨S7, .f32⟩
  | .hbm, ⟨36, _⟩ => ⟨S7, .f32⟩
  | .hbm, ⟨37, _⟩ => ⟨S7, .f32⟩
  | .hbm, ⟨38, _⟩ => ⟨S7x1, .f32⟩
  | .hbm, ⟨39, _⟩ => ⟨S7x1, .f32⟩
  | .hbm, ⟨40, _⟩ => ⟨S7x1, .f32⟩
  | .hbm, ⟨41, _⟩ => ⟨S7x1, .f32⟩
  | .hbm, ⟨42, _⟩ => ⟨S7x1, .f32⟩
  | .hbm, ⟨43, _⟩ => ⟨S7x1, .f32⟩
  | .hbm, ⟨44, _⟩ => ⟨S7x1, .f32⟩
  | .hbm, ⟨45, _⟩ => ⟨S7x1, .f32⟩
  | .hbm, ⟨46, _⟩ => ⟨S7x8, .f32⟩
  | .hbm, ⟨47, _⟩ => ⟨S2x3x3, .f32⟩
  | .hbm, ⟨48, _⟩ => ⟨S2x3x1, .f32⟩
  | .hbm, ⟨49, _⟩ => ⟨S2x3, .f32⟩
  | .hbm, ⟨50, _⟩ => ⟨S2x3x1, .f32⟩
  | .hbm, ⟨51, _⟩ => ⟨S2x3, .f32⟩
  | .hbm, ⟨52, _⟩ => ⟨S2x3x1, .f32⟩
  | .hbm, ⟨53, _⟩ => ⟨S2x3, .f32⟩
  | .hbm, ⟨54, _⟩ => ⟨S2x3, .f32⟩
  | .hbm, ⟨55, _⟩ => ⟨S_, .f32⟩
  | .hbm, ⟨56, _⟩ => ⟨S2x3, .f32⟩
  | .hbm, ⟨57, _⟩ => ⟨S2x3, .f32⟩
  | .hbm, ⟨58, _⟩ => ⟨S2x3, .f32⟩
  | .hbm, ⟨59, _⟩ => ⟨S_, .f32⟩
  | .hbm, ⟨60, _⟩ => ⟨S2x3, .f32⟩
  | .hbm, ⟨61, _⟩ => ⟨S2x3, .f32⟩
  | .hbm, ⟨62, _⟩ => ⟨S_, .f32⟩
  | .hbm, ⟨63, _⟩ => ⟨S2x3, .f32⟩
  | .hbm, ⟨64, _⟩ => ⟨S2x3, .f32⟩
  | .hbm, ⟨65, _⟩ => ⟨S2x3, .f32⟩
  | .hbm, ⟨66, _⟩ => ⟨S_, .f32⟩
  | .hbm, ⟨67, _⟩ => ⟨S2x3, .f32⟩
  | .hbm, ⟨68, _⟩ => ⟨S2x3, .f32⟩
  | .hbm, ⟨69, _⟩ => ⟨S2x3, .f32⟩
  | .hbm, ⟨70, _⟩ => ⟨S2x3, .f32⟩
  | .hbm, ⟨71, _⟩ => ⟨S2x3, .f32⟩
  | .hbm, ⟨72, _⟩ => ⟨S2x3, .f32⟩
  | .hbm, ⟨73, _⟩ => ⟨S2x3, .f32⟩
  | .hbm, ⟨74, _⟩ => ⟨S2x3x1, .f32⟩
  | .hbm, ⟨75, _⟩ => ⟨S2x3x1, .f32⟩
  | .hbm, ⟨76, _⟩ => ⟨S2x3x1, .f32⟩
  | .hbm, ⟨77, _⟩ => ⟨S2x3x1, .f32⟩
  | .hbm, ⟨78, _⟩ => ⟨S2x3x1, .f32⟩
  | .hbm, ⟨79, _⟩ => ⟨S2x3x1, .f32⟩
  | .hbm, ⟨80, _⟩ => ⟨S2x3x6, .f32⟩
  | .hbm, ⟨81, _⟩ => ⟨S36, .f32⟩
  | .hbm, ⟨82, _⟩ => ⟨S56, .f32⟩
  | .hbm, ⟨83, _⟩ => ⟨S98, .f32⟩
  | .hbm, ⟨84, _⟩ => ⟨S32x10240, .f32⟩
  | .hbm, ⟨85, _⟩ => ⟨S2x8x8, .f32⟩
  | .local _ .vmem, ⟨0, _⟩ => ⟨S1024x128, .f32⟩
  | .local _ .vmem, ⟨1, _⟩ => ⟨S1024x128, .f32⟩
  | .local _ .vmem, ⟨2, _⟩ => ⟨S1024x3x16, .f32⟩
  | .local _ .vmem, ⟨3, _⟩ => ⟨S1024x3x16, .f32⟩
  | .local _ .vmem, ⟨4, _⟩ => ⟨S8x128, .f32⟩
  | .local _ .vmem, ⟨5, _⟩ => ⟨S8x16, .f32⟩
  | .local _ .vmem, ⟨6, _⟩ => ⟨S32x1024, .f32⟩
  | .local _ .vmem, ⟨7, _⟩ => ⟨S32x1024, .f32⟩
  | .local _ .vmem, ⟨8, _⟩ => ⟨S2x8x8, .f32⟩
  | .local _ .smem, ⟨0, _⟩ => ⟨S98, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_c_0 : Ref sig .tc := ⟨.hbm, 12, rfl⟩
abbrev main_call1_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_2 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_3 : Ref sig .tc := ⟨.hbm, 59, rfl⟩
abbrev main_v44 : Ref sig .tc := ⟨.hbm, 60, rfl⟩
abbrev main_v45 : Ref sig .tc := ⟨.hbm, 61, rfl⟩
abbrev main_cst_4 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_5 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66_0 : Ref sig .tc := ⟨.hbm, 84, rfl⟩
abbrev main_v66_1 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v541 : BitVec 1 := Scalar.cmpi .eq arg0 c0_i32
  let v542 : BitVec 32 := Scalar.extui v541
  let c0_i32_33 : BitVec 32 := 0#32
  let v543 : BitVec 1 := Scalar.cmpi .ne v542 c0_i32_33
  v543

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x3x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S98 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x8x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== EntangleIdeal.lean ====
abbrev S10000x128 : Shape := ⟨2, ![10000, 128]⟩
abbrev S30000x16 : Shape := ⟨2, ![30000, 16]⟩
abbrev S3x128 : Shape := ⟨2, ![3, 128]⟩
abbrev S3 : Shape := ⟨1, ![3]⟩
abbrev S3x16 : Shape := ⟨2, ![3, 16]⟩
abbrev S2x7 : Shape := ⟨2, ![2, 7]⟩
abbrev S1x2x3x3 : Shape := ⟨4, ![1, 2, 3, 3]⟩
abbrev S8x8 : Shape := ⟨2, ![8, 8]⟩
abbrev S_ : Shape := ⟨0, ![]⟩
abbrev S2x2x2x8 : Shape := ⟨4, ![2, 2, 2, 8]⟩
abbrev S1x1x1x1 : Shape := ⟨4, ![1, 1, 1, 1]⟩
abbrev S1x2x2x8 : Shape := ⟨4, ![1, 2, 2, 8]⟩
abbrev S2x2x8 : Shape := ⟨3, ![2, 2, 8]⟩
abbrev S2x1x2x8 : Shape := ⟨4, ![2, 1, 2, 8]⟩
abbrev S2x2x1x8 : Shape := ⟨4, ![2, 2, 1, 8]⟩
abbrev S1x8x8 : Shape := ⟨3, ![1, 8, 8]⟩
abbrev S2x8x8 : Shape := ⟨3, ![2, 8, 8]⟩

abbrev nBuf : Space → Nat
  | .hbm => 653
  | .vmem => 0
  | .smem => 0
  | _ => 0

abbrev hbmTy0_0 (i : Nat) : BufTy := match i % 128 with
  | 0 => ⟨S10000x128, .f32⟩
  | 1 => ⟨S30000x16, .f32⟩
  | 2 => ⟨S3x128, .f32⟩
  | 3 => ⟨S3, .f32⟩
  | 4 => ⟨S3x16, .f32⟩
  | 5 => ⟨S3, .f32⟩
  | 6 => ⟨S2x7, .f32⟩
  | 7 => ⟨S1x2x3x3, .f32⟩
  | 8 => ⟨S8x8, .i32⟩
  | 9 => ⟨S8x8, .i32⟩
  | 10 => ⟨S_, .i32⟩
  | 11 => ⟨S8x8, .i32⟩
  | 12 => ⟨S8x8, .i32⟩
  | 13 => ⟨S8x8, .i1⟩
  | 14 => ⟨S8x8, .f32⟩
  | 15 => ⟨S2x2x2x8, .f32⟩
  | 16 => ⟨S_, .f32⟩
  | 17 => ⟨S2x2x2x8, .f32⟩
  | 18 => ⟨S1x1x1x1, .f32⟩
  | 19 => ⟨S_, .f32⟩
  | 20 => ⟨S1x1x1x1, .f32⟩
  | 21 => ⟨S_, .f32⟩
  | 22 => ⟨S1x1x1x1, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S1x2x2x8, .f32⟩
  | 37 => ⟨S2x2x8, .f32⟩
  | 38 => ⟨S1x2x2x8, .f32⟩
  | 39 => ⟨S2x2x8, .f32⟩
  | 40 => ⟨S1x2x2x8, .f32⟩
  | 41 => ⟨S2x2x8, .f32⟩
  | 42 => ⟨S1x2x2x8, .f32⟩
  | 43 => ⟨S2x2x8, .f32⟩
  | 44 => ⟨S_, .f32⟩
  | 45 => ⟨S_, .f32⟩
  | 46 => ⟨S_, .f32⟩
  | 47 => ⟨S_, .f32⟩
  | 48 => ⟨S_, .f32⟩
  | 49 => ⟨S2x2x8, .f32⟩
  | 50 => ⟨S2x2x8, .f32⟩
  | 51 => ⟨S2x2x8, .f32⟩
  | 52 => ⟨S2x2x8, .f32⟩
  | 53 => ⟨S2x2x8, .f32⟩
  | 54 => ⟨S2x2x8, .f32⟩
  | 55 => ⟨S2x2x8, .f32⟩
  | 56 => ⟨S2x2x8, .f32⟩
  | 57 => ⟨S2x2x8, .f32⟩
  | 58 => ⟨S2x2x8, .f32⟩
  | 59 => ⟨S_, .f32⟩
  | 60 => ⟨S_, .f32⟩
  | 61 => ⟨S_, .f32⟩
  | 62 => ⟨S_, .f32⟩
  | 63 => ⟨S_, .f32⟩
  | 64 => ⟨S2x2x8, .f32⟩
  | 65 => ⟨S2x2x8, .f32⟩
  | 66 => ⟨S2x2x8, .f32⟩
  | 67 => ⟨S2x2x8, .f32⟩
  | 68 => ⟨S2x2x8, .f32⟩
  | 69 => ⟨S2x2x8, .f32⟩
  | 70 => ⟨S2x2x8, .f32⟩
  | 71 => ⟨S2x2x8, .f32⟩
  | 72 => ⟨S2x2x8, .f32⟩
  | 73 => ⟨S2x2x8, .f32⟩
  | 74 => ⟨S2x2x8, .f32⟩
  | 75 => ⟨S2x2x8, .f32⟩
  | 76 => ⟨S_, .f32⟩
  | 77 => ⟨S_, .f32⟩
  | 78 => ⟨S_, .f32⟩
  | 79 => ⟨S_, .f32⟩
  | 80 => ⟨S2x2x8, .f32⟩
  | 81 => ⟨S2x2x8, .f32⟩
  | 82 => ⟨S2x2x8, .f32⟩
  | 83 => ⟨S2x2x8, .f32⟩
  | 84 => ⟨S2x2x8, .f32⟩
  | 85 => ⟨S2x2x8, .f32⟩
  | 86 => ⟨S2x2x8, .f32⟩
  | 87 => ⟨S2x2x8, .f32⟩
  | 88 => ⟨S2x2x8, .f32⟩
  | 89 => ⟨S2x2x8, .f32⟩
  | 90 => ⟨S_, .f32⟩
  | 91 => ⟨S_, .f32⟩
  | 92 => ⟨S_, .f32⟩
  | 93 => ⟨S_, .f32⟩
  | 94 => ⟨S2x2x8, .f32⟩
  | 95 => ⟨S2x2x8, .f32⟩
  | 96 => ⟨S2x2x8, .f32⟩
  | 97 => ⟨S2x2x8, .f32⟩
  | 98 => ⟨S2x2x8, .f32⟩
  | 99 => ⟨S2x2x8, .f32⟩
  | 100 => ⟨S2x2x8, .f32⟩
  | 101 => ⟨S2x2x8, .f32⟩
  | 102 => ⟨S2x2x8, .f32⟩
  | 103 => ⟨S2x2x8, .f32⟩
  | 104 => ⟨S2x2x8, .f32⟩
  | 105 => ⟨S2x2x8, .f32⟩
  | 106 => ⟨S1x2x2x8, .f32⟩
  | 107 => ⟨S1x2x2x8, .f32⟩
  | 108 => ⟨S2x2x2x8, .f32⟩
  | 109 => ⟨S1x2x2x8, .f32⟩
  | 110 => ⟨S1x2x2x8, .f32⟩
  | 111 => ⟨S2x2x2x8, .f32⟩
  | 112 => ⟨S1x1x1x1, .f32⟩
  | 113 => ⟨S_, .f32⟩
  | 114 => ⟨S1x1x1x1, .f32⟩
  | 115 => ⟨S_, .f32⟩
  | 116 => ⟨S1x1x1x1, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S10000x128, .f32⟩

abbrev hbmTy0_1 (i : Nat) : BufTy := match i % 128 with
  | 0 => ⟨S_, .f32⟩
  | 1 => ⟨S_, .f32⟩
  | 2 => ⟨S2x1x2x8, .f32⟩
  | 3 => ⟨S2x2x8, .f32⟩
  | 4 => ⟨S2x1x2x8, .f32⟩
  | 5 => ⟨S2x2x8, .f32⟩
  | 6 => ⟨S2x1x2x8, .f32⟩
  | 7 => ⟨S2x2x8, .f32⟩
  | 8 => ⟨S2x1x2x8, .f32⟩
  | 9 => ⟨S2x2x8, .f32⟩
  | 10 => ⟨S_, .f32⟩
  | 11 => ⟨S_, .f32⟩
  | 12 => ⟨S_, .f32⟩
  | 13 => ⟨S_, .f32⟩
  | 14 => ⟨S_, .f32⟩
  | 15 => ⟨S2x2x8, .f32⟩
  | 16 => ⟨S2x2x8, .f32⟩
  | 17 => ⟨S2x2x8, .f32⟩
  | 18 => ⟨S2x2x8, .f32⟩
  | 19 => ⟨S2x2x8, .f32⟩
  | 20 => ⟨S2x2x8, .f32⟩
  | 21 => ⟨S2x2x8, .f32⟩
  | 22 => ⟨S2x2x8, .f32⟩
  | 23 => ⟨S2x2x8, .f32⟩
  | 24 => ⟨S2x2x8, .f32⟩
  | 25 => ⟨S_, .f32⟩
  | 26 => ⟨S_, .f32⟩
  | 27 => ⟨S_, .f32⟩
  | 28 => ⟨S_, .f32⟩
  | 29 => ⟨S_, .f32⟩
  | 30 => ⟨S2x2x8, .f32⟩
  | 31 => ⟨S2x2x8, .f32⟩
  | 32 => ⟨S2x2x8, .f32⟩
  | 33 => ⟨S2x2x8, .f32⟩
  | 34 => ⟨S2x2x8, .f32⟩
  | 35 => ⟨S2x2x8, .f32⟩
  | 36 => ⟨S2x2x8, .f32⟩
  | 37 => ⟨S2x2x8, .f32⟩
  | 38 => ⟨S2x2x8, .f32⟩
  | 39 => ⟨S2x2x8, .f32⟩
  | 40 => ⟨S2x2x8, .f32⟩
  | 41 => ⟨S2x2x8, .f32⟩
  | 42 => ⟨S_, .f32⟩
  | 43 => ⟨S_, .f32⟩
  | 44 => ⟨S_, .f32⟩
  | 45 => ⟨S_, .f32⟩
  | 46 => ⟨S2x2x8, .f32⟩
  | 47 => ⟨S2x2x8, .f32⟩
  | 48 => ⟨S2x2x8, .f32⟩
  | 49 => ⟨S2x2x8, .f32⟩
  | 50 => ⟨S2x2x8, .f32⟩
  | 51 => ⟨S2x2x8, .f32⟩
  | 52 => ⟨S2x2x8, .f32⟩
  | 53 => ⟨S2x2x8, .f32⟩
  | 54 => ⟨S2x2x8, .f32⟩
  | 55 => ⟨S2x2x8, .f32⟩
  | 56 => ⟨S_, .f32⟩
  | 57 => ⟨S_, .f32⟩
  | 58 => ⟨S_, .f32⟩
  | 59 => ⟨S_, .f32⟩
  | 60 => ⟨S2x2x8, .f32⟩
  | 61 => ⟨S2x2x8, .f32⟩
  | 62 => ⟨S2x2x8, .f32⟩
  | 63 => ⟨S2x2x8, .f32⟩
  | 64 => ⟨S2x2x8, .f32⟩
  | 65 => ⟨S2x2x8, .f32⟩
  | 66 => ⟨S2x2x8, .f32⟩
  | 67 => ⟨S2x2x8, .f32⟩
  | 68 => ⟨S2x2x8, .f32⟩
  | 69 => ⟨S2x2x8, .f32⟩
  | 70 => ⟨S2x2x8, .f32⟩
  | 71 => ⟨S2x2x8, .f32⟩
  | 72 => ⟨S2x1x2x8, .f32⟩
  | 73 => ⟨S2x1x2x8, .f32⟩
  | 74 => ⟨S2x2x2x8, .f32⟩
  | 75 => ⟨S2x1x2x8, .f32⟩
  | 76 => ⟨S2x1x2x8, .f32⟩
  | 77 => ⟨S2x2x2x8, .f32⟩
  | 78 => ⟨S1x1x1x1, .f32⟩
  | 79 => ⟨S_, .f32⟩
  | 80 => ⟨S1x1x1x1, .f32⟩
  | 81 => ⟨S_, .f32⟩
  | 82 => ⟨S1x1x1x1, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S2x2x1x8, .f32⟩
  | 97 => ⟨S2x2x8, .f32⟩
  | 98 => ⟨S2x2x1x8, .f32⟩
  | 99 => ⟨S2x2x8, .f32⟩
  | 100 => ⟨S2x2x1x8, .f32⟩
  | 101 => ⟨S2x2x8, .f32⟩
  | 102 => ⟨S2x2x1x8, .f32⟩
  | 103 => ⟨S2x2x8, .f32⟩
  | 104 => ⟨S_, .f32⟩
  | 105 => ⟨S_, .f32⟩
  | 106 => ⟨S_, .f32⟩
  | 107 => ⟨S_, .f32⟩
  | 108 => ⟨S_, .f32⟩
  | 109 => ⟨S2x2x8, .f32⟩
  | 110 => ⟨S2x2x8, .f32⟩
  | 111 => ⟨S2x2x8, .f32⟩
  | 112 => ⟨S2x2x8, .f32⟩
  | 113 => ⟨S2x2x8, .f32⟩
  | 114 => ⟨S2x2x8, .f32⟩
  | 115 => ⟨S2x2x8, .f32⟩
  | 116 => ⟨S2x2x8, .f32⟩
  | 117 => ⟨S2x2x8, .f32⟩
  | 118 => ⟨S2x2x8, .f32⟩
  | 119 => ⟨S_, .f32⟩
  | 120 => ⟨S_, .f32⟩
  | 121 => ⟨S_, .f32⟩
  | 122 => ⟨S_, .f32⟩
  | 123 => ⟨S_, .f32⟩
  | 124 => ⟨S2x2x8, .f32⟩
  | 125 => ⟨S2x2x8, .f32⟩
  | 126 => ⟨S2x2x8, .f32⟩
  | 127 => ⟨S2x2x8, .f32⟩
  | _ => ⟨S10000x128, .f32⟩

abbrev hbmTy0_2 (i : Nat) : BufTy := match i % 128 with
  | 0 => ⟨S2x2x8, .f32⟩
  | 1 => ⟨S2x2x8, .f32⟩
  | 2 => ⟨S2x2x8, .f32⟩
  | 3 => ⟨S2x2x8, .f32⟩
  | 4 => ⟨S2x2x8, .f32⟩
  | 5 => ⟨S2x2x8, .f32⟩
  | 6 => ⟨S2x2x8, .f32⟩
  | 7 => ⟨S2x2x8, .f32⟩
  | 8 => ⟨S_, .f32⟩
  | 9 => ⟨S_, .f32⟩
  | 10 => ⟨S_, .f32⟩
  | 11 => ⟨S_, .f32⟩
  | 12 => ⟨S2x2x8, .f32⟩
  | 13 => ⟨S2x2x8, .f32⟩
  | 14 => ⟨S2x2x8, .f32⟩
  | 15 => ⟨S2x2x8, .f32⟩
  | 16 => ⟨S2x2x8, .f32⟩
  | 17 => ⟨S2x2x8, .f32⟩
  | 18 => ⟨S2x2x8, .f32⟩
  | 19 => ⟨S2x2x8, .f32⟩
  | 20 => ⟨S2x2x8, .f32⟩
  | 21 => ⟨S2x2x8, .f32⟩
  | 22 => ⟨S_, .f32⟩
  | 23 => ⟨S_, .f32⟩
  | 24 => ⟨S_, .f32⟩
  | 25 => ⟨S_, .f32⟩
  | 26 => ⟨S2x2x8, .f32⟩
  | 27 => ⟨S2x2x8, .f32⟩
  | 28 => ⟨S2x2x8, .f32⟩
  | 29 => ⟨S2x2x8, .f32⟩
  | 30 => ⟨S2x2x8, .f32⟩
  | 31 => ⟨S2x2x8, .f32⟩
  | 32 => ⟨S2x2x8, .f32⟩
  | 33 => ⟨S2x2x8, .f32⟩
  | 34 => ⟨S2x2x8, .f32⟩
  | 35 => ⟨S2x2x8, .f32⟩
  | 36 => ⟨S2x2x8, .f32⟩
  | 37 => ⟨S2x2x8, .f32⟩
  | 38 => ⟨S2x2x1x8, .f32⟩
  | 39 => ⟨S2x2x1x8, .f32⟩
  | 40 => ⟨S2x2x2x8, .f32⟩
  | 41 => ⟨S2x2x1x8, .f32⟩
  | 42 => ⟨S2x2x1x8, .f32⟩
  | 43 => ⟨S2x2x2x8, .f32⟩
  | 44 => ⟨S2x2x2x8, .i32⟩
  | 45 => ⟨S_, .i32⟩
  | 46 => ⟨S2x2x2x8, .i32⟩
  | 47 => ⟨S2x2x2x8, .i1⟩
  | 48 => ⟨S2x2x2x8, .f32⟩
  | 49 => ⟨S2x2x2x8, .f32⟩
  | 50 => ⟨S_, .i32⟩
  | 51 => ⟨S2x2x2x8, .i32⟩
  | 52 => ⟨S2x2x2x8, .i1⟩
  | 53 => ⟨S2x2x2x8, .f32⟩
  | 54 => ⟨S2x2x2x8, .f32⟩
  | 55 => ⟨S2x2x2x8, .i32⟩
  | 56 => ⟨S_, .i32⟩
  | 57 => ⟨S2x2x2x8, .i32⟩
  | 58 => ⟨S2x2x2x8, .i1⟩
  | 59 => ⟨S2x2x2x8, .f32⟩
  | 60 => ⟨S2x2x2x8, .f32⟩
  | 61 => ⟨S_, .i32⟩
  | 62 => ⟨S2x2x2x8, .i32⟩
  | 63 => ⟨S2x2x2x8, .i1⟩
  | 64 => ⟨S2x2x2x8, .f32⟩
  | 65 => ⟨S2x2x2x8, .f32⟩
  | 66 => ⟨S2x2x2x8, .i32⟩
  | 67 => ⟨S_, .i32⟩
  | 68 => ⟨S2x2x2x8, .i32⟩
  | 69 => ⟨S2x2x2x8, .i1⟩
  | 70 => ⟨S2x2x2x8, .f32⟩
  | 71 => ⟨S2x2x2x8, .f32⟩
  | 72 => ⟨S_, .i32⟩
  | 73 => ⟨S2x2x2x8, .i32⟩
  | 74 => ⟨S2x2x2x8, .i1⟩
  | 75 => ⟨S2x2x2x8, .f32⟩
  | 76 => ⟨S2x2x2x8, .f32⟩
  | 77 => ⟨S1x1x1x1, .f32⟩
  | 78 => ⟨S_, .f32⟩
  | 79 => ⟨S1x1x1x1, .f32⟩
  | 80 => ⟨S_, .f32⟩
  | 81 => ⟨S1x1x1x1, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S1x2x2x8, .f32⟩
  | 96 => ⟨S2x2x8, .f32⟩
  | 97 => ⟨S1x2x2x8, .f32⟩
  | 98 => ⟨S2x2x8, .f32⟩
  | 99 => ⟨S1x2x2x8, .f32⟩
  | 100 => ⟨S2x2x8, .f32⟩
  | 101 => ⟨S1x2x2x8, .f32⟩
  | 102 => ⟨S2x2x8, .f32⟩
  | 103 => ⟨S_, .f32⟩
  | 104 => ⟨S_, .f32⟩
  | 105 => ⟨S_, .f32⟩
  | 106 => ⟨S_, .f32⟩
  | 107 => ⟨S_, .f32⟩
  | 108 => ⟨S2x2x8, .f32⟩
  | 109 => ⟨S2x2x8, .f32⟩
  | 110 => ⟨S2x2x8, .f32⟩
  | 111 => ⟨S2x2x8, .f32⟩
  | 112 => ⟨S2x2x8, .f32⟩
  | 113 => ⟨S2x2x8, .f32⟩
  | 114 => ⟨S2x2x8, .f32⟩
  | 115 => ⟨S2x2x8, .f32⟩
  | 116 => ⟨S2x2x8, .f32⟩
  | 117 => ⟨S2x2x8, .f32⟩
  | 118 => ⟨S_, .f32⟩
  | 119 => ⟨S_, .f32⟩
  | 120 => ⟨S_, .f32⟩
  | 121 => ⟨S_, .f32⟩
  | 122 => ⟨S_, .f32⟩
  | 123 => ⟨S2x2x8, .f32⟩
  | 124 => ⟨S2x2x8, .f32⟩
  | 125 => ⟨S2x2x8, .f32⟩
  | 126 => ⟨S2x2x8, .f32⟩
  | 127 => ⟨S2x2x8, .f32⟩
  | _ => ⟨S10000x128, .f32⟩

abbrev hbmTy0_3 (i : Nat) : BufTy := match i % 128 with
  | 0 => ⟨S2x2x8, .f32⟩
  | 1 => ⟨S2x2x8, .f32⟩
  | 2 => ⟨S2x2x8, .f32⟩
  | 3 => ⟨S2x2x8, .f32⟩
  | 4 => ⟨S2x2x8, .f32⟩
  | 5 => ⟨S2x2x8, .f32⟩
  | 6 => ⟨S2x2x8, .f32⟩
  | 7 => ⟨S_, .f32⟩
  | 8 => ⟨S_, .f32⟩
  | 9 => ⟨S_, .f32⟩
  | 10 => ⟨S_, .f32⟩
  | 11 => ⟨S2x2x8, .f32⟩
  | 12 => ⟨S2x2x8, .f32⟩
  | 13 => ⟨S2x2x8, .f32⟩
  | 14 => ⟨S2x2x8, .f32⟩
  | 15 => ⟨S2x2x8, .f32⟩
  | 16 => ⟨S2x2x8, .f32⟩
  | 17 => ⟨S2x2x8, .f32⟩
  | 18 => ⟨S2x2x8, .f32⟩
  | 19 => ⟨S2x2x8, .f32⟩
  | 20 => ⟨S2x2x8, .f32⟩
  | 21 => ⟨S_, .f32⟩
  | 22 => ⟨S_, .f32⟩
  | 23 => ⟨S_, .f32⟩
  | 24 => ⟨S_, .f32⟩
  | 25 => ⟨S2x2x8, .f32⟩
  | 26 => ⟨S2x2x8, .f32⟩
  | 27 => ⟨S2x2x8, .f32⟩
  | 28 => ⟨S2x2x8, .f32⟩
  | 29 => ⟨S2x2x8, .f32⟩
  | 30 => ⟨S2x2x8, .f32⟩
  | 31 => ⟨S2x2x8, .f32⟩
  | 32 => ⟨S2x2x8, .f32⟩
  | 33 => ⟨S2x2x8, .f32⟩
  | 34 => ⟨S2x2x8, .f32⟩
  | 35 => ⟨S2x2x8, .f32⟩
  | 36 => ⟨S2x2x8, .f32⟩
  | 37 => ⟨S1x2x2x8, .f32⟩
  | 38 => ⟨S1x2x2x8, .f32⟩
  | 39 => ⟨S2x2x2x8, .f32⟩
  | 40 => ⟨S1x2x2x8, .f32⟩
  | 41 => ⟨S1x2x2x8, .f32⟩
  | 42 => ⟨S2x2x2x8, .f32⟩
  | 43 => ⟨S1x1x1x1, .f32⟩
  | 44 => ⟨S_, .f32⟩
  | 45 => ⟨S1x1x1x1, .f32⟩
  | 46 => ⟨S_, .f32⟩
  | 47 => ⟨S1x1x1x1, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S2x1x2x8, .f32⟩
  | 62 => ⟨S2x2x8, .f32⟩
  | 63 => ⟨S2x1x2x8, .f32⟩
  | 64 => ⟨S2x2x8, .f32⟩
  | 65 => ⟨S2x1x2x8, .f32⟩
  | 66 => ⟨S2x2x8, .f32⟩
  | 67 => ⟨S2x1x2x8, .f32⟩
  | 68 => ⟨S2x2x8, .f32⟩
  | 69 => ⟨S_, .f32⟩
  | 70 => ⟨S_, .f32⟩
  | 71 => ⟨S_, .f32⟩
  | 72 => ⟨S_, .f32⟩
  | 73 => ⟨S_, .f32⟩
  | 74 => ⟨S2x2x8, .f32⟩
  | 75 => ⟨S2x2x8, .f32⟩
  | 76 => ⟨S2x2x8, .f32⟩
  | 77 => ⟨S2x2x8, .f32⟩
  | 78 => ⟨S2x2x8, .f32⟩
  | 79 => ⟨S2x2x8, .f32⟩
  | 80 => ⟨S2x2x8, .f32⟩
  | 81 => ⟨S2x2x8, .f32⟩
  | 82 => ⟨S2x2x8, .f32⟩
  | 83 => ⟨S2x2x8, .f32⟩
  | 84 => ⟨S_, .f32⟩
  | 85 => ⟨S_, .f32⟩
  | 86 => ⟨S_, .f32⟩
  | 87 => ⟨S_, .f32⟩
  | 88 => ⟨S_, .f32⟩
  | 89 => ⟨S2x2x8, .f32⟩
  | 90 => ⟨S2x2x8, .f32⟩
  | 91 => ⟨S2x2x8, .f32⟩
  | 92 => ⟨S2x2x8, .f32⟩
  | 93 => ⟨S2x2x8, .f32⟩
  | 94 => ⟨S2x2x8, .f32⟩
  | 95 => ⟨S2x2x8, .f32⟩
  | 96 => ⟨S2x2x8, .f32⟩
  | 97 => ⟨S2x2x8, .f32⟩
  | 98 => ⟨S2x2x8, .f32⟩
  | 99 => ⟨S2x2x8, .f32⟩
  | 100 => ⟨S2x2x8, .f32⟩
  | 101 => ⟨S_, .f32⟩
  | 102 => ⟨S_, .f32⟩
  | 103 => ⟨S_, .f32⟩
  | 104 => ⟨S_, .f32⟩
  | 105 => ⟨S2x2x8, .f32⟩
  | 106 => ⟨S2x2x8, .f32⟩
  | 107 => ⟨S2x2x8, .f32⟩
  | 108 => ⟨S2x2x8, .f32⟩
  | 109 => ⟨S2x2x8, .f32⟩
  | 110 => ⟨S2x2x8, .f32⟩
  | 111 => ⟨S2x2x8, .f32⟩
  | 112 => ⟨S2x2x8, .f32⟩
  | 113 => ⟨S2x2x8, .f32⟩
  | 114 => ⟨S2x2x8, .f32⟩
  | 115 => ⟨S_, .f32⟩
  | 116 => ⟨S_, .f32⟩
  | 117 => ⟨S_, .f32⟩
  | 118 => ⟨S_, .f32⟩
  | 119 => ⟨S2x2x8, .f32⟩
  | 120 => ⟨S2x2x8, .f32⟩
  | 121 => ⟨S2x2x8, .f32⟩
  | 122 => ⟨S2x2x8, .f32⟩
  | 123 => ⟨S2x2x8, .f32⟩
  | 124 => ⟨S2x2x8, .f32⟩
  | 125 => ⟨S2x2x8, .f32⟩
  | 126 => ⟨S2x2x8, .f32⟩
  | 127 => ⟨S2x2x8, .f32⟩
  | _ => ⟨S10000x128, .f32⟩

abbrev hbmTy0_4 (i : Nat) : BufTy := match i % 128 with
  | 0 => ⟨S2x2x8, .f32⟩
  | 1 => ⟨S2x2x8, .f32⟩
  | 2 => ⟨S2x2x8, .f32⟩
  | 3 => ⟨S2x1x2x8, .f32⟩
  | 4 => ⟨S2x1x2x8, .f32⟩
  | 5 => ⟨S2x2x2x8, .f32⟩
  | 6 => ⟨S2x1x2x8, .f32⟩
  | 7 => ⟨S2x1x2x8, .f32⟩
  | 8 => ⟨S2x2x2x8, .f32⟩
  | 9 => ⟨S1x1x1x1, .f32⟩
  | 10 => ⟨S_, .f32⟩
  | 11 => ⟨S1x1x1x1, .f32⟩
  | 12 => ⟨S_, .f32⟩
  | 13 => ⟨S1x1x1x1, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S2x2x1x8, .f32⟩
  | 28 => ⟨S2x2x8, .f32⟩
  | 29 => ⟨S2x2x1x8, .f32⟩
  | 30 => ⟨S2x2x8, .f32⟩
  | 31 => ⟨S2x2x1x8, .f32⟩
  | 32 => ⟨S2x2x8, .f32⟩
  | 33 => ⟨S2x2x1x8, .f32⟩
  | 34 => ⟨S2x2x8, .f32⟩
  | 35 => ⟨S_, .f32⟩
  | 36 => ⟨S_, .f32⟩
  | 37 => ⟨S_, .f32⟩
  | 38 => ⟨S_, .f32⟩
  | 39 => ⟨S_, .f32⟩
  | 40 => ⟨S2x2x8, .f32⟩
  | 41 => ⟨S2x2x8, .f32⟩
  | 42 => ⟨S2x2x8, .f32⟩
  | 43 => ⟨S2x2x8, .f32⟩
  | 44 => ⟨S2x2x8, .f32⟩
  | 45 => ⟨S2x2x8, .f32⟩
  | 46 => ⟨S2x2x8, .f32⟩
  | 47 => ⟨S2x2x8, .f32⟩
  | 48 => ⟨S2x2x8, .f32⟩
  | 49 => ⟨S2x2x8, .f32⟩
  | 50 => ⟨S_, .f32⟩
  | 51 => ⟨S_, .f32⟩
  | 52 => ⟨S_, .f32⟩
  | 53 => ⟨S_, .f32⟩
  | 54 => ⟨S_, .f32⟩
  | 55 => ⟨S2x2x8, .f32⟩
  | 56 => ⟨S2x2x8, .f32⟩
  | 57 => ⟨S2x2x8, .f32⟩
  | 58 => ⟨S2x2x8, .f32⟩
  | 59 => ⟨S2x2x8, .f32⟩
  | 60 => ⟨S2x2x8, .f32⟩
  | 61 => ⟨S2x2x8, .f32⟩
  | 62 => ⟨S2x2x8, .f32⟩
  | 63 => ⟨S2x2x8, .f32⟩
  | 64 => ⟨S2x2x8, .f32⟩
  | 65 => ⟨S2x2x8, .f32⟩
  | 66 => ⟨S2x2x8, .f32⟩
  | 67 => ⟨S_, .f32⟩
  | 68 => ⟨S_, .f32⟩
  | 69 => ⟨S_, .f32⟩
  | 70 => ⟨S_, .f32⟩
  | 71 => ⟨S2x2x8, .f32⟩
  | 72 => ⟨S2x2x8, .f32⟩
  | 73 => ⟨S2x2x8, .f32⟩
  | 74 => ⟨S2x2x8, .f32⟩
  | 75 => ⟨S2x2x8, .f32⟩
  | 76 => ⟨S2x2x8, .f32⟩
  | 77 => ⟨S2x2x8, .f32⟩
  | 78 => ⟨S2x2x8, .f32⟩
  | 79 => ⟨S2x2x8, .f32⟩
  | 80 => ⟨S2x2x8, .f32⟩
  | 81 => ⟨S_, .f32⟩
  | 82 => ⟨S_, .f32⟩
  | 83 => ⟨S_, .f32⟩
  | 84 => ⟨S_, .f32⟩
  | 85 => ⟨S2x2x8, .f32⟩
  | 86 => ⟨S2x2x8, .f32⟩
  | 87 => ⟨S2x2x8, .f32⟩
  | 88 => ⟨S2x2x8, .f32⟩
  | 89 => ⟨S2x2x8, .f32⟩
  | 90 => ⟨S2x2x8, .f32⟩
  | 91 => ⟨S2x2x8, .f32⟩
  | 92 => ⟨S2x2x8, .f32⟩
  | 93 => ⟨S2x2x8, .f32⟩
  | 94 => ⟨S2x2x8, .f32⟩
  | 95 => ⟨S2x2x8, .f32⟩
  | 96 => ⟨S2x2x8, .f32⟩
  | 97 => ⟨S2x2x1x8, .f32⟩
  | 98 => ⟨S2x2x1x8, .f32⟩
  | 99 => ⟨S2x2x2x8, .f32⟩
  | 100 => ⟨S2x2x1x8, .f32⟩
  | 101 => ⟨S2x2x1x8, .f32⟩
  | 102 => ⟨S2x2x2x8, .f32⟩
  | 103 => ⟨S2x2x2x8, .i32⟩
  | 104 => ⟨S_, .i32⟩
  | 105 => ⟨S2x2x2x8, .i32⟩
  | 106 => ⟨S2x2x2x8, .i1⟩
  | 107 => ⟨S2x2x2x8, .f32⟩
  | 108 => ⟨S2x2x2x8, .f32⟩
  | 109 => ⟨S_, .i32⟩
  | 110 => ⟨S2x2x2x8, .i32⟩
  | 111 => ⟨S2x2x2x8, .i1⟩
  | 112 => ⟨S2x2x2x8, .f32⟩
  | 113 => ⟨S2x2x2x8, .f32⟩
  | 114 => ⟨S2x2x2x8, .i32⟩
  | 115 => ⟨S_, .i32⟩
  | 116 => ⟨S2x2x2x8, .i32⟩
  | 117 => ⟨S2x2x2x8, .i1⟩
  | 118 => ⟨S2x2x2x8, .f32⟩
  | 119 => ⟨S2x2x2x8, .f32⟩
  | 120 => ⟨S_, .i32⟩
  | 121 => ⟨S2x2x2x8, .i32⟩
  | 122 => ⟨S2x2x2x8, .i1⟩
  | 123 => ⟨S2x2x2x8, .f32⟩
  | 124 => ⟨S2x2x2x8, .f32⟩
  | 125 => ⟨S2x2x2x8, .i32⟩
  | 126 => ⟨S_, .i32⟩
  | 127 => ⟨S2x2x2x8, .i32⟩
  | _ => ⟨S10000x128, .f32⟩

abbrev hbmTy0_5 (i : Nat) : BufTy := match i % 128 with
  | 0 => ⟨S2x2x2x8, .i1⟩
  | 1 => ⟨S2x2x2x8, .f32⟩
  | 2 => ⟨S2x2x2x8, .f32⟩
  | 3 => ⟨S_, .i32⟩
  | 4 => ⟨S2x2x2x8, .i32⟩
  | 5 => ⟨S2x2x2x8, .i1⟩
  | 6 => ⟨S2x2x2x8, .f32⟩
  | 7 => ⟨S2x2x2x8, .f32⟩
  | 8 => ⟨S8x8, .f32⟩
  | 9 => ⟨S8x8, .f32⟩
  | 10 => ⟨S1x8x8, .f32⟩
  | 11 => ⟨S1x8x8, .f32⟩
  | 12 => ⟨S2x8x8, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_cst_4 : Ref sig .tc := ⟨.hbm, 118, rfl⟩
abbrev main_v104 : Ref sig .tc := ⟨.hbm, 119, rfl⟩
abbrev main_v105 : Ref sig .tc := ⟨.hbm, 120, rfl⟩
abbrev main_cst_5 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_cst_6 : Ref sig .tc := ⟨.hbm, 125, rfl⟩
abbrev main_v109 : Ref sig .tc := ⟨.hbm, 126, rfl⟩
abbrev main_v110 : Ref sig .tc := ⟨.hbm, 127, rfl⟩
abbrev main_cst_7 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_cst_8 : Ref sig .tc := ⟨.hbm, 212, rfl⟩
abbrev main_v194 : Ref sig .tc := ⟨.hbm, 213, rfl⟩
abbrev main_v195 : Ref sig .tc := ⟨.hbm, 214, rfl⟩
abbrev main_cst_9 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_cst_10 : Ref sig .tc := ⟨.hbm, 219, rfl⟩
abbrev main_v199 : Ref sig .tc := ⟨.hbm, 220, rfl⟩
abbrev main_v200 : Ref sig .tc := ⟨.hbm, 221, rfl⟩
abbrev main_cst_11 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_v226 : Ref sig .tc := ⟨.hbm, 248, rfl⟩
abbrev main_v227 : Ref sig .tc := ⟨.hbm, 249, rfl⟩
abbrev main_v228 : Ref sig .tc := ⟨.hbm, 250, rfl⟩
abbrev main_v229 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_v238 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_v243 : Ref sig .tc := ⟨.hbm, 265, rfl⟩
abbrev main_v244 : Ref sig .tc := ⟨.hbm, 266, rfl⟩
abbrev main_v245 : Ref sig .tc := ⟨.hbm, 267, rfl⟩
abbrev main_v246 : Ref sig .tc := ⟨.hbm, 268, rfl⟩
abbrev main_v247 : Ref sig .tc := ⟨.hbm, 269, rfl⟩
abbrev main_v248 : Ref sig .tc := ⟨.hbm, 270, rfl⟩
abbrev main_v249 : Ref sig .tc := ⟨.hbm, 271, rfl⟩
abbrev main_v250 : Ref sig .tc := ⟨.hbm, 272, rfl⟩
abbrev main_v251 : Ref sig .tc := ⟨.hbm, 273, rfl⟩
abbrev main_v252 : Ref sig .tc := ⟨.hbm, 274, rfl⟩
abbrev main_v253 : Ref sig .tc := ⟨.hbm, 275, rfl⟩
abbrev main_v254 : Ref sig .tc := ⟨.hbm, 276, rfl⟩
abbrev main_v255 : Ref sig .tc := ⟨.hbm, 277, rfl⟩
abbrev main_v256 : Ref sig .tc := ⟨.hbm, 278, rfl⟩
abbrev main_v257 : Ref sig .tc := ⟨.hbm, 279, rfl⟩
abbrev main_v258 : Ref sig .tc := ⟨.hbm, 280, rfl⟩
abbrev main_v259 : Ref sig .tc := ⟨.hbm, 281, rfl⟩
abbrev main_v260 : Ref sig .tc := ⟨.hbm, 282, rfl⟩
abbrev main_v261 : Ref sig .tc := ⟨.hbm, 283, rfl⟩
abbrev main_v262 : Ref sig .tc := ⟨.hbm, 284, rfl⟩
abbrev main_v263 : Ref sig .tc := ⟨.hbm, 285, rfl⟩
abbrev main_v264 : Ref sig .tc := ⟨.hbm, 286, rfl⟩
abbrev main_v265 : Ref sig .tc := ⟨.hbm, 287, rfl⟩
abbrev main_v266 : Ref sig .tc := ⟨.hbm, 288, rfl⟩
abbrev main_v267 : Ref sig .tc := ⟨.hbm, 289, rfl⟩
abbrev main_v268 : Ref sig .tc := ⟨.hbm, 290, rfl⟩
abbrev main_v269 : Ref sig .tc := ⟨.hbm, 291, rfl⟩
abbrev main_v270 : Ref sig .tc := ⟨.hbm, 292, rfl⟩
abbrev main_v271 : Ref sig .tc := ⟨.hbm, 293, rfl⟩
abbrev main_v272 : Ref sig .tc := ⟨.hbm, 294, rfl⟩
abbrev main_v273 : Ref sig .tc := ⟨.hbm, 295, rfl⟩
abbrev main_v274 : Ref sig .tc := ⟨.hbm, 296, rfl⟩
abbrev main_v275 : Ref sig .tc := ⟨.hbm, 297, rfl⟩
abbrev main_v276 : Ref sig .tc := ⟨.hbm, 298, rfl⟩
abbrev main_v277 : Ref sig .tc := ⟨.hbm, 299, rfl⟩
abbrev main_v278 : Ref sig .tc := ⟨.hbm, 300, rfl⟩
abbrev main_c_12 : Ref sig .tc := ⟨.hbm, 301, rfl⟩
abbrev main_v279 : Ref sig .tc := ⟨.hbm, 302, rfl⟩
abbrev main_v280 : Ref sig .tc := ⟨.hbm, 303, rfl⟩
abbrev main_v281 : Ref sig .tc := ⟨.hbm, 304, rfl⟩
abbrev main_v282 : Ref sig .tc := ⟨.hbm, 305, rfl⟩
abbrev main_c_13 : Ref sig .tc := ⟨.hbm, 306, rfl⟩
abbrev main_v283 : Ref sig .tc := ⟨.hbm, 307, rfl⟩
abbrev main_v284 : Ref sig .tc := ⟨.hbm, 308, rfl⟩
abbrev main_v285 : Ref sig .tc := ⟨.hbm, 309, rfl⟩
abbrev main_v286 : Ref sig .tc := ⟨.hbm, 310, rfl⟩
abbrev main_v287 : Ref sig .tc := ⟨.hbm, 311, rfl⟩
abbrev main_c_14 : Ref sig .tc := ⟨.hbm, 312, rfl⟩
abbrev main_v288 : Ref sig .tc := ⟨.hbm, 313, rfl⟩
abbrev main_v289 : Ref sig .tc := ⟨.hbm, 314, rfl⟩
abbrev main_v290 : Ref sig .tc := ⟨.hbm, 315, rfl⟩
abbrev main_v291 : Ref sig .tc := ⟨.hbm, 316, rfl⟩
abbrev main_c_15 : Ref sig .tc := ⟨.hbm, 317, rfl⟩
abbrev main_v292 : Ref sig .tc := ⟨.hbm, 318, rfl⟩
abbrev main_v293 : Ref sig .tc := ⟨.hbm, 319, rfl⟩
abbrev main_v294 : Ref sig .tc := ⟨.hbm, 320, rfl⟩
abbrev main_v295 : Ref sig .tc := ⟨.hbm, 321, rfl⟩
abbrev main_v296 : Ref sig .tc := ⟨.hbm, 322, rfl⟩
abbrev main_c_16 : Ref sig .tc := ⟨.hbm, 323, rfl⟩
abbrev main_v297 : Ref sig .tc := ⟨.hbm, 324, rfl⟩
abbrev main_v298 : Ref sig .tc := ⟨.hbm, 325, rfl⟩
abbrev main_v299 : Ref sig .tc := ⟨.hbm, 326, rfl⟩
abbrev main_v300 : Ref sig .tc := ⟨.hbm, 327, rfl⟩
abbrev main_c_17 : Ref sig .tc := ⟨.hbm, 328, rfl⟩
abbrev main_v301 : Ref sig .tc := ⟨.hbm, 329, rfl⟩
abbrev main_v302 : Ref sig .tc := ⟨.hbm, 330, rfl⟩
abbrev main_v303 : Ref sig .tc := ⟨.hbm, 331, rfl⟩
abbrev main_v304 : Ref sig .tc := ⟨.hbm, 332, rfl⟩
abbrev main_v305 : Ref sig .tc := ⟨.hbm, 333, rfl⟩
abbrev main_v306 : Ref sig .tc := ⟨.hbm, 334, rfl⟩
abbrev main_v307 : Ref sig .tc := ⟨.hbm, 335, rfl⟩
abbrev main_v308 : Ref sig .tc := ⟨.hbm, 336, rfl⟩
abbrev main_v309 : Ref sig .tc := ⟨.hbm, 337, rfl⟩
abbrev main_v310 : Ref sig .tc := ⟨.hbm, 338, rfl⟩
abbrev main_cst_18 : Ref sig .tc := ⟨.hbm, 339, rfl⟩
abbrev main_v311 : Ref sig .tc := ⟨.hbm, 340, rfl⟩
abbrev main_v312 : Ref sig .tc := ⟨.hbm, 341, rfl⟩
abbrev main_cst_19 : Ref sig .tc := ⟨.hbm, 342, rfl⟩
abbrev main_v313 : Ref sig .tc := ⟨.hbm, 343, rfl⟩
abbrev main_v314 : Ref sig .tc := ⟨.hbm, 344, rfl⟩
abbrev main_v315 : Ref sig .tc := ⟨.hbm, 345, rfl⟩
abbrev main_cst_20 : Ref sig .tc := ⟨.hbm, 346, rfl⟩
abbrev main_v316 : Ref sig .tc := ⟨.hbm, 347, rfl⟩
abbrev main_v317 : Ref sig .tc := ⟨.hbm, 348, rfl⟩
abbrev main_cst_21 : Ref sig .tc := ⟨.hbm, 349, rfl⟩
abbrev main_v318 : Ref sig .tc := ⟨.hbm, 350, rfl⟩
abbrev main_v319 : Ref sig .tc := ⟨.hbm, 351, rfl⟩
abbrev main_v320 : Ref sig .tc := ⟨.hbm, 352, rfl⟩
abbrev main_v321 : Ref sig .tc := ⟨.hbm, 353, rfl⟩
abbrev main_v322 : Ref sig .tc := ⟨.hbm, 354, rfl⟩
abbrev main_v323 : Ref sig .tc := ⟨.hbm, 355, rfl⟩
abbrev main_v324 : Ref sig .tc := ⟨.hbm, 356, rfl⟩
abbrev main_v325 : Ref sig .tc := ⟨.hbm, 357, rfl⟩
abbrev main_v326 : Ref sig .tc := ⟨.hbm, 358, rfl⟩
abbrev main_v327 : Ref sig .tc := ⟨.hbm, 359, rfl⟩
abbrev main_v328 : Ref sig .tc := ⟨.hbm, 360, rfl⟩
abbrev main_v329 : Ref sig .tc := ⟨.hbm, 361, rfl⟩
abbrev main_v330 : Ref sig .tc := ⟨.hbm, 362, rfl⟩
abbrev main_v331 : Ref sig .tc := ⟨.hbm, 363, rfl⟩
abbrev main_v332 : Ref sig .tc := ⟨.hbm, 364, rfl⟩
abbrev main_v333 : Ref sig .tc := ⟨.hbm, 365, rfl⟩
abbrev main_v334 : Ref sig .tc := ⟨.hbm, 366, rfl⟩
abbrev main_v335 : Ref sig .tc := ⟨.hbm, 367, rfl⟩
abbrev main_v336 : Ref sig .tc := ⟨.hbm, 368, rfl⟩
abbrev main_v337 : Ref sig .tc := ⟨.hbm, 369, rfl⟩
abbrev main_v338 : Ref sig .tc := ⟨.hbm, 370, rfl⟩
abbrev main_v339 : Ref sig .tc := ⟨.hbm, 371, rfl⟩
abbrev main_v340 : Ref sig .tc := ⟨.hbm, 372, rfl⟩
abbrev main_v341 : Ref sig .tc := ⟨.hbm, 373, rfl⟩
abbrev main_v342 : Ref sig .tc := ⟨.hbm, 374, rfl⟩
abbrev main_v343 : Ref sig .tc := ⟨.hbm, 375, rfl⟩
abbrev main_v344 : Ref sig .tc := ⟨.hbm, 376, rfl⟩
abbrev main_v345 : Ref sig .tc := ⟨.hbm, 377, rfl⟩
abbrev main_v346 : Ref sig .tc := ⟨.hbm, 378, rfl⟩
abbrev main_v347 : Ref sig .tc := ⟨.hbm, 379, rfl⟩
abbrev main_v348 : Ref sig .tc := ⟨.hbm, 380, rfl⟩
abbrev main_v349 : Ref sig .tc := ⟨.hbm, 381, rfl⟩
abbrev main_v350 : Ref sig .tc := ⟨.hbm, 382, rfl⟩
abbrev main_v351 : Ref sig .tc := ⟨.hbm, 383, rfl⟩
abbrev main_v352 : Ref sig .tc := ⟨.hbm, 384, rfl⟩
abbrev main_v353 : Ref sig .tc := ⟨.hbm, 385, rfl⟩
abbrev main_v354 : Ref sig .tc := ⟨.hbm, 386, rfl⟩
abbrev main_v355 : Ref sig .tc := ⟨.hbm, 387, rfl⟩
abbrev main_v356 : Ref sig .tc := ⟨.hbm, 388, rfl⟩
abbrev main_v357 : Ref sig .tc := ⟨.hbm, 389, rfl⟩
abbrev main_v358 : Ref sig .tc := ⟨.hbm, 390, rfl⟩
abbrev main_v359 : Ref sig .tc := ⟨.hbm, 391, rfl⟩
abbrev main_v360 : Ref sig .tc := ⟨.hbm, 392, rfl⟩
abbrev main_v361 : Ref sig .tc := ⟨.hbm, 393, rfl⟩
abbrev main_v362 : Ref sig .tc := ⟨.hbm, 394, rfl⟩
abbrev main_v363 : Ref sig .tc := ⟨.hbm, 395, rfl⟩
abbrev main_v364 : Ref sig .tc := ⟨.hbm, 396, rfl⟩
abbrev main_v365 : Ref sig .tc := ⟨.hbm, 397, rfl⟩
abbrev main_v366 : Ref sig .tc := ⟨.hbm, 398, rfl⟩
abbrev main_v367 : Ref sig .tc := ⟨.hbm, 399, rfl⟩
abbrev main_v368 : Ref sig .tc := ⟨.hbm, 400, rfl⟩
abbrev main_v369 : Ref sig .tc := ⟨.hbm, 401, rfl⟩
abbrev main_v370 : Ref sig .tc := ⟨.hbm, 402, rfl⟩
abbrev main_v371 : Ref sig .tc := ⟨.hbm, 403, rfl⟩
abbrev main_v372 : Ref sig .tc := ⟨.hbm, 404, rfl⟩
abbrev main_v373 : Ref sig .tc := ⟨.hbm, 405, rfl⟩
abbrev main_v374 : Ref sig .tc := ⟨.hbm, 406, rfl⟩
abbrev main_v375 : Ref sig .tc := ⟨.hbm, 407, rfl⟩
abbrev main_v376 : Ref sig .tc := ⟨.hbm, 408, rfl⟩
abbrev main_v377 : Ref sig .tc := ⟨.hbm, 409, rfl⟩
abbrev main_v378 : Ref sig .tc := ⟨.hbm, 410, rfl⟩
abbrev main_v379 : Ref sig .tc := ⟨.hbm, 411, rfl⟩
abbrev main_v380 : Ref sig .tc := ⟨.hbm, 412, rfl⟩
abbrev main_v381 : Ref sig .tc := ⟨.hbm, 413, rfl⟩
abbrev main_v382 : Ref sig .tc := ⟨.hbm, 414, rfl⟩
abbrev main_v383 : Ref sig .tc := ⟨.hbm, 415, rfl⟩
abbrev main_v384 : Ref sig .tc := ⟨.hbm, 416, rfl⟩
abbrev main_v385 : Ref sig .tc := ⟨.hbm, 417, rfl⟩
abbrev main_v386 : Ref sig .tc := ⟨.hbm, 418, rfl⟩
abbrev main_v387 : Ref sig .tc := ⟨.hbm, 419, rfl⟩
abbrev main_v388 : Ref sig .tc := ⟨.hbm, 420, rfl⟩
abbrev main_v389 : Ref sig .tc := ⟨.hbm, 421, rfl⟩
abbrev main_v390 : Ref sig .tc := ⟨.hbm, 422, rfl⟩
abbrev main_v391 : Ref sig .tc := ⟨.hbm, 423, rfl⟩
abbrev main_v392 : Ref sig .tc := ⟨.hbm, 424, rfl⟩
abbrev main_v393 : Ref sig .tc := ⟨.hbm, 425, rfl⟩
abbrev main_v394 : Ref sig .tc := ⟨.hbm, 426, rfl⟩
abbrev main_v395 : Ref sig .tc := ⟨.hbm, 427, rfl⟩
abbrev main_v396 : Ref sig .tc := ⟨.hbm, 428, rfl⟩
abbrev main_v397 : Ref sig .tc := ⟨.hbm, 429, rfl⟩
abbrev main_v398 : Ref sig .tc := ⟨.hbm, 430, rfl⟩
abbrev main_v399 : Ref sig .tc := ⟨.hbm, 431, rfl⟩
abbrev main_v400 : Ref sig .tc := ⟨.hbm, 432, rfl⟩
abbrev main_cst_22 : Ref sig .tc := ⟨.hbm, 433, rfl⟩
abbrev main_v401 : Ref sig .tc := ⟨.hbm, 434, rfl⟩
abbrev main_v402 : Ref sig .tc := ⟨.hbm, 435, rfl⟩
abbrev main_cst_23 : Ref sig .tc := ⟨.hbm, 436, rfl⟩
abbrev main_v403 : Ref sig .tc := ⟨.hbm, 437, rfl⟩
abbrev main_v404 : Ref sig .tc := ⟨.hbm, 438, rfl⟩
abbrev main_v405 : Ref sig .tc := ⟨.hbm, 439, rfl⟩
abbrev main_cst_24 : Ref sig .tc := ⟨.hbm, 440, rfl⟩
abbrev main_v406 : Ref sig .tc := ⟨.hbm, 441, rfl⟩
abbrev main_v407 : Ref sig .tc := ⟨.hbm, 442, rfl⟩
abbrev main_cst_25 : Ref sig .tc := ⟨.hbm, 443, rfl⟩
abbrev main_v408 : Ref sig .tc := ⟨.hbm, 444, rfl⟩
abbrev main_v409 : Ref sig .tc := ⟨.hbm, 445, rfl⟩
abbrev main_v410 : Ref sig .tc := ⟨.hbm, 446, rfl⟩
abbrev main_v411 : Ref sig .tc := ⟨.hbm, 447, rfl⟩
abbrev main_v412 : Ref sig .tc := ⟨.hbm, 448, rfl⟩
abbrev main_v413 : Ref sig .tc := ⟨.hbm, 449, rfl⟩
abbrev main_v414 : Ref sig .tc := ⟨.hbm, 450, rfl⟩
abbrev main_v415 : Ref sig .tc := ⟨.hbm, 451, rfl⟩
abbrev main_v416 : Ref sig .tc := ⟨.hbm, 452, rfl⟩
abbrev main_v417 : Ref sig .tc := ⟨.hbm, 453, rfl⟩
abbrev main_v418 : Ref sig .tc := ⟨.hbm, 454, rfl⟩
abbrev main_v419 : Ref sig .tc := ⟨.hbm, 455, rfl⟩
abbrev main_v420 : Ref sig .tc := ⟨.hbm, 456, rfl⟩
abbrev main_v421 : Ref sig .tc := ⟨.hbm, 457, rfl⟩
abbrev main_v422 : Ref sig .tc := ⟨.hbm, 458, rfl⟩
abbrev main_v423 : Ref sig .tc := ⟨.hbm, 459, rfl⟩
abbrev main_v424 : Ref sig .tc := ⟨.hbm, 460, rfl⟩
abbrev main_v425 : Ref sig .tc := ⟨.hbm, 461, rfl⟩
abbrev main_v426 : Ref sig .tc := ⟨.hbm, 462, rfl⟩
abbrev main_v427 : Ref sig .tc := ⟨.hbm, 463, rfl⟩
abbrev main_v428 : Ref sig .tc := ⟨.hbm, 464, rfl⟩
abbrev main_v429 : Ref sig .tc := ⟨.hbm, 465, rfl⟩
abbrev main_v430 : Ref sig .tc := ⟨.hbm, 466, rfl⟩
abbrev main_v431 : Ref sig .tc := ⟨.hbm, 467, rfl⟩
abbrev main_v432 : Ref sig .tc := ⟨.hbm, 468, rfl⟩
abbrev main_v433 : Ref sig .tc := ⟨.hbm, 469, rfl⟩
abbrev main_v434 : Ref sig .tc := ⟨.hbm, 470, rfl⟩
abbrev main_v435 : Ref sig .tc := ⟨.hbm, 471, rfl⟩
abbrev main_v436 : Ref sig .tc := ⟨.hbm, 472, rfl⟩
abbrev main_v437 : Ref sig .tc := ⟨.hbm, 473, rfl⟩
abbrev main_v438 : Ref sig .tc := ⟨.hbm, 474, rfl⟩
abbrev main_v439 : Ref sig .tc := ⟨.hbm, 475, rfl⟩
abbrev main_v440 : Ref sig .tc := ⟨.hbm, 476, rfl⟩
abbrev main_v441 : Ref sig .tc := ⟨.hbm, 477, rfl⟩
abbrev main_v442 : Ref sig .tc := ⟨.hbm, 478, rfl⟩
abbrev main_v443 : Ref sig .tc := ⟨.hbm, 479, rfl⟩
abbrev main_v444 : Ref sig .tc := ⟨.hbm, 480, rfl⟩
abbrev main_v445 : Ref sig .tc := ⟨.hbm, 481, rfl⟩
abbrev main_v446 : Ref sig .tc := ⟨.hbm, 482, rfl⟩
abbrev main_v447 : Ref sig .tc := ⟨.hbm, 483, rfl⟩
abbrev main_v448 : Ref sig .tc := ⟨.hbm, 484, rfl⟩
abbrev main_v449 : Ref sig .tc := ⟨.hbm, 485, rfl⟩
abbrev main_v450 : Ref sig .tc := ⟨.hbm, 486, rfl⟩
abbrev main_v451 : Ref sig .tc := ⟨.hbm, 487, rfl⟩
abbrev main_v452 : Ref sig .tc := ⟨.hbm, 488, rfl⟩
abbrev main_v453 : Ref sig .tc := ⟨.hbm, 489, rfl⟩
abbrev main_v454 : Ref sig .tc := ⟨.hbm, 490, rfl⟩
abbrev main_v455 : Ref sig .tc := ⟨.hbm, 491, rfl⟩
abbrev main_v456 : Ref sig .tc := ⟨.hbm, 492, rfl⟩
abbrev main_v457 : Ref sig .tc := ⟨.hbm, 493, rfl⟩
abbrev main_v458 : Ref sig .tc := ⟨.hbm, 494, rfl⟩
abbrev main_v459 : Ref sig .tc := ⟨.hbm, 495, rfl⟩
abbrev main_v460 : Ref sig .tc := ⟨.hbm, 496, rfl⟩
abbrev main_v461 : Ref sig .tc := ⟨.hbm, 497, rfl⟩
abbrev main_v462 : Ref sig .tc := ⟨.hbm, 498, rfl⟩
abbrev main_v463 : Ref sig .tc := ⟨.hbm, 499, rfl⟩
abbrev main_v464 : Ref sig .tc := ⟨.hbm, 500, rfl⟩
abbrev main_v465 : Ref sig .tc := ⟨.hbm, 501, rfl⟩
abbrev main_v466 : Ref sig .tc := ⟨.hbm, 502, rfl⟩
abbrev main_v467 : Ref sig .tc := ⟨.hbm, 503, rfl⟩
abbrev main_v468 : Ref sig .tc := ⟨.hbm, 504, rfl⟩
abbrev main_v469 : Ref sig .tc := ⟨.hbm, 505, rfl⟩
abbrev main_v470 : Ref sig .tc := ⟨.hbm, 506, rfl⟩
abbrev main_v471 : Ref sig .tc := ⟨.hbm, 507, rfl⟩
abbrev main_v472 : Ref sig .tc := ⟨.hbm, 508, rfl⟩
abbrev main_v473 : Ref sig .tc := ⟨.hbm, 509, rfl⟩
abbrev main_v474 : Ref sig .tc := ⟨.hbm, 510, rfl⟩
abbrev main_v475 : Ref sig .tc := ⟨.hbm, 511, rfl⟩
abbrev main_v476 : Ref sig .tc := ⟨.hbm, 512, rfl⟩
abbrev main_v477 : Ref sig .tc := ⟨.hbm, 513, rfl⟩
abbrev main_v478 : Ref sig .tc := ⟨.hbm, 514, rfl⟩
abbrev main_v479 : Ref sig .tc := ⟨.hbm, 515, rfl⟩
abbrev main_v480 : Ref sig .tc := ⟨.hbm, 516, rfl⟩
abbrev main_v481 : Ref sig .tc := ⟨.hbm, 517, rfl⟩
abbrev main_v482 : Ref sig .tc := ⟨.hbm, 518, rfl⟩
abbrev main_v483 : Ref sig .tc := ⟨.hbm, 519, rfl⟩
abbrev main_v484 : Ref sig .tc := ⟨.hbm, 520, rfl⟩
abbrev main_v485 : Ref sig .tc := ⟨.hbm, 521, rfl⟩
abbrev main_v486 : Ref sig .tc := ⟨.hbm, 522, rfl⟩
abbrev main_v487 : Ref sig .tc := ⟨.hbm, 523, rfl⟩
abbrev main_v488 : Ref sig .tc := ⟨.hbm, 524, rfl⟩
abbrev main_v489 : Ref sig .tc := ⟨.hbm, 525, rfl⟩
abbrev main_v490 : Ref sig .tc := ⟨.hbm, 526, rfl⟩
abbrev main_cst_26 : Ref sig .tc := ⟨.hbm, 527, rfl⟩
abbrev main_v491 : Ref sig .tc := ⟨.hbm, 528, rfl⟩
abbrev main_v492 : Ref sig .tc := ⟨.hbm, 529, rfl⟩
abbrev main_cst_27 : Ref sig .tc := ⟨.hbm, 530, rfl⟩
abbrev main_v493 : Ref sig .tc := ⟨.hbm, 531, rfl⟩
abbrev main_v494 : Ref sig .tc := ⟨.hbm, 532, rfl⟩
abbrev main_v495 : Ref sig .tc := ⟨.hbm, 533, rfl⟩
abbrev main_cst_28 : Ref sig .tc := ⟨.hbm, 534, rfl⟩
abbrev main_v496 : Ref sig .tc := ⟨.hbm, 535, rfl⟩
abbrev main_v497 : Ref sig .tc := ⟨.hbm, 536, rfl⟩
abbrev main_cst_29 : Ref sig .tc := ⟨.hbm, 537, rfl⟩
abbrev main_v498 : Ref sig .tc := ⟨.hbm, 538, rfl⟩
abbrev main_v499 : Ref sig .tc := ⟨.hbm, 539, rfl⟩
abbrev main_v500 : Ref sig .tc := ⟨.hbm, 540, rfl⟩
abbrev main_v501 : Ref sig .tc := ⟨.hbm, 541, rfl⟩
abbrev main_v502 : Ref sig .tc := ⟨.hbm, 542, rfl⟩
abbrev main_v503 : Ref sig .tc := ⟨.hbm, 543, rfl⟩
abbrev main_v504 : Ref sig .tc := ⟨.hbm, 544, rfl⟩
abbrev main_v505 : Ref sig .tc := ⟨.hbm, 545, rfl⟩
abbrev main_v506 : Ref sig .tc := ⟨.hbm, 546, rfl⟩
abbrev main_v507 : Ref sig .tc := ⟨.hbm, 547, rfl⟩
abbrev main_v508 : Ref sig .tc := ⟨.hbm, 548, rfl⟩
abbrev main_v509 : Ref sig .tc := ⟨.hbm, 549, rfl⟩
abbrev main_v510 : Ref sig .tc := ⟨.hbm, 550, rfl⟩
abbrev main_v511 : Ref sig .tc := ⟨.hbm, 551, rfl⟩
abbrev main_v512 : Ref sig .tc := ⟨.hbm, 552, rfl⟩
abbrev main_v513 : Ref sig .tc := ⟨.hbm, 553, rfl⟩
abbrev main_v514 : Ref sig .tc := ⟨.hbm, 554, rfl⟩
abbrev main_v515 : Ref sig .tc := ⟨.hbm, 555, rfl⟩
abbrev main_v516 : Ref sig .tc := ⟨.hbm, 556, rfl⟩
abbrev main_v517 : Ref sig .tc := ⟨.hbm, 557, rfl⟩
abbrev main_v518 : Ref sig .tc := ⟨.hbm, 558, rfl⟩
abbrev main_v519 : Ref sig .tc := ⟨.hbm, 559, rfl⟩
abbrev main_v520 : Ref sig .tc := ⟨.hbm, 560, rfl⟩
abbrev main_v521 : Ref sig .tc := ⟨.hbm, 561, rfl⟩
abbrev main_v522 : Ref sig .tc := ⟨.hbm, 562, rfl⟩
abbrev main_v523 : Ref sig .tc := ⟨.hbm, 563, rfl⟩
abbrev main_v524 : Ref sig .tc := ⟨.hbm, 564, rfl⟩
abbrev main_v525 : Ref sig .tc := ⟨.hbm, 565, rfl⟩
abbrev main_v526 : Ref sig .tc := ⟨.hbm, 566, rfl⟩
abbrev main_v527 : Ref sig .tc := ⟨.hbm, 567, rfl⟩
abbrev main_v528 : Ref sig .tc := ⟨.hbm, 568, rfl⟩
abbrev main_v529 : Ref sig .tc := ⟨.hbm, 569, rfl⟩
abbrev main_v530 : Ref sig .tc := ⟨.hbm, 570, rfl⟩
abbrev main_v531 : Ref sig .tc := ⟨.hbm, 571, rfl⟩
abbrev main_v532 : Ref sig .tc := ⟨.hbm, 572, rfl⟩
abbrev main_v533 : Ref sig .tc := ⟨.hbm, 573, rfl⟩
abbrev main_v534 : Ref sig .tc := ⟨.hbm, 574, rfl⟩
abbrev main_v535 : Ref sig .tc := ⟨.hbm, 575, rfl⟩
abbrev main_v536 : Ref sig .tc := ⟨.hbm, 576, rfl⟩
abbrev main_v537 : Ref sig .tc := ⟨.hbm, 577, rfl⟩
abbrev main_v538 : Ref sig .tc := ⟨.hbm, 578, rfl⟩
abbrev main_v539 : Ref sig .tc := ⟨.hbm, 579, rfl⟩
abbrev main_v540 : Ref sig .tc := ⟨.hbm, 580, rfl⟩
abbrev main_v541 : Ref sig .tc := ⟨.hbm, 581, rfl⟩
abbrev main_v542 : Ref sig .tc := ⟨.hbm, 582, rfl⟩
abbrev main_v543 : Ref sig .tc := ⟨.hbm, 583, rfl⟩
abbrev main_v544 : Ref sig .tc := ⟨.hbm, 584, rfl⟩
abbrev main_v545 : Ref sig .tc := ⟨.hbm, 585, rfl⟩
abbrev main_v546 : Ref sig .tc := ⟨.hbm, 586, rfl⟩
abbrev main_v547 : Ref sig .tc := ⟨.hbm, 587, rfl⟩
abbrev main_v548 : Ref sig .tc := ⟨.hbm, 588, rfl⟩
abbrev main_v549 : Ref sig .tc := ⟨.hbm, 589, rfl⟩
abbrev main_v550 : Ref sig .tc := ⟨.hbm, 590, rfl⟩
abbrev main_v551 : Ref sig .tc := ⟨.hbm, 591, rfl⟩
abbrev main_v552 : Ref sig .tc := ⟨.hbm, 592, rfl⟩
abbrev main_v553 : Ref sig .tc := ⟨.hbm, 593, rfl⟩
abbrev main_v554 : Ref sig .tc := ⟨.hbm, 594, rfl⟩
abbrev main_v555 : Ref sig .tc := ⟨.hbm, 595, rfl⟩
abbrev main_v556 : Ref sig .tc := ⟨.hbm, 596, rfl⟩
abbrev main_v557 : Ref sig .tc := ⟨.hbm, 597, rfl⟩
abbrev main_v558 : Ref sig .tc := ⟨.hbm, 598, rfl⟩
abbrev main_v559 : Ref sig .tc := ⟨.hbm, 599, rfl⟩
abbrev main_v560 : Ref sig .tc := ⟨.hbm, 600, rfl⟩
abbrev main_v561 : Ref sig .tc := ⟨.hbm, 601, rfl⟩
abbrev main_v562 : Ref sig .tc := ⟨.hbm, 602, rfl⟩
abbrev main_v563 : Ref sig .tc := ⟨.hbm, 603, rfl⟩
abbrev main_v564 : Ref sig .tc := ⟨.hbm, 604, rfl⟩
abbrev main_v565 : Ref sig .tc := ⟨.hbm, 605, rfl⟩
abbrev main_v566 : Ref sig .tc := ⟨.hbm, 606, rfl⟩
abbrev main_v567 : Ref sig .tc := ⟨.hbm, 607, rfl⟩
abbrev main_v568 : Ref sig .tc := ⟨.hbm, 608, rfl⟩
abbrev main_v569 : Ref sig .tc := ⟨.hbm, 609, rfl⟩
abbrev main_v570 : Ref sig .tc := ⟨.hbm, 610, rfl⟩
abbrev main_v571 : Ref sig .tc := ⟨.hbm, 611, rfl⟩
abbrev main_v572 : Ref sig .tc := ⟨.hbm, 612, rfl⟩
abbrev main_v573 : Ref sig .tc := ⟨.hbm, 613, rfl⟩
abbrev main_v574 : Ref sig .tc := ⟨.hbm, 614, rfl⟩
abbrev main_v575 : Ref sig .tc := ⟨.hbm, 615, rfl⟩
abbrev main_c_30 : Ref sig .tc := ⟨.hbm, 616, rfl⟩
abbrev main_v576 : Ref sig .tc := ⟨.hbm, 617, rfl⟩
abbrev main_v577 : Ref sig .tc := ⟨.hbm, 618, rfl⟩
abbrev main_v578 : Ref sig .tc := ⟨.hbm, 619, rfl⟩
abbrev main_v579 : Ref sig .tc := ⟨.hbm, 620, rfl⟩
abbrev main_c_31 : Ref sig .tc := ⟨.hbm, 621, rfl⟩
abbrev main_v580 : Ref sig .tc := ⟨.hbm, 622, rfl⟩
abbrev main_v581 : Ref sig .tc := ⟨.hbm, 623, rfl⟩
abbrev main_v582 : Ref sig .tc := ⟨.hbm, 624, rfl⟩
abbrev main_v583 : Ref sig .tc := ⟨.hbm, 625, rfl⟩
abbrev main_v584 : Ref sig .tc := ⟨.hbm, 626, rfl⟩
abbrev main_c_32 : Ref sig .tc := ⟨.hbm, 627, rfl⟩
abbrev main_v585 : Ref sig .tc := ⟨.hbm, 628, rfl⟩
abbrev main_v586 : Ref sig .tc := ⟨.hbm, 629, rfl⟩
abbrev main_v587 : Ref sig .tc := ⟨.hbm, 630, rfl⟩
abbrev main_v588 : Ref sig .tc := ⟨.hbm, 631, rfl⟩
abbrev main_c_33 : Ref sig .tc := ⟨.hbm, 632, rfl⟩
abbrev main_v589 : Ref sig .tc := ⟨.hbm, 633, rfl⟩
abbrev main_v590 : Ref sig .tc := ⟨.hbm, 634, rfl⟩
abbrev main_v591 : Ref sig .tc := ⟨.hbm, 635, rfl⟩
abbrev main_v592 : Ref sig .tc := ⟨.hbm, 636, rfl⟩
abbrev main_v593 : Ref sig .tc := ⟨.hbm, 637, rfl⟩
abbrev main_c_34 : Ref sig .tc := ⟨.hbm, 638, rfl⟩
abbrev main_v594 : Ref sig .tc := ⟨.hbm, 639, rfl⟩
abbrev main_v595 : Ref sig .tc := ⟨.hbm, 640, rfl⟩
abbrev main_v596 : Ref sig .tc := ⟨.hbm, 641, rfl⟩
abbrev main_v597 : Ref sig .tc := ⟨.hbm, 642, rfl⟩
abbrev main_c_35 : Ref sig .tc := ⟨.hbm, 643, rfl⟩
abbrev main_v598 : Ref sig .tc := ⟨.hbm, 644, rfl⟩
abbrev main_v599 : Ref sig .tc := ⟨.hbm, 645, rfl⟩
abbrev main_v600 : Ref sig .tc := ⟨.hbm, 646, rfl⟩
abbrev main_v601 : Ref sig .tc := ⟨.hbm, 647, rfl⟩
abbrev main_v602 : Ref sig .tc := ⟨.hbm, 648, rfl⟩
abbrev main_v603 : Ref sig .tc := ⟨.hbm, 649, rfl⟩
abbrev main_v604 : Ref sig .tc := ⟨.hbm, 650, rfl⟩
abbrev main_v605 : Ref sig .tc := ⟨.hbm, 651, rfl⟩
abbrev main_v606 : Ref sig .tc := ⟨.hbm, 652, rfl⟩

abbrev nD : Nat := 1
abbrev τ : Topo := Topo.v7x

variable {F : FTy → Type} [FloatOps F]
-- ==== Proof.RefFrame.lean ====
/- The reference programs run and leave their arguments alone. -/
module

public import proofs.«01_k».proof.Defs
public import proofs.«01_k».proof.Proof.Gen.ReferenceIdeal.Run
public import proofs.«01_k».proof.Proof.Gen.EntangleIdeal.Run
public import Idealize.ShloMosaic.Adequacy
public import Idealize.ShloMosaic.Init
public import Idealize.ShloMosaic.Lib.Claim
public import Idealize.ShloMosaic.Lib.Quiescent
public import Idealize.ShloMosaic.Lib.Pipeline.Quiescent

@[expose] public section

set_option maxRecDepth 16384

noncomputable section

namespace Cert.Proof

open Idealize.ShloMosaic Idealize.SL.Sem

set_option maxHeartbeats 1600000 in
/-- The reference runs and leaves its arguments alone. -/
theorem reference_frame : Cert.quiescent_ReferenceIdeal := by
  intro m g _
  run_from Cert.ReferenceIdeal.Value.run (F := Ideal) m g
  · simp
  · exact sem_eq_zero_of_no_sems rfl _

set_option maxHeartbeats 1600000 in
/-- So does the gate's. -/
theorem entangle_frame : Cert.quiescent_EntangleIdeal := by
  intro m g _
  run_from Cert.EntangleIdeal.Value.run (F := Ideal) m g
  · simp
  · exact sem_eq_zero_of_no_sems rfl _

end Cert.Proof

end
-- ==== Proof.Circuit.lean ====
/- The mathematics of the circuit: contracting a star of three-qubit gates one neighbour at a time, carrying the
   two-by-two density matrix of the centre, gives the squared norms of the whole state vector's amplitudes. -/
module

public import Mathlib.Data.Complex.Basic
public import Mathlib.Data.Complex.BigOperators
public import Mathlib.Algebra.BigOperators.Ring.Finset
public import Mathlib.Algebra.BigOperators.Fin
public import Mathlib.Tactic.Ring
public import Mathlib.Tactic.LinearCombination

@[expose] public section

noncomputable section

namespace Cert.Circuit

open scoped ComplexConjugate

/-- A three-qubit gate by its rows' and columns' bits, a qubit by its two amplitudes. -/
abbrev Gate := Fin 2 → Fin 2 → Fin 2 → Fin 2 → Fin 2 → Fin 2 → ℂ
abbrev Qubit := Fin 2 → ℂ

/-- The gate with its edge qubit `e` and its neighbour qubit `n` put in: `x`, `y` the bits they leave with, `u`, `v`
    the centre's bit after and before. -/
def block (V : Gate) (e n : Qubit) (x y u v : Fin 2) : ℂ := ∑ a, ∑ b, V x u y a v b * (e a * n b)

/-- The centre's density matrix after one more neighbour. -/
def grow (A : Fin 2 → Fin 2 → Fin 2 → Fin 2 → ℂ) (ρ : Fin 2 → Fin 2 → ℂ) (u w : Fin 2) : ℂ :=
  ∑ x, ∑ y, ∑ z, (∑ v, A x y u v * ρ v z) * conj (A x y w z)

/-- The weight of the last neighbour's bit `b`. -/
def weight (A : Fin 2 → Fin 2 → Fin 2 → Fin 2 → ℂ) (ρ : Fin 2 → Fin 2 → ℂ) (b : Fin 2) : ℝ :=
  ∑ x, ∑ u, ∑ z, ((∑ v, A x b u v * ρ v z) * conj (A x b u z)).re

/-- A mixture's matrix between two rows is the mixture of the products of the rows' images. -/
theorem sandwich {I : Type} [Fintype I] (φ : I → Fin 2 → ℂ) (ρ : Fin 2 → Fin 2 → ℂ)
    (hρ : ∀ v z, ρ v z = ∑ i, φ i v * conj (φ i z)) (α β : Fin 2 → ℂ) :
    ∑ z, (∑ v, α v * ρ v z) * conj (β z) = ∑ i, (∑ v, α v * φ i v) * conj (∑ z, β z * φ i z) := by
  simp only [hρ, Fin.sum_univ_two, map_add, map_mul, Finset.mul_sum, Finset.sum_mul, ← Finset.sum_add_distrib]
  exact Finset.sum_congr rfl fun i _ => by ring

/-- The amplitudes of the centre after the first neighbour, the second, and the third. -/
def first (A₀ : Fin 2 → Fin 2 → Fin 2 → Fin 2 → ℂ) (u₀ : Qubit) (i : Fin 2 × Fin 2) (u : Fin 2) : ℂ :=
  ∑ v, A₀ i.1 i.2 u v * u₀ v
def next {I : Type} (A : Fin 2 → Fin 2 → Fin 2 → Fin 2 → ℂ) (φ : I → Fin 2 → ℂ) (i : I × (Fin 2 × Fin 2)) (u : Fin 2) : ℂ :=
  ∑ v, A i.2.1 i.2.2 u v * φ i.1 v

theorem grow_mix {I : Type} [Fintype I] (A : Fin 2 → Fin 2 → Fin 2 → Fin 2 → ℂ) (φ : I → Fin 2 → ℂ) (ρ : Fin 2 → Fin 2 → ℂ)
    (hρ : ∀ v z, ρ v z = ∑ i, φ i v * conj (φ i z)) (u w : Fin 2) :
    grow A ρ u w = ∑ i, next A φ i u * conj (next A φ i w) := by
  simp only [grow, sandwich φ ρ hρ]
  rw [Fintype.sum_prod_type_right, Fintype.sum_prod_type]
  rfl

/-- The centre's density matrix before any neighbour: that of its own qubit. -/
def start (u₀ : Qubit) (v z : Fin 2) : ℂ := u₀ v * conj (u₀ z)

theorem weight_mix {I : Type} [Fintype I] (A : Fin 2 → Fin 2 → Fin 2 → Fin 2 → ℂ) (φ : I → Fin 2 → ℂ) (ρ : Fin 2 → Fin 2 → ℂ)
    (hρ : ∀ v z, ρ v z = ∑ i, φ i v * conj (φ i z)) (b : Fin 2) :
    weight A ρ b = ∑ x, ∑ u, ∑ i, Complex.normSq (∑ v, A x b u v * φ i v) := by
  unfold weight
  refine Finset.sum_congr rfl fun x _ => Finset.sum_congr rfl fun u _ => ?_
  rw [← Complex.re_sum, sandwich φ ρ hρ, Complex.re_sum]
  exact Finset.sum_congr rfl fun i _ => by rw [Complex.mul_conj, Complex.ofReal_re]

/-- The seven-qubit state: the product of the qubits, then the gate on each neighbour's wires in turn. -/
abbrev State := Fin 2 → Fin 2 → Fin 2 → Fin 2 → Fin 2 → Fin 2 → Fin 2 → ℂ

def product (e : Fin 3 → Qubit) (u : Fin 4 → Qubit) : State := fun a₀ a₁ a₂ v b₀ b₁ b₂ =>
  e 0 a₀ * e 1 a₁ * e 2 a₂ * u 0 v * u 1 b₀ * u 2 b₁ * u 3 b₂
def apply₀ (V : Gate) (ψ : State) : State := fun x a₁ a₂ w y b₁ b₂ =>
  ∑ a, ∑ v, ∑ b, V x w y a v b * ψ a a₁ a₂ v b b₁ b₂
def apply₁ (V : Gate) (ψ : State) : State := fun a₀ x a₂ w b₀ y b₂ =>
  ∑ a, ∑ v, ∑ b, V x w y a v b * ψ a₀ a a₂ v b₀ b b₂
def apply₂ (V : Gate) (ψ : State) : State := fun a₀ a₁ x w b₀ b₁ y =>
  ∑ a, ∑ v, ∑ b, V x w y a v b * ψ a₀ a₁ a v b₀ b₁ b

def final (V : Gate) (e : Fin 3 → Qubit) (u : Fin 4 → Qubit) : State := apply₂ V (apply₁ V (apply₀ V (product e u)))

/-- The whole state's amplitude is the chain of the three blocks. -/
theorem final_eq (V : Gate) (e : Fin 3 → Qubit) (u : Fin 4 → Qubit) (x₀ x₁ x₂ w y₀ y₁ y₂ : Fin 2) :
    final V e u x₀ x₁ x₂ w y₀ y₁ y₂
      = ∑ v, block V (e 2) (u 3) x₂ y₂ w v
          * next (block V (e 1) (u 2)) (first (block V (e 0) (u 1)) (u 0)) ((x₀, y₀), (x₁, y₁)) v := by
  simp only [final, apply₀, apply₁, apply₂, product, block, next, first, Fin.sum_univ_two]
  ring

/-- The marginal weight of the last wire, by the density matrix carried along. -/
theorem weight_eq (V : Gate) (e : Fin 3 → Qubit) (u : Fin 4 → Qubit) (b : Fin 2) :
    weight (block V (e 2) (u 3)) (grow (block V (e 1) (u 2)) (grow (block V (e 0) (u 1)) (start (u 0)))) b
      = ∑ y₁, ∑ y₀, ∑ w, ∑ x₂, ∑ x₁, ∑ x₀, Complex.normSq (final V e u x₀ x₁ x₂ w y₀ y₁ b) := by
  have h0 : ∀ v z, start (u 0) v z = ∑ _i : Unit, (fun _ => u 0) _i v * conj ((fun _ : Unit => u 0) _i z) := by
    intro v z; simp [start]
  have h1 := grow_mix (block V (e 0) (u 1)) (fun _ : Unit => u 0) _ h0
  have h1' : ∀ v z, grow (block V (e 0) (u 1)) (start (u 0)) v z
      = ∑ i, first (block V (e 0) (u 1)) (u 0) i v * conj (first (block V (e 0) (u 1)) (u 0) i z) := by
    intro v z
    rw [h1 v z, Fintype.sum_prod_type]
    rw [Finset.univ_unique, Finset.sum_singleton]
    rfl
  have h2 := grow_mix (block V (e 1) (u 2)) _ _ h1'
  rw [weight_mix _ _ _ h2]
  simp only [final_eq, Fintype.sum_prod_type, Fin.sum_univ_two]
  ring

end Cert.Circuit

end
-- ==== Proof.Lane.lean ====
/- One node's data as complex numbers, and the quantities the second stage computes from them, each with its real and
   its imaginary part written out. -/
module

public import proofs.«01_k».proof.Proof.Circuit
public import Mathlib.Data.EReal.Basic

@[expose] public section

noncomputable section

namespace Cert

open Circuit
open scoped ComplexConjugate

/-- What a node brings: the gate (every node's), its three edge qubits, its own qubit and its three neighbours', and its
    three features. -/
structure Lane where
  V : Gate
  e : Fin 3 → Qubit
  u : Fin 4 → Qubit
  nf : Fin 3 → EReal

namespace Lane
variable (q : Lane) (a b x y u v w z : Fin 2)

/-- The two qubits beside the centre, for each neighbour. -/
def P0 : ℂ := q.e 0 a * q.u 1 b
def P1 : ℂ := q.e 1 a * q.u 2 b
def P2 : ℂ := q.e 2 a * q.u 3 b
/-- The gate with those two qubits put in. -/
def A0 : ℂ := block q.V (q.e 0) (q.u 1) x y u v
def A1 : ℂ := block q.V (q.e 1) (q.u 2) x y u v
def A2 : ℂ := block q.V (q.e 2) (q.u 3) x y u v
/-- The centre's density matrix, and its product with the gate before each neighbour is traced out. -/
def R0 : ℂ := start (q.u 0) v z
def B0 : ℂ := ∑ v, q.A0 x y u v * q.R0 v z
def R1 : ℂ := grow q.A0 q.R0 u w
def B1 : ℂ := ∑ v, q.A1 x y u v * q.R1 v z
def R2 : ℂ := grow q.A1 q.R1 u w
def B2 : ℂ := ∑ v, q.A2 x y u v * q.R2 v z
/-- The weight of the last neighbour's bit. -/
def W : ℝ := weight q.A2 q.R2 b

theorem P0_re : (q.P0 a b).re = (q.e 0 a).re * (q.u 1 b).re - (q.e 0 a).im * (q.u 1 b).im := Complex.mul_re _ _
theorem P0_im : (q.P0 a b).im = (q.e 0 a).re * (q.u 1 b).im + (q.e 0 a).im * (q.u 1 b).re := Complex.mul_im _ _
theorem P1_re : (q.P1 a b).re = (q.e 1 a).re * (q.u 2 b).re - (q.e 1 a).im * (q.u 2 b).im := Complex.mul_re _ _
theorem P1_im : (q.P1 a b).im = (q.e 1 a).re * (q.u 2 b).im + (q.e 1 a).im * (q.u 2 b).re := Complex.mul_im _ _
theorem P2_re : (q.P2 a b).re = (q.e 2 a).re * (q.u 3 b).re - (q.e 2 a).im * (q.u 3 b).im := Complex.mul_re _ _
theorem P2_im : (q.P2 a b).im = (q.e 2 a).re * (q.u 3 b).im + (q.e 2 a).im * (q.u 3 b).re := Complex.mul_im _ _

/-- The real and the imaginary part of a two-qubit contraction of the gate. -/
def contractRe (V : Gate) (P : Fin 2 → Fin 2 → ℂ) : ℝ :=
  (V x u y 0 v 0).re * (P 0 0).re - (V x u y 0 v 0).im * (P 0 0).im
    + ((V x u y 0 v 1).re * (P 0 1).re - (V x u y 0 v 1).im * (P 0 1).im)
    + ((V x u y 1 v 0).re * (P 1 0).re - (V x u y 1 v 0).im * (P 1 0).im)
    + ((V x u y 1 v 1).re * (P 1 1).re - (V x u y 1 v 1).im * (P 1 1).im)
def contractIm (V : Gate) (P : Fin 2 → Fin 2 → ℂ) : ℝ :=
  (V x u y 0 v 0).re * (P 0 0).im + (V x u y 0 v 0).im * (P 0 0).re
    + ((V x u y 0 v 1).re * (P 0 1).im + (V x u y 0 v 1).im * (P 0 1).re)
    + ((V x u y 1 v 0).re * (P 1 0).im + (V x u y 1 v 0).im * (P 1 0).re)
    + ((V x u y 1 v 1).re * (P 1 1).im + (V x u y 1 v 1).im * (P 1 1).re)

theorem block_parts (V : Gate) (e n : Qubit) (P : Fin 2 → Fin 2 → ℂ) (h : ∀ a b, P a b = e a * n b) :
    (block V e n x y u v).re = contractRe x y u v V P ∧ (block V e n x y u v).im = contractIm x y u v V P := by
  simp only [block, ← h, Fin.sum_univ_two, Complex.add_re, Complex.add_im, Complex.mul_re, Complex.mul_im, contractRe, contractIm]
  exact ⟨by ring, by ring⟩

theorem A0_re : (q.A0 x y u v).re = contractRe x y u v q.V q.P0 := (block_parts _ _ _ _ _ _ _ _ fun _ _ => rfl).1
theorem A0_im : (q.A0 x y u v).im = contractIm x y u v q.V q.P0 := (block_parts _ _ _ _ _ _ _ _ fun _ _ => rfl).2
theorem A1_re : (q.A1 x y u v).re = contractRe x y u v q.V q.P1 := (block_parts _ _ _ _ _ _ _ _ fun _ _ => rfl).1
theorem A1_im : (q.A1 x y u v).im = contractIm x y u v q.V q.P1 := (block_parts _ _ _ _ _ _ _ _ fun _ _ => rfl).2
theorem A2_re : (q.A2 x y u v).re = contractRe x y u v q.V q.P2 := (block_parts _ _ _ _ _ _ _ _ fun _ _ => rfl).1
theorem A2_im : (q.A2 x y u v).im = contractIm x y u v q.V q.P2 := (block_parts _ _ _ _ _ _ _ _ fun _ _ => rfl).2

theorem R0_re : (q.R0 v z).re = (q.u 0 v).re * (q.u 0 z).re + (q.u 0 v).im * (q.u 0 z).im := by
  simp only [R0, start, Complex.mul_re, Complex.conj_re, Complex.conj_im]; ring
theorem R0_im : (q.R0 v z).im = (q.u 0 v).im * (q.u 0 z).re - (q.u 0 v).re * (q.u 0 z).im := by
  simp only [R0, start, Complex.mul_im, Complex.conj_re, Complex.conj_im]; ring

theorem B0_re : (q.B0 x y u z).re = (q.A0 x y u 0).re * (q.R0 0 z).re - (q.A0 x y u 0).im * (q.R0 0 z).im
    + ((q.A0 x y u 1).re * (q.R0 1 z).re - (q.A0 x y u 1).im * (q.R0 1 z).im) := by
  simp only [B0, Fin.sum_univ_two, Complex.add_re, Complex.mul_re]
theorem B0_im : (q.B0 x y u z).im = (q.A0 x y u 0).re * (q.R0 0 z).im + (q.A0 x y u 0).im * (q.R0 0 z).re
    + ((q.A0 x y u 1).re * (q.R0 1 z).im + (q.A0 x y u 1).im * (q.R0 1 z).re) := by
  simp only [B0, Fin.sum_univ_two, Complex.add_im, Complex.mul_im]
theorem B1_re : (q.B1 x y u z).re = (q.A1 x y u 0).re * (q.R1 0 z).re - (q.A1 x y u 0).im * (q.R1 0 z).im
    + ((q.A1 x y u 1).re * (q.R1 1 z).re - (q.A1 x y u 1).im * (q.R1 1 z).im) := by
  simp only [B1, Fin.sum_univ_two, Complex.add_re, Complex.mul_re]
theorem B1_im : (q.B1 x y u z).im = (q.A1 x y u 0).re * (q.R1 0 z).im + (q.A1 x y u 0).im * (q.R1 0 z).re
    + ((q.A1 x y u 1).re * (q.R1 1 z).im + (q.A1 x y u 1).im * (q.R1 1 z).re) := by
  simp only [B1, Fin.sum_univ_two, Complex.add_im, Complex.mul_im]
theorem B2_re : (q.B2 x y u z).re = (q.A2 x y u 0).re * (q.R2 0 z).re - (q.A2 x y u 0).im * (q.R2 0 z).im
    + ((q.A2 x y u 1).re * (q.R2 1 z).re - (q.A2 x y u 1).im * (q.R2 1 z).im) := by
  simp only [B2, Fin.sum_univ_two, Complex.add_re, Complex.mul_re]
theorem B2_im : (q.B2 x y u z).im = (q.A2 x y u 0).re * (q.R2 0 z).im + (q.A2 x y u 0).im * (q.R2 0 z).re
    + ((q.A2 x y u 1).re * (q.R2 1 z).im + (q.A2 x y u 1).im * (q.R2 1 z).re) := by
  simp only [B2, Fin.sum_univ_two, Complex.add_im, Complex.mul_im]

theorem R1_re : (q.R1 u w).re = ∑ x, ∑ y, ∑ z, ((q.B0 x y u z).re * (q.A0 x y w z).re + (q.B0 x y u z).im * (q.A0 x y w z).im) := by
  simp only [R1, grow, Complex.re_sum]
  exact Finset.sum_congr rfl fun x _ => Finset.sum_congr rfl fun y _ => Finset.sum_congr rfl fun z _ => by
    rw [Complex.mul_re, Complex.conj_re, Complex.conj_im]; simp only [B0]; ring
theorem R1_im : (q.R1 u w).im = ∑ x, ∑ y, ∑ z, ((q.B0 x y u z).im * (q.A0 x y w z).re - (q.B0 x y u z).re * (q.A0 x y w z).im) := by
  simp only [R1, grow, Complex.im_sum]
  exact Finset.sum_congr rfl fun x _ => Finset.sum_congr rfl fun y _ => Finset.sum_congr rfl fun z _ => by
    rw [Complex.mul_im, Complex.conj_re, Complex.conj_im]; simp only [B0]; ring
theorem R2_re : (q.R2 u w).re = ∑ x, ∑ y, ∑ z, ((q.B1 x y u z).re * (q.A1 x y w z).re + (q.B1 x y u z).im * (q.A1 x y w z).im) := by
  simp only [R2, grow, Complex.re_sum]
  exact Finset.sum_congr rfl fun x _ => Finset.sum_congr rfl fun y _ => Finset.sum_congr rfl fun z _ => by
    rw [Complex.mul_re, Complex.conj_re, Complex.conj_im]; simp only [B1]; ring
theorem R2_im : (q.R2 u w).im = ∑ x, ∑ y, ∑ z, ((q.B1 x y u z).im * (q.A1 x y w z).re - (q.B1 x y u z).re * (q.A1 x y w z).im) := by
  simp only [R2, grow, Complex.im_sum]
  exact Finset.sum_congr rfl fun x _ => Finset.sum_congr rfl fun y _ => Finset.sum_congr rfl fun z _ => by
    rw [Complex.mul_im, Complex.conj_re, Complex.conj_im]; simp only [B1]; ring
theorem W_eq : q.W b = ∑ x, ∑ u, ∑ z, ((q.B2 x b u z).re * (q.A2 x b u z).re + (q.B2 x b u z).im * (q.A2 x b u z).im) := by
  simp only [W, weight]
  exact Finset.sum_congr rfl fun x _ => Finset.sum_congr rfl fun y _ => Finset.sum_congr rfl fun z _ => by
    rw [Complex.mul_re, Complex.conj_re, Complex.conj_im]; simp only [B2]; ring

/-- The weight the second stage computes is the marginal of the seven-qubit circuit. -/
theorem W_final : q.W b = ∑ y₁, ∑ y₀, ∑ w, ∑ x₂, ∑ x₁, ∑ x₀, Complex.normSq (final q.V q.e q.u x₀ x₁ x₂ w y₀ y₁ b) :=
  weight_eq q.V q.e q.u b

end Lane
end Cert

end
-- ==== Proof.Words.lean ====
/- The second stage's values at one grid point, one after another, over the rows that its loads bring. -/
module

public import proofs.«01_k».proof.Proof.Gen.KernelIdeal.Skeleton
public import proofs.«01_k».proof.Proof.Lane
public import Idealize.ShloMosaic.Lib.ValueIdx
public import Idealize.ShloMosaic.Lib.IdealHost

@[expose] public section

set_option maxHeartbeats 1000000

noncomputable section

namespace Cert.Stage

open Idealize.ShloMosaic Idealize.ShloMosaic.ValueIdx Cert.KernelIdeal Cert.KernelIdeal.Gen Lane

/-- What one grid point loads: the rows of the qubits (by qubit and bit, real and imaginary part), the three feature
    rows, the gate's elements and the network's weights. -/
structure Rows where
  er : Fin 3 → Fin 2 → Vec Ideal S1x8x128 .f32
  ei : Fin 3 → Fin 2 → Vec Ideal S1x8x128 .f32
  ur : Fin 4 → Fin 2 → Vec Ideal S1x8x128 .f32
  ui : Fin 4 → Fin 2 → Vec Ideal S1x8x128 .f32
  nf : Fin 3 → Vec Ideal S1x8x128 .f32
  vr : Fin 2 → Fin 2 → Fin 2 → Fin 2 → Fin 2 → Fin 2 → EReal
  vi : Fin 2 → Fin 2 → Fin 2 → Fin 2 → Fin 2 → Fin 2 → EReal
  w1 : Fin 3 → Fin 5 → EReal
  c1 : Fin 3 → EReal
  w2 : Fin 3 → Fin 3 → EReal
  c2 : Fin 3 → EReal

/-- At the place `p` the rows hold the node `q`'s data. -/
structure Rows.At (b : Rows) (p : S8x128.Idx) (q : Lane) : Prop where
  er : ∀ k a, shapeCast S8x128 (b.er k a) shapeCasts_S1x8x128_S8x128 p = ↑(q.e k a).re
  ei : ∀ k a, shapeCast S8x128 (b.ei k a) shapeCasts_S1x8x128_S8x128 p = ↑(q.e k a).im
  ur : ∀ k a, shapeCast S8x128 (b.ur k a) shapeCasts_S1x8x128_S8x128 p = ↑(q.u k a).re
  ui : ∀ k a, shapeCast S8x128 (b.ui k a) shapeCasts_S1x8x128_S8x128 p = ↑(q.u k a).im
  nf : ∀ t, shapeCast S8x128 (b.nf t) shapeCasts_S1x8x128_S8x128 p = q.nf t
  vr : ∀ x u y a v c, b.vr x u y a v c = ↑(q.V x u y a v c).re
  vi : ∀ x u y a v c, b.vi x u y a v c = ↑(q.V x u y a v c).im

/-- A scalar's copies. -/
theorem spread_apply (s : Shape) (x : EReal) (i : s.Idx) : (broadcast s x : FVec Ideal s .f32) i = x := rfl
theorem zero_word : (Scalar.ofBits .f32 0x00000000#32 : Ideal .f32) = ((0 : ℝ) : EReal) := Ideal.ofBits_zero_f32

def x1 (b : Rows) : FVec Ideal S8x128 .f32 := k0_pay7 (b.ur 0 0)
def x3 (b : Rows) : FVec Ideal S8x128 .f32 := k0_pay8 (b.ui 0 0)
def x5 (b : Rows) : FVec Ideal S8x128 .f32 := k0_pay9 (b.ur 0 1)
def x7 (b : Rows) : FVec Ideal S8x128 .f32 := k0_pay10 (b.ui 0 1)
def x9 (b : Rows) : FVec Ideal S8x128 .f32 := k0_pay11 (b.ur 1 0)
def x11 (b : Rows) : FVec Ideal S8x128 .f32 := k0_pay12 (b.ui 1 0)
def x13 (b : Rows) : FVec Ideal S8x128 .f32 := k0_pay13 (b.ur 1 1)
def x15 (b : Rows) : FVec Ideal S8x128 .f32 := k0_pay14 (b.ui 1 1)
def x17 (b : Rows) : FVec Ideal S8x128 .f32 := k0_pay15 (b.ur 2 0)
def x19 (b : Rows) : FVec Ideal S8x128 .f32 := k0_pay16 (b.ui 2 0)
def x21 (b : Rows) : FVec Ideal S8x128 .f32 := k0_pay17 (b.ur 2 1)
def x23 (b : Rows) : FVec Ideal S8x128 .f32 := k0_pay18 (b.ui 2 1)
def x25 (b : Rows) : FVec Ideal S8x128 .f32 := k0_pay19 (b.ur 3 0)
def x27 (b : Rows) : FVec Ideal S8x128 .f32 := k0_pay20 (b.ui 3 0)
def x29 (b : Rows) : FVec Ideal S8x128 .f32 := k0_pay21 (b.ur 3 1)
def x31 (b : Rows) : FVec Ideal S8x128 .f32 := k0_pay22 (b.ui 3 1)
def x33 (b : Rows) : FVec Ideal S8x128 .f32 := k0_pay23 (b.er 0 0)
def x35 (b : Rows) : FVec Ideal S8x128 .f32 := k0_pay24 (b.ei 0 0)
def x37 (b : Rows) : FVec Ideal S8x128 .f32 := k0_pay25 (b.er 0 1)
def x39 (b : Rows) : FVec Ideal S8x128 .f32 := k0_pay26 (b.ei 0 1)
def x41 (b : Rows) : FVec Ideal S8x128 .f32 := k0_pay27 (b.er 1 0)
def x43 (b : Rows) : FVec Ideal S8x128 .f32 := k0_pay28 (b.ei 1 0)
def x45 (b : Rows) : FVec Ideal S8x128 .f32 := k0_pay29 (b.er 1 1)
def x47 (b : Rows) : FVec Ideal S8x128 .f32 := k0_pay30 (b.ei 1 1)
def x49 (b : Rows) : FVec Ideal S8x128 .f32 := k0_pay31 (b.er 2 0)
def x51 (b : Rows) : FVec Ideal S8x128 .f32 := k0_pay32 (b.ei 2 0)
def x53 (b : Rows) : FVec Ideal S8x128 .f32 := k0_pay33 (b.er 2 1)
def x55 (b : Rows) : FVec Ideal S8x128 .f32 := k0_pay34 (b.ei 2 1)
def x57 (b : Rows) : FVec Ideal S8x128 .f32 := k0_pay35 (x3 b)
def x60 (b : Rows) : FVec Ideal S8x128 .f32 := k0_pay36 (x1 b) (x3 b)
def x63 (b : Rows) : FVec Ideal S8x128 .f32 := k0_pay37 (x1 b) (x3 b)
def x65 (b : Rows) : FVec Ideal S8x128 .f32 := k0_pay38 (x7 b)
def x68 (b : Rows) : FVec Ideal S8x128 .f32 := k0_pay39 (x1 b) (x3 b) (x5 b) (x7 b)
def x71 (b : Rows) : FVec Ideal S8x128 .f32 := k0_pay40 (x1 b) (x3 b) (x5 b) (x7 b)
def x73 (b : Rows) : FVec Ideal S8x128 .f32 := k0_pay41 (x3 b)
def x76 (b : Rows) : FVec Ideal S8x128 .f32 := k0_pay42 (x1 b) (x3 b) (x5 b) (x7 b)
def x79 (b : Rows) : FVec Ideal S8x128 .f32 := k0_pay43 (x1 b) (x3 b) (x5 b) (x7 b)
def x81 (b : Rows) : FVec Ideal S8x128 .f32 := k0_pay44 (x7 b)
def x84 (b : Rows) : FVec Ideal S8x128 .f32 := k0_pay45 (x5 b) (x7 b)
def x87 (b : Rows) : FVec Ideal S8x128 .f32 := k0_pay46 (x5 b) (x7 b)
def x90 (b : Rows) : FVec Ideal S8x128 .f32 := k0_pay47 (x9 b) (x11 b) (x33 b) (x35 b)
def x93 (b : Rows) : FVec Ideal S8x128 .f32 := k0_pay48 (x9 b) (x11 b) (x33 b) (x35 b)
def x96 (b : Rows) : FVec Ideal S8x128 .f32 := k0_pay49 (x13 b) (x15 b) (x33 b) (x35 b)
def x99 (b : Rows) : FVec Ideal S8x128 .f32 := k0_pay50 (x13 b) (x15 b) (x33 b) (x35 b)
def x102 (b : Rows) : FVec Ideal S8x128 .f32 := k0_pay51 (x9 b) (x11 b) (x37 b) (x39 b)
def x105 (b : Rows) : FVec Ideal S8x128 .f32 := k0_pay52 (x9 b) (x11 b) (x37 b) (x39 b)
def x108 (b : Rows) : FVec Ideal S8x128 .f32 := k0_pay53 (x13 b) (x15 b) (x37 b) (x39 b)
def x111 (b : Rows) : FVec Ideal S8x128 .f32 := k0_pay54 (x13 b) (x15 b) (x37 b) (x39 b)
def x136 (b : Rows) : FVec Ideal S8x128 .f32 := k0_pay55 (x9 b) (x11 b) (x13 b) (x15 b) (x33 b) (x35 b) (x90 b) (b.vr 0 0 0 0 0 0) (b.vi 0 0 0 0 0 0) (b.vr 0 0 0 0 0 1) (b.vi 0 0 0 0 0 1)
def x137 (b : Rows) : FVec Ideal S8x128 .f32 := k0_pay56 (x9 b) (x11 b) (x13 b) (x15 b) (x33 b) (x35 b) (x90 b) (b.vr 0 0 0 0 0 0) (b.vi 0 0 0 0 0 0) (b.vr 0 0 0 0 0 1) (b.vi 0 0 0 0 0 1)
def x164 (b : Rows) : FVec Ideal S8x128 .f32 := k0_pay57 (x102 b) (x105 b) (x108 b) (x111 b) (x136 b) (b.vr 0 0 0 1 0 0) (b.vi 0 0 0 1 0 0) (b.vr 0 0 0 1 0 1) (b.vi 0 0 0 1 0 1)
def x165 (b : Rows) : FVec Ideal S8x128 .f32 := k0_pay58 (x102 b) (x105 b) (x108 b) (x111 b) (x137 b) (b.vr 0 0 0 1 0 0) (b.vi 0 0 0 1 0 0) (b.vr 0 0 0 1 0 1) (b.vi 0 0 0 1 0 1)
def x172 (b : Rows) : FVec Ideal S8x128 .f32 := k0_pay59 (x90 b) (x93 b) (b.vr 0 0 0 0 1 0) (b.vi 0 0 0 0 1 0)
def x177 (b : Rows) : FVec Ideal S8x128 .f32 := k0_pay60 (x90 b) (x93 b) (b.vr 0 0 0 0 1 0) (b.vi 0 0 0 0 1 0)
def x218 (b : Rows) : FVec Ideal S8x128 .f32 := k0_pay61 (x96 b) (x99 b) (x102 b) (x105 b) (x108 b) (x111 b) (x172 b) (b.vr 0 0 0 0 1 1) (b.vi 0 0 0 0 1 1) (b.vr 0 0 0 1 1 0) (b.vi 0 0 0 1 1 0) (b.vr 0 0 0 1 1 1) (b.vi 0 0 0 1 1 1)
def x219 (b : Rows) : FVec Ideal S8x128 .f32 := k0_pay62 (x96 b) (x99 b) (x102 b) (x105 b) (x108 b) (x111 b) (x177 b) (b.vr 0 0 0 0 1 1) (b.vi 0 0 0 0 1 1) (b.vr 0 0 0 1 1 0) (b.vi 0 0 0 1 1 0) (b.vr 0 0 0 1 1 1) (b.vi 0 0 0 1 1 1)
def x258 (b : Rows) : FVec Ideal S8x128 .f32 := k0_pay63 (x90 b) (x93 b) (x96 b) (x99 b) (x102 b) (x105 b) (b.vr 0 1 0 0 0 0) (b.vi 0 1 0 0 0 0) (b.vr 0 1 0 0 0 1) (b.vi 0 1 0 0 0 1) (b.vr 0 1 0 1 0 0) (b.vi 0 1 0 1 0 0)
def x259 (b : Rows) : FVec Ideal S8x128 .f32 := k0_pay64 (x90 b) (x93 b) (x96 b) (x99 b) (x102 b) (x105 b) (b.vr 0 1 0 0 0 0) (b.vi 0 1 0 0 0 0) (b.vr 0 1 0 0 0 1) (b.vi 0 1 0 0 0 1) (b.vr 0 1 0 1 0 0) (b.vi 0 1 0 1 0 0)
def x272 (b : Rows) : FVec Ideal S8x128 .f32 := k0_pay65 (x108 b) (x111 b) (x258 b) (b.vr 0 1 0 1 0 1) (b.vi 0 1 0 1 0 1)
def x273 (b : Rows) : FVec Ideal S8x128 .f32 := k0_pay66 (x108 b) (x111 b) (x259 b) (b.vr 0 1 0 1 0 1) (b.vi 0 1 0 1 0 1)
def x298 (b : Rows) : FVec Ideal S8x128 .f32 := k0_pay67 (x90 b) (x93 b) (x96 b) (x99 b) (b.vr 0 1 0 0 1 0) (b.vi 0 1 0 0 1 0) (b.vr 0 1 0 0 1 1) (b.vi 0 1 0 0 1 1)
def x299 (b : Rows) : FVec Ideal S8x128 .f32 := k0_pay68 (x90 b) (x93 b) (x96 b) (x99 b) (b.vr 0 1 0 0 1 0) (b.vi 0 1 0 0 1 0) (b.vr 0 1 0 0 1 1) (b.vi 0 1 0 0 1 1)
def x326 (b : Rows) : FVec Ideal S8x128 .f32 := k0_pay69 (x102 b) (x105 b) (x108 b) (x111 b) (x298 b) (b.vr 0 1 0 1 1 0) (b.vi 0 1 0 1 1 0) (b.vr 0 1 0 1 1 1) (b.vi 0 1 0 1 1 1)
def x327 (b : Rows) : FVec Ideal S8x128 .f32 := k0_pay70 (x102 b) (x105 b) (x108 b) (x111 b) (x299 b) (b.vr 0 1 0 1 1 0) (b.vi 0 1 0 1 1 0) (b.vr 0 1 0 1 1 1) (b.vi 0 1 0 1 1 1)
def x334 (b : Rows) : FVec Ideal S8x128 .f32 := k0_pay71 (x90 b) (x93 b) (b.vr 0 0 1 0 0 0) (b.vi 0 0 1 0 0 0)
def x339 (b : Rows) : FVec Ideal S8x128 .f32 := k0_pay72 (x90 b) (x93 b) (b.vr 0 0 1 0 0 0) (b.vi 0 0 1 0 0 0)
def x342 (b : Rows) : FVec Ideal S8x128 .f32 := k0_pay73 (b.vr 0 0 1 0 0 1)
def x380 (b : Rows) : FVec Ideal S8x128 .f32 := k0_pay74 (x96 b) (x99 b) (x102 b) (x105 b) (x108 b) (x111 b) (x334 b) (b.vi 0 0 1 0 0 1) (x342 b) (b.vr 0 0 1 1 0 0) (b.vi 0 0 1 1 0 0) (b.vr 0 0 1 1 0 1) (b.vi 0 0 1 1 0 1)
def x381 (b : Rows) : FVec Ideal S8x128 .f32 := k0_pay75 (x96 b) (x99 b) (x102 b) (x105 b) (x108 b) (x111 b) (x339 b) (b.vr 0 0 1 0 0 1) (b.vi 0 0 1 0 0 1) (b.vr 0 0 1 1 0 0) (b.vi 0 0 1 1 0 0) (b.vr 0 0 1 1 0 1) (b.vi 0 0 1 1 0 1)
def x384 (b : Rows) : FVec Ideal S8x128 .f32 := k0_pay76 (b.vr 0 0 1 0 1 0)
def x420 (b : Rows) : FVec Ideal S8x128 .f32 := k0_pay77 (x90 b) (x93 b) (x96 b) (x99 b) (x102 b) (x105 b) (b.vi 0 0 1 0 1 0) (x384 b) (b.vr 0 0 1 0 1 1) (b.vi 0 0 1 0 1 1) (b.vr 0 0 1 1 1 0) (b.vi 0 0 1 1 1 0)
def x421 (b : Rows) : FVec Ideal S8x128 .f32 := k0_pay78 (x90 b) (x93 b) (x96 b) (x99 b) (x102 b) (x105 b) (b.vr 0 0 1 0 1 0) (b.vi 0 0 1 0 1 0) (b.vr 0 0 1 0 1 1) (b.vi 0 0 1 0 1 1) (b.vr 0 0 1 1 1 0) (b.vi 0 0 1 1 1 0)
def x425 (b : Rows) : FVec Ideal S8x128 .f32 := k0_pay79 (x108 b) (b.vr 0 0 1 1 1 1)
def x426 (b : Rows) : FVec Ideal S8x128 .f32 := k0_pay80 (b.vi 0 0 1 1 1 1)
def x434 (b : Rows) : FVec Ideal S8x128 .f32 := k0_pay81 (x111 b) (x420 b) (x425 b) (x426 b)
def x435 (b : Rows) : FVec Ideal S8x128 .f32 := k0_pay82 (x108 b) (x111 b) (x421 b) (b.vr 0 0 1 1 1 1) (b.vi 0 0 1 1 1 1)
def x460 (b : Rows) : FVec Ideal S8x128 .f32 := k0_pay83 (x90 b) (x93 b) (x96 b) (x99 b) (b.vr 0 1 1 0 0 0) (b.vi 0 1 1 0 0 0) (b.vr 0 1 1 0 0 1) (b.vi 0 1 1 0 0 1)
def x461 (b : Rows) : FVec Ideal S8x128 .f32 := k0_pay84 (x90 b) (x93 b) (x96 b) (x99 b) (b.vr 0 1 1 0 0 0) (b.vi 0 1 1 0 0 0) (b.vr 0 1 1 0 0 1) (b.vi 0 1 1 0 0 1)
def x468 (b : Rows) : FVec Ideal S8x128 .f32 := k0_pay85 (x102 b) (x105 b) (b.vr 0 1 1 1 0 0) (b.vi 0 1 1 1 0 0)
def x488 (b : Rows) : FVec Ideal S8x128 .f32 := k0_pay86 (x108 b) (x111 b) (x460 b) (x468 b) (b.vr 0 1 1 1 0 1) (b.vi 0 1 1 1 0 1)
def x489 (b : Rows) : FVec Ideal S8x128 .f32 := k0_pay87 (x102 b) (x105 b) (x108 b) (x111 b) (x461 b) (b.vr 0 1 1 1 0 0) (b.vi 0 1 1 1 0 0) (b.vr 0 1 1 1 0 1) (b.vi 0 1 1 1 0 1)
def x496 (b : Rows) : FVec Ideal S8x128 .f32 := k0_pay88 (x90 b) (x93 b) (b.vr 0 1 1 0 1 0) (b.vi 0 1 1 0 1 0)
def x501 (b : Rows) : FVec Ideal S8x128 .f32 := k0_pay89 (x90 b) (x93 b) (b.vr 0 1 1 0 1 0) (b.vi 0 1 1 0 1 0)
def x508 (b : Rows) : FVec Ideal S8x128 .f32 := k0_pay90 (x96 b) (x99 b) (b.vr 0 1 1 0 1 1) (b.vi 0 1 1 0 1 1)
def x510 (b : Rows) : FVec Ideal S8x128 .f32 := k0_pay91 (x99 b) (b.vr 0 1 1 0 1 1)
def x542 (b : Rows) : FVec Ideal S8x128 .f32 := k0_pay92 (x102 b) (x105 b) (x108 b) (x111 b) (x496 b) (x508 b) (b.vr 0 1 1 1 1 0) (b.vi 0 1 1 1 1 0) (b.vr 0 1 1 1 1 1) (b.vi 0 1 1 1 1 1)
def x543 (b : Rows) : FVec Ideal S8x128 .f32 := k0_pay93 (x96 b) (x102 b) (x105 b) (x108 b) (x111 b) (x501 b) (b.vi 0 1 1 0 1 1) (x510 b) (b.vr 0 1 1 1 1 0) (b.vi 0 1 1 1 1 0) (b.vr 0 1 1 1 1 1) (b.vi 0 1 1 1 1 1)
def x550 (b : Rows) : FVec Ideal S8x128 .f32 := k0_pay94 (x90 b) (x93 b) (b.vr 1 0 0 0 0 0) (b.vi 1 0 0 0 0 0)
def x552 (b : Rows) : FVec Ideal S8x128 .f32 := k0_pay95 (x93 b) (b.vr 1 0 0 0 0 0)
def x582 (b : Rows) : FVec Ideal S8x128 .f32 := k0_pay96 (x96 b) (x99 b) (x102 b) (x105 b) (x550 b) (b.vr 1 0 0 0 0 1) (b.vi 1 0 0 0 0 1) (b.vr 1 0 0 1 0 0) (b.vi 1 0 0 1 0 0)
def x583 (b : Rows) : FVec Ideal S8x128 .f32 := k0_pay97 (x90 b) (x96 b) (x99 b) (x102 b) (x105 b) (b.vi 1 0 0 0 0 0) (x552 b) (b.vr 1 0 0 0 0 1) (b.vi 1 0 0 0 0 1) (b.vr 1 0 0 1 0 0) (b.vi 1 0 0 1 0 0)
def x590 (b : Rows) : FVec Ideal S8x128 .f32 := k0_pay98 (x108 b) (x111 b) (b.vr 1 0 0 1 0 1) (b.vi 1 0 0 1 0 1)
def x592 (b : Rows) : FVec Ideal S8x128 .f32 := k0_pay99 (x111 b) (b.vr 1 0 0 1 0 1)
def x594 (b : Rows) : FVec Ideal S8x128 .f32 := k0_pay100 (x108 b) (b.vi 1 0 0 1 0 1)
def x596 (b : Rows) : FVec Ideal S8x128 .f32 := k0_pay101 (x582 b) (x590 b)
def x597 (b : Rows) : FVec Ideal S8x128 .f32 := k0_pay102 (x583 b) (x592 b) (x594 b)
def x623 (b : Rows) : FVec Ideal S8x128 .f32 := k0_pay103 (x90 b) (x93 b) (x96 b) (x99 b) (b.vr 1 0 0 0 1 0) (b.vi 1 0 0 0 1 0) (b.vr 1 0 0 0 1 1) (b.vi 1 0 0 0 1 1)
def x635 (b : Rows) : FVec Ideal S8x128 .f32 := k0_pay104 (x102 b) (x105 b) (b.vr 1 0 0 1 1 0) (b.vi 1 0 0 1 1 0)
def x636 (b : Rows) : FVec Ideal S8x128 .f32 := k0_pay105 (x90 b) (x93 b) (x96 b) (x99 b) (x102 b) (x105 b) (b.vr 1 0 0 0 1 0) (b.vi 1 0 0 0 1 0) (b.vr 1 0 0 0 1 1) (b.vi 1 0 0 0 1 1) (b.vr 1 0 0 1 1 0) (b.vi 1 0 0 1 1 0)
def x650 (b : Rows) : FVec Ideal S8x128 .f32 := k0_pay106 (x108 b) (x111 b) (x636 b) (b.vr 1 0 0 1 1 1) (b.vi 1 0 0 1 1 1)
def x651 (b : Rows) : FVec Ideal S8x128 .f32 := k0_pay107 (x108 b) (x111 b) (x623 b) (x635 b) (b.vr 1 0 0 1 1 1) (b.vi 1 0 0 1 1 1)
def x676 (b : Rows) : FVec Ideal S8x128 .f32 := k0_pay108 (x90 b) (x93 b) (x96 b) (x99 b) (b.vr 1 1 0 0 0 0) (b.vi 1 1 0 0 0 0) (b.vr 1 1 0 0 0 1) (b.vi 1 1 0 0 0 1)
def x677 (b : Rows) : FVec Ideal S8x128 .f32 := k0_pay109 (x90 b) (x93 b) (x96 b) (x99 b) (b.vr 1 1 0 0 0 0) (b.vi 1 1 0 0 0 0) (b.vr 1 1 0 0 0 1) (b.vi 1 1 0 0 0 1)
def x704 (b : Rows) : FVec Ideal S8x128 .f32 := k0_pay110 (x102 b) (x105 b) (x108 b) (x111 b) (x676 b) (b.vr 1 1 0 1 0 0) (b.vi 1 1 0 1 0 0) (b.vr 1 1 0 1 0 1) (b.vi 1 1 0 1 0 1)
def x705 (b : Rows) : FVec Ideal S8x128 .f32 := k0_pay111 (x102 b) (x105 b) (x108 b) (x111 b) (x677 b) (b.vr 1 1 0 1 0 0) (b.vi 1 1 0 1 0 0) (b.vr 1 1 0 1 0 1) (b.vi 1 1 0 1 0 1)
def x712 (b : Rows) : FVec Ideal S8x128 .f32 := k0_pay112 (x90 b) (x93 b) (b.vr 1 1 0 0 1 0) (b.vi 1 1 0 0 1 0)
def x717 (b : Rows) : FVec Ideal S8x128 .f32 := k0_pay113 (x90 b) (x93 b) (b.vr 1 1 0 0 1 0) (b.vi 1 1 0 0 1 0)
def x758 (b : Rows) : FVec Ideal S8x128 .f32 := k0_pay114 (x96 b) (x99 b) (x102 b) (x105 b) (x108 b) (x111 b) (x712 b) (b.vr 1 1 0 0 1 1) (b.vi 1 1 0 0 1 1) (b.vr 1 1 0 1 1 0) (b.vi 1 1 0 1 1 0) (b.vr 1 1 0 1 1 1) (b.vi 1 1 0 1 1 1)
def x759 (b : Rows) : FVec Ideal S8x128 .f32 := k0_pay115 (x96 b) (x99 b) (x102 b) (x105 b) (x108 b) (x111 b) (x717 b) (b.vr 1 1 0 0 1 1) (b.vi 1 1 0 0 1 1) (b.vr 1 1 0 1 1 0) (b.vi 1 1 0 1 1 0) (b.vr 1 1 0 1 1 1) (b.vi 1 1 0 1 1 1)
def x798 (b : Rows) : FVec Ideal S8x128 .f32 := k0_pay116 (x90 b) (x93 b) (x96 b) (x99 b) (x102 b) (x105 b) (b.vr 1 0 1 0 0 0) (b.vi 1 0 1 0 0 0) (b.vr 1 0 1 0 0 1) (b.vi 1 0 1 0 0 1) (b.vr 1 0 1 1 0 0) (b.vi 1 0 1 1 0 0)
def x799 (b : Rows) : FVec Ideal S8x128 .f32 := k0_pay117 (x90 b) (x93 b) (x96 b) (x99 b) (x102 b) (x105 b) (b.vr 1 0 1 0 0 0) (b.vi 1 0 1 0 0 0) (b.vr 1 0 1 0 0 1) (b.vi 1 0 1 0 0 1) (b.vr 1 0 1 1 0 0) (b.vi 1 0 1 1 0 0)
def x812 (b : Rows) : FVec Ideal S8x128 .f32 := k0_pay118 (x108 b) (x111 b) (x798 b) (b.vr 1 0 1 1 0 1) (b.vi 1 0 1 1 0 1)
def x813 (b : Rows) : FVec Ideal S8x128 .f32 := k0_pay119 (x108 b) (x111 b) (x799 b) (b.vr 1 0 1 1 0 1) (b.vi 1 0 1 1 0 1)
def x838 (b : Rows) : FVec Ideal S8x128 .f32 := k0_pay120 (x90 b) (x93 b) (x96 b) (x99 b) (b.vr 1 0 1 0 1 0) (b.vi 1 0 1 0 1 0) (b.vr 1 0 1 0 1 1) (b.vi 1 0 1 0 1 1)
def x839 (b : Rows) : FVec Ideal S8x128 .f32 := k0_pay121 (x90 b) (x93 b) (x96 b) (x99 b) (b.vr 1 0 1 0 1 0) (b.vi 1 0 1 0 1 0) (b.vr 1 0 1 0 1 1) (b.vi 1 0 1 0 1 1)
def x866 (b : Rows) : FVec Ideal S8x128 .f32 := k0_pay122 (x102 b) (x105 b) (x108 b) (x111 b) (x838 b) (b.vr 1 0 1 1 1 0) (b.vi 1 0 1 1 1 0) (b.vr 1 0 1 1 1 1) (b.vi 1 0 1 1 1 1)
def x867 (b : Rows) : FVec Ideal S8x128 .f32 := k0_pay123 (x102 b) (x105 b) (x108 b) (x111 b) (x839 b) (b.vr 1 0 1 1 1 0) (b.vi 1 0 1 1 1 0) (b.vr 1 0 1 1 1 1) (b.vi 1 0 1 1 1 1)
def x874 (b : Rows) : FVec Ideal S8x128 .f32 := k0_pay124 (x90 b) (x93 b) (b.vr 1 1 1 0 0 0) (b.vi 1 1 1 0 0 0)
def x879 (b : Rows) : FVec Ideal S8x128 .f32 := k0_pay125 (x90 b) (x93 b) (b.vr 1 1 1 0 0 0) (b.vi 1 1 1 0 0 0)
def x882 (b : Rows) : FVec Ideal S8x128 .f32 := k0_pay126 (b.vr 1 1 1 0 0 1)
def x920 (b : Rows) : FVec Ideal S8x128 .f32 := k0_pay127 (x96 b) (x99 b) (x102 b) (x105 b) (x108 b) (x111 b) (x874 b) (b.vi 1 1 1 0 0 1) (x882 b) (b.vr 1 1 1 1 0 0) (b.vi 1 1 1 1 0 0) (b.vr 1 1 1 1 0 1) (b.vi 1 1 1 1 0 1)
def x921 (b : Rows) : FVec Ideal S8x128 .f32 := k0_pay128 (x96 b) (x99 b) (x102 b) (x105 b) (x108 b) (x111 b) (x879 b) (b.vr 1 1 1 0 0 1) (b.vi 1 1 1 0 0 1) (b.vr 1 1 1 1 0 0) (b.vi 1 1 1 1 0 0) (b.vr 1 1 1 1 0 1) (b.vi 1 1 1 1 0 1)
def x924 (b : Rows) : FVec Ideal S8x128 .f32 := k0_pay129 (b.vr 1 1 1 0 1 0)
def x960 (b : Rows) : FVec Ideal S8x128 .f32 := k0_pay130 (x90 b) (x93 b) (x96 b) (x99 b) (x102 b) (x105 b) (b.vi 1 1 1 0 1 0) (x924 b) (b.vr 1 1 1 0 1 1) (b.vi 1 1 1 0 1 1) (b.vr 1 1 1 1 1 0) (b.vi 1 1 1 1 1 0)
def x961 (b : Rows) : FVec Ideal S8x128 .f32 := k0_pay131 (x90 b) (x93 b) (x96 b) (x99 b) (x102 b) (x105 b) (b.vr 1 1 1 0 1 0) (b.vi 1 1 1 0 1 0) (b.vr 1 1 1 0 1 1) (b.vi 1 1 1 0 1 1) (b.vr 1 1 1 1 1 0) (b.vi 1 1 1 1 1 0)
def x965 (b : Rows) : FVec Ideal S8x128 .f32 := k0_pay132 (x108 b) (b.vr 1 1 1 1 1 1)
def x966 (b : Rows) : FVec Ideal S8x128 .f32 := k0_pay133 (b.vi 1 1 1 1 1 1)
def x974 (b : Rows) : FVec Ideal S8x128 .f32 := k0_pay134 (x111 b) (x960 b) (x965 b) (x966 b)
def x975 (b : Rows) : FVec Ideal S8x128 .f32 := k0_pay135 (x108 b) (x111 b) (x961 b) (b.vr 1 1 1 1 1 1) (b.vi 1 1 1 1 1 1)
def x988 (b : Rows) : FVec Ideal S8x128 .f32 := k0_pay136 (x60 b) (x63 b) (x76 b) (x79 b) (x164 b) (x165 b) (x218 b) (x219 b)
def x989 (b : Rows) : FVec Ideal S8x128 .f32 := k0_pay137 (x60 b) (x63 b) (x76 b) (x79 b) (x164 b) (x165 b) (x218 b) (x219 b)
def x1002 (b : Rows) : FVec Ideal S8x128 .f32 := k0_pay138 (x68 b) (x71 b) (x84 b) (x87 b) (x164 b) (x165 b) (x218 b) (x219 b)
def x1003 (b : Rows) : FVec Ideal S8x128 .f32 := k0_pay139 (x68 b) (x71 b) (x84 b) (x87 b) (x164 b) (x165 b) (x218 b) (x219 b)
def x1016 (b : Rows) : FVec Ideal S8x128 .f32 := k0_pay140 (x60 b) (x63 b) (x76 b) (x79 b) (x272 b) (x273 b) (x326 b) (x327 b)
def x1017 (b : Rows) : FVec Ideal S8x128 .f32 := k0_pay141 (x60 b) (x63 b) (x76 b) (x79 b) (x272 b) (x273 b) (x326 b) (x327 b)
def x1020 (b : Rows) : FVec Ideal S8x128 .f32 := k0_pay142 (x68 b) (x71 b) (x272 b) (x273 b)
def x1023 (b : Rows) : FVec Ideal S8x128 .f32 := k0_pay143 (x68 b) (x71 b) (x272 b) (x273 b)
def x1026 (b : Rows) : FVec Ideal S8x128 .f32 := k0_pay144 (x84 b) (x87 b) (x326 b) (x327 b)
def x1030 (b : Rows) : FVec Ideal S8x128 .f32 := k0_pay145 (x1020 b) (x1026 b)
def x1031 (b : Rows) : FVec Ideal S8x128 .f32 := k0_pay146 (x84 b) (x87 b) (x326 b) (x327 b) (x1023 b)
def x1044 (b : Rows) : FVec Ideal S8x128 .f32 := k0_pay147 (x60 b) (x63 b) (x76 b) (x79 b) (x380 b) (x381 b) (x434 b) (x435 b)
def x1045 (b : Rows) : FVec Ideal S8x128 .f32 := k0_pay148 (x60 b) (x63 b) (x76 b) (x79 b) (x380 b) (x381 b) (x434 b) (x435 b)
def x1058 (b : Rows) : FVec Ideal S8x128 .f32 := k0_pay149 (x68 b) (x71 b) (x84 b) (x87 b) (x380 b) (x381 b) (x434 b) (x435 b)
def x1059 (b : Rows) : FVec Ideal S8x128 .f32 := k0_pay150 (x68 b) (x71 b) (x84 b) (x87 b) (x380 b) (x381 b) (x434 b) (x435 b)
def x1072 (b : Rows) : FVec Ideal S8x128 .f32 := k0_pay151 (x60 b) (x63 b) (x76 b) (x79 b) (x488 b) (x489 b) (x542 b) (x543 b)
def x1073 (b : Rows) : FVec Ideal S8x128 .f32 := k0_pay152 (x60 b) (x63 b) (x76 b) (x79 b) (x488 b) (x489 b) (x542 b) (x543 b)
def x1079 (b : Rows) : FVec Ideal S8x128 .f32 := k0_pay153 (x68 b) (x71 b) (x488 b) (x489 b)
def x1085 (b : Rows) : FVec Ideal S8x128 .f32 := k0_pay154 (x84 b) (x87 b) (x542 b) (x543 b)
def x1086 (b : Rows) : FVec Ideal S8x128 .f32 := k0_pay155 (x68 b) (x71 b) (x84 b) (x87 b) (x488 b) (x489 b) (x542 b) (x543 b)
def x1087 (b : Rows) : FVec Ideal S8x128 .f32 := k0_pay156 (x1079 b) (x1085 b)
def x1100 (b : Rows) : FVec Ideal S8x128 .f32 := k0_pay157 (x60 b) (x63 b) (x76 b) (x79 b) (x596 b) (x597 b) (x650 b) (x651 b)
def x1101 (b : Rows) : FVec Ideal S8x128 .f32 := k0_pay158 (x60 b) (x63 b) (x76 b) (x79 b) (x596 b) (x597 b) (x650 b) (x651 b)
def x1114 (b : Rows) : FVec Ideal S8x128 .f32 := k0_pay159 (x68 b) (x71 b) (x84 b) (x87 b) (x596 b) (x597 b) (x650 b) (x651 b)
def x1115 (b : Rows) : FVec Ideal S8x128 .f32 := k0_pay160 (x68 b) (x71 b) (x84 b) (x87 b) (x596 b) (x597 b) (x650 b) (x651 b)
def x1128 (b : Rows) : FVec Ideal S8x128 .f32 := k0_pay161 (x60 b) (x63 b) (x76 b) (x79 b) (x704 b) (x705 b) (x758 b) (x759 b)
def x1129 (b : Rows) : FVec Ideal S8x128 .f32 := k0_pay162 (x60 b) (x63 b) (x76 b) (x79 b) (x704 b) (x705 b) (x758 b) (x759 b)
def x1142 (b : Rows) : FVec Ideal S8x128 .f32 := k0_pay163 (x68 b) (x71 b) (x84 b) (x87 b) (x704 b) (x705 b) (x758 b) (x759 b)
def x1143 (b : Rows) : FVec Ideal S8x128 .f32 := k0_pay164 (x68 b) (x71 b) (x84 b) (x87 b) (x704 b) (x705 b) (x758 b) (x759 b)
def x1146 (b : Rows) : FVec Ideal S8x128 .f32 := k0_pay165 (x60 b) (x63 b) (x812 b) (x813 b)
def x1156 (b : Rows) : FVec Ideal S8x128 .f32 := k0_pay166 (x76 b) (x79 b) (x866 b) (x867 b) (x1146 b)
def x1157 (b : Rows) : FVec Ideal S8x128 .f32 := k0_pay167 (x60 b) (x63 b) (x76 b) (x79 b) (x812 b) (x813 b) (x866 b) (x867 b)
def x1170 (b : Rows) : FVec Ideal S8x128 .f32 := k0_pay168 (x68 b) (x71 b) (x84 b) (x87 b) (x812 b) (x813 b) (x866 b) (x867 b)
def x1171 (b : Rows) : FVec Ideal S8x128 .f32 := k0_pay169 (x68 b) (x71 b) (x84 b) (x87 b) (x812 b) (x813 b) (x866 b) (x867 b)
def x1184 (b : Rows) : FVec Ideal S8x128 .f32 := k0_pay170 (x60 b) (x63 b) (x76 b) (x79 b) (x920 b) (x921 b) (x974 b) (x975 b)
def x1185 (b : Rows) : FVec Ideal S8x128 .f32 := k0_pay171 (x60 b) (x63 b) (x76 b) (x79 b) (x920 b) (x921 b) (x974 b) (x975 b)
def x1198 (b : Rows) : FVec Ideal S8x128 .f32 := k0_pay172 (x68 b) (x71 b) (x84 b) (x87 b) (x920 b) (x921 b) (x974 b) (x975 b)
def x1199 (b : Rows) : FVec Ideal S8x128 .f32 := k0_pay173 (x68 b) (x71 b) (x84 b) (x87 b) (x920 b) (x921 b) (x974 b) (x975 b)
def x1201 (b : Rows) : FVec Ideal S8x128 .f32 := k0_pay174 (x165 b)
def x1204 (b : Rows) : FVec Ideal S8x128 .f32 := k0_pay175 (x164 b) (x165 b) (x988 b) (x989 b)
def x1205 (b : Rows) : FVec Ideal S8x128 .f32 := k0_pay176 (x165 b) (x988 b)
def x1209 (b : Rows) : FVec Ideal S8x128 .f32 := k0_pay177 (x219 b)
def x1219 (b : Rows) : FVec Ideal S8x128 .f32 := k0_pay178 (x381 b)
def x1229 (b : Rows) : FVec Ideal S8x128 .f32 := k0_pay179 (x435 b)
def x1239 (b : Rows) : FVec Ideal S8x128 .f32 := k0_pay180 (x597 b)
def x1249 (b : Rows) : FVec Ideal S8x128 .f32 := k0_pay181 (x651 b)
def x1256 (b : Rows) : FVec Ideal S8x128 .f32 := k0_pay182 (x218 b) (x219 b) (x380 b) (x381 b) (x434 b) (x435 b) (x596 b) (x597 b) (x650 b) (x651 b) (x1002 b) (x1003 b) (x1044 b) (x1045 b) (x1058 b) (x1059 b) (x1100 b) (x1101 b) (x1114 b) (x1115 b) (x1204 b)
def x1257 (b : Rows) : FVec Ideal S8x128 .f32 := k0_pay183 (x164 b) (x218 b) (x219 b) (x380 b) (x381 b) (x434 b) (x435 b) (x596 b) (x597 b) (x650 b) (x651 b) (x989 b) (x1002 b) (x1003 b) (x1044 b) (x1045 b) (x1058 b) (x1059 b) (x1100 b) (x1101 b) (x1114 b) (x1115 b) (x1205 b)
def x1259 (b : Rows) : FVec Ideal S8x128 .f32 := k0_pay184 (x813 b)
def x1269 (b : Rows) : FVec Ideal S8x128 .f32 := k0_pay185 (x867 b)
def x1276 (b : Rows) : FVec Ideal S8x128 .f32 := k0_pay186 (x812 b) (x866 b) (x867 b) (x1156 b) (x1157 b) (x1170 b) (x1171 b) (x1256 b) (x1259 b)
def x1277 (b : Rows) : FVec Ideal S8x128 .f32 := k0_pay187 (x812 b) (x866 b) (x867 b) (x1156 b) (x1157 b) (x1170 b) (x1171 b) (x1257 b) (x1259 b)
def x1279 (b : Rows) : FVec Ideal S8x128 .f32 := k0_pay188 (x273 b)
def x1287 (b : Rows) : FVec Ideal S8x128 .f32 := k0_pay189 (x327 b)
def x1297 (b : Rows) : FVec Ideal S8x128 .f32 := k0_pay190 (x489 b)
def x1305 (b : Rows) : FVec Ideal S8x128 .f32 := k0_pay191 (x272 b) (x273 b) (x326 b) (x327 b) (x488 b) (x489 b) (x988 b) (x989 b) (x1002 b) (x1003 b) (x1044 b) (x1045 b)
def x1307 (b : Rows) : FVec Ideal S8x128 .f32 := k0_pay192 (x543 b)
def x1313 (b : Rows) : FVec Ideal S8x128 .f32 := k0_pay193 (x542 b) (x543 b) (x1058 b) (x1059 b)
def x1314 (b : Rows) : FVec Ideal S8x128 .f32 := k0_pay194 (x272 b) (x273 b) (x326 b) (x327 b) (x488 b) (x489 b) (x542 b) (x543 b) (x988 b) (x989 b) (x1002 b) (x1003 b) (x1044 b) (x1045 b) (x1058 b) (x1059 b)
def x1317 (b : Rows) : FVec Ideal S8x128 .f32 := k0_pay195 (x705 b)
def x1327 (b : Rows) : FVec Ideal S8x128 .f32 := k0_pay196 (x759 b)
def x1337 (b : Rows) : FVec Ideal S8x128 .f32 := k0_pay197 (x921 b)
def x1347 (b : Rows) : FVec Ideal S8x128 .f32 := k0_pay198 (x975 b)
def x1354 (b : Rows) : FVec Ideal S8x128 .f32 := k0_pay199 (x704 b) (x705 b) (x758 b) (x759 b) (x920 b) (x921 b) (x974 b) (x975 b) (x1100 b) (x1101 b) (x1114 b) (x1115 b) (x1156 b) (x1157 b) (x1170 b) (x1171 b) (x1314 b)
def x1355 (b : Rows) : FVec Ideal S8x128 .f32 := k0_pay200 (x704 b) (x705 b) (x758 b) (x759 b) (x920 b) (x921 b) (x974 b) (x975 b) (x1100 b) (x1101 b) (x1114 b) (x1115 b) (x1156 b) (x1157 b) (x1170 b) (x1171 b) (x1305 b) (x1313 b)
def x1357 (b : Rows) : FVec Ideal S8x128 .f32 := k0_pay201 (x165 b)
def x1360 (b : Rows) : FVec Ideal S8x128 .f32 := k0_pay202 (x164 b) (x165 b) (x1016 b) (x1017 b)
def x1363 (b : Rows) : FVec Ideal S8x128 .f32 := k0_pay203 (x164 b) (x165 b) (x1016 b) (x1017 b)
def x1365 (b : Rows) : FVec Ideal S8x128 .f32 := k0_pay204 (x219 b)
def x1368 (b : Rows) : FVec Ideal S8x128 .f32 := k0_pay205 (x218 b) (x219 b) (x1030 b) (x1031 b)
def x1375 (b : Rows) : FVec Ideal S8x128 .f32 := k0_pay206 (x381 b)
def x1385 (b : Rows) : FVec Ideal S8x128 .f32 := k0_pay207 (x435 b)
def x1395 (b : Rows) : FVec Ideal S8x128 .f32 := k0_pay208 (x597 b)
def x1405 (b : Rows) : FVec Ideal S8x128 .f32 := k0_pay209 (x651 b)
def x1415 (b : Rows) : FVec Ideal S8x128 .f32 := k0_pay210 (x813 b)
def x1422 (b : Rows) : FVec Ideal S8x128 .f32 := k0_pay211 (x380 b) (x381 b) (x434 b) (x435 b) (x596 b) (x597 b) (x650 b) (x651 b) (x812 b) (x813 b) (x1072 b) (x1073 b) (x1086 b) (x1087 b) (x1128 b) (x1129 b) (x1142 b) (x1143 b) (x1184 b) (x1185 b) (x1360 b) (x1368 b)
def x1423 (b : Rows) : FVec Ideal S8x128 .f32 := k0_pay212 (x218 b) (x380 b) (x381 b) (x434 b) (x435 b) (x596 b) (x597 b) (x650 b) (x651 b) (x812 b) (x813 b) (x1030 b) (x1031 b) (x1072 b) (x1073 b) (x1086 b) (x1087 b) (x1128 b) (x1129 b) (x1142 b) (x1143 b) (x1184 b) (x1185 b) (x1363 b) (x1365 b)
def x1425 (b : Rows) : FVec Ideal S8x128 .f32 := k0_pay213 (x867 b)
def x1432 (b : Rows) : FVec Ideal S8x128 .f32 := k0_pay214 (x866 b) (x867 b) (x1198 b) (x1199 b) (x1422 b)
def x1433 (b : Rows) : FVec Ideal S8x128 .f32 := k0_pay215 (x866 b) (x867 b) (x1198 b) (x1199 b) (x1423 b)
def x1435 (b : Rows) : FVec Ideal S8x128 .f32 := k0_pay216 (x273 b)
def x1443 (b : Rows) : FVec Ideal S8x128 .f32 := k0_pay217 (x327 b)
def x1453 (b : Rows) : FVec Ideal S8x128 .f32 := k0_pay218 (x489 b)
def x1463 (b : Rows) : FVec Ideal S8x128 .f32 := k0_pay219 (x543 b)
def x1470 (b : Rows) : FVec Ideal S8x128 .f32 := k0_pay220 (x272 b) (x273 b) (x326 b) (x327 b) (x488 b) (x489 b) (x542 b) (x543 b) (x1016 b) (x1017 b) (x1030 b) (x1031 b) (x1072 b) (x1073 b) (x1086 b) (x1087 b)
def x1471 (b : Rows) : FVec Ideal S8x128 .f32 := k0_pay221 (x272 b) (x273 b) (x326 b) (x327 b) (x488 b) (x489 b) (x542 b) (x543 b) (x1016 b) (x1017 b) (x1030 b) (x1031 b) (x1072 b) (x1073 b) (x1086 b) (x1087 b)
def x1473 (b : Rows) : FVec Ideal S8x128 .f32 := k0_pay222 (x705 b)
def x1476 (b : Rows) : FVec Ideal S8x128 .f32 := k0_pay223 (x704 b) (x705 b) (x1128 b) (x1129 b)
def x1477 (b : Rows) : FVec Ideal S8x128 .f32 := k0_pay224 (x705 b) (x1128 b)
def x1483 (b : Rows) : FVec Ideal S8x128 .f32 := k0_pay225 (x759 b)
def x1493 (b : Rows) : FVec Ideal S8x128 .f32 := k0_pay226 (x921 b)
def x1503 (b : Rows) : FVec Ideal S8x128 .f32 := k0_pay227 (x975 b)
def x1510 (b : Rows) : FVec Ideal S8x128 .f32 := k0_pay228 (x758 b) (x759 b) (x920 b) (x921 b) (x974 b) (x975 b) (x1142 b) (x1143 b) (x1184 b) (x1185 b) (x1198 b) (x1199 b) (x1470 b) (x1476 b)
def x1511 (b : Rows) : FVec Ideal S8x128 .f32 := k0_pay229 (x704 b) (x758 b) (x759 b) (x920 b) (x921 b) (x974 b) (x975 b) (x1129 b) (x1142 b) (x1143 b) (x1184 b) (x1185 b) (x1198 b) (x1199 b) (x1471 b) (x1477 b)
def x1514 (b : Rows) : FVec Ideal S8x128 .f32 := k0_pay230 (x17 b) (x19 b) (x41 b) (x43 b)
def x1517 (b : Rows) : FVec Ideal S8x128 .f32 := k0_pay231 (x17 b) (x19 b) (x41 b) (x43 b)
def x1520 (b : Rows) : FVec Ideal S8x128 .f32 := k0_pay232 (x21 b) (x23 b) (x41 b) (x43 b)
def x1523 (b : Rows) : FVec Ideal S8x128 .f32 := k0_pay233 (x21 b) (x23 b) (x41 b) (x43 b)
def x1526 (b : Rows) : FVec Ideal S8x128 .f32 := k0_pay234 (x17 b) (x19 b) (x45 b) (x47 b)
def x1529 (b : Rows) : FVec Ideal S8x128 .f32 := k0_pay235 (x17 b) (x19 b) (x45 b) (x47 b)
def x1532 (b : Rows) : FVec Ideal S8x128 .f32 := k0_pay236 (x21 b) (x23 b) (x45 b) (x47 b)
def x1533 (b : Rows) : FVec Ideal S8x128 .f32 := k0_pay237 (x23 b) (x45 b)
def x1534 (b : Rows) : FVec Ideal S8x128 .f32 := k0_pay238 (x21 b) (x47 b)
def x1535 (b : Rows) : FVec Ideal S8x128 .f32 := k0_pay239 (x1533 b) (x1534 b)
def x1574 (b : Rows) : FVec Ideal S8x128 .f32 := k0_pay240 (x1514 b) (x1517 b) (x1520 b) (x1523 b) (x1526 b) (x1529 b) (b.vr 0 0 0 0 0 0) (b.vi 0 0 0 0 0 0) (b.vr 0 0 0 0 0 1) (b.vi 0 0 0 0 0 1) (b.vr 0 0 0 1 0 0) (b.vi 0 0 0 1 0 0)
def x1575 (b : Rows) : FVec Ideal S8x128 .f32 := k0_pay241 (x1514 b) (x1517 b) (x1520 b) (x1523 b) (x1526 b) (x1529 b) (b.vr 0 0 0 0 0 0) (b.vi 0 0 0 0 0 0) (b.vr 0 0 0 0 0 1) (b.vi 0 0 0 0 0 1) (b.vr 0 0 0 1 0 0) (b.vi 0 0 0 1 0 0)
def x1588 (b : Rows) : FVec Ideal S8x128 .f32 := k0_pay242 (x1532 b) (x1535 b) (x1574 b) (b.vr 0 0 0 1 0 1) (b.vi 0 0 0 1 0 1)
def x1589 (b : Rows) : FVec Ideal S8x128 .f32 := k0_pay243 (x1532 b) (x1535 b) (x1575 b) (b.vr 0 0 0 1 0 1) (b.vi 0 0 0 1 0 1)
def x1614 (b : Rows) : FVec Ideal S8x128 .f32 := k0_pay244 (x1514 b) (x1517 b) (x1520 b) (x1523 b) (b.vr 0 0 0 0 1 0) (b.vi 0 0 0 0 1 0) (b.vr 0 0 0 0 1 1) (b.vi 0 0 0 0 1 1)
def x1615 (b : Rows) : FVec Ideal S8x128 .f32 := k0_pay245 (x1514 b) (x1517 b) (x1520 b) (x1523 b) (b.vr 0 0 0 0 1 0) (b.vi 0 0 0 0 1 0) (b.vr 0 0 0 0 1 1) (b.vi 0 0 0 0 1 1)
def x1642 (b : Rows) : FVec Ideal S8x128 .f32 := k0_pay246 (x1526 b) (x1529 b) (x1532 b) (x1535 b) (x1614 b) (b.vr 0 0 0 1 1 0) (b.vi 0 0 0 1 1 0) (b.vr 0 0 0 1 1 1) (b.vi 0 0 0 1 1 1)
def x1643 (b : Rows) : FVec Ideal S8x128 .f32 := k0_pay247 (x1526 b) (x1529 b) (x1532 b) (x1535 b) (x1615 b) (b.vr 0 0 0 1 1 0) (b.vi 0 0 0 1 1 0) (b.vr 0 0 0 1 1 1) (b.vi 0 0 0 1 1 1)
def x1650 (b : Rows) : FVec Ideal S8x128 .f32 := k0_pay248 (x1514 b) (x1517 b) (b.vr 0 1 0 0 0 0) (b.vi 0 1 0 0 0 0)
def x1655 (b : Rows) : FVec Ideal S8x128 .f32 := k0_pay249 (x1514 b) (x1517 b) (b.vr 0 1 0 0 0 0) (b.vi 0 1 0 0 0 0)
def x1696 (b : Rows) : FVec Ideal S8x128 .f32 := k0_pay250 (x1520 b) (x1523 b) (x1526 b) (x1529 b) (x1532 b) (x1535 b) (x1650 b) (b.vr 0 1 0 0 0 1) (b.vi 0 1 0 0 0 1) (b.vr 0 1 0 1 0 0) (b.vi 0 1 0 1 0 0) (b.vr 0 1 0 1 0 1) (b.vi 0 1 0 1 0 1)
def x1697 (b : Rows) : FVec Ideal S8x128 .f32 := k0_pay251 (x1520 b) (x1523 b) (x1526 b) (x1529 b) (x1532 b) (x1535 b) (x1655 b) (b.vr 0 1 0 0 0 1) (b.vi 0 1 0 0 0 1) (b.vr 0 1 0 1 0 0) (b.vi 0 1 0 1 0 0) (b.vr 0 1 0 1 0 1) (b.vi 0 1 0 1 0 1)
def x1736 (b : Rows) : FVec Ideal S8x128 .f32 := k0_pay252 (x1514 b) (x1517 b) (x1520 b) (x1523 b) (x1526 b) (x1529 b) (b.vr 0 1 0 0 1 0) (b.vi 0 1 0 0 1 0) (b.vr 0 1 0 0 1 1) (b.vi 0 1 0 0 1 1) (b.vr 0 1 0 1 1 0) (b.vi 0 1 0 1 1 0)
def x1737 (b : Rows) : FVec Ideal S8x128 .f32 := k0_pay253 (x1514 b) (x1517 b) (x1520 b) (x1523 b) (x1526 b) (x1529 b) (b.vr 0 1 0 0 1 0) (b.vi 0 1 0 0 1 0) (b.vr 0 1 0 0 1 1) (b.vi 0 1 0 0 1 1) (b.vr 0 1 0 1 1 0) (b.vi 0 1 0 1 1 0)
def x1750 (b : Rows) : FVec Ideal S8x128 .f32 := k0_pay254 (x1532 b) (x1535 b) (x1736 b) (b.vr 0 1 0 1 1 1) (b.vi 0 1 0 1 1 1)
def x1751 (b : Rows) : FVec Ideal S8x128 .f32 := k0_pay255 (x1532 b) (x1535 b) (x1737 b) (b.vr 0 1 0 1 1 1) (b.vi 0 1 0 1 1 1)
def x1776 (b : Rows) : FVec Ideal S8x128 .f32 := k0_pay256 (x1514 b) (x1517 b) (x1520 b) (x1523 b) (b.vr 0 0 1 0 0 0) (b.vi 0 0 1 0 0 0) (b.vr 0 0 1 0 0 1) (b.vi 0 0 1 0 0 1)
def x1777 (b : Rows) : FVec Ideal S8x128 .f32 := k0_pay257 (x1514 b) (x1517 b) (x1520 b) (x1523 b) (b.vr 0 0 1 0 0 0) (b.vi 0 0 1 0 0 0) (b.vr 0 0 1 0 0 1) (b.vi 0 0 1 0 0 1)
def x1780 (b : Rows) : FVec Ideal S8x128 .f32 := k0_pay258 (b.vr 0 0 1 1 0 0)
def x1804 (b : Rows) : FVec Ideal S8x128 .f32 := k0_pay259 (x1526 b) (x1529 b) (x1532 b) (x1535 b) (x1776 b) (b.vi 0 0 1 1 0 0) (x1780 b) (b.vr 0 0 1 1 0 1) (b.vi 0 0 1 1 0 1)
def x1805 (b : Rows) : FVec Ideal S8x128 .f32 := k0_pay260 (x1526 b) (x1529 b) (x1532 b) (x1535 b) (x1777 b) (b.vr 0 0 1 1 0 0) (b.vi 0 0 1 1 0 0) (b.vr 0 0 1 1 0 1) (b.vi 0 0 1 1 0 1)
def x1812 (b : Rows) : FVec Ideal S8x128 .f32 := k0_pay261 (x1514 b) (x1517 b) (b.vr 0 0 1 0 1 0) (b.vi 0 0 1 0 1 0)
def x1817 (b : Rows) : FVec Ideal S8x128 .f32 := k0_pay262 (x1514 b) (x1517 b) (b.vr 0 0 1 0 1 0) (b.vi 0 0 1 0 1 0)
def x1821 (b : Rows) : FVec Ideal S8x128 .f32 := k0_pay263 (x1520 b) (b.vr 0 0 1 0 1 1)
def x1822 (b : Rows) : FVec Ideal S8x128 .f32 := k0_pay264 (b.vi 0 0 1 0 1 1)
def x1858 (b : Rows) : FVec Ideal S8x128 .f32 := k0_pay265 (x1523 b) (x1526 b) (x1529 b) (x1532 b) (x1535 b) (x1812 b) (x1821 b) (x1822 b) (b.vr 0 0 1 1 1 0) (b.vi 0 0 1 1 1 0) (b.vr 0 0 1 1 1 1) (b.vi 0 0 1 1 1 1)
def x1859 (b : Rows) : FVec Ideal S8x128 .f32 := k0_pay266 (x1520 b) (x1523 b) (x1526 b) (x1529 b) (x1532 b) (x1535 b) (x1817 b) (b.vr 0 0 1 0 1 1) (b.vi 0 0 1 0 1 1) (b.vr 0 0 1 1 1 0) (b.vi 0 0 1 1 1 0) (b.vr 0 0 1 1 1 1) (b.vi 0 0 1 1 1 1)
def x1863 (b : Rows) : FVec Ideal S8x128 .f32 := k0_pay267 (x1514 b) (b.vr 0 1 1 0 0 0)
def x1864 (b : Rows) : FVec Ideal S8x128 .f32 := k0_pay268 (b.vi 0 1 1 0 0 0)
def x1898 (b : Rows) : FVec Ideal S8x128 .f32 := k0_pay269 (x1517 b) (x1520 b) (x1523 b) (x1526 b) (x1529 b) (x1863 b) (x1864 b) (b.vr 0 1 1 0 0 1) (b.vi 0 1 1 0 0 1) (b.vr 0 1 1 1 0 0) (b.vi 0 1 1 1 0 0)
def x1899 (b : Rows) : FVec Ideal S8x128 .f32 := k0_pay270 (x1514 b) (x1517 b) (x1520 b) (x1523 b) (x1526 b) (x1529 b) (b.vr 0 1 1 0 0 0) (b.vi 0 1 1 0 0 0) (b.vr 0 1 1 0 0 1) (b.vi 0 1 1 0 0 1) (b.vr 0 1 1 1 0 0) (b.vi 0 1 1 1 0 0)
def x1906 (b : Rows) : FVec Ideal S8x128 .f32 := k0_pay271 (x1532 b) (x1535 b) (b.vr 0 1 1 1 0 1) (b.vi 0 1 1 1 0 1)
def x1912 (b : Rows) : FVec Ideal S8x128 .f32 := k0_pay272 (x1898 b) (x1906 b)
def x1913 (b : Rows) : FVec Ideal S8x128 .f32 := k0_pay273 (x1532 b) (x1535 b) (x1899 b) (b.vr 0 1 1 1 0 1) (b.vi 0 1 1 1 0 1)
def x1938 (b : Rows) : FVec Ideal S8x128 .f32 := k0_pay274 (x1514 b) (x1517 b) (x1520 b) (x1523 b) (b.vr 0 1 1 0 1 0) (b.vi 0 1 1 0 1 0) (b.vr 0 1 1 0 1 1) (b.vi 0 1 1 0 1 1)
def x1939 (b : Rows) : FVec Ideal S8x128 .f32 := k0_pay275 (x1514 b) (x1517 b) (x1520 b) (x1523 b) (b.vr 0 1 1 0 1 0) (b.vi 0 1 1 0 1 0) (b.vr 0 1 1 0 1 1) (b.vi 0 1 1 0 1 1)
def x1946 (b : Rows) : FVec Ideal S8x128 .f32 := k0_pay276 (x1526 b) (x1529 b) (b.vr 0 1 1 1 1 0) (b.vi 0 1 1 1 1 0)
def x1948 (b : Rows) : FVec Ideal S8x128 .f32 := k0_pay277 (x1529 b) (b.vr 0 1 1 1 1 0)
def x1966 (b : Rows) : FVec Ideal S8x128 .f32 := k0_pay278 (x1532 b) (x1535 b) (x1938 b) (x1946 b) (b.vr 0 1 1 1 1 1) (b.vi 0 1 1 1 1 1)
def x1967 (b : Rows) : FVec Ideal S8x128 .f32 := k0_pay279 (x1526 b) (x1532 b) (x1535 b) (x1939 b) (b.vi 0 1 1 1 1 0) (x1948 b) (b.vr 0 1 1 1 1 1) (b.vi 0 1 1 1 1 1)
def x1974 (b : Rows) : FVec Ideal S8x128 .f32 := k0_pay280 (x1514 b) (x1517 b) (b.vr 1 0 0 0 0 0) (b.vi 1 0 0 0 0 0)
def x1979 (b : Rows) : FVec Ideal S8x128 .f32 := k0_pay281 (x1514 b) (x1517 b) (b.vr 1 0 0 0 0 0) (b.vi 1 0 0 0 0 0)
def x1986 (b : Rows) : FVec Ideal S8x128 .f32 := k0_pay282 (x1520 b) (x1523 b) (b.vr 1 0 0 0 0 1) (b.vi 1 0 0 0 0 1)
def x1988 (b : Rows) : FVec Ideal S8x128 .f32 := k0_pay283 (x1523 b) (b.vr 1 0 0 0 0 1)
def x1990 (b : Rows) : FVec Ideal S8x128 .f32 := k0_pay284 (x1520 b) (b.vi 1 0 0 0 0 1)
def x2020 (b : Rows) : FVec Ideal S8x128 .f32 := k0_pay285 (x1526 b) (x1529 b) (x1532 b) (x1535 b) (x1974 b) (x1986 b) (b.vr 1 0 0 1 0 0) (b.vi 1 0 0 1 0 0) (b.vr 1 0 0 1 0 1) (b.vi 1 0 0 1 0 1)
def x2021 (b : Rows) : FVec Ideal S8x128 .f32 := k0_pay286 (x1526 b) (x1529 b) (x1532 b) (x1535 b) (x1979 b) (x1988 b) (x1990 b) (b.vr 1 0 0 1 0 0) (b.vi 1 0 0 1 0 0) (b.vr 1 0 0 1 0 1) (b.vi 1 0 0 1 0 1)
def x2028 (b : Rows) : FVec Ideal S8x128 .f32 := k0_pay287 (x1514 b) (x1517 b) (b.vr 1 0 0 0 1 0) (b.vi 1 0 0 0 1 0)
def x2030 (b : Rows) : FVec Ideal S8x128 .f32 := k0_pay288 (x1517 b) (b.vr 1 0 0 0 1 0)
def x2032 (b : Rows) : FVec Ideal S8x128 .f32 := k0_pay289 (x1514 b) (b.vi 1 0 0 0 1 0)
def x2061 (b : Rows) : FVec Ideal S8x128 .f32 := k0_pay290 (x1520 b) (x1523 b) (x1526 b) (x1529 b) (x2030 b) (x2032 b) (b.vr 1 0 0 0 1 1) (b.vi 1 0 0 0 1 1) (b.vr 1 0 0 1 1 0) (b.vi 1 0 0 1 1 0)
def x2073 (b : Rows) : FVec Ideal S8x128 .f32 := k0_pay291 (x1532 b) (x1535 b) (b.vr 1 0 0 1 1 1) (b.vi 1 0 0 1 1 1)
def x2074 (b : Rows) : FVec Ideal S8x128 .f32 := k0_pay292 (x1520 b) (x1523 b) (x1526 b) (x1529 b) (x1532 b) (x1535 b) (x2028 b) (b.vr 1 0 0 0 1 1) (b.vi 1 0 0 0 1 1) (b.vr 1 0 0 1 1 0) (b.vi 1 0 0 1 1 0) (b.vr 1 0 0 1 1 1) (b.vi 1 0 0 1 1 1)
def x2075 (b : Rows) : FVec Ideal S8x128 .f32 := k0_pay293 (x2061 b) (x2073 b)
def x2114 (b : Rows) : FVec Ideal S8x128 .f32 := k0_pay294 (x1514 b) (x1517 b) (x1520 b) (x1523 b) (x1526 b) (x1529 b) (b.vr 1 1 0 0 0 0) (b.vi 1 1 0 0 0 0) (b.vr 1 1 0 0 0 1) (b.vi 1 1 0 0 0 1) (b.vr 1 1 0 1 0 0) (b.vi 1 1 0 1 0 0)
def x2115 (b : Rows) : FVec Ideal S8x128 .f32 := k0_pay295 (x1514 b) (x1517 b) (x1520 b) (x1523 b) (x1526 b) (x1529 b) (b.vr 1 1 0 0 0 0) (b.vi 1 1 0 0 0 0) (b.vr 1 1 0 0 0 1) (b.vi 1 1 0 0 0 1) (b.vr 1 1 0 1 0 0) (b.vi 1 1 0 1 0 0)
def x2128 (b : Rows) : FVec Ideal S8x128 .f32 := k0_pay296 (x1532 b) (x1535 b) (x2114 b) (b.vr 1 1 0 1 0 1) (b.vi 1 1 0 1 0 1)
def x2129 (b : Rows) : FVec Ideal S8x128 .f32 := k0_pay297 (x1532 b) (x1535 b) (x2115 b) (b.vr 1 1 0 1 0 1) (b.vi 1 1 0 1 0 1)
def x2154 (b : Rows) : FVec Ideal S8x128 .f32 := k0_pay298 (x1514 b) (x1517 b) (x1520 b) (x1523 b) (b.vr 1 1 0 0 1 0) (b.vi 1 1 0 0 1 0) (b.vr 1 1 0 0 1 1) (b.vi 1 1 0 0 1 1)
def x2155 (b : Rows) : FVec Ideal S8x128 .f32 := k0_pay299 (x1514 b) (x1517 b) (x1520 b) (x1523 b) (b.vr 1 1 0 0 1 0) (b.vi 1 1 0 0 1 0) (b.vr 1 1 0 0 1 1) (b.vi 1 1 0 0 1 1)
def x2182 (b : Rows) : FVec Ideal S8x128 .f32 := k0_pay300 (x1526 b) (x1529 b) (x1532 b) (x1535 b) (x2154 b) (b.vr 1 1 0 1 1 0) (b.vi 1 1 0 1 1 0) (b.vr 1 1 0 1 1 1) (b.vi 1 1 0 1 1 1)
def x2183 (b : Rows) : FVec Ideal S8x128 .f32 := k0_pay301 (x1526 b) (x1529 b) (x1532 b) (x1535 b) (x2155 b) (b.vr 1 1 0 1 1 0) (b.vi 1 1 0 1 1 0) (b.vr 1 1 0 1 1 1) (b.vi 1 1 0 1 1 1)
def x2190 (b : Rows) : FVec Ideal S8x128 .f32 := k0_pay302 (x1514 b) (x1517 b) (b.vr 1 0 1 0 0 0) (b.vi 1 0 1 0 0 0)
def x2195 (b : Rows) : FVec Ideal S8x128 .f32 := k0_pay303 (x1514 b) (x1517 b) (b.vr 1 0 1 0 0 0) (b.vi 1 0 1 0 0 0)
def x2236 (b : Rows) : FVec Ideal S8x128 .f32 := k0_pay304 (x1520 b) (x1523 b) (x1526 b) (x1529 b) (x1532 b) (x1535 b) (x2190 b) (b.vr 1 0 1 0 0 1) (b.vi 1 0 1 0 0 1) (b.vr 1 0 1 1 0 0) (b.vi 1 0 1 1 0 0) (b.vr 1 0 1 1 0 1) (b.vi 1 0 1 1 0 1)
def x2237 (b : Rows) : FVec Ideal S8x128 .f32 := k0_pay305 (x1520 b) (x1523 b) (x1526 b) (x1529 b) (x1532 b) (x1535 b) (x2195 b) (b.vr 1 0 1 0 0 1) (b.vi 1 0 1 0 0 1) (b.vr 1 0 1 1 0 0) (b.vi 1 0 1 1 0 0) (b.vr 1 0 1 1 0 1) (b.vi 1 0 1 1 0 1)
def x2276 (b : Rows) : FVec Ideal S8x128 .f32 := k0_pay306 (x1514 b) (x1517 b) (x1520 b) (x1523 b) (x1526 b) (x1529 b) (b.vr 1 0 1 0 1 0) (b.vi 1 0 1 0 1 0) (b.vr 1 0 1 0 1 1) (b.vi 1 0 1 0 1 1) (b.vr 1 0 1 1 1 0) (b.vi 1 0 1 1 1 0)
def x2277 (b : Rows) : FVec Ideal S8x128 .f32 := k0_pay307 (x1514 b) (x1517 b) (x1520 b) (x1523 b) (x1526 b) (x1529 b) (b.vr 1 0 1 0 1 0) (b.vi 1 0 1 0 1 0) (b.vr 1 0 1 0 1 1) (b.vi 1 0 1 0 1 1) (b.vr 1 0 1 1 1 0) (b.vi 1 0 1 1 1 0)
def x2290 (b : Rows) : FVec Ideal S8x128 .f32 := k0_pay308 (x1532 b) (x1535 b) (x2276 b) (b.vr 1 0 1 1 1 1) (b.vi 1 0 1 1 1 1)
def x2291 (b : Rows) : FVec Ideal S8x128 .f32 := k0_pay309 (x1532 b) (x1535 b) (x2277 b) (b.vr 1 0 1 1 1 1) (b.vi 1 0 1 1 1 1)
def x2316 (b : Rows) : FVec Ideal S8x128 .f32 := k0_pay310 (x1514 b) (x1517 b) (x1520 b) (x1523 b) (b.vr 1 1 1 0 0 0) (b.vi 1 1 1 0 0 0) (b.vr 1 1 1 0 0 1) (b.vi 1 1 1 0 0 1)
def x2317 (b : Rows) : FVec Ideal S8x128 .f32 := k0_pay311 (x1514 b) (x1517 b) (x1520 b) (x1523 b) (b.vr 1 1 1 0 0 0) (b.vi 1 1 1 0 0 0) (b.vr 1 1 1 0 0 1) (b.vi 1 1 1 0 0 1)
def x2320 (b : Rows) : FVec Ideal S8x128 .f32 := k0_pay312 (b.vr 1 1 1 1 0 0)
def x2344 (b : Rows) : FVec Ideal S8x128 .f32 := k0_pay313 (x1526 b) (x1529 b) (x1532 b) (x1535 b) (x2316 b) (b.vi 1 1 1 1 0 0) (x2320 b) (b.vr 1 1 1 1 0 1) (b.vi 1 1 1 1 0 1)
def x2345 (b : Rows) : FVec Ideal S8x128 .f32 := k0_pay314 (x1526 b) (x1529 b) (x1532 b) (x1535 b) (x2317 b) (b.vr 1 1 1 1 0 0) (b.vi 1 1 1 1 0 0) (b.vr 1 1 1 1 0 1) (b.vi 1 1 1 1 0 1)
def x2352 (b : Rows) : FVec Ideal S8x128 .f32 := k0_pay315 (x1514 b) (x1517 b) (b.vr 1 1 1 0 1 0) (b.vi 1 1 1 0 1 0)
def x2357 (b : Rows) : FVec Ideal S8x128 .f32 := k0_pay316 (x1514 b) (x1517 b) (b.vr 1 1 1 0 1 0) (b.vi 1 1 1 0 1 0)
def x2361 (b : Rows) : FVec Ideal S8x128 .f32 := k0_pay317 (x1520 b) (b.vr 1 1 1 0 1 1)
def x2362 (b : Rows) : FVec Ideal S8x128 .f32 := k0_pay318 (b.vi 1 1 1 0 1 1)
def x2398 (b : Rows) : FVec Ideal S8x128 .f32 := k0_pay319 (x1523 b) (x1526 b) (x1529 b) (x1532 b) (x1535 b) (x2352 b) (x2361 b) (x2362 b) (b.vr 1 1 1 1 1 0) (b.vi 1 1 1 1 1 0) (b.vr 1 1 1 1 1 1) (b.vi 1 1 1 1 1 1)
def x2399 (b : Rows) : FVec Ideal S8x128 .f32 := k0_pay320 (x1520 b) (x1523 b) (x1526 b) (x1529 b) (x1532 b) (x1535 b) (x2357 b) (b.vr 1 1 1 0 1 1) (b.vi 1 1 1 0 1 1) (b.vr 1 1 1 1 1 0) (b.vi 1 1 1 1 1 0) (b.vr 1 1 1 1 1 1) (b.vi 1 1 1 1 1 1)
def x2402 (b : Rows) : FVec Ideal S8x128 .f32 := k0_pay321 (x1276 b) (x1277 b) (x1588 b) (x1589 b)
def x2405 (b : Rows) : FVec Ideal S8x128 .f32 := k0_pay322 (x1276 b) (x1277 b) (x1588 b) (x1589 b)
def x2408 (b : Rows) : FVec Ideal S8x128 .f32 := k0_pay323 (x1432 b) (x1433 b) (x1642 b) (x1643 b)
def x2409 (b : Rows) : FVec Ideal S8x128 .f32 := k0_pay324 (x1433 b) (x1642 b)
def x2410 (b : Rows) : FVec Ideal S8x128 .f32 := k0_pay325 (x1432 b) (x1643 b)
def x2412 (b : Rows) : FVec Ideal S8x128 .f32 := k0_pay326 (x2402 b) (x2408 b)
def x2413 (b : Rows) : FVec Ideal S8x128 .f32 := k0_pay327 (x2405 b) (x2409 b) (x2410 b)
def x2426 (b : Rows) : FVec Ideal S8x128 .f32 := k0_pay328 (x1354 b) (x1355 b) (x1510 b) (x1511 b) (x1588 b) (x1589 b) (x1642 b) (x1643 b)
def x2427 (b : Rows) : FVec Ideal S8x128 .f32 := k0_pay329 (x1354 b) (x1355 b) (x1510 b) (x1511 b) (x1588 b) (x1589 b) (x1642 b) (x1643 b)
def x2440 (b : Rows) : FVec Ideal S8x128 .f32 := k0_pay330 (x1276 b) (x1277 b) (x1432 b) (x1433 b) (x1696 b) (x1697 b) (x1750 b) (x1751 b)
def x2441 (b : Rows) : FVec Ideal S8x128 .f32 := k0_pay331 (x1276 b) (x1277 b) (x1432 b) (x1433 b) (x1696 b) (x1697 b) (x1750 b) (x1751 b)
def x2454 (b : Rows) : FVec Ideal S8x128 .f32 := k0_pay332 (x1354 b) (x1355 b) (x1510 b) (x1511 b) (x1696 b) (x1697 b) (x1750 b) (x1751 b)
def x2455 (b : Rows) : FVec Ideal S8x128 .f32 := k0_pay333 (x1354 b) (x1355 b) (x1510 b) (x1511 b) (x1696 b) (x1697 b) (x1750 b) (x1751 b)
def x2468 (b : Rows) : FVec Ideal S8x128 .f32 := k0_pay334 (x1276 b) (x1277 b) (x1432 b) (x1433 b) (x1804 b) (x1805 b) (x1858 b) (x1859 b)
def x2469 (b : Rows) : FVec Ideal S8x128 .f32 := k0_pay335 (x1276 b) (x1277 b) (x1432 b) (x1433 b) (x1804 b) (x1805 b) (x1858 b) (x1859 b)
def x2470 (b : Rows) : FVec Ideal S8x128 .f32 := k0_pay336 (x1354 b) (x1804 b)
def x2482 (b : Rows) : FVec Ideal S8x128 .f32 := k0_pay337 (x1355 b) (x1510 b) (x1511 b) (x1805 b) (x1858 b) (x1859 b) (x2470 b)
def x2483 (b : Rows) : FVec Ideal S8x128 .f32 := k0_pay338 (x1354 b) (x1355 b) (x1510 b) (x1511 b) (x1804 b) (x1805 b) (x1858 b) (x1859 b)
def x2496 (b : Rows) : FVec Ideal S8x128 .f32 := k0_pay339 (x1276 b) (x1277 b) (x1432 b) (x1433 b) (x1912 b) (x1913 b) (x1966 b) (x1967 b)
def x2497 (b : Rows) : FVec Ideal S8x128 .f32 := k0_pay340 (x1276 b) (x1277 b) (x1432 b) (x1433 b) (x1912 b) (x1913 b) (x1966 b) (x1967 b)
def x2510 (b : Rows) : FVec Ideal S8x128 .f32 := k0_pay341 (x1354 b) (x1355 b) (x1510 b) (x1511 b) (x1912 b) (x1913 b) (x1966 b) (x1967 b)
def x2511 (b : Rows) : FVec Ideal S8x128 .f32 := k0_pay342 (x1354 b) (x1355 b) (x1510 b) (x1511 b) (x1912 b) (x1913 b) (x1966 b) (x1967 b)
def x2524 (b : Rows) : FVec Ideal S8x128 .f32 := k0_pay343 (x1276 b) (x1277 b) (x1432 b) (x1433 b) (x2020 b) (x2021 b) (x2074 b) (x2075 b)
def x2525 (b : Rows) : FVec Ideal S8x128 .f32 := k0_pay344 (x1276 b) (x1277 b) (x1432 b) (x1433 b) (x2020 b) (x2021 b) (x2074 b) (x2075 b)
def x2528 (b : Rows) : FVec Ideal S8x128 .f32 := k0_pay345 (x1354 b) (x1355 b) (x2020 b) (x2021 b)
def x2529 (b : Rows) : FVec Ideal S8x128 .f32 := k0_pay346 (x1355 b) (x2020 b)
def x2530 (b : Rows) : FVec Ideal S8x128 .f32 := k0_pay347 (x1354 b) (x2021 b)
def x2538 (b : Rows) : FVec Ideal S8x128 .f32 := k0_pay348 (x1510 b) (x1511 b) (x2074 b) (x2075 b) (x2528 b)
def x2539 (b : Rows) : FVec Ideal S8x128 .f32 := k0_pay349 (x1510 b) (x1511 b) (x2074 b) (x2075 b) (x2529 b) (x2530 b)
def x2552 (b : Rows) : FVec Ideal S8x128 .f32 := k0_pay350 (x1276 b) (x1277 b) (x1432 b) (x1433 b) (x2128 b) (x2129 b) (x2182 b) (x2183 b)
def x2553 (b : Rows) : FVec Ideal S8x128 .f32 := k0_pay351 (x1276 b) (x1277 b) (x1432 b) (x1433 b) (x2128 b) (x2129 b) (x2182 b) (x2183 b)
def x2566 (b : Rows) : FVec Ideal S8x128 .f32 := k0_pay352 (x1354 b) (x1355 b) (x1510 b) (x1511 b) (x2128 b) (x2129 b) (x2182 b) (x2183 b)
def x2567 (b : Rows) : FVec Ideal S8x128 .f32 := k0_pay353 (x1354 b) (x1355 b) (x1510 b) (x1511 b) (x2128 b) (x2129 b) (x2182 b) (x2183 b)
def x2580 (b : Rows) : FVec Ideal S8x128 .f32 := k0_pay354 (x1276 b) (x1277 b) (x1432 b) (x1433 b) (x2236 b) (x2237 b) (x2290 b) (x2291 b)
def x2581 (b : Rows) : FVec Ideal S8x128 .f32 := k0_pay355 (x1276 b) (x1277 b) (x1432 b) (x1433 b) (x2236 b) (x2237 b) (x2290 b) (x2291 b)
def x2584 (b : Rows) : FVec Ideal S8x128 .f32 := k0_pay356 (x1354 b) (x1355 b) (x2236 b) (x2237 b)
def x2587 (b : Rows) : FVec Ideal S8x128 .f32 := k0_pay357 (x1354 b) (x1355 b) (x2236 b) (x2237 b)
def x2590 (b : Rows) : FVec Ideal S8x128 .f32 := k0_pay358 (x1510 b) (x1511 b) (x2290 b) (x2291 b)
def x2594 (b : Rows) : FVec Ideal S8x128 .f32 := k0_pay359 (x2584 b) (x2590 b)
def x2595 (b : Rows) : FVec Ideal S8x128 .f32 := k0_pay360 (x1510 b) (x1511 b) (x2290 b) (x2291 b) (x2587 b)
def x2608 (b : Rows) : FVec Ideal S8x128 .f32 := k0_pay361 (x1276 b) (x1277 b) (x1432 b) (x1433 b) (x2344 b) (x2345 b) (x2398 b) (x2399 b)
def x2609 (b : Rows) : FVec Ideal S8x128 .f32 := k0_pay362 (x1276 b) (x1277 b) (x1432 b) (x1433 b) (x2344 b) (x2345 b) (x2398 b) (x2399 b)
def x2622 (b : Rows) : FVec Ideal S8x128 .f32 := k0_pay363 (x1354 b) (x1355 b) (x1510 b) (x1511 b) (x2344 b) (x2345 b) (x2398 b) (x2399 b)
def x2623 (b : Rows) : FVec Ideal S8x128 .f32 := k0_pay364 (x1354 b) (x1355 b) (x1510 b) (x1511 b) (x2344 b) (x2345 b) (x2398 b) (x2399 b)
def x2625 (b : Rows) : FVec Ideal S8x128 .f32 := k0_pay365 (x1589 b)
def x2633 (b : Rows) : FVec Ideal S8x128 .f32 := k0_pay366 (x1643 b)
def x2640 (b : Rows) : FVec Ideal S8x128 .f32 := k0_pay367 (x1588 b) (x1589 b) (x1642 b) (x1643 b) (x2412 b) (x2413 b) (x2426 b) (x2427 b)
def x2641 (b : Rows) : FVec Ideal S8x128 .f32 := k0_pay368 (x1588 b) (x1589 b) (x1642 b) (x1643 b) (x2412 b) (x2413 b) (x2426 b) (x2427 b)
def x2643 (b : Rows) : FVec Ideal S8x128 .f32 := k0_pay369 (x1805 b)
def x2646 (b : Rows) : FVec Ideal S8x128 .f32 := k0_pay370 (x1804 b) (x1805 b) (x2468 b) (x2469 b)
def x2647 (b : Rows) : FVec Ideal S8x128 .f32 := k0_pay371 (x1805 b) (x2468 b)
def x2653 (b : Rows) : FVec Ideal S8x128 .f32 := k0_pay372 (x1859 b)
def x2663 (b : Rows) : FVec Ideal S8x128 .f32 := k0_pay373 (x2021 b)
def x2673 (b : Rows) : FVec Ideal S8x128 .f32 := k0_pay374 (x2075 b)
def x2683 (b : Rows) : FVec Ideal S8x128 .f32 := k0_pay375 (x2237 b)
def x2693 (b : Rows) : FVec Ideal S8x128 .f32 := k0_pay376 (x2291 b)
def x2700 (b : Rows) : FVec Ideal S8x128 .f32 := k0_pay377 (x1858 b) (x1859 b) (x2020 b) (x2021 b) (x2074 b) (x2075 b) (x2236 b) (x2237 b) (x2290 b) (x2291 b) (x2482 b) (x2483 b) (x2524 b) (x2525 b) (x2538 b) (x2539 b) (x2580 b) (x2581 b) (x2594 b) (x2595 b) (x2640 b) (x2646 b)
def x2701 (b : Rows) : FVec Ideal S8x128 .f32 := k0_pay378 (x1804 b) (x1858 b) (x1859 b) (x2020 b) (x2021 b) (x2074 b) (x2075 b) (x2236 b) (x2237 b) (x2290 b) (x2291 b) (x2469 b) (x2482 b) (x2483 b) (x2524 b) (x2525 b) (x2538 b) (x2539 b) (x2580 b) (x2581 b) (x2594 b) (x2595 b) (x2641 b) (x2647 b)
def x2703 (b : Rows) : FVec Ideal S8x128 .f32 := k0_pay379 (x1697 b) (Scalar.ofBits .f32 0x00000000#32)
def x2711 (b : Rows) : FVec Ideal S8x128 .f32 := k0_pay380 (x1751 b)
def x2721 (b : Rows) : FVec Ideal S8x128 .f32 := k0_pay381 (x1913 b)
def x2731 (b : Rows) : FVec Ideal S8x128 .f32 := k0_pay382 (x1967 b)
def x2741 (b : Rows) : FVec Ideal S8x128 .f32 := k0_pay383 (x2129 b)
def x2748 (b : Rows) : FVec Ideal S8x128 .f32 := k0_pay384 (x1696 b) (x1697 b) (x1750 b) (x1751 b) (x1912 b) (x1913 b) (x1966 b) (x1967 b) (x2128 b) (x2129 b) (x2412 b) (x2413 b) (x2426 b) (x2427 b) (x2468 b) (x2469 b) (x2482 b) (x2483 b) (x2524 b) (x2525 b) (Scalar.ofBits .f32 0x00000000#32)
def x2749 (b : Rows) : FVec Ideal S8x128 .f32 := k0_pay385 (x1696 b) (x1697 b) (x1750 b) (x1751 b) (x1912 b) (x1913 b) (x1966 b) (x1967 b) (x2128 b) (x2129 b) (x2412 b) (x2413 b) (x2426 b) (x2427 b) (x2468 b) (x2469 b) (x2482 b) (x2483 b) (x2524 b) (x2525 b) (Scalar.ofBits .f32 0x00000000#32)
def x2751 (b : Rows) : FVec Ideal S8x128 .f32 := k0_pay386 (x2183 b)
def x2754 (b : Rows) : FVec Ideal S8x128 .f32 := k0_pay387 (x2182 b) (x2183 b) (x2538 b) (x2539 b)
def x2755 (b : Rows) : FVec Ideal S8x128 .f32 := k0_pay388 (x2183 b) (x2538 b)
def x2756 (b : Rows) : FVec Ideal S8x128 .f32 := k0_pay389 (x2182 b) (x2539 b)
def x2761 (b : Rows) : FVec Ideal S8x128 .f32 := k0_pay390 (x2345 b)
def x2771 (b : Rows) : FVec Ideal S8x128 .f32 := k0_pay391 (x2399 b)
def x2778 (b : Rows) : FVec Ideal S8x128 .f32 := k0_pay392 (x2344 b) (x2345 b) (x2398 b) (x2399 b) (x2580 b) (x2581 b) (x2594 b) (x2595 b) (x2748 b) (x2754 b)
def x2779 (b : Rows) : FVec Ideal S8x128 .f32 := k0_pay393 (x2344 b) (x2345 b) (x2398 b) (x2399 b) (x2580 b) (x2581 b) (x2594 b) (x2595 b) (x2749 b) (x2755 b) (x2756 b)
def x2781 (b : Rows) : FVec Ideal S8x128 .f32 := k0_pay394 (x1589 b)
def x2789 (b : Rows) : FVec Ideal S8x128 .f32 := k0_pay395 (x1643 b)
def x2799 (b : Rows) : FVec Ideal S8x128 .f32 := k0_pay396 (x1805 b)
def x2806 (b : Rows) : FVec Ideal S8x128 .f32 := k0_pay397 (x1588 b) (x1589 b) (x1642 b) (x1643 b) (x1804 b) (x1805 b) (x2440 b) (x2441 b) (x2454 b) (x2455 b) (x2496 b) (x2497 b)
def x2807 (b : Rows) : FVec Ideal S8x128 .f32 := k0_pay398 (x1588 b) (x1589 b) (x1642 b) (x1643 b) (x1804 b) (x1805 b) (x2440 b) (x2441 b) (x2454 b) (x2455 b) (x2496 b) (x2497 b)
def x2809 (b : Rows) : FVec Ideal S8x128 .f32 := k0_pay399 (x1859 b)
def x2810 (b : Rows) : FVec Ideal S8x128 .f32 := k0_pay400 (x1858 b) (x2510 b)
def x2819 (b : Rows) : FVec Ideal S8x128 .f32 := k0_pay401 (x2021 b)
def x2829 (b : Rows) : FVec Ideal S8x128 .f32 := k0_pay402 (x2075 b)
def x2839 (b : Rows) : FVec Ideal S8x128 .f32 := k0_pay403 (x2237 b)
def x2849 (b : Rows) : FVec Ideal S8x128 .f32 := k0_pay404 (x2291 b)
def x2856 (b : Rows) : FVec Ideal S8x128 .f32 := k0_pay405 (x2020 b) (x2021 b) (x2074 b) (x2075 b) (x2236 b) (x2237 b) (x2290 b) (x2291 b) (x2511 b) (x2552 b) (x2553 b) (x2566 b) (x2567 b) (x2608 b) (x2609 b) (x2622 b) (x2623 b) (x2806 b) (x2809 b) (x2810 b)
def x2857 (b : Rows) : FVec Ideal S8x128 .f32 := k0_pay406 (x1858 b) (x2020 b) (x2021 b) (x2074 b) (x2075 b) (x2236 b) (x2237 b) (x2290 b) (x2291 b) (x2510 b) (x2511 b) (x2552 b) (x2553 b) (x2566 b) (x2567 b) (x2608 b) (x2609 b) (x2622 b) (x2623 b) (x2807 b) (x2809 b)
def x2859 (b : Rows) : FVec Ideal S8x128 .f32 := k0_pay407 (x1697 b)
def x2862 (b : Rows) : FVec Ideal S8x128 .f32 := k0_pay408 (x1696 b) (x1697 b) (x2440 b) (x2441 b)
def x2865 (b : Rows) : FVec Ideal S8x128 .f32 := k0_pay409 (x1696 b) (x1697 b) (x2440 b) (x2441 b)
def x2867 (b : Rows) : FVec Ideal S8x128 .f32 := k0_pay410 (x1751 b)
def x2877 (b : Rows) : FVec Ideal S8x128 .f32 := k0_pay411 (x1913 b)
def x2887 (b : Rows) : FVec Ideal S8x128 .f32 := k0_pay412 (x1967 b)
def x2897 (b : Rows) : FVec Ideal S8x128 .f32 := k0_pay413 (x2129 b)
def x2907 (b : Rows) : FVec Ideal S8x128 .f32 := k0_pay414 (x2183 b)
def x2914 (b : Rows) : FVec Ideal S8x128 .f32 := k0_pay415 (x1750 b) (x1751 b) (x1912 b) (x1913 b) (x1966 b) (x1967 b) (x2128 b) (x2129 b) (x2182 b) (x2183 b) (x2454 b) (x2455 b) (x2496 b) (x2497 b) (x2510 b) (x2511 b) (x2552 b) (x2553 b) (x2566 b) (x2567 b) (x2862 b)
def x2915 (b : Rows) : FVec Ideal S8x128 .f32 := k0_pay416 (x1750 b) (x1751 b) (x1912 b) (x1913 b) (x1966 b) (x1967 b) (x2128 b) (x2129 b) (x2182 b) (x2183 b) (x2454 b) (x2455 b) (x2496 b) (x2497 b) (x2510 b) (x2511 b) (x2552 b) (x2553 b) (x2566 b) (x2567 b) (x2865 b)
def x2917 (b : Rows) : FVec Ideal S8x128 .f32 := k0_pay417 (x2345 b)
def x2918 (b : Rows) : FVec Ideal S8x128 .f32 := k0_pay418 (x2344 b) (x2608 b)
def x2919 (b : Rows) : FVec Ideal S8x128 .f32 := k0_pay419 (x2345 b) (x2609 b)
def x2927 (b : Rows) : FVec Ideal S8x128 .f32 := k0_pay420 (x2399 b)
def x2934 (b : Rows) : FVec Ideal S8x128 .f32 := k0_pay421 (x2398 b) (x2399 b) (x2622 b) (x2623 b) (x2914 b) (x2918 b) (x2919 b)
def x2935 (b : Rows) : FVec Ideal S8x128 .f32 := k0_pay422 (x2344 b) (x2398 b) (x2399 b) (x2608 b) (x2609 b) (x2622 b) (x2623 b) (x2915 b) (x2917 b)
def x2938 (b : Rows) : FVec Ideal S8x128 .f32 := k0_pay423 (x25 b) (x27 b) (x49 b) (x51 b)
def x2941 (b : Rows) : FVec Ideal S8x128 .f32 := k0_pay424 (x25 b) (x27 b) (x49 b) (x51 b)
def x2944 (b : Rows) : FVec Ideal S8x128 .f32 := k0_pay425 (x29 b) (x31 b) (x49 b) (x51 b)
def x2947 (b : Rows) : FVec Ideal S8x128 .f32 := k0_pay426 (x29 b) (x31 b) (x49 b) (x51 b)
def x2950 (b : Rows) : FVec Ideal S8x128 .f32 := k0_pay427 (x25 b) (x27 b) (x53 b) (x55 b)
def x2953 (b : Rows) : FVec Ideal S8x128 .f32 := k0_pay428 (x25 b) (x27 b) (x53 b) (x55 b)
def x2956 (b : Rows) : FVec Ideal S8x128 .f32 := k0_pay429 (x29 b) (x31 b) (x53 b) (x55 b)
def x2959 (b : Rows) : FVec Ideal S8x128 .f32 := k0_pay430 (x29 b) (x31 b) (x53 b) (x55 b)
def x2966 (b : Rows) : FVec Ideal S8x128 .f32 := k0_pay431 (x25 b) (x27 b) (x49 b) (x51 b) (b.vr 0 0 0 0 0 0) (b.vi 0 0 0 0 0 0)
def x2971 (b : Rows) : FVec Ideal S8x128 .f32 := k0_pay432 (x25 b) (x27 b) (x49 b) (x51 b) (b.vr 0 0 0 0 0 0) (b.vi 0 0 0 0 0 0)
def x3012 (b : Rows) : FVec Ideal S8x128 .f32 := k0_pay433 (x2944 b) (x2947 b) (x2950 b) (x2953 b) (x2956 b) (x2959 b) (x2966 b) (b.vr 0 0 0 0 0 1) (b.vi 0 0 0 0 0 1) (b.vr 0 0 0 1 0 0) (b.vi 0 0 0 1 0 0) (b.vr 0 0 0 1 0 1) (b.vi 0 0 0 1 0 1)
def x3013 (b : Rows) : FVec Ideal S8x128 .f32 := k0_pay434 (x2944 b) (x2947 b) (x2950 b) (x2953 b) (x2956 b) (x2959 b) (x2971 b) (b.vr 0 0 0 0 0 1) (b.vi 0 0 0 0 0 1) (b.vr 0 0 0 1 0 0) (b.vi 0 0 0 1 0 0) (b.vr 0 0 0 1 0 1) (b.vi 0 0 0 1 0 1)
def x3052 (b : Rows) : FVec Ideal S8x128 .f32 := k0_pay435 (x2938 b) (x2941 b) (x2944 b) (x2947 b) (x2950 b) (x2953 b) (b.vr 0 0 0 0 1 0) (b.vi 0 0 0 0 1 0) (b.vr 0 0 0 0 1 1) (b.vi 0 0 0 0 1 1) (b.vr 0 0 0 1 1 0) (b.vi 0 0 0 1 1 0)
def x3053 (b : Rows) : FVec Ideal S8x128 .f32 := k0_pay436 (x2938 b) (x2941 b) (x2944 b) (x2947 b) (x2950 b) (x2953 b) (b.vr 0 0 0 0 1 0) (b.vi 0 0 0 0 1 0) (b.vr 0 0 0 0 1 1) (b.vi 0 0 0 0 1 1) (b.vr 0 0 0 1 1 0) (b.vi 0 0 0 1 1 0)
def x3066 (b : Rows) : FVec Ideal S8x128 .f32 := k0_pay437 (x2956 b) (x2959 b) (x3052 b) (b.vr 0 0 0 1 1 1) (b.vi 0 0 0 1 1 1)
def x3067 (b : Rows) : FVec Ideal S8x128 .f32 := k0_pay438 (x2956 b) (x2959 b) (x3053 b) (b.vr 0 0 0 1 1 1) (b.vi 0 0 0 1 1 1)
def x3092 (b : Rows) : FVec Ideal S8x128 .f32 := k0_pay439 (x2938 b) (x2941 b) (x2944 b) (x2947 b) (b.vr 0 1 0 0 0 0) (b.vi 0 1 0 0 0 0) (b.vr 0 1 0 0 0 1) (b.vi 0 1 0 0 0 1)
def x3093 (b : Rows) : FVec Ideal S8x128 .f32 := k0_pay440 (x2938 b) (x2941 b) (x2944 b) (x2947 b) (b.vr 0 1 0 0 0 0) (b.vi 0 1 0 0 0 0) (b.vr 0 1 0 0 0 1) (b.vi 0 1 0 0 0 1)
def x3120 (b : Rows) : FVec Ideal S8x128 .f32 := k0_pay441 (x2950 b) (x2953 b) (x2956 b) (x2959 b) (x3092 b) (b.vr 0 1 0 1 0 0) (b.vi 0 1 0 1 0 0) (b.vr 0 1 0 1 0 1) (b.vi 0 1 0 1 0 1)
def x3121 (b : Rows) : FVec Ideal S8x128 .f32 := k0_pay442 (x2950 b) (x2953 b) (x2956 b) (x2959 b) (x3093 b) (b.vr 0 1 0 1 0 0) (b.vi 0 1 0 1 0 0) (b.vr 0 1 0 1 0 1) (b.vi 0 1 0 1 0 1)
def x3128 (b : Rows) : FVec Ideal S8x128 .f32 := k0_pay443 (x2938 b) (x2941 b) (b.vr 0 1 0 0 1 0) (b.vi 0 1 0 0 1 0)
def x3133 (b : Rows) : FVec Ideal S8x128 .f32 := k0_pay444 (x2938 b) (x2941 b) (b.vr 0 1 0 0 1 0) (b.vi 0 1 0 0 1 0)
def x3174 (b : Rows) : FVec Ideal S8x128 .f32 := k0_pay445 (x2944 b) (x2947 b) (x2950 b) (x2953 b) (x2956 b) (x2959 b) (x3128 b) (b.vr 0 1 0 0 1 1) (b.vi 0 1 0 0 1 1) (b.vr 0 1 0 1 1 0) (b.vi 0 1 0 1 1 0) (b.vr 0 1 0 1 1 1) (b.vi 0 1 0 1 1 1)
def x3175 (b : Rows) : FVec Ideal S8x128 .f32 := k0_pay446 (x2944 b) (x2947 b) (x2950 b) (x2953 b) (x2956 b) (x2959 b) (x3133 b) (b.vr 0 1 0 0 1 1) (b.vi 0 1 0 0 1 1) (b.vr 0 1 0 1 1 0) (b.vi 0 1 0 1 1 0) (b.vr 0 1 0 1 1 1) (b.vi 0 1 0 1 1 1)
def x3214 (b : Rows) : FVec Ideal S8x128 .f32 := k0_pay447 (x2938 b) (x2941 b) (x2944 b) (x2947 b) (x2950 b) (x2953 b) (b.vr 0 0 1 0 0 0) (b.vi 0 0 1 0 0 0) (b.vr 0 0 1 0 0 1) (b.vi 0 0 1 0 0 1) (b.vr 0 0 1 1 0 0) (b.vi 0 0 1 1 0 0)
def x3215 (b : Rows) : FVec Ideal S8x128 .f32 := k0_pay448 (x2938 b) (x2941 b) (x2944 b) (x2947 b) (x2950 b) (x2953 b) (b.vr 0 0 1 0 0 0) (b.vi 0 0 1 0 0 0) (b.vr 0 0 1 0 0 1) (b.vi 0 0 1 0 0 1) (b.vr 0 0 1 1 0 0) (b.vi 0 0 1 1 0 0)
def x3218 (b : Rows) : FVec Ideal S8x128 .f32 := k0_pay449 (b.vr 0 0 1 1 0 1)
def x3228 (b : Rows) : FVec Ideal S8x128 .f32 := k0_pay450 (x2956 b) (x2959 b) (x3214 b) (b.vi 0 0 1 1 0 1) (x3218 b)
def x3229 (b : Rows) : FVec Ideal S8x128 .f32 := k0_pay451 (x2956 b) (x2959 b) (x3215 b) (b.vr 0 0 1 1 0 1) (b.vi 0 0 1 1 0 1)
def x3254 (b : Rows) : FVec Ideal S8x128 .f32 := k0_pay452 (x2938 b) (x2941 b) (x2944 b) (x2947 b) (b.vr 0 0 1 0 1 0) (b.vi 0 0 1 0 1 0) (b.vr 0 0 1 0 1 1) (b.vi 0 0 1 0 1 1)
def x3255 (b : Rows) : FVec Ideal S8x128 .f32 := k0_pay453 (x2938 b) (x2941 b) (x2944 b) (x2947 b) (b.vr 0 0 1 0 1 0) (b.vi 0 0 1 0 1 0) (b.vr 0 0 1 0 1 1) (b.vi 0 0 1 0 1 1)
def x3259 (b : Rows) : FVec Ideal S8x128 .f32 := k0_pay454 (x2950 b) (b.vr 0 0 1 1 1 0)
def x3260 (b : Rows) : FVec Ideal S8x128 .f32 := k0_pay455 (b.vi 0 0 1 1 1 0)
def x3282 (b : Rows) : FVec Ideal S8x128 .f32 := k0_pay456 (x2953 b) (x2956 b) (x2959 b) (x3254 b) (x3259 b) (x3260 b) (b.vr 0 0 1 1 1 1) (b.vi 0 0 1 1 1 1)
def x3283 (b : Rows) : FVec Ideal S8x128 .f32 := k0_pay457 (x2950 b) (x2953 b) (x2956 b) (x2959 b) (x3255 b) (b.vr 0 0 1 1 1 0) (b.vi 0 0 1 1 1 0) (b.vr 0 0 1 1 1 1) (b.vi 0 0 1 1 1 1)
def x3290 (b : Rows) : FVec Ideal S8x128 .f32 := k0_pay458 (x2938 b) (x2941 b) (b.vr 0 1 1 0 0 0) (b.vi 0 1 1 0 0 0)
def x3295 (b : Rows) : FVec Ideal S8x128 .f32 := k0_pay459 (x2938 b) (x2941 b) (b.vr 0 1 1 0 0 0) (b.vi 0 1 1 0 0 0)
def x3302 (b : Rows) : FVec Ideal S8x128 .f32 := k0_pay460 (x2944 b) (x2947 b) (b.vr 0 1 1 0 0 1) (b.vi 0 1 1 0 0 1)
def x3336 (b : Rows) : FVec Ideal S8x128 .f32 := k0_pay461 (x2950 b) (x2953 b) (x2956 b) (x2959 b) (x3290 b) (x3302 b) (b.vr 0 1 1 1 0 0) (b.vi 0 1 1 1 0 0) (b.vr 0 1 1 1 0 1) (b.vi 0 1 1 1 0 1)
def x3337 (b : Rows) : FVec Ideal S8x128 .f32 := k0_pay462 (x2944 b) (x2947 b) (x2950 b) (x2953 b) (x2956 b) (x2959 b) (x3295 b) (b.vr 0 1 1 0 0 1) (b.vi 0 1 1 0 0 1) (b.vr 0 1 1 1 0 0) (b.vi 0 1 1 1 0 0) (b.vr 0 1 1 1 0 1) (b.vi 0 1 1 1 0 1)
def x3344 (b : Rows) : FVec Ideal S8x128 .f32 := k0_pay463 (x2938 b) (x2941 b) (b.vr 0 1 1 0 1 0) (b.vi 0 1 1 0 1 0)
def x3376 (b : Rows) : FVec Ideal S8x128 .f32 := k0_pay464 (x2944 b) (x2947 b) (x2950 b) (x2953 b) (x3344 b) (b.vr 0 1 1 0 1 1) (b.vi 0 1 1 0 1 1) (b.vr 0 1 1 1 1 0) (b.vi 0 1 1 1 1 0)
def x3377 (b : Rows) : FVec Ideal S8x128 .f32 := k0_pay465 (x2938 b) (x2941 b) (x2944 b) (x2947 b) (x2950 b) (x2953 b) (b.vr 0 1 1 0 1 0) (b.vi 0 1 1 0 1 0) (b.vr 0 1 1 0 1 1) (b.vi 0 1 1 0 1 1) (b.vr 0 1 1 1 1 0) (b.vi 0 1 1 1 1 0)
def x3384 (b : Rows) : FVec Ideal S8x128 .f32 := k0_pay466 (x2956 b) (x2959 b) (b.vr 0 1 1 1 1 1) (b.vi 0 1 1 1 1 1)
def x3386 (b : Rows) : FVec Ideal S8x128 .f32 := k0_pay467 (x2959 b) (b.vr 0 1 1 1 1 1)
def x3390 (b : Rows) : FVec Ideal S8x128 .f32 := k0_pay468 (x3376 b) (x3384 b)
def x3391 (b : Rows) : FVec Ideal S8x128 .f32 := k0_pay469 (x2956 b) (x3377 b) (b.vi 0 1 1 1 1 1) (x3386 b)
def x3416 (b : Rows) : FVec Ideal S8x128 .f32 := k0_pay470 (x2938 b) (x2941 b) (x2944 b) (x2947 b) (b.vr 1 0 0 0 0 0) (b.vi 1 0 0 0 0 0) (b.vr 1 0 0 0 0 1) (b.vi 1 0 0 0 0 1)
def x3417 (b : Rows) : FVec Ideal S8x128 .f32 := k0_pay471 (x2938 b) (x2941 b) (x2944 b) (x2947 b) (b.vr 1 0 0 0 0 0) (b.vi 1 0 0 0 0 0) (b.vr 1 0 0 0 0 1) (b.vi 1 0 0 0 0 1)
def x3424 (b : Rows) : FVec Ideal S8x128 .f32 := k0_pay472 (x2950 b) (x2953 b) (b.vr 1 0 0 1 0 0) (b.vi 1 0 0 1 0 0)
def x3426 (b : Rows) : FVec Ideal S8x128 .f32 := k0_pay473 (x2953 b) (b.vr 1 0 0 1 0 0)
def x3428 (b : Rows) : FVec Ideal S8x128 .f32 := k0_pay474 (x2950 b) (b.vi 1 0 0 1 0 0)
def x3444 (b : Rows) : FVec Ideal S8x128 .f32 := k0_pay475 (x2956 b) (x2959 b) (x3416 b) (x3424 b) (b.vr 1 0 0 1 0 1) (b.vi 1 0 0 1 0 1)
def x3445 (b : Rows) : FVec Ideal S8x128 .f32 := k0_pay476 (x2956 b) (x2959 b) (x3417 b) (x3426 b) (x3428 b) (b.vr 1 0 0 1 0 1) (b.vi 1 0 0 1 0 1)
def x3457 (b : Rows) : FVec Ideal S8x128 .f32 := k0_pay477 (x2938 b) (x2941 b) (b.vr 1 0 0 0 1 0) (b.vi 1 0 0 0 1 0)
def x3469 (b : Rows) : FVec Ideal S8x128 .f32 := k0_pay478 (x2944 b) (x2947 b) (b.vr 1 0 0 0 1 1) (b.vi 1 0 0 0 1 1)
def x3470 (b : Rows) : FVec Ideal S8x128 .f32 := k0_pay479 (x2938 b) (x2941 b) (x2944 b) (x2947 b) (b.vr 1 0 0 0 1 0) (b.vi 1 0 0 0 1 0) (b.vr 1 0 0 0 1 1) (b.vi 1 0 0 0 1 1)
def x3498 (b : Rows) : FVec Ideal S8x128 .f32 := k0_pay480 (x2950 b) (x2953 b) (x2956 b) (x2959 b) (x3470 b) (b.vr 1 0 0 1 1 0) (b.vi 1 0 0 1 1 0) (b.vr 1 0 0 1 1 1) (b.vi 1 0 0 1 1 1)
def x3499 (b : Rows) : FVec Ideal S8x128 .f32 := k0_pay481 (x2950 b) (x2953 b) (x2956 b) (x2959 b) (x3457 b) (x3469 b) (b.vr 1 0 0 1 1 0) (b.vi 1 0 0 1 1 0) (b.vr 1 0 0 1 1 1) (b.vi 1 0 0 1 1 1)
def x3506 (b : Rows) : FVec Ideal S8x128 .f32 := k0_pay482 (x2938 b) (x2941 b) (b.vr 1 1 0 0 0 0) (b.vi 1 1 0 0 0 0)
def x3511 (b : Rows) : FVec Ideal S8x128 .f32 := k0_pay483 (x2938 b) (x2941 b) (b.vr 1 1 0 0 0 0) (b.vi 1 1 0 0 0 0)
def x3552 (b : Rows) : FVec Ideal S8x128 .f32 := k0_pay484 (x2944 b) (x2947 b) (x2950 b) (x2953 b) (x2956 b) (x2959 b) (x3506 b) (b.vr 1 1 0 0 0 1) (b.vi 1 1 0 0 0 1) (b.vr 1 1 0 1 0 0) (b.vi 1 1 0 1 0 0) (b.vr 1 1 0 1 0 1) (b.vi 1 1 0 1 0 1)
def x3553 (b : Rows) : FVec Ideal S8x128 .f32 := k0_pay485 (x2944 b) (x2947 b) (x2950 b) (x2953 b) (x2956 b) (x2959 b) (x3511 b) (b.vr 1 1 0 0 0 1) (b.vi 1 1 0 0 0 1) (b.vr 1 1 0 1 0 0) (b.vi 1 1 0 1 0 0) (b.vr 1 1 0 1 0 1) (b.vi 1 1 0 1 0 1)
def x3592 (b : Rows) : FVec Ideal S8x128 .f32 := k0_pay486 (x2938 b) (x2941 b) (x2944 b) (x2947 b) (x2950 b) (x2953 b) (b.vr 1 1 0 0 1 0) (b.vi 1 1 0 0 1 0) (b.vr 1 1 0 0 1 1) (b.vi 1 1 0 0 1 1) (b.vr 1 1 0 1 1 0) (b.vi 1 1 0 1 1 0)
def x3593 (b : Rows) : FVec Ideal S8x128 .f32 := k0_pay487 (x2938 b) (x2941 b) (x2944 b) (x2947 b) (x2950 b) (x2953 b) (b.vr 1 1 0 0 1 0) (b.vi 1 1 0 0 1 0) (b.vr 1 1 0 0 1 1) (b.vi 1 1 0 0 1 1) (b.vr 1 1 0 1 1 0) (b.vi 1 1 0 1 1 0)
def x3606 (b : Rows) : FVec Ideal S8x128 .f32 := k0_pay488 (x2956 b) (x2959 b) (x3592 b) (b.vr 1 1 0 1 1 1) (b.vi 1 1 0 1 1 1)
def x3607 (b : Rows) : FVec Ideal S8x128 .f32 := k0_pay489 (x2956 b) (x2959 b) (x3593 b) (b.vr 1 1 0 1 1 1) (b.vi 1 1 0 1 1 1)
def x3632 (b : Rows) : FVec Ideal S8x128 .f32 := k0_pay490 (x2938 b) (x2941 b) (x2944 b) (x2947 b) (b.vr 1 0 1 0 0 0) (b.vi 1 0 1 0 0 0) (b.vr 1 0 1 0 0 1) (b.vi 1 0 1 0 0 1)
def x3633 (b : Rows) : FVec Ideal S8x128 .f32 := k0_pay491 (x2938 b) (x2941 b) (x2944 b) (x2947 b) (b.vr 1 0 1 0 0 0) (b.vi 1 0 1 0 0 0) (b.vr 1 0 1 0 0 1) (b.vi 1 0 1 0 0 1)
def x3660 (b : Rows) : FVec Ideal S8x128 .f32 := k0_pay492 (x2950 b) (x2953 b) (x2956 b) (x2959 b) (x3632 b) (b.vr 1 0 1 1 0 0) (b.vi 1 0 1 1 0 0) (b.vr 1 0 1 1 0 1) (b.vi 1 0 1 1 0 1)
def x3661 (b : Rows) : FVec Ideal S8x128 .f32 := k0_pay493 (x2950 b) (x2953 b) (x2956 b) (x2959 b) (x3633 b) (b.vr 1 0 1 1 0 0) (b.vi 1 0 1 1 0 0) (b.vr 1 0 1 1 0 1) (b.vi 1 0 1 1 0 1)
def x3668 (b : Rows) : FVec Ideal S8x128 .f32 := k0_pay494 (x2938 b) (x2941 b) (b.vr 1 0 1 0 1 0) (b.vi 1 0 1 0 1 0)
def x3673 (b : Rows) : FVec Ideal S8x128 .f32 := k0_pay495 (x2938 b) (x2941 b) (b.vr 1 0 1 0 1 0) (b.vi 1 0 1 0 1 0)
def x3714 (b : Rows) : FVec Ideal S8x128 .f32 := k0_pay496 (x2944 b) (x2947 b) (x2950 b) (x2953 b) (x2956 b) (x2959 b) (x3668 b) (b.vr 1 0 1 0 1 1) (b.vi 1 0 1 0 1 1) (b.vr 1 0 1 1 1 0) (b.vi 1 0 1 1 1 0) (b.vr 1 0 1 1 1 1) (b.vi 1 0 1 1 1 1)
def x3715 (b : Rows) : FVec Ideal S8x128 .f32 := k0_pay497 (x2944 b) (x2947 b) (x2950 b) (x2953 b) (x2956 b) (x2959 b) (x3673 b) (b.vr 1 0 1 0 1 1) (b.vi 1 0 1 0 1 1) (b.vr 1 0 1 1 1 0) (b.vi 1 0 1 1 1 0) (b.vr 1 0 1 1 1 1) (b.vi 1 0 1 1 1 1)
def x3754 (b : Rows) : FVec Ideal S8x128 .f32 := k0_pay498 (x2938 b) (x2941 b) (x2944 b) (x2947 b) (x2950 b) (x2953 b) (b.vr 1 1 1 0 0 0) (b.vi 1 1 1 0 0 0) (b.vr 1 1 1 0 0 1) (b.vi 1 1 1 0 0 1) (b.vr 1 1 1 1 0 0) (b.vi 1 1 1 1 0 0)
def x3755 (b : Rows) : FVec Ideal S8x128 .f32 := k0_pay499 (x2938 b) (x2941 b) (x2944 b) (x2947 b) (x2950 b) (x2953 b) (b.vr 1 1 1 0 0 0) (b.vi 1 1 1 0 0 0) (b.vr 1 1 1 0 0 1) (b.vi 1 1 1 0 0 1) (b.vr 1 1 1 1 0 0) (b.vi 1 1 1 1 0 0)
def x3758 (b : Rows) : FVec Ideal S8x128 .f32 := k0_pay500 (b.vr 1 1 1 1 0 1)
def x3768 (b : Rows) : FVec Ideal S8x128 .f32 := k0_pay501 (x2956 b) (x2959 b) (x3754 b) (b.vi 1 1 1 1 0 1) (x3758 b)
def x3769 (b : Rows) : FVec Ideal S8x128 .f32 := k0_pay502 (x2956 b) (x2959 b) (x3755 b) (b.vr 1 1 1 1 0 1) (b.vi 1 1 1 1 0 1)
def x3794 (b : Rows) : FVec Ideal S8x128 .f32 := k0_pay503 (x2938 b) (x2941 b) (x2944 b) (x2947 b) (b.vr 1 1 1 0 1 0) (b.vi 1 1 1 0 1 0) (b.vr 1 1 1 0 1 1) (b.vi 1 1 1 0 1 1)
def x3795 (b : Rows) : FVec Ideal S8x128 .f32 := k0_pay504 (x2938 b) (x2941 b) (x2944 b) (x2947 b) (b.vr 1 1 1 0 1 0) (b.vi 1 1 1 0 1 0) (b.vr 1 1 1 0 1 1) (b.vi 1 1 1 0 1 1)
def x3799 (b : Rows) : FVec Ideal S8x128 .f32 := k0_pay505 (x2950 b) (b.vr 1 1 1 1 1 0)
def x3800 (b : Rows) : FVec Ideal S8x128 .f32 := k0_pay506 (b.vi 1 1 1 1 1 0)
def x3822 (b : Rows) : FVec Ideal S8x128 .f32 := k0_pay507 (x2953 b) (x2956 b) (x2959 b) (x3794 b) (x3799 b) (x3800 b) (b.vr 1 1 1 1 1 1) (b.vi 1 1 1 1 1 1)
def x3823 (b : Rows) : FVec Ideal S8x128 .f32 := k0_pay508 (x2950 b) (x2953 b) (x2956 b) (x2959 b) (x3795 b) (b.vr 1 1 1 1 1 0) (b.vi 1 1 1 1 1 0) (b.vr 1 1 1 1 1 1) (b.vi 1 1 1 1 1 1)
def x3840 (b : Rows) : FVec Ideal S8x128 .f32 := k0_pay509 (x2700 b) (x2701 b) (x2856 b) (x2857 b) (x3012 b) (x3013 b) (x3066 b) (x3067 b)
def x3853 (b : Rows) : FVec Ideal S8x128 .f32 := k0_pay510 (x2778 b) (x2779 b) (x2934 b) (x2935 b) (x3012 b) (x3013 b) (x3066 b) (x3067 b)
def x3854 (b : Rows) : FVec Ideal S8x128 .f32 := k0_pay511 (x2778 b) (x2779 b) (x2934 b) (x2935 b) (x3012 b) (x3013 b) (x3066 b) (x3067 b)
def x3912 (b : Rows) : FVec Ideal S8x128 .f32 := k0_pay512 (x2700 b) (x2701 b) (x2778 b) (x2779 b) (x2856 b) (x2857 b) (x2934 b) (x2935 b) (x3066 b) (x3067 b) (x3120 b) (x3121 b) (x3174 b) (x3175 b) (x3444 b) (x3445 b) (x3498 b) (x3499 b) (x3840 b) (x3853 b) (x3854 b)
def x3913 (b : Rows) : FVec Ideal S8x128 .f32 := k0_pay513 (x2778 b) (x3444 b)
def x3914 (b : Rows) : FVec Ideal S8x128 .f32 := k0_pay514 (x2779 b) (x3445 b)
def x3966 (b : Rows) : FVec Ideal S8x128 .f32 := k0_pay515 (x2700 b) (x2701 b) (x2778 b) (x2779 b) (x2856 b) (x2857 b) (x2934 b) (x2935 b) (x3444 b) (x3445 b) (x3498 b) (x3499 b) (x3552 b) (x3553 b) (x3606 b) (x3607 b) (x3912 b) (x3913 b) (x3914 b)
def x3969 (b : Rows) : FVec Ideal S8x128 .f32 := k0_pay516 (x2700 b) (x2701 b) (x3228 b) (x3229 b)
def x3972 (b : Rows) : FVec Ideal S8x128 .f32 := k0_pay517 (x2700 b) (x2701 b) (x3228 b) (x3229 b)
def x3973 (b : Rows) : FVec Ideal S8x128 .f32 := k0_pay518 (x2856 b) (x3282 b)
def x3974 (b : Rows) : FVec Ideal S8x128 .f32 := k0_pay519 (x2857 b) (x3283 b)
def x4019 (b : Rows) : FVec Ideal S8x128 .f32 := k0_pay520 (x2700 b) (x2701 b) (x2778 b) (x2779 b) (x2856 b) (x2857 b) (x2934 b) (x2935 b) (x3228 b) (x3229 b) (x3282 b) (x3283 b) (x3336 b) (x3337 b) (x3390 b) (x3391 b) (x3969 b) (x3972 b) (x3973 b) (x3974 b)
def x4033 (b : Rows) : FVec Ideal S8x128 .f32 := k0_pay521 (x2778 b) (x2779 b) (x2934 b) (x2935 b) (x3336 b) (x3337 b) (x3390 b) (x3391 b)
def x4034 (b : Rows) : FVec Ideal S8x128 .f32 := k0_pay522 (x2778 b) (x2779 b) (x2934 b) (x2935 b) (x3336 b) (x3337 b) (x3390 b) (x3391 b)
def x4091 (b : Rows) : FVec Ideal S8x128 .f32 := k0_pay523 (x2700 b) (x2701 b) (x2778 b) (x2779 b) (x2856 b) (x2857 b) (x2934 b) (x2935 b) (x3391 b) (x3660 b) (x3661 b) (x3714 b) (x3715 b) (x3768 b) (x3769 b) (x3822 b) (x3823 b) (x4019 b) (x4033 b) (x4034 b)
def x4094 (b : Rows) : FVec Ideal S8x128 .f32 := k0_pay524 (x2778 b) (x2779 b) (x3768 b) (x3769 b)
def x4109 (b : Rows) : FVec Ideal S8x128 .f32 := k0_pay525 (x2778 b) (x2779 b) (x2934 b) (x2935 b) (x3768 b) (x3769 b) (x3822 b) (x3823 b) (x4091 b) (x4094 b)
def x4111 (b : Rows) : FVec Ideal S8x128 .f32 := k0_pay526 (b.nf 0)
def x4113 (b : Rows) : FVec Ideal S8x128 .f32 := k0_pay527 (b.nf 1)
def x4115 (b : Rows) : FVec Ideal S8x128 .f32 := k0_pay528 (b.nf 2)
def x4137 (b : Rows) : FVec Ideal S8x128 .f32 := k0_pay529 (x2778 b) (x2779 b) (x2934 b) (x2935 b) (x3768 b) (x3769 b) (x3822 b) (x3823 b) (x3966 b) (x4091 b) (x4094 b) (b.nf 0) (b.nf 1) (b.nf 2) (b.w1 0 0) (b.w1 0 1) (b.w1 0 2) (b.w1 0 3) (b.w1 0 4) (b.c1 0)
def x4138 (b : Rows) : FVec Ideal S8x128 .f32 := k0_pay530
def x4142 (b : Rows) : FVec Ideal S8x128 .f32 := k0_pay531 (x4137 b) (x4138 b)
def x4169 (b : Rows) : FVec Ideal S8x128 .f32 := k0_pay532 (x3966 b) (x4109 b) (x4111 b) (x4113 b) (x4115 b) (b.w1 1 0) (b.w1 1 1) (b.w1 1 2) (b.w1 1 3) (b.w1 1 4) (b.c1 1)
def x4184 (b : Rows) : FVec Ideal S8x128 .f32 := k0_pay533 (x3966 b) (x4111 b) (x4113 b) (x4115 b) (b.w1 2 0) (b.w1 2 1) (b.w1 2 2) (b.w1 2 3)
def x4196 (b : Rows) : FVec Ideal S8x128 .f32 := k0_pay534 (x4109 b) (x4184 b) (b.w1 2 4) (b.c1 2)
def x4212 (b : Rows) : FVec Ideal S8x128 .f32 := k0_pay535 (x4109 b) (x4142 b) (x4169 b) (x4184 b) (b.w1 2 4) (b.c1 2) (b.w2 0 0) (b.w2 0 1) (b.w2 0 2) (b.c2 0)
def x4228 (b : Rows) : FVec Ideal S8x128 .f32 := k0_pay536 (x4109 b) (x4142 b) (x4169 b) (x4184 b) (b.w1 2 4) (b.c1 2) (b.w2 1 0) (b.w2 1 1) (b.w2 1 2) (b.c2 1)
def x4230 (b : Rows) : FVec Ideal S8x128 .f32 := k0_pay537 (b.w2 2 0)
def x4244 (b : Rows) : FVec Ideal S8x128 .f32 := k0_pay538 (x4142 b) (x4169 b) (x4196 b) (x4230 b) (b.w2 2 1) (b.w2 2 2) (b.c2 2)

end Cert.Stage

end
-- ==== Proof.Values1.lean ====
/- What those values are at a place, by the node whose data lie there (part 1). -/
module

public import proofs.«01_k».proof.Proof.Words

@[expose] public section

set_option maxHeartbeats 1000000

noncomputable section

namespace Cert.Stage

open Idealize.ShloMosaic Idealize.ShloMosaic.ValueIdx Cert.KernelIdeal Cert.KernelIdeal.Gen Lane

variable {b : Rows} {p : S8x128.Idx} {q : Lane}

theorem e1 (h : b.At p q) : x1 b p = ↑((q.u 0 0).re) := by
  simp only [x1, k0_pay7, mulf_apply, addf_apply, subf_apply, spread_apply, zero_word, ← EReal.coe_mul, ← EReal.coe_add, ← EReal.coe_sub, h.ur, h.ui]
theorem e3 (h : b.At p q) : x3 b p = ↑((q.u 0 0).im) := by
  simp only [x3, k0_pay8, mulf_apply, addf_apply, subf_apply, spread_apply, zero_word, ← EReal.coe_mul, ← EReal.coe_add, ← EReal.coe_sub, h.ur, h.ui]
theorem e5 (h : b.At p q) : x5 b p = ↑((q.u 0 1).re) := by
  simp only [x5, k0_pay9, mulf_apply, addf_apply, subf_apply, spread_apply, zero_word, ← EReal.coe_mul, ← EReal.coe_add, ← EReal.coe_sub, h.ur, h.ui]
theorem e7 (h : b.At p q) : x7 b p = ↑((q.u 0 1).im) := by
  simp only [x7, k0_pay10, mulf_apply, addf_apply, subf_apply, spread_apply, zero_word, ← EReal.coe_mul, ← EReal.coe_add, ← EReal.coe_sub, h.ur, h.ui]
theorem e9 (h : b.At p q) : x9 b p = ↑((q.u 1 0).re) := by
  simp only [x9, k0_pay11, mulf_apply, addf_apply, subf_apply, spread_apply, zero_word, ← EReal.coe_mul, ← EReal.coe_add, ← EReal.coe_sub, h.ur, h.ui]
theorem e11 (h : b.At p q) : x11 b p = ↑((q.u 1 0).im) := by
  simp only [x11, k0_pay12, mulf_apply, addf_apply, subf_apply, spread_apply, zero_word, ← EReal.coe_mul, ← EReal.coe_add, ← EReal.coe_sub, h.ur, h.ui]
theorem e13 (h : b.At p q) : x13 b p = ↑((q.u 1 1).re) := by
  simp only [x13, k0_pay13, mulf_apply, addf_apply, subf_apply, spread_apply, zero_word, ← EReal.coe_mul, ← EReal.coe_add, ← EReal.coe_sub, h.ur, h.ui]
theorem e15 (h : b.At p q) : x15 b p = ↑((q.u 1 1).im) := by
  simp only [x15, k0_pay14, mulf_apply, addf_apply, subf_apply, spread_apply, zero_word, ← EReal.coe_mul, ← EReal.coe_add, ← EReal.coe_sub, h.ur, h.ui]
theorem e17 (h : b.At p q) : x17 b p = ↑((q.u 2 0).re) := by
  simp only [x17, k0_pay15, mulf_apply, addf_apply, subf_apply, spread_apply, zero_word, ← EReal.coe_mul, ← EReal.coe_add, ← EReal.coe_sub, h.ur, h.ui]
theorem e19 (h : b.At p q) : x19 b p = ↑((q.u 2 0).im) := by
  simp only [x19, k0_pay16, mulf_apply, addf_apply, subf_apply, spread_apply, zero_word, ← EReal.coe_mul, ← EReal.coe_add, ← EReal.coe_sub, h.ur, h.ui]
theorem e21 (h : b.At p q) : x21 b p = ↑((q.u 2 1).re) := by
  simp only [x21, k0_pay17, mulf_apply, addf_apply, subf_apply, spread_apply, zero_word, ← EReal.coe_mul, ← EReal.coe_add, ← EReal.coe_sub, h.ur, h.ui]
theorem e23 (h : b.At p q) : x23 b p = ↑((q.u 2 1).im) := by
  simp only [x23, k0_pay18, mulf_apply, addf_apply, subf_apply, spread_apply, zero_word, ← EReal.coe_mul, ← EReal.coe_add, ← EReal.coe_sub, h.ur, h.ui]
theorem e25 (h : b.At p q) : x25 b p = ↑((q.u 3 0).re) := by
  simp only [x25, k0_pay19, mulf_apply, addf_apply, subf_apply, spread_apply, zero_word, ← EReal.coe_mul, ← EReal.coe_add, ← EReal.coe_sub, h.ur, h.ui]
theorem e27 (h : b.At p q) : x27 b p = ↑((q.u 3 0).im) := by
  simp only [x27, k0_pay20, mulf_apply, addf_apply, subf_apply, spread_apply, zero_word, ← EReal.coe_mul, ← EReal.coe_add, ← EReal.coe_sub, h.ur, h.ui]
theorem e29 (h : b.At p q) : x29 b p = ↑((q.u 3 1).re) := by
  simp only [x29, k0_pay21, mulf_apply, addf_apply, subf_apply, spread_apply, zero_word, ← EReal.coe_mul, ← EReal.coe_add, ← EReal.coe_sub, h.ur, h.ui]
theorem e31 (h : b.At p q) : x31 b p = ↑((q.u 3 1).im) := by
  simp only [x31, k0_pay22, mulf_apply, addf_apply, subf_apply, spread_apply, zero_word, ← EReal.coe_mul, ← EReal.coe_add, ← EReal.coe_sub, h.ur, h.ui]
theorem e33 (h : b.At p q) : x33 b p = ↑((q.e 0 0).re) := by
  simp only [x33, k0_pay23, mulf_apply, addf_apply, subf_apply, spread_apply, zero_word, ← EReal.coe_mul, ← EReal.coe_add, ← EReal.coe_sub, h.er, h.ei]
theorem e35 (h : b.At p q) : x35 b p = ↑((q.e 0 0).im) := by
  simp only [x35, k0_pay24, mulf_apply, addf_apply, subf_apply, spread_apply, zero_word, ← EReal.coe_mul, ← EReal.coe_add, ← EReal.coe_sub, h.er, h.ei]
theorem e37 (h : b.At p q) : x37 b p = ↑((q.e 0 1).re) := by
  simp only [x37, k0_pay25, mulf_apply, addf_apply, subf_apply, spread_apply, zero_word, ← EReal.coe_mul, ← EReal.coe_add, ← EReal.coe_sub, h.er, h.ei]
theorem e39 (h : b.At p q) : x39 b p = ↑((q.e 0 1).im) := by
  simp only [x39, k0_pay26, mulf_apply, addf_apply, subf_apply, spread_apply, zero_word, ← EReal.coe_mul, ← EReal.coe_add, ← EReal.coe_sub, h.er, h.ei]
theorem e41 (h : b.At p q) : x41 b p = ↑((q.e 1 0).re) := by
  simp only [x41, k0_pay27, mulf_apply, addf_apply, subf_apply, spread_apply, zero_word, ← EReal.coe_mul, ← EReal.coe_add, ← EReal.coe_sub, h.er, h.ei]
theorem e43 (h : b.At p q) : x43 b p = ↑((q.e 1 0).im) := by
  simp only [x43, k0_pay28, mulf_apply, addf_apply, subf_apply, spread_apply, zero_word, ← EReal.coe_mul, ← EReal.coe_add, ← EReal.coe_sub, h.er, h.ei]
theorem e45 (h : b.At p q) : x45 b p = ↑((q.e 1 1).re) := by
  simp only [x45, k0_pay29, mulf_apply, addf_apply, subf_apply, spread_apply, zero_word, ← EReal.coe_mul, ← EReal.coe_add, ← EReal.coe_sub, h.er, h.ei]
theorem e47 (h : b.At p q) : x47 b p = ↑((q.e 1 1).im) := by
  simp only [x47, k0_pay30, mulf_apply, addf_apply, subf_apply, spread_apply, zero_word, ← EReal.coe_mul, ← EReal.coe_add, ← EReal.coe_sub, h.er, h.ei]
theorem e49 (h : b.At p q) : x49 b p = ↑((q.e 2 0).re) := by
  simp only [x49, k0_pay31, mulf_apply, addf_apply, subf_apply, spread_apply, zero_word, ← EReal.coe_mul, ← EReal.coe_add, ← EReal.coe_sub, h.er, h.ei]
theorem e51 (h : b.At p q) : x51 b p = ↑((q.e 2 0).im) := by
  simp only [x51, k0_pay32, mulf_apply, addf_apply, subf_apply, spread_apply, zero_word, ← EReal.coe_mul, ← EReal.coe_add, ← EReal.coe_sub, h.er, h.ei]
theorem e53 (h : b.At p q) : x53 b p = ↑((q.e 2 1).re) := by
  simp only [x53, k0_pay33, mulf_apply, addf_apply, subf_apply, spread_apply, zero_word, ← EReal.coe_mul, ← EReal.coe_add, ← EReal.coe_sub, h.er, h.ei]
theorem e55 (h : b.At p q) : x55 b p = ↑((q.e 2 1).im) := by
  simp only [x55, k0_pay34, mulf_apply, addf_apply, subf_apply, spread_apply, zero_word, ← EReal.coe_mul, ← EReal.coe_add, ← EReal.coe_sub, h.er, h.ei]
theorem e57 (h : b.At p q) : x57 b p = ↑((0 - (q.u 0 0).im)) := by
  simp only [x57, k0_pay35, mulf_apply, addf_apply, subf_apply, spread_apply, zero_word, ← EReal.coe_mul, ← EReal.coe_add, ← EReal.coe_sub, e3 h]
theorem e60 (h : b.At p q) : x60 b p = ↑((q.R0 0 0).re) := by
  simp only [x60, k0_pay35, k0_pay36, mulf_apply, addf_apply, subf_apply, spread_apply, zero_word, ← EReal.coe_mul, ← EReal.coe_add, ← EReal.coe_sub, e1 h, e3 h]
  refine congrArg Real.toEReal ?_
  simp only [q.R0_re, q.R0_im] <;> ring
theorem e63 (h : b.At p q) : x63 b p = ↑((q.R0 0 0).im) := by
  simp only [x63, k0_pay35, k0_pay37, mulf_apply, addf_apply, subf_apply, spread_apply, zero_word, ← EReal.coe_mul, ← EReal.coe_add, ← EReal.coe_sub, e1 h, e3 h]
  refine congrArg Real.toEReal ?_
  simp only [q.R0_re, q.R0_im] <;> ring
theorem e65 (h : b.At p q) : x65 b p = ↑((0 - (q.u 0 1).im)) := by
  simp only [x65, k0_pay38, mulf_apply, addf_apply, subf_apply, spread_apply, zero_word, ← EReal.coe_mul, ← EReal.coe_add, ← EReal.coe_sub, e7 h]
theorem e68 (h : b.At p q) : x68 b p = ↑((q.R0 0 1).re) := by
  simp only [x68, k0_pay38, k0_pay39, mulf_apply, addf_apply, subf_apply, spread_apply, zero_word, ← EReal.coe_mul, ← EReal.coe_add, ← EReal.coe_sub, e1 h, e3 h, e5 h, e7 h]
  refine congrArg Real.toEReal ?_
  simp only [q.R0_re, q.R0_im] <;> ring
theorem e71 (h : b.At p q) : x71 b p = ↑((q.R0 0 1).im) := by
  simp only [x71, k0_pay38, k0_pay40, mulf_apply, addf_apply, subf_apply, spread_apply, zero_word, ← EReal.coe_mul, ← EReal.coe_add, ← EReal.coe_sub, e1 h, e3 h, e5 h, e7 h]
  refine congrArg Real.toEReal ?_
  simp only [q.R0_re, q.R0_im] <;> ring
theorem e73 (h : b.At p q) : x73 b p = ↑((0 - (q.u 0 0).im)) := by
  simp only [x73, k0_pay41, mulf_apply, addf_apply, subf_apply, spread_apply, zero_word, ← EReal.coe_mul, ← EReal.coe_add, ← EReal.coe_sub, e3 h]
theorem e76 (h : b.At p q) : x76 b p = ↑((q.R0 1 0).re) := by
  simp only [x76, k0_pay41, k0_pay42, mulf_apply, addf_apply, subf_apply, spread_apply, zero_word, ← EReal.coe_mul, ← EReal.coe_add, ← EReal.coe_sub, e1 h, e3 h, e5 h, e7 h]
  refine congrArg Real.toEReal ?_
  simp only [q.R0_re, q.R0_im] <;> ring
theorem e79 (h : b.At p q) : x79 b p = ↑((q.R0 1 0).im) := by
  simp only [x79, k0_pay41, k0_pay43, mulf_apply, addf_apply, subf_apply, spread_apply, zero_word, ← EReal.coe_mul, ← EReal.coe_add, ← EReal.coe_sub, e1 h, e3 h, e5 h, e7 h]
  refine congrArg Real.toEReal ?_
  simp only [q.R0_re, q.R0_im] <;> ring
theorem e81 (h : b.At p q) : x81 b p = ↑((0 - (q.u 0 1).im)) := by
  simp only [x81, k0_pay44, mulf_apply, addf_apply, subf_apply, spread_apply, zero_word, ← EReal.coe_mul, ← EReal.coe_add, ← EReal.coe_sub, e7 h]
theorem e84 (h : b.At p q) : x84 b p = ↑((q.R0 1 1).re) := by
  simp only [x84, k0_pay44, k0_pay45, mulf_apply, addf_apply, subf_apply, spread_apply, zero_word, ← EReal.coe_mul, ← EReal.coe_add, ← EReal.coe_sub, e5 h, e7 h]
  refine congrArg Real.toEReal ?_
  simp only [q.R0_re, q.R0_im] <;> ring
theorem e87 (h : b.At p q) : x87 b p = ↑((q.R0 1 1).im) := by
  simp only [x87, k0_pay44, k0_pay46, mulf_apply, addf_apply, subf_apply, spread_apply, zero_word, ← EReal.coe_mul, ← EReal.coe_add, ← EReal.coe_sub, e5 h, e7 h]
  refine congrArg Real.toEReal ?_
  simp only [q.R0_re, q.R0_im] <;> ring
theorem e90 (h : b.At p q) : x90 b p = ↑((q.P0 0 0).re) := by
  simp only [x90, k0_pay47, mulf_apply, addf_apply, subf_apply, spread_apply, zero_word, ← EReal.coe_mul, ← EReal.coe_add, ← EReal.coe_sub, e9 h, e11 h, e33 h, e35 h]
  refine congrArg Real.toEReal ?_
  simp only [q.P0_re, q.P0_im] <;> ring
theorem e93 (h : b.At p q) : x93 b p = ↑((q.P0 0 0).im) := by
  simp only [x93, k0_pay48, mulf_apply, addf_apply, subf_apply, spread_apply, zero_word, ← EReal.coe_mul, ← EReal.coe_add, ← EReal.coe_sub, e9 h, e11 h, e33 h, e35 h]
  refine congrArg Real.toEReal ?_
  simp only [q.P0_re, q.P0_im] <;> ring
theorem e96 (h : b.At p q) : x96 b p = ↑((q.P0 0 1).re) := by
  simp only [x96, k0_pay49, mulf_apply, addf_apply, subf_apply, spread_apply, zero_word, ← EReal.coe_mul, ← EReal.coe_add, ← EReal.coe_sub, e13 h, e15 h, e33 h, e35 h]
  refine congrArg Real.toEReal ?_
  simp only [q.P0_re, q.P0_im] <;> ring
theorem e99 (h : b.At p q) : x99 b p = ↑((q.P0 0 1).im) := by
  simp only [x99, k0_pay50, mulf_apply, addf_apply, subf_apply, spread_apply, zero_word, ← EReal.coe_mul, ← EReal.coe_add, ← EReal.coe_sub, e13 h, e15 h, e33 h, e35 h]
  refine congrArg Real.toEReal ?_
  simp only [q.P0_re, q.P0_im] <;> ring
theorem e102 (h : b.At p q) : x102 b p = ↑((q.P0 1 0).re) := by
  simp only [x102, k0_pay51, mulf_apply, addf_apply, subf_apply, spread_apply, zero_word, ← EReal.coe_mul, ← EReal.coe_add, ← EReal.coe_sub, e9 h, e11 h, e37 h, e39 h]
  refine congrArg Real.toEReal ?_
  simp only [q.P0_re, q.P0_im] <;> ring
theorem e105 (h : b.At p q) : x105 b p = ↑((q.P0 1 0).im) := by
  simp only [x105, k0_pay52, mulf_apply, addf_apply, subf_apply, spread_apply, zero_word, ← EReal.coe_mul, ← EReal.coe_add, ← EReal.coe_sub, e9 h, e11 h, e37 h, e39 h]
  refine congrArg Real.toEReal ?_
  simp only [q.P0_re, q.P0_im] <;> ring
theorem e108 (h : b.At p q) : x108 b p = ↑((q.P0 1 1).re) := by
  simp only [x108, k0_pay53, mulf_apply, addf_apply, subf_apply, spread_apply, zero_word, ← EReal.coe_mul, ← EReal.coe_add, ← EReal.coe_sub, e13 h, e15 h, e37 h, e39 h]
  refine congrArg Real.toEReal ?_
  simp only [q.P0_re, q.P0_im] <;> ring
theorem e111 (h : b.At p q) : x111 b p = ↑((q.P0 1 1).im) := by
  simp only [x111, k0_pay54, mulf_apply, addf_apply, subf_apply, spread_apply, zero_word, ← EReal.coe_mul, ← EReal.coe_add, ← EReal.coe_sub, e13 h, e15 h, e37 h, e39 h]
  refine congrArg Real.toEReal ?_
  simp only [q.P0_re, q.P0_im] <;> ring
theorem e136 (h : b.At p q) : x136 b p = ↑(((((q.V 0 0 0 0 0 0).re * (q.P0 0 0).re) - ((q.V 0 0 0 0 0 0).im * (q.P0 0 0).im)) + (((q.V 0 0 0 0 0 1).re * (q.P0 0 1).re) - ((q.V 0 0 0 0 0 1).im * (q.P0 0 1).im)))) := by
  simp only [x136, k0_pay48, k0_pay49, k0_pay50, k0_pay55, mulf_apply, addf_apply, subf_apply, spread_apply, zero_word, ← EReal.coe_mul, ← EReal.coe_add, ← EReal.coe_sub, e9 h, e11 h, e13 h, e15 h, e33 h, e35 h, e90 h, h.vr, h.vi]
  refine congrArg Real.toEReal ?_
  simp only [q.P0_re, q.P0_im] <;> ring
theorem e137 (h : b.At p q) : x137 b p = ↑(((((q.V 0 0 0 0 0 0).re * (q.P0 0 0).im) + ((q.V 0 0 0 0 0 0).im * (q.P0 0 0).re)) + (((q.V 0 0 0 0 0 1).re * (q.P0 0 1).im) + ((q.V 0 0 0 0 0 1).im * (q.P0 0 1).re)))) := by
  simp only [x137, k0_pay48, k0_pay49, k0_pay50, k0_pay56, mulf_apply, addf_apply, subf_apply, spread_apply, zero_word, ← EReal.coe_mul, ← EReal.coe_add, ← EReal.coe_sub, e9 h, e11 h, e13 h, e15 h, e33 h, e35 h, e90 h, h.vr, h.vi]
  refine congrArg Real.toEReal ?_
  simp only [q.P0_re, q.P0_im] <;> ring
theorem e164 (h : b.At p q) : x164 b p = ↑((q.A0 0 0 0 0).re) := by
  simp only [x164, k0_pay57, mulf_apply, addf_apply, subf_apply, spread_apply, zero_word, ← EReal.coe_mul, ← EReal.coe_add, ← EReal.coe_sub, e102 h, e105 h, e108 h, e111 h, e136 h, h.vr, h.vi]
  refine congrArg Real.toEReal ?_
  simp only [q.A0_re, q.A0_im, contractRe, contractIm] <;> ring
theorem e165 (h : b.At p q) : x165 b p = ↑((q.A0 0 0 0 0).im) := by
  simp only [x165, k0_pay58, mulf_apply, addf_apply, subf_apply, spread_apply, zero_word, ← EReal.coe_mul, ← EReal.coe_add, ← EReal.coe_sub, e102 h, e105 h, e108 h, e111 h, e137 h, h.vr, h.vi]
  refine congrArg Real.toEReal ?_
  simp only [q.A0_re, q.A0_im, contractRe, contractIm] <;> ring
theorem e172 (h : b.At p q) : x172 b p = ↑((((q.V 0 0 0 0 1 0).re * (q.P0 0 0).re) - ((q.V 0 0 0 0 1 0).im * (q.P0 0 0).im))) := by
  simp only [x172, k0_pay59, mulf_apply, addf_apply, subf_apply, spread_apply, zero_word, ← EReal.coe_mul, ← EReal.coe_add, ← EReal.coe_sub, e90 h, e93 h, h.vr, h.vi]
theorem e177 (h : b.At p q) : x177 b p = ↑((((q.V 0 0 0 0 1 0).re * (q.P0 0 0).im) + ((q.V 0 0 0 0 1 0).im * (q.P0 0 0).re))) := by
  simp only [x177, k0_pay60, mulf_apply, addf_apply, subf_apply, spread_apply, zero_word, ← EReal.coe_mul, ← EReal.coe_add, ← EReal.coe_sub, e90 h, e93 h, h.vr, h.vi]
theorem e218 (h : b.At p q) : x218 b p = ↑((q.A0 0 0 0 1).re) := by
  simp only [x218, k0_pay61, mulf_apply, addf_apply, subf_apply, spread_apply, zero_word, ← EReal.coe_mul, ← EReal.coe_add, ← EReal.coe_sub, e96 h, e99 h, e102 h, e105 h, e108 h, e111 h, e172 h, h.vr, h.vi]
  refine congrArg Real.toEReal ?_
  simp only [q.A0_re, q.A0_im, contractRe, contractIm] <;> ring
theorem e219 (h : b.At p q) : x219 b p = ↑((q.A0 0 0 0 1).im) := by
  simp only [x219, k0_pay62, mulf_apply, addf_apply, subf_apply, spread_apply, zero_word, ← EReal.coe_mul, ← EReal.coe_add, ← EReal.coe_sub, e96 h, e99 h, e102 h, e105 h, e108 h, e111 h, e177 h, h.vr, h.vi]
  refine congrArg Real.toEReal ?_
  simp only [q.A0_re, q.A0_im, contractRe, contractIm] <;> ring
theorem e258 (h : b.At p q) : x258 b p = ↑((((((q.V 0 1 0 0 0 0).re * (q.P0 0 0).re) - ((q.V 0 1 0 0 0 0).im * (q.P0 0 0).im)) + (((q.V 0 1 0 0 0 1).re * (q.P0 0 1).re) - ((q.V 0 1 0 0 0 1).im * (q.P0 0 1).im))) + (((q.V 0 1 0 1 0 0).re * (q.P0 1 0).re) - ((q.V 0 1 0 1 0 0).im * (q.P0 1 0).im)))) := by
  simp only [x258, k0_pay63, mulf_apply, addf_apply, subf_apply, spread_apply, zero_word, ← EReal.coe_mul, ← EReal.coe_add, ← EReal.coe_sub, e90 h, e93 h, e96 h, e99 h, e102 h, e105 h, h.vr, h.vi]
theorem e259 (h : b.At p q) : x259 b p = ↑((((((q.V 0 1 0 0 0 0).re * (q.P0 0 0).im) + ((q.V 0 1 0 0 0 0).im * (q.P0 0 0).re)) + (((q.V 0 1 0 0 0 1).re * (q.P0 0 1).im) + ((q.V 0 1 0 0 0 1).im * (q.P0 0 1).re))) + (((q.V 0 1 0 1 0 0).re * (q.P0 1 0).im) + ((q.V 0 1 0 1 0 0).im * (q.P0 1 0).re)))) := by
  simp only [x259, k0_pay64, mulf_apply, addf_apply, subf_apply, spread_apply, zero_word, ← EReal.coe_mul, ← EReal.coe_add, ← EReal.coe_sub, e90 h, e93 h, e96 h, e99 h, e102 h, e105 h, h.vr, h.vi]
theorem e272 (h : b.At p q) : x272 b p = ↑((q.A0 0 0 1 0).re) := by
  simp only [x272, k0_pay65, mulf_apply, addf_apply, subf_apply, spread_apply, zero_word, ← EReal.coe_mul, ← EReal.coe_add, ← EReal.coe_sub, e108 h, e111 h, e258 h, h.vr, h.vi]
  refine congrArg Real.toEReal ?_
  simp only [q.A0_re, q.A0_im, contractRe, contractIm] <;> ring
theorem e273 (h : b.At p q) : x273 b p = ↑((q.A0 0 0 1 0).im) := by
  simp only [x273, k0_pay66, mulf_apply, addf_apply, subf_apply, spread_apply, zero_word, ← EReal.coe_mul, ← EReal.coe_add, ← EReal.coe_sub, e108 h, e111 h, e259 h, h.vr, h.vi]
  refine congrArg Real.toEReal ?_
  simp only [q.A0_re, q.A0_im, contractRe, contractIm] <;> ring
theorem e298 (h : b.At p q) : x298 b p = ↑(((((q.V 0 1 0 0 1 0).re * (q.P0 0 0).re) - ((q.V 0 1 0 0 1 0).im * (q.P0 0 0).im)) + (((q.V 0 1 0 0 1 1).re * (q.P0 0 1).re) - ((q.V 0 1 0 0 1 1).im * (q.P0 0 1).im)))) := by
  simp only [x298, k0_pay67, mulf_apply, addf_apply, subf_apply, spread_apply, zero_word, ← EReal.coe_mul, ← EReal.coe_add, ← EReal.coe_sub, e90 h, e93 h, e96 h, e99 h, h.vr, h.vi]
theorem e299 (h : b.At p q) : x299 b p = ↑(((((q.V 0 1 0 0 1 0).re * (q.P0 0 0).im) + ((q.V 0 1 0 0 1 0).im * (q.P0 0 0).re)) + (((q.V 0 1 0 0 1 1).re * (q.P0 0 1).im) + ((q.V 0 1 0 0 1 1).im * (q.P0 0 1).re)))) := by
  simp only [x299, k0_pay68, mulf_apply, addf_apply, subf_apply, spread_apply, zero_word, ← EReal.coe_mul, ← EReal.coe_add, ← EReal.coe_sub, e90 h, e93 h, e96 h, e99 h, h.vr, h.vi]
theorem e326 (h : b.At p q) : x326 b p = ↑((q.A0 0 0 1 1).re) := by
  simp only [x326, k0_pay69, mulf_apply, addf_apply, subf_apply, spread_apply, zero_word, ← EReal.coe_mul, ← EReal.coe_add, ← EReal.coe_sub, e102 h, e105 h, e108 h, e111 h, e298 h, h.vr, h.vi]
  refine congrArg Real.toEReal ?_
  simp only [q.A0_re, q.A0_im, contractRe, contractIm] <;> ring
theorem e327 (h : b.At p q) : x327 b p = ↑((q.A0 0 0 1 1).im) := by
  simp only [x327, k0_pay70, mulf_apply, addf_apply, subf_apply, spread_apply, zero_word, ← EReal.coe_mul, ← EReal.coe_add, ← EReal.coe_sub, e102 h, e105 h, e108 h, e111 h, e299 h, h.vr, h.vi]
  refine congrArg Real.toEReal ?_
  simp only [q.A0_re, q.A0_im, contractRe, contractIm] <;> ring
theorem e334 (h : b.At p q) : x334 b p = ↑((((q.V 0 0 1 0 0 0).re * (q.P0 0 0).re) - ((q.V 0 0 1 0 0 0).im * (q.P0 0 0).im))) := by
  simp only [x334, k0_pay71, mulf_apply, addf_apply, subf_apply, spread_apply, zero_word, ← EReal.coe_mul, ← EReal.coe_add, ← EReal.coe_sub, e90 h, e93 h, h.vr, h.vi]
theorem e339 (h : b.At p q) : x339 b p = ↑((((q.V 0 0 1 0 0 0).re * (q.P0 0 0).im) + ((q.V 0 0 1 0 0 0).im * (q.P0 0 0).re))) := by
  simp only [x339, k0_pay72, mulf_apply, addf_apply, subf_apply, spread_apply, zero_word, ← EReal.coe_mul, ← EReal.coe_add, ← EReal.coe_sub, e90 h, e93 h, h.vr, h.vi]
theorem e342 (h : b.At p q) : x342 b p = ↑((q.V 0 0 1 0 0 1).re) := by
  simp only [x342, k0_pay73, mulf_apply, addf_apply, subf_apply, spread_apply, zero_word, ← EReal.coe_mul, ← EReal.coe_add, ← EReal.coe_sub, h.vr, h.vi]
theorem e380 (h : b.At p q) : x380 b p = ↑((q.A0 0 1 0 0).re) := by
  simp only [x380, k0_pay74, mulf_apply, addf_apply, subf_apply, spread_apply, zero_word, ← EReal.coe_mul, ← EReal.coe_add, ← EReal.coe_sub, e96 h, e99 h, e102 h, e105 h, e108 h, e111 h, e334 h, e342 h, h.vr, h.vi]
  refine congrArg Real.toEReal ?_
  simp only [q.A0_re, q.A0_im, contractRe, contractIm] <;> ring
theorem e381 (h : b.At p q) : x381 b p = ↑((q.A0 0 1 0 0).im) := by
  simp only [x381, k0_pay75, mulf_apply, addf_apply, subf_apply, spread_apply, zero_word, ← EReal.coe_mul, ← EReal.coe_add, ← EReal.coe_sub, e96 h, e99 h, e102 h, e105 h, e108 h, e111 h, e339 h, h.vr, h.vi]
  refine congrArg Real.toEReal ?_
  simp only [q.A0_re, q.A0_im, contractRe, contractIm] <;> ring
theorem e384 (h : b.At p q) : x384 b p = ↑((q.V 0 0 1 0 1 0).re) := by
  simp only [x384, k0_pay76, mulf_apply, addf_apply, subf_apply, spread_apply, zero_word, ← EReal.coe_mul, ← EReal.coe_add, ← EReal.coe_sub, h.vr, h.vi]
theorem e420 (h : b.At p q) : x420 b p = ↑((((((q.V 0 0 1 0 1 0).re * (q.P0 0 0).re) - ((q.V 0 0 1 0 1 0).im * (q.P0 0 0).im)) + (((q.V 0 0 1 0 1 1).re * (q.P0 0 1).re) - ((q.V 0 0 1 0 1 1).im * (q.P0 0 1).im))) + (((q.V 0 0 1 1 1 0).re * (q.P0 1 0).re) - ((q.V 0 0 1 1 1 0).im * (q.P0 1 0).im)))) := by
  simp only [x420, k0_pay77, mulf_apply, addf_apply, subf_apply, spread_apply, zero_word, ← EReal.coe_mul, ← EReal.coe_add, ← EReal.coe_sub, e90 h, e93 h, e96 h, e99 h, e102 h, e105 h, e384 h, h.vr, h.vi]
theorem e421 (h : b.At p q) : x421 b p = ↑((((((q.V 0 0 1 0 1 0).re * (q.P0 0 0).im) + ((q.V 0 0 1 0 1 0).im * (q.P0 0 0).re)) + (((q.V 0 0 1 0 1 1).re * (q.P0 0 1).im) + ((q.V 0 0 1 0 1 1).im * (q.P0 0 1).re))) + (((q.V 0 0 1 1 1 0).re * (q.P0 1 0).im) + ((q.V 0 0 1 1 1 0).im * (q.P0 1 0).re)))) := by
  simp only [x421, k0_pay78, mulf_apply, addf_apply, subf_apply, spread_apply, zero_word, ← EReal.coe_mul, ← EReal.coe_add, ← EReal.coe_sub, e90 h, e93 h, e96 h, e99 h, e102 h, e105 h, h.vr, h.vi]
theorem e425 (h : b.At p q) : x425 b p = ↑(((q.V 0 0 1 1 1 1).re * (q.P0 1 1).re)) := by
  simp only [x425, k0_pay79, mulf_apply, addf_apply, subf_apply, spread_apply, zero_word, ← EReal.coe_mul, ← EReal.coe_add, ← EReal.coe_sub, e108 h, h.vr, h.vi]
theorem e426 (h : b.At p q) : x426 b p = ↑((q.V 0 0 1 1 1 1).im) := by
  simp only [x426, k0_pay80, mulf_apply, addf_apply, subf_apply, spread_apply, zero_word, ← EReal.coe_mul, ← EReal.coe_add, ← EReal.coe_sub, h.vr, h.vi]
theorem e434 (h : b.At p q) : x434 b p = ↑((q.A0 0 1 0 1).re) := by
  simp only [x434, k0_pay81, mulf_apply, addf_apply, subf_apply, spread_apply, zero_word, ← EReal.coe_mul, ← EReal.coe_add, ← EReal.coe_sub, e111 h, e420 h, e425 h, e426 h]
  refine congrArg Real.toEReal ?_
  simp only [q.A0_re, q.A0_im, contractRe, contractIm] <;> ring
theorem e435 (h : b.At p q) : x435 b p = ↑((q.A0 0 1 0 1).im) := by
  simp only [x435, k0_pay82, mulf_apply, addf_apply, subf_apply, spread_apply, zero_word, ← EReal.coe_mul, ← EReal.coe_add, ← EReal.coe_sub, e108 h, e111 h, e421 h, h.vr, h.vi]
  refine congrArg Real.toEReal ?_
  simp only [q.A0_re, q.A0_im, contractRe, contractIm] <;> ring
theorem e460 (h : b.At p q) : x460 b p = ↑(((((q.V 0 1 1 0 0 0).re * (q.P0 0 0).re) - ((q.V 0 1 1 0 0 0).im * (q.P0 0 0).im)) + (((q.V 0 1 1 0 0 1).re * (q.P0 0 1).re) - ((q.V 0 1 1 0 0 1).im * (q.P0 0 1).im)))) := by
  simp only [x460, k0_pay83, mulf_apply, addf_apply, subf_apply, spread_apply, zero_word, ← EReal.coe_mul, ← EReal.coe_add, ← EReal.coe_sub, e90 h, e93 h, e96 h, e99 h, h.vr, h.vi]
theorem e461 (h : b.At p q) : x461 b p = ↑(((((q.V 0 1 1 0 0 0).re * (q.P0 0 0).im) + ((q.V 0 1 1 0 0 0).im * (q.P0 0 0).re)) + (((q.V 0 1 1 0 0 1).re * (q.P0 0 1).im) + ((q.V 0 1 1 0 0 1).im * (q.P0 0 1).re)))) := by
  simp only [x461, k0_pay84, mulf_apply, addf_apply, subf_apply, spread_apply, zero_word, ← EReal.coe_mul, ← EReal.coe_add, ← EReal.coe_sub, e90 h, e93 h, e96 h, e99 h, h.vr, h.vi]
theorem e468 (h : b.At p q) : x468 b p = ↑((((q.V 0 1 1 1 0 0).re * (q.P0 1 0).re) - ((q.V 0 1 1 1 0 0).im * (q.P0 1 0).im))) := by
  simp only [x468, k0_pay85, mulf_apply, addf_apply, subf_apply, spread_apply, zero_word, ← EReal.coe_mul, ← EReal.coe_add, ← EReal.coe_sub, e102 h, e105 h, h.vr, h.vi]
theorem e488 (h : b.At p q) : x488 b p = ↑((q.A0 0 1 1 0).re) := by
  simp only [x488, k0_pay86, mulf_apply, addf_apply, subf_apply, spread_apply, zero_word, ← EReal.coe_mul, ← EReal.coe_add, ← EReal.coe_sub, e108 h, e111 h, e460 h, e468 h, h.vr, h.vi]
  refine congrArg Real.toEReal ?_
  simp only [q.A0_re, q.A0_im, contractRe, contractIm] <;> ring
theorem e489 (h : b.At p q) : x489 b p = ↑((q.A0 0 1 1 0).im) := by
  simp only [x489, k0_pay87, mulf_apply, addf_apply, subf_apply, spread_apply, zero_word, ← EReal.coe_mul, ← EReal.coe_add, ← EReal.coe_sub, e102 h, e105 h, e108 h, e111 h, e461 h, h.vr, h.vi]
  refine congrArg Real.toEReal ?_
  simp only [q.A0_re, q.A0_im, contractRe, contractIm] <;> ring
theorem e496 (h : b.At p q) : x496 b p = ↑((((q.V 0 1 1 0 1 0).re * (q.P0 0 0).re) - ((q.V 0 1 1 0 1 0).im * (q.P0 0 0).im))) := by
  simp only [x496, k0_pay88, mulf_apply, addf_apply, subf_apply, spread_apply, zero_word, ← EReal.coe_mul, ← EReal.coe_add, ← EReal.coe_sub, e90 h, e93 h, h.vr, h.vi]
theorem e501 (h : b.At p q) : x501 b p = ↑((((q.V 0 1 1 0 1 0).re * (q.P0 0 0).im) + ((q.V 0 1 1 0 1 0).im * (q.P0 0 0).re))) := by
  simp only [x501, k0_pay89, mulf_apply, addf_apply, subf_apply, spread_apply, zero_word, ← EReal.coe_mul, ← EReal.coe_add, ← EReal.coe_sub, e90 h, e93 h, h.vr, h.vi]
theorem e508 (h : b.At p q) : x508 b p = ↑((((q.V 0 1 1 0 1 1).re * (q.P0 0 1).re) - ((q.V 0 1 1 0 1 1).im * (q.P0 0 1).im))) := by
  simp only [x508, k0_pay90, mulf_apply, addf_apply, subf_apply, spread_apply, zero_word, ← EReal.coe_mul, ← EReal.coe_add, ← EReal.coe_sub, e96 h, e99 h, h.vr, h.vi]
theorem e510 (h : b.At p q) : x510 b p = ↑(((q.V 0 1 1 0 1 1).re * (q.P0 0 1).im)) := by
  simp only [x510, k0_pay91, mulf_apply, addf_apply, subf_apply, spread_apply, zero_word, ← EReal.coe_mul, ← EReal.coe_add, ← EReal.coe_sub, e99 h, h.vr, h.vi]
theorem e542 (h : b.At p q) : x542 b p = ↑((q.A0 0 1 1 1).re) := by
  simp only [x542, k0_pay92, mulf_apply, addf_apply, subf_apply, spread_apply, zero_word, ← EReal.coe_mul, ← EReal.coe_add, ← EReal.coe_sub, e102 h, e105 h, e108 h, e111 h, e496 h, e508 h, h.vr, h.vi]
  refine congrArg Real.toEReal ?_
  simp only [q.A0_re, q.A0_im, contractRe, contractIm] <;> ring
theorem e543 (h : b.At p q) : x543 b p = ↑((q.A0 0 1 1 1).im) := by
  simp only [x543, k0_pay93, mulf_apply, addf_apply, subf_apply, spread_apply, zero_word, ← EReal.coe_mul, ← EReal.coe_add, ← EReal.coe_sub, e96 h, e102 h, e105 h, e108 h, e111 h, e501 h, e510 h, h.vr, h.vi]
  refine congrArg Real.toEReal ?_
  simp only [q.A0_re, q.A0_im, contractRe, contractIm] <;> ring
theorem e550 (h : b.At p q) : x550 b p = ↑((((q.V 1 0 0 0 0 0).re * (q.P0 0 0).re) - ((q.V 1 0 0 0 0 0).im * (q.P0 0 0).im))) := by
  simp only [x550, k0_pay94, mulf_apply, addf_apply, subf_apply, spread_apply, zero_word, ← EReal.coe_mul, ← EReal.coe_add, ← EReal.coe_sub, e90 h, e93 h, h.vr, h.vi]
theorem e552 (h : b.At p q) : x552 b p = ↑(((q.V 1 0 0 0 0 0).re * (q.P0 0 0).im)) := by
  simp only [x552, k0_pay95, mulf_apply, addf_apply, subf_apply, spread_apply, zero_word, ← EReal.coe_mul, ← EReal.coe_add, ← EReal.coe_sub, e93 h, h.vr, h.vi]
theorem e582 (h : b.At p q) : x582 b p = ↑((((((q.V 1 0 0 0 0 0).re * (q.P0 0 0).re) - ((q.V 1 0 0 0 0 0).im * (q.P0 0 0).im)) + (((q.V 1 0 0 0 0 1).re * (q.P0 0 1).re) - ((q.V 1 0 0 0 0 1).im * (q.P0 0 1).im))) + (((q.V 1 0 0 1 0 0).re * (q.P0 1 0).re) - ((q.V 1 0 0 1 0 0).im * (q.P0 1 0).im)))) := by
  simp only [x582, k0_pay96, mulf_apply, addf_apply, subf_apply, spread_apply, zero_word, ← EReal.coe_mul, ← EReal.coe_add, ← EReal.coe_sub, e96 h, e99 h, e102 h, e105 h, e550 h, h.vr, h.vi]
theorem e583 (h : b.At p q) : x583 b p = ↑((((((q.V 1 0 0 0 0 0).re * (q.P0 0 0).im) + ((q.V 1 0 0 0 0 0).im * (q.P0 0 0).re)) + (((q.V 1 0 0 0 0 1).re * (q.P0 0 1).im) + ((q.V 1 0 0 0 0 1).im * (q.P0 0 1).re))) + (((q.V 1 0 0 1 0 0).re * (q.P0 1 0).im) + ((q.V 1 0 0 1 0 0).im * (q.P0 1 0).re)))) := by
  simp only [x583, k0_pay97, mulf_apply, addf_apply, subf_apply, spread_apply, zero_word, ← EReal.coe_mul, ← EReal.coe_add, ← EReal.coe_sub, e90 h, e96 h, e99 h, e102 h, e105 h, e552 h, h.vr, h.vi]
theorem e590 (h : b.At p q) : x590 b p = ↑((((q.V 1 0 0 1 0 1).re * (q.P0 1 1).re) - ((q.V 1 0 0 1 0 1).im * (q.P0 1 1).im))) := by
  simp only [x590, k0_pay98, mulf_apply, addf_apply, subf_apply, spread_apply, zero_word, ← EReal.coe_mul, ← EReal.coe_add, ← EReal.coe_sub, e108 h, e111 h, h.vr, h.vi]
theorem e592 (h : b.At p q) : x592 b p = ↑(((q.V 1 0 0 1 0 1).re * (q.P0 1 1).im)) := by
  simp only [x592, k0_pay99, mulf_apply, addf_apply, subf_apply, spread_apply, zero_word, ← EReal.coe_mul, ← EReal.coe_add, ← EReal.coe_sub, e111 h, h.vr, h.vi]
theorem e594 (h : b.At p q) : x594 b p = ↑(((q.V 1 0 0 1 0 1).im * (q.P0 1 1).re)) := by
  simp only [x594, k0_pay100, mulf_apply, addf_apply, subf_apply, spread_apply, zero_word, ← EReal.coe_mul, ← EReal.coe_add, ← EReal.coe_sub, e108 h, h.vr, h.vi]
theorem e596 (h : b.At p q) : x596 b p = ↑((q.A0 1 0 0 0).re) := by
  simp only [x596, k0_pay101, mulf_apply, addf_apply, subf_apply, spread_apply, zero_word, ← EReal.coe_mul, ← EReal.coe_add, ← EReal.coe_sub, e582 h, e590 h]
  refine congrArg Real.toEReal ?_
  simp only [q.A0_re, q.A0_im, contractRe, contractIm] <;> ring
theorem e597 (h : b.At p q) : x597 b p = ↑((q.A0 1 0 0 0).im) := by
  simp only [x597, k0_pay102, mulf_apply, addf_apply, subf_apply, spread_apply, zero_word, ← EReal.coe_mul, ← EReal.coe_add, ← EReal.coe_sub, e583 h, e592 h, e594 h]
  refine congrArg Real.toEReal ?_
  simp only [q.A0_re, q.A0_im, contractRe, contractIm] <;> ring
theorem e623 (h : b.At p q) : x623 b p = ↑(((((q.V 1 0 0 0 1 0).re * (q.P0 0 0).im) + ((q.V 1 0 0 0 1 0).im * (q.P0 0 0).re)) + (((q.V 1 0 0 0 1 1).re * (q.P0 0 1).im) + ((q.V 1 0 0 0 1 1).im * (q.P0 0 1).re)))) := by
  simp only [x623, k0_pay103, mulf_apply, addf_apply, subf_apply, spread_apply, zero_word, ← EReal.coe_mul, ← EReal.coe_add, ← EReal.coe_sub, e90 h, e93 h, e96 h, e99 h, h.vr, h.vi]
theorem e635 (h : b.At p q) : x635 b p = ↑((((q.V 1 0 0 1 1 0).re * (q.P0 1 0).im) + ((q.V 1 0 0 1 1 0).im * (q.P0 1 0).re))) := by
  simp only [x635, k0_pay104, mulf_apply, addf_apply, subf_apply, spread_apply, zero_word, ← EReal.coe_mul, ← EReal.coe_add, ← EReal.coe_sub, e102 h, e105 h, h.vr, h.vi]
theorem e636 (h : b.At p q) : x636 b p = ↑((((((q.V 1 0 0 0 1 0).re * (q.P0 0 0).re) - ((q.V 1 0 0 0 1 0).im * (q.P0 0 0).im)) + (((q.V 1 0 0 0 1 1).re * (q.P0 0 1).re) - ((q.V 1 0 0 0 1 1).im * (q.P0 0 1).im))) + (((q.V 1 0 0 1 1 0).re * (q.P0 1 0).re) - ((q.V 1 0 0 1 1 0).im * (q.P0 1 0).im)))) := by
  simp only [x636, k0_pay105, mulf_apply, addf_apply, subf_apply, spread_apply, zero_word, ← EReal.coe_mul, ← EReal.coe_add, ← EReal.coe_sub, e90 h, e93 h, e96 h, e99 h, e102 h, e105 h, h.vr, h.vi]
theorem e650 (h : b.At p q) : x650 b p = ↑((q.A0 1 0 0 1).re) := by
  simp only [x650, k0_pay106, mulf_apply, addf_apply, subf_apply, spread_apply, zero_word, ← EReal.coe_mul, ← EReal.coe_add, ← EReal.coe_sub, e108 h, e111 h, e636 h, h.vr, h.vi]
  refine congrArg Real.toEReal ?_
  simp only [q.A0_re, q.A0_im, contractRe, contractIm] <;> ring
theorem e651 (h : b.At p q) : x651 b p = ↑((q.A0 1 0 0 1).im) := by
  simp only [x651, k0_pay107, mulf_apply, addf_apply, subf_apply, spread_apply, zero_word, ← EReal.coe_mul, ← EReal.coe_add, ← EReal.coe_sub, e108 h, e111 h, e623 h, e635 h, h.vr, h.vi]
  refine congrArg Real.toEReal ?_
  simp only [q.A0_re, q.A0_im, contractRe, contractIm] <;> ring
theorem e676 (h : b.At p q) : x676 b p = ↑(((((q.V 1 1 0 0 0 0).re * (q.P0 0 0).re) - ((q.V 1 1 0 0 0 0).im * (q.P0 0 0).im)) + (((q.V 1 1 0 0 0 1).re * (q.P0 0 1).re) - ((q.V 1 1 0 0 0 1).im * (q.P0 0 1).im)))) := by
  simp only [x676, k0_pay108, mulf_apply, addf_apply, subf_apply, spread_apply, zero_word, ← EReal.coe_mul, ← EReal.coe_add, ← EReal.coe_sub, e90 h, e93 h, e96 h, e99 h, h.vr, h.vi]
theorem e677 (h : b.At p q) : x677 b p = ↑(((((q.V 1 1 0 0 0 0).re * (q.P0 0 0).im) + ((q.V 1 1 0 0 0 0).im * (q.P0 0 0).re)) + (((q.V 1 1 0 0 0 1).re * (q.P0 0 1).im) + ((q.V 1 1 0 0 0 1).im * (q.P0 0 1).re)))) := by
  simp only [x677, k0_pay109, mulf_apply, addf_apply, subf_apply, spread_apply, zero_word, ← EReal.coe_mul, ← EReal.coe_add, ← EReal.coe_sub, e90 h, e93 h, e96 h, e99 h, h.vr, h.vi]
theorem e704 (h : b.At p q) : x704 b p = ↑((q.A0 1 0 1 0).re) := by
  simp only [x704, k0_pay110, mulf_apply, addf_apply, subf_apply, spread_apply, zero_word, ← EReal.coe_mul, ← EReal.coe_add, ← EReal.coe_sub, e102 h, e105 h, e108 h, e111 h, e676 h, h.vr, h.vi]
  refine congrArg Real.toEReal ?_
  simp only [q.A0_re, q.A0_im, contractRe, contractIm] <;> ring
theorem e705 (h : b.At p q) : x705 b p = ↑((q.A0 1 0 1 0).im) := by
  simp only [x705, k0_pay111, mulf_apply, addf_apply, subf_apply, spread_apply, zero_word, ← EReal.coe_mul, ← EReal.coe_add, ← EReal.coe_sub, e102 h, e105 h, e108 h, e111 h, e677 h, h.vr, h.vi]
  refine congrArg Real.toEReal ?_
  simp only [q.A0_re, q.A0_im, contractRe, contractIm] <;> ring
theorem e712 (h : b.At p q) : x712 b p = ↑((((q.V 1 1 0 0 1 0).re * (q.P0 0 0).re) - ((q.V 1 1 0 0 1 0).im * (q.P0 0 0).im))) := by
  simp only [x712, k0_pay112, mulf_apply, addf_apply, subf_apply, spread_apply, zero_word, ← EReal.coe_mul, ← EReal.coe_add, ← EReal.coe_sub, e90 h, e93 h, h.vr, h.vi]
theorem e717 (h : b.At p q) : x717 b p = ↑((((q.V 1 1 0 0 1 0).re * (q.P0 0 0).im) + ((q.V 1 1 0 0 1 0).im * (q.P0 0 0).re))) := by
  simp only [x717, k0_pay113, mulf_apply, addf_apply, subf_apply, spread_apply, zero_word, ← EReal.coe_mul, ← EReal.coe_add, ← EReal.coe_sub, e90 h, e93 h, h.vr, h.vi]
theorem e758 (h : b.At p q) : x758 b p = ↑((q.A0 1 0 1 1).re) := by
  simp only [x758, k0_pay114, mulf_apply, addf_apply, subf_apply, spread_apply, zero_word, ← EReal.coe_mul, ← EReal.coe_add, ← EReal.coe_sub, e96 h, e99 h, e102 h, e105 h, e108 h, e111 h, e712 h, h.vr, h.vi]
  refine congrArg Real.toEReal ?_
  simp only [q.A0_re, q.A0_im, contractRe, contractIm] <;> ring
theorem e759 (h : b.At p q) : x759 b p = ↑((q.A0 1 0 1 1).im) := by
  simp only [x759, k0_pay115, mulf_apply, addf_apply, subf_apply, spread_apply, zero_word, ← EReal.coe_mul, ← EReal.coe_add, ← EReal.coe_sub, e96 h, e99 h, e102 h, e105 h, e108 h, e111 h, e717 h, h.vr, h.vi]
  refine congrArg Real.toEReal ?_
  simp only [q.A0_re, q.A0_im, contractRe, contractIm] <;> ring
theorem e798 (h : b.At p q) : x798 b p = ↑((((((q.V 1 0 1 0 0 0).re * (q.P0 0 0).re) - ((q.V 1 0 1 0 0 0).im * (q.P0 0 0).im)) + (((q.V 1 0 1 0 0 1).re * (q.P0 0 1).re) - ((q.V 1 0 1 0 0 1).im * (q.P0 0 1).im))) + (((q.V 1 0 1 1 0 0).re * (q.P0 1 0).re) - ((q.V 1 0 1 1 0 0).im * (q.P0 1 0).im)))) := by
  simp only [x798, k0_pay116, mulf_apply, addf_apply, subf_apply, spread_apply, zero_word, ← EReal.coe_mul, ← EReal.coe_add, ← EReal.coe_sub, e90 h, e93 h, e96 h, e99 h, e102 h, e105 h, h.vr, h.vi]
theorem e799 (h : b.At p q) : x799 b p = ↑((((((q.V 1 0 1 0 0 0).re * (q.P0 0 0).im) + ((q.V 1 0 1 0 0 0).im * (q.P0 0 0).re)) + (((q.V 1 0 1 0 0 1).re * (q.P0 0 1).im) + ((q.V 1 0 1 0 0 1).im * (q.P0 0 1).re))) + (((q.V 1 0 1 1 0 0).re * (q.P0 1 0).im) + ((q.V 1 0 1 1 0 0).im * (q.P0 1 0).re)))) := by
  simp only [x799, k0_pay117, mulf_apply, addf_apply, subf_apply, spread_apply, zero_word, ← EReal.coe_mul, ← EReal.coe_add, ← EReal.coe_sub, e90 h, e93 h, e96 h, e99 h, e102 h, e105 h, h.vr, h.vi]
theorem e812 (h : b.At p q) : x812 b p = ↑((q.A0 1 1 0 0).re) := by
  simp only [x812, k0_pay118, mulf_apply, addf_apply, subf_apply, spread_apply, zero_word, ← EReal.coe_mul, ← EReal.coe_add, ← EReal.coe_sub, e108 h, e111 h, e798 h, h.vr, h.vi]
  refine congrArg Real.toEReal ?_
  simp only [q.A0_re, q.A0_im, contractRe, contractIm] <;> ring
theorem e813 (h : b.At p q) : x813 b p = ↑((q.A0 1 1 0 0).im) := by
  simp only [x813, k0_pay119, mulf_apply, addf_apply, subf_apply, spread_apply, zero_word, ← EReal.coe_mul, ← EReal.coe_add, ← EReal.coe_sub, e108 h, e111 h, e799 h, h.vr, h.vi]
  refine congrArg Real.toEReal ?_
  simp only [q.A0_re, q.A0_im, contractRe, contractIm] <;> ring
theorem e838 (h : b.At p q) : x838 b p = ↑(((((q.V 1 0 1 0 1 0).re * (q.P0 0 0).re) - ((q.V 1 0 1 0 1 0).im * (q.P0 0 0).im)) + (((q.V 1 0 1 0 1 1).re * (q.P0 0 1).re) - ((q.V 1 0 1 0 1 1).im * (q.P0 0 1).im)))) := by
  simp only [x838, k0_pay120, mulf_apply, addf_apply, subf_apply, spread_apply, zero_word, ← EReal.coe_mul, ← EReal.coe_add, ← EReal.coe_sub, e90 h, e93 h, e96 h, e99 h, h.vr, h.vi]
theorem e839 (h : b.At p q) : x839 b p = ↑(((((q.V 1 0 1 0 1 0).re * (q.P0 0 0).im) + ((q.V 1 0 1 0 1 0).im * (q.P0 0 0).re)) + (((q.V 1 0 1 0 1 1).re * (q.P0 0 1).im) + ((q.V 1 0 1 0 1 1).im * (q.P0 0 1).re)))) := by
  simp only [x839, k0_pay121, mulf_apply, addf_apply, subf_apply, spread_apply, zero_word, ← EReal.coe_mul, ← EReal.coe_add, ← EReal.coe_sub, e90 h, e93 h, e96 h, e99 h, h.vr, h.vi]
theorem e866 (h : b.At p q) : x866 b p = ↑((q.A0 1 1 0 1).re) := by
  simp only [x866, k0_pay122, mulf_apply, addf_apply, subf_apply, spread_apply, zero_word, ← EReal.coe_mul, ← EReal.coe_add, ← EReal.coe_sub, e102 h, e105 h, e108 h, e111 h, e838 h, h.vr, h.vi]
  refine congrArg Real.toEReal ?_
  simp only [q.A0_re, q.A0_im, contractRe, contractIm] <;> ring
theorem e867 (h : b.At p q) : x867 b p = ↑((q.A0 1 1 0 1).im) := by
  simp only [x867, k0_pay123, mulf_apply, addf_apply, subf_apply, spread_apply, zero_word, ← EReal.coe_mul, ← EReal.coe_add, ← EReal.coe_sub, e102 h, e105 h, e108 h, e111 h, e839 h, h.vr, h.vi]
  refine congrArg Real.toEReal ?_
  simp only [q.A0_re, q.A0_im, contractRe, contractIm] <;> ring
theorem e874 (h : b.At p q) : x874 b p = ↑((((q.V 1 1 1 0 0 0).re * (q.P0 0 0).re) - ((q.V 1 1 1 0 0 0).im * (q.P0 0 0).im))) := by
  simp only [x874, k0_pay124, mulf_apply, addf_apply, subf_apply, spread_apply, zero_word, ← EReal.coe_mul, ← EReal.coe_add, ← EReal.coe_sub, e90 h, e93 h, h.vr, h.vi]
theorem e879 (h : b.At p q) : x879 b p = ↑((((q.V 1 1 1 0 0 0).re * (q.P0 0 0).im) + ((q.V 1 1 1 0 0 0).im * (q.P0 0 0).re))) := by
  simp only [x879, k0_pay125, mulf_apply, addf_apply, subf_apply, spread_apply, zero_word, ← EReal.coe_mul, ← EReal.coe_add, ← EReal.coe_sub, e90 h, e93 h, h.vr, h.vi]
theorem e882 (h : b.At p q) : x882 b p = ↑((q.V 1 1 1 0 0 1).re) := by
  simp only [x882, k0_pay126, mulf_apply, addf_apply, subf_apply, spread_apply, zero_word, ← EReal.coe_mul, ← EReal.coe_add, ← EReal.coe_sub, h.vr, h.vi]
theorem e920 (h : b.At p q) : x920 b p = ↑((q.A0 1 1 1 0).re) := by
  simp only [x920, k0_pay127, mulf_apply, addf_apply, subf_apply, spread_apply, zero_word, ← EReal.coe_mul, ← EReal.coe_add, ← EReal.coe_sub, e96 h, e99 h, e102 h, e105 h, e108 h, e111 h, e874 h, e882 h, h.vr, h.vi]
  refine congrArg Real.toEReal ?_
  simp only [q.A0_re, q.A0_im, contractRe, contractIm] <;> ring
theorem e921 (h : b.At p q) : x921 b p = ↑((q.A0 1 1 1 0).im) := by
  simp only [x921, k0_pay128, mulf_apply, addf_apply, subf_apply, spread_apply, zero_word, ← EReal.coe_mul, ← EReal.coe_add, ← EReal.coe_sub, e96 h, e99 h, e102 h, e105 h, e108 h, e111 h, e879 h, h.vr, h.vi]
  refine congrArg Real.toEReal ?_
  simp only [q.A0_re, q.A0_im, contractRe, contractIm] <;> ring
theorem e924 (h : b.At p q) : x924 b p = ↑((q.V 1 1 1 0 1 0).re) := by
  simp only [x924, k0_pay129, mulf_apply, addf_apply, subf_apply, spread_apply, zero_word, ← EReal.coe_mul, ← EReal.coe_add, ← EReal.coe_sub, h.vr, h.vi]
theorem e960 (h : b.At p q) : x960 b p = ↑((((((q.V 1 1 1 0 1 0).re * (q.P0 0 0).re) - ((q.V 1 1 1 0 1 0).im * (q.P0 0 0).im)) + (((q.V 1 1 1 0 1 1).re * (q.P0 0 1).re) - ((q.V 1 1 1 0 1 1).im * (q.P0 0 1).im))) + (((q.V 1 1 1 1 1 0).re * (q.P0 1 0).re) - ((q.V 1 1 1 1 1 0).im * (q.P0 1 0).im)))) := by
  simp only [x960, k0_pay130, mulf_apply, addf_apply, subf_apply, spread_apply, zero_word, ← EReal.coe_mul, ← EReal.coe_add, ← EReal.coe_sub, e90 h, e93 h, e96 h, e99 h, e102 h, e105 h, e924 h, h.vr, h.vi]
theorem e961 (h : b.At p q) : x961 b p = ↑((((((q.V 1 1 1 0 1 0).re * (q.P0 0 0).im) + ((q.V 1 1 1 0 1 0).im * (q.P0 0 0).re)) + (((q.V 1 1 1 0 1 1).re * (q.P0 0 1).im) + ((q.V 1 1 1 0 1 1).im * (q.P0 0 1).re))) + (((q.V 1 1 1 1 1 0).re * (q.P0 1 0).im) + ((q.V 1 1 1 1 1 0).im * (q.P0 1 0).re)))) := by
  simp only [x961, k0_pay131, mulf_apply, addf_apply, subf_apply, spread_apply, zero_word, ← EReal.coe_mul, ← EReal.coe_add, ← EReal.coe_sub, e90 h, e93 h, e96 h, e99 h, e102 h, e105 h, h.vr, h.vi]
theorem e965 (h : b.At p q) : x965 b p = ↑(((q.V 1 1 1 1 1 1).re * (q.P0 1 1).re)) := by
  simp only [x965, k0_pay132, mulf_apply, addf_apply, subf_apply, spread_apply, zero_word, ← EReal.coe_mul, ← EReal.coe_add, ← EReal.coe_sub, e108 h, h.vr, h.vi]
theorem e966 (h : b.At p q) : x966 b p = ↑((q.V 1 1 1 1 1 1).im) := by
  simp only [x966, k0_pay133, mulf_apply, addf_apply, subf_apply, spread_apply, zero_word, ← EReal.coe_mul, ← EReal.coe_add, ← EReal.coe_sub, h.vr, h.vi]
theorem e974 (h : b.At p q) : x974 b p = ↑((q.A0 1 1 1 1).re) := by
  simp only [x974, k0_pay134, mulf_apply, addf_apply, subf_apply, spread_apply, zero_word, ← EReal.coe_mul, ← EReal.coe_add, ← EReal.coe_sub, e111 h, e960 h, e965 h, e966 h]
  refine congrArg Real.toEReal ?_
  simp only [q.A0_re, q.A0_im, contractRe, contractIm] <;> ring
theorem e975 (h : b.At p q) : x975 b p = ↑((q.A0 1 1 1 1).im) := by
  simp only [x975, k0_pay135, mulf_apply, addf_apply, subf_apply, spread_apply, zero_word, ← EReal.coe_mul, ← EReal.coe_add, ← EReal.coe_sub, e108 h, e111 h, e961 h, h.vr, h.vi]
  refine congrArg Real.toEReal ?_
  simp only [q.A0_re, q.A0_im, contractRe, contractIm] <;> ring
theorem e988 (h : b.At p q) : x988 b p = ↑((q.B0 0 0 0 0).re) := by
  simp only [x988, k0_pay136, mulf_apply, addf_apply, subf_apply, spread_apply, zero_word, ← EReal.coe_mul, ← EReal.coe_add, ← EReal.coe_sub, e60 h, e63 h, e76 h, e79 h, e164 h, e165 h, e218 h, e219 h]
  refine congrArg Real.toEReal ?_
  simp only [q.B0_re, q.B0_im] <;> ring
theorem e989 (h : b.At p q) : x989 b p = ↑((q.B0 0 0 0 0).im) := by
  simp only [x989, k0_pay137, mulf_apply, addf_apply, subf_apply, spread_apply, zero_word, ← EReal.coe_mul, ← EReal.coe_add, ← EReal.coe_sub, e60 h, e63 h, e76 h, e79 h, e164 h, e165 h, e218 h, e219 h]
  refine congrArg Real.toEReal ?_
  simp only [q.B0_re, q.B0_im] <;> ring
theorem e1002 (h : b.At p q) : x1002 b p = ↑((q.B0 0 0 0 1).re) := by
  simp only [x1002, k0_pay138, mulf_apply, addf_apply, subf_apply, spread_apply, zero_word, ← EReal.coe_mul, ← EReal.coe_add, ← EReal.coe_sub, e68 h, e71 h, e84 h, e87 h, e164 h, e165 h, e218 h, e219 h]
  refine congrArg Real.toEReal ?_
  simp only [q.B0_re, q.B0_im] <;> ring
theorem e1003 (h : b.At p q) : x1003 b p = ↑((q.B0 0 0 0 1).im) := by
  simp only [x1003, k0_pay139, mulf_apply, addf_apply, subf_apply, spread_apply, zero_word, ← EReal.coe_mul, ← EReal.coe_add, ← EReal.coe_sub, e68 h, e71 h, e84 h, e87 h, e164 h, e165 h, e218 h, e219 h]
  refine congrArg Real.toEReal ?_
  simp only [q.B0_re, q.B0_im] <;> ring
theorem e1016 (h : b.At p q) : x1016 b p = ↑((q.B0 0 0 1 0).re) := by
  simp only [x1016, k0_pay140, mulf_apply, addf_apply, subf_apply, spread_apply, zero_word, ← EReal.coe_mul, ← EReal.coe_add, ← EReal.coe_sub, e60 h, e63 h, e76 h, e79 h, e272 h, e273 h, e326 h, e327 h]
  refine congrArg Real.toEReal ?_
  simp only [q.B0_re, q.B0_im] <;> ring
theorem e1017 (h : b.At p q) : x1017 b p = ↑((q.B0 0 0 1 0).im) := by
  simp only [x1017, k0_pay141, mulf_apply, addf_apply, subf_apply, spread_apply, zero_word, ← EReal.coe_mul, ← EReal.coe_add, ← EReal.coe_sub, e60 h, e63 h, e76 h, e79 h, e272 h, e273 h, e326 h, e327 h]
  refine congrArg Real.toEReal ?_
  simp only [q.B0_re, q.B0_im] <;> ring
theorem e1020 (h : b.At p q) : x1020 b p = ↑((((q.A0 0 0 1 0).re * (q.R0 0 1).re) - ((q.A0 0 0 1 0).im * (q.R0 0 1).im))) := by
  simp only [x1020, k0_pay142, mulf_apply, addf_apply, subf_apply, spread_apply, zero_word, ← EReal.coe_mul, ← EReal.coe_add, ← EReal.coe_sub, e68 h, e71 h, e272 h, e273 h]
theorem e1023 (h : b.At p q) : x1023 b p = ↑((((q.A0 0 0 1 0).re * (q.R0 0 1).im) + ((q.A0 0 0 1 0).im * (q.R0 0 1).re))) := by
  simp only [x1023, k0_pay143, mulf_apply, addf_apply, subf_apply, spread_apply, zero_word, ← EReal.coe_mul, ← EReal.coe_add, ← EReal.coe_sub, e68 h, e71 h, e272 h, e273 h]
theorem e1026 (h : b.At p q) : x1026 b p = ↑((((q.A0 0 0 1 1).re * (q.R0 1 1).re) - ((q.A0 0 0 1 1).im * (q.R0 1 1).im))) := by
  simp only [x1026, k0_pay144, mulf_apply, addf_apply, subf_apply, spread_apply, zero_word, ← EReal.coe_mul, ← EReal.coe_add, ← EReal.coe_sub, e84 h, e87 h, e326 h, e327 h]
theorem e1030 (h : b.At p q) : x1030 b p = ↑((q.B0 0 0 1 1).re) := by
  simp only [x1030, k0_pay145, mulf_apply, addf_apply, subf_apply, spread_apply, zero_word, ← EReal.coe_mul, ← EReal.coe_add, ← EReal.coe_sub, e1020 h, e1026 h]
  refine congrArg Real.toEReal ?_
  simp only [q.B0_re, q.B0_im] <;> ring
theorem e1031 (h : b.At p q) : x1031 b p = ↑((q.B0 0 0 1 1).im) := by
  simp only [x1031, k0_pay146, mulf_apply, addf_apply, subf_apply, spread_apply, zero_word, ← EReal.coe_mul, ← EReal.coe_add, ← EReal.coe_sub, e84 h, e87 h, e326 h, e327 h, e1023 h]
  refine congrArg Real.toEReal ?_
  simp only [q.B0_re, q.B0_im] <;> ring
theorem e1044 (h : b.At p q) : x1044 b p = ↑((q.B0 0 1 0 0).re) := by
  simp only [x1044, k0_pay147, mulf_apply, addf_apply, subf_apply, spread_apply, zero_word, ← EReal.coe_mul, ← EReal.coe_add, ← EReal.coe_sub, e60 h, e63 h, e76 h, e79 h, e380 h, e381 h, e434 h, e435 h]
  refine congrArg Real.toEReal ?_
  simp only [q.B0_re, q.B0_im] <;> ring
theorem e1045 (h : b.At p q) : x1045 b p = ↑((q.B0 0 1 0 0).im) := by
  simp only [x1045, k0_pay148, mulf_apply, addf_apply, subf_apply, spread_apply, zero_word, ← EReal.coe_mul, ← EReal.coe_add, ← EReal.coe_sub, e60 h, e63 h, e76 h, e79 h, e380 h, e381 h, e434 h, e435 h]
  refine congrArg Real.toEReal ?_
  simp only [q.B0_re, q.B0_im] <;> ring
theorem e1058 (h : b.At p q) : x1058 b p = ↑((q.B0 0 1 0 1).re) := by
  simp only [x1058, k0_pay149, mulf_apply, addf_apply, subf_apply, spread_apply, zero_word, ← EReal.coe_mul, ← EReal.coe_add, ← EReal.coe_sub, e68 h, e71 h, e84 h, e87 h, e380 h, e381 h, e434 h, e435 h]
  refine congrArg Real.toEReal ?_
  simp only [q.B0_re, q.B0_im] <;> ring
theorem e1059 (h : b.At p q) : x1059 b p = ↑((q.B0 0 1 0 1).im) := by
  simp only [x1059, k0_pay150, mulf_apply, addf_apply, subf_apply, spread_apply, zero_word, ← EReal.coe_mul, ← EReal.coe_add, ← EReal.coe_sub, e68 h, e71 h, e84 h, e87 h, e380 h, e381 h, e434 h, e435 h]
  refine congrArg Real.toEReal ?_
  simp only [q.B0_re, q.B0_im] <;> ring
theorem e1072 (h : b.At p q) : x1072 b p = ↑((q.B0 0 1 1 0).re) := by
  simp only [x1072, k0_pay151, mulf_apply, addf_apply, subf_apply, spread_apply, zero_word, ← EReal.coe_mul, ← EReal.coe_add, ← EReal.coe_sub, e60 h, e63 h, e76 h, e79 h, e488 h, e489 h, e542 h, e543 h]
  refine congrArg Real.toEReal ?_
  simp only [q.B0_re, q.B0_im] <;> ring
theorem e1073 (h : b.At p q) : x1073 b p = ↑((q.B0 0 1 1 0).im) := by
  simp only [x1073, k0_pay152, mulf_apply, addf_apply, subf_apply, spread_apply, zero_word, ← EReal.coe_mul, ← EReal.coe_add, ← EReal.coe_sub, e60 h, e63 h, e76 h, e79 h, e488 h, e489 h, e542 h, e543 h]
  refine congrArg Real.toEReal ?_
  simp only [q.B0_re, q.B0_im] <;> ring
theorem e1079 (h : b.At p q) : x1079 b p = ↑((((q.A0 0 1 1 0).re * (q.R0 0 1).im) + ((q.A0 0 1 1 0).im * (q.R0 0 1).re))) := by
  simp only [x1079, k0_pay153, mulf_apply, addf_apply, subf_apply, spread_apply, zero_word, ← EReal.coe_mul, ← EReal.coe_add, ← EReal.coe_sub, e68 h, e71 h, e488 h, e489 h]
theorem e1085 (h : b.At p q) : x1085 b p = ↑((((q.A0 0 1 1 1).re * (q.R0 1 1).im) + ((q.A0 0 1 1 1).im * (q.R0 1 1).re))) := by
  simp only [x1085, k0_pay154, mulf_apply, addf_apply, subf_apply, spread_apply, zero_word, ← EReal.coe_mul, ← EReal.coe_add, ← EReal.coe_sub, e84 h, e87 h, e542 h, e543 h]
theorem e1086 (h : b.At p q) : x1086 b p = ↑((q.B0 0 1 1 1).re) := by
  simp only [x1086, k0_pay155, mulf_apply, addf_apply, subf_apply, spread_apply, zero_word, ← EReal.coe_mul, ← EReal.coe_add, ← EReal.coe_sub, e68 h, e71 h, e84 h, e87 h, e488 h, e489 h, e542 h, e543 h]
  refine congrArg Real.toEReal ?_
  simp only [q.B0_re, q.B0_im] <;> ring
theorem e1087 (h : b.At p q) : x1087 b p = ↑((q.B0 0 1 1 1).im) := by
  simp only [x1087, k0_pay156, mulf_apply, addf_apply, subf_apply, spread_apply, zero_word, ← EReal.coe_mul, ← EReal.coe_add, ← EReal.coe_sub, e1079 h, e1085 h]
  refine congrArg Real.toEReal ?_
  simp only [q.B0_re, q.B0_im] <;> ring
theorem e1100 (h : b.At p q) : x1100 b p = ↑((q.B0 1 0 0 0).re) := by
  simp only [x1100, k0_pay157, mulf_apply, addf_apply, subf_apply, spread_apply, zero_word, ← EReal.coe_mul, ← EReal.coe_add, ← EReal.coe_sub, e60 h, e63 h, e76 h, e79 h, e596 h, e597 h, e650 h, e651 h]
  refine congrArg Real.toEReal ?_
  simp only [q.B0_re, q.B0_im] <;> ring
theorem e1101 (h : b.At p q) : x1101 b p = ↑((q.B0 1 0 0 0).im) := by
  simp only [x1101, k0_pay158, mulf_apply, addf_apply, subf_apply, spread_apply, zero_word, ← EReal.coe_mul, ← EReal.coe_add, ← EReal.coe_sub, e60 h, e63 h, e76 h, e79 h, e596 h, e597 h, e650 h, e651 h]
  refine congrArg Real.toEReal ?_
  simp only [q.B0_re, q.B0_im] <;> ring
theorem e1114 (h : b.At p q) : x1114 b p = ↑((q.B0 1 0 0 1).re) := by
  simp only [x1114, k0_pay159, mulf_apply, addf_apply, subf_apply, spread_apply, zero_word, ← EReal.coe_mul, ← EReal.coe_add, ← EReal.coe_sub, e68 h, e71 h, e84 h, e87 h, e596 h, e597 h, e650 h, e651 h]
  refine congrArg Real.toEReal ?_
  simp only [q.B0_re, q.B0_im] <;> ring
theorem e1115 (h : b.At p q) : x1115 b p = ↑((q.B0 1 0 0 1).im) := by
  simp only [x1115, k0_pay160, mulf_apply, addf_apply, subf_apply, spread_apply, zero_word, ← EReal.coe_mul, ← EReal.coe_add, ← EReal.coe_sub, e68 h, e71 h, e84 h, e87 h, e596 h, e597 h, e650 h, e651 h]
  refine congrArg Real.toEReal ?_
  simp only [q.B0_re, q.B0_im] <;> ring
theorem e1128 (h : b.At p q) : x1128 b p = ↑((q.B0 1 0 1 0).re) := by
  simp only [x1128, k0_pay161, mulf_apply, addf_apply, subf_apply, spread_apply, zero_word, ← EReal.coe_mul, ← EReal.coe_add, ← EReal.coe_sub, e60 h, e63 h, e76 h, e79 h, e704 h, e705 h, e758 h, e759 h]
  refine congrArg Real.toEReal ?_
  simp only [q.B0_re, q.B0_im] <;> ring
theorem e1129 (h : b.At p q) : x1129 b p = ↑((q.B0 1 0 1 0).im) := by
  simp only [x1129, k0_pay162, mulf_apply, addf_apply, subf_apply, spread_apply, zero_word, ← EReal.coe_mul, ← EReal.coe_add, ← EReal.coe_sub, e60 h, e63 h, e76 h, e79 h, e704 h, e705 h, e758 h, e759 h]
  refine congrArg Real.toEReal ?_
  simp only [q.B0_re, q.B0_im] <;> ring
theorem e1142 (h : b.At p q) : x1142 b p = ↑((q.B0 1 0 1 1).re) := by
  simp only [x1142, k0_pay163, mulf_apply, addf_apply, subf_apply, spread_apply, zero_word, ← EReal.coe_mul, ← EReal.coe_add, ← EReal.coe_sub, e68 h, e71 h, e84 h, e87 h, e704 h, e705 h, e758 h, e759 h]
  refine congrArg Real.toEReal ?_
  simp only [q.B0_re, q.B0_im] <;> ring
theorem e1143 (h : b.At p q) : x1143 b p = ↑((q.B0 1 0 1 1).im) := by
  simp only [x1143, k0_pay164, mulf_apply, addf_apply, subf_apply, spread_apply, zero_word, ← EReal.coe_mul, ← EReal.coe_add, ← EReal.coe_sub, e68 h, e71 h, e84 h, e87 h, e704 h, e705 h, e758 h, e759 h]
  refine congrArg Real.toEReal ?_
  simp only [q.B0_re, q.B0_im] <;> ring
theorem e1146 (h : b.At p q) : x1146 b p = ↑((((q.A0 1 1 0 0).re * (q.R0 0 0).re) - ((q.A0 1 1 0 0).im * (q.R0 0 0).im))) := by
  simp only [x1146, k0_pay165, mulf_apply, addf_apply, subf_apply, spread_apply, zero_word, ← EReal.coe_mul, ← EReal.coe_add, ← EReal.coe_sub, e60 h, e63 h, e812 h, e813 h]
theorem e1156 (h : b.At p q) : x1156 b p = ↑((q.B0 1 1 0 0).re) := by
  simp only [x1156, k0_pay166, mulf_apply, addf_apply, subf_apply, spread_apply, zero_word, ← EReal.coe_mul, ← EReal.coe_add, ← EReal.coe_sub, e76 h, e79 h, e866 h, e867 h, e1146 h]
  refine congrArg Real.toEReal ?_
  simp only [q.B0_re, q.B0_im] <;> ring
theorem e1157 (h : b.At p q) : x1157 b p = ↑((q.B0 1 1 0 0).im) := by
  simp only [x1157, k0_pay167, mulf_apply, addf_apply, subf_apply, spread_apply, zero_word, ← EReal.coe_mul, ← EReal.coe_add, ← EReal.coe_sub, e60 h, e63 h, e76 h, e79 h, e812 h, e813 h, e866 h, e867 h]
  refine congrArg Real.toEReal ?_
  simp only [q.B0_re, q.B0_im] <;> ring
theorem e1170 (h : b.At p q) : x1170 b p = ↑((q.B0 1 1 0 1).re) := by
  simp only [x1170, k0_pay168, mulf_apply, addf_apply, subf_apply, spread_apply, zero_word, ← EReal.coe_mul, ← EReal.coe_add, ← EReal.coe_sub, e68 h, e71 h, e84 h, e87 h, e812 h, e813 h, e866 h, e867 h]
  refine congrArg Real.toEReal ?_
  simp only [q.B0_re, q.B0_im] <;> ring
theorem e1171 (h : b.At p q) : x1171 b p = ↑((q.B0 1 1 0 1).im) := by
  simp only [x1171, k0_pay169, mulf_apply, addf_apply, subf_apply, spread_apply, zero_word, ← EReal.coe_mul, ← EReal.coe_add, ← EReal.coe_sub, e68 h, e71 h, e84 h, e87 h, e812 h, e813 h, e866 h, e867 h]
  refine congrArg Real.toEReal ?_
  simp only [q.B0_re, q.B0_im] <;> ring
theorem e1184 (h : b.At p q) : x1184 b p = ↑((q.B0 1 1 1 0).re) := by
  simp only [x1184, k0_pay170, mulf_apply, addf_apply, subf_apply, spread_apply, zero_word, ← EReal.coe_mul, ← EReal.coe_add, ← EReal.coe_sub, e60 h, e63 h, e76 h, e79 h, e920 h, e921 h, e974 h, e975 h]
  refine congrArg Real.toEReal ?_
  simp only [q.B0_re, q.B0_im] <;> ring
theorem e1185 (h : b.At p q) : x1185 b p = ↑((q.B0 1 1 1 0).im) := by
  simp only [x1185, k0_pay171, mulf_apply, addf_apply, subf_apply, spread_apply, zero_word, ← EReal.coe_mul, ← EReal.coe_add, ← EReal.coe_sub, e60 h, e63 h, e76 h, e79 h, e920 h, e921 h, e974 h, e975 h]
  refine congrArg Real.toEReal ?_
  simp only [q.B0_re, q.B0_im] <;> ring
theorem e1198 (h : b.At p q) : x1198 b p = ↑((q.B0 1 1 1 1).re) := by
  simp only [x1198, k0_pay172, mulf_apply, addf_apply, subf_apply, spread_apply, zero_word, ← EReal.coe_mul, ← EReal.coe_add, ← EReal.coe_sub, e68 h, e71 h, e84 h, e87 h, e920 h, e921 h, e974 h, e975 h]
  refine congrArg Real.toEReal ?_
  simp only [q.B0_re, q.B0_im] <;> ring
theorem e1199 (h : b.At p q) : x1199 b p = ↑((q.B0 1 1 1 1).im) := by
  simp only [x1199, k0_pay173, mulf_apply, addf_apply, subf_apply, spread_apply, zero_word, ← EReal.coe_mul, ← EReal.coe_add, ← EReal.coe_sub, e68 h, e71 h, e84 h, e87 h, e920 h, e921 h, e974 h, e975 h]
  refine congrArg Real.toEReal ?_
  simp only [q.B0_re, q.B0_im] <;> ring
theorem e1201 (h : b.At p q) : x1201 b p = ↑((0 - (q.A0 0 0 0 0).im)) := by
  simp only [x1201, k0_pay174, mulf_apply, addf_apply, subf_apply, spread_apply, zero_word, ← EReal.coe_mul, ← EReal.coe_add, ← EReal.coe_sub, e165 h]
theorem e1204 (h : b.At p q) : x1204 b p = ↑((((q.B0 0 0 0 0).re * (q.A0 0 0 0 0).re) - ((q.B0 0 0 0 0).im * (0 - (q.A0 0 0 0 0).im)))) := by
  simp only [x1204, k0_pay174, k0_pay175, mulf_apply, addf_apply, subf_apply, spread_apply, zero_word, ← EReal.coe_mul, ← EReal.coe_add, ← EReal.coe_sub, e164 h, e165 h, e988 h, e989 h]
theorem e1205 (h : b.At p q) : x1205 b p = ↑(((q.B0 0 0 0 0).re * (0 - (q.A0 0 0 0 0).im))) := by
  simp only [x1205, k0_pay174, k0_pay176, mulf_apply, addf_apply, subf_apply, spread_apply, zero_word, ← EReal.coe_mul, ← EReal.coe_add, ← EReal.coe_sub, e165 h, e988 h]
theorem e1209 (h : b.At p q) : x1209 b p = ↑((0 - (q.A0 0 0 0 1).im)) := by
  simp only [x1209, k0_pay177, mulf_apply, addf_apply, subf_apply, spread_apply, zero_word, ← EReal.coe_mul, ← EReal.coe_add, ← EReal.coe_sub, e219 h]
theorem e1219 (h : b.At p q) : x1219 b p = ↑((0 - (q.A0 0 1 0 0).im)) := by
  simp only [x1219, k0_pay178, mulf_apply, addf_apply, subf_apply, spread_apply, zero_word, ← EReal.coe_mul, ← EReal.coe_add, ← EReal.coe_sub, e381 h]
theorem e1229 (h : b.At p q) : x1229 b p = ↑((0 - (q.A0 0 1 0 1).im)) := by
  simp only [x1229, k0_pay179, mulf_apply, addf_apply, subf_apply, spread_apply, zero_word, ← EReal.coe_mul, ← EReal.coe_add, ← EReal.coe_sub, e435 h]
theorem e1239 (h : b.At p q) : x1239 b p = ↑((0 - (q.A0 1 0 0 0).im)) := by
  simp only [x1239, k0_pay180, mulf_apply, addf_apply, subf_apply, spread_apply, zero_word, ← EReal.coe_mul, ← EReal.coe_add, ← EReal.coe_sub, e597 h]
theorem e1249 (h : b.At p q) : x1249 b p = ↑((0 - (q.A0 1 0 0 1).im)) := by
  simp only [x1249, k0_pay181, mulf_apply, addf_apply, subf_apply, spread_apply, zero_word, ← EReal.coe_mul, ← EReal.coe_add, ← EReal.coe_sub, e651 h]
theorem e1256 (h : b.At p q) : x1256 b p = ↑(((((((((q.B0 0 0 0 0).re * (q.A0 0 0 0 0).re) - ((q.B0 0 0 0 0).im * (0 - (q.A0 0 0 0 0).im))) + (((q.B0 0 0 0 1).re * (q.A0 0 0 0 1).re) - ((q.B0 0 0 0 1).im * (0 - (q.A0 0 0 0 1).im)))) + (((q.B0 0 1 0 0).re * (q.A0 0 1 0 0).re) - ((q.B0 0 1 0 0).im * (0 - (q.A0 0 1 0 0).im)))) + (((q.B0 0 1 0 1).re * (q.A0 0 1 0 1).re) - ((q.B0 0 1 0 1).im * (0 - (q.A0 0 1 0 1).im)))) + (((q.B0 1 0 0 0).re * (q.A0 1 0 0 0).re) - ((q.B0 1 0 0 0).im * (0 - (q.A0 1 0 0 0).im)))) + (((q.B0 1 0 0 1).re * (q.A0 1 0 0 1).re) - ((q.B0 1 0 0 1).im * (0 - (q.A0 1 0 0 1).im))))) := by
  simp only [x1256, k0_pay177, k0_pay178, k0_pay179, k0_pay180, k0_pay181, k0_pay182, mulf_apply, addf_apply, subf_apply, spread_apply, zero_word, ← EReal.coe_mul, ← EReal.coe_add, ← EReal.coe_sub, e218 h, e219 h, e380 h, e381 h, e434 h, e435 h, e596 h, e597 h, e650 h, e651 h, e1002 h, e1003 h, e1044 h, e1045 h, e1058 h, e1059 h, e1100 h, e1101 h, e1114 h, e1115 h, e1204 h]
theorem e1257 (h : b.At p q) : x1257 b p = ↑(((((((((q.B0 0 0 0 0).re * (0 - (q.A0 0 0 0 0).im)) + ((q.B0 0 0 0 0).im * (q.A0 0 0 0 0).re)) + (((q.B0 0 0 0 1).re * (0 - (q.A0 0 0 0 1).im)) + ((q.B0 0 0 0 1).im * (q.A0 0 0 0 1).re))) + (((q.B0 0 1 0 0).re * (0 - (q.A0 0 1 0 0).im)) + ((q.B0 0 1 0 0).im * (q.A0 0 1 0 0).re))) + (((q.B0 0 1 0 1).re * (0 - (q.A0 0 1 0 1).im)) + ((q.B0 0 1 0 1).im * (q.A0 0 1 0 1).re))) + (((q.B0 1 0 0 0).re * (0 - (q.A0 1 0 0 0).im)) + ((q.B0 1 0 0 0).im * (q.A0 1 0 0 0).re))) + (((q.B0 1 0 0 1).re * (0 - (q.A0 1 0 0 1).im)) + ((q.B0 1 0 0 1).im * (q.A0 1 0 0 1).re)))) := by
  simp only [x1257, k0_pay177, k0_pay178, k0_pay179, k0_pay180, k0_pay181, k0_pay183, mulf_apply, addf_apply, subf_apply, spread_apply, zero_word, ← EReal.coe_mul, ← EReal.coe_add, ← EReal.coe_sub, e164 h, e218 h, e219 h, e380 h, e381 h, e434 h, e435 h, e596 h, e597 h, e650 h, e651 h, e989 h, e1002 h, e1003 h, e1044 h, e1045 h, e1058 h, e1059 h, e1100 h, e1101 h, e1114 h, e1115 h, e1205 h]
theorem e1259 (h : b.At p q) : x1259 b p = ↑((0 - (q.A0 1 1 0 0).im)) := by
  simp only [x1259, k0_pay184, mulf_apply, addf_apply, subf_apply, spread_apply, zero_word, ← EReal.coe_mul, ← EReal.coe_add, ← EReal.coe_sub, e813 h]
theorem e1269 (h : b.At p q) : x1269 b p = ↑((0 - (q.A0 1 1 0 1).im)) := by
  simp only [x1269, k0_pay185, mulf_apply, addf_apply, subf_apply, spread_apply, zero_word, ← EReal.coe_mul, ← EReal.coe_add, ← EReal.coe_sub, e867 h]
theorem e1276 (h : b.At p q) : x1276 b p = ↑((q.R1 0 0).re) := by
  simp only [x1276, k0_pay185, k0_pay186, mulf_apply, addf_apply, subf_apply, spread_apply, zero_word, ← EReal.coe_mul, ← EReal.coe_add, ← EReal.coe_sub, e812 h, e866 h, e867 h, e1156 h, e1157 h, e1170 h, e1171 h, e1256 h, e1259 h]
  refine congrArg Real.toEReal ?_
  simp only [q.R1_re, q.R1_im, Fin.sum_univ_two] <;> ring
theorem e1277 (h : b.At p q) : x1277 b p = ↑((q.R1 0 0).im) := by
  simp only [x1277, k0_pay185, k0_pay187, mulf_apply, addf_apply, subf_apply, spread_apply, zero_word, ← EReal.coe_mul, ← EReal.coe_add, ← EReal.coe_sub, e812 h, e866 h, e867 h, e1156 h, e1157 h, e1170 h, e1171 h, e1257 h, e1259 h]
  refine congrArg Real.toEReal ?_
  simp only [q.R1_re, q.R1_im, Fin.sum_univ_two] <;> ring
theorem e1279 (h : b.At p q) : x1279 b p = ↑((0 - (q.A0 0 0 1 0).im)) := by
  simp only [x1279, k0_pay188, mulf_apply, addf_apply, subf_apply, spread_apply, zero_word, ← EReal.coe_mul, ← EReal.coe_add, ← EReal.coe_sub, e273 h]

end Cert.Stage

end
-- ==== Proof.Values2.lean ====
/- What those values are at a place, by the node whose data lie there (part 2). -/
module

public import proofs.«01_k».proof.Proof.Values1

@[expose] public section

set_option maxHeartbeats 1000000

noncomputable section

namespace Cert.Stage

open Idealize.ShloMosaic Idealize.ShloMosaic.ValueIdx Cert.KernelIdeal Cert.KernelIdeal.Gen Lane

variable {b : Rows} {p : S8x128.Idx} {q : Lane}

theorem e1287 (h : b.At p q) : x1287 b p = ↑((0 - (q.A0 0 0 1 1).im)) := by
  simp only [x1287, k0_pay189, mulf_apply, addf_apply, subf_apply, spread_apply, zero_word, ← EReal.coe_mul, ← EReal.coe_add, ← EReal.coe_sub, e327 h]
theorem e1297 (h : b.At p q) : x1297 b p = ↑((0 - (q.A0 0 1 1 0).im)) := by
  simp only [x1297, k0_pay190, mulf_apply, addf_apply, subf_apply, spread_apply, zero_word, ← EReal.coe_mul, ← EReal.coe_add, ← EReal.coe_sub, e489 h]
theorem e1305 (h : b.At p q) : x1305 b p = ↑((((((q.B0 0 0 0 0).re * (0 - (q.A0 0 0 1 0).im)) + ((q.B0 0 0 0 0).im * (q.A0 0 0 1 0).re)) + (((q.B0 0 0 0 1).re * (0 - (q.A0 0 0 1 1).im)) + ((q.B0 0 0 0 1).im * (q.A0 0 0 1 1).re))) + (((q.B0 0 1 0 0).re * (0 - (q.A0 0 1 1 0).im)) + ((q.B0 0 1 0 0).im * (q.A0 0 1 1 0).re)))) := by
  simp only [x1305, k0_pay188, k0_pay189, k0_pay190, k0_pay191, mulf_apply, addf_apply, subf_apply, spread_apply, zero_word, ← EReal.coe_mul, ← EReal.coe_add, ← EReal.coe_sub, e272 h, e273 h, e326 h, e327 h, e488 h, e489 h, e988 h, e989 h, e1002 h, e1003 h, e1044 h, e1045 h]
theorem e1307 (h : b.At p q) : x1307 b p = ↑((0 - (q.A0 0 1 1 1).im)) := by
  simp only [x1307, k0_pay192, mulf_apply, addf_apply, subf_apply, spread_apply, zero_word, ← EReal.coe_mul, ← EReal.coe_add, ← EReal.coe_sub, e543 h]
theorem e1313 (h : b.At p q) : x1313 b p = ↑((((q.B0 0 1 0 1).re * (0 - (q.A0 0 1 1 1).im)) + ((q.B0 0 1 0 1).im * (q.A0 0 1 1 1).re))) := by
  simp only [x1313, k0_pay192, k0_pay193, mulf_apply, addf_apply, subf_apply, spread_apply, zero_word, ← EReal.coe_mul, ← EReal.coe_add, ← EReal.coe_sub, e542 h, e543 h, e1058 h, e1059 h]
theorem e1314 (h : b.At p q) : x1314 b p = ↑(((((((q.B0 0 0 0 0).re * (q.A0 0 0 1 0).re) - ((q.B0 0 0 0 0).im * (0 - (q.A0 0 0 1 0).im))) + (((q.B0 0 0 0 1).re * (q.A0 0 0 1 1).re) - ((q.B0 0 0 0 1).im * (0 - (q.A0 0 0 1 1).im)))) + (((q.B0 0 1 0 0).re * (q.A0 0 1 1 0).re) - ((q.B0 0 1 0 0).im * (0 - (q.A0 0 1 1 0).im)))) + (((q.B0 0 1 0 1).re * (q.A0 0 1 1 1).re) - ((q.B0 0 1 0 1).im * (0 - (q.A0 0 1 1 1).im))))) := by
  simp only [x1314, k0_pay188, k0_pay189, k0_pay190, k0_pay192, k0_pay194, mulf_apply, addf_apply, subf_apply, spread_apply, zero_word, ← EReal.coe_mul, ← EReal.coe_add, ← EReal.coe_sub, e272 h, e273 h, e326 h, e327 h, e488 h, e489 h, e542 h, e543 h, e988 h, e989 h, e1002 h, e1003 h, e1044 h, e1045 h, e1058 h, e1059 h]
theorem e1317 (h : b.At p q) : x1317 b p = ↑((0 - (q.A0 1 0 1 0).im)) := by
  simp only [x1317, k0_pay195, mulf_apply, addf_apply, subf_apply, spread_apply, zero_word, ← EReal.coe_mul, ← EReal.coe_add, ← EReal.coe_sub, e705 h]
theorem e1327 (h : b.At p q) : x1327 b p = ↑((0 - (q.A0 1 0 1 1).im)) := by
  simp only [x1327, k0_pay196, mulf_apply, addf_apply, subf_apply, spread_apply, zero_word, ← EReal.coe_mul, ← EReal.coe_add, ← EReal.coe_sub, e759 h]
theorem e1337 (h : b.At p q) : x1337 b p = ↑((0 - (q.A0 1 1 1 0).im)) := by
  simp only [x1337, k0_pay197, mulf_apply, addf_apply, subf_apply, spread_apply, zero_word, ← EReal.coe_mul, ← EReal.coe_add, ← EReal.coe_sub, e921 h]
theorem e1347 (h : b.At p q) : x1347 b p = ↑((0 - (q.A0 1 1 1 1).im)) := by
  simp only [x1347, k0_pay198, mulf_apply, addf_apply, subf_apply, spread_apply, zero_word, ← EReal.coe_mul, ← EReal.coe_add, ← EReal.coe_sub, e975 h]
theorem e1354 (h : b.At p q) : x1354 b p = ↑((q.R1 0 1).re) := by
  simp only [x1354, k0_pay195, k0_pay196, k0_pay197, k0_pay198, k0_pay199, mulf_apply, addf_apply, subf_apply, spread_apply, zero_word, ← EReal.coe_mul, ← EReal.coe_add, ← EReal.coe_sub, e704 h, e705 h, e758 h, e759 h, e920 h, e921 h, e974 h, e975 h, e1100 h, e1101 h, e1114 h, e1115 h, e1156 h, e1157 h, e1170 h, e1171 h, e1314 h]
  refine congrArg Real.toEReal ?_
  simp only [q.R1_re, q.R1_im, Fin.sum_univ_two] <;> ring
theorem e1355 (h : b.At p q) : x1355 b p = ↑((q.R1 0 1).im) := by
  simp only [x1355, k0_pay195, k0_pay196, k0_pay197, k0_pay198, k0_pay200, mulf_apply, addf_apply, subf_apply, spread_apply, zero_word, ← EReal.coe_mul, ← EReal.coe_add, ← EReal.coe_sub, e704 h, e705 h, e758 h, e759 h, e920 h, e921 h, e974 h, e975 h, e1100 h, e1101 h, e1114 h, e1115 h, e1156 h, e1157 h, e1170 h, e1171 h, e1305 h, e1313 h]
  refine congrArg Real.toEReal ?_
  simp only [q.R1_re, q.R1_im, Fin.sum_univ_two] <;> ring
theorem e1357 (h : b.At p q) : x1357 b p = ↑((0 - (q.A0 0 0 0 0).im)) := by
  simp only [x1357, k0_pay201, mulf_apply, addf_apply, subf_apply, spread_apply, zero_word, ← EReal.coe_mul, ← EReal.coe_add, ← EReal.coe_sub, e165 h]
theorem e1360 (h : b.At p q) : x1360 b p = ↑((((q.B0 0 0 1 0).re * (q.A0 0 0 0 0).re) - ((q.B0 0 0 1 0).im * (0 - (q.A0 0 0 0 0).im)))) := by
  simp only [x1360, k0_pay201, k0_pay202, mulf_apply, addf_apply, subf_apply, spread_apply, zero_word, ← EReal.coe_mul, ← EReal.coe_add, ← EReal.coe_sub, e164 h, e165 h, e1016 h, e1017 h]
theorem e1363 (h : b.At p q) : x1363 b p = ↑((((q.B0 0 0 1 0).re * (0 - (q.A0 0 0 0 0).im)) + ((q.B0 0 0 1 0).im * (q.A0 0 0 0 0).re))) := by
  simp only [x1363, k0_pay201, k0_pay203, mulf_apply, addf_apply, subf_apply, spread_apply, zero_word, ← EReal.coe_mul, ← EReal.coe_add, ← EReal.coe_sub, e164 h, e165 h, e1016 h, e1017 h]
theorem e1365 (h : b.At p q) : x1365 b p = ↑((0 - (q.A0 0 0 0 1).im)) := by
  simp only [x1365, k0_pay204, mulf_apply, addf_apply, subf_apply, spread_apply, zero_word, ← EReal.coe_mul, ← EReal.coe_add, ← EReal.coe_sub, e219 h]
theorem e1368 (h : b.At p q) : x1368 b p = ↑((((q.B0 0 0 1 1).re * (q.A0 0 0 0 1).re) - ((q.B0 0 0 1 1).im * (0 - (q.A0 0 0 0 1).im)))) := by
  simp only [x1368, k0_pay204, k0_pay205, mulf_apply, addf_apply, subf_apply, spread_apply, zero_word, ← EReal.coe_mul, ← EReal.coe_add, ← EReal.coe_sub, e218 h, e219 h, e1030 h, e1031 h]
theorem e1375 (h : b.At p q) : x1375 b p = ↑((0 - (q.A0 0 1 0 0).im)) := by
  simp only [x1375, k0_pay206, mulf_apply, addf_apply, subf_apply, spread_apply, zero_word, ← EReal.coe_mul, ← EReal.coe_add, ← EReal.coe_sub, e381 h]
theorem e1385 (h : b.At p q) : x1385 b p = ↑((0 - (q.A0 0 1 0 1).im)) := by
  simp only [x1385, k0_pay207, mulf_apply, addf_apply, subf_apply, spread_apply, zero_word, ← EReal.coe_mul, ← EReal.coe_add, ← EReal.coe_sub, e435 h]
theorem e1395 (h : b.At p q) : x1395 b p = ↑((0 - (q.A0 1 0 0 0).im)) := by
  simp only [x1395, k0_pay208, mulf_apply, addf_apply, subf_apply, spread_apply, zero_word, ← EReal.coe_mul, ← EReal.coe_add, ← EReal.coe_sub, e597 h]
theorem e1405 (h : b.At p q) : x1405 b p = ↑((0 - (q.A0 1 0 0 1).im)) := by
  simp only [x1405, k0_pay209, mulf_apply, addf_apply, subf_apply, spread_apply, zero_word, ← EReal.coe_mul, ← EReal.coe_add, ← EReal.coe_sub, e651 h]
theorem e1415 (h : b.At p q) : x1415 b p = ↑((0 - (q.A0 1 1 0 0).im)) := by
  simp only [x1415, k0_pay210, mulf_apply, addf_apply, subf_apply, spread_apply, zero_word, ← EReal.coe_mul, ← EReal.coe_add, ← EReal.coe_sub, e813 h]
theorem e1422 (h : b.At p q) : x1422 b p = ↑((((((((((q.B0 0 0 1 0).re * (q.A0 0 0 0 0).re) - ((q.B0 0 0 1 0).im * (0 - (q.A0 0 0 0 0).im))) + (((q.B0 0 0 1 1).re * (q.A0 0 0 0 1).re) - ((q.B0 0 0 1 1).im * (0 - (q.A0 0 0 0 1).im)))) + (((q.B0 0 1 1 0).re * (q.A0 0 1 0 0).re) - ((q.B0 0 1 1 0).im * (0 - (q.A0 0 1 0 0).im)))) + (((q.B0 0 1 1 1).re * (q.A0 0 1 0 1).re) - ((q.B0 0 1 1 1).im * (0 - (q.A0 0 1 0 1).im)))) + (((q.B0 1 0 1 0).re * (q.A0 1 0 0 0).re) - ((q.B0 1 0 1 0).im * (0 - (q.A0 1 0 0 0).im)))) + (((q.B0 1 0 1 1).re * (q.A0 1 0 0 1).re) - ((q.B0 1 0 1 1).im * (0 - (q.A0 1 0 0 1).im)))) + (((q.B0 1 1 1 0).re * (q.A0 1 1 0 0).re) - ((q.B0 1 1 1 0).im * (0 - (q.A0 1 1 0 0).im))))) := by
  simp only [x1422, k0_pay206, k0_pay207, k0_pay208, k0_pay209, k0_pay210, k0_pay211, mulf_apply, addf_apply, subf_apply, spread_apply, zero_word, ← EReal.coe_mul, ← EReal.coe_add, ← EReal.coe_sub, e380 h, e381 h, e434 h, e435 h, e596 h, e597 h, e650 h, e651 h, e812 h, e813 h, e1072 h, e1073 h, e1086 h, e1087 h, e1128 h, e1129 h, e1142 h, e1143 h, e1184 h, e1185 h, e1360 h, e1368 h]
theorem e1423 (h : b.At p q) : x1423 b p = ↑((((((((((q.B0 0 0 1 0).re * (0 - (q.A0 0 0 0 0).im)) + ((q.B0 0 0 1 0).im * (q.A0 0 0 0 0).re)) + (((q.B0 0 0 1 1).re * (0 - (q.A0 0 0 0 1).im)) + ((q.B0 0 0 1 1).im * (q.A0 0 0 0 1).re))) + (((q.B0 0 1 1 0).re * (0 - (q.A0 0 1 0 0).im)) + ((q.B0 0 1 1 0).im * (q.A0 0 1 0 0).re))) + (((q.B0 0 1 1 1).re * (0 - (q.A0 0 1 0 1).im)) + ((q.B0 0 1 1 1).im * (q.A0 0 1 0 1).re))) + (((q.B0 1 0 1 0).re * (0 - (q.A0 1 0 0 0).im)) + ((q.B0 1 0 1 0).im * (q.A0 1 0 0 0).re))) + (((q.B0 1 0 1 1).re * (0 - (q.A0 1 0 0 1).im)) + ((q.B0 1 0 1 1).im * (q.A0 1 0 0 1).re))) + (((q.B0 1 1 1 0).re * (0 - (q.A0 1 1 0 0).im)) + ((q.B0 1 1 1 0).im * (q.A0 1 1 0 0).re)))) := by
  simp only [x1423, k0_pay206, k0_pay207, k0_pay208, k0_pay209, k0_pay210, k0_pay212, mulf_apply, addf_apply, subf_apply, spread_apply, zero_word, ← EReal.coe_mul, ← EReal.coe_add, ← EReal.coe_sub, e218 h, e380 h, e381 h, e434 h, e435 h, e596 h, e597 h, e650 h, e651 h, e812 h, e813 h, e1030 h, e1031 h, e1072 h, e1073 h, e1086 h, e1087 h, e1128 h, e1129 h, e1142 h, e1143 h, e1184 h, e1185 h, e1363 h, e1365 h]
theorem e1425 (h : b.At p q) : x1425 b p = ↑((0 - (q.A0 1 1 0 1).im)) := by
  simp only [x1425, k0_pay213, mulf_apply, addf_apply, subf_apply, spread_apply, zero_word, ← EReal.coe_mul, ← EReal.coe_add, ← EReal.coe_sub, e867 h]
theorem e1432 (h : b.At p q) : x1432 b p = ↑((q.R1 1 0).re) := by
  simp only [x1432, k0_pay213, k0_pay214, mulf_apply, addf_apply, subf_apply, spread_apply, zero_word, ← EReal.coe_mul, ← EReal.coe_add, ← EReal.coe_sub, e866 h, e867 h, e1198 h, e1199 h, e1422 h]
  refine congrArg Real.toEReal ?_
  simp only [q.R1_re, q.R1_im, Fin.sum_univ_two] <;> ring
theorem e1433 (h : b.At p q) : x1433 b p = ↑((q.R1 1 0).im) := by
  simp only [x1433, k0_pay213, k0_pay215, mulf_apply, addf_apply, subf_apply, spread_apply, zero_word, ← EReal.coe_mul, ← EReal.coe_add, ← EReal.coe_sub, e866 h, e867 h, e1198 h, e1199 h, e1423 h]
  refine congrArg Real.toEReal ?_
  simp only [q.R1_re, q.R1_im, Fin.sum_univ_two] <;> ring
theorem e1435 (h : b.At p q) : x1435 b p = ↑((0 - (q.A0 0 0 1 0).im)) := by
  simp only [x1435, k0_pay216, mulf_apply, addf_apply, subf_apply, spread_apply, zero_word, ← EReal.coe_mul, ← EReal.coe_add, ← EReal.coe_sub, e273 h]
theorem e1443 (h : b.At p q) : x1443 b p = ↑((0 - (q.A0 0 0 1 1).im)) := by
  simp only [x1443, k0_pay217, mulf_apply, addf_apply, subf_apply, spread_apply, zero_word, ← EReal.coe_mul, ← EReal.coe_add, ← EReal.coe_sub, e327 h]
theorem e1453 (h : b.At p q) : x1453 b p = ↑((0 - (q.A0 0 1 1 0).im)) := by
  simp only [x1453, k0_pay218, mulf_apply, addf_apply, subf_apply, spread_apply, zero_word, ← EReal.coe_mul, ← EReal.coe_add, ← EReal.coe_sub, e489 h]
theorem e1463 (h : b.At p q) : x1463 b p = ↑((0 - (q.A0 0 1 1 1).im)) := by
  simp only [x1463, k0_pay219, mulf_apply, addf_apply, subf_apply, spread_apply, zero_word, ← EReal.coe_mul, ← EReal.coe_add, ← EReal.coe_sub, e543 h]
theorem e1470 (h : b.At p q) : x1470 b p = ↑(((((((q.B0 0 0 1 0).re * (q.A0 0 0 1 0).re) - ((q.B0 0 0 1 0).im * (0 - (q.A0 0 0 1 0).im))) + (((q.B0 0 0 1 1).re * (q.A0 0 0 1 1).re) - ((q.B0 0 0 1 1).im * (0 - (q.A0 0 0 1 1).im)))) + (((q.B0 0 1 1 0).re * (q.A0 0 1 1 0).re) - ((q.B0 0 1 1 0).im * (0 - (q.A0 0 1 1 0).im)))) + (((q.B0 0 1 1 1).re * (q.A0 0 1 1 1).re) - ((q.B0 0 1 1 1).im * (0 - (q.A0 0 1 1 1).im))))) := by
  simp only [x1470, k0_pay216, k0_pay217, k0_pay218, k0_pay219, k0_pay220, mulf_apply, addf_apply, subf_apply, spread_apply, zero_word, ← EReal.coe_mul, ← EReal.coe_add, ← EReal.coe_sub, e272 h, e273 h, e326 h, e327 h, e488 h, e489 h, e542 h, e543 h, e1016 h, e1017 h, e1030 h, e1031 h, e1072 h, e1073 h, e1086 h, e1087 h]
theorem e1471 (h : b.At p q) : x1471 b p = ↑(((((((q.B0 0 0 1 0).re * (0 - (q.A0 0 0 1 0).im)) + ((q.B0 0 0 1 0).im * (q.A0 0 0 1 0).re)) + (((q.B0 0 0 1 1).re * (0 - (q.A0 0 0 1 1).im)) + ((q.B0 0 0 1 1).im * (q.A0 0 0 1 1).re))) + (((q.B0 0 1 1 0).re * (0 - (q.A0 0 1 1 0).im)) + ((q.B0 0 1 1 0).im * (q.A0 0 1 1 0).re))) + (((q.B0 0 1 1 1).re * (0 - (q.A0 0 1 1 1).im)) + ((q.B0 0 1 1 1).im * (q.A0 0 1 1 1).re)))) := by
  simp only [x1471, k0_pay216, k0_pay217, k0_pay218, k0_pay219, k0_pay221, mulf_apply, addf_apply, subf_apply, spread_apply, zero_word, ← EReal.coe_mul, ← EReal.coe_add, ← EReal.coe_sub, e272 h, e273 h, e326 h, e327 h, e488 h, e489 h, e542 h, e543 h, e1016 h, e1017 h, e1030 h, e1031 h, e1072 h, e1073 h, e1086 h, e1087 h]
theorem e1473 (h : b.At p q) : x1473 b p = ↑((0 - (q.A0 1 0 1 0).im)) := by
  simp only [x1473, k0_pay222, mulf_apply, addf_apply, subf_apply, spread_apply, zero_word, ← EReal.coe_mul, ← EReal.coe_add, ← EReal.coe_sub, e705 h]
theorem e1476 (h : b.At p q) : x1476 b p = ↑((((q.B0 1 0 1 0).re * (q.A0 1 0 1 0).re) - ((q.B0 1 0 1 0).im * (0 - (q.A0 1 0 1 0).im)))) := by
  simp only [x1476, k0_pay222, k0_pay223, mulf_apply, addf_apply, subf_apply, spread_apply, zero_word, ← EReal.coe_mul, ← EReal.coe_add, ← EReal.coe_sub, e704 h, e705 h, e1128 h, e1129 h]
theorem e1477 (h : b.At p q) : x1477 b p = ↑(((q.B0 1 0 1 0).re * (0 - (q.A0 1 0 1 0).im))) := by
  simp only [x1477, k0_pay222, k0_pay224, mulf_apply, addf_apply, subf_apply, spread_apply, zero_word, ← EReal.coe_mul, ← EReal.coe_add, ← EReal.coe_sub, e705 h, e1128 h]
theorem e1483 (h : b.At p q) : x1483 b p = ↑((0 - (q.A0 1 0 1 1).im)) := by
  simp only [x1483, k0_pay225, mulf_apply, addf_apply, subf_apply, spread_apply, zero_word, ← EReal.coe_mul, ← EReal.coe_add, ← EReal.coe_sub, e759 h]
theorem e1493 (h : b.At p q) : x1493 b p = ↑((0 - (q.A0 1 1 1 0).im)) := by
  simp only [x1493, k0_pay226, mulf_apply, addf_apply, subf_apply, spread_apply, zero_word, ← EReal.coe_mul, ← EReal.coe_add, ← EReal.coe_sub, e921 h]
theorem e1503 (h : b.At p q) : x1503 b p = ↑((0 - (q.A0 1 1 1 1).im)) := by
  simp only [x1503, k0_pay227, mulf_apply, addf_apply, subf_apply, spread_apply, zero_word, ← EReal.coe_mul, ← EReal.coe_add, ← EReal.coe_sub, e975 h]
theorem e1510 (h : b.At p q) : x1510 b p = ↑((q.R1 1 1).re) := by
  simp only [x1510, k0_pay225, k0_pay226, k0_pay227, k0_pay228, mulf_apply, addf_apply, subf_apply, spread_apply, zero_word, ← EReal.coe_mul, ← EReal.coe_add, ← EReal.coe_sub, e758 h, e759 h, e920 h, e921 h, e974 h, e975 h, e1142 h, e1143 h, e1184 h, e1185 h, e1198 h, e1199 h, e1470 h, e1476 h]
  refine congrArg Real.toEReal ?_
  simp only [q.R1_re, q.R1_im, Fin.sum_univ_two] <;> ring
theorem e1511 (h : b.At p q) : x1511 b p = ↑((q.R1 1 1).im) := by
  simp only [x1511, k0_pay225, k0_pay226, k0_pay227, k0_pay229, mulf_apply, addf_apply, subf_apply, spread_apply, zero_word, ← EReal.coe_mul, ← EReal.coe_add, ← EReal.coe_sub, e704 h, e758 h, e759 h, e920 h, e921 h, e974 h, e975 h, e1129 h, e1142 h, e1143 h, e1184 h, e1185 h, e1198 h, e1199 h, e1471 h, e1477 h]
  refine congrArg Real.toEReal ?_
  simp only [q.R1_re, q.R1_im, Fin.sum_univ_two] <;> ring
theorem e1514 (h : b.At p q) : x1514 b p = ↑((q.P1 0 0).re) := by
  simp only [x1514, k0_pay230, mulf_apply, addf_apply, subf_apply, spread_apply, zero_word, ← EReal.coe_mul, ← EReal.coe_add, ← EReal.coe_sub, e17 h, e19 h, e41 h, e43 h]
  refine congrArg Real.toEReal ?_
  simp only [q.P1_re, q.P1_im] <;> ring
theorem e1517 (h : b.At p q) : x1517 b p = ↑((q.P1 0 0).im) := by
  simp only [x1517, k0_pay231, mulf_apply, addf_apply, subf_apply, spread_apply, zero_word, ← EReal.coe_mul, ← EReal.coe_add, ← EReal.coe_sub, e17 h, e19 h, e41 h, e43 h]
  refine congrArg Real.toEReal ?_
  simp only [q.P1_re, q.P1_im] <;> ring
theorem e1520 (h : b.At p q) : x1520 b p = ↑((q.P1 0 1).re) := by
  simp only [x1520, k0_pay232, mulf_apply, addf_apply, subf_apply, spread_apply, zero_word, ← EReal.coe_mul, ← EReal.coe_add, ← EReal.coe_sub, e21 h, e23 h, e41 h, e43 h]
  refine congrArg Real.toEReal ?_
  simp only [q.P1_re, q.P1_im] <;> ring
theorem e1523 (h : b.At p q) : x1523 b p = ↑((q.P1 0 1).im) := by
  simp only [x1523, k0_pay233, mulf_apply, addf_apply, subf_apply, spread_apply, zero_word, ← EReal.coe_mul, ← EReal.coe_add, ← EReal.coe_sub, e21 h, e23 h, e41 h, e43 h]
  refine congrArg Real.toEReal ?_
  simp only [q.P1_re, q.P1_im] <;> ring
theorem e1526 (h : b.At p q) : x1526 b p = ↑((q.P1 1 0).re) := by
  simp only [x1526, k0_pay234, mulf_apply, addf_apply, subf_apply, spread_apply, zero_word, ← EReal.coe_mul, ← EReal.coe_add, ← EReal.coe_sub, e17 h, e19 h, e45 h, e47 h]
  refine congrArg Real.toEReal ?_
  simp only [q.P1_re, q.P1_im] <;> ring
theorem e1529 (h : b.At p q) : x1529 b p = ↑((q.P1 1 0).im) := by
  simp only [x1529, k0_pay235, mulf_apply, addf_apply, subf_apply, spread_apply, zero_word, ← EReal.coe_mul, ← EReal.coe_add, ← EReal.coe_sub, e17 h, e19 h, e45 h, e47 h]
  refine congrArg Real.toEReal ?_
  simp only [q.P1_re, q.P1_im] <;> ring
theorem e1532 (h : b.At p q) : x1532 b p = ↑((q.P1 1 1).re) := by
  simp only [x1532, k0_pay236, mulf_apply, addf_apply, subf_apply, spread_apply, zero_word, ← EReal.coe_mul, ← EReal.coe_add, ← EReal.coe_sub, e21 h, e23 h, e45 h, e47 h]
  refine congrArg Real.toEReal ?_
  simp only [q.P1_re, q.P1_im] <;> ring
theorem e1533 (h : b.At p q) : x1533 b p = ↑(((q.e 1 1).re * (q.u 2 1).im)) := by
  simp only [x1533, k0_pay237, mulf_apply, addf_apply, subf_apply, spread_apply, zero_word, ← EReal.coe_mul, ← EReal.coe_add, ← EReal.coe_sub, e23 h, e45 h]
theorem e1534 (h : b.At p q) : x1534 b p = ↑(((q.e 1 1).im * (q.u 2 1).re)) := by
  simp only [x1534, k0_pay238, mulf_apply, addf_apply, subf_apply, spread_apply, zero_word, ← EReal.coe_mul, ← EReal.coe_add, ← EReal.coe_sub, e21 h, e47 h]
theorem e1535 (h : b.At p q) : x1535 b p = ↑((q.P1 1 1).im) := by
  simp only [x1535, k0_pay239, mulf_apply, addf_apply, subf_apply, spread_apply, zero_word, ← EReal.coe_mul, ← EReal.coe_add, ← EReal.coe_sub, e1533 h, e1534 h]
  refine congrArg Real.toEReal ?_
  simp only [q.P1_re, q.P1_im] <;> ring
theorem e1574 (h : b.At p q) : x1574 b p = ↑((((((q.V 0 0 0 0 0 0).re * (q.P1 0 0).re) - ((q.V 0 0 0 0 0 0).im * (q.P1 0 0).im)) + (((q.V 0 0 0 0 0 1).re * (q.P1 0 1).re) - ((q.V 0 0 0 0 0 1).im * (q.P1 0 1).im))) + (((q.V 0 0 0 1 0 0).re * (q.P1 1 0).re) - ((q.V 0 0 0 1 0 0).im * (q.P1 1 0).im)))) := by
  simp only [x1574, k0_pay240, mulf_apply, addf_apply, subf_apply, spread_apply, zero_word, ← EReal.coe_mul, ← EReal.coe_add, ← EReal.coe_sub, e1514 h, e1517 h, e1520 h, e1523 h, e1526 h, e1529 h, h.vr, h.vi]
theorem e1575 (h : b.At p q) : x1575 b p = ↑((((((q.V 0 0 0 0 0 0).re * (q.P1 0 0).im) + ((q.V 0 0 0 0 0 0).im * (q.P1 0 0).re)) + (((q.V 0 0 0 0 0 1).re * (q.P1 0 1).im) + ((q.V 0 0 0 0 0 1).im * (q.P1 0 1).re))) + (((q.V 0 0 0 1 0 0).re * (q.P1 1 0).im) + ((q.V 0 0 0 1 0 0).im * (q.P1 1 0).re)))) := by
  simp only [x1575, k0_pay241, mulf_apply, addf_apply, subf_apply, spread_apply, zero_word, ← EReal.coe_mul, ← EReal.coe_add, ← EReal.coe_sub, e1514 h, e1517 h, e1520 h, e1523 h, e1526 h, e1529 h, h.vr, h.vi]
theorem e1588 (h : b.At p q) : x1588 b p = ↑((q.A1 0 0 0 0).re) := by
  simp only [x1588, k0_pay242, mulf_apply, addf_apply, subf_apply, spread_apply, zero_word, ← EReal.coe_mul, ← EReal.coe_add, ← EReal.coe_sub, e1532 h, e1535 h, e1574 h, h.vr, h.vi]
  refine congrArg Real.toEReal ?_
  simp only [q.A1_re, q.A1_im, contractRe, contractIm] <;> ring
theorem e1589 (h : b.At p q) : x1589 b p = ↑((q.A1 0 0 0 0).im) := by
  simp only [x1589, k0_pay243, mulf_apply, addf_apply, subf_apply, spread_apply, zero_word, ← EReal.coe_mul, ← EReal.coe_add, ← EReal.coe_sub, e1532 h, e1535 h, e1575 h, h.vr, h.vi]
  refine congrArg Real.toEReal ?_
  simp only [q.A1_re, q.A1_im, contractRe, contractIm] <;> ring
theorem e1614 (h : b.At p q) : x1614 b p = ↑(((((q.V 0 0 0 0 1 0).re * (q.P1 0 0).re) - ((q.V 0 0 0 0 1 0).im * (q.P1 0 0).im)) + (((q.V 0 0 0 0 1 1).re * (q.P1 0 1).re) - ((q.V 0 0 0 0 1 1).im * (q.P1 0 1).im)))) := by
  simp only [x1614, k0_pay244, mulf_apply, addf_apply, subf_apply, spread_apply, zero_word, ← EReal.coe_mul, ← EReal.coe_add, ← EReal.coe_sub, e1514 h, e1517 h, e1520 h, e1523 h, h.vr, h.vi]
theorem e1615 (h : b.At p q) : x1615 b p = ↑(((((q.V 0 0 0 0 1 0).re * (q.P1 0 0).im) + ((q.V 0 0 0 0 1 0).im * (q.P1 0 0).re)) + (((q.V 0 0 0 0 1 1).re * (q.P1 0 1).im) + ((q.V 0 0 0 0 1 1).im * (q.P1 0 1).re)))) := by
  simp only [x1615, k0_pay245, mulf_apply, addf_apply, subf_apply, spread_apply, zero_word, ← EReal.coe_mul, ← EReal.coe_add, ← EReal.coe_sub, e1514 h, e1517 h, e1520 h, e1523 h, h.vr, h.vi]
theorem e1642 (h : b.At p q) : x1642 b p = ↑((q.A1 0 0 0 1).re) := by
  simp only [x1642, k0_pay246, mulf_apply, addf_apply, subf_apply, spread_apply, zero_word, ← EReal.coe_mul, ← EReal.coe_add, ← EReal.coe_sub, e1526 h, e1529 h, e1532 h, e1535 h, e1614 h, h.vr, h.vi]
  refine congrArg Real.toEReal ?_
  simp only [q.A1_re, q.A1_im, contractRe, contractIm] <;> ring
theorem e1643 (h : b.At p q) : x1643 b p = ↑((q.A1 0 0 0 1).im) := by
  simp only [x1643, k0_pay247, mulf_apply, addf_apply, subf_apply, spread_apply, zero_word, ← EReal.coe_mul, ← EReal.coe_add, ← EReal.coe_sub, e1526 h, e1529 h, e1532 h, e1535 h, e1615 h, h.vr, h.vi]
  refine congrArg Real.toEReal ?_
  simp only [q.A1_re, q.A1_im, contractRe, contractIm] <;> ring
theorem e1650 (h : b.At p q) : x1650 b p = ↑((((q.V 0 1 0 0 0 0).re * (q.P1 0 0).re) - ((q.V 0 1 0 0 0 0).im * (q.P1 0 0).im))) := by
  simp only [x1650, k0_pay248, mulf_apply, addf_apply, subf_apply, spread_apply, zero_word, ← EReal.coe_mul, ← EReal.coe_add, ← EReal.coe_sub, e1514 h, e1517 h, h.vr, h.vi]
theorem e1655 (h : b.At p q) : x1655 b p = ↑((((q.V 0 1 0 0 0 0).re * (q.P1 0 0).im) + ((q.V 0 1 0 0 0 0).im * (q.P1 0 0).re))) := by
  simp only [x1655, k0_pay249, mulf_apply, addf_apply, subf_apply, spread_apply, zero_word, ← EReal.coe_mul, ← EReal.coe_add, ← EReal.coe_sub, e1514 h, e1517 h, h.vr, h.vi]
theorem e1696 (h : b.At p q) : x1696 b p = ↑((q.A1 0 0 1 0).re) := by
  simp only [x1696, k0_pay250, mulf_apply, addf_apply, subf_apply, spread_apply, zero_word, ← EReal.coe_mul, ← EReal.coe_add, ← EReal.coe_sub, e1520 h, e1523 h, e1526 h, e1529 h, e1532 h, e1535 h, e1650 h, h.vr, h.vi]
  refine congrArg Real.toEReal ?_
  simp only [q.A1_re, q.A1_im, contractRe, contractIm] <;> ring
theorem e1697 (h : b.At p q) : x1697 b p = ↑((q.A1 0 0 1 0).im) := by
  simp only [x1697, k0_pay251, mulf_apply, addf_apply, subf_apply, spread_apply, zero_word, ← EReal.coe_mul, ← EReal.coe_add, ← EReal.coe_sub, e1520 h, e1523 h, e1526 h, e1529 h, e1532 h, e1535 h, e1655 h, h.vr, h.vi]
  refine congrArg Real.toEReal ?_
  simp only [q.A1_re, q.A1_im, contractRe, contractIm] <;> ring
theorem e1736 (h : b.At p q) : x1736 b p = ↑((((((q.V 0 1 0 0 1 0).re * (q.P1 0 0).re) - ((q.V 0 1 0 0 1 0).im * (q.P1 0 0).im)) + (((q.V 0 1 0 0 1 1).re * (q.P1 0 1).re) - ((q.V 0 1 0 0 1 1).im * (q.P1 0 1).im))) + (((q.V 0 1 0 1 1 0).re * (q.P1 1 0).re) - ((q.V 0 1 0 1 1 0).im * (q.P1 1 0).im)))) := by
  simp only [x1736, k0_pay252, mulf_apply, addf_apply, subf_apply, spread_apply, zero_word, ← EReal.coe_mul, ← EReal.coe_add, ← EReal.coe_sub, e1514 h, e1517 h, e1520 h, e1523 h, e1526 h, e1529 h, h.vr, h.vi]
theorem e1737 (h : b.At p q) : x1737 b p = ↑((((((q.V 0 1 0 0 1 0).re * (q.P1 0 0).im) + ((q.V 0 1 0 0 1 0).im * (q.P1 0 0).re)) + (((q.V 0 1 0 0 1 1).re * (q.P1 0 1).im) + ((q.V 0 1 0 0 1 1).im * (q.P1 0 1).re))) + (((q.V 0 1 0 1 1 0).re * (q.P1 1 0).im) + ((q.V 0 1 0 1 1 0).im * (q.P1 1 0).re)))) := by
  simp only [x1737, k0_pay253, mulf_apply, addf_apply, subf_apply, spread_apply, zero_word, ← EReal.coe_mul, ← EReal.coe_add, ← EReal.coe_sub, e1514 h, e1517 h, e1520 h, e1523 h, e1526 h, e1529 h, h.vr, h.vi]
theorem e1750 (h : b.At p q) : x1750 b p = ↑((q.A1 0 0 1 1).re) := by
  simp only [x1750, k0_pay254, mulf_apply, addf_apply, subf_apply, spread_apply, zero_word, ← EReal.coe_mul, ← EReal.coe_add, ← EReal.coe_sub, e1532 h, e1535 h, e1736 h, h.vr, h.vi]
  refine congrArg Real.toEReal ?_
  simp only [q.A1_re, q.A1_im, contractRe, contractIm] <;> ring
theorem e1751 (h : b.At p q) : x1751 b p = ↑((q.A1 0 0 1 1).im) := by
  simp only [x1751, k0_pay255, mulf_apply, addf_apply, subf_apply, spread_apply, zero_word, ← EReal.coe_mul, ← EReal.coe_add, ← EReal.coe_sub, e1532 h, e1535 h, e1737 h, h.vr, h.vi]
  refine congrArg Real.toEReal ?_
  simp only [q.A1_re, q.A1_im, contractRe, contractIm] <;> ring
theorem e1776 (h : b.At p q) : x1776 b p = ↑(((((q.V 0 0 1 0 0 0).re * (q.P1 0 0).re) - ((q.V 0 0 1 0 0 0).im * (q.P1 0 0).im)) + (((q.V 0 0 1 0 0 1).re * (q.P1 0 1).re) - ((q.V 0 0 1 0 0 1).im * (q.P1 0 1).im)))) := by
  simp only [x1776, k0_pay256, mulf_apply, addf_apply, subf_apply, spread_apply, zero_word, ← EReal.coe_mul, ← EReal.coe_add, ← EReal.coe_sub, e1514 h, e1517 h, e1520 h, e1523 h, h.vr, h.vi]
theorem e1777 (h : b.At p q) : x1777 b p = ↑(((((q.V 0 0 1 0 0 0).re * (q.P1 0 0).im) + ((q.V 0 0 1 0 0 0).im * (q.P1 0 0).re)) + (((q.V 0 0 1 0 0 1).re * (q.P1 0 1).im) + ((q.V 0 0 1 0 0 1).im * (q.P1 0 1).re)))) := by
  simp only [x1777, k0_pay257, mulf_apply, addf_apply, subf_apply, spread_apply, zero_word, ← EReal.coe_mul, ← EReal.coe_add, ← EReal.coe_sub, e1514 h, e1517 h, e1520 h, e1523 h, h.vr, h.vi]
theorem e1780 (h : b.At p q) : x1780 b p = ↑((q.V 0 0 1 1 0 0).re) := by
  simp only [x1780, k0_pay258, mulf_apply, addf_apply, subf_apply, spread_apply, zero_word, ← EReal.coe_mul, ← EReal.coe_add, ← EReal.coe_sub, h.vr, h.vi]
theorem e1804 (h : b.At p q) : x1804 b p = ↑((q.A1 0 1 0 0).re) := by
  simp only [x1804, k0_pay259, mulf_apply, addf_apply, subf_apply, spread_apply, zero_word, ← EReal.coe_mul, ← EReal.coe_add, ← EReal.coe_sub, e1526 h, e1529 h, e1532 h, e1535 h, e1776 h, e1780 h, h.vr, h.vi]
  refine congrArg Real.toEReal ?_
  simp only [q.A1_re, q.A1_im, contractRe, contractIm] <;> ring
theorem e1805 (h : b.At p q) : x1805 b p = ↑((q.A1 0 1 0 0).im) := by
  simp only [x1805, k0_pay260, mulf_apply, addf_apply, subf_apply, spread_apply, zero_word, ← EReal.coe_mul, ← EReal.coe_add, ← EReal.coe_sub, e1526 h, e1529 h, e1532 h, e1535 h, e1777 h, h.vr, h.vi]
  refine congrArg Real.toEReal ?_
  simp only [q.A1_re, q.A1_im, contractRe, contractIm] <;> ring
theorem e1812 (h : b.At p q) : x1812 b p = ↑((((q.V 0 0 1 0 1 0).re * (q.P1 0 0).re) - ((q.V 0 0 1 0 1 0).im * (q.P1 0 0).im))) := by
  simp only [x1812, k0_pay261, mulf_apply, addf_apply, subf_apply, spread_apply, zero_word, ← EReal.coe_mul, ← EReal.coe_add, ← EReal.coe_sub, e1514 h, e1517 h, h.vr, h.vi]
theorem e1817 (h : b.At p q) : x1817 b p = ↑((((q.V 0 0 1 0 1 0).re * (q.P1 0 0).im) + ((q.V 0 0 1 0 1 0).im * (q.P1 0 0).re))) := by
  simp only [x1817, k0_pay262, mulf_apply, addf_apply, subf_apply, spread_apply, zero_word, ← EReal.coe_mul, ← EReal.coe_add, ← EReal.coe_sub, e1514 h, e1517 h, h.vr, h.vi]
theorem e1821 (h : b.At p q) : x1821 b p = ↑(((q.V 0 0 1 0 1 1).re * (q.P1 0 1).re)) := by
  simp only [x1821, k0_pay263, mulf_apply, addf_apply, subf_apply, spread_apply, zero_word, ← EReal.coe_mul, ← EReal.coe_add, ← EReal.coe_sub, e1520 h, h.vr, h.vi]
theorem e1822 (h : b.At p q) : x1822 b p = ↑((q.V 0 0 1 0 1 1).im) := by
  simp only [x1822, k0_pay264, mulf_apply, addf_apply, subf_apply, spread_apply, zero_word, ← EReal.coe_mul, ← EReal.coe_add, ← EReal.coe_sub, h.vr, h.vi]
theorem e1858 (h : b.At p q) : x1858 b p = ↑((q.A1 0 1 0 1).re) := by
  simp only [x1858, k0_pay265, mulf_apply, addf_apply, subf_apply, spread_apply, zero_word, ← EReal.coe_mul, ← EReal.coe_add, ← EReal.coe_sub, e1523 h, e1526 h, e1529 h, e1532 h, e1535 h, e1812 h, e1821 h, e1822 h, h.vr, h.vi]
  refine congrArg Real.toEReal ?_
  simp only [q.A1_re, q.A1_im, contractRe, contractIm] <;> ring
theorem e1859 (h : b.At p q) : x1859 b p = ↑((q.A1 0 1 0 1).im) := by
  simp only [x1859, k0_pay266, mulf_apply, addf_apply, subf_apply, spread_apply, zero_word, ← EReal.coe_mul, ← EReal.coe_add, ← EReal.coe_sub, e1520 h, e1523 h, e1526 h, e1529 h, e1532 h, e1535 h, e1817 h, h.vr, h.vi]
  refine congrArg Real.toEReal ?_
  simp only [q.A1_re, q.A1_im, contractRe, contractIm] <;> ring
theorem e1863 (h : b.At p q) : x1863 b p = ↑(((q.V 0 1 1 0 0 0).re * (q.P1 0 0).re)) := by
  simp only [x1863, k0_pay267, mulf_apply, addf_apply, subf_apply, spread_apply, zero_word, ← EReal.coe_mul, ← EReal.coe_add, ← EReal.coe_sub, e1514 h, h.vr, h.vi]
theorem e1864 (h : b.At p q) : x1864 b p = ↑((q.V 0 1 1 0 0 0).im) := by
  simp only [x1864, k0_pay268, mulf_apply, addf_apply, subf_apply, spread_apply, zero_word, ← EReal.coe_mul, ← EReal.coe_add, ← EReal.coe_sub, h.vr, h.vi]
theorem e1898 (h : b.At p q) : x1898 b p = ↑((((((q.V 0 1 1 0 0 0).re * (q.P1 0 0).re) - ((q.V 0 1 1 0 0 0).im * (q.P1 0 0).im)) + (((q.V 0 1 1 0 0 1).re * (q.P1 0 1).re) - ((q.V 0 1 1 0 0 1).im * (q.P1 0 1).im))) + (((q.V 0 1 1 1 0 0).re * (q.P1 1 0).re) - ((q.V 0 1 1 1 0 0).im * (q.P1 1 0).im)))) := by
  simp only [x1898, k0_pay269, mulf_apply, addf_apply, subf_apply, spread_apply, zero_word, ← EReal.coe_mul, ← EReal.coe_add, ← EReal.coe_sub, e1517 h, e1520 h, e1523 h, e1526 h, e1529 h, e1863 h, e1864 h, h.vr, h.vi]
theorem e1899 (h : b.At p q) : x1899 b p = ↑((((((q.V 0 1 1 0 0 0).re * (q.P1 0 0).im) + ((q.V 0 1 1 0 0 0).im * (q.P1 0 0).re)) + (((q.V 0 1 1 0 0 1).re * (q.P1 0 1).im) + ((q.V 0 1 1 0 0 1).im * (q.P1 0 1).re))) + (((q.V 0 1 1 1 0 0).re * (q.P1 1 0).im) + ((q.V 0 1 1 1 0 0).im * (q.P1 1 0).re)))) := by
  simp only [x1899, k0_pay270, mulf_apply, addf_apply, subf_apply, spread_apply, zero_word, ← EReal.coe_mul, ← EReal.coe_add, ← EReal.coe_sub, e1514 h, e1517 h, e1520 h, e1523 h, e1526 h, e1529 h, h.vr, h.vi]
theorem e1906 (h : b.At p q) : x1906 b p = ↑((((q.V 0 1 1 1 0 1).re * (q.P1 1 1).re) - ((q.V 0 1 1 1 0 1).im * (q.P1 1 1).im))) := by
  simp only [x1906, k0_pay271, mulf_apply, addf_apply, subf_apply, spread_apply, zero_word, ← EReal.coe_mul, ← EReal.coe_add, ← EReal.coe_sub, e1532 h, e1535 h, h.vr, h.vi]
theorem e1912 (h : b.At p q) : x1912 b p = ↑((q.A1 0 1 1 0).re) := by
  simp only [x1912, k0_pay272, mulf_apply, addf_apply, subf_apply, spread_apply, zero_word, ← EReal.coe_mul, ← EReal.coe_add, ← EReal.coe_sub, e1898 h, e1906 h]
  refine congrArg Real.toEReal ?_
  simp only [q.A1_re, q.A1_im, contractRe, contractIm] <;> ring
theorem e1913 (h : b.At p q) : x1913 b p = ↑((q.A1 0 1 1 0).im) := by
  simp only [x1913, k0_pay273, mulf_apply, addf_apply, subf_apply, spread_apply, zero_word, ← EReal.coe_mul, ← EReal.coe_add, ← EReal.coe_sub, e1532 h, e1535 h, e1899 h, h.vr, h.vi]
  refine congrArg Real.toEReal ?_
  simp only [q.A1_re, q.A1_im, contractRe, contractIm] <;> ring
theorem e1938 (h : b.At p q) : x1938 b p = ↑(((((q.V 0 1 1 0 1 0).re * (q.P1 0 0).re) - ((q.V 0 1 1 0 1 0).im * (q.P1 0 0).im)) + (((q.V 0 1 1 0 1 1).re * (q.P1 0 1).re) - ((q.V 0 1 1 0 1 1).im * (q.P1 0 1).im)))) := by
  simp only [x1938, k0_pay274, mulf_apply, addf_apply, subf_apply, spread_apply, zero_word, ← EReal.coe_mul, ← EReal.coe_add, ← EReal.coe_sub, e1514 h, e1517 h, e1520 h, e1523 h, h.vr, h.vi]
theorem e1939 (h : b.At p q) : x1939 b p = ↑(((((q.V 0 1 1 0 1 0).re * (q.P1 0 0).im) + ((q.V 0 1 1 0 1 0).im * (q.P1 0 0).re)) + (((q.V 0 1 1 0 1 1).re * (q.P1 0 1).im) + ((q.V 0 1 1 0 1 1).im * (q.P1 0 1).re)))) := by
  simp only [x1939, k0_pay275, mulf_apply, addf_apply, subf_apply, spread_apply, zero_word, ← EReal.coe_mul, ← EReal.coe_add, ← EReal.coe_sub, e1514 h, e1517 h, e1520 h, e1523 h, h.vr, h.vi]
theorem e1946 (h : b.At p q) : x1946 b p = ↑((((q.V 0 1 1 1 1 0).re * (q.P1 1 0).re) - ((q.V 0 1 1 1 1 0).im * (q.P1 1 0).im))) := by
  simp only [x1946, k0_pay276, mulf_apply, addf_apply, subf_apply, spread_apply, zero_word, ← EReal.coe_mul, ← EReal.coe_add, ← EReal.coe_sub, e1526 h, e1529 h, h.vr, h.vi]
theorem e1948 (h : b.At p q) : x1948 b p = ↑(((q.V 0 1 1 1 1 0).re * (q.P1 1 0).im)) := by
  simp only [x1948, k0_pay277, mulf_apply, addf_apply, subf_apply, spread_apply, zero_word, ← EReal.coe_mul, ← EReal.coe_add, ← EReal.coe_sub, e1529 h, h.vr, h.vi]
theorem e1966 (h : b.At p q) : x1966 b p = ↑((q.A1 0 1 1 1).re) := by
  simp only [x1966, k0_pay278, mulf_apply, addf_apply, subf_apply, spread_apply, zero_word, ← EReal.coe_mul, ← EReal.coe_add, ← EReal.coe_sub, e1532 h, e1535 h, e1938 h, e1946 h, h.vr, h.vi]
  refine congrArg Real.toEReal ?_
  simp only [q.A1_re, q.A1_im, contractRe, contractIm] <;> ring
theorem e1967 (h : b.At p q) : x1967 b p = ↑((q.A1 0 1 1 1).im) := by
  simp only [x1967, k0_pay279, mulf_apply, addf_apply, subf_apply, spread_apply, zero_word, ← EReal.coe_mul, ← EReal.coe_add, ← EReal.coe_sub, e1526 h, e1532 h, e1535 h, e1939 h, e1948 h, h.vr, h.vi]
  refine congrArg Real.toEReal ?_
  simp only [q.A1_re, q.A1_im, contractRe, contractIm] <;> ring
theorem e1974 (h : b.At p q) : x1974 b p = ↑((((q.V 1 0 0 0 0 0).re * (q.P1 0 0).re) - ((q.V 1 0 0 0 0 0).im * (q.P1 0 0).im))) := by
  simp only [x1974, k0_pay280, mulf_apply, addf_apply, subf_apply, spread_apply, zero_word, ← EReal.coe_mul, ← EReal.coe_add, ← EReal.coe_sub, e1514 h, e1517 h, h.vr, h.vi]
theorem e1979 (h : b.At p q) : x1979 b p = ↑((((q.V 1 0 0 0 0 0).re * (q.P1 0 0).im) + ((q.V 1 0 0 0 0 0).im * (q.P1 0 0).re))) := by
  simp only [x1979, k0_pay281, mulf_apply, addf_apply, subf_apply, spread_apply, zero_word, ← EReal.coe_mul, ← EReal.coe_add, ← EReal.coe_sub, e1514 h, e1517 h, h.vr, h.vi]
theorem e1986 (h : b.At p q) : x1986 b p = ↑((((q.V 1 0 0 0 0 1).re * (q.P1 0 1).re) - ((q.V 1 0 0 0 0 1).im * (q.P1 0 1).im))) := by
  simp only [x1986, k0_pay282, mulf_apply, addf_apply, subf_apply, spread_apply, zero_word, ← EReal.coe_mul, ← EReal.coe_add, ← EReal.coe_sub, e1520 h, e1523 h, h.vr, h.vi]
theorem e1988 (h : b.At p q) : x1988 b p = ↑(((q.V 1 0 0 0 0 1).re * (q.P1 0 1).im)) := by
  simp only [x1988, k0_pay283, mulf_apply, addf_apply, subf_apply, spread_apply, zero_word, ← EReal.coe_mul, ← EReal.coe_add, ← EReal.coe_sub, e1523 h, h.vr, h.vi]
theorem e1990 (h : b.At p q) : x1990 b p = ↑(((q.V 1 0 0 0 0 1).im * (q.P1 0 1).re)) := by
  simp only [x1990, k0_pay284, mulf_apply, addf_apply, subf_apply, spread_apply, zero_word, ← EReal.coe_mul, ← EReal.coe_add, ← EReal.coe_sub, e1520 h, h.vr, h.vi]
theorem e2020 (h : b.At p q) : x2020 b p = ↑((q.A1 1 0 0 0).re) := by
  simp only [x2020, k0_pay285, mulf_apply, addf_apply, subf_apply, spread_apply, zero_word, ← EReal.coe_mul, ← EReal.coe_add, ← EReal.coe_sub, e1526 h, e1529 h, e1532 h, e1535 h, e1974 h, e1986 h, h.vr, h.vi]
  refine congrArg Real.toEReal ?_
  simp only [q.A1_re, q.A1_im, contractRe, contractIm] <;> ring
theorem e2021 (h : b.At p q) : x2021 b p = ↑((q.A1 1 0 0 0).im) := by
  simp only [x2021, k0_pay286, mulf_apply, addf_apply, subf_apply, spread_apply, zero_word, ← EReal.coe_mul, ← EReal.coe_add, ← EReal.coe_sub, e1526 h, e1529 h, e1532 h, e1535 h, e1979 h, e1988 h, e1990 h, h.vr, h.vi]
  refine congrArg Real.toEReal ?_
  simp only [q.A1_re, q.A1_im, contractRe, contractIm] <;> ring
theorem e2028 (h : b.At p q) : x2028 b p = ↑((((q.V 1 0 0 0 1 0).re * (q.P1 0 0).re) - ((q.V 1 0 0 0 1 0).im * (q.P1 0 0).im))) := by
  simp only [x2028, k0_pay287, mulf_apply, addf_apply, subf_apply, spread_apply, zero_word, ← EReal.coe_mul, ← EReal.coe_add, ← EReal.coe_sub, e1514 h, e1517 h, h.vr, h.vi]
theorem e2030 (h : b.At p q) : x2030 b p = ↑(((q.V 1 0 0 0 1 0).re * (q.P1 0 0).im)) := by
  simp only [x2030, k0_pay288, mulf_apply, addf_apply, subf_apply, spread_apply, zero_word, ← EReal.coe_mul, ← EReal.coe_add, ← EReal.coe_sub, e1517 h, h.vr, h.vi]
theorem e2032 (h : b.At p q) : x2032 b p = ↑(((q.V 1 0 0 0 1 0).im * (q.P1 0 0).re)) := by
  simp only [x2032, k0_pay289, mulf_apply, addf_apply, subf_apply, spread_apply, zero_word, ← EReal.coe_mul, ← EReal.coe_add, ← EReal.coe_sub, e1514 h, h.vr, h.vi]
theorem e2061 (h : b.At p q) : x2061 b p = ↑((((((q.V 1 0 0 0 1 0).re * (q.P1 0 0).im) + ((q.V 1 0 0 0 1 0).im * (q.P1 0 0).re)) + (((q.V 1 0 0 0 1 1).re * (q.P1 0 1).im) + ((q.V 1 0 0 0 1 1).im * (q.P1 0 1).re))) + (((q.V 1 0 0 1 1 0).re * (q.P1 1 0).im) + ((q.V 1 0 0 1 1 0).im * (q.P1 1 0).re)))) := by
  simp only [x2061, k0_pay290, mulf_apply, addf_apply, subf_apply, spread_apply, zero_word, ← EReal.coe_mul, ← EReal.coe_add, ← EReal.coe_sub, e1520 h, e1523 h, e1526 h, e1529 h, e2030 h, e2032 h, h.vr, h.vi]
theorem e2073 (h : b.At p q) : x2073 b p = ↑((((q.V 1 0 0 1 1 1).re * (q.P1 1 1).im) + ((q.V 1 0 0 1 1 1).im * (q.P1 1 1).re))) := by
  simp only [x2073, k0_pay291, mulf_apply, addf_apply, subf_apply, spread_apply, zero_word, ← EReal.coe_mul, ← EReal.coe_add, ← EReal.coe_sub, e1532 h, e1535 h, h.vr, h.vi]
theorem e2074 (h : b.At p q) : x2074 b p = ↑((q.A1 1 0 0 1).re) := by
  simp only [x2074, k0_pay292, mulf_apply, addf_apply, subf_apply, spread_apply, zero_word, ← EReal.coe_mul, ← EReal.coe_add, ← EReal.coe_sub, e1520 h, e1523 h, e1526 h, e1529 h, e1532 h, e1535 h, e2028 h, h.vr, h.vi]
  refine congrArg Real.toEReal ?_
  simp only [q.A1_re, q.A1_im, contractRe, contractIm] <;> ring
theorem e2075 (h : b.At p q) : x2075 b p = ↑((q.A1 1 0 0 1).im) := by
  simp only [x2075, k0_pay293, mulf_apply, addf_apply, subf_apply, spread_apply, zero_word, ← EReal.coe_mul, ← EReal.coe_add, ← EReal.coe_sub, e2061 h, e2073 h]
  refine congrArg Real.toEReal ?_
  simp only [q.A1_re, q.A1_im, contractRe, contractIm] <;> ring
theorem e2114 (h : b.At p q) : x2114 b p = ↑((((((q.V 1 1 0 0 0 0).re * (q.P1 0 0).re) - ((q.V 1 1 0 0 0 0).im * (q.P1 0 0).im)) + (((q.V 1 1 0 0 0 1).re * (q.P1 0 1).re) - ((q.V 1 1 0 0 0 1).im * (q.P1 0 1).im))) + (((q.V 1 1 0 1 0 0).re * (q.P1 1 0).re) - ((q.V 1 1 0 1 0 0).im * (q.P1 1 0).im)))) := by
  simp only [x2114, k0_pay294, mulf_apply, addf_apply, subf_apply, spread_apply, zero_word, ← EReal.coe_mul, ← EReal.coe_add, ← EReal.coe_sub, e1514 h, e1517 h, e1520 h, e1523 h, e1526 h, e1529 h, h.vr, h.vi]
theorem e2115 (h : b.At p q) : x2115 b p = ↑((((((q.V 1 1 0 0 0 0).re * (q.P1 0 0).im) + ((q.V 1 1 0 0 0 0).im * (q.P1 0 0).re)) + (((q.V 1 1 0 0 0 1).re * (q.P1 0 1).im) + ((q.V 1 1 0 0 0 1).im * (q.P1 0 1).re))) + (((q.V 1 1 0 1 0 0).re * (q.P1 1 0).im) + ((q.V 1 1 0 1 0 0).im * (q.P1 1 0).re)))) := by
  simp only [x2115, k0_pay295, mulf_apply, addf_apply, subf_apply, spread_apply, zero_word, ← EReal.coe_mul, ← EReal.coe_add, ← EReal.coe_sub, e1514 h, e1517 h, e1520 h, e1523 h, e1526 h, e1529 h, h.vr, h.vi]
theorem e2128 (h : b.At p q) : x2128 b p = ↑((q.A1 1 0 1 0).re) := by
  simp only [x2128, k0_pay296, mulf_apply, addf_apply, subf_apply, spread_apply, zero_word, ← EReal.coe_mul, ← EReal.coe_add, ← EReal.coe_sub, e1532 h, e1535 h, e2114 h, h.vr, h.vi]
  refine congrArg Real.toEReal ?_
  simp only [q.A1_re, q.A1_im, contractRe, contractIm] <;> ring
theorem e2129 (h : b.At p q) : x2129 b p = ↑((q.A1 1 0 1 0).im) := by
  simp only [x2129, k0_pay297, mulf_apply, addf_apply, subf_apply, spread_apply, zero_word, ← EReal.coe_mul, ← EReal.coe_add, ← EReal.coe_sub, e1532 h, e1535 h, e2115 h, h.vr, h.vi]
  refine congrArg Real.toEReal ?_
  simp only [q.A1_re, q.A1_im, contractRe, contractIm] <;> ring
theorem e2154 (h : b.At p q) : x2154 b p = ↑(((((q.V 1 1 0 0 1 0).re * (q.P1 0 0).re) - ((q.V 1 1 0 0 1 0).im * (q.P1 0 0).im)) + (((q.V 1 1 0 0 1 1).re * (q.P1 0 1).re) - ((q.V 1 1 0 0 1 1).im * (q.P1 0 1).im)))) := by
  simp only [x2154, k0_pay298, mulf_apply, addf_apply, subf_apply, spread_apply, zero_word, ← EReal.coe_mul, ← EReal.coe_add, ← EReal.coe_sub, e1514 h, e1517 h, e1520 h, e1523 h, h.vr, h.vi]
theorem e2155 (h : b.At p q) : x2155 b p = ↑(((((q.V 1 1 0 0 1 0).re * (q.P1 0 0).im) + ((q.V 1 1 0 0 1 0).im * (q.P1 0 0).re)) + (((q.V 1 1 0 0 1 1).re * (q.P1 0 1).im) + ((q.V 1 1 0 0 1 1).im * (q.P1 0 1).re)))) := by
  simp only [x2155, k0_pay299, mulf_apply, addf_apply, subf_apply, spread_apply, zero_word, ← EReal.coe_mul, ← EReal.coe_add, ← EReal.coe_sub, e1514 h, e1517 h, e1520 h, e1523 h, h.vr, h.vi]
theorem e2182 (h : b.At p q) : x2182 b p = ↑((q.A1 1 0 1 1).re) := by
  simp only [x2182, k0_pay300, mulf_apply, addf_apply, subf_apply, spread_apply, zero_word, ← EReal.coe_mul, ← EReal.coe_add, ← EReal.coe_sub, e1526 h, e1529 h, e1532 h, e1535 h, e2154 h, h.vr, h.vi]
  refine congrArg Real.toEReal ?_
  simp only [q.A1_re, q.A1_im, contractRe, contractIm] <;> ring
theorem e2183 (h : b.At p q) : x2183 b p = ↑((q.A1 1 0 1 1).im) := by
  simp only [x2183, k0_pay301, mulf_apply, addf_apply, subf_apply, spread_apply, zero_word, ← EReal.coe_mul, ← EReal.coe_add, ← EReal.coe_sub, e1526 h, e1529 h, e1532 h, e1535 h, e2155 h, h.vr, h.vi]
  refine congrArg Real.toEReal ?_
  simp only [q.A1_re, q.A1_im, contractRe, contractIm] <;> ring
theorem e2190 (h : b.At p q) : x2190 b p = ↑((((q.V 1 0 1 0 0 0).re * (q.P1 0 0).re) - ((q.V 1 0 1 0 0 0).im * (q.P1 0 0).im))) := by
  simp only [x2190, k0_pay302, mulf_apply, addf_apply, subf_apply, spread_apply, zero_word, ← EReal.coe_mul, ← EReal.coe_add, ← EReal.coe_sub, e1514 h, e1517 h, h.vr, h.vi]
theorem e2195 (h : b.At p q) : x2195 b p = ↑((((q.V 1 0 1 0 0 0).re * (q.P1 0 0).im) + ((q.V 1 0 1 0 0 0).im * (q.P1 0 0).re))) := by
  simp only [x2195, k0_pay303, mulf_apply, addf_apply, subf_apply, spread_apply, zero_word, ← EReal.coe_mul, ← EReal.coe_add, ← EReal.coe_sub, e1514 h, e1517 h, h.vr, h.vi]
theorem e2236 (h : b.At p q) : x2236 b p = ↑((q.A1 1 1 0 0).re) := by
  simp only [x2236, k0_pay304, mulf_apply, addf_apply, subf_apply, spread_apply, zero_word, ← EReal.coe_mul, ← EReal.coe_add, ← EReal.coe_sub, e1520 h, e1523 h, e1526 h, e1529 h, e1532 h, e1535 h, e2190 h, h.vr, h.vi]
  refine congrArg Real.toEReal ?_
  simp only [q.A1_re, q.A1_im, contractRe, contractIm] <;> ring
theorem e2237 (h : b.At p q) : x2237 b p = ↑((q.A1 1 1 0 0).im) := by
  simp only [x2237, k0_pay305, mulf_apply, addf_apply, subf_apply, spread_apply, zero_word, ← EReal.coe_mul, ← EReal.coe_add, ← EReal.coe_sub, e1520 h, e1523 h, e1526 h, e1529 h, e1532 h, e1535 h, e2195 h, h.vr, h.vi]
  refine congrArg Real.toEReal ?_
  simp only [q.A1_re, q.A1_im, contractRe, contractIm] <;> ring
theorem e2276 (h : b.At p q) : x2276 b p = ↑((((((q.V 1 0 1 0 1 0).re * (q.P1 0 0).re) - ((q.V 1 0 1 0 1 0).im * (q.P1 0 0).im)) + (((q.V 1 0 1 0 1 1).re * (q.P1 0 1).re) - ((q.V 1 0 1 0 1 1).im * (q.P1 0 1).im))) + (((q.V 1 0 1 1 1 0).re * (q.P1 1 0).re) - ((q.V 1 0 1 1 1 0).im * (q.P1 1 0).im)))) := by
  simp only [x2276, k0_pay306, mulf_apply, addf_apply, subf_apply, spread_apply, zero_word, ← EReal.coe_mul, ← EReal.coe_add, ← EReal.coe_sub, e1514 h, e1517 h, e1520 h, e1523 h, e1526 h, e1529 h, h.vr, h.vi]
theorem e2277 (h : b.At p q) : x2277 b p = ↑((((((q.V 1 0 1 0 1 0).re * (q.P1 0 0).im) + ((q.V 1 0 1 0 1 0).im * (q.P1 0 0).re)) + (((q.V 1 0 1 0 1 1).re * (q.P1 0 1).im) + ((q.V 1 0 1 0 1 1).im * (q.P1 0 1).re))) + (((q.V 1 0 1 1 1 0).re * (q.P1 1 0).im) + ((q.V 1 0 1 1 1 0).im * (q.P1 1 0).re)))) := by
  simp only [x2277, k0_pay307, mulf_apply, addf_apply, subf_apply, spread_apply, zero_word, ← EReal.coe_mul, ← EReal.coe_add, ← EReal.coe_sub, e1514 h, e1517 h, e1520 h, e1523 h, e1526 h, e1529 h, h.vr, h.vi]
theorem e2290 (h : b.At p q) : x2290 b p = ↑((q.A1 1 1 0 1).re) := by
  simp only [x2290, k0_pay308, mulf_apply, addf_apply, subf_apply, spread_apply, zero_word, ← EReal.coe_mul, ← EReal.coe_add, ← EReal.coe_sub, e1532 h, e1535 h, e2276 h, h.vr, h.vi]
  refine congrArg Real.toEReal ?_
  simp only [q.A1_re, q.A1_im, contractRe, contractIm] <;> ring
theorem e2291 (h : b.At p q) : x2291 b p = ↑((q.A1 1 1 0 1).im) := by
  simp only [x2291, k0_pay309, mulf_apply, addf_apply, subf_apply, spread_apply, zero_word, ← EReal.coe_mul, ← EReal.coe_add, ← EReal.coe_sub, e1532 h, e1535 h, e2277 h, h.vr, h.vi]
  refine congrArg Real.toEReal ?_
  simp only [q.A1_re, q.A1_im, contractRe, contractIm] <;> ring
theorem e2316 (h : b.At p q) : x2316 b p = ↑(((((q.V 1 1 1 0 0 0).re * (q.P1 0 0).re) - ((q.V 1 1 1 0 0 0).im * (q.P1 0 0).im)) + (((q.V 1 1 1 0 0 1).re * (q.P1 0 1).re) - ((q.V 1 1 1 0 0 1).im * (q.P1 0 1).im)))) := by
  simp only [x2316, k0_pay310, mulf_apply, addf_apply, subf_apply, spread_apply, zero_word, ← EReal.coe_mul, ← EReal.coe_add, ← EReal.coe_sub, e1514 h, e1517 h, e1520 h, e1523 h, h.vr, h.vi]
theorem e2317 (h : b.At p q) : x2317 b p = ↑(((((q.V 1 1 1 0 0 0).re * (q.P1 0 0).im) + ((q.V 1 1 1 0 0 0).im * (q.P1 0 0).re)) + (((q.V 1 1 1 0 0 1).re * (q.P1 0 1).im) + ((q.V 1 1 1 0 0 1).im * (q.P1 0 1).re)))) := by
  simp only [x2317, k0_pay311, mulf_apply, addf_apply, subf_apply, spread_apply, zero_word, ← EReal.coe_mul, ← EReal.coe_add, ← EReal.coe_sub, e1514 h, e1517 h, e1520 h, e1523 h, h.vr, h.vi]
theorem e2320 (h : b.At p q) : x2320 b p = ↑((q.V 1 1 1 1 0 0).re) := by
  simp only [x2320, k0_pay312, mulf_apply, addf_apply, subf_apply, spread_apply, zero_word, ← EReal.coe_mul, ← EReal.coe_add, ← EReal.coe_sub, h.vr, h.vi]
theorem e2344 (h : b.At p q) : x2344 b p = ↑((q.A1 1 1 1 0).re) := by
  simp only [x2344, k0_pay313, mulf_apply, addf_apply, subf_apply, spread_apply, zero_word, ← EReal.coe_mul, ← EReal.coe_add, ← EReal.coe_sub, e1526 h, e1529 h, e1532 h, e1535 h, e2316 h, e2320 h, h.vr, h.vi]
  refine congrArg Real.toEReal ?_
  simp only [q.A1_re, q.A1_im, contractRe, contractIm] <;> ring
theorem e2345 (h : b.At p q) : x2345 b p = ↑((q.A1 1 1 1 0).im) := by
  simp only [x2345, k0_pay314, mulf_apply, addf_apply, subf_apply, spread_apply, zero_word, ← EReal.coe_mul, ← EReal.coe_add, ← EReal.coe_sub, e1526 h, e1529 h, e1532 h, e1535 h, e2317 h, h.vr, h.vi]
  refine congrArg Real.toEReal ?_
  simp only [q.A1_re, q.A1_im, contractRe, contractIm] <;> ring
theorem e2352 (h : b.At p q) : x2352 b p = ↑((((q.V 1 1 1 0 1 0).re * (q.P1 0 0).re) - ((q.V 1 1 1 0 1 0).im * (q.P1 0 0).im))) := by
  simp only [x2352, k0_pay315, mulf_apply, addf_apply, subf_apply, spread_apply, zero_word, ← EReal.coe_mul, ← EReal.coe_add, ← EReal.coe_sub, e1514 h, e1517 h, h.vr, h.vi]
theorem e2357 (h : b.At p q) : x2357 b p = ↑((((q.V 1 1 1 0 1 0).re * (q.P1 0 0).im) + ((q.V 1 1 1 0 1 0).im * (q.P1 0 0).re))) := by
  simp only [x2357, k0_pay316, mulf_apply, addf_apply, subf_apply, spread_apply, zero_word, ← EReal.coe_mul, ← EReal.coe_add, ← EReal.coe_sub, e1514 h, e1517 h, h.vr, h.vi]
theorem e2361 (h : b.At p q) : x2361 b p = ↑(((q.V 1 1 1 0 1 1).re * (q.P1 0 1).re)) := by
  simp only [x2361, k0_pay317, mulf_apply, addf_apply, subf_apply, spread_apply, zero_word, ← EReal.coe_mul, ← EReal.coe_add, ← EReal.coe_sub, e1520 h, h.vr, h.vi]
theorem e2362 (h : b.At p q) : x2362 b p = ↑((q.V 1 1 1 0 1 1).im) := by
  simp only [x2362, k0_pay318, mulf_apply, addf_apply, subf_apply, spread_apply, zero_word, ← EReal.coe_mul, ← EReal.coe_add, ← EReal.coe_sub, h.vr, h.vi]
theorem e2398 (h : b.At p q) : x2398 b p = ↑((q.A1 1 1 1 1).re) := by
  simp only [x2398, k0_pay319, mulf_apply, addf_apply, subf_apply, spread_apply, zero_word, ← EReal.coe_mul, ← EReal.coe_add, ← EReal.coe_sub, e1523 h, e1526 h, e1529 h, e1532 h, e1535 h, e2352 h, e2361 h, e2362 h, h.vr, h.vi]
  refine congrArg Real.toEReal ?_
  simp only [q.A1_re, q.A1_im, contractRe, contractIm] <;> ring
theorem e2399 (h : b.At p q) : x2399 b p = ↑((q.A1 1 1 1 1).im) := by
  simp only [x2399, k0_pay320, mulf_apply, addf_apply, subf_apply, spread_apply, zero_word, ← EReal.coe_mul, ← EReal.coe_add, ← EReal.coe_sub, e1520 h, e1523 h, e1526 h, e1529 h, e1532 h, e1535 h, e2357 h, h.vr, h.vi]
  refine congrArg Real.toEReal ?_
  simp only [q.A1_re, q.A1_im, contractRe, contractIm] <;> ring
theorem e2402 (h : b.At p q) : x2402 b p = ↑((((q.A1 0 0 0 0).re * (q.R1 0 0).re) - ((q.A1 0 0 0 0).im * (q.R1 0 0).im))) := by
  simp only [x2402, k0_pay321, mulf_apply, addf_apply, subf_apply, spread_apply, zero_word, ← EReal.coe_mul, ← EReal.coe_add, ← EReal.coe_sub, e1276 h, e1277 h, e1588 h, e1589 h]
theorem e2405 (h : b.At p q) : x2405 b p = ↑((((q.A1 0 0 0 0).re * (q.R1 0 0).im) + ((q.A1 0 0 0 0).im * (q.R1 0 0).re))) := by
  simp only [x2405, k0_pay322, mulf_apply, addf_apply, subf_apply, spread_apply, zero_word, ← EReal.coe_mul, ← EReal.coe_add, ← EReal.coe_sub, e1276 h, e1277 h, e1588 h, e1589 h]
theorem e2408 (h : b.At p q) : x2408 b p = ↑((((q.A1 0 0 0 1).re * (q.R1 1 0).re) - ((q.A1 0 0 0 1).im * (q.R1 1 0).im))) := by
  simp only [x2408, k0_pay323, mulf_apply, addf_apply, subf_apply, spread_apply, zero_word, ← EReal.coe_mul, ← EReal.coe_add, ← EReal.coe_sub, e1432 h, e1433 h, e1642 h, e1643 h]
theorem e2409 (h : b.At p q) : x2409 b p = ↑(((q.A1 0 0 0 1).re * (q.R1 1 0).im)) := by
  simp only [x2409, k0_pay324, mulf_apply, addf_apply, subf_apply, spread_apply, zero_word, ← EReal.coe_mul, ← EReal.coe_add, ← EReal.coe_sub, e1433 h, e1642 h]
theorem e2410 (h : b.At p q) : x2410 b p = ↑(((q.A1 0 0 0 1).im * (q.R1 1 0).re)) := by
  simp only [x2410, k0_pay325, mulf_apply, addf_apply, subf_apply, spread_apply, zero_word, ← EReal.coe_mul, ← EReal.coe_add, ← EReal.coe_sub, e1432 h, e1643 h]
theorem e2412 (h : b.At p q) : x2412 b p = ↑((q.B1 0 0 0 0).re) := by
  simp only [x2412, k0_pay326, mulf_apply, addf_apply, subf_apply, spread_apply, zero_word, ← EReal.coe_mul, ← EReal.coe_add, ← EReal.coe_sub, e2402 h, e2408 h]
  refine congrArg Real.toEReal ?_
  simp only [q.B1_re, q.B1_im] <;> ring
theorem e2413 (h : b.At p q) : x2413 b p = ↑((q.B1 0 0 0 0).im) := by
  simp only [x2413, k0_pay327, mulf_apply, addf_apply, subf_apply, spread_apply, zero_word, ← EReal.coe_mul, ← EReal.coe_add, ← EReal.coe_sub, e2405 h, e2409 h, e2410 h]
  refine congrArg Real.toEReal ?_
  simp only [q.B1_re, q.B1_im] <;> ring
theorem e2426 (h : b.At p q) : x2426 b p = ↑((q.B1 0 0 0 1).re) := by
  simp only [x2426, k0_pay328, mulf_apply, addf_apply, subf_apply, spread_apply, zero_word, ← EReal.coe_mul, ← EReal.coe_add, ← EReal.coe_sub, e1354 h, e1355 h, e1510 h, e1511 h, e1588 h, e1589 h, e1642 h, e1643 h]
  refine congrArg Real.toEReal ?_
  simp only [q.B1_re, q.B1_im] <;> ring
theorem e2427 (h : b.At p q) : x2427 b p = ↑((q.B1 0 0 0 1).im) := by
  simp only [x2427, k0_pay329, mulf_apply, addf_apply, subf_apply, spread_apply, zero_word, ← EReal.coe_mul, ← EReal.coe_add, ← EReal.coe_sub, e1354 h, e1355 h, e1510 h, e1511 h, e1588 h, e1589 h, e1642 h, e1643 h]
  refine congrArg Real.toEReal ?_
  simp only [q.B1_re, q.B1_im] <;> ring
theorem e2440 (h : b.At p q) : x2440 b p = ↑((q.B1 0 0 1 0).re) := by
  simp only [x2440, k0_pay330, mulf_apply, addf_apply, subf_apply, spread_apply, zero_word, ← EReal.coe_mul, ← EReal.coe_add, ← EReal.coe_sub, e1276 h, e1277 h, e1432 h, e1433 h, e1696 h, e1697 h, e1750 h, e1751 h]
  refine congrArg Real.toEReal ?_
  simp only [q.B1_re, q.B1_im] <;> ring
theorem e2441 (h : b.At p q) : x2441 b p = ↑((q.B1 0 0 1 0).im) := by
  simp only [x2441, k0_pay331, mulf_apply, addf_apply, subf_apply, spread_apply, zero_word, ← EReal.coe_mul, ← EReal.coe_add, ← EReal.coe_sub, e1276 h, e1277 h, e1432 h, e1433 h, e1696 h, e1697 h, e1750 h, e1751 h]
  refine congrArg Real.toEReal ?_
  simp only [q.B1_re, q.B1_im] <;> ring
theorem e2454 (h : b.At p q) : x2454 b p = ↑((q.B1 0 0 1 1).re) := by
  simp only [x2454, k0_pay332, mulf_apply, addf_apply, subf_apply, spread_apply, zero_word, ← EReal.coe_mul, ← EReal.coe_add, ← EReal.coe_sub, e1354 h, e1355 h, e1510 h, e1511 h, e1696 h, e1697 h, e1750 h, e1751 h]
  refine congrArg Real.toEReal ?_
  simp only [q.B1_re, q.B1_im] <;> ring
theorem e2455 (h : b.At p q) : x2455 b p = ↑((q.B1 0 0 1 1).im) := by
  simp only [x2455, k0_pay333, mulf_apply, addf_apply, subf_apply, spread_apply, zero_word, ← EReal.coe_mul, ← EReal.coe_add, ← EReal.coe_sub, e1354 h, e1355 h, e1510 h, e1511 h, e1696 h, e1697 h, e1750 h, e1751 h]
  refine congrArg Real.toEReal ?_
  simp only [q.B1_re, q.B1_im] <;> ring
theorem e2468 (h : b.At p q) : x2468 b p = ↑((q.B1 0 1 0 0).re) := by
  simp only [x2468, k0_pay334, mulf_apply, addf_apply, subf_apply, spread_apply, zero_word, ← EReal.coe_mul, ← EReal.coe_add, ← EReal.coe_sub, e1276 h, e1277 h, e1432 h, e1433 h, e1804 h, e1805 h, e1858 h, e1859 h]
  refine congrArg Real.toEReal ?_
  simp only [q.B1_re, q.B1_im] <;> ring
theorem e2469 (h : b.At p q) : x2469 b p = ↑((q.B1 0 1 0 0).im) := by
  simp only [x2469, k0_pay335, mulf_apply, addf_apply, subf_apply, spread_apply, zero_word, ← EReal.coe_mul, ← EReal.coe_add, ← EReal.coe_sub, e1276 h, e1277 h, e1432 h, e1433 h, e1804 h, e1805 h, e1858 h, e1859 h]
  refine congrArg Real.toEReal ?_
  simp only [q.B1_re, q.B1_im] <;> ring
theorem e2470 (h : b.At p q) : x2470 b p = ↑(((q.A1 0 1 0 0).re * (q.R1 0 1).re)) := by
  simp only [x2470, k0_pay336, mulf_apply, addf_apply, subf_apply, spread_apply, zero_word, ← EReal.coe_mul, ← EReal.coe_add, ← EReal.coe_sub, e1354 h, e1804 h]
theorem e2482 (h : b.At p q) : x2482 b p = ↑((q.B1 0 1 0 1).re) := by
  simp only [x2482, k0_pay337, mulf_apply, addf_apply, subf_apply, spread_apply, zero_word, ← EReal.coe_mul, ← EReal.coe_add, ← EReal.coe_sub, e1355 h, e1510 h, e1511 h, e1805 h, e1858 h, e1859 h, e2470 h]
  refine congrArg Real.toEReal ?_
  simp only [q.B1_re, q.B1_im] <;> ring
theorem e2483 (h : b.At p q) : x2483 b p = ↑((q.B1 0 1 0 1).im) := by
  simp only [x2483, k0_pay338, mulf_apply, addf_apply, subf_apply, spread_apply, zero_word, ← EReal.coe_mul, ← EReal.coe_add, ← EReal.coe_sub, e1354 h, e1355 h, e1510 h, e1511 h, e1804 h, e1805 h, e1858 h, e1859 h]
  refine congrArg Real.toEReal ?_
  simp only [q.B1_re, q.B1_im] <;> ring
theorem e2496 (h : b.At p q) : x2496 b p = ↑((q.B1 0 1 1 0).re) := by
  simp only [x2496, k0_pay339, mulf_apply, addf_apply, subf_apply, spread_apply, zero_word, ← EReal.coe_mul, ← EReal.coe_add, ← EReal.coe_sub, e1276 h, e1277 h, e1432 h, e1433 h, e1912 h, e1913 h, e1966 h, e1967 h]
  refine congrArg Real.toEReal ?_
  simp only [q.B1_re, q.B1_im] <;> ring
theorem e2497 (h : b.At p q) : x2497 b p = ↑((q.B1 0 1 1 0).im) := by
  simp only [x2497, k0_pay340, mulf_apply, addf_apply, subf_apply, spread_apply, zero_word, ← EReal.coe_mul, ← EReal.coe_add, ← EReal.coe_sub, e1276 h, e1277 h, e1432 h, e1433 h, e1912 h, e1913 h, e1966 h, e1967 h]
  refine congrArg Real.toEReal ?_
  simp only [q.B1_re, q.B1_im] <;> ring
theorem e2510 (h : b.At p q) : x2510 b p = ↑((q.B1 0 1 1 1).re) := by
  simp only [x2510, k0_pay341, mulf_apply, addf_apply, subf_apply, spread_apply, zero_word, ← EReal.coe_mul, ← EReal.coe_add, ← EReal.coe_sub, e1354 h, e1355 h, e1510 h, e1511 h, e1912 h, e1913 h, e1966 h, e1967 h]
  refine congrArg Real.toEReal ?_
  simp only [q.B1_re, q.B1_im] <;> ring
theorem e2511 (h : b.At p q) : x2511 b p = ↑((q.B1 0 1 1 1).im) := by
  simp only [x2511, k0_pay342, mulf_apply, addf_apply, subf_apply, spread_apply, zero_word, ← EReal.coe_mul, ← EReal.coe_add, ← EReal.coe_sub, e1354 h, e1355 h, e1510 h, e1511 h, e1912 h, e1913 h, e1966 h, e1967 h]
  refine congrArg Real.toEReal ?_
  simp only [q.B1_re, q.B1_im] <;> ring
theorem e2524 (h : b.At p q) : x2524 b p = ↑((q.B1 1 0 0 0).re) := by
  simp only [x2524, k0_pay343, mulf_apply, addf_apply, subf_apply, spread_apply, zero_word, ← EReal.coe_mul, ← EReal.coe_add, ← EReal.coe_sub, e1276 h, e1277 h, e1432 h, e1433 h, e2020 h, e2021 h, e2074 h, e2075 h]
  refine congrArg Real.toEReal ?_
  simp only [q.B1_re, q.B1_im] <;> ring
theorem e2525 (h : b.At p q) : x2525 b p = ↑((q.B1 1 0 0 0).im) := by
  simp only [x2525, k0_pay344, mulf_apply, addf_apply, subf_apply, spread_apply, zero_word, ← EReal.coe_mul, ← EReal.coe_add, ← EReal.coe_sub, e1276 h, e1277 h, e1432 h, e1433 h, e2020 h, e2021 h, e2074 h, e2075 h]
  refine congrArg Real.toEReal ?_
  simp only [q.B1_re, q.B1_im] <;> ring
theorem e2528 (h : b.At p q) : x2528 b p = ↑((((q.A1 1 0 0 0).re * (q.R1 0 1).re) - ((q.A1 1 0 0 0).im * (q.R1 0 1).im))) := by
  simp only [x2528, k0_pay345, mulf_apply, addf_apply, subf_apply, spread_apply, zero_word, ← EReal.coe_mul, ← EReal.coe_add, ← EReal.coe_sub, e1354 h, e1355 h, e2020 h, e2021 h]
theorem e2529 (h : b.At p q) : x2529 b p = ↑(((q.A1 1 0 0 0).re * (q.R1 0 1).im)) := by
  simp only [x2529, k0_pay346, mulf_apply, addf_apply, subf_apply, spread_apply, zero_word, ← EReal.coe_mul, ← EReal.coe_add, ← EReal.coe_sub, e1355 h, e2020 h]
theorem e2530 (h : b.At p q) : x2530 b p = ↑(((q.A1 1 0 0 0).im * (q.R1 0 1).re)) := by
  simp only [x2530, k0_pay347, mulf_apply, addf_apply, subf_apply, spread_apply, zero_word, ← EReal.coe_mul, ← EReal.coe_add, ← EReal.coe_sub, e1354 h, e2021 h]
theorem e2538 (h : b.At p q) : x2538 b p = ↑((q.B1 1 0 0 1).re) := by
  simp only [x2538, k0_pay348, mulf_apply, addf_apply, subf_apply, spread_apply, zero_word, ← EReal.coe_mul, ← EReal.coe_add, ← EReal.coe_sub, e1510 h, e1511 h, e2074 h, e2075 h, e2528 h]
  refine congrArg Real.toEReal ?_
  simp only [q.B1_re, q.B1_im] <;> ring
theorem e2539 (h : b.At p q) : x2539 b p = ↑((q.B1 1 0 0 1).im) := by
  simp only [x2539, k0_pay349, mulf_apply, addf_apply, subf_apply, spread_apply, zero_word, ← EReal.coe_mul, ← EReal.coe_add, ← EReal.coe_sub, e1510 h, e1511 h, e2074 h, e2075 h, e2529 h, e2530 h]
  refine congrArg Real.toEReal ?_
  simp only [q.B1_re, q.B1_im] <;> ring
theorem e2552 (h : b.At p q) : x2552 b p = ↑((q.B1 1 0 1 0).re) := by
  simp only [x2552, k0_pay350, mulf_apply, addf_apply, subf_apply, spread_apply, zero_word, ← EReal.coe_mul, ← EReal.coe_add, ← EReal.coe_sub, e1276 h, e1277 h, e1432 h, e1433 h, e2128 h, e2129 h, e2182 h, e2183 h]
  refine congrArg Real.toEReal ?_
  simp only [q.B1_re, q.B1_im] <;> ring
theorem e2553 (h : b.At p q) : x2553 b p = ↑((q.B1 1 0 1 0).im) := by
  simp only [x2553, k0_pay351, mulf_apply, addf_apply, subf_apply, spread_apply, zero_word, ← EReal.coe_mul, ← EReal.coe_add, ← EReal.coe_sub, e1276 h, e1277 h, e1432 h, e1433 h, e2128 h, e2129 h, e2182 h, e2183 h]
  refine congrArg Real.toEReal ?_
  simp only [q.B1_re, q.B1_im] <;> ring
theorem e2566 (h : b.At p q) : x2566 b p = ↑((q.B1 1 0 1 1).re) := by
  simp only [x2566, k0_pay352, mulf_apply, addf_apply, subf_apply, spread_apply, zero_word, ← EReal.coe_mul, ← EReal.coe_add, ← EReal.coe_sub, e1354 h, e1355 h, e1510 h, e1511 h, e2128 h, e2129 h, e2182 h, e2183 h]
  refine congrArg Real.toEReal ?_
  simp only [q.B1_re, q.B1_im] <;> ring
theorem e2567 (h : b.At p q) : x2567 b p = ↑((q.B1 1 0 1 1).im) := by
  simp only [x2567, k0_pay353, mulf_apply, addf_apply, subf_apply, spread_apply, zero_word, ← EReal.coe_mul, ← EReal.coe_add, ← EReal.coe_sub, e1354 h, e1355 h, e1510 h, e1511 h, e2128 h, e2129 h, e2182 h, e2183 h]
  refine congrArg Real.toEReal ?_
  simp only [q.B1_re, q.B1_im] <;> ring
theorem e2580 (h : b.At p q) : x2580 b p = ↑((q.B1 1 1 0 0).re) := by
  simp only [x2580, k0_pay354, mulf_apply, addf_apply, subf_apply, spread_apply, zero_word, ← EReal.coe_mul, ← EReal.coe_add, ← EReal.coe_sub, e1276 h, e1277 h, e1432 h, e1433 h, e2236 h, e2237 h, e2290 h, e2291 h]
  refine congrArg Real.toEReal ?_
  simp only [q.B1_re, q.B1_im] <;> ring
theorem e2581 (h : b.At p q) : x2581 b p = ↑((q.B1 1 1 0 0).im) := by
  simp only [x2581, k0_pay355, mulf_apply, addf_apply, subf_apply, spread_apply, zero_word, ← EReal.coe_mul, ← EReal.coe_add, ← EReal.coe_sub, e1276 h, e1277 h, e1432 h, e1433 h, e2236 h, e2237 h, e2290 h, e2291 h]
  refine congrArg Real.toEReal ?_
  simp only [q.B1_re, q.B1_im] <;> ring
theorem e2584 (h : b.At p q) : x2584 b p = ↑((((q.A1 1 1 0 0).re * (q.R1 0 1).re) - ((q.A1 1 1 0 0).im * (q.R1 0 1).im))) := by
  simp only [x2584, k0_pay356, mulf_apply, addf_apply, subf_apply, spread_apply, zero_word, ← EReal.coe_mul, ← EReal.coe_add, ← EReal.coe_sub, e1354 h, e1355 h, e2236 h, e2237 h]

end Cert.Stage

end
-- ==== Proof.Values3.lean ====
/- What those values are at a place, by the node whose data lie there (part 3). -/
module

public import proofs.«01_k».proof.Proof.Values2

@[expose] public section

set_option maxHeartbeats 1000000

noncomputable section

namespace Cert.Stage

open Idealize.ShloMosaic Idealize.ShloMosaic.ValueIdx Cert.KernelIdeal Cert.KernelIdeal.Gen Lane

variable {b : Rows} {p : S8x128.Idx} {q : Lane}

theorem e2587 (h : b.At p q) : x2587 b p = ↑((((q.A1 1 1 0 0).re * (q.R1 0 1).im) + ((q.A1 1 1 0 0).im * (q.R1 0 1).re))) := by
  simp only [x2587, k0_pay357, mulf_apply, addf_apply, subf_apply, spread_apply, zero_word, ← EReal.coe_mul, ← EReal.coe_add, ← EReal.coe_sub, e1354 h, e1355 h, e2236 h, e2237 h]
theorem e2590 (h : b.At p q) : x2590 b p = ↑((((q.A1 1 1 0 1).re * (q.R1 1 1).re) - ((q.A1 1 1 0 1).im * (q.R1 1 1).im))) := by
  simp only [x2590, k0_pay358, mulf_apply, addf_apply, subf_apply, spread_apply, zero_word, ← EReal.coe_mul, ← EReal.coe_add, ← EReal.coe_sub, e1510 h, e1511 h, e2290 h, e2291 h]
theorem e2594 (h : b.At p q) : x2594 b p = ↑((q.B1 1 1 0 1).re) := by
  simp only [x2594, k0_pay359, mulf_apply, addf_apply, subf_apply, spread_apply, zero_word, ← EReal.coe_mul, ← EReal.coe_add, ← EReal.coe_sub, e2584 h, e2590 h]
  refine congrArg Real.toEReal ?_
  simp only [q.B1_re, q.B1_im] <;> ring
theorem e2595 (h : b.At p q) : x2595 b p = ↑((q.B1 1 1 0 1).im) := by
  simp only [x2595, k0_pay360, mulf_apply, addf_apply, subf_apply, spread_apply, zero_word, ← EReal.coe_mul, ← EReal.coe_add, ← EReal.coe_sub, e1510 h, e1511 h, e2290 h, e2291 h, e2587 h]
  refine congrArg Real.toEReal ?_
  simp only [q.B1_re, q.B1_im] <;> ring
theorem e2608 (h : b.At p q) : x2608 b p = ↑((q.B1 1 1 1 0).re) := by
  simp only [x2608, k0_pay361, mulf_apply, addf_apply, subf_apply, spread_apply, zero_word, ← EReal.coe_mul, ← EReal.coe_add, ← EReal.coe_sub, e1276 h, e1277 h, e1432 h, e1433 h, e2344 h, e2345 h, e2398 h, e2399 h]
  refine congrArg Real.toEReal ?_
  simp only [q.B1_re, q.B1_im] <;> ring
theorem e2609 (h : b.At p q) : x2609 b p = ↑((q.B1 1 1 1 0).im) := by
  simp only [x2609, k0_pay362, mulf_apply, addf_apply, subf_apply, spread_apply, zero_word, ← EReal.coe_mul, ← EReal.coe_add, ← EReal.coe_sub, e1276 h, e1277 h, e1432 h, e1433 h, e2344 h, e2345 h, e2398 h, e2399 h]
  refine congrArg Real.toEReal ?_
  simp only [q.B1_re, q.B1_im] <;> ring
theorem e2622 (h : b.At p q) : x2622 b p = ↑((q.B1 1 1 1 1).re) := by
  simp only [x2622, k0_pay363, mulf_apply, addf_apply, subf_apply, spread_apply, zero_word, ← EReal.coe_mul, ← EReal.coe_add, ← EReal.coe_sub, e1354 h, e1355 h, e1510 h, e1511 h, e2344 h, e2345 h, e2398 h, e2399 h]
  refine congrArg Real.toEReal ?_
  simp only [q.B1_re, q.B1_im] <;> ring
theorem e2623 (h : b.At p q) : x2623 b p = ↑((q.B1 1 1 1 1).im) := by
  simp only [x2623, k0_pay364, mulf_apply, addf_apply, subf_apply, spread_apply, zero_word, ← EReal.coe_mul, ← EReal.coe_add, ← EReal.coe_sub, e1354 h, e1355 h, e1510 h, e1511 h, e2344 h, e2345 h, e2398 h, e2399 h]
  refine congrArg Real.toEReal ?_
  simp only [q.B1_re, q.B1_im] <;> ring
theorem e2625 (h : b.At p q) : x2625 b p = ↑((0 - (q.A1 0 0 0 0).im)) := by
  simp only [x2625, k0_pay365, mulf_apply, addf_apply, subf_apply, spread_apply, zero_word, ← EReal.coe_mul, ← EReal.coe_add, ← EReal.coe_sub, e1589 h]
theorem e2633 (h : b.At p q) : x2633 b p = ↑((0 - (q.A1 0 0 0 1).im)) := by
  simp only [x2633, k0_pay366, mulf_apply, addf_apply, subf_apply, spread_apply, zero_word, ← EReal.coe_mul, ← EReal.coe_add, ← EReal.coe_sub, e1643 h]
theorem e2640 (h : b.At p q) : x2640 b p = ↑(((((q.B1 0 0 0 0).re * (q.A1 0 0 0 0).re) - ((q.B1 0 0 0 0).im * (0 - (q.A1 0 0 0 0).im))) + (((q.B1 0 0 0 1).re * (q.A1 0 0 0 1).re) - ((q.B1 0 0 0 1).im * (0 - (q.A1 0 0 0 1).im))))) := by
  simp only [x2640, k0_pay365, k0_pay366, k0_pay367, mulf_apply, addf_apply, subf_apply, spread_apply, zero_word, ← EReal.coe_mul, ← EReal.coe_add, ← EReal.coe_sub, e1588 h, e1589 h, e1642 h, e1643 h, e2412 h, e2413 h, e2426 h, e2427 h]
theorem e2641 (h : b.At p q) : x2641 b p = ↑(((((q.B1 0 0 0 0).re * (0 - (q.A1 0 0 0 0).im)) + ((q.B1 0 0 0 0).im * (q.A1 0 0 0 0).re)) + (((q.B1 0 0 0 1).re * (0 - (q.A1 0 0 0 1).im)) + ((q.B1 0 0 0 1).im * (q.A1 0 0 0 1).re)))) := by
  simp only [x2641, k0_pay365, k0_pay366, k0_pay368, mulf_apply, addf_apply, subf_apply, spread_apply, zero_word, ← EReal.coe_mul, ← EReal.coe_add, ← EReal.coe_sub, e1588 h, e1589 h, e1642 h, e1643 h, e2412 h, e2413 h, e2426 h, e2427 h]
theorem e2643 (h : b.At p q) : x2643 b p = ↑((0 - (q.A1 0 1 0 0).im)) := by
  simp only [x2643, k0_pay369, mulf_apply, addf_apply, subf_apply, spread_apply, zero_word, ← EReal.coe_mul, ← EReal.coe_add, ← EReal.coe_sub, e1805 h]
theorem e2646 (h : b.At p q) : x2646 b p = ↑((((q.B1 0 1 0 0).re * (q.A1 0 1 0 0).re) - ((q.B1 0 1 0 0).im * (0 - (q.A1 0 1 0 0).im)))) := by
  simp only [x2646, k0_pay369, k0_pay370, mulf_apply, addf_apply, subf_apply, spread_apply, zero_word, ← EReal.coe_mul, ← EReal.coe_add, ← EReal.coe_sub, e1804 h, e1805 h, e2468 h, e2469 h]
theorem e2647 (h : b.At p q) : x2647 b p = ↑(((q.B1 0 1 0 0).re * (0 - (q.A1 0 1 0 0).im))) := by
  simp only [x2647, k0_pay369, k0_pay371, mulf_apply, addf_apply, subf_apply, spread_apply, zero_word, ← EReal.coe_mul, ← EReal.coe_add, ← EReal.coe_sub, e1805 h, e2468 h]
theorem e2653 (h : b.At p q) : x2653 b p = ↑((0 - (q.A1 0 1 0 1).im)) := by
  simp only [x2653, k0_pay372, mulf_apply, addf_apply, subf_apply, spread_apply, zero_word, ← EReal.coe_mul, ← EReal.coe_add, ← EReal.coe_sub, e1859 h]
theorem e2663 (h : b.At p q) : x2663 b p = ↑((0 - (q.A1 1 0 0 0).im)) := by
  simp only [x2663, k0_pay373, mulf_apply, addf_apply, subf_apply, spread_apply, zero_word, ← EReal.coe_mul, ← EReal.coe_add, ← EReal.coe_sub, e2021 h]
theorem e2673 (h : b.At p q) : x2673 b p = ↑((0 - (q.A1 1 0 0 1).im)) := by
  simp only [x2673, k0_pay374, mulf_apply, addf_apply, subf_apply, spread_apply, zero_word, ← EReal.coe_mul, ← EReal.coe_add, ← EReal.coe_sub, e2075 h]
theorem e2683 (h : b.At p q) : x2683 b p = ↑((0 - (q.A1 1 1 0 0).im)) := by
  simp only [x2683, k0_pay375, mulf_apply, addf_apply, subf_apply, spread_apply, zero_word, ← EReal.coe_mul, ← EReal.coe_add, ← EReal.coe_sub, e2237 h]
theorem e2693 (h : b.At p q) : x2693 b p = ↑((0 - (q.A1 1 1 0 1).im)) := by
  simp only [x2693, k0_pay376, mulf_apply, addf_apply, subf_apply, spread_apply, zero_word, ← EReal.coe_mul, ← EReal.coe_add, ← EReal.coe_sub, e2291 h]
theorem e2700 (h : b.At p q) : x2700 b p = ↑((q.R2 0 0).re) := by
  simp only [x2700, k0_pay372, k0_pay373, k0_pay374, k0_pay375, k0_pay376, k0_pay377, mulf_apply, addf_apply, subf_apply, spread_apply, zero_word, ← EReal.coe_mul, ← EReal.coe_add, ← EReal.coe_sub, e1858 h, e1859 h, e2020 h, e2021 h, e2074 h, e2075 h, e2236 h, e2237 h, e2290 h, e2291 h, e2482 h, e2483 h, e2524 h, e2525 h, e2538 h, e2539 h, e2580 h, e2581 h, e2594 h, e2595 h, e2640 h, e2646 h]
  refine congrArg Real.toEReal ?_
  simp only [q.R2_re, q.R2_im, Fin.sum_univ_two] <;> ring
theorem e2701 (h : b.At p q) : x2701 b p = ↑((q.R2 0 0).im) := by
  simp only [x2701, k0_pay372, k0_pay373, k0_pay374, k0_pay375, k0_pay376, k0_pay378, mulf_apply, addf_apply, subf_apply, spread_apply, zero_word, ← EReal.coe_mul, ← EReal.coe_add, ← EReal.coe_sub, e1804 h, e1858 h, e1859 h, e2020 h, e2021 h, e2074 h, e2075 h, e2236 h, e2237 h, e2290 h, e2291 h, e2469 h, e2482 h, e2483 h, e2524 h, e2525 h, e2538 h, e2539 h, e2580 h, e2581 h, e2594 h, e2595 h, e2641 h, e2647 h]
  refine congrArg Real.toEReal ?_
  simp only [q.R2_re, q.R2_im, Fin.sum_univ_two] <;> ring
theorem e2703 (h : b.At p q) : x2703 b p = ↑((0 - (q.A1 0 0 1 0).im)) := by
  simp only [x2703, k0_pay379, mulf_apply, addf_apply, subf_apply, spread_apply, zero_word, ← EReal.coe_mul, ← EReal.coe_add, ← EReal.coe_sub, e1697 h]
theorem e2711 (h : b.At p q) : x2711 b p = ↑((0 - (q.A1 0 0 1 1).im)) := by
  simp only [x2711, k0_pay380, mulf_apply, addf_apply, subf_apply, spread_apply, zero_word, ← EReal.coe_mul, ← EReal.coe_add, ← EReal.coe_sub, e1751 h]
theorem e2721 (h : b.At p q) : x2721 b p = ↑((0 - (q.A1 0 1 1 0).im)) := by
  simp only [x2721, k0_pay381, mulf_apply, addf_apply, subf_apply, spread_apply, zero_word, ← EReal.coe_mul, ← EReal.coe_add, ← EReal.coe_sub, e1913 h]
theorem e2731 (h : b.At p q) : x2731 b p = ↑((0 - (q.A1 0 1 1 1).im)) := by
  simp only [x2731, k0_pay382, mulf_apply, addf_apply, subf_apply, spread_apply, zero_word, ← EReal.coe_mul, ← EReal.coe_add, ← EReal.coe_sub, e1967 h]
theorem e2741 (h : b.At p q) : x2741 b p = ↑((0 - (q.A1 1 0 1 0).im)) := by
  simp only [x2741, k0_pay383, mulf_apply, addf_apply, subf_apply, spread_apply, zero_word, ← EReal.coe_mul, ← EReal.coe_add, ← EReal.coe_sub, e2129 h]
theorem e2748 (h : b.At p q) : x2748 b p = ↑((((((((q.B1 0 0 0 0).re * (q.A1 0 0 1 0).re) - ((q.B1 0 0 0 0).im * (0 - (q.A1 0 0 1 0).im))) + (((q.B1 0 0 0 1).re * (q.A1 0 0 1 1).re) - ((q.B1 0 0 0 1).im * (0 - (q.A1 0 0 1 1).im)))) + (((q.B1 0 1 0 0).re * (q.A1 0 1 1 0).re) - ((q.B1 0 1 0 0).im * (0 - (q.A1 0 1 1 0).im)))) + (((q.B1 0 1 0 1).re * (q.A1 0 1 1 1).re) - ((q.B1 0 1 0 1).im * (0 - (q.A1 0 1 1 1).im)))) + (((q.B1 1 0 0 0).re * (q.A1 1 0 1 0).re) - ((q.B1 1 0 0 0).im * (0 - (q.A1 1 0 1 0).im))))) := by
  simp only [x2748, k0_pay379, k0_pay380, k0_pay381, k0_pay382, k0_pay383, k0_pay384, mulf_apply, addf_apply, subf_apply, spread_apply, zero_word, ← EReal.coe_mul, ← EReal.coe_add, ← EReal.coe_sub, e1696 h, e1697 h, e1750 h, e1751 h, e1912 h, e1913 h, e1966 h, e1967 h, e2128 h, e2129 h, e2412 h, e2413 h, e2426 h, e2427 h, e2468 h, e2469 h, e2482 h, e2483 h, e2524 h, e2525 h]
theorem e2749 (h : b.At p q) : x2749 b p = ↑((((((((q.B1 0 0 0 0).re * (0 - (q.A1 0 0 1 0).im)) + ((q.B1 0 0 0 0).im * (q.A1 0 0 1 0).re)) + (((q.B1 0 0 0 1).re * (0 - (q.A1 0 0 1 1).im)) + ((q.B1 0 0 0 1).im * (q.A1 0 0 1 1).re))) + (((q.B1 0 1 0 0).re * (0 - (q.A1 0 1 1 0).im)) + ((q.B1 0 1 0 0).im * (q.A1 0 1 1 0).re))) + (((q.B1 0 1 0 1).re * (0 - (q.A1 0 1 1 1).im)) + ((q.B1 0 1 0 1).im * (q.A1 0 1 1 1).re))) + (((q.B1 1 0 0 0).re * (0 - (q.A1 1 0 1 0).im)) + ((q.B1 1 0 0 0).im * (q.A1 1 0 1 0).re)))) := by
  simp only [x2749, k0_pay379, k0_pay380, k0_pay381, k0_pay382, k0_pay383, k0_pay385, mulf_apply, addf_apply, subf_apply, spread_apply, zero_word, ← EReal.coe_mul, ← EReal.coe_add, ← EReal.coe_sub, e1696 h, e1697 h, e1750 h, e1751 h, e1912 h, e1913 h, e1966 h, e1967 h, e2128 h, e2129 h, e2412 h, e2413 h, e2426 h, e2427 h, e2468 h, e2469 h, e2482 h, e2483 h, e2524 h, e2525 h]
theorem e2751 (h : b.At p q) : x2751 b p = ↑((0 - (q.A1 1 0 1 1).im)) := by
  simp only [x2751, k0_pay386, mulf_apply, addf_apply, subf_apply, spread_apply, zero_word, ← EReal.coe_mul, ← EReal.coe_add, ← EReal.coe_sub, e2183 h]
theorem e2754 (h : b.At p q) : x2754 b p = ↑((((q.B1 1 0 0 1).re * (q.A1 1 0 1 1).re) - ((q.B1 1 0 0 1).im * (0 - (q.A1 1 0 1 1).im)))) := by
  simp only [x2754, k0_pay386, k0_pay387, mulf_apply, addf_apply, subf_apply, spread_apply, zero_word, ← EReal.coe_mul, ← EReal.coe_add, ← EReal.coe_sub, e2182 h, e2183 h, e2538 h, e2539 h]
theorem e2755 (h : b.At p q) : x2755 b p = ↑(((q.B1 1 0 0 1).re * (0 - (q.A1 1 0 1 1).im))) := by
  simp only [x2755, k0_pay386, k0_pay388, mulf_apply, addf_apply, subf_apply, spread_apply, zero_word, ← EReal.coe_mul, ← EReal.coe_add, ← EReal.coe_sub, e2183 h, e2538 h]
theorem e2756 (h : b.At p q) : x2756 b p = ↑(((q.B1 1 0 0 1).im * (q.A1 1 0 1 1).re)) := by
  simp only [x2756, k0_pay389, mulf_apply, addf_apply, subf_apply, spread_apply, zero_word, ← EReal.coe_mul, ← EReal.coe_add, ← EReal.coe_sub, e2182 h, e2539 h]
theorem e2761 (h : b.At p q) : x2761 b p = ↑((0 - (q.A1 1 1 1 0).im)) := by
  simp only [x2761, k0_pay390, mulf_apply, addf_apply, subf_apply, spread_apply, zero_word, ← EReal.coe_mul, ← EReal.coe_add, ← EReal.coe_sub, e2345 h]
theorem e2771 (h : b.At p q) : x2771 b p = ↑((0 - (q.A1 1 1 1 1).im)) := by
  simp only [x2771, k0_pay391, mulf_apply, addf_apply, subf_apply, spread_apply, zero_word, ← EReal.coe_mul, ← EReal.coe_add, ← EReal.coe_sub, e2399 h]
theorem e2778 (h : b.At p q) : x2778 b p = ↑((q.R2 0 1).re) := by
  simp only [x2778, k0_pay390, k0_pay391, k0_pay392, mulf_apply, addf_apply, subf_apply, spread_apply, zero_word, ← EReal.coe_mul, ← EReal.coe_add, ← EReal.coe_sub, e2344 h, e2345 h, e2398 h, e2399 h, e2580 h, e2581 h, e2594 h, e2595 h, e2748 h, e2754 h]
  refine congrArg Real.toEReal ?_
  simp only [q.R2_re, q.R2_im, Fin.sum_univ_two] <;> ring
theorem e2779 (h : b.At p q) : x2779 b p = ↑((q.R2 0 1).im) := by
  simp only [x2779, k0_pay390, k0_pay391, k0_pay393, mulf_apply, addf_apply, subf_apply, spread_apply, zero_word, ← EReal.coe_mul, ← EReal.coe_add, ← EReal.coe_sub, e2344 h, e2345 h, e2398 h, e2399 h, e2580 h, e2581 h, e2594 h, e2595 h, e2749 h, e2755 h, e2756 h]
  refine congrArg Real.toEReal ?_
  simp only [q.R2_re, q.R2_im, Fin.sum_univ_two] <;> ring
theorem e2781 (h : b.At p q) : x2781 b p = ↑((0 - (q.A1 0 0 0 0).im)) := by
  simp only [x2781, k0_pay394, mulf_apply, addf_apply, subf_apply, spread_apply, zero_word, ← EReal.coe_mul, ← EReal.coe_add, ← EReal.coe_sub, e1589 h]
theorem e2789 (h : b.At p q) : x2789 b p = ↑((0 - (q.A1 0 0 0 1).im)) := by
  simp only [x2789, k0_pay395, mulf_apply, addf_apply, subf_apply, spread_apply, zero_word, ← EReal.coe_mul, ← EReal.coe_add, ← EReal.coe_sub, e1643 h]
theorem e2799 (h : b.At p q) : x2799 b p = ↑((0 - (q.A1 0 1 0 0).im)) := by
  simp only [x2799, k0_pay396, mulf_apply, addf_apply, subf_apply, spread_apply, zero_word, ← EReal.coe_mul, ← EReal.coe_add, ← EReal.coe_sub, e1805 h]
theorem e2806 (h : b.At p q) : x2806 b p = ↑((((((q.B1 0 0 1 0).re * (q.A1 0 0 0 0).re) - ((q.B1 0 0 1 0).im * (0 - (q.A1 0 0 0 0).im))) + (((q.B1 0 0 1 1).re * (q.A1 0 0 0 1).re) - ((q.B1 0 0 1 1).im * (0 - (q.A1 0 0 0 1).im)))) + (((q.B1 0 1 1 0).re * (q.A1 0 1 0 0).re) - ((q.B1 0 1 1 0).im * (0 - (q.A1 0 1 0 0).im))))) := by
  simp only [x2806, k0_pay394, k0_pay395, k0_pay396, k0_pay397, mulf_apply, addf_apply, subf_apply, spread_apply, zero_word, ← EReal.coe_mul, ← EReal.coe_add, ← EReal.coe_sub, e1588 h, e1589 h, e1642 h, e1643 h, e1804 h, e1805 h, e2440 h, e2441 h, e2454 h, e2455 h, e2496 h, e2497 h]
theorem e2807 (h : b.At p q) : x2807 b p = ↑((((((q.B1 0 0 1 0).re * (0 - (q.A1 0 0 0 0).im)) + ((q.B1 0 0 1 0).im * (q.A1 0 0 0 0).re)) + (((q.B1 0 0 1 1).re * (0 - (q.A1 0 0 0 1).im)) + ((q.B1 0 0 1 1).im * (q.A1 0 0 0 1).re))) + (((q.B1 0 1 1 0).re * (0 - (q.A1 0 1 0 0).im)) + ((q.B1 0 1 1 0).im * (q.A1 0 1 0 0).re)))) := by
  simp only [x2807, k0_pay394, k0_pay395, k0_pay396, k0_pay398, mulf_apply, addf_apply, subf_apply, spread_apply, zero_word, ← EReal.coe_mul, ← EReal.coe_add, ← EReal.coe_sub, e1588 h, e1589 h, e1642 h, e1643 h, e1804 h, e1805 h, e2440 h, e2441 h, e2454 h, e2455 h, e2496 h, e2497 h]
theorem e2809 (h : b.At p q) : x2809 b p = ↑((0 - (q.A1 0 1 0 1).im)) := by
  simp only [x2809, k0_pay399, mulf_apply, addf_apply, subf_apply, spread_apply, zero_word, ← EReal.coe_mul, ← EReal.coe_add, ← EReal.coe_sub, e1859 h]
theorem e2810 (h : b.At p q) : x2810 b p = ↑(((q.B1 0 1 1 1).re * (q.A1 0 1 0 1).re)) := by
  simp only [x2810, k0_pay400, mulf_apply, addf_apply, subf_apply, spread_apply, zero_word, ← EReal.coe_mul, ← EReal.coe_add, ← EReal.coe_sub, e1858 h, e2510 h]
theorem e2819 (h : b.At p q) : x2819 b p = ↑((0 - (q.A1 1 0 0 0).im)) := by
  simp only [x2819, k0_pay401, mulf_apply, addf_apply, subf_apply, spread_apply, zero_word, ← EReal.coe_mul, ← EReal.coe_add, ← EReal.coe_sub, e2021 h]
theorem e2829 (h : b.At p q) : x2829 b p = ↑((0 - (q.A1 1 0 0 1).im)) := by
  simp only [x2829, k0_pay402, mulf_apply, addf_apply, subf_apply, spread_apply, zero_word, ← EReal.coe_mul, ← EReal.coe_add, ← EReal.coe_sub, e2075 h]
theorem e2839 (h : b.At p q) : x2839 b p = ↑((0 - (q.A1 1 1 0 0).im)) := by
  simp only [x2839, k0_pay403, mulf_apply, addf_apply, subf_apply, spread_apply, zero_word, ← EReal.coe_mul, ← EReal.coe_add, ← EReal.coe_sub, e2237 h]
theorem e2849 (h : b.At p q) : x2849 b p = ↑((0 - (q.A1 1 1 0 1).im)) := by
  simp only [x2849, k0_pay404, mulf_apply, addf_apply, subf_apply, spread_apply, zero_word, ← EReal.coe_mul, ← EReal.coe_add, ← EReal.coe_sub, e2291 h]
theorem e2856 (h : b.At p q) : x2856 b p = ↑((q.R2 1 0).re) := by
  simp only [x2856, k0_pay401, k0_pay402, k0_pay403, k0_pay404, k0_pay405, mulf_apply, addf_apply, subf_apply, spread_apply, zero_word, ← EReal.coe_mul, ← EReal.coe_add, ← EReal.coe_sub, e2020 h, e2021 h, e2074 h, e2075 h, e2236 h, e2237 h, e2290 h, e2291 h, e2511 h, e2552 h, e2553 h, e2566 h, e2567 h, e2608 h, e2609 h, e2622 h, e2623 h, e2806 h, e2809 h, e2810 h]
  refine congrArg Real.toEReal ?_
  simp only [q.R2_re, q.R2_im, Fin.sum_univ_two] <;> ring
theorem e2857 (h : b.At p q) : x2857 b p = ↑((q.R2 1 0).im) := by
  simp only [x2857, k0_pay401, k0_pay402, k0_pay403, k0_pay404, k0_pay406, mulf_apply, addf_apply, subf_apply, spread_apply, zero_word, ← EReal.coe_mul, ← EReal.coe_add, ← EReal.coe_sub, e1858 h, e2020 h, e2021 h, e2074 h, e2075 h, e2236 h, e2237 h, e2290 h, e2291 h, e2510 h, e2511 h, e2552 h, e2553 h, e2566 h, e2567 h, e2608 h, e2609 h, e2622 h, e2623 h, e2807 h, e2809 h]
  refine congrArg Real.toEReal ?_
  simp only [q.R2_re, q.R2_im, Fin.sum_univ_two] <;> ring
theorem e2859 (h : b.At p q) : x2859 b p = ↑((0 - (q.A1 0 0 1 0).im)) := by
  simp only [x2859, k0_pay407, mulf_apply, addf_apply, subf_apply, spread_apply, zero_word, ← EReal.coe_mul, ← EReal.coe_add, ← EReal.coe_sub, e1697 h]
theorem e2862 (h : b.At p q) : x2862 b p = ↑((((q.B1 0 0 1 0).re * (q.A1 0 0 1 0).re) - ((q.B1 0 0 1 0).im * (0 - (q.A1 0 0 1 0).im)))) := by
  simp only [x2862, k0_pay407, k0_pay408, mulf_apply, addf_apply, subf_apply, spread_apply, zero_word, ← EReal.coe_mul, ← EReal.coe_add, ← EReal.coe_sub, e1696 h, e1697 h, e2440 h, e2441 h]
theorem e2865 (h : b.At p q) : x2865 b p = ↑((((q.B1 0 0 1 0).re * (0 - (q.A1 0 0 1 0).im)) + ((q.B1 0 0 1 0).im * (q.A1 0 0 1 0).re))) := by
  simp only [x2865, k0_pay407, k0_pay409, mulf_apply, addf_apply, subf_apply, spread_apply, zero_word, ← EReal.coe_mul, ← EReal.coe_add, ← EReal.coe_sub, e1696 h, e1697 h, e2440 h, e2441 h]
theorem e2867 (h : b.At p q) : x2867 b p = ↑((0 - (q.A1 0 0 1 1).im)) := by
  simp only [x2867, k0_pay410, mulf_apply, addf_apply, subf_apply, spread_apply, zero_word, ← EReal.coe_mul, ← EReal.coe_add, ← EReal.coe_sub, e1751 h]
theorem e2877 (h : b.At p q) : x2877 b p = ↑((0 - (q.A1 0 1 1 0).im)) := by
  simp only [x2877, k0_pay411, mulf_apply, addf_apply, subf_apply, spread_apply, zero_word, ← EReal.coe_mul, ← EReal.coe_add, ← EReal.coe_sub, e1913 h]
theorem e2887 (h : b.At p q) : x2887 b p = ↑((0 - (q.A1 0 1 1 1).im)) := by
  simp only [x2887, k0_pay412, mulf_apply, addf_apply, subf_apply, spread_apply, zero_word, ← EReal.coe_mul, ← EReal.coe_add, ← EReal.coe_sub, e1967 h]
theorem e2897 (h : b.At p q) : x2897 b p = ↑((0 - (q.A1 1 0 1 0).im)) := by
  simp only [x2897, k0_pay413, mulf_apply, addf_apply, subf_apply, spread_apply, zero_word, ← EReal.coe_mul, ← EReal.coe_add, ← EReal.coe_sub, e2129 h]
theorem e2907 (h : b.At p q) : x2907 b p = ↑((0 - (q.A1 1 0 1 1).im)) := by
  simp only [x2907, k0_pay414, mulf_apply, addf_apply, subf_apply, spread_apply, zero_word, ← EReal.coe_mul, ← EReal.coe_add, ← EReal.coe_sub, e2183 h]
theorem e2914 (h : b.At p q) : x2914 b p = ↑(((((((((q.B1 0 0 1 0).re * (q.A1 0 0 1 0).re) - ((q.B1 0 0 1 0).im * (0 - (q.A1 0 0 1 0).im))) + (((q.B1 0 0 1 1).re * (q.A1 0 0 1 1).re) - ((q.B1 0 0 1 1).im * (0 - (q.A1 0 0 1 1).im)))) + (((q.B1 0 1 1 0).re * (q.A1 0 1 1 0).re) - ((q.B1 0 1 1 0).im * (0 - (q.A1 0 1 1 0).im)))) + (((q.B1 0 1 1 1).re * (q.A1 0 1 1 1).re) - ((q.B1 0 1 1 1).im * (0 - (q.A1 0 1 1 1).im)))) + (((q.B1 1 0 1 0).re * (q.A1 1 0 1 0).re) - ((q.B1 1 0 1 0).im * (0 - (q.A1 1 0 1 0).im)))) + (((q.B1 1 0 1 1).re * (q.A1 1 0 1 1).re) - ((q.B1 1 0 1 1).im * (0 - (q.A1 1 0 1 1).im))))) := by
  simp only [x2914, k0_pay410, k0_pay411, k0_pay412, k0_pay413, k0_pay414, k0_pay415, mulf_apply, addf_apply, subf_apply, spread_apply, zero_word, ← EReal.coe_mul, ← EReal.coe_add, ← EReal.coe_sub, e1750 h, e1751 h, e1912 h, e1913 h, e1966 h, e1967 h, e2128 h, e2129 h, e2182 h, e2183 h, e2454 h, e2455 h, e2496 h, e2497 h, e2510 h, e2511 h, e2552 h, e2553 h, e2566 h, e2567 h, e2862 h]
theorem e2915 (h : b.At p q) : x2915 b p = ↑(((((((((q.B1 0 0 1 0).re * (0 - (q.A1 0 0 1 0).im)) + ((q.B1 0 0 1 0).im * (q.A1 0 0 1 0).re)) + (((q.B1 0 0 1 1).re * (0 - (q.A1 0 0 1 1).im)) + ((q.B1 0 0 1 1).im * (q.A1 0 0 1 1).re))) + (((q.B1 0 1 1 0).re * (0 - (q.A1 0 1 1 0).im)) + ((q.B1 0 1 1 0).im * (q.A1 0 1 1 0).re))) + (((q.B1 0 1 1 1).re * (0 - (q.A1 0 1 1 1).im)) + ((q.B1 0 1 1 1).im * (q.A1 0 1 1 1).re))) + (((q.B1 1 0 1 0).re * (0 - (q.A1 1 0 1 0).im)) + ((q.B1 1 0 1 0).im * (q.A1 1 0 1 0).re))) + (((q.B1 1 0 1 1).re * (0 - (q.A1 1 0 1 1).im)) + ((q.B1 1 0 1 1).im * (q.A1 1 0 1 1).re)))) := by
  simp only [x2915, k0_pay410, k0_pay411, k0_pay412, k0_pay413, k0_pay414, k0_pay416, mulf_apply, addf_apply, subf_apply, spread_apply, zero_word, ← EReal.coe_mul, ← EReal.coe_add, ← EReal.coe_sub, e1750 h, e1751 h, e1912 h, e1913 h, e1966 h, e1967 h, e2128 h, e2129 h, e2182 h, e2183 h, e2454 h, e2455 h, e2496 h, e2497 h, e2510 h, e2511 h, e2552 h, e2553 h, e2566 h, e2567 h, e2865 h]
theorem e2917 (h : b.At p q) : x2917 b p = ↑((0 - (q.A1 1 1 1 0).im)) := by
  simp only [x2917, k0_pay417, mulf_apply, addf_apply, subf_apply, spread_apply, zero_word, ← EReal.coe_mul, ← EReal.coe_add, ← EReal.coe_sub, e2345 h]
theorem e2918 (h : b.At p q) : x2918 b p = ↑(((q.B1 1 1 1 0).re * (q.A1 1 1 1 0).re)) := by
  simp only [x2918, k0_pay418, mulf_apply, addf_apply, subf_apply, spread_apply, zero_word, ← EReal.coe_mul, ← EReal.coe_add, ← EReal.coe_sub, e2344 h, e2608 h]
theorem e2919 (h : b.At p q) : x2919 b p = ↑(((q.B1 1 1 1 0).im * (0 - (q.A1 1 1 1 0).im))) := by
  simp only [x2919, k0_pay417, k0_pay419, mulf_apply, addf_apply, subf_apply, spread_apply, zero_word, ← EReal.coe_mul, ← EReal.coe_add, ← EReal.coe_sub, e2345 h, e2609 h]
theorem e2927 (h : b.At p q) : x2927 b p = ↑((0 - (q.A1 1 1 1 1).im)) := by
  simp only [x2927, k0_pay420, mulf_apply, addf_apply, subf_apply, spread_apply, zero_word, ← EReal.coe_mul, ← EReal.coe_add, ← EReal.coe_sub, e2399 h]
theorem e2934 (h : b.At p q) : x2934 b p = ↑((q.R2 1 1).re) := by
  simp only [x2934, k0_pay420, k0_pay421, mulf_apply, addf_apply, subf_apply, spread_apply, zero_word, ← EReal.coe_mul, ← EReal.coe_add, ← EReal.coe_sub, e2398 h, e2399 h, e2622 h, e2623 h, e2914 h, e2918 h, e2919 h]
  refine congrArg Real.toEReal ?_
  simp only [q.R2_re, q.R2_im, Fin.sum_univ_two] <;> ring
theorem e2935 (h : b.At p q) : x2935 b p = ↑((q.R2 1 1).im) := by
  simp only [x2935, k0_pay420, k0_pay422, mulf_apply, addf_apply, subf_apply, spread_apply, zero_word, ← EReal.coe_mul, ← EReal.coe_add, ← EReal.coe_sub, e2344 h, e2398 h, e2399 h, e2608 h, e2609 h, e2622 h, e2623 h, e2915 h, e2917 h]
  refine congrArg Real.toEReal ?_
  simp only [q.R2_re, q.R2_im, Fin.sum_univ_two] <;> ring
theorem e2938 (h : b.At p q) : x2938 b p = ↑((q.P2 0 0).re) := by
  simp only [x2938, k0_pay423, mulf_apply, addf_apply, subf_apply, spread_apply, zero_word, ← EReal.coe_mul, ← EReal.coe_add, ← EReal.coe_sub, e25 h, e27 h, e49 h, e51 h]
  refine congrArg Real.toEReal ?_
  simp only [q.P2_re, q.P2_im] <;> ring
theorem e2941 (h : b.At p q) : x2941 b p = ↑((q.P2 0 0).im) := by
  simp only [x2941, k0_pay424, mulf_apply, addf_apply, subf_apply, spread_apply, zero_word, ← EReal.coe_mul, ← EReal.coe_add, ← EReal.coe_sub, e25 h, e27 h, e49 h, e51 h]
  refine congrArg Real.toEReal ?_
  simp only [q.P2_re, q.P2_im] <;> ring
theorem e2944 (h : b.At p q) : x2944 b p = ↑((q.P2 0 1).re) := by
  simp only [x2944, k0_pay425, mulf_apply, addf_apply, subf_apply, spread_apply, zero_word, ← EReal.coe_mul, ← EReal.coe_add, ← EReal.coe_sub, e29 h, e31 h, e49 h, e51 h]
  refine congrArg Real.toEReal ?_
  simp only [q.P2_re, q.P2_im] <;> ring
theorem e2947 (h : b.At p q) : x2947 b p = ↑((q.P2 0 1).im) := by
  simp only [x2947, k0_pay426, mulf_apply, addf_apply, subf_apply, spread_apply, zero_word, ← EReal.coe_mul, ← EReal.coe_add, ← EReal.coe_sub, e29 h, e31 h, e49 h, e51 h]
  refine congrArg Real.toEReal ?_
  simp only [q.P2_re, q.P2_im] <;> ring
theorem e2950 (h : b.At p q) : x2950 b p = ↑((q.P2 1 0).re) := by
  simp only [x2950, k0_pay427, mulf_apply, addf_apply, subf_apply, spread_apply, zero_word, ← EReal.coe_mul, ← EReal.coe_add, ← EReal.coe_sub, e25 h, e27 h, e53 h, e55 h]
  refine congrArg Real.toEReal ?_
  simp only [q.P2_re, q.P2_im] <;> ring
theorem e2953 (h : b.At p q) : x2953 b p = ↑((q.P2 1 0).im) := by
  simp only [x2953, k0_pay428, mulf_apply, addf_apply, subf_apply, spread_apply, zero_word, ← EReal.coe_mul, ← EReal.coe_add, ← EReal.coe_sub, e25 h, e27 h, e53 h, e55 h]
  refine congrArg Real.toEReal ?_
  simp only [q.P2_re, q.P2_im] <;> ring
theorem e2956 (h : b.At p q) : x2956 b p = ↑((q.P2 1 1).re) := by
  simp only [x2956, k0_pay429, mulf_apply, addf_apply, subf_apply, spread_apply, zero_word, ← EReal.coe_mul, ← EReal.coe_add, ← EReal.coe_sub, e29 h, e31 h, e53 h, e55 h]
  refine congrArg Real.toEReal ?_
  simp only [q.P2_re, q.P2_im] <;> ring
theorem e2959 (h : b.At p q) : x2959 b p = ↑((q.P2 1 1).im) := by
  simp only [x2959, k0_pay430, mulf_apply, addf_apply, subf_apply, spread_apply, zero_word, ← EReal.coe_mul, ← EReal.coe_add, ← EReal.coe_sub, e29 h, e31 h, e53 h, e55 h]
  refine congrArg Real.toEReal ?_
  simp only [q.P2_re, q.P2_im] <;> ring
theorem e2966 (h : b.At p q) : x2966 b p = ↑((((q.V 0 0 0 0 0 0).re * (q.P2 0 0).re) - ((q.V 0 0 0 0 0 0).im * (q.P2 0 0).im))) := by
  simp only [x2966, k0_pay423, k0_pay424, k0_pay431, mulf_apply, addf_apply, subf_apply, spread_apply, zero_word, ← EReal.coe_mul, ← EReal.coe_add, ← EReal.coe_sub, e25 h, e27 h, e49 h, e51 h, h.vr, h.vi]
  refine congrArg Real.toEReal ?_
  simp only [q.P2_re, q.P2_im] <;> ring
theorem e2971 (h : b.At p q) : x2971 b p = ↑((((q.V 0 0 0 0 0 0).re * (q.P2 0 0).im) + ((q.V 0 0 0 0 0 0).im * (q.P2 0 0).re))) := by
  simp only [x2971, k0_pay423, k0_pay424, k0_pay432, mulf_apply, addf_apply, subf_apply, spread_apply, zero_word, ← EReal.coe_mul, ← EReal.coe_add, ← EReal.coe_sub, e25 h, e27 h, e49 h, e51 h, h.vr, h.vi]
  refine congrArg Real.toEReal ?_
  simp only [q.P2_re, q.P2_im] <;> ring
theorem e3012 (h : b.At p q) : x3012 b p = ↑((q.A2 0 0 0 0).re) := by
  simp only [x3012, k0_pay433, mulf_apply, addf_apply, subf_apply, spread_apply, zero_word, ← EReal.coe_mul, ← EReal.coe_add, ← EReal.coe_sub, e2944 h, e2947 h, e2950 h, e2953 h, e2956 h, e2959 h, e2966 h, h.vr, h.vi]
  refine congrArg Real.toEReal ?_
  simp only [q.A2_re, q.A2_im, contractRe, contractIm] <;> ring
theorem e3013 (h : b.At p q) : x3013 b p = ↑((q.A2 0 0 0 0).im) := by
  simp only [x3013, k0_pay434, mulf_apply, addf_apply, subf_apply, spread_apply, zero_word, ← EReal.coe_mul, ← EReal.coe_add, ← EReal.coe_sub, e2944 h, e2947 h, e2950 h, e2953 h, e2956 h, e2959 h, e2971 h, h.vr, h.vi]
  refine congrArg Real.toEReal ?_
  simp only [q.A2_re, q.A2_im, contractRe, contractIm] <;> ring
theorem e3052 (h : b.At p q) : x3052 b p = ↑((((((q.V 0 0 0 0 1 0).re * (q.P2 0 0).re) - ((q.V 0 0 0 0 1 0).im * (q.P2 0 0).im)) + (((q.V 0 0 0 0 1 1).re * (q.P2 0 1).re) - ((q.V 0 0 0 0 1 1).im * (q.P2 0 1).im))) + (((q.V 0 0 0 1 1 0).re * (q.P2 1 0).re) - ((q.V 0 0 0 1 1 0).im * (q.P2 1 0).im)))) := by
  simp only [x3052, k0_pay435, mulf_apply, addf_apply, subf_apply, spread_apply, zero_word, ← EReal.coe_mul, ← EReal.coe_add, ← EReal.coe_sub, e2938 h, e2941 h, e2944 h, e2947 h, e2950 h, e2953 h, h.vr, h.vi]
theorem e3053 (h : b.At p q) : x3053 b p = ↑((((((q.V 0 0 0 0 1 0).re * (q.P2 0 0).im) + ((q.V 0 0 0 0 1 0).im * (q.P2 0 0).re)) + (((q.V 0 0 0 0 1 1).re * (q.P2 0 1).im) + ((q.V 0 0 0 0 1 1).im * (q.P2 0 1).re))) + (((q.V 0 0 0 1 1 0).re * (q.P2 1 0).im) + ((q.V 0 0 0 1 1 0).im * (q.P2 1 0).re)))) := by
  simp only [x3053, k0_pay436, mulf_apply, addf_apply, subf_apply, spread_apply, zero_word, ← EReal.coe_mul, ← EReal.coe_add, ← EReal.coe_sub, e2938 h, e2941 h, e2944 h, e2947 h, e2950 h, e2953 h, h.vr, h.vi]
theorem e3066 (h : b.At p q) : x3066 b p = ↑((q.A2 0 0 0 1).re) := by
  simp only [x3066, k0_pay437, mulf_apply, addf_apply, subf_apply, spread_apply, zero_word, ← EReal.coe_mul, ← EReal.coe_add, ← EReal.coe_sub, e2956 h, e2959 h, e3052 h, h.vr, h.vi]
  refine congrArg Real.toEReal ?_
  simp only [q.A2_re, q.A2_im, contractRe, contractIm] <;> ring
theorem e3067 (h : b.At p q) : x3067 b p = ↑((q.A2 0 0 0 1).im) := by
  simp only [x3067, k0_pay438, mulf_apply, addf_apply, subf_apply, spread_apply, zero_word, ← EReal.coe_mul, ← EReal.coe_add, ← EReal.coe_sub, e2956 h, e2959 h, e3053 h, h.vr, h.vi]
  refine congrArg Real.toEReal ?_
  simp only [q.A2_re, q.A2_im, contractRe, contractIm] <;> ring
theorem e3092 (h : b.At p q) : x3092 b p = ↑(((((q.V 0 1 0 0 0 0).re * (q.P2 0 0).re) - ((q.V 0 1 0 0 0 0).im * (q.P2 0 0).im)) + (((q.V 0 1 0 0 0 1).re * (q.P2 0 1).re) - ((q.V 0 1 0 0 0 1).im * (q.P2 0 1).im)))) := by
  simp only [x3092, k0_pay439, mulf_apply, addf_apply, subf_apply, spread_apply, zero_word, ← EReal.coe_mul, ← EReal.coe_add, ← EReal.coe_sub, e2938 h, e2941 h, e2944 h, e2947 h, h.vr, h.vi]
theorem e3093 (h : b.At p q) : x3093 b p = ↑(((((q.V 0 1 0 0 0 0).re * (q.P2 0 0).im) + ((q.V 0 1 0 0 0 0).im * (q.P2 0 0).re)) + (((q.V 0 1 0 0 0 1).re * (q.P2 0 1).im) + ((q.V 0 1 0 0 0 1).im * (q.P2 0 1).re)))) := by
  simp only [x3093, k0_pay440, mulf_apply, addf_apply, subf_apply, spread_apply, zero_word, ← EReal.coe_mul, ← EReal.coe_add, ← EReal.coe_sub, e2938 h, e2941 h, e2944 h, e2947 h, h.vr, h.vi]
theorem e3120 (h : b.At p q) : x3120 b p = ↑((q.A2 0 0 1 0).re) := by
  simp only [x3120, k0_pay441, mulf_apply, addf_apply, subf_apply, spread_apply, zero_word, ← EReal.coe_mul, ← EReal.coe_add, ← EReal.coe_sub, e2950 h, e2953 h, e2956 h, e2959 h, e3092 h, h.vr, h.vi]
  refine congrArg Real.toEReal ?_
  simp only [q.A2_re, q.A2_im, contractRe, contractIm] <;> ring
theorem e3121 (h : b.At p q) : x3121 b p = ↑((q.A2 0 0 1 0).im) := by
  simp only [x3121, k0_pay442, mulf_apply, addf_apply, subf_apply, spread_apply, zero_word, ← EReal.coe_mul, ← EReal.coe_add, ← EReal.coe_sub, e2950 h, e2953 h, e2956 h, e2959 h, e3093 h, h.vr, h.vi]
  refine congrArg Real.toEReal ?_
  simp only [q.A2_re, q.A2_im, contractRe, contractIm] <;> ring
theorem e3128 (h : b.At p q) : x3128 b p = ↑((((q.V 0 1 0 0 1 0).re * (q.P2 0 0).re) - ((q.V 0 1 0 0 1 0).im * (q.P2 0 0).im))) := by
  simp only [x3128, k0_pay443, mulf_apply, addf_apply, subf_apply, spread_apply, zero_word, ← EReal.coe_mul, ← EReal.coe_add, ← EReal.coe_sub, e2938 h, e2941 h, h.vr, h.vi]
theorem e3133 (h : b.At p q) : x3133 b p = ↑((((q.V 0 1 0 0 1 0).re * (q.P2 0 0).im) + ((q.V 0 1 0 0 1 0).im * (q.P2 0 0).re))) := by
  simp only [x3133, k0_pay444, mulf_apply, addf_apply, subf_apply, spread_apply, zero_word, ← EReal.coe_mul, ← EReal.coe_add, ← EReal.coe_sub, e2938 h, e2941 h, h.vr, h.vi]
theorem e3174 (h : b.At p q) : x3174 b p = ↑((q.A2 0 0 1 1).re) := by
  simp only [x3174, k0_pay445, mulf_apply, addf_apply, subf_apply, spread_apply, zero_word, ← EReal.coe_mul, ← EReal.coe_add, ← EReal.coe_sub, e2944 h, e2947 h, e2950 h, e2953 h, e2956 h, e2959 h, e3128 h, h.vr, h.vi]
  refine congrArg Real.toEReal ?_
  simp only [q.A2_re, q.A2_im, contractRe, contractIm] <;> ring
theorem e3175 (h : b.At p q) : x3175 b p = ↑((q.A2 0 0 1 1).im) := by
  simp only [x3175, k0_pay446, mulf_apply, addf_apply, subf_apply, spread_apply, zero_word, ← EReal.coe_mul, ← EReal.coe_add, ← EReal.coe_sub, e2944 h, e2947 h, e2950 h, e2953 h, e2956 h, e2959 h, e3133 h, h.vr, h.vi]
  refine congrArg Real.toEReal ?_
  simp only [q.A2_re, q.A2_im, contractRe, contractIm] <;> ring
theorem e3214 (h : b.At p q) : x3214 b p = ↑((((((q.V 0 0 1 0 0 0).re * (q.P2 0 0).re) - ((q.V 0 0 1 0 0 0).im * (q.P2 0 0).im)) + (((q.V 0 0 1 0 0 1).re * (q.P2 0 1).re) - ((q.V 0 0 1 0 0 1).im * (q.P2 0 1).im))) + (((q.V 0 0 1 1 0 0).re * (q.P2 1 0).re) - ((q.V 0 0 1 1 0 0).im * (q.P2 1 0).im)))) := by
  simp only [x3214, k0_pay447, mulf_apply, addf_apply, subf_apply, spread_apply, zero_word, ← EReal.coe_mul, ← EReal.coe_add, ← EReal.coe_sub, e2938 h, e2941 h, e2944 h, e2947 h, e2950 h, e2953 h, h.vr, h.vi]
theorem e3215 (h : b.At p q) : x3215 b p = ↑((((((q.V 0 0 1 0 0 0).re * (q.P2 0 0).im) + ((q.V 0 0 1 0 0 0).im * (q.P2 0 0).re)) + (((q.V 0 0 1 0 0 1).re * (q.P2 0 1).im) + ((q.V 0 0 1 0 0 1).im * (q.P2 0 1).re))) + (((q.V 0 0 1 1 0 0).re * (q.P2 1 0).im) + ((q.V 0 0 1 1 0 0).im * (q.P2 1 0).re)))) := by
  simp only [x3215, k0_pay448, mulf_apply, addf_apply, subf_apply, spread_apply, zero_word, ← EReal.coe_mul, ← EReal.coe_add, ← EReal.coe_sub, e2938 h, e2941 h, e2944 h, e2947 h, e2950 h, e2953 h, h.vr, h.vi]
theorem e3218 (h : b.At p q) : x3218 b p = ↑((q.V 0 0 1 1 0 1).re) := by
  simp only [x3218, k0_pay449, mulf_apply, addf_apply, subf_apply, spread_apply, zero_word, ← EReal.coe_mul, ← EReal.coe_add, ← EReal.coe_sub, h.vr, h.vi]
theorem e3228 (h : b.At p q) : x3228 b p = ↑((q.A2 0 1 0 0).re) := by
  simp only [x3228, k0_pay450, mulf_apply, addf_apply, subf_apply, spread_apply, zero_word, ← EReal.coe_mul, ← EReal.coe_add, ← EReal.coe_sub, e2956 h, e2959 h, e3214 h, e3218 h, h.vr, h.vi]
  refine congrArg Real.toEReal ?_
  simp only [q.A2_re, q.A2_im, contractRe, contractIm] <;> ring
theorem e3229 (h : b.At p q) : x3229 b p = ↑((q.A2 0 1 0 0).im) := by
  simp only [x3229, k0_pay451, mulf_apply, addf_apply, subf_apply, spread_apply, zero_word, ← EReal.coe_mul, ← EReal.coe_add, ← EReal.coe_sub, e2956 h, e2959 h, e3215 h, h.vr, h.vi]
  refine congrArg Real.toEReal ?_
  simp only [q.A2_re, q.A2_im, contractRe, contractIm] <;> ring
theorem e3254 (h : b.At p q) : x3254 b p = ↑(((((q.V 0 0 1 0 1 0).re * (q.P2 0 0).re) - ((q.V 0 0 1 0 1 0).im * (q.P2 0 0).im)) + (((q.V 0 0 1 0 1 1).re * (q.P2 0 1).re) - ((q.V 0 0 1 0 1 1).im * (q.P2 0 1).im)))) := by
  simp only [x3254, k0_pay452, mulf_apply, addf_apply, subf_apply, spread_apply, zero_word, ← EReal.coe_mul, ← EReal.coe_add, ← EReal.coe_sub, e2938 h, e2941 h, e2944 h, e2947 h, h.vr, h.vi]
theorem e3255 (h : b.At p q) : x3255 b p = ↑(((((q.V 0 0 1 0 1 0).re * (q.P2 0 0).im) + ((q.V 0 0 1 0 1 0).im * (q.P2 0 0).re)) + (((q.V 0 0 1 0 1 1).re * (q.P2 0 1).im) + ((q.V 0 0 1 0 1 1).im * (q.P2 0 1).re)))) := by
  simp only [x3255, k0_pay453, mulf_apply, addf_apply, subf_apply, spread_apply, zero_word, ← EReal.coe_mul, ← EReal.coe_add, ← EReal.coe_sub, e2938 h, e2941 h, e2944 h, e2947 h, h.vr, h.vi]
theorem e3259 (h : b.At p q) : x3259 b p = ↑(((q.V 0 0 1 1 1 0).re * (q.P2 1 0).re)) := by
  simp only [x3259, k0_pay454, mulf_apply, addf_apply, subf_apply, spread_apply, zero_word, ← EReal.coe_mul, ← EReal.coe_add, ← EReal.coe_sub, e2950 h, h.vr, h.vi]
theorem e3260 (h : b.At p q) : x3260 b p = ↑((q.V 0 0 1 1 1 0).im) := by
  simp only [x3260, k0_pay455, mulf_apply, addf_apply, subf_apply, spread_apply, zero_word, ← EReal.coe_mul, ← EReal.coe_add, ← EReal.coe_sub, h.vr, h.vi]
theorem e3282 (h : b.At p q) : x3282 b p = ↑((q.A2 0 1 0 1).re) := by
  simp only [x3282, k0_pay456, mulf_apply, addf_apply, subf_apply, spread_apply, zero_word, ← EReal.coe_mul, ← EReal.coe_add, ← EReal.coe_sub, e2953 h, e2956 h, e2959 h, e3254 h, e3259 h, e3260 h, h.vr, h.vi]
  refine congrArg Real.toEReal ?_
  simp only [q.A2_re, q.A2_im, contractRe, contractIm] <;> ring
theorem e3283 (h : b.At p q) : x3283 b p = ↑((q.A2 0 1 0 1).im) := by
  simp only [x3283, k0_pay457, mulf_apply, addf_apply, subf_apply, spread_apply, zero_word, ← EReal.coe_mul, ← EReal.coe_add, ← EReal.coe_sub, e2950 h, e2953 h, e2956 h, e2959 h, e3255 h, h.vr, h.vi]
  refine congrArg Real.toEReal ?_
  simp only [q.A2_re, q.A2_im, contractRe, contractIm] <;> ring
theorem e3290 (h : b.At p q) : x3290 b p = ↑((((q.V 0 1 1 0 0 0).re * (q.P2 0 0).re) - ((q.V 0 1 1 0 0 0).im * (q.P2 0 0).im))) := by
  simp only [x3290, k0_pay458, mulf_apply, addf_apply, subf_apply, spread_apply, zero_word, ← EReal.coe_mul, ← EReal.coe_add, ← EReal.coe_sub, e2938 h, e2941 h, h.vr, h.vi]
theorem e3295 (h : b.At p q) : x3295 b p = ↑((((q.V 0 1 1 0 0 0).re * (q.P2 0 0).im) + ((q.V 0 1 1 0 0 0).im * (q.P2 0 0).re))) := by
  simp only [x3295, k0_pay459, mulf_apply, addf_apply, subf_apply, spread_apply, zero_word, ← EReal.coe_mul, ← EReal.coe_add, ← EReal.coe_sub, e2938 h, e2941 h, h.vr, h.vi]
theorem e3302 (h : b.At p q) : x3302 b p = ↑((((q.V 0 1 1 0 0 1).re * (q.P2 0 1).re) - ((q.V 0 1 1 0 0 1).im * (q.P2 0 1).im))) := by
  simp only [x3302, k0_pay460, mulf_apply, addf_apply, subf_apply, spread_apply, zero_word, ← EReal.coe_mul, ← EReal.coe_add, ← EReal.coe_sub, e2944 h, e2947 h, h.vr, h.vi]
theorem e3336 (h : b.At p q) : x3336 b p = ↑((q.A2 0 1 1 0).re) := by
  simp only [x3336, k0_pay461, mulf_apply, addf_apply, subf_apply, spread_apply, zero_word, ← EReal.coe_mul, ← EReal.coe_add, ← EReal.coe_sub, e2950 h, e2953 h, e2956 h, e2959 h, e3290 h, e3302 h, h.vr, h.vi]
  refine congrArg Real.toEReal ?_
  simp only [q.A2_re, q.A2_im, contractRe, contractIm] <;> ring
theorem e3337 (h : b.At p q) : x3337 b p = ↑((q.A2 0 1 1 0).im) := by
  simp only [x3337, k0_pay462, mulf_apply, addf_apply, subf_apply, spread_apply, zero_word, ← EReal.coe_mul, ← EReal.coe_add, ← EReal.coe_sub, e2944 h, e2947 h, e2950 h, e2953 h, e2956 h, e2959 h, e3295 h, h.vr, h.vi]
  refine congrArg Real.toEReal ?_
  simp only [q.A2_re, q.A2_im, contractRe, contractIm] <;> ring
theorem e3344 (h : b.At p q) : x3344 b p = ↑((((q.V 0 1 1 0 1 0).re * (q.P2 0 0).re) - ((q.V 0 1 1 0 1 0).im * (q.P2 0 0).im))) := by
  simp only [x3344, k0_pay463, mulf_apply, addf_apply, subf_apply, spread_apply, zero_word, ← EReal.coe_mul, ← EReal.coe_add, ← EReal.coe_sub, e2938 h, e2941 h, h.vr, h.vi]
theorem e3376 (h : b.At p q) : x3376 b p = ↑((((((q.V 0 1 1 0 1 0).re * (q.P2 0 0).re) - ((q.V 0 1 1 0 1 0).im * (q.P2 0 0).im)) + (((q.V 0 1 1 0 1 1).re * (q.P2 0 1).re) - ((q.V 0 1 1 0 1 1).im * (q.P2 0 1).im))) + (((q.V 0 1 1 1 1 0).re * (q.P2 1 0).re) - ((q.V 0 1 1 1 1 0).im * (q.P2 1 0).im)))) := by
  simp only [x3376, k0_pay464, mulf_apply, addf_apply, subf_apply, spread_apply, zero_word, ← EReal.coe_mul, ← EReal.coe_add, ← EReal.coe_sub, e2944 h, e2947 h, e2950 h, e2953 h, e3344 h, h.vr, h.vi]
theorem e3377 (h : b.At p q) : x3377 b p = ↑((((((q.V 0 1 1 0 1 0).re * (q.P2 0 0).im) + ((q.V 0 1 1 0 1 0).im * (q.P2 0 0).re)) + (((q.V 0 1 1 0 1 1).re * (q.P2 0 1).im) + ((q.V 0 1 1 0 1 1).im * (q.P2 0 1).re))) + (((q.V 0 1 1 1 1 0).re * (q.P2 1 0).im) + ((q.V 0 1 1 1 1 0).im * (q.P2 1 0).re)))) := by
  simp only [x3377, k0_pay465, mulf_apply, addf_apply, subf_apply, spread_apply, zero_word, ← EReal.coe_mul, ← EReal.coe_add, ← EReal.coe_sub, e2938 h, e2941 h, e2944 h, e2947 h, e2950 h, e2953 h, h.vr, h.vi]
theorem e3384 (h : b.At p q) : x3384 b p = ↑((((q.V 0 1 1 1 1 1).re * (q.P2 1 1).re) - ((q.V 0 1 1 1 1 1).im * (q.P2 1 1).im))) := by
  simp only [x3384, k0_pay466, mulf_apply, addf_apply, subf_apply, spread_apply, zero_word, ← EReal.coe_mul, ← EReal.coe_add, ← EReal.coe_sub, e2956 h, e2959 h, h.vr, h.vi]
theorem e3386 (h : b.At p q) : x3386 b p = ↑(((q.V 0 1 1 1 1 1).re * (q.P2 1 1).im)) := by
  simp only [x3386, k0_pay467, mulf_apply, addf_apply, subf_apply, spread_apply, zero_word, ← EReal.coe_mul, ← EReal.coe_add, ← EReal.coe_sub, e2959 h, h.vr, h.vi]
theorem e3390 (h : b.At p q) : x3390 b p = ↑((q.A2 0 1 1 1).re) := by
  simp only [x3390, k0_pay468, mulf_apply, addf_apply, subf_apply, spread_apply, zero_word, ← EReal.coe_mul, ← EReal.coe_add, ← EReal.coe_sub, e3376 h, e3384 h]
  refine congrArg Real.toEReal ?_
  simp only [q.A2_re, q.A2_im, contractRe, contractIm] <;> ring
theorem e3391 (h : b.At p q) : x3391 b p = ↑((q.A2 0 1 1 1).im) := by
  simp only [x3391, k0_pay469, mulf_apply, addf_apply, subf_apply, spread_apply, zero_word, ← EReal.coe_mul, ← EReal.coe_add, ← EReal.coe_sub, e2956 h, e3377 h, e3386 h, h.vr, h.vi]
  refine congrArg Real.toEReal ?_
  simp only [q.A2_re, q.A2_im, contractRe, contractIm] <;> ring
theorem e3416 (h : b.At p q) : x3416 b p = ↑(((((q.V 1 0 0 0 0 0).re * (q.P2 0 0).re) - ((q.V 1 0 0 0 0 0).im * (q.P2 0 0).im)) + (((q.V 1 0 0 0 0 1).re * (q.P2 0 1).re) - ((q.V 1 0 0 0 0 1).im * (q.P2 0 1).im)))) := by
  simp only [x3416, k0_pay470, mulf_apply, addf_apply, subf_apply, spread_apply, zero_word, ← EReal.coe_mul, ← EReal.coe_add, ← EReal.coe_sub, e2938 h, e2941 h, e2944 h, e2947 h, h.vr, h.vi]
theorem e3417 (h : b.At p q) : x3417 b p = ↑(((((q.V 1 0 0 0 0 0).re * (q.P2 0 0).im) + ((q.V 1 0 0 0 0 0).im * (q.P2 0 0).re)) + (((q.V 1 0 0 0 0 1).re * (q.P2 0 1).im) + ((q.V 1 0 0 0 0 1).im * (q.P2 0 1).re)))) := by
  simp only [x3417, k0_pay471, mulf_apply, addf_apply, subf_apply, spread_apply, zero_word, ← EReal.coe_mul, ← EReal.coe_add, ← EReal.coe_sub, e2938 h, e2941 h, e2944 h, e2947 h, h.vr, h.vi]
theorem e3424 (h : b.At p q) : x3424 b p = ↑((((q.V 1 0 0 1 0 0).re * (q.P2 1 0).re) - ((q.V 1 0 0 1 0 0).im * (q.P2 1 0).im))) := by
  simp only [x3424, k0_pay472, mulf_apply, addf_apply, subf_apply, spread_apply, zero_word, ← EReal.coe_mul, ← EReal.coe_add, ← EReal.coe_sub, e2950 h, e2953 h, h.vr, h.vi]
theorem e3426 (h : b.At p q) : x3426 b p = ↑(((q.V 1 0 0 1 0 0).re * (q.P2 1 0).im)) := by
  simp only [x3426, k0_pay473, mulf_apply, addf_apply, subf_apply, spread_apply, zero_word, ← EReal.coe_mul, ← EReal.coe_add, ← EReal.coe_sub, e2953 h, h.vr, h.vi]
theorem e3428 (h : b.At p q) : x3428 b p = ↑(((q.V 1 0 0 1 0 0).im * (q.P2 1 0).re)) := by
  simp only [x3428, k0_pay474, mulf_apply, addf_apply, subf_apply, spread_apply, zero_word, ← EReal.coe_mul, ← EReal.coe_add, ← EReal.coe_sub, e2950 h, h.vr, h.vi]
theorem e3444 (h : b.At p q) : x3444 b p = ↑((q.A2 1 0 0 0).re) := by
  simp only [x3444, k0_pay475, mulf_apply, addf_apply, subf_apply, spread_apply, zero_word, ← EReal.coe_mul, ← EReal.coe_add, ← EReal.coe_sub, e2956 h, e2959 h, e3416 h, e3424 h, h.vr, h.vi]
  refine congrArg Real.toEReal ?_
  simp only [q.A2_re, q.A2_im, contractRe, contractIm] <;> ring
theorem e3445 (h : b.At p q) : x3445 b p = ↑((q.A2 1 0 0 0).im) := by
  simp only [x3445, k0_pay476, mulf_apply, addf_apply, subf_apply, spread_apply, zero_word, ← EReal.coe_mul, ← EReal.coe_add, ← EReal.coe_sub, e2956 h, e2959 h, e3417 h, e3426 h, e3428 h, h.vr, h.vi]
  refine congrArg Real.toEReal ?_
  simp only [q.A2_re, q.A2_im, contractRe, contractIm] <;> ring
theorem e3457 (h : b.At p q) : x3457 b p = ↑((((q.V 1 0 0 0 1 0).re * (q.P2 0 0).im) + ((q.V 1 0 0 0 1 0).im * (q.P2 0 0).re))) := by
  simp only [x3457, k0_pay477, mulf_apply, addf_apply, subf_apply, spread_apply, zero_word, ← EReal.coe_mul, ← EReal.coe_add, ← EReal.coe_sub, e2938 h, e2941 h, h.vr, h.vi]
theorem e3469 (h : b.At p q) : x3469 b p = ↑((((q.V 1 0 0 0 1 1).re * (q.P2 0 1).im) + ((q.V 1 0 0 0 1 1).im * (q.P2 0 1).re))) := by
  simp only [x3469, k0_pay478, mulf_apply, addf_apply, subf_apply, spread_apply, zero_word, ← EReal.coe_mul, ← EReal.coe_add, ← EReal.coe_sub, e2944 h, e2947 h, h.vr, h.vi]
theorem e3470 (h : b.At p q) : x3470 b p = ↑(((((q.V 1 0 0 0 1 0).re * (q.P2 0 0).re) - ((q.V 1 0 0 0 1 0).im * (q.P2 0 0).im)) + (((q.V 1 0 0 0 1 1).re * (q.P2 0 1).re) - ((q.V 1 0 0 0 1 1).im * (q.P2 0 1).im)))) := by
  simp only [x3470, k0_pay479, mulf_apply, addf_apply, subf_apply, spread_apply, zero_word, ← EReal.coe_mul, ← EReal.coe_add, ← EReal.coe_sub, e2938 h, e2941 h, e2944 h, e2947 h, h.vr, h.vi]
theorem e3498 (h : b.At p q) : x3498 b p = ↑((q.A2 1 0 0 1).re) := by
  simp only [x3498, k0_pay480, mulf_apply, addf_apply, subf_apply, spread_apply, zero_word, ← EReal.coe_mul, ← EReal.coe_add, ← EReal.coe_sub, e2950 h, e2953 h, e2956 h, e2959 h, e3470 h, h.vr, h.vi]
  refine congrArg Real.toEReal ?_
  simp only [q.A2_re, q.A2_im, contractRe, contractIm] <;> ring
theorem e3499 (h : b.At p q) : x3499 b p = ↑((q.A2 1 0 0 1).im) := by
  simp only [x3499, k0_pay481, mulf_apply, addf_apply, subf_apply, spread_apply, zero_word, ← EReal.coe_mul, ← EReal.coe_add, ← EReal.coe_sub, e2950 h, e2953 h, e2956 h, e2959 h, e3457 h, e3469 h, h.vr, h.vi]
  refine congrArg Real.toEReal ?_
  simp only [q.A2_re, q.A2_im, contractRe, contractIm] <;> ring
theorem e3506 (h : b.At p q) : x3506 b p = ↑((((q.V 1 1 0 0 0 0).re * (q.P2 0 0).re) - ((q.V 1 1 0 0 0 0).im * (q.P2 0 0).im))) := by
  simp only [x3506, k0_pay482, mulf_apply, addf_apply, subf_apply, spread_apply, zero_word, ← EReal.coe_mul, ← EReal.coe_add, ← EReal.coe_sub, e2938 h, e2941 h, h.vr, h.vi]
theorem e3511 (h : b.At p q) : x3511 b p = ↑((((q.V 1 1 0 0 0 0).re * (q.P2 0 0).im) + ((q.V 1 1 0 0 0 0).im * (q.P2 0 0).re))) := by
  simp only [x3511, k0_pay483, mulf_apply, addf_apply, subf_apply, spread_apply, zero_word, ← EReal.coe_mul, ← EReal.coe_add, ← EReal.coe_sub, e2938 h, e2941 h, h.vr, h.vi]
theorem e3552 (h : b.At p q) : x3552 b p = ↑((q.A2 1 0 1 0).re) := by
  simp only [x3552, k0_pay484, mulf_apply, addf_apply, subf_apply, spread_apply, zero_word, ← EReal.coe_mul, ← EReal.coe_add, ← EReal.coe_sub, e2944 h, e2947 h, e2950 h, e2953 h, e2956 h, e2959 h, e3506 h, h.vr, h.vi]
  refine congrArg Real.toEReal ?_
  simp only [q.A2_re, q.A2_im, contractRe, contractIm] <;> ring
theorem e3553 (h : b.At p q) : x3553 b p = ↑((q.A2 1 0 1 0).im) := by
  simp only [x3553, k0_pay485, mulf_apply, addf_apply, subf_apply, spread_apply, zero_word, ← EReal.coe_mul, ← EReal.coe_add, ← EReal.coe_sub, e2944 h, e2947 h, e2950 h, e2953 h, e2956 h, e2959 h, e3511 h, h.vr, h.vi]
  refine congrArg Real.toEReal ?_
  simp only [q.A2_re, q.A2_im, contractRe, contractIm] <;> ring
theorem e3592 (h : b.At p q) : x3592 b p = ↑((((((q.V 1 1 0 0 1 0).re * (q.P2 0 0).re) - ((q.V 1 1 0 0 1 0).im * (q.P2 0 0).im)) + (((q.V 1 1 0 0 1 1).re * (q.P2 0 1).re) - ((q.V 1 1 0 0 1 1).im * (q.P2 0 1).im))) + (((q.V 1 1 0 1 1 0).re * (q.P2 1 0).re) - ((q.V 1 1 0 1 1 0).im * (q.P2 1 0).im)))) := by
  simp only [x3592, k0_pay486, mulf_apply, addf_apply, subf_apply, spread_apply, zero_word, ← EReal.coe_mul, ← EReal.coe_add, ← EReal.coe_sub, e2938 h, e2941 h, e2944 h, e2947 h, e2950 h, e2953 h, h.vr, h.vi]
theorem e3593 (h : b.At p q) : x3593 b p = ↑((((((q.V 1 1 0 0 1 0).re * (q.P2 0 0).im) + ((q.V 1 1 0 0 1 0).im * (q.P2 0 0).re)) + (((q.V 1 1 0 0 1 1).re * (q.P2 0 1).im) + ((q.V 1 1 0 0 1 1).im * (q.P2 0 1).re))) + (((q.V 1 1 0 1 1 0).re * (q.P2 1 0).im) + ((q.V 1 1 0 1 1 0).im * (q.P2 1 0).re)))) := by
  simp only [x3593, k0_pay487, mulf_apply, addf_apply, subf_apply, spread_apply, zero_word, ← EReal.coe_mul, ← EReal.coe_add, ← EReal.coe_sub, e2938 h, e2941 h, e2944 h, e2947 h, e2950 h, e2953 h, h.vr, h.vi]
theorem e3606 (h : b.At p q) : x3606 b p = ↑((q.A2 1 0 1 1).re) := by
  simp only [x3606, k0_pay488, mulf_apply, addf_apply, subf_apply, spread_apply, zero_word, ← EReal.coe_mul, ← EReal.coe_add, ← EReal.coe_sub, e2956 h, e2959 h, e3592 h, h.vr, h.vi]
  refine congrArg Real.toEReal ?_
  simp only [q.A2_re, q.A2_im, contractRe, contractIm] <;> ring
theorem e3607 (h : b.At p q) : x3607 b p = ↑((q.A2 1 0 1 1).im) := by
  simp only [x3607, k0_pay489, mulf_apply, addf_apply, subf_apply, spread_apply, zero_word, ← EReal.coe_mul, ← EReal.coe_add, ← EReal.coe_sub, e2956 h, e2959 h, e3593 h, h.vr, h.vi]
  refine congrArg Real.toEReal ?_
  simp only [q.A2_re, q.A2_im, contractRe, contractIm] <;> ring
theorem e3632 (h : b.At p q) : x3632 b p = ↑(((((q.V 1 0 1 0 0 0).re * (q.P2 0 0).re) - ((q.V 1 0 1 0 0 0).im * (q.P2 0 0).im)) + (((q.V 1 0 1 0 0 1).re * (q.P2 0 1).re) - ((q.V 1 0 1 0 0 1).im * (q.P2 0 1).im)))) := by
  simp only [x3632, k0_pay490, mulf_apply, addf_apply, subf_apply, spread_apply, zero_word, ← EReal.coe_mul, ← EReal.coe_add, ← EReal.coe_sub, e2938 h, e2941 h, e2944 h, e2947 h, h.vr, h.vi]
theorem e3633 (h : b.At p q) : x3633 b p = ↑(((((q.V 1 0 1 0 0 0).re * (q.P2 0 0).im) + ((q.V 1 0 1 0 0 0).im * (q.P2 0 0).re)) + (((q.V 1 0 1 0 0 1).re * (q.P2 0 1).im) + ((q.V 1 0 1 0 0 1).im * (q.P2 0 1).re)))) := by
  simp only [x3633, k0_pay491, mulf_apply, addf_apply, subf_apply, spread_apply, zero_word, ← EReal.coe_mul, ← EReal.coe_add, ← EReal.coe_sub, e2938 h, e2941 h, e2944 h, e2947 h, h.vr, h.vi]
theorem e3660 (h : b.At p q) : x3660 b p = ↑((q.A2 1 1 0 0).re) := by
  simp only [x3660, k0_pay492, mulf_apply, addf_apply, subf_apply, spread_apply, zero_word, ← EReal.coe_mul, ← EReal.coe_add, ← EReal.coe_sub, e2950 h, e2953 h, e2956 h, e2959 h, e3632 h, h.vr, h.vi]
  refine congrArg Real.toEReal ?_
  simp only [q.A2_re, q.A2_im, contractRe, contractIm] <;> ring
theorem e3661 (h : b.At p q) : x3661 b p = ↑((q.A2 1 1 0 0).im) := by
  simp only [x3661, k0_pay493, mulf_apply, addf_apply, subf_apply, spread_apply, zero_word, ← EReal.coe_mul, ← EReal.coe_add, ← EReal.coe_sub, e2950 h, e2953 h, e2956 h, e2959 h, e3633 h, h.vr, h.vi]
  refine congrArg Real.toEReal ?_
  simp only [q.A2_re, q.A2_im, contractRe, contractIm] <;> ring
theorem e3668 (h : b.At p q) : x3668 b p = ↑((((q.V 1 0 1 0 1 0).re * (q.P2 0 0).re) - ((q.V 1 0 1 0 1 0).im * (q.P2 0 0).im))) := by
  simp only [x3668, k0_pay494, mulf_apply, addf_apply, subf_apply, spread_apply, zero_word, ← EReal.coe_mul, ← EReal.coe_add, ← EReal.coe_sub, e2938 h, e2941 h, h.vr, h.vi]
theorem e3673 (h : b.At p q) : x3673 b p = ↑((((q.V 1 0 1 0 1 0).re * (q.P2 0 0).im) + ((q.V 1 0 1 0 1 0).im * (q.P2 0 0).re))) := by
  simp only [x3673, k0_pay495, mulf_apply, addf_apply, subf_apply, spread_apply, zero_word, ← EReal.coe_mul, ← EReal.coe_add, ← EReal.coe_sub, e2938 h, e2941 h, h.vr, h.vi]
theorem e3714 (h : b.At p q) : x3714 b p = ↑((q.A2 1 1 0 1).re) := by
  simp only [x3714, k0_pay496, mulf_apply, addf_apply, subf_apply, spread_apply, zero_word, ← EReal.coe_mul, ← EReal.coe_add, ← EReal.coe_sub, e2944 h, e2947 h, e2950 h, e2953 h, e2956 h, e2959 h, e3668 h, h.vr, h.vi]
  refine congrArg Real.toEReal ?_
  simp only [q.A2_re, q.A2_im, contractRe, contractIm] <;> ring
theorem e3715 (h : b.At p q) : x3715 b p = ↑((q.A2 1 1 0 1).im) := by
  simp only [x3715, k0_pay497, mulf_apply, addf_apply, subf_apply, spread_apply, zero_word, ← EReal.coe_mul, ← EReal.coe_add, ← EReal.coe_sub, e2944 h, e2947 h, e2950 h, e2953 h, e2956 h, e2959 h, e3673 h, h.vr, h.vi]
  refine congrArg Real.toEReal ?_
  simp only [q.A2_re, q.A2_im, contractRe, contractIm] <;> ring
theorem e3754 (h : b.At p q) : x3754 b p = ↑((((((q.V 1 1 1 0 0 0).re * (q.P2 0 0).re) - ((q.V 1 1 1 0 0 0).im * (q.P2 0 0).im)) + (((q.V 1 1 1 0 0 1).re * (q.P2 0 1).re) - ((q.V 1 1 1 0 0 1).im * (q.P2 0 1).im))) + (((q.V 1 1 1 1 0 0).re * (q.P2 1 0).re) - ((q.V 1 1 1 1 0 0).im * (q.P2 1 0).im)))) := by
  simp only [x3754, k0_pay498, mulf_apply, addf_apply, subf_apply, spread_apply, zero_word, ← EReal.coe_mul, ← EReal.coe_add, ← EReal.coe_sub, e2938 h, e2941 h, e2944 h, e2947 h, e2950 h, e2953 h, h.vr, h.vi]
theorem e3755 (h : b.At p q) : x3755 b p = ↑((((((q.V 1 1 1 0 0 0).re * (q.P2 0 0).im) + ((q.V 1 1 1 0 0 0).im * (q.P2 0 0).re)) + (((q.V 1 1 1 0 0 1).re * (q.P2 0 1).im) + ((q.V 1 1 1 0 0 1).im * (q.P2 0 1).re))) + (((q.V 1 1 1 1 0 0).re * (q.P2 1 0).im) + ((q.V 1 1 1 1 0 0).im * (q.P2 1 0).re)))) := by
  simp only [x3755, k0_pay499, mulf_apply, addf_apply, subf_apply, spread_apply, zero_word, ← EReal.coe_mul, ← EReal.coe_add, ← EReal.coe_sub, e2938 h, e2941 h, e2944 h, e2947 h, e2950 h, e2953 h, h.vr, h.vi]
theorem e3758 (h : b.At p q) : x3758 b p = ↑((q.V 1 1 1 1 0 1).re) := by
  simp only [x3758, k0_pay500, mulf_apply, addf_apply, subf_apply, spread_apply, zero_word, ← EReal.coe_mul, ← EReal.coe_add, ← EReal.coe_sub, h.vr, h.vi]
theorem e3768 (h : b.At p q) : x3768 b p = ↑((q.A2 1 1 1 0).re) := by
  simp only [x3768, k0_pay501, mulf_apply, addf_apply, subf_apply, spread_apply, zero_word, ← EReal.coe_mul, ← EReal.coe_add, ← EReal.coe_sub, e2956 h, e2959 h, e3754 h, e3758 h, h.vr, h.vi]
  refine congrArg Real.toEReal ?_
  simp only [q.A2_re, q.A2_im, contractRe, contractIm] <;> ring
theorem e3769 (h : b.At p q) : x3769 b p = ↑((q.A2 1 1 1 0).im) := by
  simp only [x3769, k0_pay502, mulf_apply, addf_apply, subf_apply, spread_apply, zero_word, ← EReal.coe_mul, ← EReal.coe_add, ← EReal.coe_sub, e2956 h, e2959 h, e3755 h, h.vr, h.vi]
  refine congrArg Real.toEReal ?_
  simp only [q.A2_re, q.A2_im, contractRe, contractIm] <;> ring
theorem e3794 (h : b.At p q) : x3794 b p = ↑(((((q.V 1 1 1 0 1 0).re * (q.P2 0 0).re) - ((q.V 1 1 1 0 1 0).im * (q.P2 0 0).im)) + (((q.V 1 1 1 0 1 1).re * (q.P2 0 1).re) - ((q.V 1 1 1 0 1 1).im * (q.P2 0 1).im)))) := by
  simp only [x3794, k0_pay503, mulf_apply, addf_apply, subf_apply, spread_apply, zero_word, ← EReal.coe_mul, ← EReal.coe_add, ← EReal.coe_sub, e2938 h, e2941 h, e2944 h, e2947 h, h.vr, h.vi]
theorem e3795 (h : b.At p q) : x3795 b p = ↑(((((q.V 1 1 1 0 1 0).re * (q.P2 0 0).im) + ((q.V 1 1 1 0 1 0).im * (q.P2 0 0).re)) + (((q.V 1 1 1 0 1 1).re * (q.P2 0 1).im) + ((q.V 1 1 1 0 1 1).im * (q.P2 0 1).re)))) := by
  simp only [x3795, k0_pay504, mulf_apply, addf_apply, subf_apply, spread_apply, zero_word, ← EReal.coe_mul, ← EReal.coe_add, ← EReal.coe_sub, e2938 h, e2941 h, e2944 h, e2947 h, h.vr, h.vi]
theorem e3799 (h : b.At p q) : x3799 b p = ↑(((q.V 1 1 1 1 1 0).re * (q.P2 1 0).re)) := by
  simp only [x3799, k0_pay505, mulf_apply, addf_apply, subf_apply, spread_apply, zero_word, ← EReal.coe_mul, ← EReal.coe_add, ← EReal.coe_sub, e2950 h, h.vr, h.vi]
theorem e3800 (h : b.At p q) : x3800 b p = ↑((q.V 1 1 1 1 1 0).im) := by
  simp only [x3800, k0_pay506, mulf_apply, addf_apply, subf_apply, spread_apply, zero_word, ← EReal.coe_mul, ← EReal.coe_add, ← EReal.coe_sub, h.vr, h.vi]
theorem e3822 (h : b.At p q) : x3822 b p = ↑((q.A2 1 1 1 1).re) := by
  simp only [x3822, k0_pay507, mulf_apply, addf_apply, subf_apply, spread_apply, zero_word, ← EReal.coe_mul, ← EReal.coe_add, ← EReal.coe_sub, e2953 h, e2956 h, e2959 h, e3794 h, e3799 h, e3800 h, h.vr, h.vi]
  refine congrArg Real.toEReal ?_
  simp only [q.A2_re, q.A2_im, contractRe, contractIm] <;> ring
theorem e3823 (h : b.At p q) : x3823 b p = ↑((q.A2 1 1 1 1).im) := by
  simp only [x3823, k0_pay508, mulf_apply, addf_apply, subf_apply, spread_apply, zero_word, ← EReal.coe_mul, ← EReal.coe_add, ← EReal.coe_sub, e2950 h, e2953 h, e2956 h, e2959 h, e3795 h, h.vr, h.vi]
  refine congrArg Real.toEReal ?_
  simp only [q.A2_re, q.A2_im, contractRe, contractIm] <;> ring
theorem e3840 (h : b.At p q) : x3840 b p = ↑((((q.B2 0 0 0 0).re * (q.A2 0 0 0 0).re) + ((q.B2 0 0 0 0).im * (q.A2 0 0 0 0).im))) := by
  simp only [x3840, k0_pay509, mulf_apply, addf_apply, subf_apply, spread_apply, zero_word, ← EReal.coe_mul, ← EReal.coe_add, ← EReal.coe_sub, e2700 h, e2701 h, e2856 h, e2857 h, e3012 h, e3013 h, e3066 h, e3067 h]
  refine congrArg Real.toEReal ?_
  simp only [q.B2_re, q.B2_im] <;> ring
theorem e3853 (h : b.At p q) : x3853 b p = ↑((q.B2 0 0 0 1).re) := by
  simp only [x3853, k0_pay510, mulf_apply, addf_apply, subf_apply, spread_apply, zero_word, ← EReal.coe_mul, ← EReal.coe_add, ← EReal.coe_sub, e2778 h, e2779 h, e2934 h, e2935 h, e3012 h, e3013 h, e3066 h, e3067 h]
  refine congrArg Real.toEReal ?_
  simp only [q.B2_re, q.B2_im] <;> ring
theorem e3854 (h : b.At p q) : x3854 b p = ↑((q.B2 0 0 0 1).im) := by
  simp only [x3854, k0_pay511, mulf_apply, addf_apply, subf_apply, spread_apply, zero_word, ← EReal.coe_mul, ← EReal.coe_add, ← EReal.coe_sub, e2778 h, e2779 h, e2934 h, e2935 h, e3012 h, e3013 h, e3066 h, e3067 h]
  refine congrArg Real.toEReal ?_
  simp only [q.B2_re, q.B2_im] <;> ring
theorem e3912 (h : b.At p q) : x3912 b p = ↑((((((((q.B2 0 0 0 0).re * (q.A2 0 0 0 0).re) + ((q.B2 0 0 0 0).im * (q.A2 0 0 0 0).im)) + (((q.B2 0 0 0 1).re * (q.A2 0 0 0 1).re) + ((q.B2 0 0 0 1).im * (q.A2 0 0 0 1).im))) + (((q.B2 0 0 1 0).re * (q.A2 0 0 1 0).re) + ((q.B2 0 0 1 0).im * (q.A2 0 0 1 0).im))) + (((q.B2 0 0 1 1).re * (q.A2 0 0 1 1).re) + ((q.B2 0 0 1 1).im * (q.A2 0 0 1 1).im))) + (((q.B2 1 0 0 0).re * (q.A2 1 0 0 0).re) + ((q.B2 1 0 0 0).im * (q.A2 1 0 0 0).im)))) := by
  simp only [x3912, k0_pay512, mulf_apply, addf_apply, subf_apply, spread_apply, zero_word, ← EReal.coe_mul, ← EReal.coe_add, ← EReal.coe_sub, e2700 h, e2701 h, e2778 h, e2779 h, e2856 h, e2857 h, e2934 h, e2935 h, e3066 h, e3067 h, e3120 h, e3121 h, e3174 h, e3175 h, e3444 h, e3445 h, e3498 h, e3499 h, e3840 h, e3853 h, e3854 h]
  refine congrArg Real.toEReal ?_
  simp only [q.B2_re, q.B2_im] <;> ring
theorem e3913 (h : b.At p q) : x3913 b p = ↑(((q.A2 1 0 0 0).re * (q.R2 0 1).re)) := by
  simp only [x3913, k0_pay513, mulf_apply, addf_apply, subf_apply, spread_apply, zero_word, ← EReal.coe_mul, ← EReal.coe_add, ← EReal.coe_sub, e2778 h, e3444 h]
theorem e3914 (h : b.At p q) : x3914 b p = ↑(((q.A2 1 0 0 0).im * (q.R2 0 1).im)) := by
  simp only [x3914, k0_pay514, mulf_apply, addf_apply, subf_apply, spread_apply, zero_word, ← EReal.coe_mul, ← EReal.coe_add, ← EReal.coe_sub, e2779 h, e3445 h]
theorem e3966 (h : b.At p q) : x3966 b p = ↑((q.W 0)) := by
  simp only [x3966, k0_pay515, mulf_apply, addf_apply, subf_apply, spread_apply, zero_word, ← EReal.coe_mul, ← EReal.coe_add, ← EReal.coe_sub, e2700 h, e2701 h, e2778 h, e2779 h, e2856 h, e2857 h, e2934 h, e2935 h, e3444 h, e3445 h, e3498 h, e3499 h, e3552 h, e3553 h, e3606 h, e3607 h, e3912 h, e3913 h, e3914 h]
  refine congrArg Real.toEReal ?_
  simp only [q.B2_re, q.B2_im, q.W_eq, Fin.sum_univ_two] <;> ring
theorem e3969 (h : b.At p q) : x3969 b p = ↑((((q.A2 0 1 0 0).re * (q.R2 0 0).re) - ((q.A2 0 1 0 0).im * (q.R2 0 0).im))) := by
  simp only [x3969, k0_pay516, mulf_apply, addf_apply, subf_apply, spread_apply, zero_word, ← EReal.coe_mul, ← EReal.coe_add, ← EReal.coe_sub, e2700 h, e2701 h, e3228 h, e3229 h]
theorem e3972 (h : b.At p q) : x3972 b p = ↑((((q.A2 0 1 0 0).re * (q.R2 0 0).im) + ((q.A2 0 1 0 0).im * (q.R2 0 0).re))) := by
  simp only [x3972, k0_pay517, mulf_apply, addf_apply, subf_apply, spread_apply, zero_word, ← EReal.coe_mul, ← EReal.coe_add, ← EReal.coe_sub, e2700 h, e2701 h, e3228 h, e3229 h]
theorem e3973 (h : b.At p q) : x3973 b p = ↑(((q.A2 0 1 0 1).re * (q.R2 1 0).re)) := by
  simp only [x3973, k0_pay518, mulf_apply, addf_apply, subf_apply, spread_apply, zero_word, ← EReal.coe_mul, ← EReal.coe_add, ← EReal.coe_sub, e2856 h, e3282 h]
theorem e3974 (h : b.At p q) : x3974 b p = ↑(((q.A2 0 1 0 1).im * (q.R2 1 0).im)) := by
  simp only [x3974, k0_pay519, mulf_apply, addf_apply, subf_apply, spread_apply, zero_word, ← EReal.coe_mul, ← EReal.coe_add, ← EReal.coe_sub, e2857 h, e3283 h]
theorem e4019 (h : b.At p q) : x4019 b p = ↑((((((q.B2 0 1 0 0).re * (q.A2 0 1 0 0).re) + ((q.B2 0 1 0 0).im * (q.A2 0 1 0 0).im)) + (((q.B2 0 1 0 1).re * (q.A2 0 1 0 1).re) + ((q.B2 0 1 0 1).im * (q.A2 0 1 0 1).im))) + (((q.B2 0 1 1 0).re * (q.A2 0 1 1 0).re) + ((q.B2 0 1 1 0).im * (q.A2 0 1 1 0).im)))) := by
  simp only [x4019, k0_pay520, mulf_apply, addf_apply, subf_apply, spread_apply, zero_word, ← EReal.coe_mul, ← EReal.coe_add, ← EReal.coe_sub, e2700 h, e2701 h, e2778 h, e2779 h, e2856 h, e2857 h, e2934 h, e2935 h, e3228 h, e3229 h, e3282 h, e3283 h, e3336 h, e3337 h, e3390 h, e3391 h, e3969 h, e3972 h, e3973 h, e3974 h]
  refine congrArg Real.toEReal ?_
  simp only [q.B2_re, q.B2_im] <;> ring
theorem e4033 (h : b.At p q) : x4033 b p = ↑((q.B2 0 1 1 1).im) := by
  simp only [x4033, k0_pay521, mulf_apply, addf_apply, subf_apply, spread_apply, zero_word, ← EReal.coe_mul, ← EReal.coe_add, ← EReal.coe_sub, e2778 h, e2779 h, e2934 h, e2935 h, e3336 h, e3337 h, e3390 h, e3391 h]
  refine congrArg Real.toEReal ?_
  simp only [q.B2_re, q.B2_im] <;> ring

end Cert.Stage

end
-- ==== Proof.Values4.lean ====
/- What those values are at a place, by the node whose data lie there (part 4). -/
module

public import proofs.«01_k».proof.Proof.Values3

@[expose] public section

set_option maxHeartbeats 1000000

noncomputable section

namespace Cert.Stage

open Idealize.ShloMosaic Idealize.ShloMosaic.ValueIdx Cert.KernelIdeal Cert.KernelIdeal.Gen Lane

variable {b : Rows} {p : S8x128.Idx} {q : Lane}

theorem e4034 (h : b.At p q) : x4034 b p = ↑(((q.B2 0 1 1 1).re * (q.A2 0 1 1 1).re)) := by
  simp only [x4034, k0_pay522, mulf_apply, addf_apply, subf_apply, spread_apply, zero_word, ← EReal.coe_mul, ← EReal.coe_add, ← EReal.coe_sub, e2778 h, e2779 h, e2934 h, e2935 h, e3336 h, e3337 h, e3390 h, e3391 h]
  refine congrArg Real.toEReal ?_
  simp only [q.B2_re, q.B2_im] <;> ring
theorem e4091 (h : b.At p q) : x4091 b p = ↑((((((((((q.B2 0 1 0 0).re * (q.A2 0 1 0 0).re) + ((q.B2 0 1 0 0).im * (q.A2 0 1 0 0).im)) + (((q.B2 0 1 0 1).re * (q.A2 0 1 0 1).re) + ((q.B2 0 1 0 1).im * (q.A2 0 1 0 1).im))) + (((q.B2 0 1 1 0).re * (q.A2 0 1 1 0).re) + ((q.B2 0 1 1 0).im * (q.A2 0 1 1 0).im))) + (((q.B2 0 1 1 1).re * (q.A2 0 1 1 1).re) + ((q.B2 0 1 1 1).im * (q.A2 0 1 1 1).im))) + (((q.B2 1 1 0 0).re * (q.A2 1 1 0 0).re) + ((q.B2 1 1 0 0).im * (q.A2 1 1 0 0).im))) + (((q.B2 1 1 0 1).re * (q.A2 1 1 0 1).re) + ((q.B2 1 1 0 1).im * (q.A2 1 1 0 1).im))) + (((q.B2 1 1 1 0).re * (q.A2 1 1 1 0).re) + ((q.B2 1 1 1 0).im * (q.A2 1 1 1 0).im)))) := by
  simp only [x4091, k0_pay523, mulf_apply, addf_apply, subf_apply, spread_apply, zero_word, ← EReal.coe_mul, ← EReal.coe_add, ← EReal.coe_sub, e2700 h, e2701 h, e2778 h, e2779 h, e2856 h, e2857 h, e2934 h, e2935 h, e3391 h, e3660 h, e3661 h, e3714 h, e3715 h, e3768 h, e3769 h, e3822 h, e3823 h, e4019 h, e4033 h, e4034 h]
  refine congrArg Real.toEReal ?_
  simp only [q.B2_re, q.B2_im] <;> ring
theorem e4094 (h : b.At p q) : x4094 b p = ↑((((q.A2 1 1 1 0).re * (q.R2 0 1).re) - ((q.A2 1 1 1 0).im * (q.R2 0 1).im))) := by
  simp only [x4094, k0_pay524, mulf_apply, addf_apply, subf_apply, spread_apply, zero_word, ← EReal.coe_mul, ← EReal.coe_add, ← EReal.coe_sub, e2778 h, e2779 h, e3768 h, e3769 h]
theorem e4109 (h : b.At p q) : x4109 b p = ↑((q.W 1)) := by
  simp only [x4109, k0_pay525, mulf_apply, addf_apply, subf_apply, spread_apply, zero_word, ← EReal.coe_mul, ← EReal.coe_add, ← EReal.coe_sub, e2778 h, e2779 h, e2934 h, e2935 h, e3768 h, e3769 h, e3822 h, e3823 h, e4091 h, e4094 h]
  refine congrArg Real.toEReal ?_
  simp only [q.B2_re, q.B2_im, q.W_eq, Fin.sum_univ_two] <;> ring

end Cert.Stage

end
-- ==== Proof.Network.lean ====
/- What the network makes of a node's features and of its two weights. -/
module

public import proofs.«01_k».proof.Proof.Values4

@[expose] public section

set_option maxHeartbeats 1000000

noncomputable section

namespace Cert.Stage

open Idealize.ShloMosaic Idealize.ShloMosaic.ValueIdx Cert.KernelIdeal Cert.KernelIdeal.Gen Lane

/-- The leaky rectifier. -/
def leak (x : EReal) : EReal :=
  Scalar.select (Scalar.cmpf (F := Ideal) (φ := .f32) .oge x (Scalar.ofBits .f32 0x00000000#32)) x
    (Scalar.mulf (F := Ideal) (φ := .f32) (Scalar.ofBits .f32 0x3C23D70A#32) x)
/-- A node's five inputs to the network: its features and its two weights. -/
def feat (q : Lane) : Fin 5 → EReal := ![q.nf 0, q.nf 1, q.nf 2, ↑(q.W 0), ↑(q.W 1)]
/-- The network's first layer before and after its rectifier, and its second layer. -/
def affine (w : Fin 5 → EReal) (c : EReal) (t : Fin 5 → EReal) : EReal := w 0 * t 0 + w 1 * t 1 + w 2 * t 2 + w 3 * t 3 + w 4 * t 4 + c
def hid (w : Fin 3 → Fin 5 → EReal) (c : Fin 3 → EReal) (t : Fin 5 → EReal) (j : Fin 3) : EReal := leak (affine (w j) (c j) t)
def net (w : Fin 3 → EReal) (c : EReal) (y : Fin 3 → EReal) : EReal := max (w 0 * y 0 + w 1 * y 1 + w 2 * y 2 + c) 0

variable {b : Rows} {p : S8x128.Idx} {q : Lane}

/-- The rectifier on a block, at a place. -/
theorem leak_apply (x : FVec Ideal S8x128 .f32) (p : S8x128.Idx) :
    select (cmpf .oge x (broadcast S8x128 (Scalar.ofBits .f32 0x00000000#32 : Ideal .f32))) x
      (mulf (broadcast S8x128 (Scalar.ofBits .f32 0x3C23D70A#32 : Ideal .f32)) x) p = leak (x p) := rfl

theorem f0 (h : b.At p q) : shapeCast S8x128 (b.nf 0) shapeCasts_S1x8x128_S8x128 p = feat q 0 := h.nf 0
theorem f1 (h : b.At p q) : shapeCast S8x128 (b.nf 1) shapeCasts_S1x8x128_S8x128 p = feat q 1 := h.nf 1
theorem f2 (h : b.At p q) : shapeCast S8x128 (b.nf 2) shapeCasts_S1x8x128_S8x128 p = feat q 2 := h.nf 2
theorem f3 (h : b.At p q) : x3966 b p = feat q 3 := e3966 h
theorem f4 (h : b.At p q) : x4109 b p = feat q 4 := e4109 h

theorem e4137 (h : b.At p q) : x4137 b p = affine (b.w1 0) (b.c1 0) (feat q) := by
  have h4 := f4 h
  simp only [x4109] at h4
  simp only [x4137, k0_pay529, k0_pay526, k0_pay527, k0_pay528, mulf_apply, addf_apply, spread_apply, f0 h, f1 h, f2 h, f3 h, h4]
  rfl
theorem e4142 (h : b.At p q) : x4142 b p = hid b.w1 b.c1 (feat q) 0 :=
  (leak_apply (x4137 b) p).trans (congrArg leak (e4137 h))
theorem e4169 (h : b.At p q) : x4169 b p = hid b.w1 b.c1 (feat q) 1 := by
  refine (leak_apply _ p).trans (congrArg leak ?_)
  simp only [x4111, x4113, x4115, k0_pay526, k0_pay527, k0_pay528, mulf_apply, addf_apply, spread_apply, f0 h, f1 h, f2 h, f3 h, f4 h]
  rfl
theorem e4196 (h : b.At p q) : x4196 b p = hid b.w1 b.c1 (feat q) 2 := by
  refine (leak_apply _ p).trans (congrArg leak ?_)
  simp only [x4184, k0_pay533, x4111, x4113, x4115, k0_pay526, k0_pay527, k0_pay528, mulf_apply, addf_apply, spread_apply, f0 h, f1 h, f2 h, f3 h, f4 h]
  rfl
theorem e4212 (h : b.At p q) : x4212 b p = net (b.w2 0) (b.c2 0) (hid b.w1 b.c1 (feat q)) := by
  have h6 := e4196 h
  simp only [x4196] at h6
  simp only [x4212, k0_pay535, mulf_apply, addf_apply, maximumf_apply, spread_apply, e4142 h, e4169 h, h6]
  exact congrArg (max _) Ideal.ofBits_zero_f32
theorem e4228 (h : b.At p q) : x4228 b p = net (b.w2 1) (b.c2 1) (hid b.w1 b.c1 (feat q)) := by
  have h6 := e4196 h
  simp only [x4196] at h6
  simp only [x4228, k0_pay536, mulf_apply, addf_apply, maximumf_apply, spread_apply, e4142 h, e4169 h, h6]
  exact congrArg (max _) Ideal.ofBits_zero_f32
theorem e4244 (h : b.At p q) : x4244 b p = net (b.w2 2) (b.c2 2) (hid b.w1 b.c1 (feat q)) := by
  simp only [x4244, k0_pay538, x4230, k0_pay537, mulf_apply, addf_apply, maximumf_apply, spread_apply, e4142 h, e4169 h, e4196 h]
  exact congrArg (max _) Ideal.ofBits_zero_f32

end Cert.Stage

end
-- ==== Proof.Blocks.lean ====
/- What a grid point's loads bring, from its blocks. -/
module

public import proofs.«01_k».proof.Proof.Gen.KernelIdeal.Frame
public import proofs.«01_k».proof.Proof.Network
public import Idealize.ShloMosaic.Lib.Pipeline.ValueKit
public import Idealize.ShloMosaic.Lib.WritesUnit

@[expose] public section

set_option maxHeartbeats 200000
set_option maxRecDepth 100000

noncomputable section

namespace Cert.Stage

open Idealize.ShloMosaic hiding ix2 ix3
open Idealize.ShloMosaic.ValueIdx Idealize.SL.Sem Cert.KernelIdeal Cert.KernelIdeal.Gen

/-- A block's elements in a box. -/
def box {s : Shape} (x : Vec Ideal s .f32) (off size : Fin s.rank → ℕ) : Vec Ideal ⟨s.rank, size⟩ .f32 :=
  fun i => if h : ∀ a, off a + size a ≤ s.size a then View.ld x (Rect.unit off size h) i else (0 : EReal)

theorem ld_box {s : Shape} (x : Vec Ideal s .f32) (off size : Fin s.rank → ℕ) (h : ∀ a, off a + size a ≤ s.size a) :
    View.ld x (Rect.unit off size h) = box x off size := by
  funext i
  unfold box
  rw [dif_pos h]

/-- A plane without its axis of one, and a block's single elements. -/
def flat (v : Vec Ideal S1x8x128 .f32) : FVec Ideal S8x128 .f32 := shapeCast S8x128 v shapeCasts_S1x8x128_S8x128
def cell3 (x : Vec Ideal S2x8x8 .f32) (off : Fin 3 → ℕ) : EReal := box x off ![1, 1, 1] (Shape.Idx.first (numel1_S1x1x1 ▸ Nat.one_pos : 0 < S1x1x1.numel))
def cell1 (x : Vec Ideal S44 .f32) (off : Fin 1 → ℕ) : EReal := box x off ![1] (Shape.Idx.first (numel1_S1 ▸ Nat.one_pos : 0 < S1.numel))

theorem flat_eq (v : FVec Ideal S1x8x128 .f32) (h : S1x8x128.ShapeCasts S8x128) : shapeCast S8x128 v h = flat v := rfl
theorem cell3_eq (x : Vec Ideal S2x8x8 .f32) (off : Fin 3 → ℕ) (h : ∀ a, off a + (![1, 1, 1] : Fin 3 → ℕ) a ≤ S2x8x8.size a)
    (i : (Rect.unit (s := S2x8x8) off ![1, 1, 1] h).toLoadRect.shape.Idx) :
    View.ld x (Rect.unit off ![1, 1, 1] h) i = cell3 x off := by
  have e : ∀ i j : S1x1x1.Idx, i = j := fun i j => funext fun a => Fin.ext (by
    have hi := (i a).isLt; have hj := (j a).isLt
    have hs : S1x1x1.size a = 1 := by fin_cases a <;> rfl
    omega)
  rw [ld_box]; exact congrArg _ (e _ _)
theorem cell1_eq (x : Vec Ideal S44 .f32) (off : Fin 1 → ℕ) (h : ∀ a, off a + (![1] : Fin 1 → ℕ) a ≤ S44.size a)
    (i : (Rect.unit (s := S44) off ![1] h).toLoadRect.shape.Idx) :
    View.ld x (Rect.unit off ![1] h) i = cell1 x off := by
  have e : ∀ i j : S1.Idx, i = j := fun i j => funext fun a => Fin.ext (by
    have hi := (i a).isLt; have hj := (j a).isLt
    have hs : S1.size a = 1 := by fin_cases a; rfl
    omega)
  rw [ld_box]; exact congrArg _ (e _ _)

/-- What a point's loads bring, from its blocks. -/
def rowsOf (x0 : Vec Ideal S32x8x128 .f32) (x1 x2 x3 : Vec Ideal S4x8x128 .f32) (x4 : Vec Ideal S2x8x8 .f32) (x5 : Vec Ideal S44 .f32) : Rows where
  er k a := box x0 ![16 + 4 * k + 2 * a, 0, 0] ![1, 8, 128]
  ei k a := box x0 ![16 + 4 * k + 2 * a + 1, 0, 0] ![1, 8, 128]
  ur j a := (![box x0 ![2 * a, 0, 0] ![1, 8, 128], box x1 ![2 * a, 0, 0] ![1, 8, 128], box x2 ![2 * a, 0, 0] ![1, 8, 128],
    box x3 ![2 * a, 0, 0] ![1, 8, 128]] : Fin 4 → Vec Ideal S1x8x128 .f32) j
  ui j a := (![box x0 ![2 * a + 1, 0, 0] ![1, 8, 128], box x1 ![2 * a + 1, 0, 0] ![1, 8, 128], box x2 ![2 * a + 1, 0, 0] ![1, 8, 128],
    box x3 ![2 * a + 1, 0, 0] ![1, 8, 128]] : Fin 4 → Vec Ideal S1x8x128 .f32) j
  nf t := box x0 ![28 + t, 0, 0] ![1, 8, 128]
  vr x u y a v b := cell3 x4 ![0, 4 * x + 2 * u + y, 4 * a + 2 * v + b]
  vi x u y a v b := cell3 x4 ![1, 4 * x + 2 * u + y, 4 * a + 2 * v + b]
  w1 j k := cell1 x5 ![5 * j + k]
  c1 j := cell1 x5 ![15 + j]
  w2 j k := cell1 x5 ![18 + 3 * j + k]
  c2 j := cell1 x5 ![27 + j]

/-- A point's contribution to a running sum: the value where the place holds a node, nothing elsewhere. -/
def part (i : grid0.Coords) (z : FVec Ideal S8x128 .f32) : FVec Ideal S8x128 .f32 :=
  select (k0_pay539 (BitVec.ofNat 32 ↑(i 0))) z (broadcast S8x128 (Scalar.ofBits .f32 0x00000000#32))

end Cert.Stage

end
-- ==== Proof.Rows.lean ====
/- What a grid point's loads bring, from its blocks. -/
module

public import proofs.«01_k».proof.Proof.Gen.KernelIdeal.Frame
public import proofs.«01_k».proof.Proof.Blocks
public import Idealize.ShloMosaic.Lib.Pipeline.ValueKit
public import Idealize.ShloMosaic.Lib.WritesUnit
public import Idealize.ShloMosaic.Lib.ValueLayout

@[expose] public section

set_option maxHeartbeats 1000000
set_option maxRecDepth 100000

noncomputable section

namespace Cert.Stage

open Idealize.ShloMosaic hiding ix2 ix3
open Idealize.ShloMosaic.ValueIdx Idealize.SL.Sem Cert.KernelIdeal Cert.KernelIdeal.Gen

/-- One row of three: the newest store's when it is that row's, what the earlier stores left when it is another's. -/
theorem canon_hit (r : Fin 4) (off : Fin 3 → ℕ) (inb : ∀ a, off a + S1x8x128.size a ≤ S4x8x128.size a) (w : Vec Ideal S1x8x128 .f32)
    (L : List (View.Piece (Elt Ideal) S4x8x128 .f32)) (s : Fin 8) (l : Fin 128) (h : off = ![(r : ℕ), 0, 0]) :
    View.canon (⟨Rect.unit (s := S4x8x128) off S1x8x128.size inb, w⟩ :: L) (ix3 r s l) = w (ix3 0 s l) := by
  subst h
  have e : (Rect.unit (s := S4x8x128) ![(r : ℕ), 0, 0] S1x8x128.size inb).emb (ix3 0 s l) = ix3 r s l := funext fun a => Fin.ext (by
    fin_cases a
    · show (r : ℕ) + 1 * 0 = r; omega
    · show 0 + 1 * (s : ℕ) = s; omega
    · show 0 + 1 * (l : ℕ) = l; omega)
  exact (congrArg _ e.symm).trans (View.canon_cons_emb _ _ _ _)
theorem canon_miss (r r' : Fin 4) (off : Fin 3 → ℕ) (inb : ∀ a, off a + S1x8x128.size a ≤ S4x8x128.size a) (w : Vec Ideal S1x8x128 .f32)
    (L : List (View.Piece (Elt Ideal) S4x8x128 .f32)) (s : Fin 8) (l : Fin 128) (h : off = ![(r' : ℕ), 0, 0]) (hr : r ≠ r') :
    View.canon (⟨Rect.unit (s := S4x8x128) off S1x8x128.size inb, w⟩ :: L) (ix3 r s l) = View.canon L (ix3 r s l) := by
  subst h
  refine View.canon_cons_of_not_mem _ _ fun hm => hr (Fin.ext ?_)
  have h0 := (Rect.mem_set_unit (inb := inb)).1 hm 0
  have h1 : (r' : ℕ) ≤ r ∧ (r : ℕ) < r' + 1 := h0
  omega
theorem canon_fill (off : Fin 3 → ℕ) (inb : ∀ a, off a + S4x8x128.size a ≤ S4x8x128.size a) (w : Vec Ideal S4x8x128 .f32)
    (y : S4x8x128.Idx) (h : off = ![0, 0, 0]) :
    View.canon [⟨Rect.unit (s := S4x8x128) off S4x8x128.size inb, w⟩] y = w y := by
  subst h
  exact congrFun (View.canon_cons_unit_lit inb w [] (by intro a; fin_cases a <;> rfl)) y
theorem cov_row (v : View sig .tc .vmem S4x8x128 .f32) (L : List (View.Piece (Elt Ideal) S4x8x128 .f32)) (r : Fin 4) (off : Fin 3 → ℕ)
    (inb : ∀ a, off a + S1x8x128.size a ≤ S4x8x128.size a) (s : Fin 8) (l : Fin 128) (h : off = ![(r : ℕ), 0, 0]) :
    v.readCov L (Rect.unit (s := S4x8x128) off S1x8x128.size inb).toLoadRect (ix3 0 s l) = View.canon L (ix3 r s l) := by
  subst h
  rw [View.readCov_eq_canon']
  refine congrArg (View.canon L) (funext fun a => Fin.ext ?_)
  fin_cases a
  · show (r : ℕ) + 1 * 0 = r; omega
  · show 0 + 1 * (s : ℕ) = s; omega
  · show 0 + 1 * (l : ℕ) = l; omega
theorem ld_row (x : Vec Ideal S4x8x128 .f32) (r : Fin 4) (off : Fin 3 → ℕ) (inb : ∀ a, off a + S1x8x128.size a ≤ S4x8x128.size a)
    (s : Fin 8) (l : Fin 128) (h : off = ![(r : ℕ), 0, 0]) :
    View.ld x (Rect.unit (s := S4x8x128) off S1x8x128.size inb) (ix3 0 s l) = x (ix3 r s l) := by
  subst h
  refine congrArg x (funext fun a => Fin.ext ?_)
  fin_cases a
  · show (r : ℕ) + 1 * 0 = r; omega
  · show 0 + 1 * (s : ℕ) = s; omega
  · show 0 + 1 * (l : ℕ) = l; omega

/-- The three rows' stored values: the loaded row and the point's contribution. -/
theorem add0 (i : grid0.Coords) (z : FVec Ideal S8x128 .f32) (v : Vec Ideal S1x8x128 .f32) (s : Fin 8) (l : Fin 128) :
    k0_pay541 (BitVec.ofNat 32 ↑(i 0)) z v (ix3 0 s l) = (v (ix3 0 s l) : EReal) + part i z (ix2 s l) := by
  unfold k0_pay541
  refine (shapeCast_ab_1ab_apply (a := 8) (b := 128) _ _ 0 s l).trans ?_
  exact congrArg (fun t : EReal => t + part i z (ix2 s l)) (shapeCast_1ab_ab_apply (a := 8) (b := 128) v _ s l)
theorem add1 (i : grid0.Coords) (z : FVec Ideal S8x128 .f32) (v : Vec Ideal S1x8x128 .f32) (s : Fin 8) (l : Fin 128) :
    k0_pay544 z (k0_pay539 (BitVec.ofNat 32 ↑(i 0))) (k0_pay542 v) k0_pay543 (ix3 0 s l) = (v (ix3 0 s l) : EReal) + part i z (ix2 s l) := by
  unfold k0_pay544
  refine (shapeCast_ab_1ab_apply (a := 8) (b := 128) _ _ 0 s l).trans ?_
  exact congrArg (fun t : EReal => t + part i z (ix2 s l)) (shapeCast_1ab_ab_apply (a := 8) (b := 128) v _ s l)
theorem add2 (i : grid0.Coords) (z : FVec Ideal S8x128 .f32) (v : Vec Ideal S1x8x128 .f32) (s : Fin 8) (l : Fin 128) :
    k0_pay545 z (k0_pay539 (BitVec.ofNat 32 ↑(i 0))) v (ix3 0 s l) = (v (ix3 0 s l) : EReal) + part i z (ix2 s l) := by
  unfold k0_pay545
  refine (shapeCast_ab_1ab_apply (a := 8) (b := 128) _ _ 0 s l).trans ?_
  exact congrArg (fun t : EReal => t + part i z (ix2 s l)) (shapeCast_1ab_ab_apply (a := 8) (b := 128) v _ s l)

end Cert.Stage

end
-- ==== Proof.StepA.lean ====
/- What a grid point's loads bring, from its blocks. -/
module

public import proofs.«01_k».proof.Proof.Gen.KernelIdeal.Frame
public import proofs.«01_k».proof.Proof.Rows
public import Idealize.ShloMosaic.Lib.Pipeline.ValueKit
public import Idealize.ShloMosaic.Lib.WritesUnit
public import Idealize.ShloMosaic.Lib.ValueLayout

@[expose] public section

set_option maxHeartbeats 1000000
set_option maxRecDepth 100000

noncomputable section

namespace Cert.Stage

open Idealize.ShloMosaic hiding ix2 ix3
open Idealize.ShloMosaic.ValueIdx Idealize.SL.Sem Cert.KernelIdeal Cert.KernelIdeal.Gen

variable (c : Dev nD) (i : grid0.Coords) (arg1 : Memref sig .tc .vmem S32x8x128 .f32) (harg1 : arg1.IsWhole) (arg2 : Memref sig .tc .vmem S4x8x128 .f32) (harg2 : arg2.IsWhole)
  (arg3 : Memref sig .tc .vmem S4x8x128 .f32) (harg3 : arg3.IsWhole) (arg4 : Memref sig .tc .vmem S4x8x128 .f32) (harg4 : arg4.IsWhole)
  (arg5 : Memref sig .tc .smem S2x8x8 .f32) (harg5 : arg5.IsWhole) (arg6 : Memref sig .tc .smem S44 .f32) (harg6 : arg6.IsWhole)
  (arg7 : Memref sig .tc .vmem S4x8x128 .f32) (harg7 : arg7.IsWhole) (arg8 : Memref sig .tc .vmem S8x128 .f32) (harg8 : arg8.IsWhole)
  (x0 : Vec Ideal S32x8x128 .f32) (x1 x2 x3 : Vec Ideal S4x8x128 .f32) (x4 : Vec Ideal S2x8x8 .f32) (x5 : Vec Ideal S44 .f32) (xo6 : Vec Ideal S4x8x128 .f32)

theorem out_A0 (hc0 : cond0_0 i) (hc1 : ¬cond0_1 i) (s : Fin 8) (l : Fin 128) :
    out0_A_6 c i arg1 harg1 arg2 harg2 arg3 harg3 arg4 harg4 arg5 harg5 arg6 harg6 arg7 harg7 arg8 harg8 hc0 hc1 x0 x1 x2 x3 x4 x5 (ix3 0 s l)
      = (0 : EReal) + part i (x4212 (rowsOf x0 x1 x2 x3 x4 x5)) (ix2 s l) := by
  frame_out
  refine (canon_miss 0 2 _ _ _ _ s l rfl (by decide)).trans ?_
  refine (canon_miss 0 1 _ _ _ _ s l rfl (by decide)).trans ?_
  refine (canon_hit 0 _ _ _ _ s l rfl).trans ?_
  refine (add0 i _ _ s l).trans ?_
  refine congrArg₂ (fun t u : EReal => t + u) ?_ (congrArg (fun z => part i z (ix2 s l)) ?_)
  · refine (cov_row _ _ 0 _ _ s l rfl).trans ?_
    exact (canon_fill _ _ _ _ rfl).trans Ideal.ofBits_zero_f32
  · simp only [Stage.x1, Stage.x3, Stage.x5, x7, x9, x11, x13, x15, x17, x19, x21, x23, x25, x27, x29, x31, x33, x35, x37, x39, x41, x43, x45, x47, x49,
    x51, x53, x55, x57, x60, x63, x65, x68, x71, x73, x76, x79, x81, x84, x87, x90, x93, x96, x99, x102, x105, x108, x111, x136, x137, x164, x165, x172,
    x177, x218, x219, x258, x259, x272, x273, x298, x299, x326, x327, x334, x339, x342, x380, x381, x384, x420, x421, x425, x426, x434, x435, x460, x461,
    x468, x488, x489, x496, x501, x508, x510, x542, x543, x550, x552, x582, x583, x590, x592, x594, x596, x597, x623, x635, x636, x650, x651, x676, x677,
    x704, x705, x712, x717, x758, x759, x798, x799, x812, x813, x838, x839, x866, x867, x874, x879, x882, x920, x921, x924, x960, x961, x965, x966, x974,
    x975, x988, x989, x1002, x1003, x1016, x1017, x1020, x1023, x1026, x1030, x1031, x1044, x1045, x1058, x1059, x1072, x1073, x1079, x1085, x1086, x1087,
    x1100, x1101, x1114, x1115, x1128, x1129, x1142, x1143, x1146, x1156, x1157, x1170, x1171, x1184, x1185, x1198, x1199, x1201, x1204, x1205, x1209,
    x1219, x1229, x1239, x1249, x1256, x1257, x1259, x1269, x1276, x1277, x1279, x1287, x1297, x1305, x1307, x1313, x1314, x1317, x1327, x1337, x1347,
    x1354, x1355, x1357, x1360, x1363, x1365, x1368, x1375, x1385, x1395, x1405, x1415, x1422, x1423, x1425, x1432, x1433, x1435, x1443, x1453, x1463,
    x1470, x1471, x1473, x1476, x1477, x1483, x1493, x1503, x1510, x1511, x1514, x1517, x1520, x1523, x1526, x1529, x1532, x1533, x1534, x1535, x1574,
    x1575, x1588, x1589, x1614, x1615, x1642, x1643, x1650, x1655, x1696, x1697, x1736, x1737, x1750, x1751, x1776, x1777, x1780, x1804, x1805, x1812,
    x1817, x1821, x1822, x1858, x1859, x1863, x1864, x1898, x1899, x1906, x1912, x1913, x1938, x1939, x1946, x1948, x1966, x1967, x1974, x1979, x1986,
    x1988, x1990, x2020, x2021, x2028, x2030, x2032, x2061, x2073, x2074, x2075, x2114, x2115, x2128, x2129, x2154, x2155, x2182, x2183, x2190, x2195,
    x2236, x2237, x2276, x2277, x2290, x2291, x2316, x2317, x2320, x2344, x2345, x2352, x2357, x2361, x2362, x2398, x2399, x2402, x2405, x2408, x2409,
    x2410, x2412, x2413, x2426, x2427, x2440, x2441, x2454, x2455, x2468, x2469, x2470, x2482, x2483, x2496, x2497, x2510, x2511, x2524, x2525, x2528,
    x2529, x2530, x2538, x2539, x2552, x2553, x2566, x2567, x2580, x2581, x2584, x2587, x2590, x2594, x2595, x2608, x2609, x2622, x2623, x2625, x2633,
    x2640, x2641, x2643, x2646, x2647, x2653, x2663, x2673, x2683, x2693, x2700, x2701, x2703, x2711, x2721, x2731, x2741, x2748, x2749, x2751, x2754,
    x2755, x2756, x2761, x2771, x2778, x2779, x2781, x2789, x2799, x2806, x2807, x2809, x2810, x2819, x2829, x2839, x2849, x2856, x2857, x2859, x2862,
    x2865, x2867, x2877, x2887, x2897, x2907, x2914, x2915, x2917, x2918, x2919, x2927, x2934, x2935, x2938, x2941, x2944, x2947, x2950, x2953, x2956,
    x2959, x2966, x2971, x3012, x3013, x3052, x3053, x3066, x3067, x3092, x3093, x3120, x3121, x3128, x3133, x3174, x3175, x3214, x3215, x3218, x3228,
    x3229, x3254, x3255, x3259, x3260, x3282, x3283, x3290, x3295, x3302, x3336, x3337, x3344, x3376, x3377, x3384, x3386, x3390, x3391, x3416, x3417,
    x3424, x3426, x3428, x3444, x3445, x3457, x3469, x3470, x3498, x3499, x3506, x3511, x3552, x3553, x3592, x3593, x3606, x3607, x3632, x3633, x3660,
    x3661, x3668, x3673, x3714, x3715, x3754, x3755, x3758, x3768, x3769, x3794, x3795, x3799, x3800, x3822, x3823, x3840, x3853, x3854, x3912, x3913,
    x3914, x3966, x3969, x3972, x3973, x3974, x4019, x4033, x4034, x4091, x4094, x4109, x4111, x4113, x4115, x4137, x4138, x4142, x4169, x4184, x4196,
    x4212, x4228, x4230, x4244, k0_pay7, k0_pay8, k0_pay9, k0_pay10, k0_pay11, k0_pay12, k0_pay13, k0_pay14, k0_pay15, k0_pay16, k0_pay17, k0_pay18,
    k0_pay19, k0_pay20, k0_pay21, k0_pay22, k0_pay23, k0_pay24, k0_pay25, k0_pay26, k0_pay27, k0_pay28, k0_pay29, k0_pay30, k0_pay31, k0_pay32, k0_pay33,
    k0_pay34, rowsOf, ld_box, flat_eq, cell3_eq x4, cell1_eq x5, Fin.isValue, Fin.val_ofNat, Fin.val_zero, Fin.val_one, Fin.val_two, Fin.coe_ofNat_eq_mod,
    Nat.reduceMod, Nat.reduceMul, Nat.reduceAdd, Nat.mul_zero, Nat.add_zero, Nat.zero_add, Matrix.cons_val]

theorem out_A1 (hc0 : cond0_0 i) (hc1 : ¬cond0_1 i) (s : Fin 8) (l : Fin 128) :
    out0_A_6 c i arg1 harg1 arg2 harg2 arg3 harg3 arg4 harg4 arg5 harg5 arg6 harg6 arg7 harg7 arg8 harg8 hc0 hc1 x0 x1 x2 x3 x4 x5 (ix3 1 s l)
      = (0 : EReal) + part i (x4228 (rowsOf x0 x1 x2 x3 x4 x5)) (ix2 s l) := by
  frame_out
  refine (canon_miss 1 2 _ _ _ _ s l rfl (by decide)).trans ?_
  refine (canon_hit 1 _ _ _ _ s l rfl).trans ?_
  refine (add1 i _ _ s l).trans ?_
  refine congrArg₂ (fun t u : EReal => t + u) ?_ (congrArg (fun z => part i z (ix2 s l)) ?_)
  · refine (cov_row _ _ 1 _ _ s l rfl).trans ?_
    refine (canon_miss 1 0 _ _ _ _ s l rfl (by decide)).trans ?_
    exact (canon_fill _ _ _ _ rfl).trans Ideal.ofBits_zero_f32
  · simp only [Stage.x1, Stage.x3, Stage.x5, x7, x9, x11, x13, x15, x17, x19, x21, x23, x25, x27, x29, x31, x33, x35, x37, x39, x41, x43, x45, x47, x49,
    x51, x53, x55, x57, x60, x63, x65, x68, x71, x73, x76, x79, x81, x84, x87, x90, x93, x96, x99, x102, x105, x108, x111, x136, x137, x164, x165, x172,
    x177, x218, x219, x258, x259, x272, x273, x298, x299, x326, x327, x334, x339, x342, x380, x381, x384, x420, x421, x425, x426, x434, x435, x460, x461,
    x468, x488, x489, x496, x501, x508, x510, x542, x543, x550, x552, x582, x583, x590, x592, x594, x596, x597, x623, x635, x636, x650, x651, x676, x677,
    x704, x705, x712, x717, x758, x759, x798, x799, x812, x813, x838, x839, x866, x867, x874, x879, x882, x920, x921, x924, x960, x961, x965, x966, x974,
    x975, x988, x989, x1002, x1003, x1016, x1017, x1020, x1023, x1026, x1030, x1031, x1044, x1045, x1058, x1059, x1072, x1073, x1079, x1085, x1086, x1087,
    x1100, x1101, x1114, x1115, x1128, x1129, x1142, x1143, x1146, x1156, x1157, x1170, x1171, x1184, x1185, x1198, x1199, x1201, x1204, x1205, x1209,
    x1219, x1229, x1239, x1249, x1256, x1257, x1259, x1269, x1276, x1277, x1279, x1287, x1297, x1305, x1307, x1313, x1314, x1317, x1327, x1337, x1347,
    x1354, x1355, x1357, x1360, x1363, x1365, x1368, x1375, x1385, x1395, x1405, x1415, x1422, x1423, x1425, x1432, x1433, x1435, x1443, x1453, x1463,
    x1470, x1471, x1473, x1476, x1477, x1483, x1493, x1503, x1510, x1511, x1514, x1517, x1520, x1523, x1526, x1529, x1532, x1533, x1534, x1535, x1574,
    x1575, x1588, x1589, x1614, x1615, x1642, x1643, x1650, x1655, x1696, x1697, x1736, x1737, x1750, x1751, x1776, x1777, x1780, x1804, x1805, x1812,
    x1817, x1821, x1822, x1858, x1859, x1863, x1864, x1898, x1899, x1906, x1912, x1913, x1938, x1939, x1946, x1948, x1966, x1967, x1974, x1979, x1986,
    x1988, x1990, x2020, x2021, x2028, x2030, x2032, x2061, x2073, x2074, x2075, x2114, x2115, x2128, x2129, x2154, x2155, x2182, x2183, x2190, x2195,
    x2236, x2237, x2276, x2277, x2290, x2291, x2316, x2317, x2320, x2344, x2345, x2352, x2357, x2361, x2362, x2398, x2399, x2402, x2405, x2408, x2409,
    x2410, x2412, x2413, x2426, x2427, x2440, x2441, x2454, x2455, x2468, x2469, x2470, x2482, x2483, x2496, x2497, x2510, x2511, x2524, x2525, x2528,
    x2529, x2530, x2538, x2539, x2552, x2553, x2566, x2567, x2580, x2581, x2584, x2587, x2590, x2594, x2595, x2608, x2609, x2622, x2623, x2625, x2633,
    x2640, x2641, x2643, x2646, x2647, x2653, x2663, x2673, x2683, x2693, x2700, x2701, x2703, x2711, x2721, x2731, x2741, x2748, x2749, x2751, x2754,
    x2755, x2756, x2761, x2771, x2778, x2779, x2781, x2789, x2799, x2806, x2807, x2809, x2810, x2819, x2829, x2839, x2849, x2856, x2857, x2859, x2862,
    x2865, x2867, x2877, x2887, x2897, x2907, x2914, x2915, x2917, x2918, x2919, x2927, x2934, x2935, x2938, x2941, x2944, x2947, x2950, x2953, x2956,
    x2959, x2966, x2971, x3012, x3013, x3052, x3053, x3066, x3067, x3092, x3093, x3120, x3121, x3128, x3133, x3174, x3175, x3214, x3215, x3218, x3228,
    x3229, x3254, x3255, x3259, x3260, x3282, x3283, x3290, x3295, x3302, x3336, x3337, x3344, x3376, x3377, x3384, x3386, x3390, x3391, x3416, x3417,
    x3424, x3426, x3428, x3444, x3445, x3457, x3469, x3470, x3498, x3499, x3506, x3511, x3552, x3553, x3592, x3593, x3606, x3607, x3632, x3633, x3660,
    x3661, x3668, x3673, x3714, x3715, x3754, x3755, x3758, x3768, x3769, x3794, x3795, x3799, x3800, x3822, x3823, x3840, x3853, x3854, x3912, x3913,
    x3914, x3966, x3969, x3972, x3973, x3974, x4019, x4033, x4034, x4091, x4094, x4109, x4111, x4113, x4115, x4137, x4138, x4142, x4169, x4184, x4196,
    x4212, x4228, x4230, x4244, k0_pay7, k0_pay8, k0_pay9, k0_pay10, k0_pay11, k0_pay12, k0_pay13, k0_pay14, k0_pay15, k0_pay16, k0_pay17, k0_pay18,
    k0_pay19, k0_pay20, k0_pay21, k0_pay22, k0_pay23, k0_pay24, k0_pay25, k0_pay26, k0_pay27, k0_pay28, k0_pay29, k0_pay30, k0_pay31, k0_pay32, k0_pay33,
    k0_pay34, rowsOf, ld_box, flat_eq, cell3_eq x4, cell1_eq x5, Fin.isValue, Fin.val_ofNat, Fin.val_zero, Fin.val_one, Fin.val_two, Fin.coe_ofNat_eq_mod,
    Nat.reduceMod, Nat.reduceMul, Nat.reduceAdd, Nat.mul_zero, Nat.add_zero, Nat.zero_add, Matrix.cons_val]

theorem out_A2 (hc0 : cond0_0 i) (hc1 : ¬cond0_1 i) (s : Fin 8) (l : Fin 128) :
    out0_A_6 c i arg1 harg1 arg2 harg2 arg3 harg3 arg4 harg4 arg5 harg5 arg6 harg6 arg7 harg7 arg8 harg8 hc0 hc1 x0 x1 x2 x3 x4 x5 (ix3 2 s l)
      = (0 : EReal) + part i (x4244 (rowsOf x0 x1 x2 x3 x4 x5)) (ix2 s l) := by
  frame_out
  refine (canon_hit 2 _ _ _ _ s l rfl).trans ?_
  refine (add2 i _ _ s l).trans ?_
  refine congrArg₂ (fun t u : EReal => t + u) ?_ (congrArg (fun z => part i z (ix2 s l)) ?_)
  · refine (cov_row _ _ 2 _ _ s l rfl).trans ?_
    refine (canon_miss 2 1 _ _ _ _ s l rfl (by decide)).trans ?_
    refine (canon_miss 2 0 _ _ _ _ s l rfl (by decide)).trans ?_
    exact (canon_fill _ _ _ _ rfl).trans Ideal.ofBits_zero_f32
  · simp only [Stage.x1, Stage.x3, Stage.x5, x7, x9, x11, x13, x15, x17, x19, x21, x23, x25, x27, x29, x31, x33, x35, x37, x39, x41, x43, x45, x47, x49,
    x51, x53, x55, x57, x60, x63, x65, x68, x71, x73, x76, x79, x81, x84, x87, x90, x93, x96, x99, x102, x105, x108, x111, x136, x137, x164, x165, x172,
    x177, x218, x219, x258, x259, x272, x273, x298, x299, x326, x327, x334, x339, x342, x380, x381, x384, x420, x421, x425, x426, x434, x435, x460, x461,
    x468, x488, x489, x496, x501, x508, x510, x542, x543, x550, x552, x582, x583, x590, x592, x594, x596, x597, x623, x635, x636, x650, x651, x676, x677,
    x704, x705, x712, x717, x758, x759, x798, x799, x812, x813, x838, x839, x866, x867, x874, x879, x882, x920, x921, x924, x960, x961, x965, x966, x974,
    x975, x988, x989, x1002, x1003, x1016, x1017, x1020, x1023, x1026, x1030, x1031, x1044, x1045, x1058, x1059, x1072, x1073, x1079, x1085, x1086, x1087,
    x1100, x1101, x1114, x1115, x1128, x1129, x1142, x1143, x1146, x1156, x1157, x1170, x1171, x1184, x1185, x1198, x1199, x1201, x1204, x1205, x1209,
    x1219, x1229, x1239, x1249, x1256, x1257, x1259, x1269, x1276, x1277, x1279, x1287, x1297, x1305, x1307, x1313, x1314, x1317, x1327, x1337, x1347,
    x1354, x1355, x1357, x1360, x1363, x1365, x1368, x1375, x1385, x1395, x1405, x1415, x1422, x1423, x1425, x1432, x1433, x1435, x1443, x1453, x1463,
    x1470, x1471, x1473, x1476, x1477, x1483, x1493, x1503, x1510, x1511, x1514, x1517, x1520, x1523, x1526, x1529, x1532, x1533, x1534, x1535, x1574,
    x1575, x1588, x1589, x1614, x1615, x1642, x1643, x1650, x1655, x1696, x1697, x1736, x1737, x1750, x1751, x1776, x1777, x1780, x1804, x1805, x1812,
    x1817, x1821, x1822, x1858, x1859, x1863, x1864, x1898, x1899, x1906, x1912, x1913, x1938, x1939, x1946, x1948, x1966, x1967, x1974, x1979, x1986,
    x1988, x1990, x2020, x2021, x2028, x2030, x2032, x2061, x2073, x2074, x2075, x2114, x2115, x2128, x2129, x2154, x2155, x2182, x2183, x2190, x2195,
    x2236, x2237, x2276, x2277, x2290, x2291, x2316, x2317, x2320, x2344, x2345, x2352, x2357, x2361, x2362, x2398, x2399, x2402, x2405, x2408, x2409,
    x2410, x2412, x2413, x2426, x2427, x2440, x2441, x2454, x2455, x2468, x2469, x2470, x2482, x2483, x2496, x2497, x2510, x2511, x2524, x2525, x2528,
    x2529, x2530, x2538, x2539, x2552, x2553, x2566, x2567, x2580, x2581, x2584, x2587, x2590, x2594, x2595, x2608, x2609, x2622, x2623, x2625, x2633,
    x2640, x2641, x2643, x2646, x2647, x2653, x2663, x2673, x2683, x2693, x2700, x2701, x2703, x2711, x2721, x2731, x2741, x2748, x2749, x2751, x2754,
    x2755, x2756, x2761, x2771, x2778, x2779, x2781, x2789, x2799, x2806, x2807, x2809, x2810, x2819, x2829, x2839, x2849, x2856, x2857, x2859, x2862,
    x2865, x2867, x2877, x2887, x2897, x2907, x2914, x2915, x2917, x2918, x2919, x2927, x2934, x2935, x2938, x2941, x2944, x2947, x2950, x2953, x2956,
    x2959, x2966, x2971, x3012, x3013, x3052, x3053, x3066, x3067, x3092, x3093, x3120, x3121, x3128, x3133, x3174, x3175, x3214, x3215, x3218, x3228,
    x3229, x3254, x3255, x3259, x3260, x3282, x3283, x3290, x3295, x3302, x3336, x3337, x3344, x3376, x3377, x3384, x3386, x3390, x3391, x3416, x3417,
    x3424, x3426, x3428, x3444, x3445, x3457, x3469, x3470, x3498, x3499, x3506, x3511, x3552, x3553, x3592, x3593, x3606, x3607, x3632, x3633, x3660,
    x3661, x3668, x3673, x3714, x3715, x3754, x3755, x3758, x3768, x3769, x3794, x3795, x3799, x3800, x3822, x3823, x3840, x3853, x3854, x3912, x3913,
    x3914, x3966, x3969, x3972, x3973, x3974, x4019, x4033, x4034, x4091, x4094, x4109, x4111, x4113, x4115, x4137, x4138, x4142, x4169, x4184, x4196,
    x4212, x4228, x4230, x4244, k0_pay7, k0_pay8, k0_pay9, k0_pay10, k0_pay11, k0_pay12, k0_pay13, k0_pay14, k0_pay15, k0_pay16, k0_pay17, k0_pay18,
    k0_pay19, k0_pay20, k0_pay21, k0_pay22, k0_pay23, k0_pay24, k0_pay25, k0_pay26, k0_pay27, k0_pay28, k0_pay29, k0_pay30, k0_pay31, k0_pay32, k0_pay33,
    k0_pay34, rowsOf, ld_box, flat_eq, cell3_eq x4, cell1_eq x5, Fin.isValue, Fin.val_ofNat, Fin.val_zero, Fin.val_one, Fin.val_two, Fin.coe_ofNat_eq_mod,
    Nat.reduceMod, Nat.reduceMul, Nat.reduceAdd, Nat.mul_zero, Nat.add_zero, Nat.zero_add, Matrix.cons_val]

end Cert.Stage

end
-- ==== Proof.StepB.lean ====
/- What a grid point's loads bring, from its blocks. -/
module

public import proofs.«01_k».proof.Proof.Gen.KernelIdeal.Frame
public import proofs.«01_k».proof.Proof.Rows
public import Idealize.ShloMosaic.Lib.Pipeline.ValueKit
public import Idealize.ShloMosaic.Lib.WritesUnit
public import Idealize.ShloMosaic.Lib.ValueLayout

@[expose] public section

set_option maxHeartbeats 1000000
set_option maxRecDepth 100000

noncomputable section

namespace Cert.Stage

open Idealize.ShloMosaic hiding ix2 ix3
open Idealize.ShloMosaic.ValueIdx Idealize.SL.Sem Cert.KernelIdeal Cert.KernelIdeal.Gen

variable (c : Dev nD) (i : grid0.Coords) (arg1 : Memref sig .tc .vmem S32x8x128 .f32) (harg1 : arg1.IsWhole) (arg2 : Memref sig .tc .vmem S4x8x128 .f32) (harg2 : arg2.IsWhole)
  (arg3 : Memref sig .tc .vmem S4x8x128 .f32) (harg3 : arg3.IsWhole) (arg4 : Memref sig .tc .vmem S4x8x128 .f32) (harg4 : arg4.IsWhole)
  (arg5 : Memref sig .tc .smem S2x8x8 .f32) (harg5 : arg5.IsWhole) (arg6 : Memref sig .tc .smem S44 .f32) (harg6 : arg6.IsWhole)
  (arg7 : Memref sig .tc .vmem S4x8x128 .f32) (harg7 : arg7.IsWhole) (arg8 : Memref sig .tc .vmem S8x128 .f32) (harg8 : arg8.IsWhole)
  (x0 : Vec Ideal S32x8x128 .f32) (x1 x2 x3 : Vec Ideal S4x8x128 .f32) (x4 : Vec Ideal S2x8x8 .f32) (x5 : Vec Ideal S44 .f32) (xo6 : Vec Ideal S4x8x128 .f32)

theorem out_B0 (hc0 : ¬cond0_0 i) (hc1 : ¬cond0_1 i) (s : Fin 8) (l : Fin 128) :
    out0_B_6 c i arg1 harg1 arg2 harg2 arg3 harg3 arg4 harg4 arg5 harg5 arg6 harg6 arg7 harg7 arg8 harg8 hc0 hc1 x0 x1 x2 x3 x4 x5 xo6 (ix3 0 s l)
      = (xo6 (ix3 0 s l) : EReal) + part i (x4212 (rowsOf x0 x1 x2 x3 x4 x5)) (ix2 s l) := by
  frame_out
  refine (View.read_writes_cons_unit_of_not_mem _ _ _ _ _ _ rfl 0 (.inl (by show 0 < 2; decide))).trans ?_
  refine (View.read_writes_cons_unit_of_not_mem _ _ _ _ _ _ rfl 0 (.inl (by show 0 < 1; decide))).trans ?_
  refine (View.read_writes_cons_unit_of_mem _ _ _ _ _ _ (ix3 0 s l) rfl ?_).trans ?_
  · intro a; fin_cases a <;> simp
  refine (add0 i _ _ s l).trans ?_
  refine congrArg₂ (fun t u : EReal => t + u) ?_ (congrArg (fun z => part i z (ix2 s l)) ?_)
  · exact ld_row xo6 0 _ _ s l rfl
  · simp only [Stage.x1, Stage.x3, Stage.x5, x7, x9, x11, x13, x15, x17, x19, x21, x23, x25, x27, x29, x31, x33, x35, x37, x39, x41, x43, x45, x47, x49,
    x51, x53, x55, x57, x60, x63, x65, x68, x71, x73, x76, x79, x81, x84, x87, x90, x93, x96, x99, x102, x105, x108, x111, x136, x137, x164, x165, x172,
    x177, x218, x219, x258, x259, x272, x273, x298, x299, x326, x327, x334, x339, x342, x380, x381, x384, x420, x421, x425, x426, x434, x435, x460, x461,
    x468, x488, x489, x496, x501, x508, x510, x542, x543, x550, x552, x582, x583, x590, x592, x594, x596, x597, x623, x635, x636, x650, x651, x676, x677,
    x704, x705, x712, x717, x758, x759, x798, x799, x812, x813, x838, x839, x866, x867, x874, x879, x882, x920, x921, x924, x960, x961, x965, x966, x974,
    x975, x988, x989, x1002, x1003, x1016, x1017, x1020, x1023, x1026, x1030, x1031, x1044, x1045, x1058, x1059, x1072, x1073, x1079, x1085, x1086, x1087,
    x1100, x1101, x1114, x1115, x1128, x1129, x1142, x1143, x1146, x1156, x1157, x1170, x1171, x1184, x1185, x1198, x1199, x1201, x1204, x1205, x1209,
    x1219, x1229, x1239, x1249, x1256, x1257, x1259, x1269, x1276, x1277, x1279, x1287, x1297, x1305, x1307, x1313, x1314, x1317, x1327, x1337, x1347,
    x1354, x1355, x1357, x1360, x1363, x1365, x1368, x1375, x1385, x1395, x1405, x1415, x1422, x1423, x1425, x1432, x1433, x1435, x1443, x1453, x1463,
    x1470, x1471, x1473, x1476, x1477, x1483, x1493, x1503, x1510, x1511, x1514, x1517, x1520, x1523, x1526, x1529, x1532, x1533, x1534, x1535, x1574,
    x1575, x1588, x1589, x1614, x1615, x1642, x1643, x1650, x1655, x1696, x1697, x1736, x1737, x1750, x1751, x1776, x1777, x1780, x1804, x1805, x1812,
    x1817, x1821, x1822, x1858, x1859, x1863, x1864, x1898, x1899, x1906, x1912, x1913, x1938, x1939, x1946, x1948, x1966, x1967, x1974, x1979, x1986,
    x1988, x1990, x2020, x2021, x2028, x2030, x2032, x2061, x2073, x2074, x2075, x2114, x2115, x2128, x2129, x2154, x2155, x2182, x2183, x2190, x2195,
    x2236, x2237, x2276, x2277, x2290, x2291, x2316, x2317, x2320, x2344, x2345, x2352, x2357, x2361, x2362, x2398, x2399, x2402, x2405, x2408, x2409,
    x2410, x2412, x2413, x2426, x2427, x2440, x2441, x2454, x2455, x2468, x2469, x2470, x2482, x2483, x2496, x2497, x2510, x2511, x2524, x2525, x2528,
    x2529, x2530, x2538, x2539, x2552, x2553, x2566, x2567, x2580, x2581, x2584, x2587, x2590, x2594, x2595, x2608, x2609, x2622, x2623, x2625, x2633,
    x2640, x2641, x2643, x2646, x2647, x2653, x2663, x2673, x2683, x2693, x2700, x2701, x2703, x2711, x2721, x2731, x2741, x2748, x2749, x2751, x2754,
    x2755, x2756, x2761, x2771, x2778, x2779, x2781, x2789, x2799, x2806, x2807, x2809, x2810, x2819, x2829, x2839, x2849, x2856, x2857, x2859, x2862,
    x2865, x2867, x2877, x2887, x2897, x2907, x2914, x2915, x2917, x2918, x2919, x2927, x2934, x2935, x2938, x2941, x2944, x2947, x2950, x2953, x2956,
    x2959, x2966, x2971, x3012, x3013, x3052, x3053, x3066, x3067, x3092, x3093, x3120, x3121, x3128, x3133, x3174, x3175, x3214, x3215, x3218, x3228,
    x3229, x3254, x3255, x3259, x3260, x3282, x3283, x3290, x3295, x3302, x3336, x3337, x3344, x3376, x3377, x3384, x3386, x3390, x3391, x3416, x3417,
    x3424, x3426, x3428, x3444, x3445, x3457, x3469, x3470, x3498, x3499, x3506, x3511, x3552, x3553, x3592, x3593, x3606, x3607, x3632, x3633, x3660,
    x3661, x3668, x3673, x3714, x3715, x3754, x3755, x3758, x3768, x3769, x3794, x3795, x3799, x3800, x3822, x3823, x3840, x3853, x3854, x3912, x3913,
    x3914, x3966, x3969, x3972, x3973, x3974, x4019, x4033, x4034, x4091, x4094, x4109, x4111, x4113, x4115, x4137, x4138, x4142, x4169, x4184, x4196,
    x4212, x4228, x4230, x4244, k0_pay7, k0_pay8, k0_pay9, k0_pay10, k0_pay11, k0_pay12, k0_pay13, k0_pay14, k0_pay15, k0_pay16, k0_pay17, k0_pay18,
    k0_pay19, k0_pay20, k0_pay21, k0_pay22, k0_pay23, k0_pay24, k0_pay25, k0_pay26, k0_pay27, k0_pay28, k0_pay29, k0_pay30, k0_pay31, k0_pay32, k0_pay33,
    k0_pay34, rowsOf, ld_box, flat_eq, cell3_eq x4, cell1_eq x5, Fin.isValue, Fin.val_ofNat, Fin.val_zero, Fin.val_one, Fin.val_two, Fin.coe_ofNat_eq_mod,
    Nat.reduceMod, Nat.reduceMul, Nat.reduceAdd, Nat.mul_zero, Nat.add_zero, Nat.zero_add, Matrix.cons_val]

theorem out_B1 (hc0 : ¬cond0_0 i) (hc1 : ¬cond0_1 i) (s : Fin 8) (l : Fin 128) :
    out0_B_6 c i arg1 harg1 arg2 harg2 arg3 harg3 arg4 harg4 arg5 harg5 arg6 harg6 arg7 harg7 arg8 harg8 hc0 hc1 x0 x1 x2 x3 x4 x5 xo6 (ix3 1 s l)
      = (xo6 (ix3 1 s l) : EReal) + part i (x4228 (rowsOf x0 x1 x2 x3 x4 x5)) (ix2 s l) := by
  frame_out
  refine (View.read_writes_cons_unit_of_not_mem _ _ _ _ _ _ rfl 0 (.inl (by show 1 < 2; decide))).trans ?_
  refine (View.read_writes_cons_unit_of_mem _ _ _ _ _ _ (ix3 0 s l) rfl ?_).trans ?_
  · intro a; fin_cases a <;> simp
  refine (add1 i _ _ s l).trans ?_
  refine congrArg₂ (fun t u : EReal => t + u) ?_ (congrArg (fun z => part i z (ix2 s l)) ?_)
  · exact ld_row xo6 1 _ _ s l rfl
  · simp only [Stage.x1, Stage.x3, Stage.x5, x7, x9, x11, x13, x15, x17, x19, x21, x23, x25, x27, x29, x31, x33, x35, x37, x39, x41, x43, x45, x47, x49,
    x51, x53, x55, x57, x60, x63, x65, x68, x71, x73, x76, x79, x81, x84, x87, x90, x93, x96, x99, x102, x105, x108, x111, x136, x137, x164, x165, x172,
    x177, x218, x219, x258, x259, x272, x273, x298, x299, x326, x327, x334, x339, x342, x380, x381, x384, x420, x421, x425, x426, x434, x435, x460, x461,
    x468, x488, x489, x496, x501, x508, x510, x542, x543, x550, x552, x582, x583, x590, x592, x594, x596, x597, x623, x635, x636, x650, x651, x676, x677,
    x704, x705, x712, x717, x758, x759, x798, x799, x812, x813, x838, x839, x866, x867, x874, x879, x882, x920, x921, x924, x960, x961, x965, x966, x974,
    x975, x988, x989, x1002, x1003, x1016, x1017, x1020, x1023, x1026, x1030, x1031, x1044, x1045, x1058, x1059, x1072, x1073, x1079, x1085, x1086, x1087,
    x1100, x1101, x1114, x1115, x1128, x1129, x1142, x1143, x1146, x1156, x1157, x1170, x1171, x1184, x1185, x1198, x1199, x1201, x1204, x1205, x1209,
    x1219, x1229, x1239, x1249, x1256, x1257, x1259, x1269, x1276, x1277, x1279, x1287, x1297, x1305, x1307, x1313, x1314, x1317, x1327, x1337, x1347,
    x1354, x1355, x1357, x1360, x1363, x1365, x1368, x1375, x1385, x1395, x1405, x1415, x1422, x1423, x1425, x1432, x1433, x1435, x1443, x1453, x1463,
    x1470, x1471, x1473, x1476, x1477, x1483, x1493, x1503, x1510, x1511, x1514, x1517, x1520, x1523, x1526, x1529, x1532, x1533, x1534, x1535, x1574,
    x1575, x1588, x1589, x1614, x1615, x1642, x1643, x1650, x1655, x1696, x1697, x1736, x1737, x1750, x1751, x1776, x1777, x1780, x1804, x1805, x1812,
    x1817, x1821, x1822, x1858, x1859, x1863, x1864, x1898, x1899, x1906, x1912, x1913, x1938, x1939, x1946, x1948, x1966, x1967, x1974, x1979, x1986,
    x1988, x1990, x2020, x2021, x2028, x2030, x2032, x2061, x2073, x2074, x2075, x2114, x2115, x2128, x2129, x2154, x2155, x2182, x2183, x2190, x2195,
    x2236, x2237, x2276, x2277, x2290, x2291, x2316, x2317, x2320, x2344, x2345, x2352, x2357, x2361, x2362, x2398, x2399, x2402, x2405, x2408, x2409,
    x2410, x2412, x2413, x2426, x2427, x2440, x2441, x2454, x2455, x2468, x2469, x2470, x2482, x2483, x2496, x2497, x2510, x2511, x2524, x2525, x2528,
    x2529, x2530, x2538, x2539, x2552, x2553, x2566, x2567, x2580, x2581, x2584, x2587, x2590, x2594, x2595, x2608, x2609, x2622, x2623, x2625, x2633,
    x2640, x2641, x2643, x2646, x2647, x2653, x2663, x2673, x2683, x2693, x2700, x2701, x2703, x2711, x2721, x2731, x2741, x2748, x2749, x2751, x2754,
    x2755, x2756, x2761, x2771, x2778, x2779, x2781, x2789, x2799, x2806, x2807, x2809, x2810, x2819, x2829, x2839, x2849, x2856, x2857, x2859, x2862,
    x2865, x2867, x2877, x2887, x2897, x2907, x2914, x2915, x2917, x2918, x2919, x2927, x2934, x2935, x2938, x2941, x2944, x2947, x2950, x2953, x2956,
    x2959, x2966, x2971, x3012, x3013, x3052, x3053, x3066, x3067, x3092, x3093, x3120, x3121, x3128, x3133, x3174, x3175, x3214, x3215, x3218, x3228,
    x3229, x3254, x3255, x3259, x3260, x3282, x3283, x3290, x3295, x3302, x3336, x3337, x3344, x3376, x3377, x3384, x3386, x3390, x3391, x3416, x3417,
    x3424, x3426, x3428, x3444, x3445, x3457, x3469, x3470, x3498, x3499, x3506, x3511, x3552, x3553, x3592, x3593, x3606, x3607, x3632, x3633, x3660,
    x3661, x3668, x3673, x3714, x3715, x3754, x3755, x3758, x3768, x3769, x3794, x3795, x3799, x3800, x3822, x3823, x3840, x3853, x3854, x3912, x3913,
    x3914, x3966, x3969, x3972, x3973, x3974, x4019, x4033, x4034, x4091, x4094, x4109, x4111, x4113, x4115, x4137, x4138, x4142, x4169, x4184, x4196,
    x4212, x4228, x4230, x4244, k0_pay7, k0_pay8, k0_pay9, k0_pay10, k0_pay11, k0_pay12, k0_pay13, k0_pay14, k0_pay15, k0_pay16, k0_pay17, k0_pay18,
    k0_pay19, k0_pay20, k0_pay21, k0_pay22, k0_pay23, k0_pay24, k0_pay25, k0_pay26, k0_pay27, k0_pay28, k0_pay29, k0_pay30, k0_pay31, k0_pay32, k0_pay33,
    k0_pay34, rowsOf, ld_box, flat_eq, cell3_eq x4, cell1_eq x5, Fin.isValue, Fin.val_ofNat, Fin.val_zero, Fin.val_one, Fin.val_two, Fin.coe_ofNat_eq_mod,
    Nat.reduceMod, Nat.reduceMul, Nat.reduceAdd, Nat.mul_zero, Nat.add_zero, Nat.zero_add, Matrix.cons_val]

theorem out_B2 (hc0 : ¬cond0_0 i) (hc1 : ¬cond0_1 i) (s : Fin 8) (l : Fin 128) :
    out0_B_6 c i arg1 harg1 arg2 harg2 arg3 harg3 arg4 harg4 arg5 harg5 arg6 harg6 arg7 harg7 arg8 harg8 hc0 hc1 x0 x1 x2 x3 x4 x5 xo6 (ix3 2 s l)
      = (xo6 (ix3 2 s l) : EReal) + part i (x4244 (rowsOf x0 x1 x2 x3 x4 x5)) (ix2 s l) := by
  frame_out
  refine (View.read_writes_cons_unit_of_mem _ _ _ _ _ _ (ix3 0 s l) rfl ?_).trans ?_
  · intro a; fin_cases a <;> simp
  refine (add2 i _ _ s l).trans ?_
  refine congrArg₂ (fun t u : EReal => t + u) ?_ (congrArg (fun z => part i z (ix2 s l)) ?_)
  · exact ld_row xo6 2 _ _ s l rfl
  · simp only [Stage.x1, Stage.x3, Stage.x5, x7, x9, x11, x13, x15, x17, x19, x21, x23, x25, x27, x29, x31, x33, x35, x37, x39, x41, x43, x45, x47, x49,
    x51, x53, x55, x57, x60, x63, x65, x68, x71, x73, x76, x79, x81, x84, x87, x90, x93, x96, x99, x102, x105, x108, x111, x136, x137, x164, x165, x172,
    x177, x218, x219, x258, x259, x272, x273, x298, x299, x326, x327, x334, x339, x342, x380, x381, x384, x420, x421, x425, x426, x434, x435, x460, x461,
    x468, x488, x489, x496, x501, x508, x510, x542, x543, x550, x552, x582, x583, x590, x592, x594, x596, x597, x623, x635, x636, x650, x651, x676, x677,
    x704, x705, x712, x717, x758, x759, x798, x799, x812, x813, x838, x839, x866, x867, x874, x879, x882, x920, x921, x924, x960, x961, x965, x966, x974,
    x975, x988, x989, x1002, x1003, x1016, x1017, x1020, x1023, x1026, x1030, x1031, x1044, x1045, x1058, x1059, x1072, x1073, x1079, x1085, x1086, x1087,
    x1100, x1101, x1114, x1115, x1128, x1129, x1142, x1143, x1146, x1156, x1157, x1170, x1171, x1184, x1185, x1198, x1199, x1201, x1204, x1205, x1209,
    x1219, x1229, x1239, x1249, x1256, x1257, x1259, x1269, x1276, x1277, x1279, x1287, x1297, x1305, x1307, x1313, x1314, x1317, x1327, x1337, x1347,
    x1354, x1355, x1357, x1360, x1363, x1365, x1368, x1375, x1385, x1395, x1405, x1415, x1422, x1423, x1425, x1432, x1433, x1435, x1443, x1453, x1463,
    x1470, x1471, x1473, x1476, x1477, x1483, x1493, x1503, x1510, x1511, x1514, x1517, x1520, x1523, x1526, x1529, x1532, x1533, x1534, x1535, x1574,
    x1575, x1588, x1589, x1614, x1615, x1642, x1643, x1650, x1655, x1696, x1697, x1736, x1737, x1750, x1751, x1776, x1777, x1780, x1804, x1805, x1812,
    x1817, x1821, x1822, x1858, x1859, x1863, x1864, x1898, x1899, x1906, x1912, x1913, x1938, x1939, x1946, x1948, x1966, x1967, x1974, x1979, x1986,
    x1988, x1990, x2020, x2021, x2028, x2030, x2032, x2061, x2073, x2074, x2075, x2114, x2115, x2128, x2129, x2154, x2155, x2182, x2183, x2190, x2195,
    x2236, x2237, x2276, x2277, x2290, x2291, x2316, x2317, x2320, x2344, x2345, x2352, x2357, x2361, x2362, x2398, x2399, x2402, x2405, x2408, x2409,
    x2410, x2412, x2413, x2426, x2427, x2440, x2441, x2454, x2455, x2468, x2469, x2470, x2482, x2483, x2496, x2497, x2510, x2511, x2524, x2525, x2528,
    x2529, x2530, x2538, x2539, x2552, x2553, x2566, x2567, x2580, x2581, x2584, x2587, x2590, x2594, x2595, x2608, x2609, x2622, x2623, x2625, x2633,
    x2640, x2641, x2643, x2646, x2647, x2653, x2663, x2673, x2683, x2693, x2700, x2701, x2703, x2711, x2721, x2731, x2741, x2748, x2749, x2751, x2754,
    x2755, x2756, x2761, x2771, x2778, x2779, x2781, x2789, x2799, x2806, x2807, x2809, x2810, x2819, x2829, x2839, x2849, x2856, x2857, x2859, x2862,
    x2865, x2867, x2877, x2887, x2897, x2907, x2914, x2915, x2917, x2918, x2919, x2927, x2934, x2935, x2938, x2941, x2944, x2947, x2950, x2953, x2956,
    x2959, x2966, x2971, x3012, x3013, x3052, x3053, x3066, x3067, x3092, x3093, x3120, x3121, x3128, x3133, x3174, x3175, x3214, x3215, x3218, x3228,
    x3229, x3254, x3255, x3259, x3260, x3282, x3283, x3290, x3295, x3302, x3336, x3337, x3344, x3376, x3377, x3384, x3386, x3390, x3391, x3416, x3417,
    x3424, x3426, x3428, x3444, x3445, x3457, x3469, x3470, x3498, x3499, x3506, x3511, x3552, x3553, x3592, x3593, x3606, x3607, x3632, x3633, x3660,
    x3661, x3668, x3673, x3714, x3715, x3754, x3755, x3758, x3768, x3769, x3794, x3795, x3799, x3800, x3822, x3823, x3840, x3853, x3854, x3912, x3913,
    x3914, x3966, x3969, x3972, x3973, x3974, x4019, x4033, x4034, x4091, x4094, x4109, x4111, x4113, x4115, x4137, x4138, x4142, x4169, x4184, x4196,
    x4212, x4228, x4230, x4244, k0_pay7, k0_pay8, k0_pay9, k0_pay10, k0_pay11, k0_pay12, k0_pay13, k0_pay14, k0_pay15, k0_pay16, k0_pay17, k0_pay18,
    k0_pay19, k0_pay20, k0_pay21, k0_pay22, k0_pay23, k0_pay24, k0_pay25, k0_pay26, k0_pay27, k0_pay28, k0_pay29, k0_pay30, k0_pay31, k0_pay32, k0_pay33,
    k0_pay34, rowsOf, ld_box, flat_eq, cell3_eq x4, cell1_eq x5, Fin.isValue, Fin.val_ofNat, Fin.val_zero, Fin.val_one, Fin.val_two, Fin.coe_ofNat_eq_mod,
    Nat.reduceMod, Nat.reduceMul, Nat.reduceAdd, Nat.mul_zero, Nat.add_zero, Nat.zero_add, Matrix.cons_val]

end Cert.Stage

end
-- ==== Proof.Final.lean ====
/- The last grid point's head, from the three rows. -/
module

public import proofs.«01_k».proof.Proof.Gen.KernelIdeal.Frame
public import proofs.«01_k».proof.Proof.Rows
public import proofs.«01_k».proof.Proof.Network
public import Idealize.ShloMosaic.Lib.Pointwise
public import Idealize.ShloMosaic.Lib.Pipeline.ValueKit
public import Idealize.ShloMosaic.Lib.ValueLayout

@[expose] public section

set_option maxHeartbeats 400000
set_option maxRecDepth 100000

noncomputable section

namespace Cert.Stage

open Idealize.ShloMosaic hiding ix2 ix3
open Idealize.ShloMosaic.ValueIdx Idealize.SL.Sem Cert.KernelIdeal Cert.KernelIdeal.Gen

/-- The mean of one row over the ten thousand nodes. -/
def mean (t : EReal) : EReal := Scalar.divf (F := Ideal) (φ := .f32) t (Scalar.ofBits .f32 0x461C4000#32)

theorem row_sum (v : Vec Ideal S1x8x128 .f32) :
    extractAt ![0, 0, 0] (shapeCast S1x1x1 (multiReduction (F := Ideal) .add [1, 2] S1
      (shapeCast S1x8x128 (shapeCast S8x128 v shapeCasts_S1x8x128_S8x128) shapeCasts_S8x128_S1x8x128) 0x00000000#32 reduces_S1x8x128_S1 (.inl rfl) rfl)
      shapeCasts_S1_S1x1x1) inpos_S1x1x1_p0_0_0 = ∑ s : Fin 8, ∑ l : Fin 128, (v (ix3 0 s l) : EReal) := by
  rw [shapeCast_shapeCast]
  pointwise
  rfl

/-- The head of the three means: a layer of two with the leaky rectifier, then a layer of two. -/
def headHid (w : Fin 2 → Fin 3 → EReal) (c : Fin 2 → EReal) (g : Fin 3 → EReal) (j : Fin 2) : EReal :=
  leak (w j 0 * g 0 + w j 1 * g 1 + w j 2 * g 2 + c j)
def headOut (w : Fin 2 → EReal) (c : EReal) (y : Fin 2 → EReal) : EReal := w 0 * y 0 + w 1 * y 1 + c
/-- The head's weights out of the cells of the packed operand. -/
def hw1 (x5 : Vec Ideal S44 .f32) (j : Fin 2) (k : Fin 3) : EReal := cell1 x5 ![30 + 3 * j + k]
def hb1 (x5 : Vec Ideal S44 .f32) (j : Fin 2) : EReal := cell1 x5 ![36 + j]
def hw2 (x5 : Vec Ideal S44 .f32) (j : Fin 2) (k : Fin 2) : EReal := cell1 x5 ![38 + 2 * j + k]
def hb2 (x5 : Vec Ideal S44 .f32) (j : Fin 2) : EReal := cell1 x5 ![42 + j]

theorem pay2_eq (v : Vec Ideal S1x8x128 .f32) : k0_pay2 v = mean (∑ s : Fin 8, ∑ l : Fin 128, (v (ix3 0 s l) : EReal)) := congrArg mean (row_sum v)
theorem pay3_eq (v : Vec Ideal S1x8x128 .f32) : k0_pay3 v = mean (∑ s : Fin 8, ∑ l : Fin 128, (v (ix3 0 s l) : EReal)) := congrArg mean (row_sum v)
theorem pay4_eq (v : Vec Ideal S1x8x128 .f32) : k0_pay4 v = mean (∑ s : Fin 8, ∑ l : Fin 128, (v (ix3 0 s l) : EReal)) := congrArg mean (row_sum v)

/-- The head's tile at its two cells. -/
theorem head_form (q : Fin 2) (r0 r1 r2 : Vec Ideal S1x8x128 .f32) (w0 w1 w2 c0 v0 v1 v2 c1 a0 a1 d0 b0 b1 d1 : EReal) (g0 g1 g2 : Fin 8 → Fin 128 → EReal)
    (h0 : ∀ s l, (r0 (ix3 0 s l) : EReal) = g0 s l) (h1 : ∀ s l, (r1 (ix3 0 s l) : EReal) = g1 s l) (h2 : ∀ s l, (r2 (ix3 0 s l) : EReal) = g2 s l) :
    k0_pay1 (F := Ideal) (iota .tc S8x128 32 [0] iota_S8x128_d0_w32) (iota .tc S8x128 32 [1] iota_S8x128_d1_w32) (k0_pay3 r1) (k0_pay4 r2)
      (k0_pay5 r0 r1 r2 w0 w1 w2 c0) (k0_pay6 r0 v0) v1 v2 c1 a0 a1 d0 b0 b1 d1 (ix2 0 ⟨q, by omega⟩)
    = headOut (![![a0, a1], ![b0, b1]] q) (![d0, d1] q) (headHid ![![w0, w1, w2], ![v0, v1, v2]] ![c0, c1] ![mean (∑ s, ∑ l, g0 s l), mean (∑ s, ∑ l, g1 s l), mean (∑ s, ∑ l, g2 s l)]) := by
  have e2 := (pay2_eq r0).trans (congrArg mean (Finset.sum_congr rfl fun s _ => Finset.sum_congr rfl fun l _ => h0 s l))
  have e3 := (pay3_eq r1).trans (congrArg mean (Finset.sum_congr rfl fun s _ => Finset.sum_congr rfl fun l _ => h1 s l))
  have e4 := (pay4_eq r2).trans (congrArg mean (Finset.sum_congr rfl fun s _ => Finset.sum_congr rfl fun l _ => h2 s l))
  have e5 : k0_pay5 r0 r1 r2 w0 w1 w2 c0 = leak (w0 * k0_pay2 r0 + w1 * k0_pay3 r1 + w2 * k0_pay4 r2 + c0) := rfl
  have e6 : k0_pay6 r0 v0 = v0 * k0_pay2 r0 := rfl
  rw [e5, e6, e2, e3, e4]
  fin_cases q <;> rfl

end Cert.Stage

end
-- ==== Proof.Head.lean ====
/- What a grid point's loads bring, from its blocks. -/
module

public import proofs.«01_k».proof.Proof.Gen.KernelIdeal.Frame
public import proofs.«01_k».proof.Proof.Final
public import Idealize.ShloMosaic.Lib.Pipeline.ValueKit
public import Idealize.ShloMosaic.Lib.WritesUnit
public import Idealize.ShloMosaic.Lib.ValueLayout

@[expose] public section

set_option maxHeartbeats 4000000
set_option maxRecDepth 100000

noncomputable section

namespace Cert.Stage

open Idealize.ShloMosaic hiding ix2 ix3
open Idealize.ShloMosaic.ValueIdx Idealize.SL.Sem Cert.KernelIdeal Cert.KernelIdeal.Gen

variable (c : Dev nD) (i : grid0.Coords) (arg1 : Memref sig .tc .vmem S32x8x128 .f32) (harg1 : arg1.IsWhole) (arg2 : Memref sig .tc .vmem S4x8x128 .f32) (harg2 : arg2.IsWhole)
  (arg3 : Memref sig .tc .vmem S4x8x128 .f32) (harg3 : arg3.IsWhole) (arg4 : Memref sig .tc .vmem S4x8x128 .f32) (harg4 : arg4.IsWhole)
  (arg5 : Memref sig .tc .smem S2x8x8 .f32) (harg5 : arg5.IsWhole) (arg6 : Memref sig .tc .smem S44 .f32) (harg6 : arg6.IsWhole)
  (arg7 : Memref sig .tc .vmem S4x8x128 .f32) (harg7 : arg7.IsWhole) (arg8 : Memref sig .tc .vmem S8x128 .f32) (harg8 : arg8.IsWhole)
  (x0 : Vec Ideal S32x8x128 .f32) (x1 x2 x3 : Vec Ideal S4x8x128 .f32) (x4 : Vec Ideal S2x8x8 .f32) (x5 : Vec Ideal S44 .f32) (xo6 : Vec Ideal S4x8x128 .f32)

/-- The three rows after the last point's additions. -/
def rowEnd (k : Fin 3) (s : Fin 8) (l : Fin 128) : EReal :=
  (![(xo6 (ix3 0 s l) : EReal) + part i (x4212 (rowsOf x0 x1 x2 x3 x4 x5)) (ix2 s l),
    (xo6 (ix3 1 s l) : EReal) + part i (x4228 (rowsOf x0 x1 x2 x3 x4 x5)) (ix2 s l),
    (xo6 (ix3 2 s l) : EReal) + part i (x4244 (rowsOf x0 x1 x2 x3 x4 x5)) (ix2 s l)] : Fin 3 → EReal) k

theorem out_C7 (hc0 : ¬cond0_0 i) (hc1 : cond0_1 i) (q : Fin 2) :
    out0_C_7 c i arg1 harg1 arg2 harg2 arg3 harg3 arg4 harg4 arg5 harg5 arg6 harg6 arg7 harg7 arg8 harg8 hc0 hc1 x0 x1 x2 x3 x4 x5 xo6 (ix2 0 ⟨q, by omega⟩)
      = headOut (hw2 x5 q) (hb2 x5 q) (headHid (hw1 x5) (hb1 x5) fun k => mean (∑ s, ∑ l, rowEnd i x0 x1 x2 x3 x4 x5 xo6 k s l)) := by
  frame_out
  refine (head_form q _ _ _ _ _ _ _ _ _ _ _ _ _ _ _ _ _ (rowEnd i x0 x1 x2 x3 x4 x5 xo6 0) (rowEnd i x0 x1 x2 x3 x4 x5 xo6 1) (rowEnd i x0 x1 x2 x3 x4 x5 xo6 2) ?_ ?_ ?_).trans ?_
  · intro s l
    refine (cov_row _ _ 0 _ _ s l rfl).trans ?_
    refine (canon_miss 0 2 _ _ _ _ s l rfl (by decide)).trans ?_
    refine (canon_miss 0 1 _ _ _ _ s l rfl (by decide)).trans ?_
    refine (canon_hit 0 _ _ _ _ s l rfl).trans ?_
    refine (add0 i _ _ s l).trans ?_
    refine congrArg₂ (fun t u : EReal => t + u) ?_ (congrArg (fun z => part i z (ix2 s l)) ?_)
    · exact ld_row xo6 0 _ _ s l rfl
    · simp only [Stage.x1, Stage.x3, Stage.x5, x7, x9, x11, x13, x15, x17, x19, x21, x23, x25, x27, x29, x31, x33, x35, x37, x39, x41, x43, x45, x47, x49,
      x51, x53, x55, x57, x60, x63, x65, x68, x71, x73, x76, x79, x81, x84, x87, x90, x93, x96, x99, x102, x105, x108, x111, x136, x137, x164, x165, x172,
      x177, x218, x219, x258, x259, x272, x273, x298, x299, x326, x327, x334, x339, x342, x380, x381, x384, x420, x421, x425, x426, x434, x435, x460, x461,
      x468, x488, x489, x496, x501, x508, x510, x542, x543, x550, x552, x582, x583, x590, x592, x594, x596, x597, x623, x635, x636, x650, x651, x676, x677,
      x704, x705, x712, x717, x758, x759, x798, x799, x812, x813, x838, x839, x866, x867, x874, x879, x882, x920, x921, x924, x960, x961, x965, x966, x974,
      x975, x988, x989, x1002, x1003, x1016, x1017, x1020, x1023, x1026, x1030, x1031, x1044, x1045, x1058, x1059, x1072, x1073, x1079, x1085, x1086, x1087,
      x1100, x1101, x1114, x1115, x1128, x1129, x1142, x1143, x1146, x1156, x1157, x1170, x1171, x1184, x1185, x1198, x1199, x1201, x1204, x1205, x1209,
      x1219, x1229, x1239, x1249, x1256, x1257, x1259, x1269, x1276, x1277, x1279, x1287, x1297, x1305, x1307, x1313, x1314, x1317, x1327, x1337, x1347,
      x1354, x1355, x1357, x1360, x1363, x1365, x1368, x1375, x1385, x1395, x1405, x1415, x1422, x1423, x1425, x1432, x1433, x1435, x1443, x1453, x1463,
      x1470, x1471, x1473, x1476, x1477, x1483, x1493, x1503, x1510, x1511, x1514, x1517, x1520, x1523, x1526, x1529, x1532, x1533, x1534, x1535, x1574,
      x1575, x1588, x1589, x1614, x1615, x1642, x1643, x1650, x1655, x1696, x1697, x1736, x1737, x1750, x1751, x1776, x1777, x1780, x1804, x1805, x1812,
      x1817, x1821, x1822, x1858, x1859, x1863, x1864, x1898, x1899, x1906, x1912, x1913, x1938, x1939, x1946, x1948, x1966, x1967, x1974, x1979, x1986,
      x1988, x1990, x2020, x2021, x2028, x2030, x2032, x2061, x2073, x2074, x2075, x2114, x2115, x2128, x2129, x2154, x2155, x2182, x2183, x2190, x2195,
      x2236, x2237, x2276, x2277, x2290, x2291, x2316, x2317, x2320, x2344, x2345, x2352, x2357, x2361, x2362, x2398, x2399, x2402, x2405, x2408, x2409,
      x2410, x2412, x2413, x2426, x2427, x2440, x2441, x2454, x2455, x2468, x2469, x2470, x2482, x2483, x2496, x2497, x2510, x2511, x2524, x2525, x2528,
      x2529, x2530, x2538, x2539, x2552, x2553, x2566, x2567, x2580, x2581, x2584, x2587, x2590, x2594, x2595, x2608, x2609, x2622, x2623, x2625, x2633,
      x2640, x2641, x2643, x2646, x2647, x2653, x2663, x2673, x2683, x2693, x2700, x2701, x2703, x2711, x2721, x2731, x2741, x2748, x2749, x2751, x2754,
      x2755, x2756, x2761, x2771, x2778, x2779, x2781, x2789, x2799, x2806, x2807, x2809, x2810, x2819, x2829, x2839, x2849, x2856, x2857, x2859, x2862,
      x2865, x2867, x2877, x2887, x2897, x2907, x2914, x2915, x2917, x2918, x2919, x2927, x2934, x2935, x2938, x2941, x2944, x2947, x2950, x2953, x2956,
      x2959, x2966, x2971, x3012, x3013, x3052, x3053, x3066, x3067, x3092, x3093, x3120, x3121, x3128, x3133, x3174, x3175, x3214, x3215, x3218, x3228,
      x3229, x3254, x3255, x3259, x3260, x3282, x3283, x3290, x3295, x3302, x3336, x3337, x3344, x3376, x3377, x3384, x3386, x3390, x3391, x3416, x3417,
      x3424, x3426, x3428, x3444, x3445, x3457, x3469, x3470, x3498, x3499, x3506, x3511, x3552, x3553, x3592, x3593, x3606, x3607, x3632, x3633, x3660,
      x3661, x3668, x3673, x3714, x3715, x3754, x3755, x3758, x3768, x3769, x3794, x3795, x3799, x3800, x3822, x3823, x3840, x3853, x3854, x3912, x3913,
      x3914, x3966, x3969, x3972, x3973, x3974, x4019, x4033, x4034, x4091, x4094, x4109, x4111, x4113, x4115, x4137, x4138, x4142, x4169, x4184, x4196,
      x4212, x4228, x4230, x4244, k0_pay7, k0_pay8, k0_pay9, k0_pay10, k0_pay11, k0_pay12, k0_pay13, k0_pay14, k0_pay15, k0_pay16, k0_pay17, k0_pay18,
      k0_pay19, k0_pay20, k0_pay21, k0_pay22, k0_pay23, k0_pay24, k0_pay25, k0_pay26, k0_pay27, k0_pay28, k0_pay29, k0_pay30, k0_pay31, k0_pay32, k0_pay33,
      k0_pay34, rowsOf, ld_box, flat_eq, cell3_eq x4, cell1_eq x5, Fin.isValue, Fin.val_ofNat, Fin.val_zero, Fin.val_one, Fin.val_two, Fin.coe_ofNat_eq_mod,
      Nat.reduceMod, Nat.reduceMul, Nat.reduceAdd, Nat.mul_zero, Nat.add_zero, Nat.zero_add, Matrix.cons_val]
  · intro s l
    refine (cov_row _ _ 1 _ _ s l rfl).trans ?_
    refine (canon_miss 1 2 _ _ _ _ s l rfl (by decide)).trans ?_
    refine (canon_hit 1 _ _ _ _ s l rfl).trans ?_
    refine (add1 i _ _ s l).trans ?_
    refine congrArg₂ (fun t u : EReal => t + u) ?_ (congrArg (fun z => part i z (ix2 s l)) ?_)
    · exact ld_row xo6 1 _ _ s l rfl
    · simp only [Stage.x1, Stage.x3, Stage.x5, x7, x9, x11, x13, x15, x17, x19, x21, x23, x25, x27, x29, x31, x33, x35, x37, x39, x41, x43, x45, x47, x49,
      x51, x53, x55, x57, x60, x63, x65, x68, x71, x73, x76, x79, x81, x84, x87, x90, x93, x96, x99, x102, x105, x108, x111, x136, x137, x164, x165, x172,
      x177, x218, x219, x258, x259, x272, x273, x298, x299, x326, x327, x334, x339, x342, x380, x381, x384, x420, x421, x425, x426, x434, x435, x460, x461,
      x468, x488, x489, x496, x501, x508, x510, x542, x543, x550, x552, x582, x583, x590, x592, x594, x596, x597, x623, x635, x636, x650, x651, x676, x677,
      x704, x705, x712, x717, x758, x759, x798, x799, x812, x813, x838, x839, x866, x867, x874, x879, x882, x920, x921, x924, x960, x961, x965, x966, x974,
      x975, x988, x989, x1002, x1003, x1016, x1017, x1020, x1023, x1026, x1030, x1031, x1044, x1045, x1058, x1059, x1072, x1073, x1079, x1085, x1086, x1087,
      x1100, x1101, x1114, x1115, x1128, x1129, x1142, x1143, x1146, x1156, x1157, x1170, x1171, x1184, x1185, x1198, x1199, x1201, x1204, x1205, x1209,
      x1219, x1229, x1239, x1249, x1256, x1257, x1259, x1269, x1276, x1277, x1279, x1287, x1297, x1305, x1307, x1313, x1314, x1317, x1327, x1337, x1347,
      x1354, x1355, x1357, x1360, x1363, x1365, x1368, x1375, x1385, x1395, x1405, x1415, x1422, x1423, x1425, x1432, x1433, x1435, x1443, x1453, x1463,
      x1470, x1471, x1473, x1476, x1477, x1483, x1493, x1503, x1510, x1511, x1514, x1517, x1520, x1523, x1526, x1529, x1532, x1533, x1534, x1535, x1574,
      x1575, x1588, x1589, x1614, x1615, x1642, x1643, x1650, x1655, x1696, x1697, x1736, x1737, x1750, x1751, x1776, x1777, x1780, x1804, x1805, x1812,
      x1817, x1821, x1822, x1858, x1859, x1863, x1864, x1898, x1899, x1906, x1912, x1913, x1938, x1939, x1946, x1948, x1966, x1967, x1974, x1979, x1986,
      x1988, x1990, x2020, x2021, x2028, x2030, x2032, x2061, x2073, x2074, x2075, x2114, x2115, x2128, x2129, x2154, x2155, x2182, x2183, x2190, x2195,
      x2236, x2237, x2276, x2277, x2290, x2291, x2316, x2317, x2320, x2344, x2345, x2352, x2357, x2361, x2362, x2398, x2399, x2402, x2405, x2408, x2409,
      x2410, x2412, x2413, x2426, x2427, x2440, x2441, x2454, x2455, x2468, x2469, x2470, x2482, x2483, x2496, x2497, x2510, x2511, x2524, x2525, x2528,
      x2529, x2530, x2538, x2539, x2552, x2553, x2566, x2567, x2580, x2581, x2584, x2587, x2590, x2594, x2595, x2608, x2609, x2622, x2623, x2625, x2633,
      x2640, x2641, x2643, x2646, x2647, x2653, x2663, x2673, x2683, x2693, x2700, x2701, x2703, x2711, x2721, x2731, x2741, x2748, x2749, x2751, x2754,
      x2755, x2756, x2761, x2771, x2778, x2779, x2781, x2789, x2799, x2806, x2807, x2809, x2810, x2819, x2829, x2839, x2849, x2856, x2857, x2859, x2862,
      x2865, x2867, x2877, x2887, x2897, x2907, x2914, x2915, x2917, x2918, x2919, x2927, x2934, x2935, x2938, x2941, x2944, x2947, x2950, x2953, x2956,
      x2959, x2966, x2971, x3012, x3013, x3052, x3053, x3066, x3067, x3092, x3093, x3120, x3121, x3128, x3133, x3174, x3175, x3214, x3215, x3218, x3228,
      x3229, x3254, x3255, x3259, x3260, x3282, x3283, x3290, x3295, x3302, x3336, x3337, x3344, x3376, x3377, x3384, x3386, x3390, x3391, x3416, x3417,
      x3424, x3426, x3428, x3444, x3445, x3457, x3469, x3470, x3498, x3499, x3506, x3511, x3552, x3553, x3592, x3593, x3606, x3607, x3632, x3633, x3660,
      x3661, x3668, x3673, x3714, x3715, x3754, x3755, x3758, x3768, x3769, x3794, x3795, x3799, x3800, x3822, x3823, x3840, x3853, x3854, x3912, x3913,
      x3914, x3966, x3969, x3972, x3973, x3974, x4019, x4033, x4034, x4091, x4094, x4109, x4111, x4113, x4115, x4137, x4138, x4142, x4169, x4184, x4196,
      x4212, x4228, x4230, x4244, k0_pay7, k0_pay8, k0_pay9, k0_pay10, k0_pay11, k0_pay12, k0_pay13, k0_pay14, k0_pay15, k0_pay16, k0_pay17, k0_pay18,
      k0_pay19, k0_pay20, k0_pay21, k0_pay22, k0_pay23, k0_pay24, k0_pay25, k0_pay26, k0_pay27, k0_pay28, k0_pay29, k0_pay30, k0_pay31, k0_pay32, k0_pay33,
      k0_pay34, rowsOf, ld_box, flat_eq, cell3_eq x4, cell1_eq x5, Fin.isValue, Fin.val_ofNat, Fin.val_zero, Fin.val_one, Fin.val_two, Fin.coe_ofNat_eq_mod,
      Nat.reduceMod, Nat.reduceMul, Nat.reduceAdd, Nat.mul_zero, Nat.add_zero, Nat.zero_add, Matrix.cons_val]
  · intro s l
    refine (cov_row _ _ 2 _ _ s l rfl).trans ?_
    refine (canon_hit 2 _ _ _ _ s l rfl).trans ?_
    refine (add2 i _ _ s l).trans ?_
    refine congrArg₂ (fun t u : EReal => t + u) ?_ (congrArg (fun z => part i z (ix2 s l)) ?_)
    · exact ld_row xo6 2 _ _ s l rfl
    · simp only [Stage.x1, Stage.x3, Stage.x5, x7, x9, x11, x13, x15, x17, x19, x21, x23, x25, x27, x29, x31, x33, x35, x37, x39, x41, x43, x45, x47, x49,
      x51, x53, x55, x57, x60, x63, x65, x68, x71, x73, x76, x79, x81, x84, x87, x90, x93, x96, x99, x102, x105, x108, x111, x136, x137, x164, x165, x172,
      x177, x218, x219, x258, x259, x272, x273, x298, x299, x326, x327, x334, x339, x342, x380, x381, x384, x420, x421, x425, x426, x434, x435, x460, x461,
      x468, x488, x489, x496, x501, x508, x510, x542, x543, x550, x552, x582, x583, x590, x592, x594, x596, x597, x623, x635, x636, x650, x651, x676, x677,
      x704, x705, x712, x717, x758, x759, x798, x799, x812, x813, x838, x839, x866, x867, x874, x879, x882, x920, x921, x924, x960, x961, x965, x966, x974,
      x975, x988, x989, x1002, x1003, x1016, x1017, x1020, x1023, x1026, x1030, x1031, x1044, x1045, x1058, x1059, x1072, x1073, x1079, x1085, x1086, x1087,
      x1100, x1101, x1114, x1115, x1128, x1129, x1142, x1143, x1146, x1156, x1157, x1170, x1171, x1184, x1185, x1198, x1199, x1201, x1204, x1205, x1209,
      x1219, x1229, x1239, x1249, x1256, x1257, x1259, x1269, x1276, x1277, x1279, x1287, x1297, x1305, x1307, x1313, x1314, x1317, x1327, x1337, x1347,
      x1354, x1355, x1357, x1360, x1363, x1365, x1368, x1375, x1385, x1395, x1405, x1415, x1422, x1423, x1425, x1432, x1433, x1435, x1443, x1453, x1463,
      x1470, x1471, x1473, x1476, x1477, x1483, x1493, x1503, x1510, x1511, x1514, x1517, x1520, x1523, x1526, x1529, x1532, x1533, x1534, x1535, x1574,
      x1575, x1588, x1589, x1614, x1615, x1642, x1643, x1650, x1655, x1696, x1697, x1736, x1737, x1750, x1751, x1776, x1777, x1780, x1804, x1805, x1812,
      x1817, x1821, x1822, x1858, x1859, x1863, x1864, x1898, x1899, x1906, x1912, x1913, x1938, x1939, x1946, x1948, x1966, x1967, x1974, x1979, x1986,
      x1988, x1990, x2020, x2021, x2028, x2030, x2032, x2061, x2073, x2074, x2075, x2114, x2115, x2128, x2129, x2154, x2155, x2182, x2183, x2190, x2195,
      x2236, x2237, x2276, x2277, x2290, x2291, x2316, x2317, x2320, x2344, x2345, x2352, x2357, x2361, x2362, x2398, x2399, x2402, x2405, x2408, x2409,
      x2410, x2412, x2413, x2426, x2427, x2440, x2441, x2454, x2455, x2468, x2469, x2470, x2482, x2483, x2496, x2497, x2510, x2511, x2524, x2525, x2528,
      x2529, x2530, x2538, x2539, x2552, x2553, x2566, x2567, x2580, x2581, x2584, x2587, x2590, x2594, x2595, x2608, x2609, x2622, x2623, x2625, x2633,
      x2640, x2641, x2643, x2646, x2647, x2653, x2663, x2673, x2683, x2693, x2700, x2701, x2703, x2711, x2721, x2731, x2741, x2748, x2749, x2751, x2754,
      x2755, x2756, x2761, x2771, x2778, x2779, x2781, x2789, x2799, x2806, x2807, x2809, x2810, x2819, x2829, x2839, x2849, x2856, x2857, x2859, x2862,
      x2865, x2867, x2877, x2887, x2897, x2907, x2914, x2915, x2917, x2918, x2919, x2927, x2934, x2935, x2938, x2941, x2944, x2947, x2950, x2953, x2956,
      x2959, x2966, x2971, x3012, x3013, x3052, x3053, x3066, x3067, x3092, x3093, x3120, x3121, x3128, x3133, x3174, x3175, x3214, x3215, x3218, x3228,
      x3229, x3254, x3255, x3259, x3260, x3282, x3283, x3290, x3295, x3302, x3336, x3337, x3344, x3376, x3377, x3384, x3386, x3390, x3391, x3416, x3417,
      x3424, x3426, x3428, x3444, x3445, x3457, x3469, x3470, x3498, x3499, x3506, x3511, x3552, x3553, x3592, x3593, x3606, x3607, x3632, x3633, x3660,
      x3661, x3668, x3673, x3714, x3715, x3754, x3755, x3758, x3768, x3769, x3794, x3795, x3799, x3800, x3822, x3823, x3840, x3853, x3854, x3912, x3913,
      x3914, x3966, x3969, x3972, x3973, x3974, x4019, x4033, x4034, x4091, x4094, x4109, x4111, x4113, x4115, x4137, x4138, x4142, x4169, x4184, x4196,
      x4212, x4228, x4230, x4244, k0_pay7, k0_pay8, k0_pay9, k0_pay10, k0_pay11, k0_pay12, k0_pay13, k0_pay14, k0_pay15, k0_pay16, k0_pay17, k0_pay18,
      k0_pay19, k0_pay20, k0_pay21, k0_pay22, k0_pay23, k0_pay24, k0_pay25, k0_pay26, k0_pay27, k0_pay28, k0_pay29, k0_pay30, k0_pay31, k0_pay32, k0_pay33,
      k0_pay34, rowsOf, ld_box, flat_eq, cell3_eq x4, cell1_eq x5, Fin.isValue, Fin.val_ofNat, Fin.val_zero, Fin.val_one, Fin.val_two, Fin.coe_ofNat_eq_mod,
      Nat.reduceMod, Nat.reduceMul, Nat.reduceAdd, Nat.mul_zero, Nat.add_zero, Nat.zero_add, Matrix.cons_val]
  · simp only [cell1_eq x5]
    refine congr (congr (congrArg headOut ?_) ?_) (congr (congr (congrArg headHid ?_) ?_) ?_)
    · funext k; fin_cases q <;> fin_cases k <;> rfl
    · fin_cases q <;> rfl
    · funext j k; fin_cases j <;> fin_cases k <;> rfl
    · funext j; fin_cases j <;> rfl
    · funext k; fin_cases k <;> rfl

end Cert.Stage

end
-- ==== Proof.Total.lean ====
/- The accumulated rows over the grid, and the array the last point leaves. -/
module

public import proofs.«01_k».proof.Proof.StepA
public import proofs.«01_k».proof.Proof.StepB
public import proofs.«01_k».proof.Proof.Head
public import Idealize.ShloMosaic.Lib.Pipeline.ValueKit

@[expose] public section

set_option maxHeartbeats 400000
set_option maxRecDepth 16384

noncomputable section

namespace Cert.Stage

open Idealize.ShloMosaic hiding ix2 ix3
open Idealize.ShloMosaic.ValueIdx Idealize.SL.Sem Cert.KernelIdeal Cert.KernelIdeal.Gen

/-- The three words a point adds to the three rows. -/
def word (b : Rows) (k : Fin 3) : FVec Ideal S8x128 .f32 := (![x4212 b, x4228 b, x4244 b] : Fin 3 → FVec Ideal S8x128 .f32) k
/-- The accumulator's row of one output. -/
def row (k : Fin 3) : Fin 4 := ⟨k, by omega⟩

section
variable (c : Dev nD) (i : grid0.Coords) (arg1 : Memref sig .tc .vmem S32x8x128 .f32) (harg1 : arg1.IsWhole) (arg2 : Memref sig .tc .vmem S4x8x128 .f32) (harg2 : arg2.IsWhole)
  (arg3 : Memref sig .tc .vmem S4x8x128 .f32) (harg3 : arg3.IsWhole) (arg4 : Memref sig .tc .vmem S4x8x128 .f32) (harg4 : arg4.IsWhole)
  (arg5 : Memref sig .tc .smem S2x8x8 .f32) (harg5 : arg5.IsWhole) (arg6 : Memref sig .tc .smem S44 .f32) (harg6 : arg6.IsWhole)
  (arg7 : Memref sig .tc .vmem S4x8x128 .f32) (harg7 : arg7.IsWhole) (arg8 : Memref sig .tc .vmem S8x128 .f32) (harg8 : arg8.IsWhole)
  (x0 : Vec Ideal S32x8x128 .f32) (x1 x2 x3 : Vec Ideal S4x8x128 .f32) (x4 : Vec Ideal S2x8x8 .f32) (x5 : Vec Ideal S44 .f32) (xo6 : Vec Ideal S4x8x128 .f32)

theorem out_A (hc0 : cond0_0 i) (hc1 : ¬cond0_1 i) (k : Fin 3) (s : Fin 8) (l : Fin 128) :
    out0_A_6 c i arg1 harg1 arg2 harg2 arg3 harg3 arg4 harg4 arg5 harg5 arg6 harg6 arg7 harg7 arg8 harg8 hc0 hc1 x0 x1 x2 x3 x4 x5 (ix3 (row k) s l)
      = part i (word (rowsOf x0 x1 x2 x3 x4 x5) k) (ix2 s l) := by
  fin_cases k
  · exact (out_A0 (hc0 := hc0) (hc1 := hc1) (s := s) (l := l) ..).trans (zero_add _)
  · exact (out_A1 (hc0 := hc0) (hc1 := hc1) (s := s) (l := l) ..).trans (zero_add _)
  · exact (out_A2 (hc0 := hc0) (hc1 := hc1) (s := s) (l := l) ..).trans (zero_add _)
theorem out_B (hc0 : ¬cond0_0 i) (hc1 : ¬cond0_1 i) (k : Fin 3) (s : Fin 8) (l : Fin 128) :
    out0_B_6 c i arg1 harg1 arg2 harg2 arg3 harg3 arg4 harg4 arg5 harg5 arg6 harg6 arg7 harg7 arg8 harg8 hc0 hc1 x0 x1 x2 x3 x4 x5 xo6 (ix3 (row k) s l)
      = (xo6 (ix3 (row k) s l) : EReal) + part i (word (rowsOf x0 x1 x2 x3 x4 x5) k) (ix2 s l) := by
  fin_cases k
  · exact out_B0 (hc0 := hc0) (hc1 := hc1) (s := s) (l := l) ..
  · exact out_B1 (hc0 := hc0) (hc1 := hc1) (s := s) (l := l) ..
  · exact out_B2 (hc0 := hc0) (hc1 := hc1) (s := s) (l := l) ..
theorem rowEnd_eq (k : Fin 3) (s : Fin 8) (l : Fin 128) :
    rowEnd i x0 x1 x2 x3 x4 x5 xo6 k s l = (xo6 (ix3 (row k) s l) : EReal) + part i (word (rowsOf x0 x1 x2 x3 x4 x5) k) (ix2 s l) := by
  fin_cases k <;> rfl
end

variable (m : (ℓ : Loc nD τ sig) → Buf (Elt Ideal) ℓ)

/-- The rows a point loads, and what it adds to a row at a place. -/
def rowsAt (c : Dev nD) (t : Fin cfg0.N) : Rows := rowsOf (iblk m c 0 t) (iblk m c 1 t) (iblk m c 2 t) (iblk m c 3 t) (iblk m c 4 t) (iblk m c 5 t)
def adds (c : Dev nD) (k : Fin 3) (s : Fin 8) (l : Fin 128) (n : ℕ) : EReal :=
  if h : n < cfg0.N then part (grid0.coords ⟨n, h⟩) (word (rowsAt m c ⟨n, h⟩) k) (ix2 s l) else 0
theorem adds_eq (c : Dev nD) (k : Fin 3) (s : Fin 8) (l : Fin 128) (t : Fin cfg0.N) :
    adds m c k s l t.val = part (grid0.coords t) (word (rowsAt m c t) k) (ix2 s l) := dif_pos t.isLt

theorem acc (c : Dev nD) (k : Fin 3) (s : Fin 8) (l : Fin 128) : ∀ (n : ℕ) (h : n < cfg0.N), n < 9 →
    ((outsAt0 m c n h).1 (ix3 (row k) s l) : EReal) = ∑ t ∈ Finset.range (n + 1), adds m c k s l t
  | 0, h, _ => by
    have e := outsAt0_A m c ⟨0, h⟩ rfl (show ¬0 % 10 = 9 by decide)
    have e1 := congrArg (fun x => x.1 (ix3 (row k) s l)) e
    refine e1.trans ?_
    refine (out_A (arg7 := ms0_6 ⟨0, h⟩) (harg7 := hs0_6 ⟨0, h⟩) (arg8 := ms0_7 ⟨0, h⟩) (harg8 := hs0_7 ⟨0, h⟩) (hc0 := (hcond0_0 ⟨0, h⟩).mpr rfl) (hc1 := fun h' => (show ¬0 % 10 = 9 by decide) ((hcond0_1 ⟨0, h⟩).mp h')) (k := k) ..).trans ?_
    rw [Finset.sum_range_one]
    exact (adds_eq m c k s l ⟨0, h⟩).symm
  | n + 1, h, h9 => by
    have e := outsAt0_B m c ⟨n + 1, h⟩ (by show ¬(n + 1) % 10 = 0; omega) (by show ¬(n + 1) % 10 = 9; omega)
    have e1 := congrArg (fun x => x.1 (ix3 (row k) s l)) e
    refine e1.trans ?_
    refine (out_B (arg7 := ms0_6 ⟨n + 1, h⟩) (harg7 := hs0_6 ⟨n + 1, h⟩) (arg8 := ms0_7 ⟨n + 1, h⟩) (harg8 := hs0_7 ⟨n + 1, h⟩) (hc0 := fun h' => (show ¬(n + 1) % 10 = 0 by omega) ((hcond0_0 ⟨n + 1, h⟩).mp h')) (hc1 := fun h' => (show ¬(n + 1) % 10 = 9 by omega) ((hcond0_1 ⟨n + 1, h⟩).mp h')) (k := k) ..).trans ?_
    rw [Finset.sum_range_succ]
    refine congrArg₂ (fun t u : EReal => t + u) (acc c k s l n (by omega) (by omega)) ?_
    exact (adds_eq m c k s l ⟨n + 1, h⟩).symm

/-- The whole sum of one output. -/
def total (c : Dev nD) (k : Fin 3) : EReal := ∑ s : Fin 8, ∑ l : Fin 128, ∑ t ∈ Finset.range 10, adds m c k s l t

theorem last_head (c : Dev nD) (t : Fin cfg0.N) (h9 : t.val = 9) (q : Fin 2) :
    ((outsAt0 m c t.val t.isLt).2 (ix2 0 ⟨q, by omega⟩) : EReal)
      = headOut (hw2 (iblk m c 5 t) q) (hb2 (iblk m c 5 t) q) (headHid (hw1 (iblk m c 5 t)) (hb1 (iblk m c 5 t)) fun k => mean (total m c k)) := by
  have e := outsAt0_C m c t (by omega) (by omega)
  have e1 := congrArg (fun x => x.2 (ix2 0 ⟨q, by omega⟩)) e
  refine e1.trans ?_
  refine (out_C7 (arg7 := ms0_6 t) (harg7 := hs0_6 t) (arg8 := ms0_7 t) (harg8 := hs0_7 t) (hc0 := fun h => (by omega : ¬t.val % 10 = 0) ((hcond0_0 t).mp h)) (hc1 := (hcond0_1 t).mpr (by omega)) (q := q) ..).trans ?_
  refine congrArg (fun g => headOut _ _ (headHid _ _ g)) (funext fun k => congrArg mean ?_)
  refine Finset.sum_congr rfl fun s _ => Finset.sum_congr rfl fun l _ => ?_
  refine (rowEnd_eq (k := k) ..).trans ?_
  rw [Finset.sum_range_succ]
  refine congrArg₂ (fun t u : EReal => t + u) ?_ ?_
  · have := acc m c k s l 8 (by have := t.isLt; omega) (by omega)
    have e9 : t.val - 1 = 8 := by omega
    have go : ∀ (n : ℕ) (hn : n < cfg0.N), n = 8 → ((outsAt0 m c n hn).1 (ix3 (row k) s l) : EReal) = ∑ t ∈ Finset.range 9, adds m c k s l t := by
      intro n hn h; subst h; exact this
    exact go _ _ e9
  · have := adds_eq m c k s l t
    rw [h9] at this
    exact this.symm

end Cert.Stage

end
-- ==== Proof.Entry.lean ====
/- What each block holds of the arguments. -/
module

public import proofs.«01_k».proof.Proof.Gen.KernelIdeal.Frame
public import Idealize.ShloMosaic.Lib.Pointwise
public import Idealize.ShloMosaic.Lib.Claim
public import Idealize.ShloMosaic.Lib.Pipeline.ValueKit

@[expose] public section

set_option maxHeartbeats 400000
set_option maxRecDepth 16384

noncomputable section

namespace Cert.Stage

open Idealize.ShloMosaic Idealize.SL.Sem Cert.KernelIdeal Cert.KernelIdeal.Gen

variable (m : (ℓ : Loc nD τ sig) → Buf (Elt Ideal) ℓ)

theorem idx : ∀ t : Fin cfg0.N, win0_0.index t = ![0, 0, t.val] ∧ win0_1.index t = ![0, 0, t.val] ∧ win0_2.index t = ![0, 0, t.val]
    ∧ win0_3.index t = ![0, 0, t.val] ∧ win0_4.index t = ![0, 0, 0] ∧ win0_5.index t = ![0] ∧ (grid0.coords t 0).val = t.val ∧ t.val < 10 :=
  (by decide +kernel : ∀ t : Fin grid0.N, _)

theorem V_v0 (c : Dev nD) : V m c main_v0 = shapeCast S32x8x1280 (m ((c.tc : Thread nD τ).loc main_arg0)) shapeCasts_S32x10240_S32x8x1280 := by
  show StableHlo.after hostOps0 (fun b => m (c, b)) _ = _
  after_results
  rfl

theorem V_v4 (c : Dev nD) : V m c main_v4 = shapeCast S4x8x1280 (concatenate S4x10240 1
    [⟨S4x9999, extractStridedSlice S4x9999 ![4, 1] (m ((c.tc : Thread nD τ).loc main_arg0)) slices_S32x10240_S4x9999_4_1⟩,
      ⟨S4x241, extractStridedSlice S4x241 ![4, 0] (m ((c.tc : Thread nD τ).loc main_arg0)) slices_S32x10240_S4x241_4_0⟩]
    concatenates_S4x9999_S4x241_S4x10240_d1) shapeCasts_S4x10240_S4x8x1280 := by
  show StableHlo.after hostOps0 (fun b => m (c, b)) _ = _
  after_results
  rfl

theorem V_v8 (c : Dev nD) : V m c main_v8 = shapeCast S4x8x1280 (concatenate S4x10240 1
    [⟨S4x9998, extractStridedSlice S4x9998 ![8, 2] (m ((c.tc : Thread nD τ).loc main_arg0)) slices_S32x10240_S4x9998_8_2⟩,
      ⟨S4x242, extractStridedSlice S4x242 ![8, 0] (m ((c.tc : Thread nD τ).loc main_arg0)) slices_S32x10240_S4x242_8_0⟩]
    concatenates_S4x9998_S4x242_S4x10240_d1) shapeCasts_S4x10240_S4x8x1280 := by
  show StableHlo.after hostOps0 (fun b => m (c, b)) _ = _
  after_results
  rfl

theorem V_v12 (c : Dev nD) : V m c main_v12 = shapeCast S4x8x1280 (concatenate S4x10240 1
    [⟨S4x9997, extractStridedSlice S4x9997 ![12, 3] (m ((c.tc : Thread nD τ).loc main_arg0)) slices_S32x10240_S4x9997_12_3⟩,
      ⟨S4x243, extractStridedSlice S4x243 ![12, 0] (m ((c.tc : Thread nD τ).loc main_arg0)) slices_S32x10240_S4x243_12_0⟩]
    concatenates_S4x9997_S4x243_S4x10240_d1) shapeCasts_S4x10240_S4x8x1280 := by
  show StableHlo.after hostOps0 (fun b => m (c, b)) _ = _
  after_results
  rfl

theorem V_v17 (c : Dev nD) : V m c main_v17 = concatenate S44 0 [⟨S15, shapeCast S15 (m ((c.tc : Thread nD τ).loc main_arg2)) shapeCasts_S3x5_S15⟩,
    ⟨S3, m ((c.tc : Thread nD τ).loc main_arg3)⟩, ⟨S9, shapeCast S9 (m ((c.tc : Thread nD τ).loc main_arg4)) shapeCasts_S3x3_S9⟩,
    ⟨S3, m ((c.tc : Thread nD τ).loc main_arg5)⟩, ⟨S6, shapeCast S6 (m ((c.tc : Thread nD τ).loc main_arg6)) shapeCasts_S2x3_S6⟩,
    ⟨S2, m ((c.tc : Thread nD τ).loc main_arg7)⟩, ⟨S4, shapeCast S4 (m ((c.tc : Thread nD τ).loc main_arg8)) shapeCasts_S2x2_S4⟩,
    ⟨S2, m ((c.tc : Thread nD τ).loc main_arg9)⟩] concatenates_S15_S3_S9_S3_S6_S2_S4_S2_S44_d0 := by
  show StableHlo.after hostOps0 (fun b => m (c, b)) _ = _
  after_results
  rfl

variable (c : Dev nD) (t : Fin cfg0.N)

theorem blk0 (r : Fin 32) (s : Fin 8) (l : Fin 128) (n : Fin 10240) (hn : n.val = s.val * 1280 + (t.val * 128 + l.val)) :
    (show FVec Ideal S32x8x128 .f32 from iblk m c 0 t) (ix3 r s l) = (show FVec Ideal S32x10240 .f32 from m ((c.tc : Thread nD τ).loc main_arg0)) (ix2 r n) := by
  have hi := idx t
  show (show FVec Ideal S32x8x1280 .f32 from V m c main_v0) (((cfg0.win 0).blk t).view.emb (ix3 r s l)) = _
  rw [V_v0]
  pointwise
  blk_ext [idx t]

theorem blk1 (r : Fin 4) (s : Fin 8) (l : Fin 128) (n n' : Fin 10240) (hn : n.val = s.val * 1280 + (t.val * 128 + l.val))
    (h : n'.val = if n.val + 1 < 10000 then n.val + 1 else n.val + 1 - 10000) :
    (show FVec Ideal S4x8x128 .f32 from iblk m c 1 t) (ix3 r s l)
      = (show FVec Ideal S32x10240 .f32 from m ((c.tc : Thread nD τ).loc main_arg0)) (ix2 ⟨4 + r, by omega⟩ n') := by
  have hi := idx t
  show (show FVec Ideal S4x8x1280 .f32 from V m c main_v4) (((cfg0.win 1).blk t).view.emb (ix3 r s l)) = _
  rw [V_v4]
  pointwise
  split
  · rename_i hc
    blk_simp [idx t] at hc
    rw [if_pos (by omega)] at h
    blk_ext [idx t]
  · rename_i hc
    blk_simp [idx t] at hc
    rw [if_neg (by omega)] at h
    blk_ext [idx t]

theorem blk2 (r : Fin 4) (s : Fin 8) (l : Fin 128) (n n' : Fin 10240) (hn : n.val = s.val * 1280 + (t.val * 128 + l.val))
    (h : n'.val = if n.val + 2 < 10000 then n.val + 2 else n.val + 2 - 10000) :
    (show FVec Ideal S4x8x128 .f32 from iblk m c 2 t) (ix3 r s l)
      = (show FVec Ideal S32x10240 .f32 from m ((c.tc : Thread nD τ).loc main_arg0)) (ix2 ⟨8 + r, by omega⟩ n') := by
  have hi := idx t
  show (show FVec Ideal S4x8x1280 .f32 from V m c main_v8) (((cfg0.win 2).blk t).view.emb (ix3 r s l)) = _
  rw [V_v8]
  pointwise
  split
  · rename_i hc
    blk_simp [idx t] at hc
    rw [if_pos (by omega)] at h
    blk_ext [idx t]
  · rename_i hc
    blk_simp [idx t] at hc
    rw [if_neg (by omega)] at h
    blk_ext [idx t]

theorem blk3 (r : Fin 4) (s : Fin 8) (l : Fin 128) (n n' : Fin 10240) (hn : n.val = s.val * 1280 + (t.val * 128 + l.val))
    (h : n'.val = if n.val + 3 < 10000 then n.val + 3 else n.val + 3 - 10000) :
    (show FVec Ideal S4x8x128 .f32 from iblk m c 3 t) (ix3 r s l)
      = (show FVec Ideal S32x10240 .f32 from m ((c.tc : Thread nD τ).loc main_arg0)) (ix2 ⟨12 + r, by omega⟩ n') := by
  have hi := idx t
  show (show FVec Ideal S4x8x1280 .f32 from V m c main_v12) (((cfg0.win 3).blk t).view.emb (ix3 r s l)) = _
  rw [V_v12]
  pointwise
  split
  · rename_i hc
    blk_simp [idx t] at hc
    rw [if_pos (by omega)] at h
    blk_ext [idx t]
  · rename_i hc
    blk_simp [idx t] at hc
    rw [if_neg (by omega)] at h
    blk_ext [idx t]

theorem blk4 (y) : (show FVec Ideal S2x8x8 .f32 from iblk m c 4 t) y = (show FVec Ideal S2x8x8 .f32 from m ((c.tc : Thread nD τ).loc main_arg1)) y := by
  have hi := idx t
  blk_ext [iblk, V, idx t]
theorem blk5 (y) : (show FVec Ideal S44 .f32 from iblk m c 5 t) y = (show FVec Ideal S44 .f32 from V m c main_v17) y := by
  have hi := idx t
  blk_ext [iblk, idx t]

/-- The packed operand, cell by cell. -/
theorem mlp_w1 (j : Fin 3) (k : Fin 5) : (show FVec Ideal S44 .f32 from V m c main_v17) (ix1 ⟨5 * j + k, by omega⟩)
    = (show FVec Ideal S3x5 .f32 from m ((c.tc : Thread nD τ).loc main_arg2)) (ix2 j k) := by
  rw [V_v17]
  pointwise
  repeat (first | rw [dif_neg (by omega)] | rw [dif_pos (by omega)])
  try blk_ext []

theorem mlp_c1 (j : Fin 3) : (show FVec Ideal S44 .f32 from V m c main_v17) (ix1 ⟨15 + j, by omega⟩)
    = (show FVec Ideal S3 .f32 from m ((c.tc : Thread nD τ).loc main_arg3)) (ix1 j) := by
  rw [V_v17]
  pointwise
  repeat (first | rw [dif_neg (by omega)] | rw [dif_pos (by omega)])
  try blk_ext []

theorem mlp_w2 (j : Fin 3) (k : Fin 3) : (show FVec Ideal S44 .f32 from V m c main_v17) (ix1 ⟨18 + 3 * j + k, by omega⟩)
    = (show FVec Ideal S3x3 .f32 from m ((c.tc : Thread nD τ).loc main_arg4)) (ix2 j k) := by
  rw [V_v17]
  pointwise
  repeat (first | rw [dif_neg (by omega)] | rw [dif_pos (by omega)])
  try blk_ext []

theorem mlp_c2 (j : Fin 3) : (show FVec Ideal S44 .f32 from V m c main_v17) (ix1 ⟨27 + j, by omega⟩)
    = (show FVec Ideal S3 .f32 from m ((c.tc : Thread nD τ).loc main_arg5)) (ix1 j) := by
  rw [V_v17]
  pointwise
  repeat (first | rw [dif_neg (by omega)] | rw [dif_pos (by omega)])
  try blk_ext []

theorem mlp_hw1 (j : Fin 2) (k : Fin 3) : (show FVec Ideal S44 .f32 from V m c main_v17) (ix1 ⟨30 + 3 * j + k, by omega⟩)
    = (show FVec Ideal S2x3 .f32 from m ((c.tc : Thread nD τ).loc main_arg6)) (ix2 j k) := by
  rw [V_v17]
  pointwise
  repeat (first | rw [dif_neg (by omega)] | rw [dif_pos (by omega)])
  try blk_ext []

theorem mlp_hb1 (j : Fin 2) : (show FVec Ideal S44 .f32 from V m c main_v17) (ix1 ⟨36 + j, by omega⟩)
    = (show FVec Ideal S2 .f32 from m ((c.tc : Thread nD τ).loc main_arg7)) (ix1 j) := by
  rw [V_v17]
  pointwise
  repeat (first | rw [dif_neg (by omega)] | rw [dif_pos (by omega)])
  try blk_ext []

theorem mlp_hw2 (j : Fin 2) (k : Fin 2) : (show FVec Ideal S44 .f32 from V m c main_v17) (ix1 ⟨38 + 2 * j + k, by omega⟩)
    = (show FVec Ideal S2x2 .f32 from m ((c.tc : Thread nD τ).loc main_arg8)) (ix2 j k) := by
  rw [V_v17]
  pointwise
  repeat (first | rw [dif_neg (by omega)] | rw [dif_pos (by omega)])
  try blk_ext []

theorem mlp_hb2 (j : Fin 2) : (show FVec Ideal S44 .f32 from V m c main_v17) (ix1 ⟨42 + j, by omega⟩)
    = (show FVec Ideal S2 .f32 from m ((c.tc : Thread nD τ).loc main_arg9)) (ix1 j) := by
  rw [V_v17]
  pointwise
  repeat (first | rw [dif_neg (by omega)] | rw [dif_pos (by omega)])
  try blk_ext []

end Cert.Stage

end
-- ==== Proof.Node.lean ====
/- A node's data, read off the first stage's table and off the gate's table. -/
module

public import proofs.«01_k».proof.Proof.Lane
public import Mathlib.Data.EReal.Basic

@[expose] public section

noncomputable section

namespace Cert.Plain

open Cert.Circuit

/-- Two and three bits as one number. -/
def duo (a b : Fin 2) : Fin 4 := ⟨2 * a + b, by omega⟩
def oct (a v b : Fin 2) : Fin 8 := ⟨4 * a + 2 * v + b, by omega⟩

/-- The node `j` places after `n` on the ring of the ten thousand. -/
def ahead (n : Fin 10000) (j : Fin 4) : Fin 10000 := ⟨if n.val + j.val < 10000 then n.val + j.val else n.val + j.val - 10000, by split <;> omega⟩
/-- A node's column in the table, which has room for more nodes. -/
def wide (n : Fin 10000) : Fin 10240 := ⟨n.val, by omega⟩

variable (X : Fin 32 → Fin 10240 → EReal) (G : Fin 2 → Fin 8 → Fin 8 → EReal)

/-- The node's qubits and features, and the gate. -/
def lane (n : Fin 10000) : Lane where
  V x u y a v b := ⟨(G 0 (oct x u y) (oct a v b)).toReal, (G 1 (oct x u y) (oct a v b)).toReal⟩
  e k a := ⟨(X ⟨16 + 4 * k + 2 * a, by omega⟩ (wide n)).toReal, (X ⟨16 + 4 * k + 2 * a + 1, by omega⟩ (wide n)).toReal⟩
  u j a := ⟨(X ⟨4 * j + 2 * a, by omega⟩ (wide (ahead n j))).toReal, (X ⟨4 * j + 2 * a + 1, by omega⟩ (wide (ahead n j))).toReal⟩
  nf t := X ⟨28 + t, by omega⟩ (wide n)

end Cert.Plain

end
-- ==== Proof.Place.lean ====
/- What each place of the grid adds: the network's output at the place's node, and nothing past the last node; so the
   whole sum is the sum over the nodes. -/
module

public import proofs.«01_k».proof.Proof.Total
public import proofs.«01_k».proof.Proof.Entry
public import proofs.«01_k».proof.Proof.Node

@[expose] public section

set_option maxHeartbeats 400000
set_option maxRecDepth 16384

noncomputable section

namespace Cert.Stage

open Idealize.ShloMosaic hiding ix1 ix2 ix3
open Idealize.ShloMosaic.ValueIdx Idealize.SL.Sem Cert.KernelIdeal Cert.KernelIdeal.Gen Cert.Plain

/-! ### Reading a loaded plane and a loaded cell -/

theorem plane (A : ℕ) (x : Vec Ideal ⟨3, ![A, 8, 128]⟩ .f32) (r : Fin A) (s : Fin 8) (l : Fin 128) :
    (shapeCast S8x128 (box x ![r, 0, 0] ![1, 8, 128] : FVec Ideal S1x8x128 .f32) shapeCasts_S1x8x128_S8x128 (ix2 s l) : EReal) = x (ix3 r s l) := by
  have h : ∀ a, (![(r : ℕ), 0, 0] : Fin 3 → ℕ) a + (![1, 8, 128] : Fin 3 → ℕ) a ≤ (⟨3, ![A, 8, 128]⟩ : Shape).size a := by
    intro a; have := r.isLt; fin_cases a <;> simp <;> omega
  refine (shapeCast_apply _ shapeCasts_S1x8x128_S8x128 (ix2 s l) (ix3 0 s l) (by
    rewrite [Shape.rowMajor_val_three, Shape.rowMajor_val_two]; show (0 * 8 + s.val) * 128 + l.val = s.val * 128 + l.val; omega)).trans ?_
  unfold box
  rw [dif_pos h]
  refine congrArg x (funext fun a => Fin.ext ?_)
  fin_cases a
  · show (r : ℕ) + 1 * 0 = r; omega
  · show 0 + 1 * (s : ℕ) = s; omega
  · show 0 + 1 * (l : ℕ) = l; omega

theorem cell3_at (x : Vec Ideal S2x8x8 .f32) (p : Fin 2) (i k : Fin 8) : cell3 x ![p, i, k] = x (ix3 p i k) := by
  have h : ∀ a, (![(p : ℕ), i, k] : Fin 3 → ℕ) a + (![1, 1, 1] : Fin 3 → ℕ) a ≤ S2x8x8.size a := by
    intro a; have := p.isLt; have := i.isLt; have := k.isLt; fin_cases a <;> simp [S2x8x8] <;> omega
  unfold cell3 box
  rw [dif_pos h]
  refine congrArg x (funext fun a => Fin.ext ?_)
  fin_cases a
  · show (p : ℕ) + 1 * 0 = p; omega
  · show (i : ℕ) + 1 * 0 = i; omega
  · show (k : ℕ) + 1 * 0 = k; omega
theorem cell1_at (x : Vec Ideal S44 .f32) (i : Fin 44) : cell1 x ![i] = x (ix1 i) := by
  have h : ∀ a, (![(i : ℕ)] : Fin 1 → ℕ) a + (![1] : Fin 1 → ℕ) a ≤ S44.size a := by
    intro a; have := i.isLt; fin_cases a; simp [S44]
  unfold cell1 box
  rw [dif_pos h]
  refine congrArg x (funext fun a => Fin.ext ?_)
  fin_cases a
  show (i : ℕ) + 1 * 0 = i; omega

/-! ### The arguments by their coordinates -/

variable (m : (ℓ : Loc nD τ sig) → Buf (Elt Ideal) ℓ) (c : Dev nD)

def tab0 (r : Fin 32) (n : Fin 10240) : EReal := (show FVec Ideal S32x10240 .f32 from m ((c.tc : Thread nD τ).loc main_arg0)) (Idealize.ShloMosaic.ix2 r n)
def tab1 (p : Fin 2) (i k : Fin 8) : EReal := (show FVec Ideal S2x8x8 .f32 from m ((c.tc : Thread nD τ).loc main_arg1)) (Idealize.ShloMosaic.ix3 p i k)
def kw1 (j : Fin 3) (k : Fin 5) : EReal := (show FVec Ideal S3x5 .f32 from m ((c.tc : Thread nD τ).loc main_arg2)) (Idealize.ShloMosaic.ix2 j k)
def kc1 (j : Fin 3) : EReal := (show FVec Ideal S3 .f32 from m ((c.tc : Thread nD τ).loc main_arg3)) (Idealize.ShloMosaic.ix1 j)
def kw2 (j k : Fin 3) : EReal := (show FVec Ideal S3x3 .f32 from m ((c.tc : Thread nD τ).loc main_arg4)) (Idealize.ShloMosaic.ix2 j k)
def kc2 (j : Fin 3) : EReal := (show FVec Ideal S3 .f32 from m ((c.tc : Thread nD τ).loc main_arg5)) (Idealize.ShloMosaic.ix1 j)
def khw (j : Fin 2) (k : Fin 3) : EReal := (show FVec Ideal S2x3 .f32 from m ((c.tc : Thread nD τ).loc main_arg6)) (Idealize.ShloMosaic.ix2 j k)
def khb (j : Fin 2) : EReal := (show FVec Ideal S2 .f32 from m ((c.tc : Thread nD τ).loc main_arg7)) (Idealize.ShloMosaic.ix1 j)
def kgw (j k : Fin 2) : EReal := (show FVec Ideal S2x2 .f32 from m ((c.tc : Thread nD τ).loc main_arg8)) (Idealize.ShloMosaic.ix2 j k)
def kgb (j : Fin 2) : EReal := (show FVec Ideal S2 .f32 from m ((c.tc : Thread nD τ).loc main_arg9)) (Idealize.ShloMosaic.ix1 j)

variable (t : Fin cfg0.N)

theorem cell (i : Fin 44) : cell1 (iblk m c 5 t) ![i] = (show FVec Ideal S44 .f32 from V m c main_v17) (Idealize.ShloMosaic.ix1 i) :=
  (cell1_at _ i).trans (blk5 m c t _)

theorem w1_at : (rowsAt m c t).w1 = kw1 m c := funext fun j => funext fun k => (cell m c t ⟨5 * j + k, by omega⟩).trans (mlp_w1 m c j k)
theorem c1_at : (rowsAt m c t).c1 = kc1 m c := funext fun j => (cell m c t ⟨15 + j, by omega⟩).trans (mlp_c1 m c j)
theorem w2_at : (rowsAt m c t).w2 = kw2 m c := funext fun j => funext fun k => (cell m c t ⟨18 + 3 * j + k, by omega⟩).trans (mlp_w2 m c j k)
theorem c2_at : (rowsAt m c t).c2 = kc2 m c := funext fun j => (cell m c t ⟨27 + j, by omega⟩).trans (mlp_c2 m c j)
theorem hw1_at : hw1 (iblk m c 5 t) = khw m c := funext fun j => funext fun k => (cell m c t ⟨30 + 3 * j + k, by omega⟩).trans (mlp_hw1 m c j k)
theorem hb1_at : hb1 (iblk m c 5 t) = khb m c := funext fun j => (cell m c t ⟨36 + j, by omega⟩).trans (mlp_hb1 m c j)
theorem hw2_at : hw2 (iblk m c 5 t) = kgw m c := funext fun j => funext fun k => (cell m c t ⟨38 + 2 * j + k, by omega⟩).trans (mlp_hw2 m c j k)
theorem hb2_at : hb2 (iblk m c 5 t) = kgb m c := funext fun j => (cell m c t ⟨42 + j, by omega⟩).trans (mlp_hb2 m c j)

/-! ### A place's node -/

section
variable {m c t}
variable (h0 : ∀ (r : Fin 32) (n : Fin 10000), r.val < 28 → ((tab0 m c r (wide n)).toReal : EReal) = tab0 m c r (wide n)) (h1 : ∀ p i k, ((tab1 m c p i k).toReal : EReal) = tab1 m c p i k)

theorem row_at (r : Fin 32) (s : Fin 8) (l : Fin 128) (n : Fin 10000) (hn : n.val = s.val * 1280 + (t.val * 128 + l.val)) :
    (shapeCast S8x128 (box (iblk m c 0 t) ![r, 0, 0] ![1, 8, 128] : FVec Ideal S1x8x128 .f32) shapeCasts_S1x8x128_S8x128 (ix2 s l) : EReal)
      = tab0 m c r (wide n) :=
  (plane 32 (iblk m c 0 t) r s l).trans (blk0 m c t r s l (wide n) hn)
theorem row_at1 (r : Fin 4) (s : Fin 8) (l : Fin 128) (n : Fin 10000) (hn : n.val = s.val * 1280 + (t.val * 128 + l.val)) :
    (shapeCast S8x128 (box (iblk m c 1 t) ![r, 0, 0] ![1, 8, 128] : FVec Ideal S1x8x128 .f32) shapeCasts_S1x8x128_S8x128 (ix2 s l) : EReal)
      = tab0 m c ⟨4 + r, by omega⟩ (wide (ahead n 1)) :=
  (plane 4 (iblk m c 1 t) r s l).trans (blk1 m c t r s l (wide n) (wide (ahead n 1)) hn rfl)
theorem row_at2 (r : Fin 4) (s : Fin 8) (l : Fin 128) (n : Fin 10000) (hn : n.val = s.val * 1280 + (t.val * 128 + l.val)) :
    (shapeCast S8x128 (box (iblk m c 2 t) ![r, 0, 0] ![1, 8, 128] : FVec Ideal S1x8x128 .f32) shapeCasts_S1x8x128_S8x128 (ix2 s l) : EReal)
      = tab0 m c ⟨8 + r, by omega⟩ (wide (ahead n 2)) :=
  (plane 4 (iblk m c 2 t) r s l).trans (blk2 m c t r s l (wide n) (wide (ahead n 2)) hn rfl)
theorem row_at3 (r : Fin 4) (s : Fin 8) (l : Fin 128) (n : Fin 10000) (hn : n.val = s.val * 1280 + (t.val * 128 + l.val)) :
    (shapeCast S8x128 (box (iblk m c 3 t) ![r, 0, 0] ![1, 8, 128] : FVec Ideal S1x8x128 .f32) shapeCasts_S1x8x128_S8x128 (ix2 s l) : EReal)
      = tab0 m c ⟨12 + r, by omega⟩ (wide (ahead n 3)) :=
  (plane 4 (iblk m c 3 t) r s l).trans (blk3 m c t r s l (wide n) (wide (ahead n 3)) hn rfl)

theorem gate_cell (p : Fin 2) (i k : Fin 8) : cell3 (iblk m c 4 t) ![p, i, k] = tab1 m c p i k :=
  (cell3_at _ p i k).trans (blk4 m c t _)

theorem ahead_zero (n : Fin 10000) : ahead n 0 = n := Fin.ext (if_pos (by show n.val + 0 < 10000; omega))

include h0 h1 in
theorem rows_at (s : Fin 8) (l : Fin 128) (n : Fin 10000) (hn : n.val = s.val * 1280 + (t.val * 128 + l.val)) :
    (rowsAt m c t).At (ix2 s l) (lane (tab0 m c) (tab1 m c) n) where
  er k a := (row_at ⟨16 + 4 * k + 2 * a, by omega⟩ s l n hn).trans (h0 _ _ (by first | omega | (simp; omega))).symm
  ei k a := (row_at ⟨16 + 4 * k + 2 * a + 1, by omega⟩ s l n hn).trans (h0 _ _ (by first | omega | (simp; omega))).symm
  ur k a := by
    match k with
    | 0 => exact (row_at ⟨2 * a, by omega⟩ s l n hn).trans ((congrArg₂ (tab0 m c) (Fin.ext (by show 2 * a.val = 4 * 0 + 2 * a.val; omega)) (congrArg wide (ahead_zero n).symm)).trans (h0 _ _ (by first | omega | (simp; omega))).symm)
    | 1 => exact (row_at1 ⟨2 * a, by omega⟩ s l n hn).trans ((congrArg₂ (tab0 m c) (Fin.ext (by show 4 + 2 * a.val = 4 * 1 + 2 * a.val; omega)) rfl).trans (h0 _ _ (by first | omega | (simp; omega))).symm)
    | 2 => exact (row_at2 ⟨2 * a, by omega⟩ s l n hn).trans ((congrArg₂ (tab0 m c) (Fin.ext (by show 8 + 2 * a.val = 4 * 2 + 2 * a.val; omega)) rfl).trans (h0 _ _ (by first | omega | (simp; omega))).symm)
    | 3 => exact (row_at3 ⟨2 * a, by omega⟩ s l n hn).trans ((congrArg₂ (tab0 m c) (Fin.ext (by show 12 + 2 * a.val = 4 * 3 + 2 * a.val; omega)) rfl).trans (h0 _ _ (by first | omega | (simp; omega))).symm)
  ui k a := by
    match k with
    | 0 => exact (row_at ⟨2 * a + 1, by omega⟩ s l n hn).trans ((congrArg₂ (tab0 m c) (Fin.ext (by show 2 * a.val + 1 = 4 * 0 + 2 * a.val + 1; omega)) (congrArg wide (ahead_zero n).symm)).trans (h0 _ _ (by first | omega | (simp; omega))).symm)
    | 1 => exact (row_at1 ⟨2 * a + 1, by omega⟩ s l n hn).trans ((congrArg₂ (tab0 m c) (Fin.ext (by show 4 + (2 * a.val + 1) = 4 * 1 + 2 * a.val + 1; omega)) rfl).trans (h0 _ _ (by first | omega | (simp; omega))).symm)
    | 2 => exact (row_at2 ⟨2 * a + 1, by omega⟩ s l n hn).trans ((congrArg₂ (tab0 m c) (Fin.ext (by show 8 + (2 * a.val + 1) = 4 * 2 + 2 * a.val + 1; omega)) rfl).trans (h0 _ _ (by first | omega | (simp; omega))).symm)
    | 3 => exact (row_at3 ⟨2 * a + 1, by omega⟩ s l n hn).trans ((congrArg₂ (tab0 m c) (Fin.ext (by show 12 + (2 * a.val + 1) = 4 * 3 + 2 * a.val + 1; omega)) rfl).trans (h0 _ _ (by first | omega | (simp; omega))).symm)
  nf k := row_at ⟨28 + k, by omega⟩ s l n hn
  vr x u y a v b := (gate_cell 0 (oct x u y) (oct a v b)).trans (h1 _ _ _).symm
  vi x u y a v b := (gate_cell 1 (oct x u y) (oct a v b)).trans (h1 _ _ _).symm

/-- The network's output at a node. -/
def nodeOut (m : (ℓ : Loc nD τ sig) → Buf (Elt Ideal) ℓ) (c : Dev nD) (k : Fin 3) (n : Fin 10000) : EReal :=
  net (kw2 m c k) (kc2 m c k) (hid (kw1 m c) (kc1 m c) (feat (lane (tab0 m c) (tab1 m c) n)))

include h0 h1 in
theorem word_at (k : Fin 3) (s : Fin 8) (l : Fin 128) (n : Fin 10000) (hn : n.val = s.val * 1280 + (t.val * 128 + l.val)) :
    (word (rowsAt m c t) k (ix2 s l) : EReal) = nodeOut m c k n := by
  have h := rows_at h0 h1 s l n hn
  unfold nodeOut
  rw [← w1_at m c t, ← c1_at m c t, ← w2_at m c t, ← c2_at m c t]
  match k with
  | 0 => exact e4212 h
  | 1 => exact e4228 h
  | 2 => exact e4244 h

theorem mask : ∀ (t : Fin 10) (s : Fin 8) (l : Fin 128),
    k0_pay539 (BitVec.ofNat 32 t.val) (ix2 s l) = if s.val * 1280 + (t.val * 128 + l.val) < 10000 then 1#1 else 0#1 := by
  decide +kernel

/-- What a place adds. -/
def share (f : Fin 10000 → EReal) (n : ℕ) : EReal := if h : n < 10000 then f ⟨n, h⟩ else 0

include h0 h1 in
theorem adds_share (k : Fin 3) (s : Fin 8) (l : Fin 128) (t : Fin cfg0.N) :
    adds m c k s l t.val = share (nodeOut m c k) (s.val * 1280 + (t.val * 128 + l.val)) := by
  have ht := idx t
  have hm := mask ⟨t.val, ht.2.2.2.2.2.2.2⟩ s l
  rw [adds_eq]
  show Scalar.select (k0_pay539 (BitVec.ofNat 32 ↑(grid0.coords t 0)) (ix2 s l)) (word (rowsAt m c t) k (ix2 s l)) (Scalar.ofBits .f32 0x00000000#32 : Ideal .f32) = _
  rw [ht.2.2.2.2.2.2.1]
  refine (congrArg (fun b => Scalar.select b (word (rowsAt m c t) k (ix2 s l)) (Scalar.ofBits .f32 0x00000000#32 : Ideal .f32)) hm).trans ?_
  unfold share
  split_ifs with h
  · exact word_at h0 h1 k s l ⟨_, h⟩ rfl
  · exact Ideal.ofBits_zero_f32

/-! ### The whole sum -/

theorem tiles {M : Type} [AddCommMonoid M] (a b k : ℕ) (h : k = a * b) (f : ℕ → M) :
    ∑ i : Fin k, f i = ∑ i : Fin a, ∑ j : Fin b, f (i * b + j) := by
  subst h
  rw [← finProdFinEquiv.sum_comp, Fintype.sum_prod_type]
  refine Finset.sum_congr rfl fun i _ => Finset.sum_congr rfl fun j _ => congrArg f ?_
  show j.val + b * i.val = i.val * b + j.val
  rw [mul_comm]; omega

theorem share_sum (f : Fin 10000 → EReal) :
    ∑ s : Fin 8, ∑ l : Fin 128, ∑ t ∈ Finset.range 10, share f (s.val * 1280 + (t * 128 + l.val)) = ∑ n, f n := by
  have e1 : ∑ i : Fin 10240, share f i = ∑ n, f n := by
    rw [← Finset.sum_range (fun i => share f i) (n := 10240), show 10240 = 10000 + 240 from rfl, Finset.sum_range_add]
    rw [Finset.sum_range (fun i => share f i) (n := 10000)]
    rw [Finset.sum_eq_zero (s := Finset.range 240) (fun i _ => dif_neg (by omega)), add_zero]
    exact Finset.sum_congr rfl fun n _ => dif_pos n.isLt
  rw [← e1, tiles 8 1280 10240 rfl]
  refine Finset.sum_congr rfl fun s _ => ?_
  rw [tiles 10 128 1280 rfl fun r => share f (s.val * 1280 + r), Finset.sum_comm' (t' := Finset.range 10) (s' := fun _ => Finset.univ) (by simp)]
  rw [Finset.sum_range]

include h0 h1 in
theorem total_nodes (k : Fin 3) : total m c k = ∑ n, nodeOut m c k n := by
  rw [← share_sum]
  refine Finset.sum_congr rfl fun s _ => Finset.sum_congr rfl fun l _ => Finset.sum_congr rfl fun t ht => ?_
  exact adds_share h0 h1 k s l ⟨t, Finset.mem_range.mp ht⟩
end

end Cert.Stage

end
-- ==== Proof.RefGate.lean ====
/- The reference's three gates, node by node: each is the circuit's gate on the centre's, the edge's and the
   neighbour's amplitudes. -/
module

public import proofs.«01_k».proof.Proof.Gen.ReferenceIdeal.Read
public import proofs.«01_k».proof.Proof.Node
public import Idealize.ShloMosaic.Lib.Pointwise
public import Idealize.ShloMosaic.Lib.Pipeline.ValueKit

@[expose] public section

set_option maxHeartbeats 1000000

noncomputable section

namespace Cert.Plain

open Idealize.ShloMosaic Cert.ReferenceIdeal Cert.ReferenceIdeal.Gen Cert.ReferenceIdeal.Read Cert.Circuit

/-- A setting of the measured qubits with two more bits. -/
def row1 (_ : Fin 1) (x y : Fin 2) : Fin 4 := duo x y
def row2 (r : Fin 4) (x y : Fin 2) : Fin 16 := ⟨4 * r + 2 * x + y, by omega⟩

theorem oct_sum (f : Fin 8 → EReal) : ∑ k, f k = ∑ a, ∑ v, ∑ b, f (oct a v b) := by
  simp only [Fin.sum_univ_eight, Fin.sum_univ_two]
  show _ = f 0 + f 1 + (f 2 + f 3) + (f 4 + f 5 + (f 6 + f 7))
  simp only [add_assoc]
theorem re_times (z w : ℂ) : (z.re : EReal) * (w.re : EReal) - (z.im : EReal) * (w.im : EReal) = ((z * w).re : EReal) := by
  rw [← EReal.coe_mul, ← EReal.coe_mul, ← EReal.coe_sub, Complex.mul_re]
theorem im_times (z w : ℂ) : (z.re : EReal) * (w.im : EReal) + (z.im : EReal) * (w.re : EReal) = ((z * w).im : EReal) := by
  rw [← EReal.coe_mul, ← EReal.coe_mul, ← EReal.coe_add, Complex.mul_im]

/-- The gate `V` on an edge qubit, a centre and a neighbour qubit. -/
def out (V : Gate) (e ψ u : Qubit) (x w y : Fin 2) : ℂ := ∑ a, ∑ v, ∑ b, V x w y a v b * (e a * ψ v * u b)

theorem out_re (V : Gate) (e ψ u : Qubit) (x w y : Fin 2) :
    (∑ a, ∑ v, ∑ b, ((e a * ψ v * u b).re : EReal) * ((V x w y a v b).re : EReal))
      - (∑ a, ∑ v, ∑ b, ((e a * ψ v * u b).im : EReal) * ((V x w y a v b).im : EReal)) = ((out V e ψ u x w y).re : EReal) := by
  simp only [Fin.sum_univ_two, ← EReal.coe_mul, ← EReal.coe_add, ← EReal.coe_sub, out, Complex.add_re]
  refine congrArg _ ?_
  simp only [Complex.mul_re (V _ _ _ _ _ _)]
  ring
theorem out_im (V : Gate) (e ψ u : Qubit) (x w y : Fin 2) :
    (∑ a, ∑ v, ∑ b, ((e a * ψ v * u b).im : EReal) * ((V x w y a v b).re : EReal))
      + (∑ a, ∑ v, ∑ b, ((e a * ψ v * u b).re : EReal) * ((V x w y a v b).im : EReal)) = ((out V e ψ u x w y).im : EReal) := by
  simp only [Fin.sum_univ_two, ← EReal.coe_mul, ← EReal.coe_add, out, Complex.add_im]
  refine congrArg _ ?_
  simp only [Complex.mul_im (V _ _ _ _ _ _)]
  ring

variable (x0 : (⟨S32x10240, .f32⟩ : BufTy).Contents (Elt Ideal)) (x1 : (⟨S2x8x8, .f32⟩ : BufTy).Contents (Elt Ideal))

/-- The gate's cells. -/
def GateAt (V : Gate) : Prop := ∀ x w y a v b,
  ((x1 (ix3 0 (oct x w y) (oct a v b)) : EReal) = ((V x w y a v b).re : EReal)) ∧ ((x1 (ix3 1 (oct x w y) (oct a v b)) : EReal) = ((V x w y a v b).im : EReal))

theorem v3_at {V : Gate} (h : GateAt x1 V) (x w y a v b : Fin 2) :
    (val_main_v3 (F := Ideal) x1 (ix2 (oct x w y) (oct a v b)) : EReal) = ((V x w y a v b).re : EReal) := by
  rw [val_main_v3_apply, val_main_v2_apply]
  exact (congrArg x1 (funext fun t => Fin.ext (by fin_cases t <;> simp [oct, duo, row1, row2, ix2, ix3, ix4, ix5] <;> omega))).trans (h x w y a v b).1
theorem v5_at {V : Gate} (h : GateAt x1 V) (x w y a v b : Fin 2) :
    (val_main_v5 (F := Ideal) x1 (ix2 (oct x w y) (oct a v b)) : EReal) = ((V x w y a v b).im : EReal) := by
  rw [val_main_v5_apply, val_main_v4_apply]
  exact (congrArg x1 (funext fun t => Fin.ext (by fin_cases t <;> simp [oct, duo, row1, row2, ix2, ix3, ix4, ix5] <;> omega))).trans (h x w y a v b).2

/-! ### Gate 1 -/

/-- What gate 1 finds at a node: an edge qubit, a centre and a neighbour qubit. -/
structure Finds1 (n : Fin 10000) (s : Fin 1) (e ψ u : Qubit) : Prop where
  er : ∀ a, (val_main_v17 (F := Ideal) x0 (ix2 n a) : EReal) = ((e a).re : EReal)
  ei : ∀ a, (val_main_v19 (F := Ideal) x0 (ix2 n a) : EReal) = ((e a).im : EReal)
  sr : ∀ a, (val_main_v12 (F := Ideal) x0 (ix3 n s a) : EReal) = ((ψ a).re : EReal)
  si : ∀ a, (val_main_v13 (F := Ideal) x0 (ix3 n s a) : EReal) = ((ψ a).im : EReal)
  ur : ∀ a, (val_main_v24 (F := Ideal) x0 (ix2 n a) : EReal) = ((u a).re : EReal)
  ui : ∀ a, (val_main_v26 (F := Ideal) x0 (ix2 n a) : EReal) = ((u a).im : EReal)

section
variable {n : Fin 10000} {s : Fin 1} {e ψ u : Qubit}

theorem pair1 (h : Finds1 x0 n s e ψ u) (a v : Fin 2) : (val_main_v37 (F := Ideal) x0 (ix4 n s a v) : EReal) = ((e a * ψ v).re : EReal)
    ∧ (val_main_v44 (F := Ideal) x0 (ix4 n s a v) : EReal) = ((e a * ψ v).im : EReal) := by
  have h31 : (val_main_v31 (F := Ideal) x0 (ix4 n s a v) : EReal) = ((e a).re : EReal) := by
    rw [val_main_v31_apply, val_main_v27_apply]
    exact (congrArg _ (funext fun t => Fin.ext (by fin_cases t <;> simp [oct, duo, row1, row2, ix2, ix3, ix4, ix5] <;> omega))).trans (h.er a)
  have h32 : (val_main_v32 (F := Ideal) x0 (ix4 n s a v) : EReal) = ((ψ v).re : EReal) := by
    rw [val_main_v32_apply, val_main_v29_apply]
    exact (congrArg _ (funext fun t => Fin.ext (by fin_cases t <;> simp [oct, duo, row1, row2, ix2, ix3, ix4, ix5] <;> omega))).trans (h.sr v)
  have h34 : (val_main_v34 (F := Ideal) x0 (ix4 n s a v) : EReal) = ((e a).im : EReal) := by
    rw [val_main_v34_apply, val_main_v28_apply]
    exact (congrArg _ (funext fun t => Fin.ext (by fin_cases t <;> simp [oct, duo, row1, row2, ix2, ix3, ix4, ix5] <;> omega))).trans (h.ei a)
  have h35 : (val_main_v35 (F := Ideal) x0 (ix4 n s a v) : EReal) = ((ψ v).im : EReal) := by
    rw [val_main_v35_apply, val_main_v30_apply]
    exact (congrArg _ (funext fun t => Fin.ext (by fin_cases t <;> simp [oct, duo, row1, row2, ix2, ix3, ix4, ix5] <;> omega))).trans (h.si v)
  have h38 : (val_main_v38 (F := Ideal) x0 (ix4 n s a v) : EReal) = ((e a).re : EReal) := by
    rw [val_main_v38_apply, val_main_v27_apply]
    exact (congrArg _ (funext fun t => Fin.ext (by fin_cases t <;> simp [oct, duo, row1, row2, ix2, ix3, ix4, ix5] <;> omega))).trans (h.er a)
  have h39 : (val_main_v39 (F := Ideal) x0 (ix4 n s a v) : EReal) = ((ψ v).im : EReal) := by
    rw [val_main_v39_apply, val_main_v30_apply]
    exact (congrArg _ (funext fun t => Fin.ext (by fin_cases t <;> simp [oct, duo, row1, row2, ix2, ix3, ix4, ix5] <;> omega))).trans (h.si v)
  have h41 : (val_main_v41 (F := Ideal) x0 (ix4 n s a v) : EReal) = ((e a).im : EReal) := by
    rw [val_main_v41_apply, val_main_v28_apply]
    exact (congrArg _ (funext fun t => Fin.ext (by fin_cases t <;> simp [oct, duo, row1, row2, ix2, ix3, ix4, ix5] <;> omega))).trans (h.ei a)
  have h42 : (val_main_v42 (F := Ideal) x0 (ix4 n s a v) : EReal) = ((ψ v).re : EReal) := by
    rw [val_main_v42_apply, val_main_v29_apply]
    exact (congrArg _ (funext fun t => Fin.ext (by fin_cases t <;> simp [oct, duo, row1, row2, ix2, ix3, ix4, ix5] <;> omega))).trans (h.sr v)
  constructor
  · rw [val_main_v37_apply, val_main_v33_apply, val_main_v36_apply, h31, h32, h34, h35]
    exact re_times _ _
  · rw [val_main_v44_apply, val_main_v40_apply, val_main_v43_apply, h38, h39, h41, h42]
    exact im_times _ _

theorem triple1 (h : Finds1 x0 n s e ψ u) (a v b : Fin 2) : (val_main_v57 (F := Ideal) x0 (ix4 n s (duo a v) b) : EReal) = ((e a * ψ v * u b).re : EReal)
    ∧ (val_main_v64 (F := Ideal) x0 (ix4 n s (duo a v) b) : EReal) = ((e a * ψ v * u b).im : EReal) := by
  have h51 : (val_main_v51 (F := Ideal) x0 (ix4 n s (duo a v) b) : EReal) = ((e a * ψ v).re : EReal) := by
    rw [val_main_v51_apply, val_main_v47_apply, val_main_v45_apply]
    exact (congrArg _ (funext fun t => Fin.ext (by fin_cases t <;> simp [oct, duo, row1, row2, ix2, ix3, ix4, ix5] <;> omega))).trans ((pair1 x0 h a v).1)
  have h52 : (val_main_v52 (F := Ideal) x0 (ix4 n s (duo a v) b) : EReal) = ((u b).re : EReal) := by
    rw [val_main_v52_apply, val_main_v49_apply]
    exact (congrArg _ (funext fun t => Fin.ext (by fin_cases t <;> simp [oct, duo, row1, row2, ix2, ix3, ix4, ix5] <;> omega))).trans (h.ur b)
  have h54 : (val_main_v54 (F := Ideal) x0 (ix4 n s (duo a v) b) : EReal) = ((e a * ψ v).im : EReal) := by
    rw [val_main_v54_apply, val_main_v48_apply, val_main_v46_apply]
    exact (congrArg _ (funext fun t => Fin.ext (by fin_cases t <;> simp [oct, duo, row1, row2, ix2, ix3, ix4, ix5] <;> omega))).trans ((pair1 x0 h a v).2)
  have h55 : (val_main_v55 (F := Ideal) x0 (ix4 n s (duo a v) b) : EReal) = ((u b).im : EReal) := by
    rw [val_main_v55_apply, val_main_v50_apply]
    exact (congrArg _ (funext fun t => Fin.ext (by fin_cases t <;> simp [oct, duo, row1, row2, ix2, ix3, ix4, ix5] <;> omega))).trans (h.ui b)
  have h58 : (val_main_v58 (F := Ideal) x0 (ix4 n s (duo a v) b) : EReal) = ((e a * ψ v).re : EReal) := by
    rw [val_main_v58_apply, val_main_v47_apply, val_main_v45_apply]
    exact (congrArg _ (funext fun t => Fin.ext (by fin_cases t <;> simp [oct, duo, row1, row2, ix2, ix3, ix4, ix5] <;> omega))).trans ((pair1 x0 h a v).1)
  have h59 : (val_main_v59 (F := Ideal) x0 (ix4 n s (duo a v) b) : EReal) = ((u b).im : EReal) := by
    rw [val_main_v59_apply, val_main_v50_apply]
    exact (congrArg _ (funext fun t => Fin.ext (by fin_cases t <;> simp [oct, duo, row1, row2, ix2, ix3, ix4, ix5] <;> omega))).trans (h.ui b)
  have h61 : (val_main_v61 (F := Ideal) x0 (ix4 n s (duo a v) b) : EReal) = ((e a * ψ v).im : EReal) := by
    rw [val_main_v61_apply, val_main_v48_apply, val_main_v46_apply]
    exact (congrArg _ (funext fun t => Fin.ext (by fin_cases t <;> simp [oct, duo, row1, row2, ix2, ix3, ix4, ix5] <;> omega))).trans ((pair1 x0 h a v).2)
  have h62 : (val_main_v62 (F := Ideal) x0 (ix4 n s (duo a v) b) : EReal) = ((u b).re : EReal) := by
    rw [val_main_v62_apply, val_main_v49_apply]
    exact (congrArg _ (funext fun t => Fin.ext (by fin_cases t <;> simp [oct, duo, row1, row2, ix2, ix3, ix4, ix5] <;> omega))).trans (h.ur b)
  constructor
  · rw [val_main_v57_apply, val_main_v53_apply, val_main_v56_apply, h51, h52, h54, h55]
    exact re_times _ _
  · rw [val_main_v64_apply, val_main_v60_apply, val_main_v63_apply, h58, h59, h61, h62]
    exact im_times _ _

theorem v65_at (h : Finds1 x0 n s e ψ u) (a v b : Fin 2) : (val_main_v65 (F := Ideal) x0 (ix3 n s (oct a v b)) : EReal) = ((e a * ψ v * u b).re : EReal) := by
  rw [val_main_v65_apply]
  exact (congrArg _ (funext fun t => Fin.ext (by fin_cases t <;> simp [oct, duo, row1, row2, ix2, ix3, ix4, ix5] <;> omega))).trans (triple1 x0 h a v b).1
theorem v66_at (h : Finds1 x0 n s e ψ u) (a v b : Fin 2) : (val_main_v66 (F := Ideal) x0 (ix3 n s (oct a v b)) : EReal) = ((e a * ψ v * u b).im : EReal) := by
  rw [val_main_v66_apply]
  exact (congrArg _ (funext fun t => Fin.ext (by fin_cases t <;> simp [oct, duo, row1, row2, ix2, ix3, ix4, ix5] <;> omega))).trans (triple1 x0 h a v b).2
theorem v68_at {V : Gate} (hV : GateAt x1 V) (h : Finds1 x0 n s e ψ u) (x w y : Fin 2) : (val_main_v68 (F := Ideal) x0 x1 (ix5 n s x w y) : EReal)
    = ∑ a, ∑ v, ∑ b, ((e a * ψ v * u b).re : EReal) * ((V x w y a v b).re : EReal) := by
  rw [val_main_v68_apply, val_main_v67_apply, oct_sum]
  refine Finset.sum_congr rfl fun a _ => Finset.sum_congr rfl fun v _ => Finset.sum_congr rfl fun b _ => ?_
  exact congrArg₂ (fun p q : EReal => p * q) ((congrArg _ (funext fun t => Fin.ext (by fin_cases t <;> simp [oct, duo, row1, row2, ix2, ix3, ix4, ix5] <;> omega))).trans (v65_at x0 h a v b)) ((congrArg _ (funext fun t => Fin.ext (by fin_cases t <;> simp [oct, duo, row1, row2, ix2, ix3, ix4, ix5] <;> omega))).trans (v3_at x1 hV x w y a v b))
theorem v70_at {V : Gate} (hV : GateAt x1 V) (h : Finds1 x0 n s e ψ u) (x w y : Fin 2) : (val_main_v70 (F := Ideal) x0 x1 (ix5 n s x w y) : EReal)
    = ∑ a, ∑ v, ∑ b, ((e a * ψ v * u b).im : EReal) * ((V x w y a v b).im : EReal) := by
  rw [val_main_v70_apply, val_main_v69_apply, oct_sum]
  refine Finset.sum_congr rfl fun a _ => Finset.sum_congr rfl fun v _ => Finset.sum_congr rfl fun b _ => ?_
  exact congrArg₂ (fun p q : EReal => p * q) ((congrArg _ (funext fun t => Fin.ext (by fin_cases t <;> simp [oct, duo, row1, row2, ix2, ix3, ix4, ix5] <;> omega))).trans (v66_at x0 h a v b)) ((congrArg _ (funext fun t => Fin.ext (by fin_cases t <;> simp [oct, duo, row1, row2, ix2, ix3, ix4, ix5] <;> omega))).trans (v5_at x1 hV x w y a v b))
theorem v73_at {V : Gate} (hV : GateAt x1 V) (h : Finds1 x0 n s e ψ u) (x w y : Fin 2) : (val_main_v73 (F := Ideal) x0 x1 (ix5 n s x w y) : EReal)
    = ∑ a, ∑ v, ∑ b, ((e a * ψ v * u b).im : EReal) * ((V x w y a v b).re : EReal) := by
  rw [val_main_v73_apply, val_main_v72_apply, oct_sum]
  refine Finset.sum_congr rfl fun a _ => Finset.sum_congr rfl fun v _ => Finset.sum_congr rfl fun b _ => ?_
  exact congrArg₂ (fun p q : EReal => p * q) ((congrArg _ (funext fun t => Fin.ext (by fin_cases t <;> simp [oct, duo, row1, row2, ix2, ix3, ix4, ix5] <;> omega))).trans (v66_at x0 h a v b)) ((congrArg _ (funext fun t => Fin.ext (by fin_cases t <;> simp [oct, duo, row1, row2, ix2, ix3, ix4, ix5] <;> omega))).trans (v3_at x1 hV x w y a v b))
theorem v75_at {V : Gate} (hV : GateAt x1 V) (h : Finds1 x0 n s e ψ u) (x w y : Fin 2) : (val_main_v75 (F := Ideal) x0 x1 (ix5 n s x w y) : EReal)
    = ∑ a, ∑ v, ∑ b, ((e a * ψ v * u b).re : EReal) * ((V x w y a v b).im : EReal) := by
  rw [val_main_v75_apply, val_main_v74_apply, oct_sum]
  refine Finset.sum_congr rfl fun a _ => Finset.sum_congr rfl fun v _ => Finset.sum_congr rfl fun b _ => ?_
  exact congrArg₂ (fun p q : EReal => p * q) ((congrArg _ (funext fun t => Fin.ext (by fin_cases t <;> simp [oct, duo, row1, row2, ix2, ix3, ix4, ix5] <;> omega))).trans (v65_at x0 h a v b)) ((congrArg _ (funext fun t => Fin.ext (by fin_cases t <;> simp [oct, duo, row1, row2, ix2, ix3, ix4, ix5] <;> omega))).trans (v5_at x1 hV x w y a v b))
theorem gate1 {V : Gate} (hV : GateAt x1 V) (h : Finds1 x0 n s e ψ u) (x w y : Fin 2) : (val_main_v71 (F := Ideal) x0 x1 (ix5 n s x w y) : EReal) = ((out V e ψ u x w y).re : EReal)
    ∧ (val_main_v76 (F := Ideal) x0 x1 (ix5 n s x w y) : EReal) = ((out V e ψ u x w y).im : EReal) := by
  constructor
  · rw [val_main_v71_apply, v68_at x0 x1 hV h, v70_at x0 x1 hV h]
    exact out_re _ _ _ _ _ _ _
  · rw [val_main_v76_apply, v73_at x0 x1 hV h, v75_at x0 x1 hV h]
    exact out_im _ _ _ _ _ _ _
theorem after1 {V : Gate} (hV : GateAt x1 V) (h : Finds1 x0 n s e ψ u) (x y w : Fin 2) : (val_main_v78 (F := Ideal) x0 x1 (ix3 n (row1 s x y) w) : EReal) = ((out V e ψ u x w y).re : EReal)
    ∧ (val_main_v80 (F := Ideal) x0 x1 (ix3 n (row1 s x y) w) : EReal) = ((out V e ψ u x w y).im : EReal) := by
  constructor
  · rw [val_main_v78_apply, val_main_v77_apply]
    exact (congrArg _ (funext fun t => Fin.ext (by fin_cases t <;> simp [oct, duo, row1, row2, ix2, ix3, ix4, ix5] <;> omega))).trans (gate1 x0 x1 hV h x w y).1
  · rw [val_main_v80_apply, val_main_v79_apply]
    exact (congrArg _ (funext fun t => Fin.ext (by fin_cases t <;> simp [oct, duo, row1, row2, ix2, ix3, ix4, ix5] <;> omega))).trans (gate1 x0 x1 hV h x w y).2

end

/-! ### Gate 2 -/

/-- What gate 2 finds at a node: an edge qubit, a centre and a neighbour qubit. -/
structure Finds2 (n : Fin 10000) (s : Fin 4) (e ψ u : Qubit) : Prop where
  er : ∀ a, (val_main_v84 (F := Ideal) x0 (ix2 n a) : EReal) = ((e a).re : EReal)
  ei : ∀ a, (val_main_v86 (F := Ideal) x0 (ix2 n a) : EReal) = ((e a).im : EReal)
  sr : ∀ a, (val_main_v78 (F := Ideal) x0 x1 (ix3 n s a) : EReal) = ((ψ a).re : EReal)
  si : ∀ a, (val_main_v80 (F := Ideal) x0 x1 (ix3 n s a) : EReal) = ((ψ a).im : EReal)
  ur : ∀ a, (val_main_v91 (F := Ideal) x0 (ix2 n a) : EReal) = ((u a).re : EReal)
  ui : ∀ a, (val_main_v93 (F := Ideal) x0 (ix2 n a) : EReal) = ((u a).im : EReal)

section
variable {n : Fin 10000} {s : Fin 4} {e ψ u : Qubit}

theorem pair2 (h : Finds2 x0 x1 n s e ψ u) (a v : Fin 2) : (val_main_v104 (F := Ideal) x0 x1 (ix4 n s a v) : EReal) = ((e a * ψ v).re : EReal)
    ∧ (val_main_v111 (F := Ideal) x0 x1 (ix4 n s a v) : EReal) = ((e a * ψ v).im : EReal) := by
  have h31 : (val_main_v98 (F := Ideal) x0 (ix4 n s a v) : EReal) = ((e a).re : EReal) := by
    rw [val_main_v98_apply, val_main_v94_apply]
    exact (congrArg _ (funext fun t => Fin.ext (by fin_cases t <;> simp [oct, duo, row1, row2, ix2, ix3, ix4, ix5] <;> omega))).trans (h.er a)
  have h32 : (val_main_v99 (F := Ideal) x0 x1 (ix4 n s a v) : EReal) = ((ψ v).re : EReal) := by
    rw [val_main_v99_apply, val_main_v96_apply]
    exact (congrArg _ (funext fun t => Fin.ext (by fin_cases t <;> simp [oct, duo, row1, row2, ix2, ix3, ix4, ix5] <;> omega))).trans (h.sr v)
  have h34 : (val_main_v101 (F := Ideal) x0 (ix4 n s a v) : EReal) = ((e a).im : EReal) := by
    rw [val_main_v101_apply, val_main_v95_apply]
    exact (congrArg _ (funext fun t => Fin.ext (by fin_cases t <;> simp [oct, duo, row1, row2, ix2, ix3, ix4, ix5] <;> omega))).trans (h.ei a)
  have h35 : (val_main_v102 (F := Ideal) x0 x1 (ix4 n s a v) : EReal) = ((ψ v).im : EReal) := by
    rw [val_main_v102_apply, val_main_v97_apply]
    exact (congrArg _ (funext fun t => Fin.ext (by fin_cases t <;> simp [oct, duo, row1, row2, ix2, ix3, ix4, ix5] <;> omega))).trans (h.si v)
  have h38 : (val_main_v105 (F := Ideal) x0 (ix4 n s a v) : EReal) = ((e a).re : EReal) := by
    rw [val_main_v105_apply, val_main_v94_apply]
    exact (congrArg _ (funext fun t => Fin.ext (by fin_cases t <;> simp [oct, duo, row1, row2, ix2, ix3, ix4, ix5] <;> omega))).trans (h.er a)
  have h39 : (val_main_v106 (F := Ideal) x0 x1 (ix4 n s a v) : EReal) = ((ψ v).im : EReal) := by
    rw [val_main_v106_apply, val_main_v97_apply]
    exact (congrArg _ (funext fun t => Fin.ext (by fin_cases t <;> simp [oct, duo, row1, row2, ix2, ix3, ix4, ix5] <;> omega))).trans (h.si v)
  have h41 : (val_main_v108 (F := Ideal) x0 (ix4 n s a v) : EReal) = ((e a).im : EReal) := by
    rw [val_main_v108_apply, val_main_v95_apply]
    exact (congrArg _ (funext fun t => Fin.ext (by fin_cases t <;> simp [oct, duo, row1, row2, ix2, ix3, ix4, ix5] <;> omega))).trans (h.ei a)
  have h42 : (val_main_v109 (F := Ideal) x0 x1 (ix4 n s a v) : EReal) = ((ψ v).re : EReal) := by
    rw [val_main_v109_apply, val_main_v96_apply]
    exact (congrArg _ (funext fun t => Fin.ext (by fin_cases t <;> simp [oct, duo, row1, row2, ix2, ix3, ix4, ix5] <;> omega))).trans (h.sr v)
  constructor
  · rw [val_main_v104_apply, val_main_v100_apply, val_main_v103_apply, h31, h32, h34, h35]
    exact re_times _ _
  · rw [val_main_v111_apply, val_main_v107_apply, val_main_v110_apply, h38, h39, h41, h42]
    exact im_times _ _

theorem triple2 (h : Finds2 x0 x1 n s e ψ u) (a v b : Fin 2) : (val_main_v124 (F := Ideal) x0 x1 (ix4 n s (duo a v) b) : EReal) = ((e a * ψ v * u b).re : EReal)
    ∧ (val_main_v131 (F := Ideal) x0 x1 (ix4 n s (duo a v) b) : EReal) = ((e a * ψ v * u b).im : EReal) := by
  have h51 : (val_main_v118 (F := Ideal) x0 x1 (ix4 n s (duo a v) b) : EReal) = ((e a * ψ v).re : EReal) := by
    rw [val_main_v118_apply, val_main_v114_apply, val_main_v112_apply]
    exact (congrArg _ (funext fun t => Fin.ext (by fin_cases t <;> simp [oct, duo, row1, row2, ix2, ix3, ix4, ix5] <;> omega))).trans ((pair2 x0 x1 h a v).1)
  have h52 : (val_main_v119 (F := Ideal) x0 (ix4 n s (duo a v) b) : EReal) = ((u b).re : EReal) := by
    rw [val_main_v119_apply, val_main_v116_apply]
    exact (congrArg _ (funext fun t => Fin.ext (by fin_cases t <;> simp [oct, duo, row1, row2, ix2, ix3, ix4, ix5] <;> omega))).trans (h.ur b)
  have h54 : (val_main_v121 (F := Ideal) x0 x1 (ix4 n s (duo a v) b) : EReal) = ((e a * ψ v).im : EReal) := by
    rw [val_main_v121_apply, val_main_v115_apply, val_main_v113_apply]
    exact (congrArg _ (funext fun t => Fin.ext (by fin_cases t <;> simp [oct, duo, row1, row2, ix2, ix3, ix4, ix5] <;> omega))).trans ((pair2 x0 x1 h a v).2)
  have h55 : (val_main_v122 (F := Ideal) x0 (ix4 n s (duo a v) b) : EReal) = ((u b).im : EReal) := by
    rw [val_main_v122_apply, val_main_v117_apply]
    exact (congrArg _ (funext fun t => Fin.ext (by fin_cases t <;> simp [oct, duo, row1, row2, ix2, ix3, ix4, ix5] <;> omega))).trans (h.ui b)
  have h58 : (val_main_v125 (F := Ideal) x0 x1 (ix4 n s (duo a v) b) : EReal) = ((e a * ψ v).re : EReal) := by
    rw [val_main_v125_apply, val_main_v114_apply, val_main_v112_apply]
    exact (congrArg _ (funext fun t => Fin.ext (by fin_cases t <;> simp [oct, duo, row1, row2, ix2, ix3, ix4, ix5] <;> omega))).trans ((pair2 x0 x1 h a v).1)
  have h59 : (val_main_v126 (F := Ideal) x0 (ix4 n s (duo a v) b) : EReal) = ((u b).im : EReal) := by
    rw [val_main_v126_apply, val_main_v117_apply]
    exact (congrArg _ (funext fun t => Fin.ext (by fin_cases t <;> simp [oct, duo, row1, row2, ix2, ix3, ix4, ix5] <;> omega))).trans (h.ui b)
  have h61 : (val_main_v128 (F := Ideal) x0 x1 (ix4 n s (duo a v) b) : EReal) = ((e a * ψ v).im : EReal) := by
    rw [val_main_v128_apply, val_main_v115_apply, val_main_v113_apply]
    exact (congrArg _ (funext fun t => Fin.ext (by fin_cases t <;> simp [oct, duo, row1, row2, ix2, ix3, ix4, ix5] <;> omega))).trans ((pair2 x0 x1 h a v).2)
  have h62 : (val_main_v129 (F := Ideal) x0 (ix4 n s (duo a v) b) : EReal) = ((u b).re : EReal) := by
    rw [val_main_v129_apply, val_main_v116_apply]
    exact (congrArg _ (funext fun t => Fin.ext (by fin_cases t <;> simp [oct, duo, row1, row2, ix2, ix3, ix4, ix5] <;> omega))).trans (h.ur b)
  constructor
  · rw [val_main_v124_apply, val_main_v120_apply, val_main_v123_apply, h51, h52, h54, h55]
    exact re_times _ _
  · rw [val_main_v131_apply, val_main_v127_apply, val_main_v130_apply, h58, h59, h61, h62]
    exact im_times _ _

theorem v132_at (h : Finds2 x0 x1 n s e ψ u) (a v b : Fin 2) : (val_main_v132 (F := Ideal) x0 x1 (ix3 n s (oct a v b)) : EReal) = ((e a * ψ v * u b).re : EReal) := by
  rw [val_main_v132_apply]
  exact (congrArg _ (funext fun t => Fin.ext (by fin_cases t <;> simp [oct, duo, row1, row2, ix2, ix3, ix4, ix5] <;> omega))).trans (triple2 x0 x1 h a v b).1
theorem v133_at (h : Finds2 x0 x1 n s e ψ u) (a v b : Fin 2) : (val_main_v133 (F := Ideal) x0 x1 (ix3 n s (oct a v b)) : EReal) = ((e a * ψ v * u b).im : EReal) := by
  rw [val_main_v133_apply]
  exact (congrArg _ (funext fun t => Fin.ext (by fin_cases t <;> simp [oct, duo, row1, row2, ix2, ix3, ix4, ix5] <;> omega))).trans (triple2 x0 x1 h a v b).2
theorem v135_at {V : Gate} (hV : GateAt x1 V) (h : Finds2 x0 x1 n s e ψ u) (x w y : Fin 2) : (val_main_v135 (F := Ideal) x0 x1 (ix5 n s x w y) : EReal)
    = ∑ a, ∑ v, ∑ b, ((e a * ψ v * u b).re : EReal) * ((V x w y a v b).re : EReal) := by
  rw [val_main_v135_apply, val_main_v134_apply, oct_sum]
  refine Finset.sum_congr rfl fun a _ => Finset.sum_congr rfl fun v _ => Finset.sum_congr rfl fun b _ => ?_
  exact congrArg₂ (fun p q : EReal => p * q) ((congrArg _ (funext fun t => Fin.ext (by fin_cases t <;> simp [oct, duo, row1, row2, ix2, ix3, ix4, ix5] <;> omega))).trans (v132_at x0 x1 h a v b)) ((congrArg _ (funext fun t => Fin.ext (by fin_cases t <;> simp [oct, duo, row1, row2, ix2, ix3, ix4, ix5] <;> omega))).trans (v3_at x1 hV x w y a v b))
theorem v137_at {V : Gate} (hV : GateAt x1 V) (h : Finds2 x0 x1 n s e ψ u) (x w y : Fin 2) : (val_main_v137 (F := Ideal) x0 x1 (ix5 n s x w y) : EReal)
    = ∑ a, ∑ v, ∑ b, ((e a * ψ v * u b).im : EReal) * ((V x w y a v b).im : EReal) := by
  rw [val_main_v137_apply, val_main_v136_apply, oct_sum]
  refine Finset.sum_congr rfl fun a _ => Finset.sum_congr rfl fun v _ => Finset.sum_congr rfl fun b _ => ?_
  exact congrArg₂ (fun p q : EReal => p * q) ((congrArg _ (funext fun t => Fin.ext (by fin_cases t <;> simp [oct, duo, row1, row2, ix2, ix3, ix4, ix5] <;> omega))).trans (v133_at x0 x1 h a v b)) ((congrArg _ (funext fun t => Fin.ext (by fin_cases t <;> simp [oct, duo, row1, row2, ix2, ix3, ix4, ix5] <;> omega))).trans (v5_at x1 hV x w y a v b))
theorem v140_at {V : Gate} (hV : GateAt x1 V) (h : Finds2 x0 x1 n s e ψ u) (x w y : Fin 2) : (val_main_v140 (F := Ideal) x0 x1 (ix5 n s x w y) : EReal)
    = ∑ a, ∑ v, ∑ b, ((e a * ψ v * u b).im : EReal) * ((V x w y a v b).re : EReal) := by
  rw [val_main_v140_apply, val_main_v139_apply, oct_sum]
  refine Finset.sum_congr rfl fun a _ => Finset.sum_congr rfl fun v _ => Finset.sum_congr rfl fun b _ => ?_
  exact congrArg₂ (fun p q : EReal => p * q) ((congrArg _ (funext fun t => Fin.ext (by fin_cases t <;> simp [oct, duo, row1, row2, ix2, ix3, ix4, ix5] <;> omega))).trans (v133_at x0 x1 h a v b)) ((congrArg _ (funext fun t => Fin.ext (by fin_cases t <;> simp [oct, duo, row1, row2, ix2, ix3, ix4, ix5] <;> omega))).trans (v3_at x1 hV x w y a v b))
theorem v142_at {V : Gate} (hV : GateAt x1 V) (h : Finds2 x0 x1 n s e ψ u) (x w y : Fin 2) : (val_main_v142 (F := Ideal) x0 x1 (ix5 n s x w y) : EReal)
    = ∑ a, ∑ v, ∑ b, ((e a * ψ v * u b).re : EReal) * ((V x w y a v b).im : EReal) := by
  rw [val_main_v142_apply, val_main_v141_apply, oct_sum]
  refine Finset.sum_congr rfl fun a _ => Finset.sum_congr rfl fun v _ => Finset.sum_congr rfl fun b _ => ?_
  exact congrArg₂ (fun p q : EReal => p * q) ((congrArg _ (funext fun t => Fin.ext (by fin_cases t <;> simp [oct, duo, row1, row2, ix2, ix3, ix4, ix5] <;> omega))).trans (v132_at x0 x1 h a v b)) ((congrArg _ (funext fun t => Fin.ext (by fin_cases t <;> simp [oct, duo, row1, row2, ix2, ix3, ix4, ix5] <;> omega))).trans (v5_at x1 hV x w y a v b))
theorem gate2 {V : Gate} (hV : GateAt x1 V) (h : Finds2 x0 x1 n s e ψ u) (x w y : Fin 2) : (val_main_v138 (F := Ideal) x0 x1 (ix5 n s x w y) : EReal) = ((out V e ψ u x w y).re : EReal)
    ∧ (val_main_v143 (F := Ideal) x0 x1 (ix5 n s x w y) : EReal) = ((out V e ψ u x w y).im : EReal) := by
  constructor
  · rw [val_main_v138_apply, v135_at x0 x1 hV h, v137_at x0 x1 hV h]
    exact out_re _ _ _ _ _ _ _
  · rw [val_main_v143_apply, v140_at x0 x1 hV h, v142_at x0 x1 hV h]
    exact out_im _ _ _ _ _ _ _
theorem after2 {V : Gate} (hV : GateAt x1 V) (h : Finds2 x0 x1 n s e ψ u) (x y w : Fin 2) : (val_main_v145 (F := Ideal) x0 x1 (ix3 n (row2 s x y) w) : EReal) = ((out V e ψ u x w y).re : EReal)
    ∧ (val_main_v147 (F := Ideal) x0 x1 (ix3 n (row2 s x y) w) : EReal) = ((out V e ψ u x w y).im : EReal) := by
  constructor
  · rw [val_main_v145_apply, val_main_v144_apply]
    exact (congrArg _ (funext fun t => Fin.ext (by fin_cases t <;> simp [oct, duo, row1, row2, ix2, ix3, ix4, ix5] <;> omega))).trans (gate2 x0 x1 hV h x w y).1
  · rw [val_main_v147_apply, val_main_v146_apply]
    exact (congrArg _ (funext fun t => Fin.ext (by fin_cases t <;> simp [oct, duo, row1, row2, ix2, ix3, ix4, ix5] <;> omega))).trans (gate2 x0 x1 hV h x w y).2

end

/-! ### Gate 3 -/

/-- What gate 3 finds at a node: an edge qubit, a centre and a neighbour qubit. -/
structure Finds3 (n : Fin 10000) (s : Fin 16) (e ψ u : Qubit) : Prop where
  er : ∀ a, (val_main_v151 (F := Ideal) x0 (ix2 n a) : EReal) = ((e a).re : EReal)
  ei : ∀ a, (val_main_v153 (F := Ideal) x0 (ix2 n a) : EReal) = ((e a).im : EReal)
  sr : ∀ a, (val_main_v145 (F := Ideal) x0 x1 (ix3 n s a) : EReal) = ((ψ a).re : EReal)
  si : ∀ a, (val_main_v147 (F := Ideal) x0 x1 (ix3 n s a) : EReal) = ((ψ a).im : EReal)
  ur : ∀ a, (val_main_v158 (F := Ideal) x0 (ix2 n a) : EReal) = ((u a).re : EReal)
  ui : ∀ a, (val_main_v160 (F := Ideal) x0 (ix2 n a) : EReal) = ((u a).im : EReal)

section
variable {n : Fin 10000} {s : Fin 16} {e ψ u : Qubit}

theorem pair3 (h : Finds3 x0 x1 n s e ψ u) (a v : Fin 2) : (val_main_v171 (F := Ideal) x0 x1 (ix4 n s a v) : EReal) = ((e a * ψ v).re : EReal)
    ∧ (val_main_v178 (F := Ideal) x0 x1 (ix4 n s a v) : EReal) = ((e a * ψ v).im : EReal) := by
  have h31 : (val_main_v165 (F := Ideal) x0 (ix4 n s a v) : EReal) = ((e a).re : EReal) := by
    rw [val_main_v165_apply, val_main_v161_apply]
    exact (congrArg _ (funext fun t => Fin.ext (by fin_cases t <;> simp [oct, duo, row1, row2, ix2, ix3, ix4, ix5] <;> omega))).trans (h.er a)
  have h32 : (val_main_v166 (F := Ideal) x0 x1 (ix4 n s a v) : EReal) = ((ψ v).re : EReal) := by
    rw [val_main_v166_apply, val_main_v163_apply]
    exact (congrArg _ (funext fun t => Fin.ext (by fin_cases t <;> simp [oct, duo, row1, row2, ix2, ix3, ix4, ix5] <;> omega))).trans (h.sr v)
  have h34 : (val_main_v168 (F := Ideal) x0 (ix4 n s a v) : EReal) = ((e a).im : EReal) := by
    rw [val_main_v168_apply, val_main_v162_apply]
    exact (congrArg _ (funext fun t => Fin.ext (by fin_cases t <;> simp [oct, duo, row1, row2, ix2, ix3, ix4, ix5] <;> omega))).trans (h.ei a)
  have h35 : (val_main_v169 (F := Ideal) x0 x1 (ix4 n s a v) : EReal) = ((ψ v).im : EReal) := by
    rw [val_main_v169_apply, val_main_v164_apply]
    exact (congrArg _ (funext fun t => Fin.ext (by fin_cases t <;> simp [oct, duo, row1, row2, ix2, ix3, ix4, ix5] <;> omega))).trans (h.si v)
  have h38 : (val_main_v172 (F := Ideal) x0 (ix4 n s a v) : EReal) = ((e a).re : EReal) := by
    rw [val_main_v172_apply, val_main_v161_apply]
    exact (congrArg _ (funext fun t => Fin.ext (by fin_cases t <;> simp [oct, duo, row1, row2, ix2, ix3, ix4, ix5] <;> omega))).trans (h.er a)
  have h39 : (val_main_v173 (F := Ideal) x0 x1 (ix4 n s a v) : EReal) = ((ψ v).im : EReal) := by
    rw [val_main_v173_apply, val_main_v164_apply]
    exact (congrArg _ (funext fun t => Fin.ext (by fin_cases t <;> simp [oct, duo, row1, row2, ix2, ix3, ix4, ix5] <;> omega))).trans (h.si v)
  have h41 : (val_main_v175 (F := Ideal) x0 (ix4 n s a v) : EReal) = ((e a).im : EReal) := by
    rw [val_main_v175_apply, val_main_v162_apply]
    exact (congrArg _ (funext fun t => Fin.ext (by fin_cases t <;> simp [oct, duo, row1, row2, ix2, ix3, ix4, ix5] <;> omega))).trans (h.ei a)
  have h42 : (val_main_v176 (F := Ideal) x0 x1 (ix4 n s a v) : EReal) = ((ψ v).re : EReal) := by
    rw [val_main_v176_apply, val_main_v163_apply]
    exact (congrArg _ (funext fun t => Fin.ext (by fin_cases t <;> simp [oct, duo, row1, row2, ix2, ix3, ix4, ix5] <;> omega))).trans (h.sr v)
  constructor
  · rw [val_main_v171_apply, val_main_v167_apply, val_main_v170_apply, h31, h32, h34, h35]
    exact re_times _ _
  · rw [val_main_v178_apply, val_main_v174_apply, val_main_v177_apply, h38, h39, h41, h42]
    exact im_times _ _

theorem triple3 (h : Finds3 x0 x1 n s e ψ u) (a v b : Fin 2) : (val_main_v191 (F := Ideal) x0 x1 (ix4 n s (duo a v) b) : EReal) = ((e a * ψ v * u b).re : EReal)
    ∧ (val_main_v198 (F := Ideal) x0 x1 (ix4 n s (duo a v) b) : EReal) = ((e a * ψ v * u b).im : EReal) := by
  have h51 : (val_main_v185 (F := Ideal) x0 x1 (ix4 n s (duo a v) b) : EReal) = ((e a * ψ v).re : EReal) := by
    rw [val_main_v185_apply, val_main_v181_apply, val_main_v179_apply]
    exact (congrArg _ (funext fun t => Fin.ext (by fin_cases t <;> simp [oct, duo, row1, row2, ix2, ix3, ix4, ix5] <;> omega))).trans ((pair3 x0 x1 h a v).1)
  have h52 : (val_main_v186 (F := Ideal) x0 (ix4 n s (duo a v) b) : EReal) = ((u b).re : EReal) := by
    rw [val_main_v186_apply, val_main_v183_apply]
    exact (congrArg _ (funext fun t => Fin.ext (by fin_cases t <;> simp [oct, duo, row1, row2, ix2, ix3, ix4, ix5] <;> omega))).trans (h.ur b)
  have h54 : (val_main_v188 (F := Ideal) x0 x1 (ix4 n s (duo a v) b) : EReal) = ((e a * ψ v).im : EReal) := by
    rw [val_main_v188_apply, val_main_v182_apply, val_main_v180_apply]
    exact (congrArg _ (funext fun t => Fin.ext (by fin_cases t <;> simp [oct, duo, row1, row2, ix2, ix3, ix4, ix5] <;> omega))).trans ((pair3 x0 x1 h a v).2)
  have h55 : (val_main_v189 (F := Ideal) x0 (ix4 n s (duo a v) b) : EReal) = ((u b).im : EReal) := by
    rw [val_main_v189_apply, val_main_v184_apply]
    exact (congrArg _ (funext fun t => Fin.ext (by fin_cases t <;> simp [oct, duo, row1, row2, ix2, ix3, ix4, ix5] <;> omega))).trans (h.ui b)
  have h58 : (val_main_v192 (F := Ideal) x0 x1 (ix4 n s (duo a v) b) : EReal) = ((e a * ψ v).re : EReal) := by
    rw [val_main_v192_apply, val_main_v181_apply, val_main_v179_apply]
    exact (congrArg _ (funext fun t => Fin.ext (by fin_cases t <;> simp [oct, duo, row1, row2, ix2, ix3, ix4, ix5] <;> omega))).trans ((pair3 x0 x1 h a v).1)
  have h59 : (val_main_v193 (F := Ideal) x0 (ix4 n s (duo a v) b) : EReal) = ((u b).im : EReal) := by
    rw [val_main_v193_apply, val_main_v184_apply]
    exact (congrArg _ (funext fun t => Fin.ext (by fin_cases t <;> simp [oct, duo, row1, row2, ix2, ix3, ix4, ix5] <;> omega))).trans (h.ui b)
  have h61 : (val_main_v195 (F := Ideal) x0 x1 (ix4 n s (duo a v) b) : EReal) = ((e a * ψ v).im : EReal) := by
    rw [val_main_v195_apply, val_main_v182_apply, val_main_v180_apply]
    exact (congrArg _ (funext fun t => Fin.ext (by fin_cases t <;> simp [oct, duo, row1, row2, ix2, ix3, ix4, ix5] <;> omega))).trans ((pair3 x0 x1 h a v).2)
  have h62 : (val_main_v196 (F := Ideal) x0 (ix4 n s (duo a v) b) : EReal) = ((u b).re : EReal) := by
    rw [val_main_v196_apply, val_main_v183_apply]
    exact (congrArg _ (funext fun t => Fin.ext (by fin_cases t <;> simp [oct, duo, row1, row2, ix2, ix3, ix4, ix5] <;> omega))).trans (h.ur b)
  constructor
  · rw [val_main_v191_apply, val_main_v187_apply, val_main_v190_apply, h51, h52, h54, h55]
    exact re_times _ _
  · rw [val_main_v198_apply, val_main_v194_apply, val_main_v197_apply, h58, h59, h61, h62]
    exact im_times _ _

theorem v199_at (h : Finds3 x0 x1 n s e ψ u) (a v b : Fin 2) : (val_main_v199 (F := Ideal) x0 x1 (ix3 n s (oct a v b)) : EReal) = ((e a * ψ v * u b).re : EReal) := by
  rw [val_main_v199_apply]
  exact (congrArg _ (funext fun t => Fin.ext (by fin_cases t <;> simp [oct, duo, row1, row2, ix2, ix3, ix4, ix5] <;> omega))).trans (triple3 x0 x1 h a v b).1
theorem v200_at (h : Finds3 x0 x1 n s e ψ u) (a v b : Fin 2) : (val_main_v200 (F := Ideal) x0 x1 (ix3 n s (oct a v b)) : EReal) = ((e a * ψ v * u b).im : EReal) := by
  rw [val_main_v200_apply]
  exact (congrArg _ (funext fun t => Fin.ext (by fin_cases t <;> simp [oct, duo, row1, row2, ix2, ix3, ix4, ix5] <;> omega))).trans (triple3 x0 x1 h a v b).2
theorem v202_at {V : Gate} (hV : GateAt x1 V) (h : Finds3 x0 x1 n s e ψ u) (x w y : Fin 2) : (val_main_v202 (F := Ideal) x0 x1 (ix5 n s x w y) : EReal)
    = ∑ a, ∑ v, ∑ b, ((e a * ψ v * u b).re : EReal) * ((V x w y a v b).re : EReal) := by
  rw [val_main_v202_apply, val_main_v201_apply, oct_sum]
  refine Finset.sum_congr rfl fun a _ => Finset.sum_congr rfl fun v _ => Finset.sum_congr rfl fun b _ => ?_
  exact congrArg₂ (fun p q : EReal => p * q) ((congrArg _ (funext fun t => Fin.ext (by fin_cases t <;> simp [oct, duo, row1, row2, ix2, ix3, ix4, ix5] <;> omega))).trans (v199_at x0 x1 h a v b)) ((congrArg _ (funext fun t => Fin.ext (by fin_cases t <;> simp [oct, duo, row1, row2, ix2, ix3, ix4, ix5] <;> omega))).trans (v3_at x1 hV x w y a v b))
theorem v204_at {V : Gate} (hV : GateAt x1 V) (h : Finds3 x0 x1 n s e ψ u) (x w y : Fin 2) : (val_main_v204 (F := Ideal) x0 x1 (ix5 n s x w y) : EReal)
    = ∑ a, ∑ v, ∑ b, ((e a * ψ v * u b).im : EReal) * ((V x w y a v b).im : EReal) := by
  rw [val_main_v204_apply, val_main_v203_apply, oct_sum]
  refine Finset.sum_congr rfl fun a _ => Finset.sum_congr rfl fun v _ => Finset.sum_congr rfl fun b _ => ?_
  exact congrArg₂ (fun p q : EReal => p * q) ((congrArg _ (funext fun t => Fin.ext (by fin_cases t <;> simp [oct, duo, row1, row2, ix2, ix3, ix4, ix5] <;> omega))).trans (v200_at x0 x1 h a v b)) ((congrArg _ (funext fun t => Fin.ext (by fin_cases t <;> simp [oct, duo, row1, row2, ix2, ix3, ix4, ix5] <;> omega))).trans (v5_at x1 hV x w y a v b))
theorem v207_at {V : Gate} (hV : GateAt x1 V) (h : Finds3 x0 x1 n s e ψ u) (x w y : Fin 2) : (val_main_v207 (F := Ideal) x0 x1 (ix5 n s x w y) : EReal)
    = ∑ a, ∑ v, ∑ b, ((e a * ψ v * u b).im : EReal) * ((V x w y a v b).re : EReal) := by
  rw [val_main_v207_apply, val_main_v206_apply, oct_sum]
  refine Finset.sum_congr rfl fun a _ => Finset.sum_congr rfl fun v _ => Finset.sum_congr rfl fun b _ => ?_
  exact congrArg₂ (fun p q : EReal => p * q) ((congrArg _ (funext fun t => Fin.ext (by fin_cases t <;> simp [oct, duo, row1, row2, ix2, ix3, ix4, ix5] <;> omega))).trans (v200_at x0 x1 h a v b)) ((congrArg _ (funext fun t => Fin.ext (by fin_cases t <;> simp [oct, duo, row1, row2, ix2, ix3, ix4, ix5] <;> omega))).trans (v3_at x1 hV x w y a v b))
theorem v209_at {V : Gate} (hV : GateAt x1 V) (h : Finds3 x0 x1 n s e ψ u) (x w y : Fin 2) : (val_main_v209 (F := Ideal) x0 x1 (ix5 n s x w y) : EReal)
    = ∑ a, ∑ v, ∑ b, ((e a * ψ v * u b).re : EReal) * ((V x w y a v b).im : EReal) := by
  rw [val_main_v209_apply, val_main_v208_apply, oct_sum]
  refine Finset.sum_congr rfl fun a _ => Finset.sum_congr rfl fun v _ => Finset.sum_congr rfl fun b _ => ?_
  exact congrArg₂ (fun p q : EReal => p * q) ((congrArg _ (funext fun t => Fin.ext (by fin_cases t <;> simp [oct, duo, row1, row2, ix2, ix3, ix4, ix5] <;> omega))).trans (v199_at x0 x1 h a v b)) ((congrArg _ (funext fun t => Fin.ext (by fin_cases t <;> simp [oct, duo, row1, row2, ix2, ix3, ix4, ix5] <;> omega))).trans (v5_at x1 hV x w y a v b))
theorem gate3 {V : Gate} (hV : GateAt x1 V) (h : Finds3 x0 x1 n s e ψ u) (x w y : Fin 2) : (val_main_v205 (F := Ideal) x0 x1 (ix5 n s x w y) : EReal) = ((out V e ψ u x w y).re : EReal)
    ∧ (val_main_v210 (F := Ideal) x0 x1 (ix5 n s x w y) : EReal) = ((out V e ψ u x w y).im : EReal) := by
  constructor
  · rw [val_main_v205_apply, v202_at x0 x1 hV h, v204_at x0 x1 hV h]
    exact out_re _ _ _ _ _ _ _
  · rw [val_main_v210_apply, v207_at x0 x1 hV h, v209_at x0 x1 hV h]
    exact out_im _ _ _ _ _ _ _

end

end Cert.Plain

end
-- ==== Proof.RefNode.lean ====
/- The reference read node by node: the last wire's two weights are the marginal of the node's circuit, and the network
   and the head are the same functions of them as in the kernel. -/
module

public import proofs.«01_k».proof.Proof.RefGate
public import proofs.«01_k».proof.Proof.Network
public import proofs.«01_k».proof.Proof.Final

@[expose] public section

set_option maxHeartbeats 1000000

noncomputable section

namespace Cert.Plain

open Idealize.ShloMosaic Cert.ReferenceIdeal Cert.ReferenceIdeal.Gen Cert.ReferenceIdeal.Read Cert.Circuit

variable (x0 : (⟨S32x10240, .f32⟩ : BufTy).Contents (Elt Ideal)) (x1 : (⟨S2x8x8, .f32⟩ : BufTy).Contents (Elt Ideal))

/-- The two tables by their coordinates. -/
def table0 (r : Fin 32) (n : Fin 10240) : EReal := x0 (ix2 r n)
def table1 (p : Fin 2) (i k : Fin 8) : EReal := x1 (ix3 p i k)
abbrev node (n : Fin 10000) : Lane := lane (table0 x0) (table1 x1) n

/-- The amplitudes of the nodes, the first twenty-eight rows, and the gate's entries are reals. -/
def Real0 : Prop := ∀ (r : Fin 32) (n : Fin 10000), r.val < 28 → ((table0 x0 r (wide n)).toReal : EReal) = table0 x0 r (wide n)
def Real1 : Prop := ∀ p i k, ((table1 x1 p i k).toReal : EReal) = table1 x1 p i k

variable {x0 x1}

theorem gate_at (h1 : Real1 x1) (n : Fin 10000) : GateAt x1 (node x0 x1 n).V := fun _ _ _ _ _ _ => ⟨(h1 _ _ _).symm, (h1 _ _ _).symm⟩

/-! ### The nodes after a node -/

theorem roll1 (n : Fin 10000) (c : Fin 4) :
    val_main_v21 (F := Ideal) x0 (ix2 n c) = val_main_v20 (F := Ideal) x0 (ix2 (ahead n 1) c) := by
  unfold val_main_v21
  pointwise
  split_ifs with h
  · rw [val_main_call0_v0_apply, show ahead n 1 = ⟨n.val + 1, by omega⟩ from Fin.ext (if_pos (by show n.val + 1 < 10000; omega))]
    exact congrArg _ (funext fun t => Fin.ext (by fin_cases t <;> simp [ix2] <;> omega))
  · rw [val_main_call0_v1_apply, show ahead n 1 = ⟨n.val + 1 - 10000, by omega⟩ from Fin.ext (if_neg (by show ¬n.val + 1 < 10000; omega))]
    exact congrArg _ (funext fun t => Fin.ext (by fin_cases t <;> simp [ix2] <;> omega))
  · exact absurd rfl ‹_›
theorem roll2 (n : Fin 10000) (c : Fin 4) :
    val_main_v88 (F := Ideal) x0 (ix2 n c) = val_main_v87 (F := Ideal) x0 (ix2 (ahead n 2) c) := by
  unfold val_main_v88
  pointwise
  split_ifs with h
  · rw [val_main_call1_v0_apply, show ahead n 2 = ⟨n.val + 2, by omega⟩ from Fin.ext (if_pos (by show n.val + 2 < 10000; omega))]
    exact congrArg _ (funext fun t => Fin.ext (by fin_cases t <;> simp [ix2] <;> omega))
  · rw [val_main_call1_v1_apply, show ahead n 2 = ⟨n.val + 2 - 10000, by omega⟩ from Fin.ext (if_neg (by show ¬n.val + 2 < 10000; omega))]
    exact congrArg _ (funext fun t => Fin.ext (by fin_cases t <;> simp [ix2] <;> omega))
  · exact absurd rfl ‹_›
theorem roll3 (n : Fin 10000) (c : Fin 4) :
    val_main_v155 (F := Ideal) x0 (ix2 n c) = val_main_v154 (F := Ideal) x0 (ix2 (ahead n 3) c) := by
  unfold val_main_v155
  pointwise
  split_ifs with h
  · rw [val_main_call2_v0_apply, show ahead n 3 = ⟨n.val + 3, by omega⟩ from Fin.ext (if_pos (by show n.val + 3 < 10000; omega))]
    exact congrArg _ (funext fun t => Fin.ext (by fin_cases t <;> simp [ix2] <;> omega))
  · rw [val_main_call2_v1_apply, show ahead n 3 = ⟨n.val + 3 - 10000, by omega⟩ from Fin.ext (if_neg (by show ¬n.val + 3 < 10000; omega))]
    exact congrArg _ (funext fun t => Fin.ext (by fin_cases t <;> simp [ix2] <;> omega))
  · exact absurd rfl ‹_›

/-! ### A node's qubits -/

theorem cr (h0 : Real0 x0) (n : Fin 10000) (s : Fin 1) (a : Fin 2) :
    (val_main_v12 (F := Ideal) x0 (ix3 n s a) : EReal) = ((((node x0 x1 n).u 0 a).re) : EReal) := by
  rw [val_main_v12_apply, val_main_v9_apply, val_main_v8_apply, val_main_v7_apply, val_main_v6_apply, val_main_v1_apply, val_main_v0_apply]
  exact (congrArg x0 (funext fun t => Fin.ext (by fin_cases t <;> simp [ahead, wide, ix2, ix3] <;> omega))).trans (h0 _ _ (by first | omega | (simp; omega))).symm
theorem ci (h0 : Real0 x0) (n : Fin 10000) (s : Fin 1) (a : Fin 2) :
    (val_main_v13 (F := Ideal) x0 (ix3 n s a) : EReal) = ((((node x0 x1 n).u 0 a).im) : EReal) := by
  rw [val_main_v13_apply, val_main_v11_apply, val_main_v10_apply, val_main_v7_apply, val_main_v6_apply, val_main_v1_apply, val_main_v0_apply]
  exact (congrArg x0 (funext fun t => Fin.ext (by fin_cases t <;> simp [ahead, wide, ix2, ix3] <;> omega))).trans (h0 _ _ (by first | omega | (simp; omega))).symm
theorem e1r (h0 : Real0 x0) (n : Fin 10000) (a : Fin 2) :
    (val_main_v17 (F := Ideal) x0 (ix2 n a) : EReal) = ((((node x0 x1 n).e 0 a).re) : EReal) := by
  rw [val_main_v17_apply, val_main_v16_apply, val_main_v15_apply, val_main_v14_apply, val_main_v1_apply, val_main_v0_apply]
  exact (congrArg x0 (funext fun t => Fin.ext (by fin_cases t <;> simp [ahead, wide, ix2, ix3] <;> omega))).trans (h0 _ _ (by first | omega | (simp; omega))).symm
theorem e1i (h0 : Real0 x0) (n : Fin 10000) (a : Fin 2) :
    (val_main_v19 (F := Ideal) x0 (ix2 n a) : EReal) = ((((node x0 x1 n).e 0 a).im) : EReal) := by
  rw [val_main_v19_apply, val_main_v18_apply, val_main_v15_apply, val_main_v14_apply, val_main_v1_apply, val_main_v0_apply]
  exact (congrArg x0 (funext fun t => Fin.ext (by fin_cases t <;> simp [ahead, wide, ix2, ix3] <;> omega))).trans (h0 _ _ (by first | omega | (simp; omega))).symm
theorem u1r (h0 : Real0 x0) (n : Fin 10000) (a : Fin 2) :
    (val_main_v24 (F := Ideal) x0 (ix2 n a) : EReal) = ((((node x0 x1 n).u 1 a).re) : EReal) := by
  rw [val_main_v24_apply, val_main_v23_apply, val_main_v22_apply]
  have hi : idx_main_v22 (idx_main_v23 (idx_main_v24 (ix2 n a))) = ix2 n ⟨2 * a, by omega⟩ := funext fun t => Fin.ext (by fin_cases t <;> simp [ix2] <;> omega)
  rw [hi, roll1, val_main_v20_apply, val_main_v1_apply, val_main_v0_apply]
  exact (congrArg x0 (funext fun t => Fin.ext (by fin_cases t <;> simp [ahead, wide, ix2, ix3] <;> omega))).trans (h0 _ _ (by first | omega | (simp; omega))).symm
theorem u1i (h0 : Real0 x0) (n : Fin 10000) (a : Fin 2) :
    (val_main_v26 (F := Ideal) x0 (ix2 n a) : EReal) = ((((node x0 x1 n).u 1 a).im) : EReal) := by
  rw [val_main_v26_apply, val_main_v25_apply, val_main_v22_apply]
  have hi : idx_main_v22 (idx_main_v25 (idx_main_v26 (ix2 n a))) = ix2 n ⟨2 * a + 1, by omega⟩ := funext fun t => Fin.ext (by fin_cases t <;> simp [ix2] <;> omega)
  rw [hi, roll1, val_main_v20_apply, val_main_v1_apply, val_main_v0_apply]
  exact (congrArg x0 (funext fun t => Fin.ext (by fin_cases t <;> simp [ahead, wide, ix2, ix3] <;> omega))).trans (h0 _ _ (by first | omega | (simp; omega))).symm
theorem e2r (h0 : Real0 x0) (n : Fin 10000) (a : Fin 2) :
    (val_main_v84 (F := Ideal) x0 (ix2 n a) : EReal) = ((((node x0 x1 n).e 1 a).re) : EReal) := by
  rw [val_main_v84_apply, val_main_v83_apply, val_main_v82_apply, val_main_v81_apply, val_main_v1_apply, val_main_v0_apply]
  exact (congrArg x0 (funext fun t => Fin.ext (by fin_cases t <;> simp [ahead, wide, ix2, ix3] <;> omega))).trans (h0 _ _ (by first | omega | (simp; omega))).symm
theorem e2i (h0 : Real0 x0) (n : Fin 10000) (a : Fin 2) :
    (val_main_v86 (F := Ideal) x0 (ix2 n a) : EReal) = ((((node x0 x1 n).e 1 a).im) : EReal) := by
  rw [val_main_v86_apply, val_main_v85_apply, val_main_v82_apply, val_main_v81_apply, val_main_v1_apply, val_main_v0_apply]
  exact (congrArg x0 (funext fun t => Fin.ext (by fin_cases t <;> simp [ahead, wide, ix2, ix3] <;> omega))).trans (h0 _ _ (by first | omega | (simp; omega))).symm
theorem u2r (h0 : Real0 x0) (n : Fin 10000) (a : Fin 2) :
    (val_main_v91 (F := Ideal) x0 (ix2 n a) : EReal) = ((((node x0 x1 n).u 2 a).re) : EReal) := by
  rw [val_main_v91_apply, val_main_v90_apply, val_main_v89_apply]
  have hi : idx_main_v89 (idx_main_v90 (idx_main_v91 (ix2 n a))) = ix2 n ⟨2 * a, by omega⟩ := funext fun t => Fin.ext (by fin_cases t <;> simp [ix2] <;> omega)
  rw [hi, roll2, val_main_v87_apply, val_main_v1_apply, val_main_v0_apply]
  exact (congrArg x0 (funext fun t => Fin.ext (by fin_cases t <;> simp [ahead, wide, ix2, ix3] <;> omega))).trans (h0 _ _ (by first | omega | (simp; omega))).symm
theorem u2i (h0 : Real0 x0) (n : Fin 10000) (a : Fin 2) :
    (val_main_v93 (F := Ideal) x0 (ix2 n a) : EReal) = ((((node x0 x1 n).u 2 a).im) : EReal) := by
  rw [val_main_v93_apply, val_main_v92_apply, val_main_v89_apply]
  have hi : idx_main_v89 (idx_main_v92 (idx_main_v93 (ix2 n a))) = ix2 n ⟨2 * a + 1, by omega⟩ := funext fun t => Fin.ext (by fin_cases t <;> simp [ix2] <;> omega)
  rw [hi, roll2, val_main_v87_apply, val_main_v1_apply, val_main_v0_apply]
  exact (congrArg x0 (funext fun t => Fin.ext (by fin_cases t <;> simp [ahead, wide, ix2, ix3] <;> omega))).trans (h0 _ _ (by first | omega | (simp; omega))).symm
theorem e3r (h0 : Real0 x0) (n : Fin 10000) (a : Fin 2) :
    (val_main_v151 (F := Ideal) x0 (ix2 n a) : EReal) = ((((node x0 x1 n).e 2 a).re) : EReal) := by
  rw [val_main_v151_apply, val_main_v150_apply, val_main_v149_apply, val_main_v148_apply, val_main_v1_apply, val_main_v0_apply]
  exact (congrArg x0 (funext fun t => Fin.ext (by fin_cases t <;> simp [ahead, wide, ix2, ix3] <;> omega))).trans (h0 _ _ (by first | omega | (simp; omega))).symm
theorem e3i (h0 : Real0 x0) (n : Fin 10000) (a : Fin 2) :
    (val_main_v153 (F := Ideal) x0 (ix2 n a) : EReal) = ((((node x0 x1 n).e 2 a).im) : EReal) := by
  rw [val_main_v153_apply, val_main_v152_apply, val_main_v149_apply, val_main_v148_apply, val_main_v1_apply, val_main_v0_apply]
  exact (congrArg x0 (funext fun t => Fin.ext (by fin_cases t <;> simp [ahead, wide, ix2, ix3] <;> omega))).trans (h0 _ _ (by first | omega | (simp; omega))).symm
theorem u3r (h0 : Real0 x0) (n : Fin 10000) (a : Fin 2) :
    (val_main_v158 (F := Ideal) x0 (ix2 n a) : EReal) = ((((node x0 x1 n).u 3 a).re) : EReal) := by
  rw [val_main_v158_apply, val_main_v157_apply, val_main_v156_apply]
  have hi : idx_main_v156 (idx_main_v157 (idx_main_v158 (ix2 n a))) = ix2 n ⟨2 * a, by omega⟩ := funext fun t => Fin.ext (by fin_cases t <;> simp [ix2] <;> omega)
  rw [hi, roll3, val_main_v154_apply, val_main_v1_apply, val_main_v0_apply]
  exact (congrArg x0 (funext fun t => Fin.ext (by fin_cases t <;> simp [ahead, wide, ix2, ix3] <;> omega))).trans (h0 _ _ (by first | omega | (simp; omega))).symm
theorem u3i (h0 : Real0 x0) (n : Fin 10000) (a : Fin 2) :
    (val_main_v160 (F := Ideal) x0 (ix2 n a) : EReal) = ((((node x0 x1 n).u 3 a).im) : EReal) := by
  rw [val_main_v160_apply, val_main_v159_apply, val_main_v156_apply]
  have hi : idx_main_v156 (idx_main_v159 (idx_main_v160 (ix2 n a))) = ix2 n ⟨2 * a + 1, by omega⟩ := funext fun t => Fin.ext (by fin_cases t <;> simp [ix2] <;> omega)
  rw [hi, roll3, val_main_v154_apply, val_main_v1_apply, val_main_v0_apply]
  exact (congrArg x0 (funext fun t => Fin.ext (by fin_cases t <;> simp [ahead, wide, ix2, ix3] <;> omega))).trans (h0 _ _ (by first | omega | (simp; omega))).symm
theorem finds1 (h0 : Real0 x0) (n : Fin 10000) :
    Finds1 x0 n 0 ((node x0 x1 n).e 0) ((node x0 x1 n).u 0) ((node x0 x1 n).u 1) :=
  ⟨e1r h0 n, e1i h0 n, cr h0 n 0, ci h0 n 0, u1r h0 n, u1i h0 n⟩

/-! ### The circuit's output -/

/-- The state carried through the gates, and the whole circuit's amplitude. -/
theorem out_first (V : Gate) (e : Fin 3 → Qubit) (u : Fin 4 → Qubit) (x a₁ a₂ w y b₁ b₂ : Fin 2) :
    apply₀ V (product e u) x a₁ a₂ w y b₁ b₂ = e 1 a₁ * e 2 a₂ * u 2 b₁ * u 3 b₂ * out V (e 0) (u 0) (u 1) x w y := by
  simp only [apply₀, product, out, Finset.mul_sum]
  exact Finset.sum_congr rfl fun _ _ => Finset.sum_congr rfl fun _ _ => Finset.sum_congr rfl fun _ _ => by ring
theorem out_second (V : Gate) (e : Fin 3 → Qubit) (u : Fin 4 → Qubit) (x₀ x a₂ w y₀ y b₂ : Fin 2) :
    apply₁ V (apply₀ V (product e u)) x₀ x a₂ w y₀ y b₂
      = e 2 a₂ * u 3 b₂ * out V (e 1) (fun v => out V (e 0) (u 0) (u 1) x₀ v y₀) (u 2) x w y := by
  simp only [apply₁, out_first]
  rw [out.eq_def V (e 1)]
  simp only [Finset.mul_sum]
  exact Finset.sum_congr rfl fun _ _ => Finset.sum_congr rfl fun _ _ => Finset.sum_congr rfl fun _ _ => by ring
theorem out_third (V : Gate) (e : Fin 3 → Qubit) (u : Fin 4 → Qubit) (x₀ x₁ x w y₀ y₁ y : Fin 2) :
    out V (e 2) (fun v => out V (e 1) (fun v => out V (e 0) (u 0) (u 1) x₀ v y₀) (u 2) x₁ v y₁) (u 3) x w y
      = final V e u x₀ x₁ x w y₀ y₁ y := by
  simp only [final, apply₂, out_second]
  rw [out.eq_def V (e 2)]
  exact Finset.sum_congr rfl fun _ _ => Finset.sum_congr rfl fun _ _ => Finset.sum_congr rfl fun _ _ => by ring

/-- The last gate's output at a node. -/
theorem last_gate (h0 : Real0 x0) (h1 : Real1 x1) (n : Fin 10000) (x₀ y₀ x₁ y₁ x w y : Fin 2) :
    (val_main_v205 (F := Ideal) x0 x1 (ix5 n (row2 (row1 0 x₀ y₀) x₁ y₁) x w y) : EReal)
        = ((final (node x0 x1 n).V (node x0 x1 n).e (node x0 x1 n).u x₀ x₁ x w y₀ y₁ y).re : EReal)
    ∧ (val_main_v210 (F := Ideal) x0 x1 (ix5 n (row2 (row1 0 x₀ y₀) x₁ y₁) x w y) : EReal)
        = ((final (node x0 x1 n).V (node x0 x1 n).e (node x0 x1 n).u x₀ x₁ x w y₀ y₁ y).im : EReal) := by
  have hV := gate_at (x0 := x0) h1 n
  have g1 := after1 x0 x1 hV (finds1 (x1 := x1) h0 n)
  have f2 : Finds2 x0 x1 n (row1 0 x₀ y₀) ((node x0 x1 n).e 1) _ ((node x0 x1 n).u 2) :=
    ⟨e2r h0 n, e2i h0 n, fun w => (g1 x₀ y₀ w).1, fun w => (g1 x₀ y₀ w).2, u2r h0 n, u2i h0 n⟩
  have g2 := after2 x0 x1 hV f2
  have f3 : Finds3 x0 x1 n (row2 (row1 0 x₀ y₀) x₁ y₁) ((node x0 x1 n).e 2) _ ((node x0 x1 n).u 3) :=
    ⟨e3r h0 n, e3i h0 n, fun w => (g2 x₁ y₁ w).1, fun w => (g2 x₁ y₁ w).2, u3r h0 n, u3i h0 n⟩
  have g3 := gate3 x0 x1 hV f3 x w y
  rw [out_third] at g3
  exact g3

/-- A sum over an even number of places, two by two. -/
theorem halves {M : Type} [AddCommMonoid M] (m k : ℕ) (h : k = m * 2) (f : Fin k → M) :
    ∑ i, f i = ∑ i : Fin m, ∑ b : Fin 2, f ⟨2 * i + b, by omega⟩ := by
  subst h
  rw [← finProdFinEquiv.sum_comp, Fintype.sum_prod_type]
  refine Finset.sum_congr rfl fun i _ => Finset.sum_congr rfl fun b _ => congrArg f (Fin.ext ?_)
  show b.val + 2 * i.val = 2 * i.val + b.val
  omega

/-- A row of the sixty-four by its bits. -/
def wire (x₀ y₀ x₁ y₁ x w : Fin 2) : Fin 64 := ⟨32 * x₀ + 16 * y₀ + 8 * x₁ + 4 * y₁ + 2 * x + w, by omega⟩
theorem wire_sum (f : Fin 64 → EReal) : ∑ k, f k = ∑ x₀, ∑ y₀, ∑ x₁, ∑ y₁, ∑ x, ∑ w, f (wire x₀ y₀ x₁ y₁ x w) := by
  rw [halves 32 64 rfl, halves 16 32 rfl, halves 8 16 rfl, halves 4 8 rfl, halves 2 4 rfl]
  refine Finset.sum_congr rfl fun _ _ => Finset.sum_congr rfl fun _ _ => Finset.sum_congr rfl fun _ _ =>
    Finset.sum_congr rfl fun _ _ => Finset.sum_congr rfl fun _ _ => Finset.sum_congr rfl fun _ _ => congrArg f (Fin.ext ?_)
  simp only [wire]
  omega

theorem square (z : ℂ) : (z.re : EReal) * (z.re : EReal) + (z.im : EReal) * (z.im : EReal) = ((Complex.normSq z : ℝ) : EReal) := by
  rw [← EReal.coe_mul, ← EReal.coe_mul, ← EReal.coe_add, Complex.normSq_apply]

/-- The weight of the last wire's bit. -/
theorem weight_at (h0 : Real0 x0) (h1 : Real1 x1) (n : Fin 10000) (b : Fin 2) :
    (val_main_v219 (F := Ideal) x0 x1 (ix2 n b) : EReal) = (((node x0 x1 n).W b : ℝ) : EReal) := by
  have one : ∀ x₀ y₀ x₁ y₁ x w, (val_main_v218 (F := Ideal) x0 x1 (idx_main_v219 (ix2 n b) (wire x₀ y₀ x₁ y₁ x w)) : EReal)
      = ((Complex.normSq (final (node x0 x1 n).V (node x0 x1 n).e (node x0 x1 n).u x₀ x₁ x w y₀ y₁ b) : ℝ) : EReal) := by
    intro x₀ y₀ x₁ y₁ x w
    have hi : idx_main_v218 (idx_main_v219 (ix2 n b) (wire x₀ y₀ x₁ y₁ x w)) = ix5 n (row2 (row1 0 x₀ y₀) x₁ y₁) x w b :=
      funext fun t => Fin.ext (by fin_cases t <;> simp [wire, duo, row1, row2, ix2, ix5] <;> omega)
    rw [val_main_v218_apply, hi, val_main_v217_apply, val_main_v215_apply, val_main_v216_apply,
      (last_gate h0 h1 n x₀ y₀ x₁ y₁ x w b).1, (last_gate h0 h1 n x₀ y₀ x₁ y₁ x w b).2]
    exact square _
  rw [val_main_v219_apply, wire_sum]
  have hz : (val_main_cst (F := Ideal) (Shape.Idx.first h_S_) : EReal) = 0 := Ideal.ofBits_zero_f32
  rw [hz, zero_add]
  simp only [one, Lane.W_final, Fin.sum_univ_two, ← EReal.coe_add]
  refine congrArg _ ?_
  ring

end Cert.Plain

end
-- ==== Proof.RefOut.lean ====
/- The reference's result: the head of the mean over the nodes of the network's outputs. -/
module

public import proofs.«01_k».proof.Proof.RefNode

@[expose] public section

set_option maxHeartbeats 1000000

noncomputable section

namespace Cert.Plain

open Idealize.ShloMosaic Cert.ReferenceIdeal Cert.ReferenceIdeal.Gen Cert.ReferenceIdeal.Read Cert.Stage

variable {x0 : (⟨S32x10240, .f32⟩ : BufTy).Contents (Elt Ideal)} {x1 : (⟨S2x8x8, .f32⟩ : BufTy).Contents (Elt Ideal)}
variable (x2 : (⟨S3x5, .f32⟩ : BufTy).Contents (Elt Ideal)) (x3 : (⟨S3, .f32⟩ : BufTy).Contents (Elt Ideal))
variable (x4 : (⟨S3x3, .f32⟩ : BufTy).Contents (Elt Ideal)) (x5 : (⟨S3, .f32⟩ : BufTy).Contents (Elt Ideal))
variable (x6 : (⟨S2x3, .f32⟩ : BufTy).Contents (Elt Ideal)) (x7 : (⟨S2, .f32⟩ : BufTy).Contents (Elt Ideal))
variable (x8 : (⟨S2x2, .f32⟩ : BufTy).Contents (Elt Ideal)) (x9 : (⟨S2, .f32⟩ : BufTy).Contents (Elt Ideal))

/-- The network's and the head's weights by their coordinates. -/
def w1 (j : Fin 3) (k : Fin 5) : EReal := x2 (ix2 j k)
def c1 (j : Fin 3) : EReal := x3 (ix1 j)
def w2 (j k : Fin 3) : EReal := x4 (ix2 j k)
def c2 (j : Fin 3) : EReal := x5 (ix1 j)
def hw (j : Fin 2) (k : Fin 3) : EReal := x6 (ix2 j k)
def hb (j : Fin 2) : EReal := x7 (ix1 j)
def gw (j k : Fin 2) : EReal := x8 (ix2 j k)
def gb (j : Fin 2) : EReal := x9 (ix1 j)

/-- A node's five inputs. -/
theorem inputs_at (h0 : Real0 x0) (h1 : Real1 x1) (n : Fin 10000) (k : Fin 5) :
    (val_main_v221 (F := Ideal) x0 x1 (ix2 n k) : EReal) = feat (node x0 x1 n) k := by
  have hn : ∀ t : Fin 3, (val_main_v220 (F := Ideal) x0 (ix2 n t) : EReal) = (node x0 x1 n).nf t := by
    intro t
    rw [val_main_v220_apply, val_main_v1_apply, val_main_v0_apply]
    exact (congrArg x0 (funext fun s => Fin.ext (by fin_cases s <;> simp [wide, ix2])))
  have hc : val_main_v221 (F := Ideal) x0 x1 (ix2 n k) = if h : k.val < 3 then val_main_v220 (F := Ideal) x0 (ix2 n ⟨k.val, h⟩)
      else val_main_v219 (F := Ideal) x0 x1 (ix2 n ⟨k.val - 3, by omega⟩) := by
    unfold val_main_v221
    pointwise
  rw [hc]
  match k with
  | 0 => exact (hn 0)
  | 1 => exact (hn 1)
  | 2 => exact (hn 2)
  | 3 => exact weight_at h0 h1 n 0
  | 4 => exact weight_at h0 h1 n 1

theorem affine_at (h0 : Real0 x0) (h1 : Real1 x1) (n : Fin 10000) (j : Fin 3) :
    (val_main_v226 (F := Ideal) x0 x1 x2 x3 (ix2 n j) : EReal) = affine (w1 x2 j) (c1 x3 j) (feat (node x0 x1 n)) := by
  have hb : (val_main_v225 (F := Ideal) x3 (ix2 n j) : EReal) = c1 x3 j := by
    rw [val_main_v225_apply, val_main_v224_apply]
    exact congrArg x3 (funext fun s => Fin.ext (by fin_cases s; rfl))
  have hd : (val_main_v223 (F := Ideal) x0 x1 x2 (ix2 n j) : EReal) = ∑ k : Fin 5, feat (node x0 x1 n) k * w1 x2 j k := by
    rw [val_main_v223_apply]
    refine Finset.sum_congr rfl fun k _ => ?_
    rw [val_main_v222_apply]
    exact congrArg₂ (fun p q : EReal => p * q)
      ((congrArg _ (funext fun s => Fin.ext (by fin_cases s <;> rfl))).trans (inputs_at h0 h1 n k))
      (congrArg x2 (funext fun s => Fin.ext (by fin_cases s <;> rfl)))
  rw [val_main_v226_apply, hb, hd]
  simp only [affine, Fin.sum_univ_five, mul_comm (w1 x2 j _)]
  rfl

theorem hid_at (h0 : Real0 x0) (h1 : Real1 x1) (n : Fin 10000) (j : Fin 3) :
    (val_main_v231 (F := Ideal) x0 x1 x2 x3 (ix2 n j) : EReal) = hid (w1 x2) (c1 x3) (feat (node x0 x1 n)) j := by
  rw [val_main_v231_apply, val_main_v228_apply, val_main_v230_apply, val_main_v227_apply, val_main_v229_apply, affine_at x2 x3 h0 h1]
  rfl

theorem net_at (h0 : Real0 x0) (h1 : Real1 x1) (n : Fin 10000) (j : Fin 3) :
    (val_main_v238 (F := Ideal) x0 x1 x2 x3 x4 x5 (ix2 n j) : EReal)
      = net (w2 x4 j) (c2 x5 j) (hid (w1 x2) (c1 x3) (feat (node x0 x1 n))) := by
  have hb : (val_main_v235 (F := Ideal) x5 (ix2 n j) : EReal) = c2 x5 j := by
    rw [val_main_v235_apply, val_main_v234_apply]
    exact congrArg x5 (funext fun s => Fin.ext (by fin_cases s; rfl))
  have hd : (val_main_v233 (F := Ideal) x0 x1 x2 x3 x4 (ix2 n j) : EReal)
      = ∑ k : Fin 3, hid (w1 x2) (c1 x3) (feat (node x0 x1 n)) k * w2 x4 j k := by
    rw [val_main_v233_apply]
    refine Finset.sum_congr rfl fun k _ => ?_
    rw [val_main_v232_apply]
    exact congrArg₂ (fun p q : EReal => p * q)
      ((congrArg _ (funext fun s => Fin.ext (by fin_cases s <;> rfl))).trans (hid_at x2 x3 h0 h1 n k))
      (congrArg x4 (funext fun s => Fin.ext (by fin_cases s <;> rfl)))
  have hz : (val_main_v237 (F := Ideal) (ix2 n j) : EReal) = 0 := by
    rw [val_main_v237_apply]
    exact Ideal.ofBits_zero_f32
  rw [val_main_v238_apply, val_main_v236_apply, hb, hd, hz]
  simp only [net, Fin.sum_univ_three, mul_comm (w2 x4 j _)]
  rfl

/-- The mean over the nodes. -/
theorem mean_at (h0 : Real0 x0) (h1 : Real1 x1) (k : Fin 3) :
    (val_main_v241 (F := Ideal) x0 x1 x2 x3 x4 x5 (ix1 k) : EReal)
      = mean (∑ n, net (w2 x4 k) (c2 x5 k) (hid (w1 x2) (c1 x3) (feat (node x0 x1 n)))) := by
  have hs : (val_main_v239 (F := Ideal) x0 x1 x2 x3 x4 x5 (ix1 k) : EReal)
      = ∑ n, net (w2 x4 k) (c2 x5 k) (hid (w1 x2) (c1 x3) (feat (node x0 x1 n))) := by
    have hz : (val_main_cst_3 (F := Ideal) (Shape.Idx.first h_S_) : EReal) = 0 := Ideal.ofBits_zero_f32
    rw [val_main_v239_apply, hz, zero_add]
    refine Finset.sum_congr rfl fun n _ => ?_
    exact (congrArg _ (funext fun s => Fin.ext (by fin_cases s <;> rfl))).trans (net_at x2 x3 x4 x5 h0 h1 n k)
  rw [val_main_v241_apply, hs, val_main_v240_apply]
  rfl

/-- The result. -/
theorem result_at (h0 : Real0 x0) (h1 : Real1 x1) (q : Fin 2) :
    (val_main_v255 (F := Ideal) x0 x1 x2 x3 x4 x5 x6 x7 x8 x9 (ix2 0 q) : EReal)
      = headOut (gw x8 q) (gb x9 q) (headHid (hw x6) (hb x7) fun k =>
          mean (∑ n, net (w2 x4 k) (c2 x5 k) (hid (w1 x2) (c1 x3) (feat (node x0 x1 n))))) := by
  have h246 : ∀ j : Fin 2, (val_main_v246 (F := Ideal) x0 x1 x2 x3 x4 x5 x6 x7 (ix2 0 j) : EReal)
      = hw x6 j 0 * mean (∑ n, net (w2 x4 0) (c2 x5 0) (hid (w1 x2) (c1 x3) (feat (node x0 x1 n))))
        + hw x6 j 1 * mean (∑ n, net (w2 x4 1) (c2 x5 1) (hid (w1 x2) (c1 x3) (feat (node x0 x1 n))))
        + hw x6 j 2 * mean (∑ n, net (w2 x4 2) (c2 x5 2) (hid (w1 x2) (c1 x3) (feat (node x0 x1 n)))) + hb x7 j := by
    intro j
    have hb' : (val_main_v245 (F := Ideal) x7 (ix2 0 j) : EReal) = hb x7 j := by
      rw [val_main_v245_apply]
      exact congrArg x7 (funext fun s => Fin.ext (by fin_cases s; rfl))
    have hd : (val_main_v244 (F := Ideal) x0 x1 x2 x3 x4 x5 x6 (ix2 0 j) : EReal)
        = ∑ k : Fin 3, mean (∑ n, net (w2 x4 k) (c2 x5 k) (hid (w1 x2) (c1 x3) (feat (node x0 x1 n)))) * hw x6 j k := by
      rw [val_main_v244_apply]
      refine Finset.sum_congr rfl fun k _ => ?_
      rw [val_main_v243_apply, val_main_v242_apply]
      exact congrArg₂ (fun p q : EReal => p * q)
        ((congrArg _ (funext fun s => Fin.ext (by fin_cases s; rfl))).trans (mean_at x2 x3 x4 x5 h0 h1 k))
        (congrArg x6 (funext fun s => Fin.ext (by fin_cases s <;> rfl)))
    rw [val_main_v246_apply, hb', hd, Fin.sum_univ_three]
    simp only [mul_comm (hw x6 j _)]
    rfl
  have h251 : ∀ j : Fin 2, (val_main_v251 (F := Ideal) x0 x1 x2 x3 x4 x5 x6 x7 (ix2 0 j) : EReal)
      = headHid (hw x6) (hb x7) (fun k =>
          mean (∑ n, net (w2 x4 k) (c2 x5 k) (hid (w1 x2) (c1 x3) (feat (node x0 x1 n))))) j := by
    intro j
    rw [val_main_v251_apply, val_main_v248_apply, val_main_v250_apply, val_main_v247_apply, val_main_v249_apply, h246]
    rfl
  have hb' : (val_main_v254 (F := Ideal) x9 (ix2 0 q) : EReal) = gb x9 q := by
    rw [val_main_v254_apply]
    exact congrArg x9 (funext fun s => Fin.ext (by fin_cases s; rfl))
  have hd : (val_main_v253 (F := Ideal) x0 x1 x2 x3 x4 x5 x6 x7 x8 (ix2 0 q) : EReal)
      = ∑ k : Fin 2, headHid (hw x6) (hb x7) (fun k =>
          mean (∑ n, net (w2 x4 k) (c2 x5 k) (hid (w1 x2) (c1 x3) (feat (node x0 x1 n))))) k * gw x8 q k := by
    rw [val_main_v253_apply]
    refine Finset.sum_congr rfl fun k _ => ?_
    rw [val_main_v252_apply]
    exact congrArg₂ (fun p q : EReal => p * q)
      ((congrArg _ (funext fun s => Fin.ext (by fin_cases s <;> rfl))).trans (h251 k))
      (congrArg x8 (funext fun s => Fin.ext (by fin_cases s <;> rfl)))
  rw [val_main_v255_apply, hb', hd, Fin.sum_univ_two]
  simp only [headOut, mul_comm (gw x8 q _)]
  rfl

end Cert.Plain

end
-- ==== Proof.Result.lean ====
/- The claim: the kernel's result is the reference's. -/
module

public import proofs.«01_k».proof.Defs
public import proofs.«01_k».proof.Proof.Place
public import proofs.«01_k».proof.Proof.RefOut
public import Idealize.ShloMosaic.Lib.Claim
public import Idealize.ShloMosaic.Lib.ReduceAll

@[expose] public section

set_option maxHeartbeats 1600000
set_option maxRecDepth 16384

noncomputable section

namespace Cert.Stage

open Idealize.ShloMosaic Idealize.SL.Sem Cert.KernelIdeal Cert.KernelIdeal.Gen
open Cert.Plain (wide)

/-- The shape relations the precondition states. -/
theorem sides : Cert.Pre_finite.Facts where
  slices_S32x10240_S28x10000_0_0 := by decide
  bcast_S_S28x10000 := by decide
  reducesTo_S28x10000_S_d0_1 := by decide
  h_S_ := by decide
  bcast_S_S2x8x8 := by decide
  reducesTo_S2x8x8_S_d0_1_2 := by decide

attribute [local instance] sides

/-- After the last step the head array holds the block the last step left. -/
theorem head_array (m : (ℓ : Loc nD τ sig) → Buf (Elt Ideal) ℓ) (c : Dev nD) :
    (dats m 0 c).arrAt 7 (cfgs 0).N = (outsAt0 m c t0_9.val t0_9.isLt).2 := by
  refine (dats m 0 c).arrAt_eq_of_after_last 7 t0_9 (by decide +kernel) _ fun j => ?_
  blk_simp
  rw [after0_7]

/-- The host takes the first row and two columns of the head array. -/
theorem tail_value (m : (ℓ : Loc nD τ sig) → Buf (Elt Ideal) ℓ) (c : Dev nD) :
    Pipeline.afterTail₀ cfgs (dats m) 0 (V0 m) [hostOps1] c main_v19
      = extractStridedSlice S1x2 ![0, 0] (outsAt0 m c t0_9.val t0_9.isLt).2 slices_S8x128_S1x2_0_0 := by
  show StableHlo.after [hostOps1].flatten _ (Proc.devRef .tc main_v19) = _
  simp only [hostOps1, List.flatten_cons, List.flatten_nil, List.append_nil]
  after_results
  congr 1
  exact (Pipeline.withArrays_arr _ winFacts0.arr_inj c _ _ 7).trans (head_array m c)

/-- A comparison bit that is one says its proposition holds. -/
theorem holds_of_bit {p : Prop} [Decidable p] (h : BitVec.ofBool (decide p) = 1#1) : p := by
  by_contra hp
  rw [decide_eq_false hp] at h
  exact absurd h (by decide)

/-- A value whose difference with itself is zero is a real. -/
theorem real_of_sub (x : EReal) (h : x - x = 0) : (x.toReal : EReal) = x := by
  induction x with
  | bot => exact absurd h (by decide)
  | coe r => rfl
  | top => exact absurd h (by decide)

/-- The precondition, entry by entry. -/
theorem reals (x0 : FVec Ideal Cert.Pre_finite.S32x10240 .f32) (x1 : FVec Ideal Cert.Pre_finite.S2x8x8 .f32)
    (x2 x3 x4 x5 x6 x7 x8 x9)
    (h : Cert.Pre_finite.fn (F := Ideal) x0 x1 x2 x3 x4 x5 x6 x7 x8 x9 = fun _ => 1#1) :
    (∀ (r : Fin 32) (n : Fin 10000), r.val < 28 →
      x0 (Idealize.ShloMosaic.ix2 r (wide n)) - x0 (Idealize.ShloMosaic.ix2 r (wide n)) = (0 : EReal)) ∧ ∀ i, x1 i - x1 i = (0 : EReal) := by
  have e := congrFun h fun a => a.elim0
  unfold Cert.Pre_finite.fn at e
  have e2 := IntOp.andi_eq_one.1 e
  refine ⟨fun r n hr => ?_, fun i => ?_⟩
  · have a := Host.reduce_andi_all _ _ _ _ _ e2.1 (Idealize.ShloMosaic.ix2 (⟨r.val, hr⟩ : Fin 28) n)
    have b : Ideal.cmp .oeq (x0 (Idealize.ShloMosaic.ix2 r (wide n)) - x0 (Idealize.ShloMosaic.ix2 r (wide n))) (Ideal.ofBits .f32 0x00000000#32) = 1#1 := by
      refine Eq.trans ?_ a
      refine congrArg (fun z : EReal => Ideal.cmp .oeq (z - z) (Ideal.ofBits .f32 0x00000000#32)) (congrArg x0 ?_)
      funext t
      exact Fin.ext (by fin_cases t <;> simp [Idealize.ShloMosaic.ix2, wide])
    exact holds_of_bit (by simpa [Ideal.cmp] using b)
  · have a : Ideal.cmp .oeq (x1 i - x1 i) (Ideal.ofBits .f32 0x00000000#32) = 1#1 := Host.reduce_andi_all _ _ _ _ _ e2.2 i
    exact holds_of_bit (by simpa [Ideal.cmp] using a)

/-- The two results are the same array. -/
theorem values (m : (ℓ : Loc nD τ sig) → Buf (Elt Ideal) ℓ) (c : Dev nD) (h : Cert.Pre_KernelIdeal_finite m) :
    Cert.ReferenceIdeal.Read.val_main_v255 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9))
      = extractStridedSlice S1x2 ![0, 0] (outsAt0 m c t0_9.val t0_9.isLt).2 slices_S8x128_S1x2_0_0 := by
  obtain ⟨e0, e1⟩ := reals _ _ _ _ _ _ _ _ _ _ (h c)
  have h0 : ∀ (r : Fin 32) (n : Fin 10000), r.val < 28 → ((tab0 m c r (wide n)).toReal : EReal) = tab0 m c r (wide n) :=
    fun r n hr => real_of_sub _ (e0 r n hr)
  have h1 : ∀ p i k, ((tab1 m c p i k).toReal : EReal) = tab1 m c p i k := fun p i k => real_of_sub _ (e1 _)
  funext j
  obtain ⟨q, rfl⟩ : ∃ q : Fin 2, j = Idealize.ShloMosaic.ix2 0 q :=
    ⟨j 1, funext fun a => Fin.ext (by
      fin_cases a
      · have : (j 0).val < 1 := (j 0).isLt
        show (j 0).val = 0
        omega
      · rfl)⟩
  refine (Cert.Plain.result_at (x0 := m ((c.tc : Thread nD τ).loc main_arg0)) (x1 := m ((c.tc : Thread nD τ).loc main_arg1))
    _ _ _ _ _ _ _ _ h0 h1 q).trans ?_
  refine Eq.trans ?_ ((last_head m c t0_9 rfl q).symm.trans
    (congrArg (outsAt0 m c t0_9.val t0_9.isLt).2 (funext fun a => Fin.ext (by fin_cases a <;> simp [Idealize.ShloMosaic.ix2]))))
  rw [hw1_at, hb1_at, hw2_at, hb2_at]
  simp only [total_nodes h0 h1]
  rfl

/-- Equal arguments give equal results. -/
theorem same_inputs
    {x0 y0 : (⟨Cert.ReferenceIdeal.S32x10240, .f32⟩ : BufTy).Contents (Elt Ideal)}
    {x1 y1 : (⟨Cert.ReferenceIdeal.S2x8x8, .f32⟩ : BufTy).Contents (Elt Ideal)}
    {x2 y2 : (⟨Cert.ReferenceIdeal.S3x5, .f32⟩ : BufTy).Contents (Elt Ideal)}
    {x3 y3 : (⟨Cert.ReferenceIdeal.S3, .f32⟩ : BufTy).Contents (Elt Ideal)}
    {x4 y4 : (⟨Cert.ReferenceIdeal.S3x3, .f32⟩ : BufTy).Contents (Elt Ideal)}
    {x5 y5 : (⟨Cert.ReferenceIdeal.S3, .f32⟩ : BufTy).Contents (Elt Ideal)}
    {x6 y6 : (⟨Cert.ReferenceIdeal.S2x3, .f32⟩ : BufTy).Contents (Elt Ideal)}
    {x7 y7 : (⟨Cert.ReferenceIdeal.S2, .f32⟩ : BufTy).Contents (Elt Ideal)}
    {x8 y8 : (⟨Cert.ReferenceIdeal.S2x2, .f32⟩ : BufTy).Contents (Elt Ideal)}
    {x9 y9 : (⟨Cert.ReferenceIdeal.S2, .f32⟩ : BufTy).Contents (Elt Ideal)}
    (e0 : x0 = y0) (e1 : x1 = y1) (e2 : x2 = y2) (e3 : x3 = y3) (e4 : x4 = y4) (e5 : x5 = y5) (e6 : x6 = y6) (e7 : x7 = y7) (e8 : x8 = y8) (e9 : x9 = y9) :
    Cert.ReferenceIdeal.Read.val_main_v255 (F := Ideal) x0 x1 x2 x3 x4 x5 x6 x7 x8 x9
      = Cert.ReferenceIdeal.Read.val_main_v255 (F := Ideal) y0 y1 y2 y3 y4 y5 y6 y7 y8 y9 := by
  subst e0 e1 e2 e3 e4 e5 e6 e7 e8 e9
  rfl

/-- From equal, finite arguments the kernel and the reference end with the same result. -/
theorem algebraic : Cert.algebraic_KernelIdeal_ReferenceIdeal_pre_finite := by
  intro m g m' g' hpre hagree
  refine ⟨fun c => extractStridedSlice S1x2 ![0, 0] (outsAt0 m c t0_9.val t0_9.isLt).2 slices_S8x128_S1x2_0_0, ?_, ?_⟩
  · refine (θ_run defs _ _).mono ?_ (θ_run_and (unchanged m g) (run_main m g))
    rintro r ⟨hu, hp⟩ c
    exact ⟨((hp c).2 main_v19 (by decide +kernel)).trans (tail_value m c), hu c⟩
  · refine (θ_run Cert.ReferenceIdeal.defs _ _).mono ?_ (Cert.ReferenceIdeal.Value.run (F := Ideal) m' g')
    intro r hr c
    obtain ⟨hv, hu⟩ := hr c
    refine ⟨hv.trans ((Cert.ReferenceIdeal.Read.val_main_v255_eq (F := Ideal) (StableHlo.launchContents m' c)).trans ?_), hu⟩
    obtain ⟨a0, a1, a2, a3, a4, a5, a6, a7, a8, a9⟩ := hagree c
    exact (same_inputs a0 a1 a2 a3 a4 a5 a6 a7 a8 a9).trans (values m c hpre)

end Cert.Stage

end
-- ==== Proof.PrepareIdealRun.lean ====
/-
  The body of the first stage, run at a point of its grid, and what the whole call leaves: the arguments as they were,
  and in `vout` what the first point stored there. Nothing is said of the amplitudes the call also writes, so the
  windows they are read from and written to are forgotten.
-/
module

public import proofs.«01_k».proof.Proof.Gen.PrepareIdeal.Frame
public import proofs.«01_k».proof.Proof.Gen.PrepareIdeal.Skeleton
public import Idealize.ShloMosaic.Lib.Pipeline.Frame
public import Idealize.ShloMosaic.Lib.Pipeline.TableIdle
public import Idealize.ShloMosaic.Lib.Tactic
public import Idealize.ShloMosaic.Lib.Transfers

@[expose] public section

set_option maxRecDepth 16384

noncomputable section

namespace Cert.PrepareIdeal.Hand

open Cert.PrepareIdeal Cert.PrepareIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body, run -/

set_option maxHeartbeats 2752000 in
/-- At the first point: the pieces stored into `vout`, with the body's triple. -/
def runFirst (c : Dev nD) (i : grid0.Coords) (arg1 : Memref sig .tc .vmem S1024x128 .f32) (harg1 : arg1.IsWhole) (arg2 : Memref sig .tc .vmem S1024x3x16 .f32) (harg2 : arg2.IsWhole)
    (arg3 : Memref sig .tc .vmem S8x128 .f32) (harg3 : arg3.IsWhole) (arg4 : Memref sig .tc .vmem S8x16 .f32) (harg4 : arg4.IsWhole)
    (arg5 : Memref sig .tc .smem S98 .f32) (harg5 : arg5.IsWhole) (arg6 : Memref sig .tc .vmem S32x1024 .f32) (harg6 : arg6.IsWhole)
    (arg7 : Memref sig .tc .vmem S2x8x8 .f32) (harg7 : arg7.IsWhole)
    (hc : k0_cond1 i = 1#1) (x4 : Vec F S98 .f32) :
    { L : List (View.Piece (Elt F) S2x8x8 .f32) //
      ∀ (E : Set ℕ) (K : PUnit → sProp 𝕄),
        iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ owns (c : Thread nD τ) arg5 fullShare x4 ∗ (∃ d, owns (c : Thread nD τ) arg6 fullShare d) ∗ (∃ d, owns (c : Thread nD τ) arg7 fullShare d)
            ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ owns (c : Thread nD τ) arg5 fullShare x4 ∗ (∃ d, owns (c : Thread nD τ) arg6 fullShare d) ∗ (∃ f, arg7.view.loc (c : Thread nD τ) ↦[arg7.view.set]{fullShare} arg7.view.writes (Elt F) f L)) -∗ K ⟨⟩))
          ⊢ wp frame (wpE (defs₀ (F := F)) Variants.none c none) E (cc0__stage1_body i arg1 harg1 arg2 harg2 arg3 harg3 arg4 harg4 arg5 harg5 arg6 harg6 arg7 harg7) K } := by
  refine ⟨?_, fun E K => ?run⟩
  case run =>
    simp only [cc0__stage1_body_eq_skeleton]; unfold cc0__stage1_body_skel
    simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part16_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%d0, %f0, -, H0⟩, ⟨%d1, %f1, -, H1⟩, ⟨%d2, %f2, -, H2⟩, ⟨%d3, %f3, -, H3⟩, ⟨%f4, %hf4, H4⟩, ⟨%d5, %f5, -, H5⟩, ⟨%d6, %f6, -, H6⟩, Hk⟩
    obtain rfl := harg5.eq_unread hf4
    sl_exec (disch := sl_exact hc)
    sl_step
    iapply Hk
    isplitl [H0]
    · iexists _, _; isplitr; swap; · iexact H0
      ipureintro; rfl
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _; isplitr; · ipureintro; exact harg5.read_unread _
      iexact H4
    isplitl [H5]
    · iexists _, _; isplitr; swap; · iexact H5
      ipureintro; rfl
    iexists _; iexact H6

set_option maxHeartbeats 2752000 in
/-- At a later point: `vout` is not touched. -/
theorem runLater (c : Dev nD) (i : grid0.Coords) (arg1 : Memref sig .tc .vmem S1024x128 .f32) (harg1 : arg1.IsWhole) (arg2 : Memref sig .tc .vmem S1024x3x16 .f32) (harg2 : arg2.IsWhole)
    (arg3 : Memref sig .tc .vmem S8x128 .f32) (harg3 : arg3.IsWhole) (arg4 : Memref sig .tc .vmem S8x16 .f32) (harg4 : arg4.IsWhole)
    (arg5 : Memref sig .tc .smem S98 .f32) (harg5 : arg5.IsWhole) (arg6 : Memref sig .tc .vmem S32x1024 .f32) (harg6 : arg6.IsWhole)
    (arg7 : Memref sig .tc .vmem S2x8x8 .f32) (harg7 : arg7.IsWhole)
    (hc : ¬ k0_cond1 i = 1#1) (x4 : Vec F S98 .f32) (P : sProp 𝕄) (E : Set ℕ) (K : PUnit → sProp 𝕄) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ owns (c : Thread nD τ) arg5 fullShare x4 ∗ (∃ d, owns (c : Thread nD τ) arg6 fullShare d) ∗ P
        ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ owns (c : Thread nD τ) arg5 fullShare x4 ∗ (∃ d, owns (c : Thread nD τ) arg6 fullShare d) ∗ P) -∗ K ⟨⟩))
      ⊢ wp frame (wpE (defs₀ (F := F)) Variants.none c none) E (cc0__stage1_body i arg1 harg1 arg2 harg2 arg3 harg3 arg4 harg4 arg5 harg5 arg6 harg6 arg7 harg7) K := by
    simp only [cc0__stage1_body_eq_skeleton]; unfold cc0__stage1_body_skel
    simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%d0, %f0, -, H0⟩, ⟨%d1, %f1, -, H1⟩, ⟨%d2, %f2, -, H2⟩, ⟨%d3, %f3, -, H3⟩, ⟨%f4, %hf4, H4⟩, ⟨%d5, %f5, -, H5⟩, H6, Hk⟩
    obtain rfl := harg5.eq_unread hf4
    sl_exec (disch := sl_exact hc)
    sl_step
    iapply Hk
    isplitl [H0]
    · iexists _, _; isplitr; swap; · iexact H0
      ipureintro; rfl
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _; isplitr; · ipureintro; exact harg5.read_unread _
      iexact H4
    isplitl [H5]
    · iexists _, _; isplitr; swap; · iexact H5
      ipureintro; rfl
    iexact H6

/-! ## What `vout` holds -/

/-- One staging buffer of `vout`'s window, through which its contents are stated. -/
abbrev VO : View sig .tc .vmem S2x8x8 .f32 := (Memref.whole cc0_stg6_0 : Memref sig .tc .vmem S2x8x8 .f32).view

abbrev hs0_0 (t : Fin cfg0.N) : (st0_0 t).IsWhole := hstage0_0 ((cfg0.slots t 0).cast nbuf0_0)
abbrev hs0_1 (t : Fin cfg0.N) : (st0_1 t).IsWhole := hstage0_1 ((cfg0.slots t 1).cast nbuf0_1)
abbrev hs0_2 (t : Fin cfg0.N) : (st0_2 t).IsWhole := hstage0_2 ((cfg0.slots t 2).cast nbuf0_2)
abbrev hs0_3 (t : Fin cfg0.N) : (st0_3 t).IsWhole := hstage0_3 ((cfg0.slots t 3).cast nbuf0_3)
abbrev hs0_4 (t : Fin cfg0.N) : (st0_4 t).IsWhole := hstage0_4 ((cfg0.slots t 4).cast nbuf0_4)
abbrev hs0_5 (t : Fin cfg0.N) : (st0_5 t).IsWhole := hstage0_5 ((cfg0.slots t 5).cast nbuf0_5)
abbrev hs0_6 (t : Fin cfg0.N) : (st0_6 t).IsWhole := hstage0_6 ((cfg0.slots t 6).cast nbuf0_6)

/-- The first point. -/
abbrev first : Fin cfg0.N := t0_0

theorem cond_first : k0_cond1 (grid0.coords first) = 1#1 := by decide +kernel

theorem cond_iff : ∀ t : Fin cfg0.N, k0_cond1 (grid0.coords t) = 1#1 ↔ t = first := by decide +kernel

/-- The pieces the first point stores. -/
abbrev stored (c : Dev nD) (t : Fin cfg0.N) (h : k0_cond1 (grid0.coords t) = 1#1) : List (View.Piece (Elt F) S2x8x8 .f32) :=
  (runFirst c (grid0.coords t) (st0_0 t) (hs0_0 t) (st0_1 t) (hs0_1 t) (st0_2 t) (hs0_2 t) (st0_3 t) (hs0_3 t) (st0_4 t) (hs0_4 t)
    (st0_5 t) (hs0_5 t) (st0_6 t) (hs0_6 t) h (iblk m c 4 t)).1

/-- What it leaves in `vout`'s buffer. -/
def matrixAt (c : Dev nD) : Vec F S2x8x8 .f32 :=
  VO.read (Elt F) (VO.writes (Elt F) VO.junk (stored m c first cond_first))

/-- The two stores cover the buffer. -/
theorem stored_cover (c : Dev nD) (t : Fin cfg0.N) (h : k0_cond1 (grid0.coords t) = 1#1) (y : S2x8x8.Idx) :
    ∃ pc ∈ stored m c t h, y ∈ pc.1.set :=
  View.cover_of_tiledL (stored m c t h) S1x8x8.size (by sl_kernel_rfl) y

/-! ## The proof data -/

/-- The windows nothing is said of. -/
def forgets : Fin 7 → Bool := fun w => !(w == 4 || w == 6)

def dats (_ : Fin 1) (c : Dev nD) : Dat τ (Elt F) Unit ℕ (UR sig nD τ) ℕ cfg0 c where
  A w := V m c (Pipeline.arrRef spec0 w)
  after w t := match w with
    | ⟨0, _⟩ => Pipeline.Dat.unnamed (cfg := cfg0) 0 t
    | ⟨1, _⟩ => Pipeline.Dat.unnamed (cfg := cfg0) 1 t
    | ⟨2, _⟩ => Pipeline.Dat.unnamed (cfg := cfg0) 2 t
    | ⟨3, _⟩ => Pipeline.Dat.unnamed (cfg := cfg0) 3 t
    | ⟨4, _⟩ => iblk m c 4 t
    | ⟨5, _⟩ => Pipeline.Dat.unnamed (cfg := cfg0) 5 t
    | ⟨6, _⟩ => matrixAt m c
  Φ _ := Pipeline.ΦA spec0 c
  q _ := fullShare
  owed _ := 0

theorem A_eq (c : Dev nD) (w : Fin cfg0.W) : (dats m 0 c).A w = V m c (Pipeline.arrRef spec0 w) := by
  dsimp only [dats]

theorem after_4 (c : Dev nD) (t : Fin cfg0.N) : (dats m 0 c).after 4 t = iblk m c 4 t := by dsimp only [dats]
theorem after_6 (c : Dev nD) (t : Fin cfg0.N) : (dats m 0 c).after 6 t = matrixAt m c := by dsimp only [dats]

theorem before_4 (c : Dev nD) (t : Fin cfg0.N) (d) : (dats m 0 c).before 4 t d = iblk m c 4 t :=
  before0_4_of m (dats m 0 c) (A_eq m c 4) (after_4 m c) t d

theorem fresh_6 : ∀ t : Fin cfg0.N, t ≠ first → cfg0.fresh 6 t.val = false := by decide +kernel

theorem before_6 (c : Dev nD) (t : Fin cfg0.N) (ht : t ≠ first) (d) : (dats m 0 c).before 6 t d = matrixAt m c := by
  rw [Dat.before_out_traj (dats m 0 c) 6 rfl (fun _ _ => rfl) (fun s _ _ _ => by rw [after_6, after_6]) t.val t rfl d,
    fresh_6 t ht, if_neg Bool.false_ne_true, after_6]

theorem live_4 (t : Fin cfg0.N) : cfg0.idle 4 (grid0.coords t) = false := rfl
theorem live_6 : ∀ t : Fin cfg0.N, t = first → cfg0.idle 6 (grid0.coords t) = false := by decide +kernel
theorem idle_6 : ∀ t : Fin cfg0.N, t ≠ first → cfg0.idle 6 (grid0.coords t) = true := by decide +kernel

theorem leaves_4 (c : Dev nD) (t : Fin cfg0.N) :
    (dats m 0 c).leavesExact 4 t = owns (c : Thread nD τ) (st0_4 t) fullShare (iblk m c 4 t) := by
  unfold Dat.leavesExact; rw [live_4 t, after_4]

theorem leaves_6_first (c : Dev nD) (t : Fin cfg0.N) (ht : t = first) :
    (dats m 0 c).leavesExact 6 t = owns (c : Thread nD τ) (st0_6 t) fullShare (matrixAt m c) := by
  unfold Dat.leavesExact; rw [live_6 t ht, after_6]

theorem leaves_6_later (c : Dev nD) (t : Fin cfg0.N) (ht : t ≠ first) :
    iprop(∃ d, owns (c : Thread nD τ) (st0_6 t) fullShare ((dats m 0 c).before 6 t d)) ⊢ (dats m 0 c).leavesExact 6 t := by
  unfold Dat.leavesExact
  rw [idle_6 t ht]
  cases (cfg0.win 6).flush t
  · exact .rfl
  · simp only [before_6 m c t ht, after_6]
    iintro ⟨%d, H⟩
    iexact H

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare ((dats m 0 c).before 4 t d))
    ∗ (∃ d, owns (c : Thread nD τ) (st0_5 t) fullShare d)
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (dats m 0 c).leavesExact 4 t
    ∗ (∃ d, owns (c : Thread nD τ) (st0_5 t) fullShare d)
    ∗ (dats m 0 c).leavesExact 6 t)

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_4]
  rw [show (dats m 0 c).Φ t.succ = (dats m 0 c).Φ t.castSucc from rfl,
    show (dats m 0 c).owesAt () t.succ = (dats m 0 c).owesAt () t.castSucc from rfl, leaves_4]
  by_cases ht : t = first
  · rw [leaves_6_first m c t ht]
    subst ht
    iintro ⟨HΦ, Ho, H0, H1, H2, H3, ⟨%d4, H4⟩, H5, ⟨%d6, H6⟩⟩
    iapply ((runFirst c (grid0.coords first) _ (hs0_0 first) _ (hs0_1 first) _ (hs0_2 first) _ (hs0_3 first) _ (hs0_4 first) _ (hs0_5 first) _ (hs0_6 first) cond_first (iblk m c 4 first)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (stored_cover m c first cond_first)
  · iintro ⟨HΦ, Ho, H0, H1, H2, H3, ⟨%d4, H4⟩, H5, H6⟩
    iapply (runLater c (grid0.coords t) _ (hs0_0 t) _ (hs0_1 t) _ (hs0_2 t) _ (hs0_3 t) _ (hs0_4 t) _ (hs0_5 t) _ (hs0_6 t) (fun h => ht ((cond_iff t).mp h)) (iblk m c 4 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_6_later m c t ht)
    iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

/-! ## The launch -/

set_option backward.isDefEq.respectTransparency.types false in
/-- The call ends, with `vout` at what the first point stored and every argument as it was. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- Every run ends, with every argument as it was and every counter at zero. -/
theorem unchanged :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c =>
    ⟨(Pipeline.RDat.FramePost.arr_in h.1 c 0 rfl).trans ((A_eq m c 0).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩)
    (run_main m ρ)

end Cert.PrepareIdeal.Hand

end
-- ==== Proof.MatrixSteps.lean ====
/-
  The gate's matrix as the kernel builds it: the identity, and then eighteen steps on its rows, each a rotation of one
  qubit or a controlled negation.
-/
module

public import proofs.«01_k».proof.Proof.PrepareIdealRun

@[expose] public section

set_option maxRecDepth 16384

noncomputable section

namespace Cert.PrepareIdeal.Hand

open Cert.PrepareIdeal Cert.PrepareIdeal.Gen
open Idealize.ShloMosaic Idealize.ShloMosaic.TcCoe Idealize.ShloMosaic.Tactic

variable {F : FTy → Type} [FloatOps F]

/-- A matrix's real and imaginary parts. -/
structure Parts (F : FTy → Type) where
  re : FVec F S8x8 .f32
  im : FVec F S8x8 .f32

/-- A row's number, bit `p` of it, and where that bit is `b`. -/
def rowNo : IVec S8x8 32 := iota .tc S8x8 32 [0] iota_S8x8_d0_w32
def bitIs (p b : BitVec 32) : IVec S8x8 1 :=
  cmpi .eq (andi (shrsi rowNo (broadcast S8x8 p)) (broadcast S8x8 1#32)) (broadcast S8x8 b)

/-- The rows with one bit of their number negated. -/
def flip2 (X : FVec F S8x8 .f32) : FVec F S8x8 .f32 :=
  select (bitIs 2#32 0#32)
    (concatenate S8x8 0 [⟨S4x8, extractStridedSlice S4x8 ![4, 0] X (by decide)⟩, ⟨S4x8, extractStridedSlice S4x8 ![0, 0] X (by decide)⟩] concatenates_S4x8_S4x8_S8x8_d0)
    (concatenate S8x8 0 [⟨S4x8, extractStridedSlice S4x8 ![4, 0] X (by decide)⟩, ⟨S4x8, extractStridedSlice S4x8 ![0, 0] X (by decide)⟩] concatenates_S4x8_S4x8_S8x8_d0)
def flip1 (X : FVec F S8x8 .f32) : FVec F S8x8 .f32 :=
  select (bitIs 1#32 0#32)
    (concatenate S8x8 0 [⟨S6x8, extractStridedSlice S6x8 ![2, 0] X (by decide)⟩, ⟨S2x8, extractStridedSlice S2x8 ![0, 0] X (by decide)⟩] concatenates_S6x8_S2x8_S8x8_d0)
    (concatenate S8x8 0 [⟨S2x8, extractStridedSlice S2x8 ![6, 0] X (by decide)⟩, ⟨S6x8, extractStridedSlice S6x8 ![0, 0] X (by decide)⟩] concatenates_S2x8_S6x8_S8x8_d0)
def flip0 (X : FVec F S8x8 .f32) : FVec F S8x8 .f32 :=
  select (bitIs 0#32 0#32)
    (concatenate S8x8 0 [⟨S7x8, extractStridedSlice S7x8 ![1, 0] X (by decide)⟩, ⟨S1x8, extractStridedSlice S1x8 ![0, 0] X (by decide)⟩] concatenates_S7x8_S1x8_S8x8_d0)
    (concatenate S8x8 0 [⟨S1x8, extractStridedSlice S1x8 ![7, 0] X (by decide)⟩, ⟨S7x8, extractStridedSlice S7x8 ![0, 0] X (by decide)⟩] concatenates_S1x8_S7x8_S8x8_d0)

/-- The number times a matrix, and nought less a number. -/
def times (a : F .f32) (X : FVec F S8x8 .f32) : FVec F S8x8 .f32 := mulf (broadcast S8x8 a) X
def less (a : F .f32) : F .f32 := Scalar.subf (Scalar.ofBits .f32 0x00000000#32) a

/-- The rotation with cosines and sines `g 0 … g 5` of the qubit whose bit is `p`. -/
def rotate (p : BitVec 32) (flip : FVec F S8x8 .f32 → FVec F S8x8 .f32) (g : Fin 6 → F .f32) (U : Parts F) : Parts F where
  re := select (bitIs p 0#32)
    (subf (addf (subf (times (Scalar.mulf (g 0) (g 2)) U.re) (times (Scalar.mulf (less (g 0)) (g 3)) U.im))
      (times (Scalar.mulf (less (g 1)) (g 4)) (flip U.re))) (times (Scalar.mulf (g 1) (g 5)) (flip U.im)))
    (subf (addf (subf (times (Scalar.mulf (g 1) (g 4)) (flip U.re)) (times (Scalar.mulf (g 1) (g 5)) (flip U.im)))
      (times (Scalar.mulf (g 0) (g 2)) U.re)) (times (Scalar.mulf (g 0) (g 3)) U.im))
  im := select (bitIs p 0#32)
    (addf (addf (addf (times (Scalar.mulf (g 0) (g 2)) U.im) (times (Scalar.mulf (less (g 0)) (g 3)) U.re))
      (times (Scalar.mulf (less (g 1)) (g 4)) (flip U.im))) (times (Scalar.mulf (g 1) (g 5)) (flip U.re)))
    (addf (addf (addf (times (Scalar.mulf (g 1) (g 4)) (flip U.im)) (times (Scalar.mulf (g 1) (g 5)) (flip U.re)))
      (times (Scalar.mulf (g 0) (g 2)) U.im)) (times (Scalar.mulf (g 0) (g 3)) U.re))

/-- The controlled negation: where bit `p` is one, the rows are exchanged by `flip`. -/
def control (p : BitVec 32) (flip : FVec F S8x8 .f32 → FVec F S8x8 .f32) (U : Parts F) : Parts F where
  re := select (bitIs p 1#32) (flip U.re) U.re
  im := select (bitIs p 1#32) (flip U.im) U.im

/-- The identity. -/
def unit8 : Parts F where
  re := select (cmpi .eq rowNo (iota .tc S8x8 32 [1] iota_S8x8_d1_w32)) (broadcast S8x8 (Scalar.ofBits .f32 0x3F800000#32))
    (broadcast S8x8 (Scalar.ofBits .f32 0x00000000#32))
  im := broadcast S8x8 (Scalar.ofBits .f32 0x00000000#32)

/-- A layer's rotations, and the negations of the first and of the second layer. -/
def turned (g : Fin 3 → Fin 6 → F .f32) (U : Parts F) : Parts F :=
  rotate 0#32 flip0 (g 2) (rotate 1#32 flip1 (g 1) (rotate 2#32 flip2 (g 0) U))
def linked1 (U : Parts F) : Parts F := control 0#32 flip2 (control 1#32 flip0 (control 2#32 flip1 U))
def linked2 (U : Parts F) : Parts F := control 0#32 flip1 (control 1#32 flip2 (control 2#32 flip0 U))

/-- The gate's matrix, from the rotations' cosines and sines. -/
def built (g : Fin 2 → Fin 3 → Fin 6 → F .f32) : Parts F :=
  linked2 (turned (g 1) (linked1 (turned (g 0) unit8)))

theorem word_inb (l : Fin 2) (q : Fin 3) (k : Fin 6) (a : Fin 1) :
    (![62 + 18 * l.val + 6 * q.val + k.val] : Fin 1 → ℕ) a + S1.size a ≤ S98.size a := by
  revert l q k a
  decide

/-- A word of the scalars, as the kernel loads it. -/
def wordAt (arg5 : Memref sig .tc .smem S98 .f32) (harg5 : arg5.IsWhole) (x4 : Vec F S98 .f32) (l : Fin 2) (q : Fin 3) (k : Fin 6) : F .f32 :=
  View.readAt (Elt F) arg5.view (Rect.unit (s := S98) ![62 + 18 * l.val + 6 * q.val + k.val] S1.size (word_inb l q k)).toLoadRect
    (harg5.unread x4) (Shape.Idx.first (numel1_S1 ▸ Nat.one_pos : 0 < S1.numel))

/-! The matrices on the way, under the names their parts have in the body's run. -/

section
variable (c : Dev nD) (arg5 : Memref sig .tc .smem S98 .f32) (harg5 : arg5.IsWhole) (x4 : Vec F S98 .f32)

def after00 : Parts F := ⟨runFirst.sl.r_145 c arg5 harg5 x4, runFirst.sl.r_152 c arg5 harg5 x4⟩
def after01 : Parts F := ⟨runFirst.sl.r_167 c arg5 harg5 x4, runFirst.sl.r_168 c arg5 harg5 x4⟩
def after02 : Parts F := ⟨runFirst.sl.r_183 c arg5 harg5 x4, runFirst.sl.r_184 c arg5 harg5 x4⟩
def link00 : Parts F := ⟨runFirst.sl.v852 c arg5 harg5 x4, runFirst.sl.v866 c arg5 harg5 x4⟩
def link01 : Parts F := ⟨runFirst.sl.v886 c arg5 harg5 x4, runFirst.sl.v900 c arg5 harg5 x4⟩
def link02 : Parts F := ⟨runFirst.sl.v920 c arg5 harg5 x4, runFirst.sl.v934 c arg5 harg5 x4⟩
def after10 : Parts F := ⟨runFirst.sl.r_209 c arg5 harg5 x4, runFirst.sl.r_210 c arg5 harg5 x4⟩
def after11 : Parts F := ⟨runFirst.sl.r_229 c arg5 harg5 x4, runFirst.sl.r_230 c arg5 harg5 x4⟩
def link10 : Parts F := ⟨runFirst.sl.r_245 c arg5 harg5 x4, runFirst.sl.v1250 c arg5 harg5 x4⟩
def link11 : Parts F := ⟨runFirst.sl.v1270 c arg5 harg5 x4, runFirst.sl.v1284 c arg5 harg5 x4⟩

theorem after00_eq : after00 c arg5 harg5 x4 = rotate 2#32 flip2 (wordAt arg5 harg5 x4 0 0) unit8 := by
  sl_kernel_rfl
theorem after01_eq : after01 c arg5 harg5 x4 = rotate 1#32 flip1 (wordAt arg5 harg5 x4 0 1) (after00 c arg5 harg5 x4) := by
  sl_kernel_rfl
theorem after02_eq : after02 c arg5 harg5 x4 = rotate 0#32 flip0 (wordAt arg5 harg5 x4 0 2) (after01 c arg5 harg5 x4) := by
  sl_kernel_rfl
theorem link00_eq : link00 c arg5 harg5 x4 = control 2#32 flip1 (after02 c arg5 harg5 x4) := by
  sl_kernel_rfl
theorem link01_eq : link01 c arg5 harg5 x4 = control 1#32 flip0 (link00 c arg5 harg5 x4) := by
  sl_kernel_rfl
theorem link02_eq : link02 c arg5 harg5 x4 = control 0#32 flip2 (link01 c arg5 harg5 x4) := by
  sl_kernel_rfl
theorem after10_eq : after10 c arg5 harg5 x4 = rotate 2#32 flip2 (wordAt arg5 harg5 x4 1 0) (link02 c arg5 harg5 x4) := by
  sl_kernel_rfl
theorem after11_eq : after11 c arg5 harg5 x4 = rotate 1#32 flip1 (wordAt arg5 harg5 x4 1 1) (after10 c arg5 harg5 x4) := by
  sl_kernel_rfl
theorem link10_eq : link10 c arg5 harg5 x4 = control 2#32 flip0 (rotate 0#32 flip0 (wordAt arg5 harg5 x4 1 2) (after11 c arg5 harg5 x4)) := by
  sl_kernel_rfl
theorem link11_eq : link11 c arg5 harg5 x4 = control 1#32 flip2 (link10 c arg5 harg5 x4) := by
  sl_kernel_rfl

theorem built_eq : control 0#32 flip1 (link11 c arg5 harg5 x4) = built (wordAt arg5 harg5 x4) := by
  rw [link11_eq, link10_eq, after11_eq, after10_eq, link02_eq, link01_eq, link00_eq, after02_eq, after01_eq, after00_eq]
  rfl
end

/-- The two pieces a matrix is stored in, the last one first. -/
def pieces (U : Parts F) : List (View.Piece (Elt F) S2x8x8 .f32) :=
  [⟨Rect.unit (s := S2x8x8) ![1, 0, 0] S1x8x8.size inb_S2x8x8_S1x8x8_1_0_0, shapeCast S1x8x8 U.im shapeCasts_S8x8_S1x8x8⟩,
    ⟨Rect.unit (s := S2x8x8) ![0, 0, 0] S1x8x8.size inb_S2x8x8_S1x8x8_0_0_0, shapeCast S1x8x8 U.re shapeCasts_S8x8_S1x8x8⟩]

variable (m : (ℓ : Loc nD τ sig) → Buf (Elt F) ℓ)

theorem stored_steps (c : Dev nD) (t : Fin cfg0.N) (h : k0_cond1 (grid0.coords t) = 1#1) :
    stored m c t h = pieces (control 0#32 flip1 (link11 c (st0_4 t) (hs0_4 t) (iblk m c 4 t))) := by
  sl_kernel_rfl

theorem stored_eq (c : Dev nD) (t : Fin cfg0.N) (h : k0_cond1 (grid0.coords t) = 1#1) :
    stored m c t h = pieces (built (wordAt (st0_4 t) (hs0_4 t) (iblk m c 4 t))) := by
  rw [stored_steps, built_eq]

end Cert.PrepareIdeal.Hand

end
-- ==== Proof.MatrixEntries.lean ====
/- The kernel's steps on a matrix, entry by entry, over the extended reals. -/
module

public import proofs.«01_k».proof.Proof.MatrixSteps
public import Idealize.ShloMosaic.Lib.Pointwise
public import Idealize.ShloMosaic.Lib.ValueIdx
public import Idealize.ShloMosaic.Lib.IdealHost
public import Idealize.ShloMosaic.Lib.Pipeline.ValueKit

@[expose] public section

set_option maxRecDepth 16384

noncomputable section

namespace Cert.PrepareIdeal.Hand

open Cert.PrepareIdeal Cert.PrepareIdeal.Gen
open Idealize.ShloMosaic Idealize.ShloMosaic.Tactic

/-- The row of the basis state with bits `a`, `b`, `d`. -/
def row (a b d : Fin 2) : Fin 8 := ⟨4 * a.val + 2 * b.val + d.val, by omega⟩

theorem row_onto (r : Fin 8) : ∃ a b d, r = row a b d := by
  revert r; decide

theorem bit2 (z : Fin 2) (a b d : Fin 2) (k : Fin 8) : bitIs 2#32 (BitVec.ofNat 32 z.val) (ix2 (row a b d) k) = BitVec.ofBool (decide (a = z)) := by
  revert z a b d k; decide +kernel
theorem bit1 (z : Fin 2) (a b d : Fin 2) (k : Fin 8) : bitIs 1#32 (BitVec.ofNat 32 z.val) (ix2 (row a b d) k) = BitVec.ofBool (decide (b = z)) := by
  revert z a b d k; decide +kernel
theorem bit0 (z : Fin 2) (a b d : Fin 2) (k : Fin 8) : bitIs 0#32 (BitVec.ofNat 32 z.val) (ix2 (row a b d) k) = BitVec.ofBool (decide (d = z)) := by
  revert z a b d k; decide +kernel
theorem bit2_zero (a b d : Fin 2) (k : Fin 8) : bitIs 2#32 0#32 (ix2 (row a b d) k) = BitVec.ofBool (decide (a = 0)) := bit2 0 a b d k
theorem bit2_one (a b d : Fin 2) (k : Fin 8) : bitIs 2#32 1#32 (ix2 (row a b d) k) = BitVec.ofBool (decide (a = 1)) := bit2 1 a b d k
theorem bit1_zero (a b d : Fin 2) (k : Fin 8) : bitIs 1#32 0#32 (ix2 (row a b d) k) = BitVec.ofBool (decide (b = 0)) := bit1 0 a b d k
theorem bit1_one (a b d : Fin 2) (k : Fin 8) : bitIs 1#32 1#32 (ix2 (row a b d) k) = BitVec.ofBool (decide (b = 1)) := bit1 1 a b d k
theorem bit0_zero (a b d : Fin 2) (k : Fin 8) : bitIs 0#32 0#32 (ix2 (row a b d) k) = BitVec.ofBool (decide (d = 0)) := bit0 0 a b d k
theorem bit0_one (a b d : Fin 2) (k : Fin 8) : bitIs 0#32 1#32 (ix2 (row a b d) k) = BitVec.ofBool (decide (d = 1)) := bit0 1 a b d k

variable (X : FVec Ideal S8x8 .f32)

theorem flip2_at (a b d : Fin 2) (k : Fin 8) : flip2 X (ix2 (row a b d) k) = X (ix2 (row (a + 1) b d) k) := by
  unfold flip2
  rw [ValueIdx.select_apply, bit2_zero]
  pointwise
  fin_cases a <;> fin_cases b <;> fin_cases d <;> rfl
theorem flip1_at (a b d : Fin 2) (k : Fin 8) : flip1 X (ix2 (row a b d) k) = X (ix2 (row a (b + 1) d) k) := by
  unfold flip1
  rw [ValueIdx.select_apply, bit1_zero]
  pointwise
  fin_cases a <;> fin_cases b <;> fin_cases d <;> rfl
theorem flip0_at (a b d : Fin 2) (k : Fin 8) : flip0 X (ix2 (row a b d) k) = X (ix2 (row a b (d + 1)) k) := by
  unfold flip0
  rw [ValueIdx.select_apply, bit0_zero]
  pointwise
  fin_cases a <;> fin_cases b <;> fin_cases d <;> rfl

/-- The four sums of a rotation: into the row whose bit is zero and into the one whose bit is one, from the products
    `a`, `b` on the first of two numbers and `d`, `e` on the second. -/
def sumRe (a b d e x y x' y' : EReal) : EReal := (a * x - b * y) + (d * x' - e * y')
def sumIm (a b d e x y x' y' : EReal) : EReal := (a * y + b * x) + (d * y' + e * x')

theorem less_eq (x : EReal) : (less (F := Ideal) x : EReal) = -x := by
  show (Ideal.ofBits .f32 0x00000000#32 : EReal) - x = -x
  rw [Ideal.ofBits_zero_f32]
  exact zero_sub x

theorem sub_last (x d e : EReal) : x + d - e = x + (d - e) := by
  rw [sub_eq_add_neg, sub_eq_add_neg, add_assoc]

variable (p : BitVec 32) (flip : FVec Ideal S8x8 .f32 → FVec Ideal S8x8 .f32) (g : Fin 6 → EReal) (U : Parts Ideal) (i : S8x8.Idx)

theorem rotate_zero (h : bitIs p 0#32 i = 1#1) :
    (rotate p flip g U).re i = sumRe (g 0 * g 2) (-g 0 * g 3) (-g 1 * g 4) (g 1 * g 5) (U.re i) (U.im i) (flip U.re i) (flip U.im i)
    ∧ (rotate p flip g U).im i = sumIm (g 0 * g 2) (-g 0 * g 3) (-g 1 * g 4) (g 1 * g 5) (U.re i) (U.im i) (flip U.re i) (flip U.im i) := by
  constructor
  · refine (ValueIdx.select_apply _ _ _ _).trans ?_
    rw [h]
    refine Eq.trans (b := g 0 * g 2 * U.re i - less (F := Ideal) (g 0) * g 3 * U.im i + less (F := Ideal) (g 1) * g 4 * flip U.re i - g 1 * g 5 * flip U.im i) rfl ?_
    rw [less_eq, less_eq, sub_last]
    rfl
  · refine (ValueIdx.select_apply _ _ _ _).trans ?_
    rw [h]
    refine Eq.trans (b := g 0 * g 2 * U.im i + less (F := Ideal) (g 0) * g 3 * U.re i + less (F := Ideal) (g 1) * g 4 * flip U.im i + g 1 * g 5 * flip U.re i) rfl ?_
    rw [less_eq, less_eq, add_assoc]
    rfl

theorem rotate_one (h : bitIs p 0#32 i = 0#1) :
    (rotate p flip g U).re i = sumRe (g 1 * g 4) (g 1 * g 5) (g 0 * g 2) (g 0 * g 3) (flip U.re i) (flip U.im i) (U.re i) (U.im i)
    ∧ (rotate p flip g U).im i = sumIm (g 1 * g 4) (g 1 * g 5) (g 0 * g 2) (g 0 * g 3) (flip U.re i) (flip U.im i) (U.re i) (U.im i) := by
  constructor
  · refine (ValueIdx.select_apply _ _ _ _).trans ?_
    rw [h]
    refine Eq.trans (b := g 1 * g 4 * flip U.re i - g 1 * g 5 * flip U.im i + g 0 * g 2 * U.re i - g 0 * g 3 * U.im i) rfl ?_
    rw [sub_last]
    rfl
  · refine (ValueIdx.select_apply _ _ _ _).trans ?_
    rw [h]
    refine Eq.trans (b := g 1 * g 4 * flip U.im i + g 1 * g 5 * flip U.re i + g 0 * g 2 * U.im i + g 0 * g 3 * U.re i) rfl ?_
    rw [add_assoc]
    rfl

end Cert.PrepareIdeal.Hand

end
-- ==== Proof.EntangleSteps.lean ====
/- The reference's gate as steps on its state, entry by entry. -/
module

public import proofs.«01_k».proof.Proof.Gen.EntangleIdeal.Read
public import Idealize.ShloMosaic.Lib.Pointwise
public import Idealize.ShloMosaic.Lib.ValueIdx
public import Idealize.ShloMosaic.Lib.IdealHost

@[expose] public section

set_option maxRecDepth 16384

noncomputable section

namespace Cert.EntangleIdeal.Hand

open Cert.EntangleIdeal Cert.EntangleIdeal.Gen Cert.EntangleIdeal.Read
open Idealize.ShloMosaic

/-- The eight columns' amplitudes, and those of one value of a qubit's bit. -/
abbrev State := FVec Ideal S2x2x2x8 .f32
abbrev Half := FVec Ideal S2x2x8 .f32

/-! ## One rotation -/

def spread (a : FVec Ideal S_ .f32) : Half := broadcastInDim S2x2x8 ![] bcast_S_S2x2x8 a
def sumsRe (a b d e : FVec Ideal S_ .f32) (x y x' y' : Half) : Half :=
  addf (subf (mulf (spread a) x) (mulf (spread b) y)) (subf (mulf (spread d) x') (mulf (spread e) y'))
def sumsIm (a b d e : FVec Ideal S_ .f32) (x y x' y' : Half) : Half :=
  addf (addf (mulf (spread a) y) (mulf (spread b) x)) (addf (mulf (spread d) y') (mulf (spread e) x'))

/-- The rotation with the half angle's cosine `c` and sine `s` and the phases `p` and `m`, on the axis that `zero` and
    `one` slice and `stack` puts together again. -/
def spin (zero one : State → Half) (stack : Half → Half → State) (c s p m : FVec Ideal S_ .f32) (S : State × State) : State × State :=
  (stack
    (sumsRe (mulf c (Host.cos p)) (mulf (Host.negf c) (Host.sin p)) (mulf (Host.negf s) (Host.cos m)) (mulf s (Host.sin m))
      (zero S.1) (zero S.2) (one S.1) (one S.2))
    (sumsRe (mulf s (Host.cos m)) (mulf s (Host.sin m)) (mulf c (Host.cos p)) (mulf c (Host.sin p))
      (zero S.1) (zero S.2) (one S.1) (one S.2)),
   stack
    (sumsIm (mulf c (Host.cos p)) (mulf (Host.negf c) (Host.sin p)) (mulf (Host.negf s) (Host.cos m)) (mulf s (Host.sin m))
      (zero S.1) (zero S.2) (one S.1) (one S.2))
    (sumsIm (mulf s (Host.cos m)) (mulf s (Host.sin m)) (mulf c (Host.cos p)) (mulf c (Host.sin p))
      (zero S.1) (zero S.2) (one S.1) (one S.2)))

def zero0 (X : State) : Half := shapeCast S2x2x8 (extractStridedSlice S1x2x2x8 ![0, 0, 0, 0] X slices_S2x2x2x8_S1x2x2x8_0_0_0_0) shapeCasts_S1x2x2x8_S2x2x8
def one0 (X : State) : Half := shapeCast S2x2x8 (extractStridedSlice S1x2x2x8 ![1, 0, 0, 0] X slices_S2x2x2x8_S1x2x2x8_1_0_0_0) shapeCasts_S1x2x2x8_S2x2x8
def stack0 (A B : Half) : State := concatenate S2x2x2x8 0
  [⟨S1x2x2x8, broadcastInDim S1x2x2x8 ![1, 2, 3] bcast_S2x2x8_S1x2x2x8_1_2_3 A⟩,
    ⟨S1x2x2x8, broadcastInDim S1x2x2x8 ![1, 2, 3] bcast_S2x2x8_S1x2x2x8_1_2_3 B⟩] concatenates_S1x2x2x8_S1x2x2x8_S2x2x2x8_d0
def zero1 (X : State) : Half := shapeCast S2x2x8 (extractStridedSlice S2x1x2x8 ![0, 0, 0, 0] X slices_S2x2x2x8_S2x1x2x8_0_0_0_0) shapeCasts_S2x1x2x8_S2x2x8
def one1 (X : State) : Half := shapeCast S2x2x8 (extractStridedSlice S2x1x2x8 ![0, 1, 0, 0] X slices_S2x2x2x8_S2x1x2x8_0_1_0_0) shapeCasts_S2x1x2x8_S2x2x8
def stack1 (A B : Half) : State := concatenate S2x2x2x8 1
  [⟨S2x1x2x8, broadcastInDim S2x1x2x8 ![0, 2, 3] bcast_S2x2x8_S2x1x2x8_0_2_3 A⟩,
    ⟨S2x1x2x8, broadcastInDim S2x1x2x8 ![0, 2, 3] bcast_S2x2x8_S2x1x2x8_0_2_3 B⟩] concatenates_S2x1x2x8_S2x1x2x8_S2x2x2x8_d1
def zero2 (X : State) : Half := shapeCast S2x2x8 (extractStridedSlice S2x2x1x8 ![0, 0, 0, 0] X slices_S2x2x2x8_S2x2x1x8_0_0_0_0) shapeCasts_S2x2x1x8_S2x2x8
def one2 (X : State) : Half := shapeCast S2x2x8 (extractStridedSlice S2x2x1x8 ![0, 0, 1, 0] X slices_S2x2x2x8_S2x2x1x8_0_0_1_0) shapeCasts_S2x2x1x8_S2x2x8
def stack2 (A B : Half) : State := concatenate S2x2x2x8 2
  [⟨S2x2x1x8, broadcastInDim S2x2x1x8 ![0, 1, 3] bcast_S2x2x8_S2x2x1x8_0_1_3 A⟩,
    ⟨S2x2x1x8, broadcastInDim S2x2x1x8 ![0, 1, 3] bcast_S2x2x8_S2x2x1x8_0_1_3 B⟩] concatenates_S2x2x1x8_S2x2x1x8_S2x2x2x8_d2

abbrev spin0 := spin zero0 one0 stack0
abbrev spin1 := spin zero1 one1 stack1
abbrev spin2 := spin zero2 one2 stack2

/-! ## One controlled negation: of axis `t` where the bit of axis `c` is one -/

def negate (c t : Fin 4) (S : State × State) : State × State :=
  (select (cmpi .eq (iotaInDim S2x2x2x8 32 c) (broadcastInDim S2x2x2x8 ![] bcast_S_S2x2x2x8 (constantI S_ 32 1#32))) (Host.reverse [t] S.1) S.1,
   select (cmpi .eq (iotaInDim S2x2x2x8 32 c) (broadcastInDim S2x2x2x8 ![] bcast_S_S2x2x2x8 (constantI S_ 32 1#32))) (Host.reverse [t] S.2) S.2)

/-! ## The reference's values in these terms -/

section
variable (x7 : FVec Ideal S1x2x3x3 .f32)

theorem state1 : (val_main_v94 (F := Ideal) x7, val_main_v97 (F := Ideal) x7)
    = spin0 (val_main_v15 (F := Ideal) x7) (val_main_v17 (F := Ideal) x7) (val_main_v19 (F := Ideal) x7) (val_main_v21 (F := Ideal) x7) (val_main_v6 (F := Ideal), val_main_v7 (F := Ideal)) := rfl
theorem state2 : (val_main_v184 (F := Ideal) x7, val_main_v187 (F := Ideal) x7)
    = spin1 (val_main_v105 (F := Ideal) x7) (val_main_v107 (F := Ideal) x7) (val_main_v109 (F := Ideal) x7) (val_main_v111 (F := Ideal) x7) (val_main_v94 (F := Ideal) x7, val_main_v97 (F := Ideal) x7) := rfl
theorem state3 : (val_main_v274 (F := Ideal) x7, val_main_v277 (F := Ideal) x7)
    = spin2 (val_main_v195 (F := Ideal) x7) (val_main_v197 (F := Ideal) x7) (val_main_v199 (F := Ideal) x7) (val_main_v201 (F := Ideal) x7) (val_main_v184 (F := Ideal) x7, val_main_v187 (F := Ideal) x7) := rfl
theorem state4 : (val_main_v282 (F := Ideal) x7, val_main_v286 (F := Ideal) x7) = negate 0 1 (val_main_v274 (F := Ideal) x7, val_main_v277 (F := Ideal) x7) := rfl
theorem state5 : (val_main_v291 (F := Ideal) x7, val_main_v295 (F := Ideal) x7) = negate 1 2 (val_main_v282 (F := Ideal) x7, val_main_v286 (F := Ideal) x7) := rfl
theorem state6 : (val_main_v300 (F := Ideal) x7, val_main_v304 (F := Ideal) x7) = negate 2 0 (val_main_v291 (F := Ideal) x7, val_main_v295 (F := Ideal) x7) := rfl
theorem state7 : (val_main_v391 (F := Ideal) x7, val_main_v394 (F := Ideal) x7)
    = spin0 (val_main_v312 (F := Ideal) x7) (val_main_v314 (F := Ideal) x7) (val_main_v316 (F := Ideal) x7) (val_main_v318 (F := Ideal) x7) (val_main_v300 (F := Ideal) x7, val_main_v304 (F := Ideal) x7) := rfl
theorem state8 : (val_main_v481 (F := Ideal) x7, val_main_v484 (F := Ideal) x7)
    = spin1 (val_main_v402 (F := Ideal) x7) (val_main_v404 (F := Ideal) x7) (val_main_v406 (F := Ideal) x7) (val_main_v408 (F := Ideal) x7) (val_main_v391 (F := Ideal) x7, val_main_v394 (F := Ideal) x7) := rfl
theorem state9 : (val_main_v571 (F := Ideal) x7, val_main_v574 (F := Ideal) x7)
    = spin2 (val_main_v492 (F := Ideal) x7) (val_main_v494 (F := Ideal) x7) (val_main_v496 (F := Ideal) x7) (val_main_v498 (F := Ideal) x7) (val_main_v481 (F := Ideal) x7, val_main_v484 (F := Ideal) x7) := rfl
theorem state10 : (val_main_v579 (F := Ideal) x7, val_main_v583 (F := Ideal) x7) = negate 0 2 (val_main_v571 (F := Ideal) x7, val_main_v574 (F := Ideal) x7) := rfl
theorem state11 : (val_main_v588 (F := Ideal) x7, val_main_v592 (F := Ideal) x7) = negate 1 0 (val_main_v579 (F := Ideal) x7, val_main_v583 (F := Ideal) x7) := rfl
theorem state12 : (val_main_v597 (F := Ideal) x7, val_main_v601 (F := Ideal) x7) = negate 2 1 (val_main_v588 (F := Ideal) x7, val_main_v592 (F := Ideal) x7) := rfl
end

/-! ## Entry by entry -/

section
variable (X : State) (A B : Half) (a b d : Fin 2) (k : Fin 8)

theorem zero0_at : zero0 X (ix3 b d k) = X (ix4 0 b d k) := by
  unfold zero0
  pointwise
theorem one0_at : one0 X (ix3 b d k) = X (ix4 1 b d k) := by
  unfold one0
  pointwise
theorem stack0_zero : stack0 A B (ix4 0 b d k) = A (ix3 b d k) := by
  unfold stack0
  pointwise
theorem stack0_one : stack0 A B (ix4 1 b d k) = B (ix3 b d k) := by
  unfold stack0
  pointwise
theorem zero1_at : zero1 X (ix3 b d k) = X (ix4 b 0 d k) := by
  unfold zero1
  pointwise
theorem one1_at : one1 X (ix3 b d k) = X (ix4 b 1 d k) := by
  unfold one1
  pointwise
theorem stack1_zero : stack1 A B (ix4 b 0 d k) = A (ix3 b d k) := by
  unfold stack1
  pointwise
theorem stack1_one : stack1 A B (ix4 b 1 d k) = B (ix3 b d k) := by
  unfold stack1
  pointwise
theorem zero2_at : zero2 X (ix3 b d k) = X (ix4 b d 0 k) := by
  unfold zero2
  pointwise
theorem one2_at : one2 X (ix3 b d k) = X (ix4 b d 1 k) := by
  unfold one2
  pointwise
theorem stack2_zero : stack2 A B (ix4 b d 0 k) = A (ix3 b d k) := by
  unfold stack2
  pointwise
theorem stack2_one : stack2 A B (ix4 b d 1 k) = B (ix3 b d k) := by
  unfold stack2
  pointwise

theorem reverse0_at : Host.reverse [0] X (ix4 a b d k) = X (ix4 (a + 1) b d k) := by
  pointwise
  fin_cases a <;> fin_cases b <;> fin_cases d <;> rfl
theorem reverse1_at : Host.reverse [1] X (ix4 a b d k) = X (ix4 a (b + 1) d k) := by
  pointwise
  fin_cases a <;> fin_cases b <;> fin_cases d <;> rfl
theorem reverse2_at : Host.reverse [2] X (ix4 a b d k) = X (ix4 a b (d + 1) k) := by
  pointwise
  fin_cases a <;> fin_cases b <;> fin_cases d <;> rfl
end

/-- Where the bit of axis `c` is one. -/
def onBit (c : Fin 4) : IVec S2x2x2x8 1 := cmpi .eq (iotaInDim S2x2x2x8 32 c) (broadcastInDim S2x2x2x8 ![] bcast_S_S2x2x2x8 (constantI S_ 32 1#32))
theorem onBit0 (a b d : Fin 2) (k : Fin 8) : onBit 0 (ix4 a b d k) = BitVec.ofBool (decide (a = 1)) := by
  revert a b d k; decide +kernel
theorem onBit1 (a b d : Fin 2) (k : Fin 8) : onBit 1 (ix4 a b d k) = BitVec.ofBool (decide (b = 1)) := by
  revert a b d k; decide +kernel
theorem onBit2 (a b d : Fin 2) (k : Fin 8) : onBit 2 (ix4 a b d k) = BitVec.ofBool (decide (d = 1)) := by
  revert a b d k; decide +kernel

theorem ix4_congr {a a' b b' d d' : Fin 2} {k : Fin 8} (ha : a = a') (hb : b = b') (hd : d = d') :
    (ix4 a b d k : S2x2x2x8.Idx) = ix4 a' b' d' k := by
  rw [ha, hb, hd]

theorem start_bit (a b d : Fin 2) (k : Fin 8) : cmpi .eq (addi (iotaInDim S8x8 32 0) (broadcastInDim S8x8 ![] bcast_S_S8x8 (constantI S_ 32 0#32)))
    (iotaInDim S8x8 32 1) (idx_main_v6 (ix4 a b d k)) = BitVec.ofBool (decide (4 * a.val + 2 * b.val + d.val = k.val)) := by
  revert a b d k; decide +kernel

/-- The start: every column its own basis state. -/
theorem start_re (a b d : Fin 2) (k : Fin 8) : val_main_v6 (F := Ideal) (ix4 a b d k) = if 4 * a.val + 2 * b.val + d.val = k.val then (1 : EReal) else 0 := by
  rw [val_main_v6_apply, val_main_v5_apply]
  refine (congrArg (FloatOps.uitofp (F := Ideal) .f32) (start_bit a b d k)).trans ?_
  show (((BitVec.ofBool (decide (4 * a.val + 2 * b.val + d.val = k.val))).toNat : ℝ) : EReal) = _
  split <;> rename_i h <;> simp [h]
theorem start_im (a b d : Fin 2) (k : Fin 8) : val_main_v7 (F := Ideal) (ix4 a b d k) = (0 : EReal) := by
  rw [val_main_v7_apply, val_main_cst_apply]
  exact Ideal.ofBits_zero_f32

/-- The result: the two parts of the last state, a row per basis state. -/
theorem result_re (x7 : FVec Ideal S1x2x3x3 .f32) (r k : Fin 8) (a b d : Fin 2) (h : r.val = 4 * a.val + 2 * b.val + d.val) :
    val_main_v606 (F := Ideal) x7 (ix3 0 r k) = val_main_v597 (F := Ideal) x7 (ix4 a b d k) := by
  unfold val_main_v606 val_main_v604 val_main_v602
  generalize val_main_v597 (F := Ideal) x7 = y
  pointwise
  refine congrArg y (ix4_congr (Fin.ext ?_) (Fin.ext ?_) (Fin.ext ?_)) <;> dsimp only <;> omega
theorem result_im (x7 : FVec Ideal S1x2x3x3 .f32) (r k : Fin 8) (a b d : Fin 2) (h : r.val = 4 * a.val + 2 * b.val + d.val) :
    val_main_v606 (F := Ideal) x7 (ix3 1 r k) = val_main_v601 (F := Ideal) x7 (ix4 a b d k) := by
  unfold val_main_v606 val_main_v605 val_main_v603
  generalize val_main_v601 (F := Ideal) x7 = y
  pointwise
  refine congrArg y (ix4_congr (Fin.ext ?_) (Fin.ext ?_) (Fin.ext ?_)) <;> dsimp only <;> omega

end Cert.EntangleIdeal.Hand

end
-- ==== Proof.GateWords.lean ====
/- The scalars the first stage's kernel reads: the rotations' cosines and sines. -/
module

public import proofs.«01_k».proof.Proof.MatrixSteps
public import Idealize.ShloMosaic.Lib.Pointwise
public import Idealize.ShloMosaic.Lib.Claim
public import Idealize.ShloMosaic.Lib.Pipeline.ValueKit

@[expose] public section

set_option maxHeartbeats 1600000
set_option maxRecDepth 16384

noncomputable section

namespace Cert.PrepareIdeal.Hand

open Cert.PrepareIdeal Cert.PrepareIdeal.Gen
open Idealize.ShloMosaic Idealize.SL.Sem

variable (x7 : FVec Ideal S1x2x3x3 .f32)

/-- The angles of each gate, halved as the host does it, and a function's values of them as a column. -/
def phi : FVec Ideal S2x3 .f32 := shapeCast S2x3 (extractStridedSlice S2x3x1 ![0, 0, 0] (shapeCast S2x3x3 x7 shapeCasts_S1x2x3x3_S2x3x3) slices_S2x3x3_S2x3x1_0_0_0) shapeCasts_S2x3x1_S2x3
def theta : FVec Ideal S2x3 .f32 := shapeCast S2x3 (extractStridedSlice S2x3x1 ![0, 0, 1] (shapeCast S2x3x3 x7 shapeCasts_S1x2x3x3_S2x3x3) slices_S2x3x3_S2x3x1_0_0_1) shapeCasts_S2x3x1_S2x3
def omega : FVec Ideal S2x3 .f32 := shapeCast S2x3 (extractStridedSlice S2x3x1 ![0, 0, 2] (shapeCast S2x3x3 x7 shapeCasts_S1x2x3x3_S2x3x3) slices_S2x3x3_S2x3x1_0_0_2) shapeCasts_S2x3x1_S2x3
def halved (y : FVec Ideal S2x3 .f32) : FVec Ideal S2x3 .f32 := Host.divf y (broadcastInDim S2x3 ![] bcast_S_S2x3 (constant S_ .f32 0x40000000#32))
def column (y : FVec Ideal S2x3 .f32) : FVec Ideal S2x3x1 .f32 := broadcastInDim S2x3x1 ![0, 1] bcast_S2x3_S2x3x1_0_1 y

/-- The six columns side by side. -/
def trigs : FVec Ideal S2x3x6 .f32 := concatenate S2x3x6 2
  [⟨S2x3x1, column (Host.cos (halved (theta x7)))⟩, ⟨S2x3x1, column (Host.sin (halved (theta x7)))⟩,
    ⟨S2x3x1, column (Host.cos (halved (addf (omega x7) (phi x7))))⟩, ⟨S2x3x1, column (Host.sin (halved (addf (omega x7) (phi x7))))⟩,
    ⟨S2x3x1, column (Host.cos (halved (subf (omega x7) (phi x7))))⟩, ⟨S2x3x1, column (Host.sin (halved (subf (omega x7) (phi x7))))⟩]
  concatenates_S2x3x1_S2x3x1_S2x3x1_S2x3x1_S2x3x1_S2x3x1_S2x3x6_d2

/-- A gate's six scalars from its three angles. -/
def half (y : EReal) : EReal := FloatOps.hostDivf (F := Ideal) (φ := .f32) y (FloatOps.ofBits (F := Ideal) .f32 0x40000000#32)
def trig (l : Fin 2) (q : Fin 3) : Fin 6 → EReal :=
  ![FloatOps.hostUnary (F := Ideal) (φ := .f32) .cos (half (x7 (ix4 0 l q 1))), FloatOps.hostUnary (F := Ideal) (φ := .f32) .sin (half (x7 (ix4 0 l q 1))),
    FloatOps.hostUnary (F := Ideal) (φ := .f32) .cos (half (x7 (ix4 0 l q 2) + x7 (ix4 0 l q 0))),
    FloatOps.hostUnary (F := Ideal) (φ := .f32) .sin (half (x7 (ix4 0 l q 2) + x7 (ix4 0 l q 0))),
    FloatOps.hostUnary (F := Ideal) (φ := .f32) .cos (half (x7 (ix4 0 l q 2) - x7 (ix4 0 l q 0))),
    FloatOps.hostUnary (F := Ideal) (φ := .f32) .sin (half (x7 (ix4 0 l q 2) - x7 (ix4 0 l q 0)))]

theorem phi_at (l : Fin 2) (q : Fin 3) : phi x7 (ix2 l q) = x7 (ix4 0 l q 0) := by
  unfold phi
  pointwise
theorem theta_at (l : Fin 2) (q : Fin 3) : theta x7 (ix2 l q) = x7 (ix4 0 l q 1) := by
  unfold theta
  pointwise
theorem omega_at (l : Fin 2) (q : Fin 3) : omega x7 (ix2 l q) = x7 (ix4 0 l q 2) := by
  unfold omega
  pointwise
theorem halved_at (y : FVec Ideal S2x3 .f32) (l : Fin 2) (q : Fin 3) : halved y (ix2 l q) = half (y (ix2 l q)) := rfl

/-- One of six columns side by side. -/
theorem side_by_side (y : Fin 6 → FVec Ideal S2x3 .f32) (l : Fin 2) (q : Fin 3) (k : Fin 6) :
    concatenate S2x3x6 2 [⟨S2x3x1, column (y 0)⟩, ⟨S2x3x1, column (y 1)⟩, ⟨S2x3x1, column (y 2)⟩, ⟨S2x3x1, column (y 3)⟩, ⟨S2x3x1, column (y 4)⟩,
      ⟨S2x3x1, column (y 5)⟩] concatenates_S2x3x1_S2x3x1_S2x3x1_S2x3x1_S2x3x1_S2x3x1_S2x3x6_d2 (ix3 l q k) = y k (ix2 l q) := by
  unfold column
  fin_cases k <;> pointwise

theorem trigs_at (l : Fin 2) (q : Fin 3) (k : Fin 6) : trigs x7 (ix3 l q k) = trig x7 l q k := by
  refine (side_by_side ![Host.cos (halved (theta x7)), Host.sin (halved (theta x7)), Host.cos (halved (addf (omega x7) (phi x7))),
    Host.sin (halved (addf (omega x7) (phi x7))), Host.cos (halved (subf (omega x7) (phi x7))), Host.sin (halved (subf (omega x7) (phi x7)))] l q k).trans ?_
  unfold trig
  rw [← phi_at x7, ← theta_at x7, ← omega_at x7]
  fin_cases k <;> rfl

variable (m : (ℓ : Loc nD τ sig) → Buf (Elt Ideal) ℓ) (c : Dev nD)

/-- The scalars end with them. -/
theorem V_v65 : ∃ (a b : FVec Ideal S3 .f32) (y : FVec Ideal S56 .f32), V m c main_v65 = concatenate S98 0
    [⟨S3, a⟩, ⟨S3, b⟩, ⟨S56, y⟩, ⟨S36, shapeCast S36 (trigs (m ((c.tc : Thread nD τ).loc main_arg7))) shapeCasts_S2x3x6_S36⟩]
    concatenates_S3_S3_S56_S36_S98_d0 := by
  apply Exists.intro; apply Exists.intro; apply Exists.intro
  show StableHlo.after (List.flatten [hostOps0, hostOps0_1, hostOps0_2, hostOps0_3, hostOps0_4]) (fun b => m (c, b)) _ = _
  simp only [hostOps0, hostOps0_1, hostOps0_2, hostOps0_3, hostOps0_4, List.flatten_cons, List.flatten_nil, List.append_nil, List.cons_append, List.nil_append]
  after_results
  rfl

theorem ix3_congr {l l' : Fin 2} {q q' : Fin 3} {k k' : Fin 6} (hl : l = l') (hq : q = q') (hk : k = k') : (ix3 l q k : S2x3x6.Idx) = ix3 l' q' k' := by
  rw [hl, hq, hk]

theorem V_word (l : Fin 2) (q : Fin 3) (k : Fin 6) : (show FVec Ideal S98 .f32 from V m c main_v65) (ix1 ⟨62 + 18 * l.val + 6 * q.val + k.val, by omega⟩)
    = trig (m ((c.tc : Thread nD τ).loc main_arg7)) l q k := by
  obtain ⟨a, b, y, e⟩ := V_v65 m c
  rw [e, ← trigs_at]
  generalize trigs (m ((c.tc : Thread nD τ).loc main_arg7)) = z
  pointwise
  repeat (first | rw [dif_neg (by omega)] | rw [dif_pos (by omega)])
  refine congrArg z (ix3_congr (Fin.ext ?_) (Fin.ext ?_) (Fin.ext ?_)) <;> dsimp only <;> omega

/-- The block of scalars is the whole buffer. -/
theorem scalars_idx : win0_4.index first = ![0] := by decide +kernel
theorem scalars_at (i : S98.Idx) : (show FVec Ideal S98 .f32 from iblk m c 4 first) i = (show FVec Ideal S98 .f32 from V m c main_v65) i := by
  show (show FVec Ideal S98 .f32 from V m c main_v65) (((cfg0.win 4).blk first).view.emb i) = _
  have hi := scalars_idx
  generalize (show FVec Ideal S98 .f32 from V m c main_v65) = x
  obtain ⟨j, rfl⟩ : ∃ j : Fin 98, i = ix1 j := ⟨i 0, funext fun a => by fin_cases a; rfl⟩
  blk_ext [scalars_idx]

theorem word_eq (l : Fin 2) (q : Fin 3) (k : Fin 6) :
    wordAt (st0_4 first) (hs0_4 first) (iblk m c 4 first) l q k = trig (m ((c.tc : Thread nD τ).loc main_arg7)) l q k := by
  refine Eq.trans ?_ (V_word m c l q k)
  refine Eq.trans ?_ (scalars_at m c _)
  unfold wordAt
  refine (congrFun ((hs0_4 first).read_unread (iblk m c 4 first)) _).trans ?_
  refine congrArg (show FVec Ideal S98 .f32 from iblk m c 4 first) ?_
  funext a
  fin_cases a
  rfl

end Cert.PrepareIdeal.Hand

end
-- ==== Proof.GateSame.lean ====
/- The kernel's matrix and the reference's are the same, step by step. -/
module

public import proofs.«01_k».proof.Proof.MatrixEntries
public import proofs.«01_k».proof.Proof.EntangleSteps
public import proofs.«01_k».proof.Proof.GateWords

@[expose] public section

set_option maxHeartbeats 1600000
set_option maxRecDepth 16384

noncomputable section

namespace Cert.Gate

open Idealize.ShloMosaic
open Cert.PrepareIdeal.Hand Cert.EntangleIdeal.Hand
open Cert.PrepareIdeal (S8x8)
open Cert.EntangleIdeal (S_ S2x2x8 S2x2x2x8 S1x2x3x3 S1x1x1x1)
open Cert.EntangleIdeal.Read

/-- The kernel's matrix at an entry and the reference's state at an entry hold the same number. -/
def At (U : Parts Ideal) (S : State × State) (k : S8x8.Idx) (i : S2x2x2x8.Idx) : Prop := U.re k = S.1 i ∧ U.im k = S.2 i
def Same (U : Parts Ideal) (S : State × State) : Prop := ∀ a b d k, At U S (ix2 (row a b d) k) (ix4 a b d k)

/-- A gate's six scalars are those of the reference's rotation. -/
def Turns (g : Fin 6 → EReal) (c s p m : FVec Ideal S_ .f32) : Prop :=
  ∀ i, c i = g 0 ∧ s i = g 1 ∧ Host.cos p i = g 2 ∧ Host.sin p i = g 3 ∧ Host.cos m i = g 4 ∧ Host.sin m i = g 5

theorem sumsRe_at (a b d e : FVec Ideal S_ .f32) (x y x' y' : Half) (j : S2x2x8.Idx) :
    ∃ i, (sumsRe a b d e x y x' y' j = sumRe (a i) (b i) (d i) (e i) (x j) (y j) (x' j) (y' j))
      ∧ sumsIm a b d e x y x' y' j = sumIm (a i) (b i) (d i) (e i) (x j) (y j) (x' j) (y' j) :=
  ⟨_, rfl, rfl⟩

section
variable {p : BitVec 32} {flip : FVec Ideal S8x8 .f32 → FVec Ideal S8x8 .f32} {zero one : State → Half} {stack : Half → Half → State}
  {g : Fin 6 → EReal} {c s q m : FVec Ideal S_ .f32} {U : Parts Ideal} {S : State × State}

theorem coeffs (T : Turns g c s q m) (i : S_.Idx) :
    mulf c (Host.cos q) i = g 0 * g 2 ∧ mulf (Host.negf c) (Host.sin q) i = -g 0 * g 3 ∧ mulf (Host.negf s) (Host.cos m) i = -g 1 * g 4
    ∧ mulf s (Host.sin m) i = g 1 * g 5 ∧ mulf s (Host.cos m) i = g 1 * g 4 ∧ mulf c (Host.sin q) i = g 0 * g 3 := by
  obtain ⟨h0, h1, h2, h3, h4, h5⟩ := T i
  rw [← h0, ← h1, ← h2, ← h3, ← h4, ← h5]
  exact ⟨rfl, rfl, rfl, rfl, rfl, rfl⟩

/-- A rotation keeps two entries the same that its bit tells apart. -/
theorem spin_same (T : Turns g c s q m) (k0 k1 : S8x8.Idx) (i0 i1 : S2x2x2x8.Idx) (j : S2x2x8.Idx)
    (hb0 : bitIs p 0#32 k0 = 1#1) (hb1 : bitIs p 0#32 k1 = 0#1) (hf0 : ∀ X, flip X k0 = X k1) (hf1 : ∀ X, flip X k1 = X k0)
    (hz : ∀ X, zero X j = X i0) (ho : ∀ X, one X j = X i1) (hs0 : ∀ A B, stack A B i0 = A j) (hs1 : ∀ A B, stack A B i1 = B j)
    (H0 : At U S k0 i0) (H1 : At U S k1 i1) :
    At (rotate p flip g U) (spin zero one stack c s q m S) k0 i0 ∧ At (rotate p flip g U) (spin zero one stack c s q m S) k1 i1 := by
  obtain ⟨z1, z2⟩ := rotate_zero p flip g U k0 hb0
  obtain ⟨o1, o2⟩ := rotate_one p flip g U k1 hb1
  rw [hf0, hf0, H0.1, H0.2, H1.1, H1.2] at z1 z2
  rw [hf1, hf1, H0.1, H0.2, H1.1, H1.2] at o1 o2
  obtain ⟨i, e1, e2⟩ := sumsRe_at (mulf c (Host.cos q)) (mulf (Host.negf c) (Host.sin q)) (mulf (Host.negf s) (Host.cos m)) (mulf s (Host.sin m))
      (zero S.1) (zero S.2) (one S.1) (one S.2) j
  obtain ⟨i', e3, e4⟩ := sumsRe_at (mulf s (Host.cos m)) (mulf s (Host.sin m)) (mulf c (Host.cos q)) (mulf c (Host.sin q))
      (zero S.1) (zero S.2) (one S.1) (one S.2) j
  obtain ⟨c1, c2, c3, c4, c5, c6⟩ := coeffs T i
  obtain ⟨d1, d2, d3, d4, d5, d6⟩ := coeffs T i'
  rw [hz, hz, ho, ho, c1, c2, c3, c4] at e1 e2
  rw [hz, hz, ho, ho, d5, d4, d1, d6] at e3 e4
  exact ⟨⟨z1.trans (e1.symm.trans (hs0 _ _).symm), z2.trans (e2.symm.trans (hs0 _ _).symm)⟩,
    ⟨o1.trans (e3.symm.trans (hs1 _ _).symm), o2.trans (e4.symm.trans (hs1 _ _).symm)⟩⟩

theorem spin0_same (T : Turns g c s q m) (H : Same U S) : Same (rotate 2#32 flip2 g U) (spin0 c s q m S) := fun a b d k => by
  have h := spin_same (p := 2#32) (flip := flip2) (zero := zero0) (one := one0) (stack := stack0) T (ix2 (row 0 b d) k) (ix2 (row 1 b d) k) (ix4 0 b d k)
    (ix4 1 b d k) (ix3 b d k) (bit2_zero 0 b d k) (bit2_zero 1 b d k) (fun X => flip2_at X 0 b d k) (fun X => flip2_at X 1 b d k)
    (fun X => zero0_at X b d k) (fun X => one0_at X b d k) (fun A B => stack0_zero A B b d k) (fun A B => stack0_one A B b d k) (H 0 b d k) (H 1 b d k)
  fin_cases a
  · exact h.1
  · exact h.2
theorem spin1_same (T : Turns g c s q m) (H : Same U S) : Same (rotate 1#32 flip1 g U) (spin1 c s q m S) := fun a b d k => by
  have h := spin_same (p := 1#32) (flip := flip1) (zero := zero1) (one := one1) (stack := stack1) T (ix2 (row a 0 d) k) (ix2 (row a 1 d) k) (ix4 a 0 d k)
    (ix4 a 1 d k) (ix3 a d k) (bit1_zero a 0 d k) (bit1_zero a 1 d k) (fun X => flip1_at X a 0 d k) (fun X => flip1_at X a 1 d k)
    (fun X => zero1_at X a d k) (fun X => one1_at X a d k) (fun A B => stack1_zero A B a d k) (fun A B => stack1_one A B a d k) (H a 0 d k) (H a 1 d k)
  fin_cases b
  · exact h.1
  · exact h.2
theorem spin2_same (T : Turns g c s q m) (H : Same U S) : Same (rotate 0#32 flip0 g U) (spin2 c s q m S) := fun a b d k => by
  have h := spin_same (p := 0#32) (flip := flip0) (zero := zero2) (one := one2) (stack := stack2) T (ix2 (row a b 0) k) (ix2 (row a b 1) k) (ix4 a b 0 k)
    (ix4 a b 1 k) (ix3 a b k) (bit0_zero a b 0 k) (bit0_zero a b 1 k) (fun X => flip0_at X a b 0 k) (fun X => flip0_at X a b 1 k)
    (fun X => zero2_at X a b k) (fun X => one2_at X a b k) (fun A B => stack2_zero A B a b k) (fun A B => stack2_one A B a b k) (H a b 0 k) (H a b 1 k)
  fin_cases d
  · exact h.1
  · exact h.2

/-- A controlled negation keeps an entry the same. -/
theorem negate_same (f t : Fin 4) (k k' : S8x8.Idx) (i i' : S2x2x2x8.Idx) (z : BitVec 1) (hk : bitIs p 1#32 k = z) (hi : onBit f i = z)
    (hf : ∀ X, flip X k = X k') (hr : ∀ X : State, Host.reverse [t] X i = X i') (H : At U S k i) (H' : At U S k' i') :
    At (control p flip U) (negate f t S) k i := by
  constructor
  · refine (ValueIdx.select_apply _ _ _ _).trans (Eq.trans ?_ (ValueIdx.select_apply (onBit f) _ _ _).symm)
    rw [hk, hi, hf, hr, H.1, H'.1]
  · refine (ValueIdx.select_apply _ _ _ _).trans (Eq.trans ?_ (ValueIdx.select_apply (onBit f) _ _ _).symm)
    rw [hk, hi, hf, hr, H.2, H'.2]

theorem linked1_same (H : Same U S) : Same (linked1 U) (negate 2 0 (negate 1 2 (negate 0 1 S))) := by
  have h1 : Same (control 2#32 flip1 U) (negate 0 1 S) := fun a b d k =>
    negate_same 0 1 _ _ _ _ _ (bit2_one a b d k) (onBit0 a b d k) (fun X => flip1_at X a b d k) (fun X => reverse1_at X a b d k) (H _ _ _ _) (H _ _ _ _)
  have h2 : Same (control 1#32 flip0 (control 2#32 flip1 U)) (negate 1 2 (negate 0 1 S)) := fun a b d k =>
    negate_same 1 2 _ _ _ _ _ (bit1_one a b d k) (onBit1 a b d k) (fun X => flip0_at X a b d k) (fun X => reverse2_at X a b d k) (h1 _ _ _ _) (h1 _ _ _ _)
  exact fun a b d k =>
    negate_same 2 0 _ _ _ _ _ (bit0_one a b d k) (onBit2 a b d k) (fun X => flip2_at X a b d k) (fun X => reverse0_at X a b d k) (h2 _ _ _ _) (h2 _ _ _ _)
theorem linked2_same (H : Same U S) : Same (linked2 U) (negate 2 1 (negate 1 0 (negate 0 2 S))) := by
  have h1 : Same (control 2#32 flip0 U) (negate 0 2 S) := fun a b d k =>
    negate_same 0 2 _ _ _ _ _ (bit2_one a b d k) (onBit0 a b d k) (fun X => flip0_at X a b d k) (fun X => reverse2_at X a b d k) (H _ _ _ _) (H _ _ _ _)
  have h2 : Same (control 1#32 flip2 (control 2#32 flip0 U)) (negate 1 0 (negate 0 2 S)) := fun a b d k =>
    negate_same 1 0 _ _ _ _ _ (bit1_one a b d k) (onBit1 a b d k) (fun X => flip2_at X a b d k) (fun X => reverse0_at X a b d k) (h1 _ _ _ _) (h1 _ _ _ _)
  exact fun a b d k =>
    negate_same 2 1 _ _ _ _ _ (bit0_one a b d k) (onBit2 a b d k) (fun X => flip1_at X a b d k) (fun X => reverse1_at X a b d k) (h2 _ _ _ _) (h2 _ _ _ _)
end

/-! ## The start -/

theorem unit_bit (a b d : Fin 2) (k : Fin 8) :
    cmpi .eq rowNo (iota .tc S8x8 32 [1] Cert.PrepareIdeal.Gen.iota_S8x8_d1_w32) (ix2 (row a b d) k) = BitVec.ofBool (decide (4 * a.val + 2 * b.val + d.val = k.val)) := by
  revert a b d k; decide +kernel

theorem start_same : Same unit8 (val_main_v6 (F := Ideal), val_main_v7 (F := Ideal)) := fun a b d k => by
  constructor
  · refine (ValueIdx.select_apply _ _ _ _).trans (Eq.trans ?_ (start_re a b d k).symm)
    rw [unit_bit]
    by_cases h : 4 * a.val + 2 * b.val + d.val = k.val
    · simp only [h, decide_true, if_true]
      exact Ideal.ofBits_one_f32
    · simp only [h, decide_false, if_false]
      exact Ideal.ofBits_zero_f32
  · exact Eq.trans Ideal.ofBits_zero_f32 (start_im a b d k).symm

/-! ## The scalars -/

section
variable (x7 : FVec Ideal S1x2x3x3 .f32)

theorem cell (l : Fin 2) (q : Fin 3) (k : Fin 3) (h : S1x2x3x3.Slices ![0, l.val, q.val, k.val] S1x1x1x1) (i : S_.Idx) :
    shapeCast S_ (extractStridedSlice S1x1x1x1 ![0, l.val, q.val, k.val] x7 h) Cert.EntangleIdeal.Gen.shapeCasts_S1x1x1x1_S_ i = x7 (ix4 0 l q k) := by
  pointwise

theorem turns (l : Fin 2) (q : Fin 3) (ph th om : FVec Ideal S_ .f32) (e0 : ∀ i, ph i = x7 (ix4 0 l q 0)) (e1 : ∀ i, th i = x7 (ix4 0 l q 1))
    (e2 : ∀ i, om i = x7 (ix4 0 l q 2)) :
    Turns (trig x7 l q) (Host.cos (Host.divf th (constant S_ .f32 0x40000000#32))) (Host.sin (Host.divf th (constant S_ .f32 0x40000000#32)))
      (Host.divf (addf om ph) (constant S_ .f32 0x40000000#32)) (Host.divf (subf om ph) (constant S_ .f32 0x40000000#32)) := fun i => by
  unfold trig
  rw [← e0 i, ← e1 i, ← e2 i]
  exact ⟨rfl, rfl, rfl, rfl, rfl, rfl⟩

/-! ## The whole gate -/

theorem gate_same : Same (built (trig x7)) (val_main_v597 (F := Ideal) x7, val_main_v601 (F := Ideal) x7) := by
  have s1 := spin0_same (turns x7 0 0 (val_main_v9 (F := Ideal) x7) (val_main_v11 (F := Ideal) x7) (val_main_v13 (F := Ideal) x7) (cell x7 0 0 0 _) (cell x7 0 0 1 _) (cell x7 0 0 2 _)) start_same
  have s2 := spin1_same (turns x7 0 1 (val_main_v99 (F := Ideal) x7) (val_main_v101 (F := Ideal) x7) (val_main_v103 (F := Ideal) x7) (cell x7 0 1 0 _) (cell x7 0 1 1 _) (cell x7 0 1 2 _))
    (S := (val_main_v94 (F := Ideal) x7, val_main_v97 (F := Ideal) x7)) s1
  have s3 := spin2_same (turns x7 0 2 (val_main_v189 (F := Ideal) x7) (val_main_v191 (F := Ideal) x7) (val_main_v193 (F := Ideal) x7) (cell x7 0 2 0 _) (cell x7 0 2 1 _) (cell x7 0 2 2 _))
    (S := (val_main_v184 (F := Ideal) x7, val_main_v187 (F := Ideal) x7)) s2
  have s6 := linked1_same (S := (val_main_v274 (F := Ideal) x7, val_main_v277 (F := Ideal) x7)) s3
  have s7 := spin0_same (turns x7 1 0 (val_main_v306 (F := Ideal) x7) (val_main_v308 (F := Ideal) x7) (val_main_v310 (F := Ideal) x7) (cell x7 1 0 0 _) (cell x7 1 0 1 _) (cell x7 1 0 2 _))
    (S := (val_main_v300 (F := Ideal) x7, val_main_v304 (F := Ideal) x7)) s6
  have s8 := spin1_same (turns x7 1 1 (val_main_v396 (F := Ideal) x7) (val_main_v398 (F := Ideal) x7) (val_main_v400 (F := Ideal) x7) (cell x7 1 1 0 _) (cell x7 1 1 1 _) (cell x7 1 1 2 _))
    (S := (val_main_v391 (F := Ideal) x7, val_main_v394 (F := Ideal) x7)) s7
  have s9 := spin2_same (turns x7 1 2 (val_main_v486 (F := Ideal) x7) (val_main_v488 (F := Ideal) x7) (val_main_v490 (F := Ideal) x7) (cell x7 1 2 0 _) (cell x7 1 2 1 _) (cell x7 1 2 2 _))
    (S := (val_main_v481 (F := Ideal) x7, val_main_v484 (F := Ideal) x7)) s8
  exact linked2_same (S := (val_main_v571 (F := Ideal) x7, val_main_v574 (F := Ideal) x7)) s9
end

end Cert.Gate

end
-- ==== Proof.GateClaim.lean ====
/- The first stage's claim: the matrix it ends with is the reference's. -/
module

public import proofs.«01_k».proof.Defs
public import proofs.«01_k».proof.Proof.GateSame
public import proofs.«01_k».proof.Proof.Gen.EntangleIdeal.Run
public import Idealize.ShloMosaic.Lib.Claim

@[expose] public section

set_option maxHeartbeats 1600000
set_option maxRecDepth 16384

noncomputable section

namespace Cert.Gate

open Idealize.ShloMosaic Idealize.ShloMosaic.Tactic Idealize.SL.Sem Cert.PrepareIdeal Cert.PrepareIdeal.Gen Cert.PrepareIdeal.Hand

/-- A plane of a matrix's two, read back from the pieces it was stored in. -/
theorem pieces_im (U : Parts Ideal) (r k : Fin 8) : View.canon (pieces U) (ix3 1 r k) = U.im (ix2 r k) := by
  have e : (Rect.unit (s := S2x8x8) ![1, 0, 0] S1x8x8.size inb_S2x8x8_S1x8x8_1_0_0).emb (ix3 0 r k) = ix3 1 r k := funext fun a => Fin.ext (by
    fin_cases a
    · rfl
    · show 0 + 1 * (r : ℕ) = r; omega
    · show 0 + 1 * (k : ℕ) = k; omega)
  refine ((congrArg _ e.symm).trans (View.canon_cons_emb _ _ _ _)).trans ?_
  generalize U.im = y
  pointwise
theorem pieces_re (U : Parts Ideal) (r k : Fin 8) : View.canon (pieces U) (ix3 0 r k) = U.re (ix2 r k) := by
  have e : (Rect.unit (s := S2x8x8) ![0, 0, 0] S1x8x8.size inb_S2x8x8_S1x8x8_0_0_0).emb (ix3 0 r k) = ix3 0 r k := funext fun a => Fin.ext (by
    fin_cases a
    · rfl
    · show 0 + 1 * (r : ℕ) = r; omega
    · show 0 + 1 * (k : ℕ) = k; omega)
  refine (View.canon_cons_of_not_mem _ _ fun hm => ?_).trans (((congrArg _ e.symm).trans (View.canon_cons_emb _ _ _ _)).trans ?_)
  · have h0 := (Rect.mem_set_unit (inb := inb_S2x8x8_S1x8x8_1_0_0)).1 hm 0
    have h1 : 1 ≤ 0 ∧ 0 < 2 := h0
    omega
  · generalize U.re = y
    pointwise

variable (m : (ℓ : Loc nD τ sig) → Buf (Elt Ideal) ℓ) (c : Dev nD)

theorem words_eq : wordAt (st0_4 first) (hs0_4 first) (iblk m c 4 first) = fun l q => trig (m ((c.tc : Thread nD τ).loc main_arg7)) l q :=
  funext fun l => funext fun q => funext fun k => word_eq m c l q k

theorem matrix_canon : matrixAt m c = View.canon (pieces (built (trig (m ((c.tc : Thread nD τ).loc main_arg7))))) := by
  unfold matrixAt
  rw [stored_eq, words_eq]
  exact View.read_writes_junk_eq_canon _ _

/-- The matrix the kernel stores is the reference's. -/
theorem matrix_eq : matrixAt m c = Cert.EntangleIdeal.Read.val_main_v606 (F := Ideal) (m ((c.tc : Thread nD τ).loc main_arg7)) := by
  rw [matrix_canon]
  generalize m ((c.tc : Thread nD τ).loc main_arg7) = x7
  funext j
  obtain ⟨p, r, k, rfl⟩ : ∃ (p : Fin 2) (r k : Fin 8), j = ix3 p r k :=
    ⟨j 0, j 1, j 2, funext fun a => by fin_cases a <;> rfl⟩
  obtain ⟨a, b, d, e⟩ := row_onto r
  have hr : r.val = 4 * a.val + 2 * b.val + d.val := congrArg Fin.val e
  have h := gate_same x7 a b d k
  rw [← e] at h
  fin_cases p
  · exact (pieces_re _ r k).trans (h.1.trans (Cert.EntangleIdeal.Hand.result_re x7 r k a b d hr).symm)
  · exact (pieces_im _ r k).trans (h.2.trans (Cert.EntangleIdeal.Hand.result_im x7 r k a b d hr).symm)

/-- After the last step the matrix's array holds it. -/
theorem matrix_array : (dats m 0 c).arrAt 6 (cfgs 0).N = matrixAt m c := by
  refine (dats m 0 c).arrAt_eq_of_after_last 6 t0_9 (by decide +kernel) _ fun j => ?_
  blk_simp
  rw [after_6]

/-- From equal arguments the kernel and the reference end with the same matrix. -/
theorem algebraic : Cert.algebraic_PrepareIdeal_EntangleIdeal := by
  intro m g m' g' _ hagree
  refine ⟨fun c => matrixAt m c, ?_, ?_⟩
  · refine (θ_run defs _ _).mono ?_ (θ_run_and (unchanged m g) (run_main m g))
    rintro r ⟨hu, hp⟩ c
    exact ⟨((Pipeline.Dat.toRForget_arrAt_iff (dats m 0 c) (fgt := forgets) (w := 6) rfl _ _).1 ((hp.1 c).1 6)).trans (matrix_array m c), hu.1 c⟩
  · refine (θ_run Cert.EntangleIdeal.defs _ _).mono ?_ (Cert.EntangleIdeal.Value.run (F := Ideal) m' g')
    intro r hr c
    obtain ⟨hv, hu⟩ := hr c
    refine ⟨hv.trans ((Cert.EntangleIdeal.Read.val_main_v606_eq (F := Ideal) (StableHlo.launchContents m' c)).trans ?_), hu⟩
    obtain ⟨a0, a1, a2, a3, a4, a5, a6, a7⟩ := hagree c
    exact (congrArg (Cert.EntangleIdeal.Read.val_main_v606 (F := Ideal)) a7).trans (matrix_eq m c).symm

end Cert.Gate

end
-- ==== Proof.lean ====
/- The claims of this certificate: the frames of its programs, and the equality of their results. -/
module

public import proofs.«01_k».proof.Defs
public import proofs.«01_k».proof.Proof.Gen.Kernel.Frame
public import proofs.«01_k».proof.Proof.Gen.KernelIdeal.Frame
public import proofs.«01_k».proof.Proof.RefFrame
public import proofs.«01_k».proof.Proof.Result
public import proofs.«01_k».proof.Proof.PrepareRun
public import proofs.«01_k».proof.Proof.GateClaim
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Prepare.Gen.facts, Cert.PrepareIdeal.Gen.facts,
    Cert.EntangleIdeal.Gen.facts, Cert.Stage.sides,
    fun m g _ => Cert.Kernel.Gen.frame m g, fun m g _ => Cert.KernelIdeal.Gen.frame m g,
    fun m g _ => Cert.KernelIdeal.Gen.frame m g, reference_frame, fun m g _ => reference_frame m g trivial,
    fun m g _ => Cert.Prepare.Hand.unchanged m g, fun m g _ => Cert.PrepareIdeal.Hand.unchanged m g, entangle_frame,
    trivial, Cert.Stage.algebraic, trivial, Cert.Gate.algebraic⟩

end Cert.Proof

end
